-- ==== Defs.lean ====
def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdIdeal_norm_fin [hPre_norm_fin : Cert.Pre_norm_fin.Facts] (m : (ℓ : Loc Cert.NormBwdIdeal.nD Cert.NormBwdIdeal.τ Cert.NormBwdIdeal.sig) → Buf (Elt Ideal) ℓ) : Prop :=
  ∀ c : Dev Cert.NormBwdIdeal.nD,
    (Cert.Pre_norm_fin.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2))).1 = (fun _ => 1#1)
    ∧ (Cert.Pre_norm_fin.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2))).2.1 = (fun _ => 1#1)
    ∧ (Cert.Pre_norm_fin.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2))).2.2 = (fun _ => 1#1)

def Pre_NormBwdRefIdeal (m : (ℓ : Loc Cert.NormBwdRefIdeal.nD Cert.NormBwdRefIdeal.τ Cert.NormBwdRefIdeal.sig) → Buf (Elt Ideal) ℓ) : Prop :=
  True

def Pre_NormBwdRefIdeal_norm_fin [hPre_norm_fin : Cert.Pre_norm_fin.Facts] (m : (ℓ : Loc Cert.NormBwdRefIdeal.nD Cert.NormBwdRefIdeal.τ Cert.NormBwdRefIdeal.sig) → Buf (Elt Ideal) ℓ) : Prop :=
  ∀ c : Dev Cert.NormBwdRefIdeal.nD,
    (Cert.Pre_norm_fin.fn (F := Ideal) (m ((c.tc : Thread Cert.NormBwdRefIdeal.nD Cert.NormBwdRefIdeal.τ).loc Cert.NormBwdRefIdeal.main_arg0)) (m ((c.tc : Thread Cert.NormBwdRefIdeal.nD Cert.NormBwdRefIdeal.τ).loc Cert.NormBwdRefIdeal.main_arg1)) (m ((c.tc : Thread Cert.NormBwdRefIdeal.nD Cert.NormBwdRefIdeal.τ).loc Cert.NormBwdRefIdeal.main_arg2))).1 = (fun _ => 1#1)
    ∧ (Cert.Pre_norm_fin.fn (F := Ideal) (m ((c.tc : Thread Cert.NormBwdRefIdeal.nD Cert.NormBwdRefIdeal.τ).loc Cert.NormBwdRefIdeal.main_arg0)) (m ((c.tc : Thread Cert.NormBwdRefIdeal.nD Cert.NormBwdRefIdeal.τ).loc Cert.NormBwdRefIdeal.main_arg1)) (m ((c.tc : Thread Cert.NormBwdRefIdeal.nD Cert.NormBwdRefIdeal.τ).loc Cert.NormBwdRefIdeal.main_arg2))).2.1 = (fun _ => 1#1)
    ∧ (Cert.Pre_norm_fin.fn (F := Ideal) (m ((c.tc : Thread Cert.NormBwdRefIdeal.nD Cert.NormBwdRefIdeal.τ).loc Cert.NormBwdRefIdeal.main_arg0)) (m ((c.tc : Thread Cert.NormBwdRefIdeal.nD Cert.NormBwdRefIdeal.τ).loc Cert.NormBwdRefIdeal.main_arg1)) (m ((c.tc : Thread Cert.NormBwdRefIdeal.nD Cert.NormBwdRefIdeal.τ).loc Cert.NormBwdRefIdeal.main_arg2))).2.2 = (fun _ => 1#1)

def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_DenseIdeal_dense_fin [hPre_dense_fin : Cert.Pre_dense_fin.Facts] (m : (ℓ : Loc Cert.DenseIdeal.nD Cert.DenseIdeal.τ Cert.DenseIdeal.sig) → Buf (Elt Ideal) ℓ) : Prop :=
  ∀ c : Dev Cert.DenseIdeal.nD,
    (Cert.Pre_dense_fin.fn (F := Ideal) (m ((c.tc : Thread Cert.DenseIdeal.nD Cert.DenseIdeal.τ).loc Cert.DenseIdeal.main_arg0)) (m ((c.tc : Thread Cert.DenseIdeal.nD Cert.DenseIdeal.τ).loc Cert.DenseIdeal.main_arg1)) (m ((c.tc : Thread Cert.DenseIdeal.nD Cert.DenseIdeal.τ).loc Cert.DenseIdeal.main_arg2)) (m ((c.tc : Thread Cert.DenseIdeal.nD Cert.DenseIdeal.τ).loc Cert.DenseIdeal.main_arg3))).1 = (fun _ => 1#1)
    ∧ (Cert.Pre_dense_fin.fn (F := Ideal) (m ((c.tc : Thread Cert.DenseIdeal.nD Cert.DenseIdeal.τ).loc Cert.DenseIdeal.main_arg0)) (m ((c.tc : Thread Cert.DenseIdeal.nD Cert.DenseIdeal.τ).loc Cert.DenseIdeal.main_arg1)) (m ((c.tc : Thread Cert.DenseIdeal.nD Cert.DenseIdeal.τ).loc Cert.DenseIdeal.main_arg2)) (m ((c.tc : Thread Cert.DenseIdeal.nD Cert.DenseIdeal.τ).loc Cert.DenseIdeal.main_arg3))).2.1 = (fun _ => 1#1)
    ∧ (Cert.Pre_dense_fin.fn (F := Ideal) (m ((c.tc : Thread Cert.DenseIdeal.nD Cert.DenseIdeal.τ).loc Cert.DenseIdeal.main_arg0)) (m ((c.tc : Thread Cert.DenseIdeal.nD Cert.DenseIdeal.τ).loc Cert.DenseIdeal.main_arg1)) (m ((c.tc : Thread Cert.DenseIdeal.nD Cert.DenseIdeal.τ).loc Cert.DenseIdeal.main_arg2)) (m ((c.tc : Thread Cert.DenseIdeal.nD Cert.DenseIdeal.τ).loc Cert.DenseIdeal.main_arg3))).2.2.1 = (fun _ => 1#1)
    ∧ (Cert.Pre_dense_fin.fn (F := Ideal) (m ((c.tc : Thread Cert.DenseIdeal.nD Cert.DenseIdeal.τ).loc Cert.DenseIdeal.main_arg0)) (m ((c.tc : Thread Cert.DenseIdeal.nD Cert.DenseIdeal.τ).loc Cert.DenseIdeal.main_arg1)) (m ((c.tc : Thread Cert.DenseIdeal.nD Cert.DenseIdeal.τ).loc Cert.DenseIdeal.main_arg2)) (m ((c.tc : Thread Cert.DenseIdeal.nD Cert.DenseIdeal.τ).loc Cert.DenseIdeal.main_arg3))).2.2.2 = (fun _ => 1#1)

def Pre_DenseRefIdeal (m : (ℓ : Loc Cert.DenseRefIdeal.nD Cert.DenseRefIdeal.τ Cert.DenseRefIdeal.sig) → Buf (Elt Ideal) ℓ) : Prop :=
  True

def Pre_DenseRefIdeal_dense_fin [hPre_dense_fin : Cert.Pre_dense_fin.Facts] (m : (ℓ : Loc Cert.DenseRefIdeal.nD Cert.DenseRefIdeal.τ Cert.DenseRefIdeal.sig) → Buf (Elt Ideal) ℓ) : Prop :=
  ∀ c : Dev Cert.DenseRefIdeal.nD,
    (Cert.Pre_dense_fin.fn (F := Ideal) (m ((c.tc : Thread Cert.DenseRefIdeal.nD Cert.DenseRefIdeal.τ).loc Cert.DenseRefIdeal.main_arg0)) (m ((c.tc : Thread Cert.DenseRefIdeal.nD Cert.DenseRefIdeal.τ).loc Cert.DenseRefIdeal.main_arg1)) (m ((c.tc : Thread Cert.DenseRefIdeal.nD Cert.DenseRefIdeal.τ).loc Cert.DenseRefIdeal.main_arg2)) (m ((c.tc : Thread Cert.DenseRefIdeal.nD Cert.DenseRefIdeal.τ).loc Cert.DenseRefIdeal.main_arg3))).1 = (fun _ => 1#1)
    ∧ (Cert.Pre_dense_fin.fn (F := Ideal) (m ((c.tc : Thread Cert.DenseRefIdeal.nD Cert.DenseRefIdeal.τ).loc Cert.DenseRefIdeal.main_arg0)) (m ((c.tc : Thread Cert.DenseRefIdeal.nD Cert.DenseRefIdeal.τ).loc Cert.DenseRefIdeal.main_arg1)) (m ((c.tc : Thread Cert.DenseRefIdeal.nD Cert.DenseRefIdeal.τ).loc Cert.DenseRefIdeal.main_arg2)) (m ((c.tc : Thread Cert.DenseRefIdeal.nD Cert.DenseRefIdeal.τ).loc Cert.DenseRefIdeal.main_arg3))).2.1 = (fun _ => 1#1)
    ∧ (Cert.Pre_dense_fin.fn (F := Ideal) (m ((c.tc : Thread Cert.DenseRefIdeal.nD Cert.DenseRefIdeal.τ).loc Cert.DenseRefIdeal.main_arg0)) (m ((c.tc : Thread Cert.DenseRefIdeal.nD Cert.DenseRefIdeal.τ).loc Cert.DenseRefIdeal.main_arg1)) (m ((c.tc : Thread Cert.DenseRefIdeal.nD Cert.DenseRefIdeal.τ).loc Cert.DenseRefIdeal.main_arg2)) (m ((c.tc : Thread Cert.DenseRefIdeal.nD Cert.DenseRefIdeal.τ).loc Cert.DenseRefIdeal.main_arg3))).2.2.1 = (fun _ => 1#1)
    ∧ (Cert.Pre_dense_fin.fn (F := Ideal) (m ((c.tc : Thread Cert.DenseRefIdeal.nD Cert.DenseRefIdeal.τ).loc Cert.DenseRefIdeal.main_arg0)) (m ((c.tc : Thread Cert.DenseRefIdeal.nD Cert.DenseRefIdeal.τ).loc Cert.DenseRefIdeal.main_arg1)) (m ((c.tc : Thread Cert.DenseRefIdeal.nD Cert.DenseRefIdeal.τ).loc Cert.DenseRefIdeal.main_arg2)) (m ((c.tc : Thread Cert.DenseRefIdeal.nD Cert.DenseRefIdeal.τ).loc Cert.DenseRefIdeal.main_arg3))).2.2.2 = (fun _ => 1#1)

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadIdeal_loss_fin [hPre_loss_fin : Cert.Pre_loss_fin.Facts] (m : (ℓ : Loc Cert.LossHeadIdeal.nD Cert.LossHeadIdeal.τ Cert.LossHeadIdeal.sig) → Buf (Elt Ideal) ℓ) : Prop :=
  ∀ c : Dev Cert.LossHeadIdeal.nD,
    (Cert.Pre_loss_fin.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2))).1 = (fun _ => 1#1)
    ∧ (Cert.Pre_loss_fin.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2))).2.1 = (fun _ => 1#1)
    ∧ (Cert.Pre_loss_fin.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2))).2.2 = (fun _ => 1#1)

def Pre_LossHeadRefIdeal (m : (ℓ : Loc Cert.LossHeadRefIdeal.nD Cert.LossHeadRefIdeal.τ Cert.LossHeadRefIdeal.sig) → Buf (Elt Ideal) ℓ) : Prop :=
  True

def Pre_LossHeadRefIdeal_loss_fin [hPre_loss_fin : Cert.Pre_loss_fin.Facts] (m : (ℓ : Loc Cert.LossHeadRefIdeal.nD Cert.LossHeadRefIdeal.τ Cert.LossHeadRefIdeal.sig) → Buf (Elt Ideal) ℓ) : Prop :=
  ∀ c : Dev Cert.LossHeadRefIdeal.nD,
    (Cert.Pre_loss_fin.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2))).1 = (fun _ => 1#1)
    ∧ (Cert.Pre_loss_fin.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2))).2.1 = (fun _ => 1#1)
    ∧ (Cert.Pre_loss_fin.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2))).2.2 = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Band (m : (ℓ : Loc Cert.Band.nD Cert.Band.τ Cert.Band.sig) → Buf (Elt Bits) ℓ) : Prop :=
  True

def Pre_BandIdeal (m : (ℓ : Loc Cert.BandIdeal.nD Cert.BandIdeal.τ Cert.BandIdeal.sig) → Buf (Elt Ideal) ℓ) : Prop :=
  True

def Pre_BandIdeal_band_fin [hPre_band_fin : Cert.Pre_band_fin.Facts] (m : (ℓ : Loc Cert.BandIdeal.nD Cert.BandIdeal.τ Cert.BandIdeal.sig) → Buf (Elt Ideal) ℓ) : Prop :=
  ∀ c : Dev Cert.BandIdeal.nD,
    (Cert.Pre_band_fin.fn (F := Ideal) (m ((c.tc : Thread Cert.BandIdeal.nD Cert.BandIdeal.τ).loc Cert.BandIdeal.main_arg0)) (m ((c.tc : Thread Cert.BandIdeal.nD Cert.BandIdeal.τ).loc Cert.BandIdeal.main_arg1)) (m ((c.tc : Thread Cert.BandIdeal.nD Cert.BandIdeal.τ).loc Cert.BandIdeal.main_arg2)) (m ((c.tc : Thread Cert.BandIdeal.nD Cert.BandIdeal.τ).loc Cert.BandIdeal.main_arg3)) (m ((c.tc : Thread Cert.BandIdeal.nD Cert.BandIdeal.τ).loc Cert.BandIdeal.main_arg4))).1 = (fun _ => 1#1)
    ∧ (Cert.Pre_band_fin.fn (F := Ideal) (m ((c.tc : Thread Cert.BandIdeal.nD Cert.BandIdeal.τ).loc Cert.BandIdeal.main_arg0)) (m ((c.tc : Thread Cert.BandIdeal.nD Cert.BandIdeal.τ).loc Cert.BandIdeal.main_arg1)) (m ((c.tc : Thread Cert.BandIdeal.nD Cert.BandIdeal.τ).loc Cert.BandIdeal.main_arg2)) (m ((c.tc : Thread Cert.BandIdeal.nD Cert.BandIdeal.τ).loc Cert.BandIdeal.main_arg3)) (m ((c.tc : Thread Cert.BandIdeal.nD Cert.BandIdeal.τ).loc Cert.BandIdeal.main_arg4))).2.1 = (fun _ => 1#1)
    ∧ (Cert.Pre_band_fin.fn (F := Ideal) (m ((c.tc : Thread Cert.BandIdeal.nD Cert.BandIdeal.τ).loc Cert.BandIdeal.main_arg0)) (m ((c.tc : Thread Cert.BandIdeal.nD Cert.BandIdeal.τ).loc Cert.BandIdeal.main_arg1)) (m ((c.tc : Thread Cert.BandIdeal.nD Cert.BandIdeal.τ).loc Cert.BandIdeal.main_arg2)) (m ((c.tc : Thread Cert.BandIdeal.nD Cert.BandIdeal.τ).loc Cert.BandIdeal.main_arg3)) (m ((c.tc : Thread Cert.BandIdeal.nD Cert.BandIdeal.τ).loc Cert.BandIdeal.main_arg4))).2.2.1 = (fun _ => 1#1)
    ∧ (Cert.Pre_band_fin.fn (F := Ideal) (m ((c.tc : Thread Cert.BandIdeal.nD Cert.BandIdeal.τ).loc Cert.BandIdeal.main_arg0)) (m ((c.tc : Thread Cert.BandIdeal.nD Cert.BandIdeal.τ).loc Cert.BandIdeal.main_arg1)) (m ((c.tc : Thread Cert.BandIdeal.nD Cert.BandIdeal.τ).loc Cert.BandIdeal.main_arg2)) (m ((c.tc : Thread Cert.BandIdeal.nD Cert.BandIdeal.τ).loc Cert.BandIdeal.main_arg3)) (m ((c.tc : Thread Cert.BandIdeal.nD Cert.BandIdeal.τ).loc Cert.BandIdeal.main_arg4))).2.2.2.1 = (fun _ => 1#1)
    ∧ (Cert.Pre_band_fin.fn (F := Ideal) (m ((c.tc : Thread Cert.BandIdeal.nD Cert.BandIdeal.τ).loc Cert.BandIdeal.main_arg0)) (m ((c.tc : Thread Cert.BandIdeal.nD Cert.BandIdeal.τ).loc Cert.BandIdeal.main_arg1)) (m ((c.tc : Thread Cert.BandIdeal.nD Cert.BandIdeal.τ).loc Cert.BandIdeal.main_arg2)) (m ((c.tc : Thread Cert.BandIdeal.nD Cert.BandIdeal.τ).loc Cert.BandIdeal.main_arg3)) (m ((c.tc : Thread Cert.BandIdeal.nD Cert.BandIdeal.τ).loc Cert.BandIdeal.main_arg4))).2.2.2.2 = (fun _ => 1#1)

def Pre_BandRefIdeal (m : (ℓ : Loc Cert.BandRefIdeal.nD Cert.BandRefIdeal.τ Cert.BandRefIdeal.sig) → Buf (Elt Ideal) ℓ) : Prop :=
  True

def Pre_BandRefIdeal_band_fin [hPre_band_fin : Cert.Pre_band_fin.Facts] (m : (ℓ : Loc Cert.BandRefIdeal.nD Cert.BandRefIdeal.τ Cert.BandRefIdeal.sig) → Buf (Elt Ideal) ℓ) : Prop :=
  ∀ c : Dev Cert.BandRefIdeal.nD,
    (Cert.Pre_band_fin.fn (F := Ideal) (m ((c.tc : Thread Cert.BandRefIdeal.nD Cert.BandRefIdeal.τ).loc Cert.BandRefIdeal.main_arg0)) (m ((c.tc : Thread Cert.BandRefIdeal.nD Cert.BandRefIdeal.τ).loc Cert.BandRefIdeal.main_arg1)) (m ((c.tc : Thread Cert.BandRefIdeal.nD Cert.BandRefIdeal.τ).loc Cert.BandRefIdeal.main_arg2)) (m ((c.tc : Thread Cert.BandRefIdeal.nD Cert.BandRefIdeal.τ).loc Cert.BandRefIdeal.main_arg3)) (m ((c.tc : Thread Cert.BandRefIdeal.nD Cert.BandRefIdeal.τ).loc Cert.BandRefIdeal.main_arg4))).1 = (fun _ => 1#1)
    ∧ (Cert.Pre_band_fin.fn (F := Ideal) (m ((c.tc : Thread Cert.BandRefIdeal.nD Cert.BandRefIdeal.τ).loc Cert.BandRefIdeal.main_arg0)) (m ((c.tc : Thread Cert.BandRefIdeal.nD Cert.BandRefIdeal.τ).loc Cert.BandRefIdeal.main_arg1)) (m ((c.tc : Thread Cert.BandRefIdeal.nD Cert.BandRefIdeal.τ).loc Cert.BandRefIdeal.main_arg2)) (m ((c.tc : Thread Cert.BandRefIdeal.nD Cert.BandRefIdeal.τ).loc Cert.BandRefIdeal.main_arg3)) (m ((c.tc : Thread Cert.BandRefIdeal.nD Cert.BandRefIdeal.τ).loc Cert.BandRefIdeal.main_arg4))).2.1 = (fun _ => 1#1)
    ∧ (Cert.Pre_band_fin.fn (F := Ideal) (m ((c.tc : Thread Cert.BandRefIdeal.nD Cert.BandRefIdeal.τ).loc Cert.BandRefIdeal.main_arg0)) (m ((c.tc : Thread Cert.BandRefIdeal.nD Cert.BandRefIdeal.τ).loc Cert.BandRefIdeal.main_arg1)) (m ((c.tc : Thread Cert.BandRefIdeal.nD Cert.BandRefIdeal.τ).loc Cert.BandRefIdeal.main_arg2)) (m ((c.tc : Thread Cert.BandRefIdeal.nD Cert.BandRefIdeal.τ).loc Cert.BandRefIdeal.main_arg3)) (m ((c.tc : Thread Cert.BandRefIdeal.nD Cert.BandRefIdeal.τ).loc Cert.BandRefIdeal.main_arg4))).2.2.1 = (fun _ => 1#1)
    ∧ (Cert.Pre_band_fin.fn (F := Ideal) (m ((c.tc : Thread Cert.BandRefIdeal.nD Cert.BandRefIdeal.τ).loc Cert.BandRefIdeal.main_arg0)) (m ((c.tc : Thread Cert.BandRefIdeal.nD Cert.BandRefIdeal.τ).loc Cert.BandRefIdeal.main_arg1)) (m ((c.tc : Thread Cert.BandRefIdeal.nD Cert.BandRefIdeal.τ).loc Cert.BandRefIdeal.main_arg2)) (m ((c.tc : Thread Cert.BandRefIdeal.nD Cert.BandRefIdeal.τ).loc Cert.BandRefIdeal.main_arg3)) (m ((c.tc : Thread Cert.BandRefIdeal.nD Cert.BandRefIdeal.τ).loc Cert.BandRefIdeal.main_arg4))).2.2.2.1 = (fun _ => 1#1)
    ∧ (Cert.Pre_band_fin.fn (F := Ideal) (m ((c.tc : Thread Cert.BandRefIdeal.nD Cert.BandRefIdeal.τ).loc Cert.BandRefIdeal.main_arg0)) (m ((c.tc : Thread Cert.BandRefIdeal.nD Cert.BandRefIdeal.τ).loc Cert.BandRefIdeal.main_arg1)) (m ((c.tc : Thread Cert.BandRefIdeal.nD Cert.BandRefIdeal.τ).loc Cert.BandRefIdeal.main_arg2)) (m ((c.tc : Thread Cert.BandRefIdeal.nD Cert.BandRefIdeal.τ).loc Cert.BandRefIdeal.main_arg3)) (m ((c.tc : Thread Cert.BandRefIdeal.nD Cert.BandRefIdeal.τ).loc Cert.BandRefIdeal.main_arg4))).2.2.2.2 = (fun _ => 1#1)

def Pre_Band4 (m : (ℓ : Loc Cert.Band4.nD Cert.Band4.τ Cert.Band4.sig) → Buf (Elt Bits) ℓ) : Prop :=
  True

def Pre_Band4Ideal (m : (ℓ : Loc Cert.Band4Ideal.nD Cert.Band4Ideal.τ Cert.Band4Ideal.sig) → Buf (Elt Ideal) ℓ) : Prop :=
  True

def Pre_Band4RefIdeal (m : (ℓ : Loc Cert.Band4RefIdeal.nD Cert.Band4RefIdeal.τ Cert.Band4RefIdeal.sig) → Buf (Elt Ideal) ℓ) : Prop :=
  True

def Pre_Natten (m : (ℓ : Loc Cert.Natten.nD Cert.Natten.τ Cert.Natten.sig) → Buf (Elt Bits) ℓ) : Prop :=
  True

def Pre_NattenIdeal (m : (ℓ : Loc Cert.NattenIdeal.nD Cert.NattenIdeal.τ Cert.NattenIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_Product (m : (ℓ : Loc Cert.Product.nD Cert.Product.τ Cert.Product.sig) → Buf (Elt Bits) ℓ) : Prop :=
  True

def Pre_ProductIdeal (m : (ℓ : Loc Cert.ProductIdeal.nD Cert.ProductIdeal.τ Cert.ProductIdeal.sig) → Buf (Elt Ideal) ℓ) : Prop :=
  True

def Pre_ProductRefIdeal (m : (ℓ : Loc Cert.ProductRefIdeal.nD Cert.ProductRefIdeal.τ Cert.ProductRefIdeal.sig) → Buf (Elt Ideal) ℓ) : Prop :=
  True

def Pre_BandFwd4 (m : (ℓ : Loc Cert.BandFwd4.nD Cert.BandFwd4.τ Cert.BandFwd4.sig) → Buf (Elt Bits) ℓ) : Prop :=
  True

def Pre_BandFwd4Ideal (m : (ℓ : Loc Cert.BandFwd4Ideal.nD Cert.BandFwd4Ideal.τ Cert.BandFwd4Ideal.sig) → Buf (Elt Ideal) ℓ) : Prop :=
  True

def Pre_BandFwd4RefIdeal (m : (ℓ : Loc Cert.BandFwd4RefIdeal.nD Cert.BandFwd4RefIdeal.τ Cert.BandFwd4RefIdeal.sig) → Buf (Elt Ideal) ℓ) : Prop :=
  True

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2))
      ∧ r.2.sem = fun _ => 0)

def quiescent_NormBwdIdeal_pre_norm_fin [hNormBwdIdeal : Cert.NormBwdIdeal.Facts] [hPre_norm_fin : Cert.Pre_norm_fin.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal_norm_fin m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2))
      ∧ r.2.sem = fun _ => 0)

def quiescent_NormBwdRefIdeal_pre_norm_fin [hNormBwdRefIdeal : Cert.NormBwdRefIdeal.Facts] [hPre_norm_fin : Cert.Pre_norm_fin.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal_norm_fin m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2))
      ∧ r.2.sem = fun _ => 0)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2)
      ∧ r.2.mem ((c.tc : Thread Cert.Dense.nD Cert.Dense.τ).loc Cert.Dense.main_arg3) = m ((c.tc : Thread Cert.Dense.nD Cert.Dense.τ).loc Cert.Dense.main_arg3))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3))
      ∧ r.2.sem = fun _ => 0)

def quiescent_DenseIdeal_pre_dense_fin [hDenseIdeal : Cert.DenseIdeal.Facts] [hPre_dense_fin : Cert.Pre_dense_fin.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal_dense_fin m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3))
      ∧ r.2.sem = fun _ => 0)

def quiescent_DenseRefIdeal [hDenseRefIdeal : Cert.DenseRefIdeal.Facts] : Prop :=
  ∀ (m : (ℓ : Loc Cert.DenseRefIdeal.nD Cert.DenseRefIdeal.τ Cert.DenseRefIdeal.sig) → Buf (Elt Ideal) ℓ) (g : Dev Cert.DenseRefIdeal.nD → PrngReg), Pre_DenseRefIdeal m →
    θ_run (Cert.DenseRefIdeal.defs (F := Ideal)) (onTc (τ := Cert.DenseRefIdeal.τ) (Cert.DenseRefIdeal.main (F := Ideal))) ⟨m, fun _ => 0, g⟩ (fun r => (∀ c : Dev Cert.DenseRefIdeal.nD,
      r.2.mem ((c.tc : Thread Cert.DenseRefIdeal.nD Cert.DenseRefIdeal.τ).loc Cert.DenseRefIdeal.main_arg0) = m ((c.tc : Thread Cert.DenseRefIdeal.nD Cert.DenseRefIdeal.τ).loc Cert.DenseRefIdeal.main_arg0)
      ∧ r.2.mem ((c.tc : Thread Cert.DenseRefIdeal.nD Cert.DenseRefIdeal.τ).loc Cert.DenseRefIdeal.main_arg1) = m ((c.tc : Thread Cert.DenseRefIdeal.nD Cert.DenseRefIdeal.τ).loc Cert.DenseRefIdeal.main_arg1)
      ∧ r.2.mem ((c.tc : Thread Cert.DenseRefIdeal.nD Cert.DenseRefIdeal.τ).loc Cert.DenseRefIdeal.main_arg2) = m ((c.tc : Thread Cert.DenseRefIdeal.nD Cert.DenseRefIdeal.τ).loc Cert.DenseRefIdeal.main_arg2)
      ∧ r.2.mem ((c.tc : Thread Cert.DenseRefIdeal.nD Cert.DenseRefIdeal.τ).loc Cert.DenseRefIdeal.main_arg3) = m ((c.tc : Thread Cert.DenseRefIdeal.nD Cert.DenseRefIdeal.τ).loc Cert.DenseRefIdeal.main_arg3))
      ∧ r.2.sem = fun _ => 0)

def quiescent_DenseRefIdeal_pre_dense_fin [hDenseRefIdeal : Cert.DenseRefIdeal.Facts] [hPre_dense_fin : Cert.Pre_dense_fin.Facts] : Prop :=
  ∀ (m : (ℓ : Loc Cert.DenseRefIdeal.nD Cert.DenseRefIdeal.τ Cert.DenseRefIdeal.sig) → Buf (Elt Ideal) ℓ) (g : Dev Cert.DenseRefIdeal.nD → PrngReg), Pre_DenseRefIdeal_dense_fin m →
    θ_run (Cert.DenseRefIdeal.defs (F := Ideal)) (onTc (τ := Cert.DenseRefIdeal.τ) (Cert.DenseRefIdeal.main (F := Ideal))) ⟨m, fun _ => 0, g⟩ (fun r => (∀ c : Dev Cert.DenseRefIdeal.nD,
      r.2.mem ((c.tc : Thread Cert.DenseRefIdeal.nD Cert.DenseRefIdeal.τ).loc Cert.DenseRefIdeal.main_arg0) = m ((c.tc : Thread Cert.DenseRefIdeal.nD Cert.DenseRefIdeal.τ).loc Cert.DenseRefIdeal.main_arg0)
      ∧ r.2.mem ((c.tc : Thread Cert.DenseRefIdeal.nD Cert.DenseRefIdeal.τ).loc Cert.DenseRefIdeal.main_arg1) = m ((c.tc : Thread Cert.DenseRefIdeal.nD Cert.DenseRefIdeal.τ).loc Cert.DenseRefIdeal.main_arg1)
      ∧ r.2.mem ((c.tc : Thread Cert.DenseRefIdeal.nD Cert.DenseRefIdeal.τ).loc Cert.DenseRefIdeal.main_arg2) = m ((c.tc : Thread Cert.DenseRefIdeal.nD Cert.DenseRefIdeal.τ).loc Cert.DenseRefIdeal.main_arg2)
      ∧ r.2.mem ((c.tc : Thread Cert.DenseRefIdeal.nD Cert.DenseRefIdeal.τ).loc Cert.DenseRefIdeal.main_arg3) = m ((c.tc : Thread Cert.DenseRefIdeal.nD Cert.DenseRefIdeal.τ).loc Cert.DenseRefIdeal.main_arg3))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadIdeal_pre_loss_fin [hLossHeadIdeal : Cert.LossHeadIdeal.Facts] [hPre_loss_fin : Cert.Pre_loss_fin.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal_loss_fin m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_LossHeadRefIdeal_pre_loss_fin [hLossHeadRefIdeal : Cert.LossHeadRefIdeal.Facts] [hPre_loss_fin : Cert.Pre_loss_fin.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal_loss_fin m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3))
      ∧ r.2.sem = fun _ => 0)

def quiescent_Band [hBand : Cert.Band.Facts] : Prop :=
  ∀ (m : (ℓ : Loc Cert.Band.nD Cert.Band.τ Cert.Band.sig) → Buf (Elt Bits) ℓ) (g : Dev Cert.Band.nD → PrngReg), Pre_Band m →
    θ_run (Cert.Band.defs (F := Bits)) (onTc (τ := Cert.Band.τ) (Cert.Band.main (F := Bits))) ⟨m, fun _ => 0, g⟩ (fun r => (∀ c : Dev Cert.Band.nD,
      r.2.mem ((c.tc : Thread Cert.Band.nD Cert.Band.τ).loc Cert.Band.main_arg0) = m ((c.tc : Thread Cert.Band.nD Cert.Band.τ).loc Cert.Band.main_arg0)
      ∧ r.2.mem ((c.tc : Thread Cert.Band.nD Cert.Band.τ).loc Cert.Band.main_arg1) = m ((c.tc : Thread Cert.Band.nD Cert.Band.τ).loc Cert.Band.main_arg1)
      ∧ r.2.mem ((c.tc : Thread Cert.Band.nD Cert.Band.τ).loc Cert.Band.main_arg2) = m ((c.tc : Thread Cert.Band.nD Cert.Band.τ).loc Cert.Band.main_arg2)
      ∧ r.2.mem ((c.tc : Thread Cert.Band.nD Cert.Band.τ).loc Cert.Band.main_arg3) = m ((c.tc : Thread Cert.Band.nD Cert.Band.τ).loc Cert.Band.main_arg3)
      ∧ r.2.mem ((c.tc : Thread Cert.Band.nD Cert.Band.τ).loc Cert.Band.main_arg4) = m ((c.tc : Thread Cert.Band.nD Cert.Band.τ).loc Cert.Band.main_arg4))
      ∧ r.2.sem = fun _ => 0)

def quiescent_BandIdeal [hBandIdeal : Cert.BandIdeal.Facts] : Prop :=
  ∀ (m : (ℓ : Loc Cert.BandIdeal.nD Cert.BandIdeal.τ Cert.BandIdeal.sig) → Buf (Elt Ideal) ℓ) (g : Dev Cert.BandIdeal.nD → PrngReg), Pre_BandIdeal m →
    θ_run (Cert.BandIdeal.defs (F := Ideal)) (onTc (τ := Cert.BandIdeal.τ) (Cert.BandIdeal.main (F := Ideal))) ⟨m, fun _ => 0, g⟩ (fun r => (∀ c : Dev Cert.BandIdeal.nD,
      r.2.mem ((c.tc : Thread Cert.BandIdeal.nD Cert.BandIdeal.τ).loc Cert.BandIdeal.main_arg0) = m ((c.tc : Thread Cert.BandIdeal.nD Cert.BandIdeal.τ).loc Cert.BandIdeal.main_arg0)
      ∧ r.2.mem ((c.tc : Thread Cert.BandIdeal.nD Cert.BandIdeal.τ).loc Cert.BandIdeal.main_arg1) = m ((c.tc : Thread Cert.BandIdeal.nD Cert.BandIdeal.τ).loc Cert.BandIdeal.main_arg1)
      ∧ r.2.mem ((c.tc : Thread Cert.BandIdeal.nD Cert.BandIdeal.τ).loc Cert.BandIdeal.main_arg2) = m ((c.tc : Thread Cert.BandIdeal.nD Cert.BandIdeal.τ).loc Cert.BandIdeal.main_arg2)
      ∧ r.2.mem ((c.tc : Thread Cert.BandIdeal.nD Cert.BandIdeal.τ).loc Cert.BandIdeal.main_arg3) = m ((c.tc : Thread Cert.BandIdeal.nD Cert.BandIdeal.τ).loc Cert.BandIdeal.main_arg3)
      ∧ r.2.mem ((c.tc : Thread Cert.BandIdeal.nD Cert.BandIdeal.τ).loc Cert.BandIdeal.main_arg4) = m ((c.tc : Thread Cert.BandIdeal.nD Cert.BandIdeal.τ).loc Cert.BandIdeal.main_arg4))
      ∧ r.2.sem = fun _ => 0)

def quiescent_BandIdeal_pre_band_fin [hBandIdeal : Cert.BandIdeal.Facts] [hPre_band_fin : Cert.Pre_band_fin.Facts] : Prop :=
  ∀ (m : (ℓ : Loc Cert.BandIdeal.nD Cert.BandIdeal.τ Cert.BandIdeal.sig) → Buf (Elt Ideal) ℓ) (g : Dev Cert.BandIdeal.nD → PrngReg), Pre_BandIdeal_band_fin m →
    θ_run (Cert.BandIdeal.defs (F := Ideal)) (onTc (τ := Cert.BandIdeal.τ) (Cert.BandIdeal.main (F := Ideal))) ⟨m, fun _ => 0, g⟩ (fun r => (∀ c : Dev Cert.BandIdeal.nD,
      r.2.mem ((c.tc : Thread Cert.BandIdeal.nD Cert.BandIdeal.τ).loc Cert.BandIdeal.main_arg0) = m ((c.tc : Thread Cert.BandIdeal.nD Cert.BandIdeal.τ).loc Cert.BandIdeal.main_arg0)
      ∧ r.2.mem ((c.tc : Thread Cert.BandIdeal.nD Cert.BandIdeal.τ).loc Cert.BandIdeal.main_arg1) = m ((c.tc : Thread Cert.BandIdeal.nD Cert.BandIdeal.τ).loc Cert.BandIdeal.main_arg1)
      ∧ r.2.mem ((c.tc : Thread Cert.BandIdeal.nD Cert.BandIdeal.τ).loc Cert.BandIdeal.main_arg2) = m ((c.tc : Thread Cert.BandIdeal.nD Cert.BandIdeal.τ).loc Cert.BandIdeal.main_arg2)
      ∧ r.2.mem ((c.tc : Thread Cert.BandIdeal.nD Cert.BandIdeal.τ).loc Cert.BandIdeal.main_arg3) = m ((c.tc : Thread Cert.BandIdeal.nD Cert.BandIdeal.τ).loc Cert.BandIdeal.main_arg3)
      ∧ r.2.mem ((c.tc : Thread Cert.BandIdeal.nD Cert.BandIdeal.τ).loc Cert.BandIdeal.main_arg4) = m ((c.tc : Thread Cert.BandIdeal.nD Cert.BandIdeal.τ).loc Cert.BandIdeal.main_arg4))
      ∧ r.2.sem = fun _ => 0)

def quiescent_BandRefIdeal [hBandRefIdeal : Cert.BandRefIdeal.Facts] : Prop :=
  ∀ (m : (ℓ : Loc Cert.BandRefIdeal.nD Cert.BandRefIdeal.τ Cert.BandRefIdeal.sig) → Buf (Elt Ideal) ℓ) (g : Dev Cert.BandRefIdeal.nD → PrngReg), Pre_BandRefIdeal m →
    θ_run (Cert.BandRefIdeal.defs (F := Ideal)) (onTc (τ := Cert.BandRefIdeal.τ) (Cert.BandRefIdeal.main (F := Ideal))) ⟨m, fun _ => 0, g⟩ (fun r => (∀ c : Dev Cert.BandRefIdeal.nD,
      r.2.mem ((c.tc : Thread Cert.BandRefIdeal.nD Cert.BandRefIdeal.τ).loc Cert.BandRefIdeal.main_arg0) = m ((c.tc : Thread Cert.BandRefIdeal.nD Cert.BandRefIdeal.τ).loc Cert.BandRefIdeal.main_arg0)
      ∧ r.2.mem ((c.tc : Thread Cert.BandRefIdeal.nD Cert.BandRefIdeal.τ).loc Cert.BandRefIdeal.main_arg1) = m ((c.tc : Thread Cert.BandRefIdeal.nD Cert.BandRefIdeal.τ).loc Cert.BandRefIdeal.main_arg1)
      ∧ r.2.mem ((c.tc : Thread Cert.BandRefIdeal.nD Cert.BandRefIdeal.τ).loc Cert.BandRefIdeal.main_arg2) = m ((c.tc : Thread Cert.BandRefIdeal.nD Cert.BandRefIdeal.τ).loc Cert.BandRefIdeal.main_arg2)
      ∧ r.2.mem ((c.tc : Thread Cert.BandRefIdeal.nD Cert.BandRefIdeal.τ).loc Cert.BandRefIdeal.main_arg3) = m ((c.tc : Thread Cert.BandRefIdeal.nD Cert.BandRefIdeal.τ).loc Cert.BandRefIdeal.main_arg3)
      ∧ r.2.mem ((c.tc : Thread Cert.BandRefIdeal.nD Cert.BandRefIdeal.τ).loc Cert.BandRefIdeal.main_arg4) = m ((c.tc : Thread Cert.BandRefIdeal.nD Cert.BandRefIdeal.τ).loc Cert.BandRefIdeal.main_arg4))
      ∧ r.2.sem = fun _ => 0)

def quiescent_BandRefIdeal_pre_band_fin [hBandRefIdeal : Cert.BandRefIdeal.Facts] [hPre_band_fin : Cert.Pre_band_fin.Facts] : Prop :=
  ∀ (m : (ℓ : Loc Cert.BandRefIdeal.nD Cert.BandRefIdeal.τ Cert.BandRefIdeal.sig) → Buf (Elt Ideal) ℓ) (g : Dev Cert.BandRefIdeal.nD → PrngReg), Pre_BandRefIdeal_band_fin m →
    θ_run (Cert.BandRefIdeal.defs (F := Ideal)) (onTc (τ := Cert.BandRefIdeal.τ) (Cert.BandRefIdeal.main (F := Ideal))) ⟨m, fun _ => 0, g⟩ (fun r => (∀ c : Dev Cert.BandRefIdeal.nD,
      r.2.mem ((c.tc : Thread Cert.BandRefIdeal.nD Cert.BandRefIdeal.τ).loc Cert.BandRefIdeal.main_arg0) = m ((c.tc : Thread Cert.BandRefIdeal.nD Cert.BandRefIdeal.τ).loc Cert.BandRefIdeal.main_arg0)
      ∧ r.2.mem ((c.tc : Thread Cert.BandRefIdeal.nD Cert.BandRefIdeal.τ).loc Cert.BandRefIdeal.main_arg1) = m ((c.tc : Thread Cert.BandRefIdeal.nD Cert.BandRefIdeal.τ).loc Cert.BandRefIdeal.main_arg1)
      ∧ r.2.mem ((c.tc : Thread Cert.BandRefIdeal.nD Cert.BandRefIdeal.τ).loc Cert.BandRefIdeal.main_arg2) = m ((c.tc : Thread Cert.BandRefIdeal.nD Cert.BandRefIdeal.τ).loc Cert.BandRefIdeal.main_arg2)
      ∧ r.2.mem ((c.tc : Thread Cert.BandRefIdeal.nD Cert.BandRefIdeal.τ).loc Cert.BandRefIdeal.main_arg3) = m ((c.tc : Thread Cert.BandRefIdeal.nD Cert.BandRefIdeal.τ).loc Cert.BandRefIdeal.main_arg3)
      ∧ r.2.mem ((c.tc : Thread Cert.BandRefIdeal.nD Cert.BandRefIdeal.τ).loc Cert.BandRefIdeal.main_arg4) = m ((c.tc : Thread Cert.BandRefIdeal.nD Cert.BandRefIdeal.τ).loc Cert.BandRefIdeal.main_arg4))
      ∧ r.2.sem = fun _ => 0)

def quiescent_Band4 [hBand4 : Cert.Band4.Facts] : Prop :=
  ∀ (m : (ℓ : Loc Cert.Band4.nD Cert.Band4.τ Cert.Band4.sig) → Buf (Elt Bits) ℓ) (g : Dev Cert.Band4.nD → PrngReg), Pre_Band4 m →
    θ_run (Cert.Band4.defs (F := Bits)) (onTc (τ := Cert.Band4.τ) (Cert.Band4.main (F := Bits))) ⟨m, fun _ => 0, g⟩ (fun r => (∀ c : Dev Cert.Band4.nD,
      r.2.mem ((c.tc : Thread Cert.Band4.nD Cert.Band4.τ).loc Cert.Band4.main_arg0) = m ((c.tc : Thread Cert.Band4.nD Cert.Band4.τ).loc Cert.Band4.main_arg0)
      ∧ r.2.mem ((c.tc : Thread Cert.Band4.nD Cert.Band4.τ).loc Cert.Band4.main_arg1) = m ((c.tc : Thread Cert.Band4.nD Cert.Band4.τ).loc Cert.Band4.main_arg1)
      ∧ r.2.mem ((c.tc : Thread Cert.Band4.nD Cert.Band4.τ).loc Cert.Band4.main_arg2) = m ((c.tc : Thread Cert.Band4.nD Cert.Band4.τ).loc Cert.Band4.main_arg2)
      ∧ r.2.mem ((c.tc : Thread Cert.Band4.nD Cert.Band4.τ).loc Cert.Band4.main_arg3) = m ((c.tc : Thread Cert.Band4.nD Cert.Band4.τ).loc Cert.Band4.main_arg3)
      ∧ r.2.mem ((c.tc : Thread Cert.Band4.nD Cert.Band4.τ).loc Cert.Band4.main_arg4) = m ((c.tc : Thread Cert.Band4.nD Cert.Band4.τ).loc Cert.Band4.main_arg4))
      ∧ r.2.sem = fun _ => 0)

def quiescent_Band4Ideal [hBand4Ideal : Cert.Band4Ideal.Facts] : Prop :=
  ∀ (m : (ℓ : Loc Cert.Band4Ideal.nD Cert.Band4Ideal.τ Cert.Band4Ideal.sig) → Buf (Elt Ideal) ℓ) (g : Dev Cert.Band4Ideal.nD → PrngReg), Pre_Band4Ideal m →
    θ_run (Cert.Band4Ideal.defs (F := Ideal)) (onTc (τ := Cert.Band4Ideal.τ) (Cert.Band4Ideal.main (F := Ideal))) ⟨m, fun _ => 0, g⟩ (fun r => (∀ c : Dev Cert.Band4Ideal.nD,
      r.2.mem ((c.tc : Thread Cert.Band4Ideal.nD Cert.Band4Ideal.τ).loc Cert.Band4Ideal.main_arg0) = m ((c.tc : Thread Cert.Band4Ideal.nD Cert.Band4Ideal.τ).loc Cert.Band4Ideal.main_arg0)
      ∧ r.2.mem ((c.tc : Thread Cert.Band4Ideal.nD Cert.Band4Ideal.τ).loc Cert.Band4Ideal.main_arg1) = m ((c.tc : Thread Cert.Band4Ideal.nD Cert.Band4Ideal.τ).loc Cert.Band4Ideal.main_arg1)
      ∧ r.2.mem ((c.tc : Thread Cert.Band4Ideal.nD Cert.Band4Ideal.τ).loc Cert.Band4Ideal.main_arg2) = m ((c.tc : Thread Cert.Band4Ideal.nD Cert.Band4Ideal.τ).loc Cert.Band4Ideal.main_arg2)
      ∧ r.2.mem ((c.tc : Thread Cert.Band4Ideal.nD Cert.Band4Ideal.τ).loc Cert.Band4Ideal.main_arg3) = m ((c.tc : Thread Cert.Band4Ideal.nD Cert.Band4Ideal.τ).loc Cert.Band4Ideal.main_arg3)
      ∧ r.2.mem ((c.tc : Thread Cert.Band4Ideal.nD Cert.Band4Ideal.τ).loc Cert.Band4Ideal.main_arg4) = m ((c.tc : Thread Cert.Band4Ideal.nD Cert.Band4Ideal.τ).loc Cert.Band4Ideal.main_arg4))
      ∧ r.2.sem = fun _ => 0)

def quiescent_Band4RefIdeal [hBand4RefIdeal : Cert.Band4RefIdeal.Facts] : Prop :=
  ∀ (m : (ℓ : Loc Cert.Band4RefIdeal.nD Cert.Band4RefIdeal.τ Cert.Band4RefIdeal.sig) → Buf (Elt Ideal) ℓ) (g : Dev Cert.Band4RefIdeal.nD → PrngReg), Pre_Band4RefIdeal m →
    θ_run (Cert.Band4RefIdeal.defs (F := Ideal)) (onTc (τ := Cert.Band4RefIdeal.τ) (Cert.Band4RefIdeal.main (F := Ideal))) ⟨m, fun _ => 0, g⟩ (fun r => (∀ c : Dev Cert.Band4RefIdeal.nD,
      r.2.mem ((c.tc : Thread Cert.Band4RefIdeal.nD Cert.Band4RefIdeal.τ).loc Cert.Band4RefIdeal.main_arg0) = m ((c.tc : Thread Cert.Band4RefIdeal.nD Cert.Band4RefIdeal.τ).loc Cert.Band4RefIdeal.main_arg0)
      ∧ r.2.mem ((c.tc : Thread Cert.Band4RefIdeal.nD Cert.Band4RefIdeal.τ).loc Cert.Band4RefIdeal.main_arg1) = m ((c.tc : Thread Cert.Band4RefIdeal.nD Cert.Band4RefIdeal.τ).loc Cert.Band4RefIdeal.main_arg1)
      ∧ r.2.mem ((c.tc : Thread Cert.Band4RefIdeal.nD Cert.Band4RefIdeal.τ).loc Cert.Band4RefIdeal.main_arg2) = m ((c.tc : Thread Cert.Band4RefIdeal.nD Cert.Band4RefIdeal.τ).loc Cert.Band4RefIdeal.main_arg2)
      ∧ r.2.mem ((c.tc : Thread Cert.Band4RefIdeal.nD Cert.Band4RefIdeal.τ).loc Cert.Band4RefIdeal.main_arg3) = m ((c.tc : Thread Cert.Band4RefIdeal.nD Cert.Band4RefIdeal.τ).loc Cert.Band4RefIdeal.main_arg3)
      ∧ r.2.mem ((c.tc : Thread Cert.Band4RefIdeal.nD Cert.Band4RefIdeal.τ).loc Cert.Band4RefIdeal.main_arg4) = m ((c.tc : Thread Cert.Band4RefIdeal.nD Cert.Band4RefIdeal.τ).loc Cert.Band4RefIdeal.main_arg4))
      ∧ r.2.sem = fun _ => 0)

def quiescent_Natten [hNatten : Cert.Natten.Facts] : Prop :=
  ∀ (m : (ℓ : Loc Cert.Natten.nD Cert.Natten.τ Cert.Natten.sig) → Buf (Elt Bits) ℓ) (g : Dev Cert.Natten.nD → PrngReg), Pre_Natten m →
    θ_run (Cert.Natten.defs (F := Bits)) (onTc (τ := Cert.Natten.τ) (Cert.Natten.main (F := Bits))) ⟨m, fun _ => 0, g⟩ (fun r => (∀ c : Dev Cert.Natten.nD,
      r.2.mem ((c.tc : Thread Cert.Natten.nD Cert.Natten.τ).loc Cert.Natten.main_arg0) = m ((c.tc : Thread Cert.Natten.nD Cert.Natten.τ).loc Cert.Natten.main_arg0)
      ∧ r.2.mem ((c.tc : Thread Cert.Natten.nD Cert.Natten.τ).loc Cert.Natten.main_arg1) = m ((c.tc : Thread Cert.Natten.nD Cert.Natten.τ).loc Cert.Natten.main_arg1)
      ∧ r.2.mem ((c.tc : Thread Cert.Natten.nD Cert.Natten.τ).loc Cert.Natten.main_arg2) = m ((c.tc : Thread Cert.Natten.nD Cert.Natten.τ).loc Cert.Natten.main_arg2)
      ∧ r.2.mem ((c.tc : Thread Cert.Natten.nD Cert.Natten.τ).loc Cert.Natten.main_arg3) = m ((c.tc : Thread Cert.Natten.nD Cert.Natten.τ).loc Cert.Natten.main_arg3)
      ∧ r.2.mem ((c.tc : Thread Cert.Natten.nD Cert.Natten.τ).loc Cert.Natten.main_arg4) = m ((c.tc : Thread Cert.Natten.nD Cert.Natten.τ).loc Cert.Natten.main_arg4))
      ∧ r.2.sem = fun _ => 0)

def quiescent_NattenIdeal [hNattenIdeal : Cert.NattenIdeal.Facts] : Prop :=
  ∀ (m : (ℓ : Loc Cert.NattenIdeal.nD Cert.NattenIdeal.τ Cert.NattenIdeal.sig) → Buf (Elt Ideal) ℓ) (g : Dev Cert.NattenIdeal.nD → PrngReg), Pre_NattenIdeal m →
    θ_run (Cert.NattenIdeal.defs (F := Ideal)) (onTc (τ := Cert.NattenIdeal.τ) (Cert.NattenIdeal.main (F := Ideal))) ⟨m, fun _ => 0, g⟩ (fun r => (∀ c : Dev Cert.NattenIdeal.nD,
      r.2.mem ((c.tc : Thread Cert.NattenIdeal.nD Cert.NattenIdeal.τ).loc Cert.NattenIdeal.main_arg0) = m ((c.tc : Thread Cert.NattenIdeal.nD Cert.NattenIdeal.τ).loc Cert.NattenIdeal.main_arg0)
      ∧ r.2.mem ((c.tc : Thread Cert.NattenIdeal.nD Cert.NattenIdeal.τ).loc Cert.NattenIdeal.main_arg1) = m ((c.tc : Thread Cert.NattenIdeal.nD Cert.NattenIdeal.τ).loc Cert.NattenIdeal.main_arg1)
      ∧ r.2.mem ((c.tc : Thread Cert.NattenIdeal.nD Cert.NattenIdeal.τ).loc Cert.NattenIdeal.main_arg2) = m ((c.tc : Thread Cert.NattenIdeal.nD Cert.NattenIdeal.τ).loc Cert.NattenIdeal.main_arg2)
      ∧ r.2.mem ((c.tc : Thread Cert.NattenIdeal.nD Cert.NattenIdeal.τ).loc Cert.NattenIdeal.main_arg3) = m ((c.tc : Thread Cert.NattenIdeal.nD Cert.NattenIdeal.τ).loc Cert.NattenIdeal.main_arg3)
      ∧ r.2.mem ((c.tc : Thread Cert.NattenIdeal.nD Cert.NattenIdeal.τ).loc Cert.NattenIdeal.main_arg4) = m ((c.tc : Thread Cert.NattenIdeal.nD Cert.NattenIdeal.τ).loc Cert.NattenIdeal.main_arg4))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_Product [hProduct : Cert.Product.Facts] : Prop :=
  ∀ (m : (ℓ : Loc Cert.Product.nD Cert.Product.τ Cert.Product.sig) → Buf (Elt Bits) ℓ) (g : Dev Cert.Product.nD → PrngReg), Pre_Product m →
    θ_run (Cert.Product.defs (F := Bits)) (onTc (τ := Cert.Product.τ) (Cert.Product.main (F := Bits))) ⟨m, fun _ => 0, g⟩ (fun r => (∀ c : Dev Cert.Product.nD,
      r.2.mem ((c.tc : Thread Cert.Product.nD Cert.Product.τ).loc Cert.Product.main_arg0) = m ((c.tc : Thread Cert.Product.nD Cert.Product.τ).loc Cert.Product.main_arg0)
      ∧ r.2.mem ((c.tc : Thread Cert.Product.nD Cert.Product.τ).loc Cert.Product.main_arg1) = m ((c.tc : Thread Cert.Product.nD Cert.Product.τ).loc Cert.Product.main_arg1))
      ∧ r.2.sem = fun _ => 0)

def quiescent_ProductIdeal [hProductIdeal : Cert.ProductIdeal.Facts] : Prop :=
  ∀ (m : (ℓ : Loc Cert.ProductIdeal.nD Cert.ProductIdeal.τ Cert.ProductIdeal.sig) → Buf (Elt Ideal) ℓ) (g : Dev Cert.ProductIdeal.nD → PrngReg), Pre_ProductIdeal m →
    θ_run (Cert.ProductIdeal.defs (F := Ideal)) (onTc (τ := Cert.ProductIdeal.τ) (Cert.ProductIdeal.main (F := Ideal))) ⟨m, fun _ => 0, g⟩ (fun r => (∀ c : Dev Cert.ProductIdeal.nD,
      r.2.mem ((c.tc : Thread Cert.ProductIdeal.nD Cert.ProductIdeal.τ).loc Cert.ProductIdeal.main_arg0) = m ((c.tc : Thread Cert.ProductIdeal.nD Cert.ProductIdeal.τ).loc Cert.ProductIdeal.main_arg0)
      ∧ r.2.mem ((c.tc : Thread Cert.ProductIdeal.nD Cert.ProductIdeal.τ).loc Cert.ProductIdeal.main_arg1) = m ((c.tc : Thread Cert.ProductIdeal.nD Cert.ProductIdeal.τ).loc Cert.ProductIdeal.main_arg1))
      ∧ r.2.sem = fun _ => 0)

def quiescent_ProductRefIdeal [hProductRefIdeal : Cert.ProductRefIdeal.Facts] : Prop :=
  ∀ (m : (ℓ : Loc Cert.ProductRefIdeal.nD Cert.ProductRefIdeal.τ Cert.ProductRefIdeal.sig) → Buf (Elt Ideal) ℓ) (g : Dev Cert.ProductRefIdeal.nD → PrngReg), Pre_ProductRefIdeal m →
    θ_run (Cert.ProductRefIdeal.defs (F := Ideal)) (onTc (τ := Cert.ProductRefIdeal.τ) (Cert.ProductRefIdeal.main (F := Ideal))) ⟨m, fun _ => 0, g⟩ (fun r => (∀ c : Dev Cert.ProductRefIdeal.nD,
      r.2.mem ((c.tc : Thread Cert.ProductRefIdeal.nD Cert.ProductRefIdeal.τ).loc Cert.ProductRefIdeal.main_arg0) = m ((c.tc : Thread Cert.ProductRefIdeal.nD Cert.ProductRefIdeal.τ).loc Cert.ProductRefIdeal.main_arg0)
      ∧ r.2.mem ((c.tc : Thread Cert.ProductRefIdeal.nD Cert.ProductRefIdeal.τ).loc Cert.ProductRefIdeal.main_arg1) = m ((c.tc : Thread Cert.ProductRefIdeal.nD Cert.ProductRefIdeal.τ).loc Cert.ProductRefIdeal.main_arg1))
      ∧ r.2.sem = fun _ => 0)

def quiescent_BandFwd4 [hBandFwd4 : Cert.BandFwd4.Facts] : Prop :=
  ∀ (m : (ℓ : Loc Cert.BandFwd4.nD Cert.BandFwd4.τ Cert.BandFwd4.sig) → Buf (Elt Bits) ℓ) (g : Dev Cert.BandFwd4.nD → PrngReg), Pre_BandFwd4 m →
    θ_run (Cert.BandFwd4.defs (F := Bits)) (onTc (τ := Cert.BandFwd4.τ) (Cert.BandFwd4.main (F := Bits))) ⟨m, fun _ => 0, g⟩ (fun r => (∀ c : Dev Cert.BandFwd4.nD,
      r.2.mem ((c.tc : Thread Cert.BandFwd4.nD Cert.BandFwd4.τ).loc Cert.BandFwd4.main_arg0) = m ((c.tc : Thread Cert.BandFwd4.nD Cert.BandFwd4.τ).loc Cert.BandFwd4.main_arg0)
      ∧ r.2.mem ((c.tc : Thread Cert.BandFwd4.nD Cert.BandFwd4.τ).loc Cert.BandFwd4.main_arg1) = m ((c.tc : Thread Cert.BandFwd4.nD Cert.BandFwd4.τ).loc Cert.BandFwd4.main_arg1)
      ∧ r.2.mem ((c.tc : Thread Cert.BandFwd4.nD Cert.BandFwd4.τ).loc Cert.BandFwd4.main_arg2) = m ((c.tc : Thread Cert.BandFwd4.nD Cert.BandFwd4.τ).loc Cert.BandFwd4.main_arg2))
      ∧ r.2.sem = fun _ => 0)

def quiescent_BandFwd4Ideal [hBandFwd4Ideal : Cert.BandFwd4Ideal.Facts] : Prop :=
  ∀ (m : (ℓ : Loc Cert.BandFwd4Ideal.nD Cert.BandFwd4Ideal.τ Cert.BandFwd4Ideal.sig) → Buf (Elt Ideal) ℓ) (g : Dev Cert.BandFwd4Ideal.nD → PrngReg), Pre_BandFwd4Ideal m →
    θ_run (Cert.BandFwd4Ideal.defs (F := Ideal)) (onTc (τ := Cert.BandFwd4Ideal.τ) (Cert.BandFwd4Ideal.main (F := Ideal))) ⟨m, fun _ => 0, g⟩ (fun r => (∀ c : Dev Cert.BandFwd4Ideal.nD,
      r.2.mem ((c.tc : Thread Cert.BandFwd4Ideal.nD Cert.BandFwd4Ideal.τ).loc Cert.BandFwd4Ideal.main_arg0) = m ((c.tc : Thread Cert.BandFwd4Ideal.nD Cert.BandFwd4Ideal.τ).loc Cert.BandFwd4Ideal.main_arg0)
      ∧ r.2.mem ((c.tc : Thread Cert.BandFwd4Ideal.nD Cert.BandFwd4Ideal.τ).loc Cert.BandFwd4Ideal.main_arg1) = m ((c.tc : Thread Cert.BandFwd4Ideal.nD Cert.BandFwd4Ideal.τ).loc Cert.BandFwd4Ideal.main_arg1)
      ∧ r.2.mem ((c.tc : Thread Cert.BandFwd4Ideal.nD Cert.BandFwd4Ideal.τ).loc Cert.BandFwd4Ideal.main_arg2) = m ((c.tc : Thread Cert.BandFwd4Ideal.nD Cert.BandFwd4Ideal.τ).loc Cert.BandFwd4Ideal.main_arg2))
      ∧ r.2.sem = fun _ => 0)

def quiescent_BandFwd4RefIdeal [hBandFwd4RefIdeal : Cert.BandFwd4RefIdeal.Facts] : Prop :=
  ∀ (m : (ℓ : Loc Cert.BandFwd4RefIdeal.nD Cert.BandFwd4RefIdeal.τ Cert.BandFwd4RefIdeal.sig) → Buf (Elt Ideal) ℓ) (g : Dev Cert.BandFwd4RefIdeal.nD → PrngReg), Pre_BandFwd4RefIdeal m →
    θ_run (Cert.BandFwd4RefIdeal.defs (F := Ideal)) (onTc (τ := Cert.BandFwd4RefIdeal.τ) (Cert.BandFwd4RefIdeal.main (F := Ideal))) ⟨m, fun _ => 0, g⟩ (fun r => (∀ c : Dev Cert.BandFwd4RefIdeal.nD,
      r.2.mem ((c.tc : Thread Cert.BandFwd4RefIdeal.nD Cert.BandFwd4RefIdeal.τ).loc Cert.BandFwd4RefIdeal.main_arg0) = m ((c.tc : Thread Cert.BandFwd4RefIdeal.nD Cert.BandFwd4RefIdeal.τ).loc Cert.BandFwd4RefIdeal.main_arg0)
      ∧ r.2.mem ((c.tc : Thread Cert.BandFwd4RefIdeal.nD Cert.BandFwd4RefIdeal.τ).loc Cert.BandFwd4RefIdeal.main_arg1) = m ((c.tc : Thread Cert.BandFwd4RefIdeal.nD Cert.BandFwd4RefIdeal.τ).loc Cert.BandFwd4RefIdeal.main_arg1)
      ∧ r.2.mem ((c.tc : Thread Cert.BandFwd4RefIdeal.nD Cert.BandFwd4RefIdeal.τ).loc Cert.BandFwd4RefIdeal.main_arg2) = m ((c.tc : Thread Cert.BandFwd4RefIdeal.nD Cert.BandFwd4RefIdeal.τ).loc Cert.BandFwd4RefIdeal.main_arg2))
      ∧ r.2.sem = fun _ => 0)

def preserves_NormBwd_NormBwdIdeal : Prop :=
  True

def algebraic_NormBwdIdeal_NormBwdRefIdeal_pre_norm_fin [hNormBwdIdeal : Cert.NormBwdIdeal.Facts] [hNormBwdRefIdeal : Cert.NormBwdRefIdeal.Facts] [hPre_norm_fin : Cert.Pre_norm_fin.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal_norm_fin m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)) →
    ∃ (v0 : (c : Dev Cert.NormBwdIdeal.nD) → Buf (Elt Ideal) ((c.tc : Thread Cert.NormBwdIdeal.nD Cert.NormBwdIdeal.τ).loc Cert.NormBwdIdeal.main_v1_0)) (v1 : (c : Dev Cert.NormBwdIdeal.nD) → Buf (Elt Ideal) ((c.tc : Thread Cert.NormBwdIdeal.nD Cert.NormBwdIdeal.τ).loc Cert.NormBwdIdeal.main_v1_1)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v1_0) = v0 c
          ∧ r.2.mem ((c.tc : Thread Cert.NormBwdIdeal.nD Cert.NormBwdIdeal.τ).loc Cert.NormBwdIdeal.main_v1_1) = v1 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v35) = v0 c
          ∧ r.2.mem ((c.tc : Thread Cert.NormBwdRefIdeal.nD Cert.NormBwdRefIdeal.τ).loc Cert.NormBwdRefIdeal.main_v36) = v1 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2))

def preserves_Dense_DenseIdeal : Prop :=
  IdealRules.named_const.Statement Cert.DenseIdeal.κ "to_log2" .f32 0x3E16C740#32 (((3424635 / 33554432) * (Real.log 2)⁻¹ : ℝ) : EReal)

def algebraic_DenseIdeal_DenseRefIdeal_pre_dense_fin [hDenseIdeal : Cert.DenseIdeal.Facts] [hDenseRefIdeal : Cert.DenseRefIdeal.Facts] [hPre_dense_fin : Cert.Pre_dense_fin.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.DenseRefIdeal.nD Cert.DenseRefIdeal.τ Cert.DenseRefIdeal.sig) → Buf (Elt Ideal) ℓ) (g' : Dev Cert.DenseRefIdeal.nD → PrngReg), Pre_DenseIdeal_dense_fin m →
    (∀ c : Dev Cert.DenseIdeal.nD,
      m' ((c.tc : Thread Cert.DenseRefIdeal.nD Cert.DenseRefIdeal.τ).loc Cert.DenseRefIdeal.main_arg0) = m ((c.tc : Thread Cert.DenseIdeal.nD Cert.DenseIdeal.τ).loc Cert.DenseIdeal.main_arg0)
      ∧ m' ((c.tc : Thread Cert.DenseRefIdeal.nD Cert.DenseRefIdeal.τ).loc Cert.DenseRefIdeal.main_arg1) = m ((c.tc : Thread Cert.DenseIdeal.nD Cert.DenseIdeal.τ).loc Cert.DenseIdeal.main_arg1)
      ∧ m' ((c.tc : Thread Cert.DenseRefIdeal.nD Cert.DenseRefIdeal.τ).loc Cert.DenseRefIdeal.main_arg2) = m ((c.tc : Thread Cert.DenseIdeal.nD Cert.DenseIdeal.τ).loc Cert.DenseIdeal.main_arg2)
      ∧ m' ((c.tc : Thread Cert.DenseRefIdeal.nD Cert.DenseRefIdeal.τ).loc Cert.DenseRefIdeal.main_arg3) = m ((c.tc : Thread Cert.DenseIdeal.nD Cert.DenseIdeal.τ).loc Cert.DenseIdeal.main_arg3)) →
    ∃ (v0 : (c : Dev Cert.DenseIdeal.nD) → Buf (Elt Ideal) ((c.tc : Thread Cert.DenseIdeal.nD Cert.DenseIdeal.τ).loc Cert.DenseIdeal.main_v10)) (v1 : (c : Dev Cert.DenseIdeal.nD) → Buf (Elt Ideal) ((c.tc : Thread Cert.DenseIdeal.nD Cert.DenseIdeal.τ).loc Cert.DenseIdeal.main_v17)) (v2 : (c : Dev Cert.DenseIdeal.nD) → Buf (Elt Ideal) ((c.tc : Thread Cert.DenseIdeal.nD Cert.DenseIdeal.τ).loc Cert.DenseIdeal.main_v18)) (v3 : (c : Dev Cert.DenseIdeal.nD) → Buf (Elt Ideal) ((c.tc : Thread Cert.DenseIdeal.nD Cert.DenseIdeal.τ).loc Cert.DenseIdeal.main_v19)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v10) = v0 c
          ∧ r.2.mem ((c.tc : Thread Cert.DenseIdeal.nD Cert.DenseIdeal.τ).loc Cert.DenseIdeal.main_v17) = v1 c
          ∧ r.2.mem ((c.tc : Thread Cert.DenseIdeal.nD Cert.DenseIdeal.τ).loc Cert.DenseIdeal.main_v18) = v2 c
          ∧ r.2.mem ((c.tc : Thread Cert.DenseIdeal.nD Cert.DenseIdeal.τ).loc Cert.DenseIdeal.main_v19) = v3 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
          ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3))
      ∧ θ_run (Cert.DenseRefIdeal.defs (F := Ideal)) (onTc (τ := Cert.DenseRefIdeal.τ) (Cert.DenseRefIdeal.main (F := Ideal))) ⟨m', fun _ => 0, g'⟩ (fun r => ∀ c : Dev Cert.DenseRefIdeal.nD,
          r.2.mem ((c.tc : Thread Cert.DenseRefIdeal.nD Cert.DenseRefIdeal.τ).loc Cert.DenseRefIdeal.main_v32) = v0 c
          ∧ r.2.mem ((c.tc : Thread Cert.DenseRefIdeal.nD Cert.DenseRefIdeal.τ).loc Cert.DenseRefIdeal.main_v54) = v1 c
          ∧ r.2.mem ((c.tc : Thread Cert.DenseRefIdeal.nD Cert.DenseRefIdeal.τ).loc Cert.DenseRefIdeal.main_v52) = v2 c
          ∧ r.2.mem ((c.tc : Thread Cert.DenseRefIdeal.nD Cert.DenseRefIdeal.τ).loc Cert.DenseRefIdeal.main_v36) = v3 c
          ∧ r.2.mem ((c.tc : Thread Cert.DenseRefIdeal.nD Cert.DenseRefIdeal.τ).loc Cert.DenseRefIdeal.main_arg0) = m' ((c.tc : Thread Cert.DenseRefIdeal.nD Cert.DenseRefIdeal.τ).loc Cert.DenseRefIdeal.main_arg0)
          ∧ r.2.mem ((c.tc : Thread Cert.DenseRefIdeal.nD Cert.DenseRefIdeal.τ).loc Cert.DenseRefIdeal.main_arg1) = m' ((c.tc : Thread Cert.DenseRefIdeal.nD Cert.DenseRefIdeal.τ).loc Cert.DenseRefIdeal.main_arg1)
          ∧ r.2.mem ((c.tc : Thread Cert.DenseRefIdeal.nD Cert.DenseRefIdeal.τ).loc Cert.DenseRefIdeal.main_arg2) = m' ((c.tc : Thread Cert.DenseRefIdeal.nD Cert.DenseRefIdeal.τ).loc Cert.DenseRefIdeal.main_arg2)
          ∧ r.2.mem ((c.tc : Thread Cert.DenseRefIdeal.nD Cert.DenseRefIdeal.τ).loc Cert.DenseRefIdeal.main_arg3) = m' ((c.tc : Thread Cert.DenseRefIdeal.nD Cert.DenseRefIdeal.τ).loc Cert.DenseRefIdeal.main_arg3))

def preserves_LossHead_LossHeadIdeal : Prop :=
  True

def algebraic_LossHeadIdeal_LossHeadRefIdeal_pre_loss_fin [hLossHeadIdeal : Cert.LossHeadIdeal.Facts] [hLossHeadRefIdeal : Cert.LossHeadRefIdeal.Facts] [hPre_loss_fin : Cert.Pre_loss_fin.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal_loss_fin m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v3)) (v1 : (c : Dev Cert.LossHeadIdeal.nD) → Buf (Elt Ideal) ((c.tc : Thread Cert.LossHeadIdeal.nD Cert.LossHeadIdeal.τ).loc Cert.LossHeadIdeal.main_v1_1)) (v2 : (c : Dev Cert.LossHeadIdeal.nD) → Buf (Elt Ideal) ((c.tc : Thread Cert.LossHeadIdeal.nD Cert.LossHeadIdeal.τ).loc Cert.LossHeadIdeal.main_v4)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v3) = v0 c
          ∧ r.2.mem ((c.tc : Thread Cert.LossHeadIdeal.nD Cert.LossHeadIdeal.τ).loc Cert.LossHeadIdeal.main_v1_1) = v1 c
          ∧ r.2.mem ((c.tc : Thread Cert.LossHeadIdeal.nD Cert.LossHeadIdeal.τ).loc Cert.LossHeadIdeal.main_v4) = v2 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v24) = v0 c
          ∧ r.2.mem ((c.tc : Thread Cert.LossHeadRefIdeal.nD Cert.LossHeadRefIdeal.τ).loc Cert.LossHeadRefIdeal.main_v50) = v1 c
          ∧ r.2.mem ((c.tc : Thread Cert.LossHeadRefIdeal.nD Cert.LossHeadRefIdeal.τ).loc Cert.LossHeadRefIdeal.main_v36) = v2 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)) →
    ∃ (v0 : (c : Dev Cert.MlpIdeal.nD) → Buf (Elt Ideal) ((c.tc : Thread Cert.MlpIdeal.nD Cert.MlpIdeal.τ).loc Cert.MlpIdeal.main_v2_1)) (v1 : (c : Dev Cert.MlpIdeal.nD) → Buf (Elt Ideal) ((c.tc : Thread Cert.MlpIdeal.nD Cert.MlpIdeal.τ).loc Cert.MlpIdeal.main_v4)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v2_1) = v0 c
          ∧ r.2.mem ((c.tc : Thread Cert.MlpIdeal.nD Cert.MlpIdeal.τ).loc Cert.MlpIdeal.main_v4) = v1 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v15) = v0 c
          ∧ r.2.mem ((c.tc : Thread Cert.MlpRefIdeal.nD Cert.MlpRefIdeal.τ).loc Cert.MlpRefIdeal.main_v16) = v1 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3))

def preserves_Band_BandIdeal : Prop :=
  IdealRules.named_const.Statement Cert.BandIdeal.κ "mask" .f32 0xF149F2CA#32 ⊥

def algebraic_BandIdeal_BandRefIdeal_pre_band_fin [hBandIdeal : Cert.BandIdeal.Facts] [hBandRefIdeal : Cert.BandRefIdeal.Facts] [hPre_band_fin : Cert.Pre_band_fin.Facts] : Prop :=
  ∀ (m : (ℓ : Loc Cert.BandIdeal.nD Cert.BandIdeal.τ Cert.BandIdeal.sig) → Buf (Elt Ideal) ℓ) (g : Dev Cert.BandIdeal.nD → PrngReg)
    (m' : (ℓ : Loc Cert.BandRefIdeal.nD Cert.BandRefIdeal.τ Cert.BandRefIdeal.sig) → Buf (Elt Ideal) ℓ) (g' : Dev Cert.BandRefIdeal.nD → PrngReg), Pre_BandIdeal_band_fin m →
    (∀ c : Dev Cert.BandIdeal.nD,
      m' ((c.tc : Thread Cert.BandRefIdeal.nD Cert.BandRefIdeal.τ).loc Cert.BandRefIdeal.main_arg0) = m ((c.tc : Thread Cert.BandIdeal.nD Cert.BandIdeal.τ).loc Cert.BandIdeal.main_arg0)
      ∧ m' ((c.tc : Thread Cert.BandRefIdeal.nD Cert.BandRefIdeal.τ).loc Cert.BandRefIdeal.main_arg1) = m ((c.tc : Thread Cert.BandIdeal.nD Cert.BandIdeal.τ).loc Cert.BandIdeal.main_arg1)
      ∧ m' ((c.tc : Thread Cert.BandRefIdeal.nD Cert.BandRefIdeal.τ).loc Cert.BandRefIdeal.main_arg2) = m ((c.tc : Thread Cert.BandIdeal.nD Cert.BandIdeal.τ).loc Cert.BandIdeal.main_arg2)
      ∧ m' ((c.tc : Thread Cert.BandRefIdeal.nD Cert.BandRefIdeal.τ).loc Cert.BandRefIdeal.main_arg3) = m ((c.tc : Thread Cert.BandIdeal.nD Cert.BandIdeal.τ).loc Cert.BandIdeal.main_arg3)
      ∧ m' ((c.tc : Thread Cert.BandRefIdeal.nD Cert.BandRefIdeal.τ).loc Cert.BandRefIdeal.main_arg4) = m ((c.tc : Thread Cert.BandIdeal.nD Cert.BandIdeal.τ).loc Cert.BandIdeal.main_arg4)) →
    ∃ (v0 : (c : Dev Cert.BandIdeal.nD) → Buf (Elt Ideal) ((c.tc : Thread Cert.BandIdeal.nD Cert.BandIdeal.τ).loc Cert.BandIdeal.main_v17)) (v1 : (c : Dev Cert.BandIdeal.nD) → Buf (Elt Ideal) ((c.tc : Thread Cert.BandIdeal.nD Cert.BandIdeal.τ).loc Cert.BandIdeal.main_v21)) (v2 : (c : Dev Cert.BandIdeal.nD) → Buf (Elt Ideal) ((c.tc : Thread Cert.BandIdeal.nD Cert.BandIdeal.τ).loc Cert.BandIdeal.main_v34)) (v3 : (c : Dev Cert.BandIdeal.nD) → Buf (Elt Ideal) ((c.tc : Thread Cert.BandIdeal.nD Cert.BandIdeal.τ).loc Cert.BandIdeal.main_v37)) (v4 : (c : Dev Cert.BandIdeal.nD) → Buf (Elt Ideal) ((c.tc : Thread Cert.BandIdeal.nD Cert.BandIdeal.τ).loc Cert.BandIdeal.main_v40)),
      θ_run (Cert.BandIdeal.defs (F := Ideal)) (onTc (τ := Cert.BandIdeal.τ) (Cert.BandIdeal.main (F := Ideal))) ⟨m, fun _ => 0, g⟩ (fun r => ∀ c : Dev Cert.BandIdeal.nD,
          r.2.mem ((c.tc : Thread Cert.BandIdeal.nD Cert.BandIdeal.τ).loc Cert.BandIdeal.main_v17) = v0 c
          ∧ r.2.mem ((c.tc : Thread Cert.BandIdeal.nD Cert.BandIdeal.τ).loc Cert.BandIdeal.main_v21) = v1 c
          ∧ r.2.mem ((c.tc : Thread Cert.BandIdeal.nD Cert.BandIdeal.τ).loc Cert.BandIdeal.main_v34) = v2 c
          ∧ r.2.mem ((c.tc : Thread Cert.BandIdeal.nD Cert.BandIdeal.τ).loc Cert.BandIdeal.main_v37) = v3 c
          ∧ r.2.mem ((c.tc : Thread Cert.BandIdeal.nD Cert.BandIdeal.τ).loc Cert.BandIdeal.main_v40) = v4 c
          ∧ r.2.mem ((c.tc : Thread Cert.BandIdeal.nD Cert.BandIdeal.τ).loc Cert.BandIdeal.main_arg0) = m ((c.tc : Thread Cert.BandIdeal.nD Cert.BandIdeal.τ).loc Cert.BandIdeal.main_arg0)
          ∧ r.2.mem ((c.tc : Thread Cert.BandIdeal.nD Cert.BandIdeal.τ).loc Cert.BandIdeal.main_arg1) = m ((c.tc : Thread Cert.BandIdeal.nD Cert.BandIdeal.τ).loc Cert.BandIdeal.main_arg1)
          ∧ r.2.mem ((c.tc : Thread Cert.BandIdeal.nD Cert.BandIdeal.τ).loc Cert.BandIdeal.main_arg2) = m ((c.tc : Thread Cert.BandIdeal.nD Cert.BandIdeal.τ).loc Cert.BandIdeal.main_arg2)
          ∧ r.2.mem ((c.tc : Thread Cert.BandIdeal.nD Cert.BandIdeal.τ).loc Cert.BandIdeal.main_arg3) = m ((c.tc : Thread Cert.BandIdeal.nD Cert.BandIdeal.τ).loc Cert.BandIdeal.main_arg3)
          ∧ r.2.mem ((c.tc : Thread Cert.BandIdeal.nD Cert.BandIdeal.τ).loc Cert.BandIdeal.main_arg4) = m ((c.tc : Thread Cert.BandIdeal.nD Cert.BandIdeal.τ).loc Cert.BandIdeal.main_arg4))
      ∧ θ_run (Cert.BandRefIdeal.defs (F := Ideal)) (onTc (τ := Cert.BandRefIdeal.τ) (Cert.BandRefIdeal.main (F := Ideal))) ⟨m', fun _ => 0, g'⟩ (fun r => ∀ c : Dev Cert.BandRefIdeal.nD,
          r.2.mem ((c.tc : Thread Cert.BandRefIdeal.nD Cert.BandRefIdeal.τ).loc Cert.BandRefIdeal.main_v89) = v0 c
          ∧ r.2.mem ((c.tc : Thread Cert.BandRefIdeal.nD Cert.BandRefIdeal.τ).loc Cert.BandRefIdeal.main_v91) = v1 c
          ∧ r.2.mem ((c.tc : Thread Cert.BandRefIdeal.nD Cert.BandRefIdeal.τ).loc Cert.BandRefIdeal.main_v166) = v2 c
          ∧ r.2.mem ((c.tc : Thread Cert.BandRefIdeal.nD Cert.BandRefIdeal.τ).loc Cert.BandRefIdeal.main_v164) = v3 c
          ∧ r.2.mem ((c.tc : Thread Cert.BandRefIdeal.nD Cert.BandRefIdeal.τ).loc Cert.BandRefIdeal.main_v162) = v4 c
          ∧ r.2.mem ((c.tc : Thread Cert.BandRefIdeal.nD Cert.BandRefIdeal.τ).loc Cert.BandRefIdeal.main_arg0) = m' ((c.tc : Thread Cert.BandRefIdeal.nD Cert.BandRefIdeal.τ).loc Cert.BandRefIdeal.main_arg0)
          ∧ r.2.mem ((c.tc : Thread Cert.BandRefIdeal.nD Cert.BandRefIdeal.τ).loc Cert.BandRefIdeal.main_arg1) = m' ((c.tc : Thread Cert.BandRefIdeal.nD Cert.BandRefIdeal.τ).loc Cert.BandRefIdeal.main_arg1)
          ∧ r.2.mem ((c.tc : Thread Cert.BandRefIdeal.nD Cert.BandRefIdeal.τ).loc Cert.BandRefIdeal.main_arg2) = m' ((c.tc : Thread Cert.BandRefIdeal.nD Cert.BandRefIdeal.τ).loc Cert.BandRefIdeal.main_arg2)
          ∧ r.2.mem ((c.tc : Thread Cert.BandRefIdeal.nD Cert.BandRefIdeal.τ).loc Cert.BandRefIdeal.main_arg3) = m' ((c.tc : Thread Cert.BandRefIdeal.nD Cert.BandRefIdeal.τ).loc Cert.BandRefIdeal.main_arg3)
          ∧ r.2.mem ((c.tc : Thread Cert.BandRefIdeal.nD Cert.BandRefIdeal.τ).loc Cert.BandRefIdeal.main_arg4) = m' ((c.tc : Thread Cert.BandRefIdeal.nD Cert.BandRefIdeal.τ).loc Cert.BandRefIdeal.main_arg4))

def preserves_Band4_Band4Ideal : Prop :=
  IdealRules.named_const.Statement Cert.Band4Ideal.κ "mask" .f32 0xF149F2CA#32 ⊥

def preserves_Natten_NattenIdeal : Prop :=
  IdealRules.named_const.Statement Cert.NattenIdeal.κ "mask" .f32 0xF149F2CA#32 ⊥

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v1)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v1) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v13) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)) (v3 : (c : Dev Cert.AdamIdeal.nD) → Buf (Elt Ideal) ((c.tc : Thread Cert.AdamIdeal.nD Cert.AdamIdeal.τ).loc Cert.AdamIdeal.main_v0_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_v0_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v1) = v0 c
          ∧ r.2.mem ((c.tc : Thread Cert.AdamRefIdeal.nD Cert.AdamRefIdeal.τ).loc Cert.AdamRefIdeal.main_v25) = v1 c
          ∧ r.2.mem ((c.tc : Thread Cert.AdamRefIdeal.nD Cert.AdamRefIdeal.τ).loc Cert.AdamRefIdeal.main_v6) = v2 c
          ∧ r.2.mem ((c.tc : Thread Cert.AdamRefIdeal.nD Cert.AdamRefIdeal.τ).loc Cert.AdamRefIdeal.main_v12) = v3 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_Product_ProductIdeal : Prop :=
  True

def algebraic_ProductIdeal_ProductRefIdeal [hProductIdeal : Cert.ProductIdeal.Facts] [hProductRefIdeal : Cert.ProductRefIdeal.Facts] : Prop :=
  ∀ (m : (ℓ : Loc Cert.ProductIdeal.nD Cert.ProductIdeal.τ Cert.ProductIdeal.sig) → Buf (Elt Ideal) ℓ) (g : Dev Cert.ProductIdeal.nD → PrngReg)
    (m' : (ℓ : Loc Cert.ProductRefIdeal.nD Cert.ProductRefIdeal.τ Cert.ProductRefIdeal.sig) → Buf (Elt Ideal) ℓ) (g' : Dev Cert.ProductRefIdeal.nD → PrngReg), Pre_ProductIdeal m →
    (∀ c : Dev Cert.ProductIdeal.nD,
      m' ((c.tc : Thread Cert.ProductRefIdeal.nD Cert.ProductRefIdeal.τ).loc Cert.ProductRefIdeal.main_arg0) = m ((c.tc : Thread Cert.ProductIdeal.nD Cert.ProductIdeal.τ).loc Cert.ProductIdeal.main_arg0)
      ∧ m' ((c.tc : Thread Cert.ProductRefIdeal.nD Cert.ProductRefIdeal.τ).loc Cert.ProductRefIdeal.main_arg1) = m ((c.tc : Thread Cert.ProductIdeal.nD Cert.ProductIdeal.τ).loc Cert.ProductIdeal.main_arg1)) →
    ∃ (v0 : (c : Dev Cert.ProductIdeal.nD) → Buf (Elt Ideal) ((c.tc : Thread Cert.ProductIdeal.nD Cert.ProductIdeal.τ).loc Cert.ProductIdeal.main_v1)),
      θ_run (Cert.ProductIdeal.defs (F := Ideal)) (onTc (τ := Cert.ProductIdeal.τ) (Cert.ProductIdeal.main (F := Ideal))) ⟨m, fun _ => 0, g⟩ (fun r => ∀ c : Dev Cert.ProductIdeal.nD,
          r.2.mem ((c.tc : Thread Cert.ProductIdeal.nD Cert.ProductIdeal.τ).loc Cert.ProductIdeal.main_v1) = v0 c
          ∧ r.2.mem ((c.tc : Thread Cert.ProductIdeal.nD Cert.ProductIdeal.τ).loc Cert.ProductIdeal.main_arg0) = m ((c.tc : Thread Cert.ProductIdeal.nD Cert.ProductIdeal.τ).loc Cert.ProductIdeal.main_arg0)
          ∧ r.2.mem ((c.tc : Thread Cert.ProductIdeal.nD Cert.ProductIdeal.τ).loc Cert.ProductIdeal.main_arg1) = m ((c.tc : Thread Cert.ProductIdeal.nD Cert.ProductIdeal.τ).loc Cert.ProductIdeal.main_arg1))
      ∧ θ_run (Cert.ProductRefIdeal.defs (F := Ideal)) (onTc (τ := Cert.ProductRefIdeal.τ) (Cert.ProductRefIdeal.main (F := Ideal))) ⟨m', fun _ => 0, g'⟩ (fun r => ∀ c : Dev Cert.ProductRefIdeal.nD,
          r.2.mem ((c.tc : Thread Cert.ProductRefIdeal.nD Cert.ProductRefIdeal.τ).loc Cert.ProductRefIdeal.main_v1) = v0 c
          ∧ r.2.mem ((c.tc : Thread Cert.ProductRefIdeal.nD Cert.ProductRefIdeal.τ).loc Cert.ProductRefIdeal.main_arg0) = m' ((c.tc : Thread Cert.ProductRefIdeal.nD Cert.ProductRefIdeal.τ).loc Cert.ProductRefIdeal.main_arg0)
          ∧ r.2.mem ((c.tc : Thread Cert.ProductRefIdeal.nD Cert.ProductRefIdeal.τ).loc Cert.ProductRefIdeal.main_arg1) = m' ((c.tc : Thread Cert.ProductRefIdeal.nD Cert.ProductRefIdeal.τ).loc Cert.ProductRefIdeal.main_arg1))

def preserves_BandFwd4_BandFwd4Ideal : Prop :=
  IdealRules.named_const.Statement Cert.BandFwd4Ideal.κ "mask" .f32 0xF149F2CA#32 ⊥

def algebraic_BandFwd4Ideal_BandFwd4RefIdeal [hBandFwd4Ideal : Cert.BandFwd4Ideal.Facts] [hBandFwd4RefIdeal : Cert.BandFwd4RefIdeal.Facts] : Prop :=
  ∀ (m : (ℓ : Loc Cert.BandFwd4Ideal.nD Cert.BandFwd4Ideal.τ Cert.BandFwd4Ideal.sig) → Buf (Elt Ideal) ℓ) (g : Dev Cert.BandFwd4Ideal.nD → PrngReg)
    (m' : (ℓ : Loc Cert.BandFwd4RefIdeal.nD Cert.BandFwd4RefIdeal.τ Cert.BandFwd4RefIdeal.sig) → Buf (Elt Ideal) ℓ) (g' : Dev Cert.BandFwd4RefIdeal.nD → PrngReg), Pre_BandFwd4Ideal m →
    (∀ c : Dev Cert.BandFwd4Ideal.nD,
      m' ((c.tc : Thread Cert.BandFwd4RefIdeal.nD Cert.BandFwd4RefIdeal.τ).loc Cert.BandFwd4RefIdeal.main_arg0) = m ((c.tc : Thread Cert.BandFwd4Ideal.nD Cert.BandFwd4Ideal.τ).loc Cert.BandFwd4Ideal.main_arg0)
      ∧ m' ((c.tc : Thread Cert.BandFwd4RefIdeal.nD Cert.BandFwd4RefIdeal.τ).loc Cert.BandFwd4RefIdeal.main_arg1) = m ((c.tc : Thread Cert.BandFwd4Ideal.nD Cert.BandFwd4Ideal.τ).loc Cert.BandFwd4Ideal.main_arg1)
      ∧ m' ((c.tc : Thread Cert.BandFwd4RefIdeal.nD Cert.BandFwd4RefIdeal.τ).loc Cert.BandFwd4RefIdeal.main_arg2) = m ((c.tc : Thread Cert.BandFwd4Ideal.nD Cert.BandFwd4Ideal.τ).loc Cert.BandFwd4Ideal.main_arg2)) →
    ∃ (v0 : (c : Dev Cert.BandFwd4Ideal.nD) → Buf (Elt Ideal) ((c.tc : Thread Cert.BandFwd4Ideal.nD Cert.BandFwd4Ideal.τ).loc Cert.BandFwd4Ideal.main_v17)) (v1 : (c : Dev Cert.BandFwd4Ideal.nD) → Buf (Elt Ideal) ((c.tc : Thread Cert.BandFwd4Ideal.nD Cert.BandFwd4Ideal.τ).loc Cert.BandFwd4Ideal.main_v21)),
      θ_run (Cert.BandFwd4Ideal.defs (F := Ideal)) (onTc (τ := Cert.BandFwd4Ideal.τ) (Cert.BandFwd4Ideal.main (F := Ideal))) ⟨m, fun _ => 0, g⟩ (fun r => ∀ c : Dev Cert.BandFwd4Ideal.nD,
          r.2.mem ((c.tc : Thread Cert.BandFwd4Ideal.nD Cert.BandFwd4Ideal.τ).loc Cert.BandFwd4Ideal.main_v17) = v0 c
          ∧ r.2.mem ((c.tc : Thread Cert.BandFwd4Ideal.nD Cert.BandFwd4Ideal.τ).loc Cert.BandFwd4Ideal.main_v21) = v1 c
          ∧ r.2.mem ((c.tc : Thread Cert.BandFwd4Ideal.nD Cert.BandFwd4Ideal.τ).loc Cert.BandFwd4Ideal.main_arg0) = m ((c.tc : Thread Cert.BandFwd4Ideal.nD Cert.BandFwd4Ideal.τ).loc Cert.BandFwd4Ideal.main_arg0)
          ∧ r.2.mem ((c.tc : Thread Cert.BandFwd4Ideal.nD Cert.BandFwd4Ideal.τ).loc Cert.BandFwd4Ideal.main_arg1) = m ((c.tc : Thread Cert.BandFwd4Ideal.nD Cert.BandFwd4Ideal.τ).loc Cert.BandFwd4Ideal.main_arg1)
          ∧ r.2.mem ((c.tc : Thread Cert.BandFwd4Ideal.nD Cert.BandFwd4Ideal.τ).loc Cert.BandFwd4Ideal.main_arg2) = m ((c.tc : Thread Cert.BandFwd4Ideal.nD Cert.BandFwd4Ideal.τ).loc Cert.BandFwd4Ideal.main_arg2))
      ∧ θ_run (Cert.BandFwd4RefIdeal.defs (F := Ideal)) (onTc (τ := Cert.BandFwd4RefIdeal.τ) (Cert.BandFwd4RefIdeal.main (F := Ideal))) ⟨m', fun _ => 0, g'⟩ (fun r => ∀ c : Dev Cert.BandFwd4RefIdeal.nD,
          r.2.mem ((c.tc : Thread Cert.BandFwd4RefIdeal.nD Cert.BandFwd4RefIdeal.τ).loc Cert.BandFwd4RefIdeal.main_v77) = v0 c
          ∧ r.2.mem ((c.tc : Thread Cert.BandFwd4RefIdeal.nD Cert.BandFwd4RefIdeal.τ).loc Cert.BandFwd4RefIdeal.main_v79) = v1 c
          ∧ r.2.mem ((c.tc : Thread Cert.BandFwd4RefIdeal.nD Cert.BandFwd4RefIdeal.τ).loc Cert.BandFwd4RefIdeal.main_arg0) = m' ((c.tc : Thread Cert.BandFwd4RefIdeal.nD Cert.BandFwd4RefIdeal.τ).loc Cert.BandFwd4RefIdeal.main_arg0)
          ∧ r.2.mem ((c.tc : Thread Cert.BandFwd4RefIdeal.nD Cert.BandFwd4RefIdeal.τ).loc Cert.BandFwd4RefIdeal.main_arg1) = m' ((c.tc : Thread Cert.BandFwd4RefIdeal.nD Cert.BandFwd4RefIdeal.τ).loc Cert.BandFwd4RefIdeal.main_arg1)
          ∧ r.2.mem ((c.tc : Thread Cert.BandFwd4RefIdeal.nD Cert.BandFwd4RefIdeal.τ).loc Cert.BandFwd4RefIdeal.main_arg2) = m' ((c.tc : Thread Cert.BandFwd4RefIdeal.nD Cert.BandFwd4RefIdeal.τ).loc Cert.BandFwd4RefIdeal.main_arg2))

def Claim : Prop :=
  ∃ (hNormBwd : Cert.NormBwd.Facts) (hNormBwdIdeal : Cert.NormBwdIdeal.Facts) (hNormBwdRefIdeal : Cert.NormBwdRefIdeal.Facts) (hDense : Cert.Dense.Facts) (hDenseIdeal : Cert.DenseIdeal.Facts) (hDenseRefIdeal : Cert.DenseRefIdeal.Facts) (hLossHead : Cert.LossHead.Facts) (hLossHeadIdeal : Cert.LossHeadIdeal.Facts) (hLossHeadRefIdeal : Cert.LossHeadRefIdeal.Facts) (hMlp : Cert.Mlp.Facts) (hMlpIdeal : Cert.MlpIdeal.Facts) (hMlpRefIdeal : Cert.MlpRefIdeal.Facts) (hBand : Cert.Band.Facts) (hBandIdeal : Cert.BandIdeal.Facts) (hBandRefIdeal : Cert.BandRefIdeal.Facts) (hBand4 : Cert.Band4.Facts) (hBand4Ideal : Cert.Band4Ideal.Facts) (hBand4RefIdeal : Cert.Band4RefIdeal.Facts) (hNatten : Cert.Natten.Facts) (hNattenIdeal : Cert.NattenIdeal.Facts) (hNormFwd : Cert.NormFwd.Facts) (hNormFwdIdeal : Cert.NormFwdIdeal.Facts) (hNormFwdRefIdeal : Cert.NormFwdRefIdeal.Facts) (hAdam : Cert.Adam.Facts) (hAdamIdeal : Cert.AdamIdeal.Facts) (hAdamRefIdeal : Cert.AdamRefIdeal.Facts) (hProduct : Cert.Product.Facts) (hProductIdeal : Cert.ProductIdeal.Facts) (hProductRefIdeal : Cert.ProductRefIdeal.Facts) (hBandFwd4 : Cert.BandFwd4.Facts) (hBandFwd4Ideal : Cert.BandFwd4Ideal.Facts) (hBandFwd4RefIdeal : Cert.BandFwd4RefIdeal.Facts) (hPre_norm_fin : Cert.Pre_norm_fin.Facts) (hPre_dense_fin : Cert.Pre_dense_fin.Facts) (hPre_loss_fin : Cert.Pre_loss_fin.Facts) (hPre_band_fin : Cert.Pre_band_fin.Facts),
    quiescent_NormBwd (hNormBwd := hNormBwd)
    ∧ quiescent_NormBwdIdeal (hNormBwdIdeal := hNormBwdIdeal)
    ∧ quiescent_NormBwdIdeal_pre_norm_fin (hNormBwdIdeal := hNormBwdIdeal) (hPre_norm_fin := hPre_norm_fin)
    ∧ quiescent_NormBwdRefIdeal (hNormBwdRefIdeal := hNormBwdRefIdeal)
    ∧ quiescent_NormBwdRefIdeal_pre_norm_fin (hNormBwdRefIdeal := hNormBwdRefIdeal) (hPre_norm_fin := hPre_norm_fin)
    ∧ quiescent_Dense (hDense := hDense)
    ∧ quiescent_DenseIdeal (hDenseIdeal := hDenseIdeal)
    ∧ quiescent_DenseIdeal_pre_dense_fin (hDenseIdeal := hDenseIdeal) (hPre_dense_fin := hPre_dense_fin)
    ∧ quiescent_DenseRefIdeal (hDenseRefIdeal := hDenseRefIdeal)
    ∧ quiescent_DenseRefIdeal_pre_dense_fin (hDenseRefIdeal := hDenseRefIdeal) (hPre_dense_fin := hPre_dense_fin)
    ∧ quiescent_LossHead (hLossHead := hLossHead)
    ∧ quiescent_LossHeadIdeal (hLossHeadIdeal := hLossHeadIdeal)
    ∧ quiescent_LossHeadIdeal_pre_loss_fin (hLossHeadIdeal := hLossHeadIdeal) (hPre_loss_fin := hPre_loss_fin)
    ∧ quiescent_LossHeadRefIdeal (hLossHeadRefIdeal := hLossHeadRefIdeal)
    ∧ quiescent_LossHeadRefIdeal_pre_loss_fin (hLossHeadRefIdeal := hLossHeadRefIdeal) (hPre_loss_fin := hPre_loss_fin)
    ∧ quiescent_Mlp (hMlp := hMlp)
    ∧ quiescent_MlpIdeal (hMlpIdeal := hMlpIdeal)
    ∧ quiescent_MlpRefIdeal (hMlpRefIdeal := hMlpRefIdeal)
    ∧ quiescent_Band (hBand := hBand)
    ∧ quiescent_BandIdeal (hBandIdeal := hBandIdeal)
    ∧ quiescent_BandIdeal_pre_band_fin (hBandIdeal := hBandIdeal) (hPre_band_fin := hPre_band_fin)
    ∧ quiescent_BandRefIdeal (hBandRefIdeal := hBandRefIdeal)
    ∧ quiescent_BandRefIdeal_pre_band_fin (hBandRefIdeal := hBandRefIdeal) (hPre_band_fin := hPre_band_fin)
    ∧ quiescent_Band4 (hBand4 := hBand4)
    ∧ quiescent_Band4Ideal (hBand4Ideal := hBand4Ideal)
    ∧ quiescent_Band4RefIdeal (hBand4RefIdeal := hBand4RefIdeal)
    ∧ quiescent_Natten (hNatten := hNatten)
    ∧ quiescent_NattenIdeal (hNattenIdeal := hNattenIdeal)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_Adam (hAdam := hAdam)
    ∧ quiescent_AdamIdeal (hAdamIdeal := hAdamIdeal)
    ∧ quiescent_AdamRefIdeal (hAdamRefIdeal := hAdamRefIdeal)
    ∧ quiescent_Product (hProduct := hProduct)
    ∧ quiescent_ProductIdeal (hProductIdeal := hProductIdeal)
    ∧ quiescent_ProductRefIdeal (hProductRefIdeal := hProductRefIdeal)
    ∧ quiescent_BandFwd4 (hBandFwd4 := hBandFwd4)
    ∧ quiescent_BandFwd4Ideal (hBandFwd4Ideal := hBandFwd4Ideal)
    ∧ quiescent_BandFwd4RefIdeal (hBandFwd4RefIdeal := hBandFwd4RefIdeal)
    ∧ preserves_NormBwd_NormBwdIdeal
    ∧ algebraic_NormBwdIdeal_NormBwdRefIdeal_pre_norm_fin (hNormBwdIdeal := hNormBwdIdeal) (hNormBwdRefIdeal := hNormBwdRefIdeal) (hPre_norm_fin := hPre_norm_fin)
    ∧ preserves_Dense_DenseIdeal
    ∧ algebraic_DenseIdeal_DenseRefIdeal_pre_dense_fin (hDenseIdeal := hDenseIdeal) (hDenseRefIdeal := hDenseRefIdeal) (hPre_dense_fin := hPre_dense_fin)
    ∧ preserves_LossHead_LossHeadIdeal
    ∧ algebraic_LossHeadIdeal_LossHeadRefIdeal_pre_loss_fin (hLossHeadIdeal := hLossHeadIdeal) (hLossHeadRefIdeal := hLossHeadRefIdeal) (hPre_loss_fin := hPre_loss_fin)
    ∧ preserves_Mlp_MlpIdeal
    ∧ algebraic_MlpIdeal_MlpRefIdeal (hMlpIdeal := hMlpIdeal) (hMlpRefIdeal := hMlpRefIdeal)
    ∧ preserves_Band_BandIdeal
    ∧ algebraic_BandIdeal_BandRefIdeal_pre_band_fin (hBandIdeal := hBandIdeal) (hBandRefIdeal := hBandRefIdeal) (hPre_band_fin := hPre_band_fin)
    ∧ preserves_Band4_Band4Ideal
    ∧ preserves_Natten_NattenIdeal
    ∧ preserves_NormFwd_NormFwdIdeal
    ∧ algebraic_NormFwdIdeal_NormFwdRefIdeal (hNormFwdIdeal := hNormFwdIdeal) (hNormFwdRefIdeal := hNormFwdRefIdeal)
    ∧ preserves_Adam_AdamIdeal
    ∧ algebraic_AdamIdeal_AdamRefIdeal (hAdamIdeal := hAdamIdeal) (hAdamRefIdeal := hAdamRefIdeal)
    ∧ preserves_Product_ProductIdeal
    ∧ algebraic_ProductIdeal_ProductRefIdeal (hProductIdeal := hProductIdeal) (hProductRefIdeal := hProductRefIdeal)
    ∧ preserves_BandFwd4_BandFwd4Ideal
    ∧ algebraic_BandFwd4Ideal_BandFwd4RefIdeal (hBandFwd4Ideal := hBandFwd4Ideal) (hBandFwd4RefIdeal := hBandFwd4RefIdeal)
-- ==== Pre_band_fin.lean ====
abbrev S8192x6x64 : Shape := ⟨3, ![8192, 6, 64]⟩
abbrev S8192x6 : Shape := ⟨2, ![8192, 6]⟩
abbrev S_ : Shape := ⟨0, ![]⟩

class Facts : Prop where
  bcast_S_S8192x6x64 : S_.BroadcastsInDim S8192x6x64 (![] : Fin 0 → Fin S8192x6x64.rank)
  reducesTo_S8192x6x64_S_d0_1_2 : S8192x6x64.ReducesTo [0, 1, 2] S_
  h_S_ : 0 < S_.numel
  bcast_S_S8192x6 : S_.BroadcastsInDim S8192x6 (![] : Fin 0 → Fin S8192x6.rank)
  reducesTo_S8192x6_S_d0_1 : S8192x6.ReducesTo [0, 1] S_

variable [Facts]

def fn_part1 {F : FTy → Type} [FloatOps F] (main_arg4 : FVec F S8192x6 .f32) (main_v3 : IVec S_ 1) (main_v7 : IVec S_ 1) (main_v11 : IVec S_ 1) (main_v15 : IVec S_ 1) : IVec S_ 1 × IVec S_ 1 × IVec S_ 1 × IVec S_ 1 × IVec S_ 1 :=
  let main_v16 : FVec F S8192x6 .f32 := Host.absf main_arg4
  let main_cst_6 : FVec F S_ .f32 := constant S_ .f32 0x7F800000#32
  let main_v17 : FVec F S8192x6 .f32 := broadcastInDim S8192x6 ![] bcast_S_S8192x6 main_cst_6
  let main_v18 : IVec S8192x6 1 := cmpf .olt main_v16 main_v17
  let main_c_7 : IVec S_ 1 := constantI S_ 1 1#1
  let main_v19 : IVec S_ 1 := (fun x v => Host.reduce IntOp.andi x v reducesTo_S8192x6_S_d0_1 h_S_) main_v18 main_c_7
  (main_v3, main_v7, main_v11, main_v15, main_v19)

def fn {F : FTy → Type} [FloatOps F] (main_arg0 : FVec F S8192x6x64 .f32) (main_arg1 : FVec F S8192x6x64 .f32) (main_arg2 : FVec F S8192x6x64 .f32) (main_arg3 : FVec F S8192x6x64 .f32) (main_arg4 : FVec F S8192x6 .f32) : IVec S_ 1 × IVec S_ 1 × IVec S_ 1 × IVec S_ 1 × IVec S_ 1 :=
  let main_v0 : FVec F S8192x6x64 .f32 := Host.absf main_arg0
  let main_cst : FVec F S_ .f32 := constant S_ .f32 0x7F800000#32
  let main_v1 : FVec F S8192x6x64 .f32 := broadcastInDim S8192x6x64 ![] bcast_S_S8192x6x64 main_cst
  let main_v2 : IVec S8192x6x64 1 := cmpf .olt main_v0 main_v1
  let main_c : IVec S_ 1 := constantI S_ 1 1#1
  let main_v3 : IVec S_ 1 := (fun x v => Host.reduce IntOp.andi x v reducesTo_S8192x6x64_S_d0_1_2 h_S_) main_v2 main_c
  let main_v4 : FVec F S8192x6x64 .f32 := Host.absf main_arg1
  let main_cst_0 : FVec F S_ .f32 := constant S_ .f32 0x7F800000#32
  let main_v5 : FVec F S8192x6x64 .f32 := broadcastInDim S8192x6x64 ![] bcast_S_S8192x6x64 main_cst_0
  let main_v6 : IVec S8192x6x64 1 := cmpf .olt main_v4 main_v5
  let main_c_1 : IVec S_ 1 := constantI S_ 1 1#1
  let main_v7 : IVec S_ 1 := (fun x v => Host.reduce IntOp.andi x v reducesTo_S8192x6x64_S_d0_1_2 h_S_) main_v6 main_c_1
  let main_v8 : FVec F S8192x6x64 .f32 := Host.absf main_arg2
  let main_cst_2 : FVec F S_ .f32 := constant S_ .f32 0x7F800000#32
  let main_v9 : FVec F S8192x6x64 .f32 := broadcastInDim S8192x6x64 ![] bcast_S_S8192x6x64 main_cst_2
  let main_v10 : IVec S8192x6x64 1 := cmpf .olt main_v8 main_v9
  let main_c_3 : IVec S_ 1 := constantI S_ 1 1#1
  let main_v11 : IVec S_ 1 := (fun x v => Host.reduce IntOp.andi x v reducesTo_S8192x6x64_S_d0_1_2 h_S_) main_v10 main_c_3
  let main_v12 : FVec F S8192x6x64 .f32 := Host.absf main_arg3
  let main_cst_4 : FVec F S_ .f32 := constant S_ .f32 0x7F800000#32
  let main_v13 : FVec F S8192x6x64 .f32 := broadcastInDim S8192x6x64 ![] bcast_S_S8192x6x64 main_cst_4
  let main_v14 : IVec S8192x6x64 1 := cmpf .olt main_v12 main_v13
  let main_c_5 : IVec S_ 1 := constantI S_ 1 1#1
  let main_v15 : IVec S_ 1 := (fun x v => Host.reduce IntOp.andi x v reducesTo_S8192x6x64_S_d0_1_2 h_S_) main_v14 main_c_5
  fn_part1 (F := F) main_arg4 main_v3 main_v7 main_v11 main_v15
-- ==== Pre_dense_fin.lean ====
abbrev S8192x6x96 : Shape := ⟨3, ![8192, 6, 96]⟩
abbrev S8192x6x64 : Shape := ⟨3, ![8192, 6, 64]⟩
abbrev S_ : Shape := ⟨0, ![]⟩

class Facts : Prop where
  bcast_S_S8192x6x96 : S_.BroadcastsInDim S8192x6x96 (![] : Fin 0 → Fin S8192x6x96.rank)
  reducesTo_S8192x6x96_S_d0_1_2 : S8192x6x96.ReducesTo [0, 1, 2] S_
  h_S_ : 0 < S_.numel
  bcast_S_S8192x6x64 : S_.BroadcastsInDim S8192x6x64 (![] : Fin 0 → Fin S8192x6x64.rank)
  reducesTo_S8192x6x64_S_d0_1_2 : S8192x6x64.ReducesTo [0, 1, 2] S_

variable [Facts]

def fn {F : FTy → Type} [FloatOps F] (main_arg0 : FVec F S8192x6x96 .f32) (main_arg1 : FVec F S8192x6x96 .f32) (main_arg2 : FVec F S8192x6x64 .f32) (main_arg3 : FVec F S8192x6x64 .f32) : IVec S_ 1 × IVec S_ 1 × IVec S_ 1 × IVec S_ 1 :=
  let main_v0 : FVec F S8192x6x96 .f32 := Host.absf main_arg0
  let main_cst : FVec F S_ .f32 := constant S_ .f32 0x7F800000#32
  let main_v1 : FVec F S8192x6x96 .f32 := broadcastInDim S8192x6x96 ![] bcast_S_S8192x6x96 main_cst
  let main_v2 : IVec S8192x6x96 1 := cmpf .olt main_v0 main_v1
  let main_c : IVec S_ 1 := constantI S_ 1 1#1
  let main_v3 : IVec S_ 1 := (fun x v => Host.reduce IntOp.andi x v reducesTo_S8192x6x96_S_d0_1_2 h_S_) main_v2 main_c
  let main_v4 : FVec F S8192x6x96 .f32 := Host.absf main_arg1
  let main_cst_0 : FVec F S_ .f32 := constant S_ .f32 0x7F800000#32
  let main_v5 : FVec F S8192x6x96 .f32 := broadcastInDim S8192x6x96 ![] bcast_S_S8192x6x96 main_cst_0
  let main_v6 : IVec S8192x6x96 1 := cmpf .olt main_v4 main_v5
  let main_c_1 : IVec S_ 1 := constantI S_ 1 1#1
  let main_v7 : IVec S_ 1 := (fun x v => Host.reduce IntOp.andi x v reducesTo_S8192x6x96_S_d0_1_2 h_S_) main_v6 main_c_1
  let main_v8 : FVec F S8192x6x64 .f32 := Host.absf main_arg2
  let main_cst_2 : FVec F S_ .f32 := constant S_ .f32 0x7F800000#32
  let main_v9 : FVec F S8192x6x64 .f32 := broadcastInDim S8192x6x64 ![] bcast_S_S8192x6x64 main_cst_2
  let main_v10 : IVec S8192x6x64 1 := cmpf .olt main_v8 main_v9
  let main_c_3 : IVec S_ 1 := constantI S_ 1 1#1
  let main_v11 : IVec S_ 1 := (fun x v => Host.reduce IntOp.andi x v reducesTo_S8192x6x64_S_d0_1_2 h_S_) main_v10 main_c_3
  let main_v12 : FVec F S8192x6x64 .f32 := Host.absf main_arg3
  let main_cst_4 : FVec F S_ .f32 := constant S_ .f32 0x7F800000#32
  let main_v13 : FVec F S8192x6x64 .f32 := broadcastInDim S8192x6x64 ![] bcast_S_S8192x6x64 main_cst_4
  let main_v14 : IVec S8192x6x64 1 := cmpf .olt main_v12 main_v13
  let main_c_5 : IVec S_ 1 := constantI S_ 1 1#1
  let main_v15 : IVec S_ 1 := (fun x v => Host.reduce IntOp.andi x v reducesTo_S8192x6x64_S_d0_1_2 h_S_) main_v14 main_c_5
  (main_v3, main_v7, main_v11, main_v15)
-- ==== Pre_loss_fin.lean ====
abbrev S8192x1024 : Shape := ⟨2, ![8192, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S8192x1024 .f32) (main_arg1 : FVec F S1024 .f32) (main_arg2 : FVec F S8192x1024 .f32) : IVec S_ 1 × IVec S_ 1 × IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S8192x1024 .f32 := Host.absf main_arg2
  let main_cst_2 : FVec F S_ .f32 := constant S_ .f32 0x7F800000#32
  let main_v9 : FVec F S8192x1024 .f32 := broadcastInDim S8192x1024 ![] bcast_S_S8192x1024 main_cst_2
  let main_v10 : IVec S8192x1024 1 := cmpf .olt main_v8 main_v9
  let main_c_3 : IVec S_ 1 := constantI S_ 1 1#1
  let main_v11 : IVec S_ 1 := (fun x v => Host.reduce IntOp.andi x v reducesTo_S8192x1024_S_d0_1 h_S_) main_v10 main_c_3
  (main_v3, main_v7, main_v11)
-- ==== Pre_norm_fin.lean ====
abbrev S8192x1024 : Shape := ⟨2, ![8192, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S8192x1024 .f32) (main_arg1 : FVec F S1024 .f32) (main_arg2 : FVec F S8192x1024 .f32) : IVec S_ 1 × IVec S_ 1 × IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S8192x1024 .f32 := Host.absf main_arg2
  let main_cst_2 : FVec F S_ .f32 := constant S_ .f32 0x7F800000#32
  let main_v9 : FVec F S8192x1024 .f32 := broadcastInDim S8192x1024 ![] bcast_S_S8192x1024 main_cst_2
  let main_v10 : IVec S8192x1024 1 := cmpf .olt main_v8 main_v9
  let main_c_3 : IVec S_ 1 := constantI S_ 1 1#1
  let main_v11 : IVec S_ 1 := (fun x v => Host.reduce IntOp.andi x v reducesTo_S8192x1024_S_d0_1 h_S_) main_v10 main_c_3
  (main_v3, main_v7, main_v11)
-- ==== NormBwd.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== NormBwdRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 49
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S8192x1024, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S8192, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Dense.lean ====
abbrev S8192x6x96 : Shape := ⟨3, ![8192, 6, 96]⟩
abbrev S8192x6x64 : Shape := ⟨3, ![8192, 6, 64]⟩
abbrev S6x8192x96 : Shape := ⟨3, ![6, 8192, 96]⟩
abbrev S6x8192x64 : Shape := ⟨3, ![6, 8192, 64]⟩
abbrev S_ : Shape := ⟨0, ![]⟩
abbrev S6x8192x1 : Shape := ⟨3, ![6, 8192, 1]⟩
abbrev S6x8192x63 : Shape := ⟨3, ![6, 8192, 63]⟩
abbrev S6x8192x128 : Shape := ⟨3, ![6, 8192, 128]⟩
abbrev S1x512x96 : Shape := ⟨3, ![1, 512, 96]⟩
abbrev S1x8192x96 : Shape := ⟨3, ![1, 8192, 96]⟩
abbrev S1x8192x128 : Shape := ⟨3, ![1, 8192, 128]⟩
abbrev S1x512x64 : Shape := ⟨3, ![1, 512, 64]⟩
abbrev S1x512x1 : Shape := ⟨3, ![1, 512, 1]⟩
abbrev S512x96 : Shape := ⟨2, ![512, 96]⟩
abbrev S512x1 : Shape := ⟨2, ![512, 1]⟩
abbrev S512x128 : Shape := ⟨2, ![512, 128]⟩
abbrev S1x2048x96 : Shape := ⟨3, ![1, 2048, 96]⟩
abbrev S2048x96 : Shape := ⟨2, ![2048, 96]⟩
abbrev S512x2048 : Shape := ⟨2, ![512, 2048]⟩
abbrev S512 : Shape := ⟨1, ![512]⟩
abbrev S1x2048x128 : Shape := ⟨3, ![1, 2048, 128]⟩
abbrev S2048x128 : Shape := ⟨2, ![2048, 128]⟩
abbrev S512x64 : Shape := ⟨2, ![512, 64]⟩
abbrev S6x96x8192 : Shape := ⟨3, ![6, 96, 8192]⟩
abbrev S6x64x8192 : Shape := ⟨3, ![6, 64, 8192]⟩
abbrev S6x1x8192 : Shape := ⟨3, ![6, 1, 8192]⟩
abbrev S1x96x256 : Shape := ⟨3, ![1, 96, 256]⟩
abbrev S1x96x8192 : Shape := ⟨3, ![1, 96, 8192]⟩
abbrev S1x8192x64 : Shape := ⟨3, ![1, 8192, 64]⟩
abbrev S1x64x256 : Shape := ⟨3, ![1, 64, 256]⟩
abbrev S1x1x256 : Shape := ⟨3, ![1, 1, 256]⟩
abbrev S96x256 : Shape := ⟨2, ![96, 256]⟩
abbrev S64x256 : Shape := ⟨2, ![64, 256]⟩
abbrev S256 : Shape := ⟨1, ![256]⟩
abbrev S1x256 : Shape := ⟨2, ![1, 256]⟩
abbrev S2048x256 : Shape := ⟨2, ![2048, 256]⟩
abbrev S1x2048x64 : Shape := ⟨3, ![1, 2048, 64]⟩
abbrev S2048x64 : Shape := ⟨2, ![2048, 64]⟩
abbrev S1x96x2048 : Shape := ⟨3, ![1, 96, 2048]⟩
abbrev S96x2048 : Shape := ⟨2, ![96, 2048]⟩

abbrev nBuf : Space → Nat
  | .hbm => 29
  | .vmem => 30
  | .smem => 0
  | _ => 0

abbrev bufTy : (tb : Table) → Fin (tcTables nBuf tb) → BufTy
  | .hbm, ⟨0, _⟩ => ⟨S8192x6x96, .f32⟩
  | .hbm, ⟨1, _⟩ => ⟨S8192x6x96, .f32⟩
  | .hbm, ⟨2, _⟩ => ⟨S8192x6x64, .f32⟩
  | .hbm, ⟨3, _⟩ => ⟨S8192x6x64, .f32⟩
  | .hbm, ⟨4, _⟩ => ⟨S8192x6x96, .bf16⟩
  | .hbm, ⟨5, _⟩ => ⟨S6x8192x96, .bf16⟩
  | .hbm, ⟨6, _⟩ => ⟨S8192x6x96, .bf16⟩
  | .hbm, ⟨7, _⟩ => ⟨S6x8192x96, .bf16⟩
  | .hbm, ⟨8, _⟩ => ⟨S8192x6x64, .bf16⟩
  | .hbm, ⟨9, _⟩ => ⟨S6x8192x64, .bf16⟩
  | .hbm, ⟨10, _⟩ => ⟨S_, .bf16⟩
  | .hbm, ⟨11, _⟩ => ⟨S6x8192x1, .bf16⟩
  | .hbm, ⟨12, _⟩ => ⟨S_, .bf16⟩
  | .hbm, ⟨13, _⟩ => ⟨S6x8192x63, .bf16⟩
  | .hbm, ⟨14, _⟩ => ⟨S6x8192x128, .bf16⟩
  | .hbm, ⟨15, _⟩ => ⟨S6x8192x64, .f32⟩
  | .hbm, ⟨16, _⟩ => ⟨S6x8192x1, .f32⟩
  | .hbm, ⟨17, _⟩ => ⟨S8192x6x64, .f32⟩
  | .hbm, ⟨18, _⟩ => ⟨S6x96x8192, .bf16⟩
  | .hbm, ⟨19, _⟩ => ⟨S6x96x8192, .bf16⟩
  | .hbm, ⟨20, _⟩ => ⟨S6x64x8192, .f32⟩
  | .hbm, ⟨21, _⟩ => ⟨S6x1x8192, .f32⟩
  | .hbm, ⟨22, _⟩ => ⟨S6x64x8192, .f32⟩
  | .hbm, ⟨23, _⟩ => ⟨S6x96x8192, .f32⟩
  | .hbm, ⟨24, _⟩ => ⟨S6x8192x96, .f32⟩
  | .hbm, ⟨25, _⟩ => ⟨S6x8192x64, .f32⟩
  | .hbm, ⟨26, _⟩ => ⟨S8192x6x96, .f32⟩
  | .hbm, ⟨27, _⟩ => ⟨S8192x6x96, .f32⟩
  | .hbm, ⟨28, _⟩ => ⟨S8192x6x64, .f32⟩
  | .local _ .vmem, ⟨0, _⟩ => ⟨S1x512x96, .bf16⟩
  | .local _ .vmem, ⟨1, _⟩ => ⟨S1x512x96, .bf16⟩
  | .local _ .vmem, ⟨2, _⟩ => ⟨S1x8192x96, .bf16⟩
  | .local _ .vmem, ⟨3, _⟩ => ⟨S1x8192x96, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x512x64, .f32⟩
  | .local _ .vmem, ⟨7, _⟩ => ⟨S1x512x64, .f32⟩
  | .local _ .vmem, ⟨8, _⟩ => ⟨S1x512x1, .f32⟩
  | .local _ .vmem, ⟨9, _⟩ => ⟨S1x512x1, .f32⟩
  | .local _ .vmem, ⟨10, _⟩ => ⟨S1x96x256, .bf16⟩
  | .local _ .vmem, ⟨11, _⟩ => ⟨S1x96x256, .bf16⟩
  | .local _ .vmem, ⟨12, _⟩ => ⟨S1x8192x96, .bf16⟩
  | .local _ .vmem, ⟨13, _⟩ => ⟨S1x8192x96, .bf16⟩
  | .local _ .vmem, ⟨14, _⟩ => ⟨S1x96x8192, .bf16⟩
  | .local _ .vmem, ⟨15, _⟩ => ⟨S1x96x8192, .bf16⟩
  | .local _ .vmem, ⟨16, _⟩ => ⟨S1x8192x64, .bf16⟩
  | .local _ .vmem, ⟨17, _⟩ => ⟨S1x8192x64, .bf16⟩
  | .local _ .vmem, ⟨18, _⟩ => ⟨S1x64x256, .f32⟩
  | .local _ .vmem, ⟨19, _⟩ => ⟨S1x64x256, .f32⟩
  | .local _ .vmem, ⟨20, _⟩ => ⟨S1x1x256, .f32⟩
  | .local _ .vmem, ⟨21, _⟩ => ⟨S1x1x256, .f32⟩
  | .local _ .vmem, ⟨22, _⟩ => ⟨S1x64x256, .f32⟩
  | .local _ .vmem, ⟨23, _⟩ => ⟨S1x64x256, .f32⟩
  | .local _ .vmem, ⟨24, _⟩ => ⟨S1x96x256, .f32⟩
  | .local _ .vmem, ⟨25, _⟩ => ⟨S1x96x256, .f32⟩
  | .local _ .vmem, ⟨26, _⟩ => ⟨S1x8192x96, .f32⟩
  | .local _ .vmem, ⟨27, _⟩ => ⟨S1x8192x96, .f32⟩
  | .local _ .vmem, ⟨28, _⟩ => ⟨S1x8192x64, .f32⟩
  | .local _ .vmem, ⟨29, _⟩ => ⟨S1x8192x64, .f32⟩
  | _, _ => ⟨S8192x6x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16_0 : Ref sig .tc := ⟨.hbm, 23, rfl⟩
abbrev main_v16_1 : Ref sig .tc := ⟨.hbm, 24, rfl⟩
abbrev main_v16_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc1_stg9_0 : Ref sig .tc := ⟨.vmem, 28, rfl⟩
abbrev cc1_stg9_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27
abbrev cc1_sem9_0 : DmaSem sig := 28
abbrev cc1_sem9_1 : DmaSem sig := 29

abbrev nD : Nat := 1
abbrev τ : Topo := Topo.v7x

variable {F : FTy → Type} [FloatOps F]

abbrev grid0 : Pipeline.Grid := ⟨2, ![6, 16], ![false, false]⟩

@[reducible] def k0_t1_loop : Scf.Loop 32 :=
  let c0_i32 : BitVec 32 := 0#32
  let c4_i32 : BitVec 32 := 4#32
  let v4 : BitVec 32 := Scalar.addi c0_i32 c4_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c2048_i32 : BitVec 32 := 2048#32
  let v20 : BitVec 32 := Scalar.muli arg7 c2048_i32
  v20
def k0_off1 (k0_t1 : Fin k0_t1_loop.trips) : Fin 3 → Nat :=
  let c0_11 : Index := 0#32
  let c0_i32 : BitVec 32 := 0#32
  let c1_i32 : BitVec 32 := 1#32
  let arg7 : BitVec 32 := Scf.iv c0_i32 c1_i32 k0_t1
  let c2048_i32 : BitVec 32 := 2048#32
  let v20 : BitVec 32 := Scalar.muli arg7 c2048_i32
  let v21 : BitVec 32 := v20
  let v22 : Index := Scalar.indexCast v21
  let c0_12 : Index := 0#32
  ![0, v22.toNat, 0]
def k0_off2 (k0_t1 : Fin k0_t1_loop.trips) : Fin 3 → Nat :=
  let c0_17 : Index := 0#32
  let c0_i32 : BitVec 32 := 0#32
  let c1_i32 : BitVec 32 := 1#32
  let arg7 : BitVec 32 := Scf.iv c0_i32 c1_i32 k0_t1
  let c2048_i32 : BitVec 32 := 2048#32
  let v20 : BitVec 32 := Scalar.muli arg7 c2048_i32
  let v21 : BitVec 32 := v20
  let v41 : Index := Scalar.indexCast v21
  let c0_18 : Index := 0#32
  ![0, v41.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x96 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x96 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![6, 32], ![false, false]⟩

@[reducible] def k1_t1_loop : Scf.Loop 32 :=
  let c0_i32_13 : BitVec 32 := 0#32
  let c4_i32 : BitVec 32 := 4#32
  let v16 : BitVec 32 := Scalar.addi c0_i32_13 c4_i32
  let c1_i32 : BitVec 32 := 1#32
  ⟨c0_i32_13, v16, c1_i32⟩
def k1_mult1 (k1_t1 : Fin k1_t1_loop.trips) : BitVec 32 :=
  let c0_i32_13 : BitVec 32 := 0#32
  let c1_i32 : BitVec 32 := 1#32
  let arg12 : BitVec 32 := Scf.iv c0_i32_13 c1_i32 k1_t1
  let c2048_i32 : BitVec 32 := 2048#32
  let v21 : BitVec 32 := Scalar.muli arg12 c2048_i32
  v21
def k1_off1 (k1_t1 : Fin k1_t1_loop.trips) : Fin 3 → Nat :=
  let c0_18 : Index := 0#32
  let c0_i32_13 : BitVec 32 := 0#32
  let c1_i32 : BitVec 32 := 1#32
  let arg12 : BitVec 32 := Scf.iv c0_i32_13 c1_i32 k1_t1
  let c2048_i32 : BitVec 32 := 2048#32
  let v21 : BitVec 32 := Scalar.muli arg12 c2048_i32
  let v22 : BitVec 32 := v21
  let v23 : Index := Scalar.indexCast v22
  let c0_19 : Index := 0#32
  ![0, v23.toNat, 0]
def k1_off2 (k1_t1 : Fin k1_t1_loop.trips) : Fin 3 → Nat :=
  let c0_22 : Index := 0#32
  let c0_i32_13 : BitVec 32 := 0#32
  let c1_i32 : BitVec 32 := 1#32
  let arg12 : BitVec 32 := Scf.iv c0_i32_13 c1_i32 k1_t1
  let c2048_i32 : BitVec 32 := 2048#32
  let v21 : BitVec 32 := Scalar.muli arg12 c2048_i32
  let v22 : BitVec 32 := v21
  let v32 : Index := Scalar.indexCast v22
  let c0_23 : Index := 0#32
  ![0, v32.toNat, 0]
def k1_off3 (k1_t1 : Fin k1_t1_loop.trips) : Fin 3 → Nat :=
  let c0_36 : Index := 0#32
  let c0_37 : Index := 0#32
  let c0_i32_13 : BitVec 32 := 0#32
  let c1_i32 : BitVec 32 := 1#32
  let arg12 : BitVec 32 := Scf.iv c0_i32_13 c1_i32 k1_t1
  let c2048_i32 : BitVec 32 := 2048#32
  let v21 : BitVec 32 := Scalar.muli arg12 c2048_i32
  let v22 : BitVec 32 := v21
  let v61 : Index := Scalar.indexCast v22
  ![0, 0, v61.toNat]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x96x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x8192x96 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x96x8192 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x8192x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x64x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x64x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x96x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x8192x96 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S1x8192x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]
-- ==== DenseIdeal.lean ====
variable {F : FTy → Type} [FloatOps F] [Named F]
def κ : String → Option EReal := fun
  | "to_log2" => some (((3424635 / 33554432) * (Real.log 2)⁻¹ : ℝ) : EReal)
  | _ => none
-- ==== DenseRefIdeal.lean ====
abbrev S8192x6x96 : Shape := ⟨3, ![8192, 6, 96]⟩
abbrev S8192x6x64 : Shape := ⟨3, ![8192, 6, 64]⟩
abbrev S6x8192x8192 : Shape := ⟨3, ![6, 8192, 8192]⟩
abbrev S_ : Shape := ⟨0, ![]⟩
abbrev S6x8192 : Shape := ⟨2, ![6, 8192]⟩
abbrev S6x8192x1 : Shape := ⟨3, ![6, 8192, 1]⟩
abbrev S6x64x8192 : Shape := ⟨3, ![6, 64, 8192]⟩
abbrev S6x8192x96 : Shape := ⟨3, ![6, 8192, 96]⟩

abbrev nBuf : Space → Nat
  | .hbm => 73
  | .vmem => 0
  | .smem => 0
  | _ => 0

abbrev bufTy : (tb : Table) → Fin (tcTables nBuf tb) → BufTy
  | .hbm, ⟨0, _⟩ => ⟨S8192x6x96, .f32⟩
  | .hbm, ⟨1, _⟩ => ⟨S8192x6x96, .f32⟩
  | .hbm, ⟨2, _⟩ => ⟨S8192x6x64, .f32⟩
  | .hbm, ⟨3, _⟩ => ⟨S8192x6x64, .f32⟩
  | .hbm, ⟨4, _⟩ => ⟨S6x8192x8192, .f32⟩
  | .hbm, ⟨5, _⟩ => ⟨S_, .f32⟩
  | .hbm, ⟨6, _⟩ => ⟨S6x8192x8192, .f32⟩
  | .hbm, ⟨7, _⟩ => ⟨S6x8192x8192, .f32⟩
  | .hbm, ⟨8, _⟩ => ⟨S_, .f32⟩
  | .hbm, ⟨9, _⟩ => ⟨S6x8192, .f32⟩
  | .hbm, ⟨10, _⟩ => ⟨S6x8192x1, .f32⟩
  | .hbm, ⟨11, _⟩ => ⟨S6x8192x8192, .f32⟩
  | .hbm, ⟨12, _⟩ => ⟨S6x8192x8192, .i1⟩
  | .hbm, ⟨13, _⟩ => ⟨S6x8192x8192, .f32⟩
  | .hbm, ⟨14, _⟩ => ⟨S_, .f32⟩
  | .hbm, ⟨15, _⟩ => ⟨S6x8192, .f32⟩
  | .hbm, ⟨16, _⟩ => ⟨S_, .f32⟩
  | .hbm, ⟨17, _⟩ => ⟨S6x8192, .f32⟩
  | .hbm, ⟨18, _⟩ => ⟨S6x8192, .f32⟩
  | .hbm, ⟨19, _⟩ => ⟨S_, .f32⟩
  | .hbm, ⟨20, _⟩ => ⟨S6x8192, .f32⟩
  | .hbm, ⟨21, _⟩ => ⟨S6x8192, .i1⟩
  | .hbm, ⟨22, _⟩ => ⟨S_, .f32⟩
  | .hbm, ⟨23, _⟩ => ⟨S6x8192, .f32⟩
  | .hbm, ⟨24, _⟩ => ⟨S6x8192, .i1⟩
  | .hbm, ⟨25, _⟩ => ⟨S_, .f32⟩
  | .hbm, ⟨26, _⟩ => ⟨S6x8192, .f32⟩
  | .hbm, ⟨27, _⟩ => ⟨S_, .f32⟩
  | .hbm, ⟨28, _⟩ => ⟨S6x8192, .f32⟩
  | .hbm, ⟨29, _⟩ => ⟨S_, .f32⟩
  | .hbm, ⟨30, _⟩ => ⟨S6x8192, .f32⟩
  | .hbm, ⟨31, _⟩ => ⟨S6x8192, .f32⟩
  | .hbm, ⟨32, _⟩ => ⟨S6x8192, .f32⟩
  | .hbm, ⟨33, _⟩ => ⟨S6x8192x1, .f32⟩
  | .hbm, ⟨34, _⟩ => ⟨S6x8192x8192, .f32⟩
  | .hbm, ⟨35, _⟩ => ⟨S6x8192x8192, .f32⟩
  | .hbm, ⟨36, _⟩ => ⟨S6x8192x8192, .f32⟩
  | .hbm, ⟨37, _⟩ => ⟨S_, .f32⟩
  | .hbm, ⟨38, _⟩ => ⟨S6x8192, .f32⟩
  | .hbm, ⟨39, _⟩ => ⟨S6x8192x1, .f32⟩
  | .hbm, ⟨40, _⟩ => ⟨S6x8192x8192, .f32⟩
  | .hbm, ⟨41, _⟩ => ⟨S6x8192x8192, .f32⟩
  | .hbm, ⟨42, _⟩ => ⟨S6x8192x1, .f32⟩
  | .hbm, ⟨43, _⟩ => ⟨S_, .f32⟩
  | .hbm, ⟨44, _⟩ => ⟨S6x8192x1, .f32⟩
  | .hbm, ⟨45, _⟩ => ⟨S6x8192x1, .f32⟩
  | .hbm, ⟨46, _⟩ => ⟨S6x64x8192, .f32⟩
  | .hbm, ⟨47, _⟩ => ⟨S8192x6x64, .f32⟩
  | .hbm, ⟨48, _⟩ => ⟨S6x64x8192, .f32⟩
  | .hbm, ⟨49, _⟩ => ⟨S6x8192x8192, .f32⟩
  | .hbm, ⟨50, _⟩ => ⟨S6x64x8192, .f32⟩
  | .hbm, ⟨51, _⟩ => ⟨S8192x6x64, .f32⟩
  | .hbm, ⟨52, _⟩ => ⟨S6x8192x8192, .f32⟩
  | .hbm, ⟨53, _⟩ => ⟨S6x8192x8192, .f32⟩
  | .hbm, ⟨54, _⟩ => ⟨S6x8192x8192, .f32⟩
  | .hbm, ⟨55, _⟩ => ⟨S_, .f32⟩
  | .hbm, ⟨56, _⟩ => ⟨S6x8192, .f32⟩
  | .hbm, ⟨57, _⟩ => ⟨S6x8192x1, .f32⟩
  | .hbm, ⟨58, _⟩ => ⟨S6x8192x1, .f32⟩
  | .hbm, ⟨59, _⟩ => ⟨S6x8192x8192, .f32⟩
  | .hbm, ⟨60, _⟩ => ⟨S6x8192x8192, .f32⟩
  | .hbm, ⟨61, _⟩ => ⟨S_, .f32⟩
  | .hbm, ⟨62, _⟩ => ⟨S6x8192, .f32⟩
  | .hbm, ⟨63, _⟩ => ⟨S6x8192x8192, .f32⟩
  | .hbm, ⟨64, _⟩ => ⟨S6x8192x8192, .f32⟩
  | .hbm, ⟨65, _⟩ => ⟨S6x8192x8192, .f32⟩
  | .hbm, ⟨66, _⟩ => ⟨S_, .f32⟩
  | .hbm, ⟨67, _⟩ => ⟨S6x8192x8192, .f32⟩
  | .hbm, ⟨68, _⟩ => ⟨S6x8192x8192, .f32⟩
  | .hbm, ⟨69, _⟩ => ⟨S6x8192x96, .f32⟩
  | .hbm, ⟨70, _⟩ => ⟨S8192x6x96, .f32⟩
  | .hbm, ⟨71, _⟩ => ⟨S6x8192x96, .f32⟩
  | .hbm, ⟨72, _⟩ => ⟨S8192x6x96, .f32⟩
  | _, _ => ⟨S8192x6x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_cst_6 : Ref sig .tc := ⟨.hbm, 27, rfl⟩
abbrev main_v16 : Ref sig .tc := ⟨.hbm, 28, rfl⟩
abbrev main_cst_7 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_9 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_10 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_11 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_12 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩

abbrev nD : Nat := 1
abbrev τ : Topo := Topo.v7x

variable {F : FTy → Type} [FloatOps F]
-- ==== LossHead.lean ====
abbrev S8192x1024 : Shape := ⟨2, ![8192, 1024]⟩
abbrev S1024 : Shape := ⟨1, ![1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩
abbrev S1x1 : Shape := ⟨2, ![1, 1]⟩
abbrev S_ : Shape := ⟨0, ![]⟩

abbrev nBuf : Space → Nat
  | .hbm => 10
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S1x1024, .f32⟩
  | .hbm, ⟨4, _⟩ => ⟨S1x128, .f32⟩
  | .hbm, ⟨5, _⟩ => ⟨S8192x1024, .f32⟩
  | .hbm, ⟨6, _⟩ => ⟨S1x1024, .f32⟩
  | .hbm, ⟨7, _⟩ => ⟨S1x1, .f32⟩
  | .hbm, ⟨8, _⟩ => ⟨S_, .f32⟩
  | .hbm, ⟨9, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x128, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossHeadRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 71
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩

abbrev nD : Nat := 1
abbrev τ : Topo := Topo.v7x

variable {F : FTy → Type} [FloatOps F]
-- ==== Mlp.lean ====
abbrev S8192x1024 : Shape := ⟨2, ![8192, 1024]⟩
abbrev S1024x4096 : Shape := ⟨2, ![1024, 4096]⟩
abbrev S4096x1024 : Shape := ⟨2, ![4096, 1024]⟩
abbrev S8192x4096 : Shape := ⟨2, ![8192, 4096]⟩
abbrev S1024x1024 : Shape := ⟨2, ![1024, 1024]⟩

abbrev nBuf : Space → Nat
  | .hbm => 10
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S4096x1024, .f32⟩
  | .hbm, ⟨3, _⟩ => ⟨S8192x1024, .f32⟩
  | .hbm, ⟨4, _⟩ => ⟨S8192x1024, .bf16⟩
  | .hbm, ⟨5, _⟩ => ⟨S1024x4096, .bf16⟩
  | .hbm, ⟨6, _⟩ => ⟨S8192x4096, .f32⟩
  | .hbm, ⟨7, _⟩ => ⟨S8192x4096, .bf16⟩
  | .hbm, ⟨8, _⟩ => ⟨S4096x1024, .bf16⟩
  | .hbm, ⟨9, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1024x1024, .f32⟩
  | .local _ .vmem, ⟨14, _⟩ => ⟨S1024x1024, .f32⟩
  | .local _ .vmem, ⟨15, _⟩ => ⟨S1024x1024, .bf16⟩
  | .local _ .vmem, ⟨16, _⟩ => ⟨S1024x1024, .bf16⟩
  | .local _ .vmem, ⟨17, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨3, ![8, 4, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![8, 4, 1], ![false, false, false]⟩

def k1_cond2 (i : grid1.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]
-- ==== MlpRefIdeal.lean ====
abbrev S8192x1024 : Shape := ⟨2, ![8192, 1024]⟩
abbrev S1024x4096 : Shape := ⟨2, ![1024, 4096]⟩
abbrev S4096x1024 : Shape := ⟨2, ![4096, 1024]⟩
abbrev S8192x4096 : Shape := ⟨2, ![8192, 4096]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S4096x1024, .f32⟩
  | .hbm, ⟨3, _⟩ => ⟨S8192x1024, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .i1⟩
  | .hbm, ⟨15, _⟩ => ⟨S_, .f32⟩
  | .hbm, ⟨16, _⟩ => ⟨S8192x4096, .f32⟩
  | .hbm, ⟨17, _⟩ => ⟨S8192x4096, .f32⟩
  | .hbm, ⟨18, _⟩ => ⟨S_, .f32⟩
  | .hbm, ⟨19, _⟩ => ⟨S8192x4096, .f32⟩
  | .hbm, ⟨20, _⟩ => ⟨S8192x4096, .f32⟩
  | .hbm, ⟨21, _⟩ => ⟨S8192x1024, .f32⟩
  | .hbm, ⟨22, _⟩ => ⟨S8192x4096, .f32⟩
  | .hbm, ⟨23, _⟩ => ⟨S8192x4096, .f32⟩
  | .hbm, ⟨24, _⟩ => ⟨S_, .f32⟩
  | .hbm, ⟨25, _⟩ => ⟨S8192x4096, .f32⟩
  | .hbm, ⟨26, _⟩ => ⟨S8192x4096, .f32⟩
  | .hbm, ⟨27, _⟩ => ⟨S8192x4096, .bf16⟩
  | .hbm, ⟨28, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_call1_cst : Ref sig .tc := ⟨.hbm, 9, rfl⟩
abbrev main_call1_v0 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩

abbrev nD : Nat := 1
abbrev τ : Topo := Topo.v7x

variable {F : FTy → Type} [FloatOps F]
-- ==== Band.lean ====
abbrev S8192x6x64 : Shape := ⟨3, ![8192, 6, 64]⟩
abbrev S8192x6 : Shape := ⟨2, ![8192, 6]⟩
abbrev S512x16x6x64 : Shape := ⟨4, ![512, 16, 6, 64]⟩
abbrev S16x6x512x64 : Shape := ⟨4, ![16, 6, 512, 64]⟩
abbrev S96x512x64 : Shape := ⟨3, ![96, 512, 64]⟩
abbrev S_ : Shape := ⟨0, ![]⟩
abbrev S96x640x64 : Shape := ⟨3, ![96, 640, 64]⟩
abbrev S96x512x1 : Shape := ⟨3, ![96, 512, 1]⟩
abbrev S1x512x64 : Shape := ⟨3, ![1, 512, 64]⟩
abbrev S1x640x64 : Shape := ⟨3, ![1, 640, 64]⟩
abbrev S1x512x1 : Shape := ⟨3, ![1, 512, 1]⟩
abbrev S1x384x64 : Shape := ⟨3, ![1, 384, 64]⟩
abbrev S384x64 : Shape := ⟨2, ![384, 64]⟩
abbrev S1x256x64 : Shape := ⟨3, ![1, 256, 64]⟩
abbrev S256x64 : Shape := ⟨2, ![256, 64]⟩
abbrev S256x384 : Shape := ⟨2, ![256, 384]⟩
abbrev S256x1 : Shape := ⟨2, ![256, 1]⟩
abbrev S1x384 : Shape := ⟨2, ![1, 384]⟩
abbrev S256 : Shape := ⟨1, ![256]⟩
abbrev S1x256x1 : Shape := ⟨3, ![1, 256, 1]⟩
abbrev S16x6x512x1 : Shape := ⟨4, ![16, 6, 512, 1]⟩
abbrev S512x16x6x1 : Shape := ⟨4, ![512, 16, 6, 1]⟩
abbrev S8192x6x1 : Shape := ⟨3, ![8192, 6, 1]⟩

abbrev nBuf : Space → Nat
  | .hbm => 53
  | .vmem => 30
  | .smem => 0
  | _ => 0

abbrev bufTy : (tb : Table) → Fin (tcTables nBuf tb) → BufTy
  | .hbm, ⟨0, _⟩ => ⟨S8192x6x64, .f32⟩
  | .hbm, ⟨1, _⟩ => ⟨S8192x6x64, .f32⟩
  | .hbm, ⟨2, _⟩ => ⟨S8192x6x64, .f32⟩
  | .hbm, ⟨3, _⟩ => ⟨S8192x6x64, .f32⟩
  | .hbm, ⟨4, _⟩ => ⟨S8192x6, .f32⟩
  | .hbm, ⟨5, _⟩ => ⟨S8192x6x64, .bf16⟩
  | .hbm, ⟨6, _⟩ => ⟨S512x16x6x64, .bf16⟩
  | .hbm, ⟨7, _⟩ => ⟨S16x6x512x64, .bf16⟩
  | .hbm, ⟨8, _⟩ => ⟨S96x512x64, .bf16⟩
  | .hbm, ⟨9, _⟩ => ⟨S8192x6x64, .bf16⟩
  | .hbm, ⟨10, _⟩ => ⟨S512x16x6x64, .bf16⟩
  | .hbm, ⟨11, _⟩ => ⟨S16x6x512x64, .bf16⟩
  | .hbm, ⟨12, _⟩ => ⟨S96x512x64, .bf16⟩
  | .hbm, ⟨13, _⟩ => ⟨S8192x6x64, .bf16⟩
  | .hbm, ⟨14, _⟩ => ⟨S512x16x6x64, .bf16⟩
  | .hbm, ⟨15, _⟩ => ⟨S16x6x512x64, .bf16⟩
  | .hbm, ⟨16, _⟩ => ⟨S96x512x64, .bf16⟩
  | .hbm, ⟨17, _⟩ => ⟨S_, .i32⟩
  | .hbm, ⟨18, _⟩ => ⟨S_, .bf16⟩
  | .hbm, ⟨19, _⟩ => ⟨S96x640x64, .bf16⟩
  | .hbm, ⟨20, _⟩ => ⟨S_, .i32⟩
  | .hbm, ⟨21, _⟩ => ⟨S_, .bf16⟩
  | .hbm, ⟨22, _⟩ => ⟨S96x640x64, .bf16⟩
  | .hbm, ⟨23, _⟩ => ⟨S96x512x64, .f32⟩
  | .hbm, ⟨24, _⟩ => ⟨S96x512x1, .f32⟩
  | .hbm, ⟨25, _⟩ => ⟨S16x6x512x64, .f32⟩
  | .hbm, ⟨26, _⟩ => ⟨S512x16x6x64, .f32⟩
  | .hbm, ⟨27, _⟩ => ⟨S8192x6x64, .f32⟩
  | .hbm, ⟨28, _⟩ => ⟨S16x6x512x1, .f32⟩
  | .hbm, ⟨29, _⟩ => ⟨S512x16x6x1, .f32⟩
  | .hbm, ⟨30, _⟩ => ⟨S8192x6x1, .f32⟩
  | .hbm, ⟨31, _⟩ => ⟨S8192x6, .f32⟩
  | .hbm, ⟨32, _⟩ => ⟨S512x16x6x64, .f32⟩
  | .hbm, ⟨33, _⟩ => ⟨S16x6x512x64, .f32⟩
  | .hbm, ⟨34, _⟩ => ⟨S96x512x64, .f32⟩
  | .hbm, ⟨35, _⟩ => ⟨S8192x6x1, .f32⟩
  | .hbm, ⟨36, _⟩ => ⟨S512x16x6x1, .f32⟩
  | .hbm, ⟨37, _⟩ => ⟨S16x6x512x1, .f32⟩
  | .hbm, ⟨38, _⟩ => ⟨S96x512x1, .f32⟩
  | .hbm, ⟨39, _⟩ => ⟨S96x512x64, .f32⟩
  | .hbm, ⟨40, _⟩ => ⟨S96x640x64, .f32⟩
  | .hbm, ⟨41, _⟩ => ⟨S96x640x64, .f32⟩
  | .hbm, ⟨42, _⟩ => ⟨S96x512x64, .f32⟩
  | .hbm, ⟨43, _⟩ => ⟨S96x512x64, .f32⟩
  | .hbm, ⟨44, _⟩ => ⟨S16x6x512x64, .f32⟩
  | .hbm, ⟨45, _⟩ => ⟨S512x16x6x64, .f32⟩
  | .hbm, ⟨46, _⟩ => ⟨S8192x6x64, .f32⟩
  | .hbm, ⟨47, _⟩ => ⟨S16x6x512x64, .f32⟩
  | .hbm, ⟨48, _⟩ => ⟨S512x16x6x64, .f32⟩
  | .hbm, ⟨49, _⟩ => ⟨S8192x6x64, .f32⟩
  | .hbm, ⟨50, _⟩ => ⟨S16x6x512x64, .f32⟩
  | .hbm, ⟨51, _⟩ => ⟨S512x16x6x64, .f32⟩
  | .hbm, ⟨52, _⟩ => ⟨S8192x6x64, .f32⟩
  | .local _ .vmem, ⟨0, _⟩ => ⟨S1x512x64, .bf16⟩
  | .local _ .vmem, ⟨1, _⟩ => ⟨S1x512x64, .bf16⟩
  | .local _ .vmem, ⟨2, _⟩ => ⟨S1x640x64, .bf16⟩
  | .local _ .vmem, ⟨3, _⟩ => ⟨S1x640x64, .bf16⟩
  | .local _ .vmem, ⟨4, _⟩ => ⟨S1x640x64, .bf16⟩
  | .local _ .vmem, ⟨5, _⟩ => ⟨S1x640x64, .bf16⟩
  | .local _ .vmem, ⟨6, _⟩ => ⟨S1x512x64, .f32⟩
  | .local _ .vmem, ⟨7, _⟩ => ⟨S1x512x64, .f32⟩
  | .local _ .vmem, ⟨8, _⟩ => ⟨S1x512x1, .f32⟩
  | .local _ .vmem, ⟨9, _⟩ => ⟨S1x512x1, .f32⟩
  | .local _ .vmem, ⟨10, _⟩ => ⟨S1x512x64, .bf16⟩
  | .local _ .vmem, ⟨11, _⟩ => ⟨S1x512x64, .bf16⟩
  | .local _ .vmem, ⟨12, _⟩ => ⟨S1x640x64, .bf16⟩
  | .local _ .vmem, ⟨13, _⟩ => ⟨S1x640x64, .bf16⟩
  | .local _ .vmem, ⟨14, _⟩ => ⟨S1x640x64, .bf16⟩
  | .local _ .vmem, ⟨15, _⟩ => ⟨S1x640x64, .bf16⟩
  | .local _ .vmem, ⟨16, _⟩ => ⟨S1x512x64, .f32⟩
  | .local _ .vmem, ⟨17, _⟩ => ⟨S1x512x64, .f32⟩
  | .local _ .vmem, ⟨18, _⟩ => ⟨S1x512x1, .f32⟩
  | .local _ .vmem, ⟨19, _⟩ => ⟨S1x512x1, .f32⟩
  | .local _ .vmem, ⟨20, _⟩ => ⟨S1x512x64, .f32⟩
  | .local _ .vmem, ⟨21, _⟩ => ⟨S1x512x64, .f32⟩
  | .local _ .vmem, ⟨22, _⟩ => ⟨S1x512x1, .f32⟩
  | .local _ .vmem, ⟨23, _⟩ => ⟨S1x512x1, .f32⟩
  | .local _ .vmem, ⟨24, _⟩ => ⟨S1x512x64, .f32⟩
  | .local _ .vmem, ⟨25, _⟩ => ⟨S1x512x64, .f32⟩
  | .local _ .vmem, ⟨26, _⟩ => ⟨S1x640x64, .f32⟩
  | .local _ .vmem, ⟨27, _⟩ => ⟨S1x640x64, .f32⟩
  | .local _ .vmem, ⟨28, _⟩ => ⟨S1x640x64, .f32⟩
  | .local _ .vmem, ⟨29, _⟩ => ⟨S1x640x64, .f32⟩
  | _, _ => ⟨S8192x6x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_call0_v0 : Ref sig .tc := ⟨.hbm, 18, rfl⟩
abbrev main_v12 : Ref sig .tc := ⟨.hbm, 19, rfl⟩
abbrev main_c_0 : Ref sig .tc := ⟨.hbm, 20, rfl⟩
abbrev main_call1_v0 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29_0 : Ref sig .tc := ⟨.hbm, 39, rfl⟩
abbrev main_v29_1 : Ref sig .tc := ⟨.hbm, 40, rfl⟩
abbrev main_v29_2 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc1_stg9_0 : Ref sig .tc := ⟨.vmem, 28, rfl⟩
abbrev cc1_stg9_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27
abbrev cc1_sem9_0 : DmaSem sig := 28
abbrev cc1_sem9_1 : DmaSem sig := 29

abbrev nD : Nat := 1
abbrev τ : Topo := Topo.v7x

variable {F : FTy → Type} [FloatOps F]

abbrev grid0 : Pipeline.Grid := ⟨2, ![96, 1], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  let c0_i32 : BitVec 32 := 0#32
  let v1 : BitVec 32 := Scalar.addi v0 c0_i32
  v1
def k0_off1 (i : grid0.Coords) (c0_i32 : BitVec 32) : Fin 3 → Nat :=
  let c0 : Index := 0#32
  let arg1 : BitVec 32 := BitVec.ofNat 32 (i 1).val
  let c512_i32 : BitVec 32 := 512#32
  let v0 : BitVec 32 := Scalar.muli arg1 c512_i32
  let v1 : BitVec 32 := Scalar.addi v0 c0_i32
  let v2 : BitVec 32 := v1
  let v4 : Index := Scalar.indexCast v2
  let c0_0 : Index := 0#32
  ![0, v4.toNat, 0]
def k0_mult2 (i : grid0.Coords) : BitVec 32 :=
  let arg1 : BitVec 32 := BitVec.ofNat 32 (i 1).val
  let c512_i32_20 : BitVec 32 := 512#32
  let v58 : BitVec 32 := Scalar.muli arg1 c512_i32_20
  let c256_i32 : BitVec 32 := 256#32
  let v59 : BitVec 32 := Scalar.addi v58 c256_i32
  v59
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x640x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x640x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![96, 1], ![false, false]⟩

def k1_mult1 (i : grid1.Coords) : BitVec 32 :=
  let arg1 : BitVec 32 := BitVec.ofNat 32 (i 1).val
  let c512_i32 : BitVec 32 := 512#32
  let v3 : BitVec 32 := Scalar.muli arg1 c512_i32
  let c0_i32_1 : BitVec 32 := 0#32
  let v4 : BitVec 32 := Scalar.addi v3 c0_i32_1
  v4
def k1_off1 (i : grid1.Coords) (c0_i32_1 : BitVec 32) : Fin 3 → Nat :=
  let c0_4 : Index := 0#32
  let arg1 : BitVec 32 := BitVec.ofNat 32 (i 1).val
  let c512_i32 : BitVec 32 := 512#32
  let v3 : BitVec 32 := Scalar.muli arg1 c512_i32
  let v4 : BitVec 32 := Scalar.addi v3 c0_i32_1
  let v5 : BitVec 32 := v4
  let v9 : Index := Scalar.indexCast v5
  let c0_5 : Index := 0#32
  ![0, v9.toNat, 0]
def k1_mult2 (i : grid1.Coords) : BitVec 32 :=
  let arg1 : BitVec 32 := BitVec.ofNat 32 (i 1).val
  let c512_i32_42 : BitVec 32 := 512#32
  let v88 : BitVec 32 := Scalar.muli arg1 c512_i32_42
  let c256_i32 : BitVec 32 := 256#32
  let v89 : BitVec 32 := Scalar.addi v88 c256_i32
  v89
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x640x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x640x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x512x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x512x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x512x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x512x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x640x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S1x640x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]
-- ==== BandIdeal.lean ====
variable {F : FTy → Type} [FloatOps F] [Named F]
def κ : String → Option EReal := fun
  | "mask" => some ⊥
  | _ => none
-- ==== BandRefIdeal.lean ====
abbrev S8192x6x64 : Shape := ⟨3, ![8192, 6, 64]⟩
abbrev S8192x6 : Shape := ⟨2, ![8192, 6]⟩
abbrev S512x16x6x64 : Shape := ⟨4, ![512, 16, 6, 64]⟩
abbrev S16x512x6x64 : Shape := ⟨4, ![16, 512, 6, 64]⟩
abbrev S_ : Shape := ⟨0, ![]⟩
abbrev S16x8x64x6x64 : Shape := ⟨5, ![16, 8, 64, 6, 64]⟩
abbrev S16x64x6x64 : Shape := ⟨4, ![16, 64, 6, 64]⟩
abbrev S16x640x6x64 : Shape := ⟨4, ![16, 640, 6, 64]⟩
abbrev S16x10x64x6x64 : Shape := ⟨5, ![16, 10, 64, 6, 64]⟩
abbrev S16x8x192x6x64 : Shape := ⟨5, ![16, 8, 192, 6, 64]⟩
abbrev S512 : Shape := ⟨1, ![512]⟩
abbrev S8x64 : Shape := ⟨2, ![8, 64]⟩
abbrev S8 : Shape := ⟨1, ![8]⟩
abbrev S8x1 : Shape := ⟨2, ![8, 1]⟩
abbrev S192 : Shape := ⟨1, ![192]⟩
abbrev S1x192 : Shape := ⟨2, ![1, 192]⟩
abbrev S8x192 : Shape := ⟨2, ![8, 192]⟩
abbrev S8x64x1 : Shape := ⟨3, ![8, 64, 1]⟩
abbrev S8x1x192 : Shape := ⟨3, ![8, 1, 192]⟩
abbrev S8x64x192 : Shape := ⟨3, ![8, 64, 192]⟩
abbrev S16x8x6x64x192 : Shape := ⟨5, ![16, 8, 6, 64, 192]⟩
abbrev S1x8x1x64x192 : Shape := ⟨5, ![1, 8, 1, 64, 192]⟩
abbrev S16x8x6x64 : Shape := ⟨4, ![16, 8, 6, 64]⟩
abbrev S16x8x6x64x1 : Shape := ⟨5, ![16, 8, 6, 64, 1]⟩
abbrev S16x8x6x64x64 : Shape := ⟨5, ![16, 8, 6, 64, 64]⟩
abbrev S16x8x64x6 : Shape := ⟨4, ![16, 8, 64, 6]⟩
abbrev S16x8x64x6x1 : Shape := ⟨5, ![16, 8, 64, 6, 1]⟩
abbrev S16x512x6 : Shape := ⟨3, ![16, 512, 6]⟩
abbrev S512x16x6 : Shape := ⟨3, ![512, 16, 6]⟩
abbrev S16x8x6x192x64 : Shape := ⟨5, ![16, 8, 6, 192, 64]⟩

abbrev nBuf : Space → Nat
  | .hbm => 212
  | .vmem => 0
  | .smem => 0
  | _ => 0

abbrev hbmTy0_0 (i : Nat) : BufTy := match i % 128 with
  | 0 => ⟨S8192x6x64, .f32⟩
  | 1 => ⟨S8192x6x64, .f32⟩
  | 2 => ⟨S8192x6x64, .f32⟩
  | 3 => ⟨S8192x6x64, .f32⟩
  | 4 => ⟨S8192x6, .f32⟩
  | 5 => ⟨S512x16x6x64, .f32⟩
  | 6 => ⟨S16x512x6x64, .f32⟩
  | 7 => ⟨S512x16x6x64, .f32⟩
  | 8 => ⟨S16x512x6x64, .f32⟩
  | 9 => ⟨S512x16x6x64, .f32⟩
  | 10 => ⟨S16x512x6x64, .f32⟩
  | 11 => ⟨S_, .i32⟩
  | 12 => ⟨S_, .f32⟩
  | 13 => ⟨S16x512x6x64, .f32⟩
  | 14 => ⟨S_, .f32⟩
  | 15 => ⟨S16x8x64x6x64, .f32⟩
  | 16 => ⟨S_, .f32⟩
  | 17 => ⟨S16x64x6x64, .f32⟩
  | 18 => ⟨S_, .f32⟩
  | 19 => ⟨S16x64x6x64, .f32⟩
  | 20 => ⟨S16x640x6x64, .f32⟩
  | 21 => ⟨S_, .f32⟩
  | 22 => ⟨S16x64x6x64, .f32⟩
  | 23 => ⟨S_, .f32⟩
  | 24 => ⟨S16x64x6x64, .f32⟩
  | 25 => ⟨S16x10x64x6x64, .f32⟩
  | 26 => ⟨S16x640x6x64, .f32⟩
  | 27 => ⟨S_, .f32⟩
  | 28 => ⟨S16x64x6x64, .f32⟩
  | 29 => ⟨S_, .f32⟩
  | 30 => ⟨S16x64x6x64, .f32⟩
  | 31 => ⟨S16x10x64x6x64, .f32⟩
  | 32 => ⟨S16x8x64x6x64, .f32⟩
  | 33 => ⟨S16x8x64x6x64, .f32⟩
  | 34 => ⟨S16x8x64x6x64, .f32⟩
  | 35 => ⟨S16x8x192x6x64, .f32⟩
  | 36 => ⟨S16x8x64x6x64, .f32⟩
  | 37 => ⟨S16x8x64x6x64, .f32⟩
  | 38 => ⟨S16x8x64x6x64, .f32⟩
  | 39 => ⟨S16x8x192x6x64, .f32⟩
  | 40 => ⟨S512, .i32⟩
  | 41 => ⟨S8x64, .i32⟩
  | 42 => ⟨S8, .i32⟩
  | 43 => ⟨S8x1, .i32⟩
  | 44 => ⟨S_, .i32⟩
  | 45 => ⟨S8x1, .i32⟩
  | 46 => ⟨S8x1, .i32⟩
  | 47 => ⟨S_, .i32⟩
  | 48 => ⟨S8x1, .i32⟩
  | 49 => ⟨S8x1, .i32⟩
  | 50 => ⟨S192, .i32⟩
  | 51 => ⟨S1x192, .i32⟩
  | 52 => ⟨S8x192, .i32⟩
  | 53 => ⟨S8x192, .i32⟩
  | 54 => ⟨S8x192, .i32⟩
  | 55 => ⟨S8x64x1, .i32⟩
  | 56 => ⟨S8x1x192, .i32⟩
  | 57 => ⟨S8x64x192, .i32⟩
  | 58 => ⟨S8x64x192, .i32⟩
  | 59 => ⟨S8x64x192, .i32⟩
  | 60 => ⟨S8x64x192, .i32⟩
  | 61 => ⟨S_, .i32⟩
  | 62 => ⟨S8x64x192, .i32⟩
  | 63 => ⟨S8x64x192, .i1⟩
  | 64 => ⟨S8x1x192, .i32⟩
  | 65 => ⟨S_, .i32⟩
  | 66 => ⟨S8x1x192, .i32⟩
  | 67 => ⟨S8x1x192, .i1⟩
  | 68 => ⟨S8x64x192, .i1⟩
  | 69 => ⟨S8x64x192, .i1⟩
  | 70 => ⟨S8x1x192, .i32⟩
  | 71 => ⟨S_, .i32⟩
  | 72 => ⟨S8x1x192, .i32⟩
  | 73 => ⟨S8x1x192, .i1⟩
  | 74 => ⟨S8x64x192, .i1⟩
  | 75 => ⟨S8x64x192, .i1⟩
  | 76 => ⟨S16x8x6x64x192, .f32⟩
  | 77 => ⟨S_, .f32⟩
  | 78 => ⟨S16x8x6x64x192, .f32⟩
  | 79 => ⟨S16x8x6x64x192, .f32⟩
  | 80 => ⟨S1x8x1x64x192, .i1⟩
  | 81 => ⟨S_, .f32⟩
  | 82 => ⟨S_, .f32⟩
  | 83 => ⟨S16x8x6x64x192, .i1⟩
  | 84 => ⟨S16x8x6x64x192, .f32⟩
  | 85 => ⟨S16x8x6x64x192, .f32⟩
  | 86 => ⟨S_, .f32⟩
  | 87 => ⟨S16x8x6x64x192, .f32⟩
  | 88 => ⟨S_, .f32⟩
  | 89 => ⟨S16x8x6x64, .f32⟩
  | 90 => ⟨S16x8x6x64x1, .f32⟩
  | 91 => ⟨S16x8x6x64x192, .f32⟩
  | 92 => ⟨S16x8x6x64x192, .i1⟩
  | 93 => ⟨S16x8x6x64x192, .f32⟩
  | 94 => ⟨S_, .f32⟩
  | 95 => ⟨S16x8x6x64, .f32⟩
  | 96 => ⟨S16x8x6x64x1, .f32⟩
  | 97 => ⟨S16x8x6x64x192, .f32⟩
  | 98 => ⟨S16x8x6x64x192, .f32⟩
  | 99 => ⟨S16x8x6x64x192, .f32⟩
  | 100 => ⟨S_, .f32⟩
  | 101 => ⟨S16x8x6x64, .f32⟩
  | 102 => ⟨S16x8x6x64x64, .f32⟩
  | 103 => ⟨S16x8x64x6x64, .f32⟩
  | 104 => ⟨S16x8x64x6, .f32⟩
  | 105 => ⟨S16x8x64x6x1, .f32⟩
  | 106 => ⟨S16x8x64x6x64, .f32⟩
  | 107 => ⟨S16x8x64x6x64, .f32⟩
  | 108 => ⟨S16x8x64x6x1, .f32⟩
  | 109 => ⟨S_, .f32⟩
  | 110 => ⟨S16x8x64x6x1, .f32⟩
  | 111 => ⟨S16x8x64x6x1, .f32⟩
  | 112 => ⟨S16x8x6x64, .f32⟩
  | 113 => ⟨S16x8x6x64, .f32⟩
  | 114 => ⟨S16x8x6x64, .f32⟩
  | 115 => ⟨S16x8x64x6, .f32⟩
  | 116 => ⟨S16x512x6x64, .f32⟩
  | 117 => ⟨S16x512x6, .f32⟩
  | 118 => ⟨S512x16x6x64, .f32⟩
  | 119 => ⟨S8192x6x64, .f32⟩
  | 120 => ⟨S512x16x6, .f32⟩
  | 121 => ⟨S8192x6, .f32⟩
  | 122 => ⟨S512x16x6, .f32⟩
  | 123 => ⟨S16x512x6, .f32⟩
  | 124 => ⟨S512x16x6x64, .f32⟩
  | 125 => ⟨S16x512x6x64, .f32⟩
  | 126 => ⟨S16x8x64x6, .f32⟩
  | 127 => ⟨S16x8x64x6x64, .f32⟩
  | _ => ⟨S8192x6x64, .f32⟩

abbrev hbmTy0_1 (i : Nat) : BufTy := match i % 128 with
  | 0 => ⟨S16x8x6x64, .f32⟩
  | 1 => ⟨S16x8x6x64, .f32⟩
  | 2 => ⟨S16x8x6x64x1, .f32⟩
  | 3 => ⟨S16x8x64x6x64, .f32⟩
  | 4 => ⟨S16x8x64x6x64, .f32⟩
  | 5 => ⟨S16x8x64x6x64, .f32⟩
  | 6 => ⟨S_, .f32⟩
  | 7 => ⟨S16x8x64x6, .f32⟩
  | 8 => ⟨S16x8x64x6x1, .f32⟩
  | 9 => ⟨S16x8x64x6x1, .f32⟩
  | 10 => ⟨S16x8x64x6x64, .f32⟩
  | 11 => ⟨S16x8x64x6x64, .f32⟩
  | 12 => ⟨S_, .f32⟩
  | 13 => ⟨S16x8x64x6, .f32⟩
  | 14 => ⟨S16x8x6x64, .f32⟩
  | 15 => ⟨S16x8x6x64, .f32⟩
  | 16 => ⟨S16x8x6x64x64, .f32⟩
  | 17 => ⟨S16x8x6x64x192, .f32⟩
  | 18 => ⟨S16x8x6x64x192, .f32⟩
  | 19 => ⟨S16x8x192x6x64, .f32⟩
  | 20 => ⟨S16x8x6x64x192, .f32⟩
  | 21 => ⟨S16x8x6x64x192, .f32⟩
  | 22 => ⟨S16x8x6x64x192, .f32⟩
  | 23 => ⟨S16x8x6x64x192, .f32⟩
  | 24 => ⟨S_, .f32⟩
  | 25 => ⟨S16x8x6x64, .f32⟩
  | 26 => ⟨S16x8x6x64x1, .f32⟩
  | 27 => ⟨S16x8x6x64x1, .f32⟩
  | 28 => ⟨S_, .f32⟩
  | 29 => ⟨S16x8x6x64, .f32⟩
  | 30 => ⟨S16x8x6x64, .f32⟩
  | 31 => ⟨S16x8x6x64x192, .f32⟩
  | 32 => ⟨S16x8x6x64x192, .f32⟩
  | 33 => ⟨S16x8x6x64x192, .f32⟩
  | 34 => ⟨S_, .f32⟩
  | 35 => ⟨S16x8x6x64x192, .f32⟩
  | 36 => ⟨S16x8x6x64x192, .f32⟩
  | 37 => ⟨S_, .f32⟩
  | 38 => ⟨S16x8x6x64x192, .f32⟩
  | 39 => ⟨S16x8x6x64x192, .f32⟩
  | 40 => ⟨S16x8x6x192x64, .f32⟩
  | 41 => ⟨S16x8x192x6x64, .f32⟩
  | 42 => ⟨S16x8x6x64x64, .f32⟩
  | 43 => ⟨S16x8x64x6x64, .f32⟩
  | 44 => ⟨S16x8x64x6x64, .f32⟩
  | 45 => ⟨S16x8x64x6x64, .f32⟩
  | 46 => ⟨S16x8x64x6x64, .f32⟩
  | 47 => ⟨S_, .f32⟩
  | 48 => ⟨S16x10x64x6x64, .f32⟩
  | 49 => ⟨S_, .f32⟩
  | 50 => ⟨S16x10x64x6x64, .f32⟩
  | 51 => ⟨S16x10x64x6x64, .f32⟩
  | 52 => ⟨S_, .f32⟩
  | 53 => ⟨S16x10x64x6x64, .f32⟩
  | 54 => ⟨S16x10x64x6x64, .f32⟩
  | 55 => ⟨S16x8x64x6x64, .f32⟩
  | 56 => ⟨S16x8x64x6x64, .f32⟩
  | 57 => ⟨S16x8x64x6x64, .f32⟩
  | 58 => ⟨S_, .f32⟩
  | 59 => ⟨S16x10x64x6x64, .f32⟩
  | 60 => ⟨S_, .f32⟩
  | 61 => ⟨S16x10x64x6x64, .f32⟩
  | 62 => ⟨S16x10x64x6x64, .f32⟩
  | 63 => ⟨S_, .f32⟩
  | 64 => ⟨S16x10x64x6x64, .f32⟩
  | 65 => ⟨S16x10x64x6x64, .f32⟩
  | 66 => ⟨S16x640x6x64, .f32⟩
  | 67 => ⟨S16x64x6x64, .f32⟩
  | 68 => ⟨S16x512x6x64, .f32⟩
  | 69 => ⟨S16x64x6x64, .f32⟩
  | 70 => ⟨S16x640x6x64, .f32⟩
  | 71 => ⟨S16x64x6x64, .f32⟩
  | 72 => ⟨S16x512x6x64, .f32⟩
  | 73 => ⟨S16x64x6x64, .f32⟩
  | 74 => ⟨S16x512x6x64, .f32⟩
  | 75 => ⟨S_, .f32⟩
  | 76 => ⟨S16x512x6x64, .f32⟩
  | 77 => ⟨S16x512x6x64, .f32⟩
  | 78 => ⟨S512x16x6x64, .f32⟩
  | 79 => ⟨S8192x6x64, .f32⟩
  | 80 => ⟨S512x16x6x64, .f32⟩
  | 81 => ⟨S8192x6x64, .f32⟩
  | 82 => ⟨S512x16x6x64, .f32⟩
  | 83 => ⟨S8192x6x64, .f32⟩
  | _ => ⟨S8192x6x64, .f32⟩

abbrev hbmTy (i : Nat) : BufTy := match i / 128 with
  | 0 => hbmTy0_0 i
  | 1 => hbmTy0_1 i
  | _ => ⟨S8192x6x64, .f32⟩

abbrev bufTy : (tb : Table) → Fin (tcTables nBuf tb) → BufTy
  | .hbm, ⟨i, _⟩ => hbmTy i
  | _, _ => ⟨S8192x6x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_v6_0 : Ref sig .tc := ⟨.hbm, 13, rfl⟩
abbrev main_v6_1 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_5 : Ref sig .tc := ⟨.hbm, 44, rfl⟩
abbrev main_v30 : Ref sig .tc := ⟨.hbm, 45, rfl⟩
abbrev main_v31 : Ref sig .tc := ⟨.hbm, 46, rfl⟩
abbrev main_c_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_7 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c_8 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_c_9 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_10 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_11 : Ref sig .tc := ⟨.hbm, 81, rfl⟩
abbrev main_call1_v0 : Ref sig .tc := ⟨.hbm, 82, rfl⟩
abbrev main_v61_1 : Ref sig .tc := ⟨.hbm, 83, rfl⟩
abbrev main_call1_v2 : Ref sig .tc := ⟨.hbm, 84, rfl⟩
abbrev main_v61_0 : Ref sig .tc := ⟨.hbm, 85, rfl⟩
abbrev main_call1_cst : Ref sig .tc := ⟨.hbm, 86, rfl⟩
abbrev main_v61_2 : Ref sig .tc := ⟨.hbm, 87, rfl⟩
abbrev main_cst_12 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_13 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_14 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_15 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_cst_16 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_cst_17 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_cst_18 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_cst_19 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_call2_cst : Ref sig .tc := ⟨.hbm, 162, rfl⟩
abbrev main_call2_v0 : Ref sig .tc := ⟨.hbm, 163, rfl⟩
abbrev main_v128 : Ref sig .tc := ⟨.hbm, 164, rfl⟩
abbrev main_cst_20 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_cst_21 : Ref sig .tc := ⟨.hbm, 175, rfl⟩
abbrev main_v138 : Ref sig .tc := ⟨.hbm, 176, rfl⟩
abbrev main_cst_22 : Ref sig .tc := ⟨.hbm, 177, rfl⟩
abbrev main_v139 : Ref sig .tc := ⟨.hbm, 178, rfl⟩
abbrev main_v140 : Ref sig .tc := ⟨.hbm, 179, rfl⟩
abbrev main_cst_23 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_cst_24 : Ref sig .tc := ⟨.hbm, 186, rfl⟩
abbrev main_v146 : Ref sig .tc := ⟨.hbm, 187, rfl⟩
abbrev main_cst_25 : Ref sig .tc := ⟨.hbm, 188, rfl⟩
abbrev main_v147 : Ref sig .tc := ⟨.hbm, 189, rfl⟩
abbrev main_v148 : Ref sig .tc := ⟨.hbm, 190, rfl⟩
abbrev main_cst_26 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_call3_cst : Ref sig .tc := ⟨.hbm, 203, rfl⟩
abbrev main_call3_v0 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩

abbrev nD : Nat := 1
abbrev τ : Topo := Topo.v7x

variable {F : FTy → Type} [FloatOps F]
-- ==== Band4.lean ====
abbrev S8192x6x64 : Shape := ⟨3, ![8192, 6, 64]⟩
abbrev S8192x6 : Shape := ⟨2, ![8192, 6]⟩
abbrev S2048x4x6x64 : Shape := ⟨4, ![2048, 4, 6, 64]⟩
abbrev S4x6x2048x64 : Shape := ⟨4, ![4, 6, 2048, 64]⟩
abbrev S24x2048x64 : Shape := ⟨3, ![24, 2048, 64]⟩
abbrev S_ : Shape := ⟨0, ![]⟩
abbrev S24x2176x64 : Shape := ⟨3, ![24, 2176, 64]⟩
abbrev S24x2048x1 : Shape := ⟨3, ![24, 2048, 1]⟩
abbrev S1x1024x64 : Shape := ⟨3, ![1, 1024, 64]⟩
abbrev S1x2176x64 : Shape := ⟨3, ![1, 2176, 64]⟩
abbrev S1x1024x1 : Shape := ⟨3, ![1, 1024, 1]⟩
abbrev S1x384x64 : Shape := ⟨3, ![1, 384, 64]⟩
abbrev S384x64 : Shape := ⟨2, ![384, 64]⟩
abbrev S1x256x64 : Shape := ⟨3, ![1, 256, 64]⟩
abbrev S256x64 : Shape := ⟨2, ![256, 64]⟩
abbrev S256x384 : Shape := ⟨2, ![256, 384]⟩
abbrev S256x1 : Shape := ⟨2, ![256, 1]⟩
abbrev S1x384 : Shape := ⟨2, ![1, 384]⟩
abbrev S256 : Shape := ⟨1, ![256]⟩
abbrev S1x256x1 : Shape := ⟨3, ![1, 256, 1]⟩
abbrev S4x6x2048x1 : Shape := ⟨4, ![4, 6, 2048, 1]⟩
abbrev S2048x4x6x1 : Shape := ⟨4, ![2048, 4, 6, 1]⟩
abbrev S8192x6x1 : Shape := ⟨3, ![8192, 6, 1]⟩

abbrev nBuf : Space → Nat
  | .hbm => 53
  | .vmem => 30
  | .smem => 0
  | _ => 0

abbrev bufTy : (tb : Table) → Fin (tcTables nBuf tb) → BufTy
  | .hbm, ⟨0, _⟩ => ⟨S8192x6x64, .f32⟩
  | .hbm, ⟨1, _⟩ => ⟨S8192x6x64, .f32⟩
  | .hbm, ⟨2, _⟩ => ⟨S8192x6x64, .f32⟩
  | .hbm, ⟨3, _⟩ => ⟨S8192x6x64, .f32⟩
  | .hbm, ⟨4, _⟩ => ⟨S8192x6, .f32⟩
  | .hbm, ⟨5, _⟩ => ⟨S8192x6x64, .bf16⟩
  | .hbm, ⟨6, _⟩ => ⟨S2048x4x6x64, .bf16⟩
  | .hbm, ⟨7, _⟩ => ⟨S4x6x2048x64, .bf16⟩
  | .hbm, ⟨8, _⟩ => ⟨S24x2048x64, .bf16⟩
  | .hbm, ⟨9, _⟩ => ⟨S8192x6x64, .bf16⟩
  | .hbm, ⟨10, _⟩ => ⟨S2048x4x6x64, .bf16⟩
  | .hbm, ⟨11, _⟩ => ⟨S4x6x2048x64, .bf16⟩
  | .hbm, ⟨12, _⟩ => ⟨S24x2048x64, .bf16⟩
  | .hbm, ⟨13, _⟩ => ⟨S8192x6x64, .bf16⟩
  | .hbm, ⟨14, _⟩ => ⟨S2048x4x6x64, .bf16⟩
  | .hbm, ⟨15, _⟩ => ⟨S4x6x2048x64, .bf16⟩
  | .hbm, ⟨16, _⟩ => ⟨S24x2048x64, .bf16⟩
  | .hbm, ⟨17, _⟩ => ⟨S_, .i32⟩
  | .hbm, ⟨18, _⟩ => ⟨S_, .bf16⟩
  | .hbm, ⟨19, _⟩ => ⟨S24x2176x64, .bf16⟩
  | .hbm, ⟨20, _⟩ => ⟨S_, .i32⟩
  | .hbm, ⟨21, _⟩ => ⟨S_, .bf16⟩
  | .hbm, ⟨22, _⟩ => ⟨S24x2176x64, .bf16⟩
  | .hbm, ⟨23, _⟩ => ⟨S24x2048x64, .f32⟩
  | .hbm, ⟨24, _⟩ => ⟨S24x2048x1, .f32⟩
  | .hbm, ⟨25, _⟩ => ⟨S4x6x2048x64, .f32⟩
  | .hbm, ⟨26, _⟩ => ⟨S2048x4x6x64, .f32⟩
  | .hbm, ⟨27, _⟩ => ⟨S8192x6x64, .f32⟩
  | .hbm, ⟨28, _⟩ => ⟨S4x6x2048x1, .f32⟩
  | .hbm, ⟨29, _⟩ => ⟨S2048x4x6x1, .f32⟩
  | .hbm, ⟨30, _⟩ => ⟨S8192x6x1, .f32⟩
  | .hbm, ⟨31, _⟩ => ⟨S8192x6, .f32⟩
  | .hbm, ⟨32, _⟩ => ⟨S2048x4x6x64, .f32⟩
  | .hbm, ⟨33, _⟩ => ⟨S4x6x2048x64, .f32⟩
  | .hbm, ⟨34, _⟩ => ⟨S24x2048x64, .f32⟩
  | .hbm, ⟨35, _⟩ => ⟨S8192x6x1, .f32⟩
  | .hbm, ⟨36, _⟩ => ⟨S2048x4x6x1, .f32⟩
  | .hbm, ⟨37, _⟩ => ⟨S4x6x2048x1, .f32⟩
  | .hbm, ⟨38, _⟩ => ⟨S24x2048x1, .f32⟩
  | .hbm, ⟨39, _⟩ => ⟨S24x2048x64, .f32⟩
  | .hbm, ⟨40, _⟩ => ⟨S24x2176x64, .f32⟩
  | .hbm, ⟨41, _⟩ => ⟨S24x2176x64, .f32⟩
  | .hbm, ⟨42, _⟩ => ⟨S24x2048x64, .f32⟩
  | .hbm, ⟨43, _⟩ => ⟨S24x2048x64, .f32⟩
  | .hbm, ⟨44, _⟩ => ⟨S4x6x2048x64, .f32⟩
  | .hbm, ⟨45, _⟩ => ⟨S2048x4x6x64, .f32⟩
  | .hbm, ⟨46, _⟩ => ⟨S8192x6x64, .f32⟩
  | .hbm, ⟨47, _⟩ => ⟨S4x6x2048x64, .f32⟩
  | .hbm, ⟨48, _⟩ => ⟨S2048x4x6x64, .f32⟩
  | .hbm, ⟨49, _⟩ => ⟨S8192x6x64, .f32⟩
  | .hbm, ⟨50, _⟩ => ⟨S4x6x2048x64, .f32⟩
  | .hbm, ⟨51, _⟩ => ⟨S2048x4x6x64, .f32⟩
  | .hbm, ⟨52, _⟩ => ⟨S8192x6x64, .f32⟩
  | .local _ .vmem, ⟨0, _⟩ => ⟨S1x1024x64, .bf16⟩
  | .local _ .vmem, ⟨1, _⟩ => ⟨S1x1024x64, .bf16⟩
  | .local _ .vmem, ⟨2, _⟩ => ⟨S1x2176x64, .bf16⟩
  | .local _ .vmem, ⟨3, _⟩ => ⟨S1x2176x64, .bf16⟩
  | .local _ .vmem, ⟨4, _⟩ => ⟨S1x2176x64, .bf16⟩
  | .local _ .vmem, ⟨5, _⟩ => ⟨S1x2176x64, .bf16⟩
  | .local _ .vmem, ⟨6, _⟩ => ⟨S1x1024x64, .f32⟩
  | .local _ .vmem, ⟨7, _⟩ => ⟨S1x1024x64, .f32⟩
  | .local _ .vmem, ⟨8, _⟩ => ⟨S1x1024x1, .f32⟩
  | .local _ .vmem, ⟨9, _⟩ => ⟨S1x1024x1, .f32⟩
  | .local _ .vmem, ⟨10, _⟩ => ⟨S1x1024x64, .bf16⟩
  | .local _ .vmem, ⟨11, _⟩ => ⟨S1x1024x64, .bf16⟩
  | .local _ .vmem, ⟨12, _⟩ => ⟨S1x2176x64, .bf16⟩
  | .local _ .vmem, ⟨13, _⟩ => ⟨S1x2176x64, .bf16⟩
  | .local _ .vmem, ⟨14, _⟩ => ⟨S1x2176x64, .bf16⟩
  | .local _ .vmem, ⟨15, _⟩ => ⟨S1x2176x64, .bf16⟩
  | .local _ .vmem, ⟨16, _⟩ => ⟨S1x1024x64, .f32⟩
  | .local _ .vmem, ⟨17, _⟩ => ⟨S1x1024x64, .f32⟩
  | .local _ .vmem, ⟨18, _⟩ => ⟨S1x1024x1, .f32⟩
  | .local _ .vmem, ⟨19, _⟩ => ⟨S1x1024x1, .f32⟩
  | .local _ .vmem, ⟨20, _⟩ => ⟨S1x1024x64, .f32⟩
  | .local _ .vmem, ⟨21, _⟩ => ⟨S1x1024x64, .f32⟩
  | .local _ .vmem, ⟨22, _⟩ => ⟨S1x1024x1, .f32⟩
  | .local _ .vmem, ⟨23, _⟩ => ⟨S1x1024x1, .f32⟩
  | .local _ .vmem, ⟨24, _⟩ => ⟨S1x1024x64, .f32⟩
  | .local _ .vmem, ⟨25, _⟩ => ⟨S1x1024x64, .f32⟩
  | .local _ .vmem, ⟨26, _⟩ => ⟨S1x2176x64, .f32⟩
  | .local _ .vmem, ⟨27, _⟩ => ⟨S1x2176x64, .f32⟩
  | .local _ .vmem, ⟨28, _⟩ => ⟨S1x2176x64, .f32⟩
  | .local _ .vmem, ⟨29, _⟩ => ⟨S1x2176x64, .f32⟩
  | _, _ => ⟨S8192x6x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_call0_v0 : Ref sig .tc := ⟨.hbm, 18, rfl⟩
abbrev main_v12 : Ref sig .tc := ⟨.hbm, 19, rfl⟩
abbrev main_c_0 : Ref sig .tc := ⟨.hbm, 20, rfl⟩
abbrev main_call1_v0 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29_0 : Ref sig .tc := ⟨.hbm, 39, rfl⟩
abbrev main_v29_1 : Ref sig .tc := ⟨.hbm, 40, rfl⟩
abbrev main_v29_2 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc1_stg9_0 : Ref sig .tc := ⟨.vmem, 28, rfl⟩
abbrev cc1_stg9_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27
abbrev cc1_sem9_0 : DmaSem sig := 28
abbrev cc1_sem9_1 : DmaSem sig := 29

abbrev nD : Nat := 1
abbrev τ : Topo := Topo.v7x

variable {F : FTy → Type} [FloatOps F]

abbrev grid0 : Pipeline.Grid := ⟨2, ![24, 2], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  let c0_i32 : BitVec 32 := 0#32
  let v1 : BitVec 32 := Scalar.addi v0 c0_i32
  v1
def k0_off1 (i : grid0.Coords) (c0_i32 : BitVec 32) : Fin 3 → Nat :=
  let c0 : Index := 0#32
  let arg1 : BitVec 32 := BitVec.ofNat 32 (i 1).val
  let c1024_i32 : BitVec 32 := 1024#32
  let v0 : BitVec 32 := Scalar.muli arg1 c1024_i32
  let v1 : BitVec 32 := Scalar.addi v0 c0_i32
  let v2 : BitVec 32 := v1
  let v4 : Index := Scalar.indexCast v2
  let c0_0 : Index := 0#32
  ![0, v4.toNat, 0]
def k0_mult2 (i : grid0.Coords) : BitVec 32 :=
  let arg1 : BitVec 32 := BitVec.ofNat 32 (i 1).val
  let c1024_i32_19 : BitVec 32 := 1024#32
  let v58 : BitVec 32 := Scalar.muli arg1 c1024_i32_19
  let c256_i32 : BitVec 32 := 256#32
  let v59 : BitVec 32 := Scalar.addi v58 c256_i32
  v59
def k0_mult3 (i : grid0.Coords) : BitVec 32 :=
  let arg1 : BitVec 32 := BitVec.ofNat 32 (i 1).val
  let c1024_i32_43 : BitVec 32 := 1024#32
  let v116 : BitVec 32 := Scalar.muli arg1 c1024_i32_43
  let c512_i32 : BitVec 32 := 512#32
  let v117 : BitVec 32 := Scalar.addi v116 c512_i32
  v117
def k0_mult4 (i : grid0.Coords) : BitVec 32 :=
  let arg1 : BitVec 32 := BitVec.ofNat 32 (i 1).val
  let c1024_i32_67 : BitVec 32 := 1024#32
  let v174 : BitVec 32 := Scalar.muli arg1 c1024_i32_67
  let c768_i32 : BitVec 32 := 768#32
  let v175 : BitVec 32 := Scalar.addi v174 c768_i32
  v175
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2176x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2176x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![24, 2], ![false, false]⟩

def k1_mult1 (i : grid1.Coords) : BitVec 32 :=
  let arg1 : BitVec 32 := BitVec.ofNat 32 (i 1).val
  let c1024_i32 : BitVec 32 := 1024#32
  let v3 : BitVec 32 := Scalar.muli arg1 c1024_i32
  let c0_i32_1 : BitVec 32 := 0#32
  let v4 : BitVec 32 := Scalar.addi v3 c0_i32_1
  v4
def k1_off1 (i : grid1.Coords) (c0_i32_1 : BitVec 32) : Fin 3 → Nat :=
  let c0_4 : Index := 0#32
  let arg1 : BitVec 32 := BitVec.ofNat 32 (i 1).val
  let c1024_i32 : BitVec 32 := 1024#32
  let v3 : BitVec 32 := Scalar.muli arg1 c1024_i32
  let v4 : BitVec 32 := Scalar.addi v3 c0_i32_1
  let v5 : BitVec 32 := v4
  let v9 : Index := Scalar.indexCast v5
  let c0_5 : Index := 0#32
  ![0, v9.toNat, 0]
def k1_mult2 (i : grid1.Coords) : BitVec 32 :=
  let arg1 : BitVec 32 := BitVec.ofNat 32 (i 1).val
  let c1024_i32_41 : BitVec 32 := 1024#32
  let v88 : BitVec 32 := Scalar.muli arg1 c1024_i32_41
  let c256_i32 : BitVec 32 := 256#32
  let v89 : BitVec 32 := Scalar.addi v88 c256_i32
  v89
def k1_mult3 (i : grid1.Coords) : BitVec 32 :=
  let arg1 : BitVec 32 := BitVec.ofNat 32 (i 1).val
  let c1024_i32_85 : BitVec 32 := 1024#32
  let v173 : BitVec 32 := Scalar.muli arg1 c1024_i32_85
  let c512_i32 : BitVec 32 := 512#32
  let v174 : BitVec 32 := Scalar.addi v173 c512_i32
  v174
def k1_mult4 (i : grid1.Coords) : BitVec 32 :=
  let arg1 : BitVec 32 := BitVec.ofNat 32 (i 1).val
  let c1024_i32_129 : BitVec 32 := 1024#32
  let v258 : BitVec 32 := Scalar.muli arg1 c1024_i32_129
  let c768_i32 : BitVec 32 := 768#32
  let v259 : BitVec 32 := Scalar.addi v258 c768_i32
  v259
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2176x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2176x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1024x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x1024x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x1024x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x2176x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S1x2176x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]
-- ==== Band4Ideal.lean ====
variable {F : FTy → Type} [FloatOps F] [Named F]
def κ : String → Option EReal := fun
  | "mask" => some ⊥
  | _ => none
-- ==== Band4RefIdeal.lean ====
abbrev S8192x6x64 : Shape := ⟨3, ![8192, 6, 64]⟩
abbrev S8192x6 : Shape := ⟨2, ![8192, 6]⟩
abbrev S2048x4x6x64 : Shape := ⟨4, ![2048, 4, 6, 64]⟩
abbrev S4x2048x6x64 : Shape := ⟨4, ![4, 2048, 6, 64]⟩
abbrev S_ : Shape := ⟨0, ![]⟩
abbrev S4x32x64x6x64 : Shape := ⟨5, ![4, 32, 64, 6, 64]⟩
abbrev S4x64x6x64 : Shape := ⟨4, ![4, 64, 6, 64]⟩
abbrev S4x2176x6x64 : Shape := ⟨4, ![4, 2176, 6, 64]⟩
abbrev S4x34x64x6x64 : Shape := ⟨5, ![4, 34, 64, 6, 64]⟩
abbrev S4x32x192x6x64 : Shape := ⟨5, ![4, 32, 192, 6, 64]⟩
abbrev S2048 : Shape := ⟨1, ![2048]⟩
abbrev S32x64 : Shape := ⟨2, ![32, 64]⟩
abbrev S32 : Shape := ⟨1, ![32]⟩
abbrev S32x1 : Shape := ⟨2, ![32, 1]⟩
abbrev S192 : Shape := ⟨1, ![192]⟩
abbrev S1x192 : Shape := ⟨2, ![1, 192]⟩
abbrev S32x192 : Shape := ⟨2, ![32, 192]⟩
abbrev S32x64x1 : Shape := ⟨3, ![32, 64, 1]⟩
abbrev S32x1x192 : Shape := ⟨3, ![32, 1, 192]⟩
abbrev S32x64x192 : Shape := ⟨3, ![32, 64, 192]⟩
abbrev S4x32x6x64x192 : Shape := ⟨5, ![4, 32, 6, 64, 192]⟩
abbrev S1x32x1x64x192 : Shape := ⟨5, ![1, 32, 1, 64, 192]⟩
abbrev S4x32x6x64 : Shape := ⟨4, ![4, 32, 6, 64]⟩
abbrev S4x32x6x64x1 : Shape := ⟨5, ![4, 32, 6, 64, 1]⟩
abbrev S4x32x6x64x64 : Shape := ⟨5, ![4, 32, 6, 64, 64]⟩
abbrev S4x32x64x6 : Shape := ⟨4, ![4, 32, 64, 6]⟩
abbrev S4x32x64x6x1 : Shape := ⟨5, ![4, 32, 64, 6, 1]⟩
abbrev S4x2048x6 : Shape := ⟨3, ![4, 2048, 6]⟩
abbrev S2048x4x6 : Shape := ⟨3, ![2048, 4, 6]⟩
abbrev S4x32x6x192x64 : Shape := ⟨5, ![4, 32, 6, 192, 64]⟩

abbrev nBuf : Space → Nat
  | .hbm => 212
  | .vmem => 0
  | .smem => 0
  | _ => 0

abbrev hbmTy0_0 (i : Nat) : BufTy := match i % 128 with
  | 0 => ⟨S8192x6x64, .f32⟩
  | 1 => ⟨S8192x6x64, .f32⟩
  | 2 => ⟨S8192x6x64, .f32⟩
  | 3 => ⟨S8192x6x64, .f32⟩
  | 4 => ⟨S8192x6, .f32⟩
  | 5 => ⟨S2048x4x6x64, .f32⟩
  | 6 => ⟨S4x2048x6x64, .f32⟩
  | 7 => ⟨S2048x4x6x64, .f32⟩
  | 8 => ⟨S4x2048x6x64, .f32⟩
  | 9 => ⟨S2048x4x6x64, .f32⟩
  | 10 => ⟨S4x2048x6x64, .f32⟩
  | 11 => ⟨S_, .i32⟩
  | 12 => ⟨S_, .f32⟩
  | 13 => ⟨S4x2048x6x64, .f32⟩
  | 14 => ⟨S_, .f32⟩
  | 15 => ⟨S4x32x64x6x64, .f32⟩
  | 16 => ⟨S_, .f32⟩
  | 17 => ⟨S4x64x6x64, .f32⟩
  | 18 => ⟨S_, .f32⟩
  | 19 => ⟨S4x64x6x64, .f32⟩
  | 20 => ⟨S4x2176x6x64, .f32⟩
  | 21 => ⟨S_, .f32⟩
  | 22 => ⟨S4x64x6x64, .f32⟩
  | 23 => ⟨S_, .f32⟩
  | 24 => ⟨S4x64x6x64, .f32⟩
  | 25 => ⟨S4x34x64x6x64, .f32⟩
  | 26 => ⟨S4x2176x6x64, .f32⟩
  | 27 => ⟨S_, .f32⟩
  | 28 => ⟨S4x64x6x64, .f32⟩
  | 29 => ⟨S_, .f32⟩
  | 30 => ⟨S4x64x6x64, .f32⟩
  | 31 => ⟨S4x34x64x6x64, .f32⟩
  | 32 => ⟨S4x32x64x6x64, .f32⟩
  | 33 => ⟨S4x32x64x6x64, .f32⟩
  | 34 => ⟨S4x32x64x6x64, .f32⟩
  | 35 => ⟨S4x32x192x6x64, .f32⟩
  | 36 => ⟨S4x32x64x6x64, .f32⟩
  | 37 => ⟨S4x32x64x6x64, .f32⟩
  | 38 => ⟨S4x32x64x6x64, .f32⟩
  | 39 => ⟨S4x32x192x6x64, .f32⟩
  | 40 => ⟨S2048, .i32⟩
  | 41 => ⟨S32x64, .i32⟩
  | 42 => ⟨S32, .i32⟩
  | 43 => ⟨S32x1, .i32⟩
  | 44 => ⟨S_, .i32⟩
  | 45 => ⟨S32x1, .i32⟩
  | 46 => ⟨S32x1, .i32⟩
  | 47 => ⟨S_, .i32⟩
  | 48 => ⟨S32x1, .i32⟩
  | 49 => ⟨S32x1, .i32⟩
  | 50 => ⟨S192, .i32⟩
  | 51 => ⟨S1x192, .i32⟩
  | 52 => ⟨S32x192, .i32⟩
  | 53 => ⟨S32x192, .i32⟩
  | 54 => ⟨S32x192, .i32⟩
  | 55 => ⟨S32x64x1, .i32⟩
  | 56 => ⟨S32x1x192, .i32⟩
  | 57 => ⟨S32x64x192, .i32⟩
  | 58 => ⟨S32x64x192, .i32⟩
  | 59 => ⟨S32x64x192, .i32⟩
  | 60 => ⟨S32x64x192, .i32⟩
  | 61 => ⟨S_, .i32⟩
  | 62 => ⟨S32x64x192, .i32⟩
  | 63 => ⟨S32x64x192, .i1⟩
  | 64 => ⟨S32x1x192, .i32⟩
  | 65 => ⟨S_, .i32⟩
  | 66 => ⟨S32x1x192, .i32⟩
  | 67 => ⟨S32x1x192, .i1⟩
  | 68 => ⟨S32x64x192, .i1⟩
  | 69 => ⟨S32x64x192, .i1⟩
  | 70 => ⟨S32x1x192, .i32⟩
  | 71 => ⟨S_, .i32⟩
  | 72 => ⟨S32x1x192, .i32⟩
  | 73 => ⟨S32x1x192, .i1⟩
  | 74 => ⟨S32x64x192, .i1⟩
  | 75 => ⟨S32x64x192, .i1⟩
  | 76 => ⟨S4x32x6x64x192, .f32⟩
  | 77 => ⟨S_, .f32⟩
  | 78 => ⟨S4x32x6x64x192, .f32⟩
  | 79 => ⟨S4x32x6x64x192, .f32⟩
  | 80 => ⟨S1x32x1x64x192, .i1⟩
  | 81 => ⟨S_, .f32⟩
  | 82 => ⟨S_, .f32⟩
  | 83 => ⟨S4x32x6x64x192, .i1⟩
  | 84 => ⟨S4x32x6x64x192, .f32⟩
  | 85 => ⟨S4x32x6x64x192, .f32⟩
  | 86 => ⟨S_, .f32⟩
  | 87 => ⟨S4x32x6x64x192, .f32⟩
  | 88 => ⟨S_, .f32⟩
  | 89 => ⟨S4x32x6x64, .f32⟩
  | 90 => ⟨S4x32x6x64x1, .f32⟩
  | 91 => ⟨S4x32x6x64x192, .f32⟩
  | 92 => ⟨S4x32x6x64x192, .i1⟩
  | 93 => ⟨S4x32x6x64x192, .f32⟩
  | 94 => ⟨S_, .f32⟩
  | 95 => ⟨S4x32x6x64, .f32⟩
  | 96 => ⟨S4x32x6x64x1, .f32⟩
  | 97 => ⟨S4x32x6x64x192, .f32⟩
  | 98 => ⟨S4x32x6x64x192, .f32⟩
  | 99 => ⟨S4x32x6x64x192, .f32⟩
  | 100 => ⟨S_, .f32⟩
  | 101 => ⟨S4x32x6x64, .f32⟩
  | 102 => ⟨S4x32x6x64x64, .f32⟩
  | 103 => ⟨S4x32x64x6x64, .f32⟩
  | 104 => ⟨S4x32x64x6, .f32⟩
  | 105 => ⟨S4x32x64x6x1, .f32⟩
  | 106 => ⟨S4x32x64x6x64, .f32⟩
  | 107 => ⟨S4x32x64x6x64, .f32⟩
  | 108 => ⟨S4x32x64x6x1, .f32⟩
  | 109 => ⟨S_, .f32⟩
  | 110 => ⟨S4x32x64x6x1, .f32⟩
  | 111 => ⟨S4x32x64x6x1, .f32⟩
  | 112 => ⟨S4x32x6x64, .f32⟩
  | 113 => ⟨S4x32x6x64, .f32⟩
  | 114 => ⟨S4x32x6x64, .f32⟩
  | 115 => ⟨S4x32x64x6, .f32⟩
  | 116 => ⟨S4x2048x6x64, .f32⟩
  | 117 => ⟨S4x2048x6, .f32⟩
  | 118 => ⟨S2048x4x6x64, .f32⟩
  | 119 => ⟨S8192x6x64, .f32⟩
  | 120 => ⟨S2048x4x6, .f32⟩
  | 121 => ⟨S8192x6, .f32⟩
  | 122 => ⟨S2048x4x6, .f32⟩
  | 123 => ⟨S4x2048x6, .f32⟩
  | 124 => ⟨S2048x4x6x64, .f32⟩
  | 125 => ⟨S4x2048x6x64, .f32⟩
  | 126 => ⟨S4x32x64x6, .f32⟩
  | 127 => ⟨S4x32x64x6x64, .f32⟩
  | _ => ⟨S8192x6x64, .f32⟩

abbrev hbmTy0_1 (i : Nat) : BufTy := match i % 128 with
  | 0 => ⟨S4x32x6x64, .f32⟩
  | 1 => ⟨S4x32x6x64, .f32⟩
  | 2 => ⟨S4x32x6x64x1, .f32⟩
  | 3 => ⟨S4x32x64x6x64, .f32⟩
  | 4 => ⟨S4x32x64x6x64, .f32⟩
  | 5 => ⟨S4x32x64x6x64, .f32⟩
  | 6 => ⟨S_, .f32⟩
  | 7 => ⟨S4x32x64x6, .f32⟩
  | 8 => ⟨S4x32x64x6x1, .f32⟩
  | 9 => ⟨S4x32x64x6x1, .f32⟩
  | 10 => ⟨S4x32x64x6x64, .f32⟩
  | 11 => ⟨S4x32x64x6x64, .f32⟩
  | 12 => ⟨S_, .f32⟩
  | 13 => ⟨S4x32x64x6, .f32⟩
  | 14 => ⟨S4x32x6x64, .f32⟩
  | 15 => ⟨S4x32x6x64, .f32⟩
  | 16 => ⟨S4x32x6x64x64, .f32⟩
  | 17 => ⟨S4x32x6x64x192, .f32⟩
  | 18 => ⟨S4x32x6x64x192, .f32⟩
  | 19 => ⟨S4x32x192x6x64, .f32⟩
  | 20 => ⟨S4x32x6x64x192, .f32⟩
  | 21 => ⟨S4x32x6x64x192, .f32⟩
  | 22 => ⟨S4x32x6x64x192, .f32⟩
  | 23 => ⟨S4x32x6x64x192, .f32⟩
  | 24 => ⟨S_, .f32⟩
  | 25 => ⟨S4x32x6x64, .f32⟩
  | 26 => ⟨S4x32x6x64x1, .f32⟩
  | 27 => ⟨S4x32x6x64x1, .f32⟩
  | 28 => ⟨S_, .f32⟩
  | 29 => ⟨S4x32x6x64, .f32⟩
  | 30 => ⟨S4x32x6x64, .f32⟩
  | 31 => ⟨S4x32x6x64x192, .f32⟩
  | 32 => ⟨S4x32x6x64x192, .f32⟩
  | 33 => ⟨S4x32x6x64x192, .f32⟩
  | 34 => ⟨S_, .f32⟩
  | 35 => ⟨S4x32x6x64x192, .f32⟩
  | 36 => ⟨S4x32x6x64x192, .f32⟩
  | 37 => ⟨S_, .f32⟩
  | 38 => ⟨S4x32x6x64x192, .f32⟩
  | 39 => ⟨S4x32x6x64x192, .f32⟩
  | 40 => ⟨S4x32x6x192x64, .f32⟩
  | 41 => ⟨S4x32x192x6x64, .f32⟩
  | 42 => ⟨S4x32x6x64x64, .f32⟩
  | 43 => ⟨S4x32x64x6x64, .f32⟩
  | 44 => ⟨S4x32x64x6x64, .f32⟩
  | 45 => ⟨S4x32x64x6x64, .f32⟩
  | 46 => ⟨S4x32x64x6x64, .f32⟩
  | 47 => ⟨S_, .f32⟩
  | 48 => ⟨S4x34x64x6x64, .f32⟩
  | 49 => ⟨S_, .f32⟩
  | 50 => ⟨S4x34x64x6x64, .f32⟩
  | 51 => ⟨S4x34x64x6x64, .f32⟩
  | 52 => ⟨S_, .f32⟩
  | 53 => ⟨S4x34x64x6x64, .f32⟩
  | 54 => ⟨S4x34x64x6x64, .f32⟩
  | 55 => ⟨S4x32x64x6x64, .f32⟩
  | 56 => ⟨S4x32x64x6x64, .f32⟩
  | 57 => ⟨S4x32x64x6x64, .f32⟩
  | 58 => ⟨S_, .f32⟩
  | 59 => ⟨S4x34x64x6x64, .f32⟩
  | 60 => ⟨S_, .f32⟩
  | 61 => ⟨S4x34x64x6x64, .f32⟩
  | 62 => ⟨S4x34x64x6x64, .f32⟩
  | 63 => ⟨S_, .f32⟩
  | 64 => ⟨S4x34x64x6x64, .f32⟩
  | 65 => ⟨S4x34x64x6x64, .f32⟩
  | 66 => ⟨S4x2176x6x64, .f32⟩
  | 67 => ⟨S4x64x6x64, .f32⟩
  | 68 => ⟨S4x2048x6x64, .f32⟩
  | 69 => ⟨S4x64x6x64, .f32⟩
  | 70 => ⟨S4x2176x6x64, .f32⟩
  | 71 => ⟨S4x64x6x64, .f32⟩
  | 72 => ⟨S4x2048x6x64, .f32⟩
  | 73 => ⟨S4x64x6x64, .f32⟩
  | 74 => ⟨S4x2048x6x64, .f32⟩
  | 75 => ⟨S_, .f32⟩
  | 76 => ⟨S4x2048x6x64, .f32⟩
  | 77 => ⟨S4x2048x6x64, .f32⟩
  | 78 => ⟨S2048x4x6x64, .f32⟩
  | 79 => ⟨S8192x6x64, .f32⟩
  | 80 => ⟨S2048x4x6x64, .f32⟩
  | 81 => ⟨S8192x6x64, .f32⟩
  | 82 => ⟨S2048x4x6x64, .f32⟩
  | 83 => ⟨S8192x6x64, .f32⟩
  | _ => ⟨S8192x6x64, .f32⟩

abbrev hbmTy (i : Nat) : BufTy := match i / 128 with
  | 0 => hbmTy0_0 i
  | 1 => hbmTy0_1 i
  | _ => ⟨S8192x6x64, .f32⟩

abbrev bufTy : (tb : Table) → Fin (tcTables nBuf tb) → BufTy
  | .hbm, ⟨i, _⟩ => hbmTy i
  | _, _ => ⟨S8192x6x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_v6_0 : Ref sig .tc := ⟨.hbm, 13, rfl⟩
abbrev main_v6_1 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_5 : Ref sig .tc := ⟨.hbm, 44, rfl⟩
abbrev main_v30 : Ref sig .tc := ⟨.hbm, 45, rfl⟩
abbrev main_v31 : Ref sig .tc := ⟨.hbm, 46, rfl⟩
abbrev main_c_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_7 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c_8 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_c_9 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_10 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_11 : Ref sig .tc := ⟨.hbm, 81, rfl⟩
abbrev main_call1_v0 : Ref sig .tc := ⟨.hbm, 82, rfl⟩
abbrev main_v61_1 : Ref sig .tc := ⟨.hbm, 83, rfl⟩
abbrev main_call1_v2 : Ref sig .tc := ⟨.hbm, 84, rfl⟩
abbrev main_v61_0 : Ref sig .tc := ⟨.hbm, 85, rfl⟩
abbrev main_call1_cst : Ref sig .tc := ⟨.hbm, 86, rfl⟩
abbrev main_v61_2 : Ref sig .tc := ⟨.hbm, 87, rfl⟩
abbrev main_cst_12 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_13 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_14 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_15 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_cst_16 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_cst_17 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_cst_18 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_cst_19 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_call2_cst : Ref sig .tc := ⟨.hbm, 162, rfl⟩
abbrev main_call2_v0 : Ref sig .tc := ⟨.hbm, 163, rfl⟩
abbrev main_v128 : Ref sig .tc := ⟨.hbm, 164, rfl⟩
abbrev main_cst_20 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_cst_21 : Ref sig .tc := ⟨.hbm, 175, rfl⟩
abbrev main_v138 : Ref sig .tc := ⟨.hbm, 176, rfl⟩
abbrev main_cst_22 : Ref sig .tc := ⟨.hbm, 177, rfl⟩
abbrev main_v139 : Ref sig .tc := ⟨.hbm, 178, rfl⟩
abbrev main_v140 : Ref sig .tc := ⟨.hbm, 179, rfl⟩
abbrev main_cst_23 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_cst_24 : Ref sig .tc := ⟨.hbm, 186, rfl⟩
abbrev main_v146 : Ref sig .tc := ⟨.hbm, 187, rfl⟩
abbrev main_cst_25 : Ref sig .tc := ⟨.hbm, 188, rfl⟩
abbrev main_v147 : Ref sig .tc := ⟨.hbm, 189, rfl⟩
abbrev main_v148 : Ref sig .tc := ⟨.hbm, 190, rfl⟩
abbrev main_cst_26 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_call3_cst : Ref sig .tc := ⟨.hbm, 203, rfl⟩
abbrev main_call3_v0 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩

abbrev nD : Nat := 1
abbrev τ : Topo := Topo.v7x

variable {F : FTy → Type} [FloatOps F]
-- ==== Natten.lean ====
abbrev S8192x4x64 : Shape := ⟨3, ![8192, 4, 64]⟩
abbrev S4x15x31 : Shape := ⟨3, ![4, 15, 31]⟩
abbrev S4x12x15 : Shape := ⟨3, ![4, 12, 15]⟩
abbrev S1x4x12x15x1 : Shape := ⟨5, ![1, 4, 12, 15, 1]⟩
abbrev S64x64x31 : Shape := ⟨3, ![64, 64, 31]⟩
abbrev S1x1x64x1x64x31 : Shape := ⟨6, ![1, 1, 64, 1, 64, 31]⟩
abbrev S4x1x1x15x31 : Shape := ⟨5, ![4, 1, 1, 15, 31]⟩
abbrev S4x4x12x15x31 : Shape := ⟨5, ![4, 4, 12, 15, 31]⟩
abbrev S_ : Shape := ⟨0, ![]⟩
abbrev S4x4x12x31 : Shape := ⟨4, ![4, 4, 12, 31]⟩
abbrev S4x4x1x12x1x31 : Shape := ⟨6, ![4, 4, 1, 12, 1, 31]⟩
abbrev S4x4x64x12x64x31 : Shape := ⟨6, ![4, 4, 64, 12, 64, 31]⟩
abbrev S4x4x64x12x64 : Shape := ⟨5, ![4, 4, 64, 12, 64]⟩
abbrev S4x256x768 : Shape := ⟨3, ![4, 256, 768]⟩
abbrev S8192x1x4x64 : Shape := ⟨4, ![8192, 1, 4, 64]⟩
abbrev S1x4x8192x64 : Shape := ⟨4, ![1, 4, 8192, 64]⟩
abbrev S4x8192x64 : Shape := ⟨3, ![4, 8192, 64]⟩
abbrev S4x8704x64 : Shape := ⟨3, ![4, 8704, 64]⟩
abbrev S4x8192x1 : Shape := ⟨3, ![4, 8192, 1]⟩
abbrev S1x1024x64 : Shape := ⟨3, ![1, 1024, 64]⟩
abbrev S1x8704x64 : Shape := ⟨3, ![1, 8704, 64]⟩
abbrev S1x256x768 : Shape := ⟨3, ![1, 256, 768]⟩
abbrev S1x1024x1 : Shape := ⟨3, ![1, 1024, 1]⟩
abbrev S1x768x64 : Shape := ⟨3, ![1, 768, 64]⟩
abbrev S768x64 : Shape := ⟨2, ![768, 64]⟩
abbrev S1x256x64 : Shape := ⟨3, ![1, 256, 64]⟩
abbrev S256x64 : Shape := ⟨2, ![256, 64]⟩
abbrev S256x768 : Shape := ⟨2, ![256, 768]⟩
abbrev S256x1 : Shape := ⟨2, ![256, 1]⟩
abbrev S1x768 : Shape := ⟨2, ![1, 768]⟩
abbrev S256 : Shape := ⟨1, ![256]⟩
abbrev S1x256x1 : Shape := ⟨3, ![1, 256, 1]⟩
abbrev S1x4x8192x1 : Shape := ⟨4, ![1, 4, 8192, 1]⟩
abbrev S8192x1x4x1 : Shape := ⟨4, ![8192, 1, 4, 1]⟩
abbrev S8192x4x1 : Shape := ⟨3, ![8192, 4, 1]⟩
abbrev S8192x4 : Shape := ⟨2, ![8192, 4]⟩

abbrev nBuf : Space → Nat
  | .hbm => 90
  | .vmem => 36
  | .smem => 0
  | _ => 0

abbrev bufTy : (tb : Table) → Fin (tcTables nBuf tb) → BufTy
  | .hbm, ⟨0, _⟩ => ⟨S8192x4x64, .f32⟩
  | .hbm, ⟨1, _⟩ => ⟨S8192x4x64, .f32⟩
  | .hbm, ⟨2, _⟩ => ⟨S8192x4x64, .f32⟩
  | .hbm, ⟨3, _⟩ => ⟨S4x15x31, .f32⟩
  | .hbm, ⟨4, _⟩ => ⟨S8192x4x64, .f32⟩
  | .hbm, ⟨5, _⟩ => ⟨S4x12x15, .f32⟩
  | .hbm, ⟨6, _⟩ => ⟨S1x4x12x15x1, .f32⟩
  | .hbm, ⟨7, _⟩ => ⟨S64x64x31, .f32⟩
  | .hbm, ⟨8, _⟩ => ⟨S1x1x64x1x64x31, .f32⟩
  | .hbm, ⟨9, _⟩ => ⟨S4x1x1x15x31, .f32⟩
  | .hbm, ⟨10, _⟩ => ⟨S4x4x12x15x31, .f32⟩
  | .hbm, ⟨11, _⟩ => ⟨S4x4x12x15x31, .f32⟩
  | .hbm, ⟨12, _⟩ => ⟨S4x4x12x15x31, .f32⟩
  | .hbm, ⟨13, _⟩ => ⟨S_, .f32⟩
  | .hbm, ⟨14, _⟩ => ⟨S4x4x12x31, .f32⟩
  | .hbm, ⟨15, _⟩ => ⟨S4x4x1x12x1x31, .f32⟩
  | .hbm, ⟨16, _⟩ => ⟨S4x4x64x12x64x31, .f32⟩
  | .hbm, ⟨17, _⟩ => ⟨S4x4x64x12x64x31, .f32⟩
  | .hbm, ⟨18, _⟩ => ⟨S4x4x64x12x64x31, .f32⟩
  | .hbm, ⟨19, _⟩ => ⟨S_, .f32⟩
  | .hbm, ⟨20, _⟩ => ⟨S4x4x64x12x64, .f32⟩
  | .hbm, ⟨21, _⟩ => ⟨S4x256x768, .f32⟩
  | .hbm, ⟨22, _⟩ => ⟨S8192x4x64, .bf16⟩
  | .hbm, ⟨23, _⟩ => ⟨S8192x1x4x64, .bf16⟩
  | .hbm, ⟨24, _⟩ => ⟨S1x4x8192x64, .bf16⟩
  | .hbm, ⟨25, _⟩ => ⟨S4x8192x64, .bf16⟩
  | .hbm, ⟨26, _⟩ => ⟨S8192x4x64, .bf16⟩
  | .hbm, ⟨27, _⟩ => ⟨S8192x1x4x64, .bf16⟩
  | .hbm, ⟨28, _⟩ => ⟨S1x4x8192x64, .bf16⟩
  | .hbm, ⟨29, _⟩ => ⟨S4x8192x64, .bf16⟩
  | .hbm, ⟨30, _⟩ => ⟨S8192x4x64, .bf16⟩
  | .hbm, ⟨31, _⟩ => ⟨S8192x1x4x64, .bf16⟩
  | .hbm, ⟨32, _⟩ => ⟨S1x4x8192x64, .bf16⟩
  | .hbm, ⟨33, _⟩ => ⟨S4x8192x64, .bf16⟩
  | .hbm, ⟨34, _⟩ => ⟨S_, .i32⟩
  | .hbm, ⟨35, _⟩ => ⟨S_, .bf16⟩
  | .hbm, ⟨36, _⟩ => ⟨S4x8704x64, .bf16⟩
  | .hbm, ⟨37, _⟩ => ⟨S_, .i32⟩
  | .hbm, ⟨38, _⟩ => ⟨S_, .bf16⟩
  | .hbm, ⟨39, _⟩ => ⟨S4x8704x64, .bf16⟩
  | .hbm, ⟨40, _⟩ => ⟨S4x8192x64, .f32⟩
  | .hbm, ⟨41, _⟩ => ⟨S4x8192x1, .f32⟩
  | .hbm, ⟨42, _⟩ => ⟨S1x4x8192x64, .f32⟩
  | .hbm, ⟨43, _⟩ => ⟨S8192x1x4x64, .f32⟩
  | .hbm, ⟨44, _⟩ => ⟨S8192x4x64, .f32⟩
  | .hbm, ⟨45, _⟩ => ⟨S1x4x8192x1, .f32⟩
  | .hbm, ⟨46, _⟩ => ⟨S8192x1x4x1, .f32⟩
  | .hbm, ⟨47, _⟩ => ⟨S8192x4x1, .f32⟩
  | .hbm, ⟨48, _⟩ => ⟨S8192x4, .f32⟩
  | .hbm, ⟨49, _⟩ => ⟨S_, .f32⟩
  | .hbm, ⟨50, _⟩ => ⟨S8192x4, .f32⟩
  | .hbm, ⟨51, _⟩ => ⟨S8192x1x4x64, .f32⟩
  | .hbm, ⟨52, _⟩ => ⟨S1x4x8192x64, .f32⟩
  | .hbm, ⟨53, _⟩ => ⟨S4x8192x64, .f32⟩
  | .hbm, ⟨54, _⟩ => ⟨S8192x4x1, .f32⟩
  | .hbm, ⟨55, _⟩ => ⟨S8192x1x4x1, .f32⟩
  | .hbm, ⟨56, _⟩ => ⟨S1x4x8192x1, .f32⟩
  | .hbm, ⟨57, _⟩ => ⟨S4x8192x1, .f32⟩
  | .hbm, ⟨58, _⟩ => ⟨S4x8192x64, .f32⟩
  | .hbm, ⟨59, _⟩ => ⟨S4x8704x64, .f32⟩
  | .hbm, ⟨60, _⟩ => ⟨S4x8704x64, .f32⟩
  | .hbm, ⟨61, _⟩ => ⟨S4x256x768, .f32⟩
  | .hbm, ⟨62, _⟩ => ⟨S4x8192x64, .f32⟩
  | .hbm, ⟨63, _⟩ => ⟨S4x8192x64, .f32⟩
  | .hbm, ⟨64, _⟩ => ⟨S1x4x8192x64, .f32⟩
  | .hbm, ⟨65, _⟩ => ⟨S8192x1x4x64, .f32⟩
  | .hbm, ⟨66, _⟩ => ⟨S8192x4x64, .f32⟩
  | .hbm, ⟨67, _⟩ => ⟨S1x4x8192x64, .f32⟩
  | .hbm, ⟨68, _⟩ => ⟨S8192x1x4x64, .f32⟩
  | .hbm, ⟨69, _⟩ => ⟨S8192x4x64, .f32⟩
  | .hbm, ⟨70, _⟩ => ⟨S1x4x8192x64, .f32⟩
  | .hbm, ⟨71, _⟩ => ⟨S8192x1x4x64, .f32⟩
  | .hbm, ⟨72, _⟩ => ⟨S8192x4x64, .f32⟩
  | .hbm, ⟨73, _⟩ => ⟨S4x4x64x12x64, .f32⟩
  | .hbm, ⟨74, _⟩ => ⟨S4x4x64x12x64x31, .f32⟩
  | .hbm, ⟨75, _⟩ => ⟨S4x4x64x12x64x31, .f32⟩
  | .hbm, ⟨76, _⟩ => ⟨S4x4x64x12x64x31, .f32⟩
  | .hbm, ⟨77, _⟩ => ⟨S_, .f32⟩
  | .hbm, ⟨78, _⟩ => ⟨S4x4x12x31, .f32⟩
  | .hbm, ⟨79, _⟩ => ⟨S4x4x1x12x1x31, .f32⟩
  | .hbm, ⟨80, _⟩ => ⟨S_, .f32⟩
  | .hbm, ⟨81, _⟩ => ⟨S4x4x12x31, .f32⟩
  | .hbm, ⟨82, _⟩ => ⟨S4x4x12x15x31, .f32⟩
  | .hbm, ⟨83, _⟩ => ⟨S4x4x12x15x31, .f32⟩
  | .hbm, ⟨84, _⟩ => ⟨S4x4x12x15x31, .f32⟩
  | .hbm, ⟨85, _⟩ => ⟨S_, .f32⟩
  | .hbm, ⟨86, _⟩ => ⟨S4x15x31, .f32⟩
  | .hbm, ⟨87, _⟩ => ⟨S4x1x1x15x31, .f32⟩
  | .hbm, ⟨88, _⟩ => ⟨S_, .f32⟩
  | .hbm, ⟨89, _⟩ => ⟨S4x15x31, .f32⟩
  | .local _ .vmem, ⟨0, _⟩ => ⟨S1x1024x64, .bf16⟩
  | .local _ .vmem, ⟨1, _⟩ => ⟨S1x1024x64, .bf16⟩
  | .local _ .vmem, ⟨2, _⟩ => ⟨S1x8704x64, .bf16⟩
  | .local _ .vmem, ⟨3, _⟩ => ⟨S1x8704x64, .bf16⟩
  | .local _ .vmem, ⟨4, _⟩ => ⟨S1x8704x64, .bf16⟩
  | .local _ .vmem, ⟨5, _⟩ => ⟨S1x8704x64, .bf16⟩
  | .local _ .vmem, ⟨6, _⟩ => ⟨S1x256x768, .f32⟩
  | .local _ .vmem, ⟨7, _⟩ => ⟨S1x256x768, .f32⟩
  | .local _ .vmem, ⟨8, _⟩ => ⟨S1x1024x64, .f32⟩
  | .local _ .vmem, ⟨9, _⟩ => ⟨S1x1024x64, .f32⟩
  | .local _ .vmem, ⟨10, _⟩ => ⟨S1x1024x1, .f32⟩
  | .local _ .vmem, ⟨11, _⟩ => ⟨S1x1024x1, .f32⟩
  | .local _ .vmem, ⟨12, _⟩ => ⟨S1x1024x64, .bf16⟩
  | .local _ .vmem, ⟨13, _⟩ => ⟨S1x1024x64, .bf16⟩
  | .local _ .vmem, ⟨14, _⟩ => ⟨S1x8704x64, .bf16⟩
  | .local _ .vmem, ⟨15, _⟩ => ⟨S1x8704x64, .bf16⟩
  | .local _ .vmem, ⟨16, _⟩ => ⟨S1x8704x64, .bf16⟩
  | .local _ .vmem, ⟨17, _⟩ => ⟨S1x8704x64, .bf16⟩
  | .local _ .vmem, ⟨18, _⟩ => ⟨S1x256x768, .f32⟩
  | .local _ .vmem, ⟨19, _⟩ => ⟨S1x256x768, .f32⟩
  | .local _ .vmem, ⟨20, _⟩ => ⟨S1x1024x64, .f32⟩
  | .local _ .vmem, ⟨21, _⟩ => ⟨S1x1024x64, .f32⟩
  | .local _ .vmem, ⟨22, _⟩ => ⟨S1x1024x1, .f32⟩
  | .local _ .vmem, ⟨23, _⟩ => ⟨S1x1024x1, .f32⟩
  | .local _ .vmem, ⟨24, _⟩ => ⟨S1x1024x64, .f32⟩
  | .local _ .vmem, ⟨25, _⟩ => ⟨S1x1024x64, .f32⟩
  | .local _ .vmem, ⟨26, _⟩ => ⟨S1x1024x1, .f32⟩
  | .local _ .vmem, ⟨27, _⟩ => ⟨S1x1024x1, .f32⟩
  | .local _ .vmem, ⟨28, _⟩ => ⟨S1x1024x64, .f32⟩
  | .local _ .vmem, ⟨29, _⟩ => ⟨S1x1024x64, .f32⟩
  | .local _ .vmem, ⟨30, _⟩ => ⟨S1x8704x64, .f32⟩
  | .local _ .vmem, ⟨31, _⟩ => ⟨S1x8704x64, .f32⟩
  | .local _ .vmem, ⟨32, _⟩ => ⟨S1x8704x64, .f32⟩
  | .local _ .vmem, ⟨33, _⟩ => ⟨S1x8704x64, .f32⟩
  | .local _ .vmem, ⟨34, _⟩ => ⟨S1x256x768, .f32⟩
  | .local _ .vmem, ⟨35, _⟩ => ⟨S1x256x768, .f32⟩
  | _, _ => ⟨S8192x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c : Ref sig .tc := ⟨.hbm, 34, rfl⟩
abbrev main_call0_v0 : Ref sig .tc := ⟨.hbm, 35, rfl⟩
abbrev main_v25 : Ref sig .tc := ⟨.hbm, 36, rfl⟩
abbrev main_c_3 : Ref sig .tc := ⟨.hbm, 37, rfl⟩
abbrev main_call1_v0 : Ref sig .tc := ⟨.hbm, 38, rfl⟩
abbrev main_v26 : Ref sig .tc := ⟨.hbm, 39, rfl⟩
abbrev main_v27_0 : Ref sig .tc := ⟨.hbm, 40, rfl⟩
abbrev main_v27_1 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_4 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43_0 : Ref sig .tc := ⟨.hbm, 58, rfl⟩
abbrev main_v43_1 : Ref sig .tc := ⟨.hbm, 59, rfl⟩
abbrev main_v43_2 : Ref sig .tc := ⟨.hbm, 60, rfl⟩
abbrev main_v43_3 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_5 : Ref sig .tc := ⟨.hbm, 77, rfl⟩
abbrev main_v59 : Ref sig .tc := ⟨.hbm, 78, rfl⟩
abbrev main_v60 : Ref sig .tc := ⟨.hbm, 79, rfl⟩
abbrev main_cst_6 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_7 : Ref sig .tc := ⟨.hbm, 85, rfl⟩
abbrev main_v65 : Ref sig .tc := ⟨.hbm, 86, rfl⟩
abbrev main_v66 : Ref sig .tc := ⟨.hbm, 87, rfl⟩
abbrev main_cst_8 : Ref sig .tc := ⟨.hbm, 88, rfl⟩
abbrev main_v67 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc1_stg8_0 : Ref sig .tc := ⟨.vmem, 28, rfl⟩
abbrev cc1_stg8_1 : Ref sig .tc := ⟨.vmem, 29, rfl⟩
abbrev cc1_stg9_0 : Ref sig .tc := ⟨.vmem, 30, rfl⟩
abbrev cc1_stg9_1 : Ref sig .tc := ⟨.vmem, 31, rfl⟩
abbrev cc1_stg10_0 : Ref sig .tc := ⟨.vmem, 32, rfl⟩
abbrev cc1_stg10_1 : Ref sig .tc := ⟨.vmem, 33, rfl⟩
abbrev cc1_stg11_0 : Ref sig .tc := ⟨.vmem, 34, rfl⟩
abbrev cc1_stg11_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27
abbrev cc1_sem8_0 : DmaSem sig := 28
abbrev cc1_sem8_1 : DmaSem sig := 29
abbrev cc1_sem9_0 : DmaSem sig := 30
abbrev cc1_sem9_1 : DmaSem sig := 31
abbrev cc1_sem10_0 : DmaSem sig := 32
abbrev cc1_sem10_1 : DmaSem sig := 33
abbrev cc1_sem11_0 : DmaSem sig := 34
abbrev cc1_sem11_1 : DmaSem sig := 35

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  let c0_i32 : BitVec 32 := 0#32
  let v1 : BitVec 32 := Scalar.addi v0 c0_i32
  v1
def k0_off1 (i : grid0.Coords) (c0_i32 : BitVec 32) : Fin 3 → Nat :=
  let c0 : Index := 0#32
  let arg1 : BitVec 32 := BitVec.ofNat 32 (i 1).val
  let c1024_i32 : BitVec 32 := 1024#32
  let v0 : BitVec 32 := Scalar.muli arg1 c1024_i32
  let v1 : BitVec 32 := Scalar.addi v0 c0_i32
  let v2 : BitVec 32 := v1
  let v4 : Index := Scalar.indexCast v2
  let c0_0 : Index := 0#32
  ![0, v4.toNat, 0]
def k0_mult2 (i : grid0.Coords) : BitVec 32 :=
  let arg1 : BitVec 32 := BitVec.ofNat 32 (i 1).val
  let c1024_i32_25 : BitVec 32 := 1024#32
  let v84 : BitVec 32 := Scalar.muli arg1 c1024_i32_25
  let c256_i32_26 : BitVec 32 := 256#32
  let v85 : BitVec 32 := Scalar.addi v84 c256_i32_26
  v85
def k0_mult3 (i : grid0.Coords) : BitVec 32 :=
  let arg1 : BitVec 32 := BitVec.ofNat 32 (i 1).val
  let c1024_i32_61 : BitVec 32 := 1024#32
  let v168 : BitVec 32 := Scalar.muli arg1 c1024_i32_61
  let c512_i32 : BitVec 32 := 512#32
  let v169 : BitVec 32 := Scalar.addi v168 c512_i32
  v169
def k0_mult4 (i : grid0.Coords) : BitVec 32 :=
  let arg1 : BitVec 32 := BitVec.ofNat 32 (i 1).val
  let c1024_i32_96 : BitVec 32 := 1024#32
  let v252 : BitVec 32 := Scalar.muli arg1 c1024_i32_96
  let c768_i32 : BitVec 32 := 768#32
  let v253 : BitVec 32 := Scalar.addi v252 c768_i32
  v253
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8704x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8704x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![4, 8], ![false, false]⟩

def k1_mult1 (i : grid1.Coords) : BitVec 32 :=
  let arg1 : BitVec 32 := BitVec.ofNat 32 (i 1).val
  let c1024_i32 : BitVec 32 := 1024#32
  let v3 : BitVec 32 := Scalar.muli arg1 c1024_i32
  let c0_i32_1 : BitVec 32 := 0#32
  let v4 : BitVec 32 := Scalar.addi v3 c0_i32_1
  v4
def k1_off1 (i : grid1.Coords) (c0_i32_1 : BitVec 32) : Fin 3 → Nat :=
  let c0_4 : Index := 0#32
  let arg1 : BitVec 32 := BitVec.ofNat 32 (i 1).val
  let c1024_i32 : BitVec 32 := 1024#32
  let v3 : BitVec 32 := Scalar.muli arg1 c1024_i32
  let v4 : BitVec 32 := Scalar.addi v3 c0_i32_1
  let v5 : BitVec 32 := v4
  let v9 : Index := Scalar.indexCast v5
  let c0_5 : Index := 0#32
  ![0, v9.toNat, 0]
def k1_mult2 (i : grid1.Coords) : BitVec 32 :=
  let arg1 : BitVec 32 := BitVec.ofNat 32 (i 1).val
  let c1024_i32_53 : BitVec 32 := 1024#32
  let v120 : BitVec 32 := Scalar.muli arg1 c1024_i32_53
  let c256_i32_54 : BitVec 32 := 256#32
  let v121 : BitVec 32 := Scalar.addi v120 c256_i32_54
  v121
def k1_mult3 (i : grid1.Coords) : BitVec 32 :=
  let arg1 : BitVec 32 := BitVec.ofNat 32 (i 1).val
  let c1024_i32_115 : BitVec 32 := 1024#32
  let v237 : BitVec 32 := Scalar.muli arg1 c1024_i32_115
  let c512_i32 : BitVec 32 := 512#32
  let v238 : BitVec 32 := Scalar.addi v237 c512_i32
  v238
def k1_mult4 (i : grid1.Coords) : BitVec 32 :=
  let arg1 : BitVec 32 := BitVec.ofNat 32 (i 1).val
  let c1024_i32_176 : BitVec 32 := 1024#32
  let v354 : BitVec 32 := Scalar.muli arg1 c1024_i32_176
  let c768_i32 : BitVec 32 := 768#32
  let v355 : BitVec 32 := Scalar.addi v354 c768_i32
  v355
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x8704x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x8704x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x256x768 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1024x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1024x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x1024x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x1024x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x1024x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S1x8704x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev stage1_10 : Fin 2 → Memref sig .tc .vmem S1x8704x64 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, false]

abbrev stage1_11 : Fin 2 → Memref sig .tc .vmem S1x256x768 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, false]
-- ==== NattenIdeal.lean ====
variable {F : FTy → Type} [FloatOps F] [Named F]
def κ : String → Option EReal := fun
  | "mask" => some ⊥
  | _ => none
-- ==== NormFwd.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1024, .f32⟩
  | .hbm, ⟨3, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFwdRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Adam.lean ====
abbrev S8x5904x1024 : Shape := ⟨3, ![8, 5904, 1024]⟩
abbrev S5904x1024 : Shape := ⟨2, ![5904, 1024]⟩
abbrev S8x144x1024 : Shape := ⟨3, ![8, 144, 1024]⟩
abbrev S144x1024 : Shape := ⟨2, ![144, 1024]⟩
abbrev S1x144x1024 : Shape := ⟨3, ![1, 144, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x5904x1024, .bf16⟩
  | .hbm, ⟨1, _⟩ => ⟨S5904x1024, .f32⟩
  | .hbm, ⟨2, _⟩ => ⟨S5904x1024, .f32⟩
  | .hbm, ⟨3, _⟩ => ⟨S5904x1024, .f32⟩
  | .hbm, ⟨4, _⟩ => ⟨S5904x1024, .f32⟩
  | .hbm, ⟨5, _⟩ => ⟨S5904x1024, .f32⟩
  | .hbm, ⟨6, _⟩ => ⟨S5904x1024, .f32⟩
  | .hbm, ⟨7, _⟩ => ⟨S5904x1024, .f32⟩
  | .local _ .vmem, ⟨0, _⟩ => ⟨S8x144x1024, .bf16⟩
  | .local _ .vmem, ⟨1, _⟩ => ⟨S8x144x1024, .bf16⟩
  | .local _ .vmem, ⟨2, _⟩ => ⟨S144x1024, .f32⟩
  | .local _ .vmem, ⟨3, _⟩ => ⟨S144x1024, .f32⟩
  | .local _ .vmem, ⟨4, _⟩ => ⟨S144x1024, .f32⟩
  | .local _ .vmem, ⟨5, _⟩ => ⟨S144x1024, .f32⟩
  | .local _ .vmem, ⟨6, _⟩ => ⟨S144x1024, .f32⟩
  | .local _ .vmem, ⟨7, _⟩ => ⟨S144x1024, .f32⟩
  | .local _ .vmem, ⟨8, _⟩ => ⟨S144x1024, .f32⟩
  | .local _ .vmem, ⟨9, _⟩ => ⟨S144x1024, .f32⟩
  | .local _ .vmem, ⟨10, _⟩ => ⟨S144x1024, .f32⟩
  | .local _ .vmem, ⟨11, _⟩ => ⟨S144x1024, .f32⟩
  | .local _ .vmem, ⟨12, _⟩ => ⟨S144x1024, .f32⟩
  | .local _ .vmem, ⟨13, _⟩ => ⟨S144x1024, .f32⟩
  | .local _ .vmem, ⟨14, _⟩ => ⟨S144x1024, .f32⟩
  | .local _ .vmem, ⟨15, _⟩ => ⟨S144x1024, .f32⟩
  | _, _ => ⟨S8x5904x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![41], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x144x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S144x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S144x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S144x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S144x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S144x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S144x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S144x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamRefIdeal.lean ====
abbrev S8x5904x1024 : Shape := ⟨3, ![8, 5904, 1024]⟩
abbrev S5904x1024 : Shape := ⟨2, ![5904, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x5904x1024, .bf16⟩
  | .hbm, ⟨1, _⟩ => ⟨S5904x1024, .f32⟩
  | .hbm, ⟨2, _⟩ => ⟨S5904x1024, .f32⟩
  | .hbm, ⟨3, _⟩ => ⟨S5904x1024, .f32⟩
  | .hbm, ⟨4, _⟩ => ⟨S8x5904x1024, .f32⟩
  | .hbm, ⟨5, _⟩ => ⟨S_, .f32⟩
  | .hbm, ⟨6, _⟩ => ⟨S5904x1024, .f32⟩
  | .hbm, ⟨7, _⟩ => ⟨S_, .f32⟩
  | .hbm, ⟨8, _⟩ => ⟨S5904x1024, .f32⟩
  | .hbm, ⟨9, _⟩ => ⟨S5904x1024, .f32⟩
  | .hbm, ⟨10, _⟩ => ⟨S_, .f32⟩
  | .hbm, ⟨11, _⟩ => ⟨S5904x1024, .f32⟩
  | .hbm, ⟨12, _⟩ => ⟨S5904x1024, .f32⟩
  | .hbm, ⟨13, _⟩ => ⟨S5904x1024, .f32⟩
  | .hbm, ⟨14, _⟩ => ⟨S_, .f32⟩
  | .hbm, ⟨15, _⟩ => ⟨S5904x1024, .f32⟩
  | .hbm, ⟨16, _⟩ => ⟨S5904x1024, .f32⟩
  | .hbm, ⟨17, _⟩ => ⟨S5904x1024, .f32⟩
  | .hbm, ⟨18, _⟩ => ⟨S_, .f32⟩
  | .hbm, ⟨19, _⟩ => ⟨S5904x1024, .f32⟩
  | .hbm, ⟨20, _⟩ => ⟨S5904x1024, .f32⟩
  | .hbm, ⟨21, _⟩ => ⟨S5904x1024, .f32⟩
  | .hbm, ⟨22, _⟩ => ⟨S_, .f32⟩
  | .hbm, ⟨23, _⟩ => ⟨S5904x1024, .f32⟩
  | .hbm, ⟨24, _⟩ => ⟨S5904x1024, .f32⟩
  | .hbm, ⟨25, _⟩ => ⟨S_, .f32⟩
  | .hbm, ⟨26, _⟩ => ⟨S5904x1024, .f32⟩
  | .hbm, ⟨27, _⟩ => ⟨S5904x1024, .f32⟩
  | .hbm, ⟨28, _⟩ => ⟨S5904x1024, .f32⟩
  | .hbm, ⟨29, _⟩ => ⟨S_, .f32⟩
  | .hbm, ⟨30, _⟩ => ⟨S5904x1024, .f32⟩
  | .hbm, ⟨31, _⟩ => ⟨S5904x1024, .f32⟩
  | .hbm, ⟨32, _⟩ => ⟨S5904x1024, .f32⟩
  | .hbm, ⟨33, _⟩ => ⟨S_, .f32⟩
  | .hbm, ⟨34, _⟩ => ⟨S5904x1024, .f32⟩
  | .hbm, ⟨35, _⟩ => ⟨S5904x1024, .f32⟩
  | .hbm, ⟨36, _⟩ => ⟨S5904x1024, .f32⟩
  | .hbm, ⟨37, _⟩ => ⟨S_, .f32⟩
  | .hbm, ⟨38, _⟩ => ⟨S5904x1024, .f32⟩
  | .hbm, ⟨39, _⟩ => ⟨S5904x1024, .f32⟩
  | _, _ => ⟨S8x5904x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Product.lean ====
abbrev S8192x4096 : Shape := ⟨2, ![8192, 4096]⟩
abbrev S8192x1024 : Shape := ⟨2, ![8192, 1024]⟩
abbrev S4096x1024 : Shape := ⟨2, ![4096, 1024]⟩
abbrev S512x1024 : Shape := ⟨2, ![512, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S8192x4096, .bf16⟩
  | .hbm, ⟨3, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 16], ![false, false, false]⟩

def k0_cond2 (i : grid0.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProductRefIdeal.lean ====
abbrev S8192x4096 : Shape := ⟨2, ![8192, 4096]⟩
abbrev S8192x1024 : Shape := ⟨2, ![8192, 1024]⟩
abbrev S4096x8192 : Shape := ⟨2, ![4096, 8192]⟩
abbrev S4096x1024 : Shape := ⟨2, ![4096, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S4096x8192, .f32⟩
  | .hbm, ⟨3, _⟩ => ⟨S4096x1024, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== BandFwd4.lean ====
abbrev S8192x6x64 : Shape := ⟨3, ![8192, 6, 64]⟩
abbrev S2048x4x6x64 : Shape := ⟨4, ![2048, 4, 6, 64]⟩
abbrev S4x6x2048x64 : Shape := ⟨4, ![4, 6, 2048, 64]⟩
abbrev S24x2048x64 : Shape := ⟨3, ![24, 2048, 64]⟩
abbrev S_ : Shape := ⟨0, ![]⟩
abbrev S24x2176x64 : Shape := ⟨3, ![24, 2176, 64]⟩
abbrev S24x2048x1 : Shape := ⟨3, ![24, 2048, 1]⟩
abbrev S1x1024x64 : Shape := ⟨3, ![1, 1024, 64]⟩
abbrev S1x2176x64 : Shape := ⟨3, ![1, 2176, 64]⟩
abbrev S1x1024x1 : Shape := ⟨3, ![1, 1024, 1]⟩
abbrev S1x384x64 : Shape := ⟨3, ![1, 384, 64]⟩
abbrev S384x64 : Shape := ⟨2, ![384, 64]⟩
abbrev S1x256x64 : Shape := ⟨3, ![1, 256, 64]⟩
abbrev S256x64 : Shape := ⟨2, ![256, 64]⟩
abbrev S256x384 : Shape := ⟨2, ![256, 384]⟩
abbrev S256x1 : Shape := ⟨2, ![256, 1]⟩
abbrev S1x384 : Shape := ⟨2, ![1, 384]⟩
abbrev S256 : Shape := ⟨1, ![256]⟩
abbrev S1x256x1 : Shape := ⟨3, ![1, 256, 1]⟩
abbrev S4x6x2048x1 : Shape := ⟨4, ![4, 6, 2048, 1]⟩
abbrev S2048x4x6x1 : Shape := ⟨4, ![2048, 4, 6, 1]⟩
abbrev S8192x6x1 : Shape := ⟨3, ![8192, 6, 1]⟩
abbrev S8192x6 : Shape := ⟨2, ![8192, 6]⟩

abbrev nBuf : Space → Nat
  | .hbm => 30
  | .vmem => 10
  | .smem => 0
  | _ => 0

abbrev bufTy : (tb : Table) → Fin (tcTables nBuf tb) → BufTy
  | .hbm, ⟨0, _⟩ => ⟨S8192x6x64, .f32⟩
  | .hbm, ⟨1, _⟩ => ⟨S8192x6x64, .f32⟩
  | .hbm, ⟨2, _⟩ => ⟨S8192x6x64, .f32⟩
  | .hbm, ⟨3, _⟩ => ⟨S8192x6x64, .bf16⟩
  | .hbm, ⟨4, _⟩ => ⟨S2048x4x6x64, .bf16⟩
  | .hbm, ⟨5, _⟩ => ⟨S4x6x2048x64, .bf16⟩
  | .hbm, ⟨6, _⟩ => ⟨S24x2048x64, .bf16⟩
  | .hbm, ⟨7, _⟩ => ⟨S8192x6x64, .bf16⟩
  | .hbm, ⟨8, _⟩ => ⟨S2048x4x6x64, .bf16⟩
  | .hbm, ⟨9, _⟩ => ⟨S4x6x2048x64, .bf16⟩
  | .hbm, ⟨10, _⟩ => ⟨S24x2048x64, .bf16⟩
  | .hbm, ⟨11, _⟩ => ⟨S8192x6x64, .bf16⟩
  | .hbm, ⟨12, _⟩ => ⟨S2048x4x6x64, .bf16⟩
  | .hbm, ⟨13, _⟩ => ⟨S4x6x2048x64, .bf16⟩
  | .hbm, ⟨14, _⟩ => ⟨S24x2048x64, .bf16⟩
  | .hbm, ⟨15, _⟩ => ⟨S_, .i32⟩
  | .hbm, ⟨16, _⟩ => ⟨S_, .bf16⟩
  | .hbm, ⟨17, _⟩ => ⟨S24x2176x64, .bf16⟩
  | .hbm, ⟨18, _⟩ => ⟨S_, .i32⟩
  | .hbm, ⟨19, _⟩ => ⟨S_, .bf16⟩
  | .hbm, ⟨20, _⟩ => ⟨S24x2176x64, .bf16⟩
  | .hbm, ⟨21, _⟩ => ⟨S24x2048x64, .f32⟩
  | .hbm, ⟨22, _⟩ => ⟨S24x2048x1, .f32⟩
  | .hbm, ⟨23, _⟩ => ⟨S4x6x2048x64, .f32⟩
  | .hbm, ⟨24, _⟩ => ⟨S2048x4x6x64, .f32⟩
  | .hbm, ⟨25, _⟩ => ⟨S8192x6x64, .f32⟩
  | .hbm, ⟨26, _⟩ => ⟨S4x6x2048x1, .f32⟩
  | .hbm, ⟨27, _⟩ => ⟨S2048x4x6x1, .f32⟩
  | .hbm, ⟨28, _⟩ => ⟨S8192x6x1, .f32⟩
  | .hbm, ⟨29, _⟩ => ⟨S8192x6, .f32⟩
  | .local _ .vmem, ⟨0, _⟩ => ⟨S1x1024x64, .bf16⟩
  | .local _ .vmem, ⟨1, _⟩ => ⟨S1x1024x64, .bf16⟩
  | .local _ .vmem, ⟨2, _⟩ => ⟨S1x2176x64, .bf16⟩
  | .local _ .vmem, ⟨3, _⟩ => ⟨S1x2176x64, .bf16⟩
  | .local _ .vmem, ⟨4, _⟩ => ⟨S1x2176x64, .bf16⟩
  | .local _ .vmem, ⟨5, _⟩ => ⟨S1x2176x64, .bf16⟩
  | .local _ .vmem, ⟨6, _⟩ => ⟨S1x1024x64, .f32⟩
  | .local _ .vmem, ⟨7, _⟩ => ⟨S1x1024x64, .f32⟩
  | .local _ .vmem, ⟨8, _⟩ => ⟨S1x1024x1, .f32⟩
  | .local _ .vmem, ⟨9, _⟩ => ⟨S1x1024x1, .f32⟩
  | _, _ => ⟨S8192x6x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c : Ref sig .tc := ⟨.hbm, 15, rfl⟩
abbrev main_call0_v0 : Ref sig .tc := ⟨.hbm, 16, rfl⟩
abbrev main_v12 : Ref sig .tc := ⟨.hbm, 17, rfl⟩
abbrev main_c_0 : Ref sig .tc := ⟨.hbm, 18, rfl⟩
abbrev main_call1_v0 : Ref sig .tc := ⟨.hbm, 19, rfl⟩
abbrev main_v13 : Ref sig .tc := ⟨.hbm, 20, rfl⟩
abbrev main_v14_0 : Ref sig .tc := ⟨.hbm, 21, rfl⟩
abbrev main_v14_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![24, 2], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  let c0_i32 : BitVec 32 := 0#32
  let v1 : BitVec 32 := Scalar.addi v0 c0_i32
  v1
def k0_off1 (i : grid0.Coords) (c0_i32 : BitVec 32) : Fin 3 → Nat :=
  let c0 : Index := 0#32
  let arg1 : BitVec 32 := BitVec.ofNat 32 (i 1).val
  let c1024_i32 : BitVec 32 := 1024#32
  let v0 : BitVec 32 := Scalar.muli arg1 c1024_i32
  let v1 : BitVec 32 := Scalar.addi v0 c0_i32
  let v2 : BitVec 32 := v1
  let v4 : Index := Scalar.indexCast v2
  let c0_0 : Index := 0#32
  ![0, v4.toNat, 0]
def k0_mult2 (i : grid0.Coords) : BitVec 32 :=
  let arg1 : BitVec 32 := BitVec.ofNat 32 (i 1).val
  let c1024_i32_19 : BitVec 32 := 1024#32
  let v58 : BitVec 32 := Scalar.muli arg1 c1024_i32_19
  let c256_i32 : BitVec 32 := 256#32
  let v59 : BitVec 32 := Scalar.addi v58 c256_i32
  v59
def k0_mult3 (i : grid0.Coords) : BitVec 32 :=
  let arg1 : BitVec 32 := BitVec.ofNat 32 (i 1).val
  let c1024_i32_43 : BitVec 32 := 1024#32
  let v116 : BitVec 32 := Scalar.muli arg1 c1024_i32_43
  let c512_i32 : BitVec 32 := 512#32
  let v117 : BitVec 32 := Scalar.addi v116 c512_i32
  v117
def k0_mult4 (i : grid0.Coords) : BitVec 32 :=
  let arg1 : BitVec 32 := BitVec.ofNat 32 (i 1).val
  let c1024_i32_67 : BitVec 32 := 1024#32
  let v174 : BitVec 32 := Scalar.muli arg1 c1024_i32_67
  let c768_i32 : BitVec 32 := 768#32
  let v175 : BitVec 32 := Scalar.addi v174 c768_i32
  v175
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2176x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2176x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== BandFwd4Ideal.lean ====
variable {F : FTy → Type} [FloatOps F] [Named F]
def κ : String → Option EReal := fun
  | "mask" => some ⊥
  | _ => none
-- ==== BandFwd4RefIdeal.lean ====
abbrev S8192x6x64 : Shape := ⟨3, ![8192, 6, 64]⟩
abbrev S2048x4x6x64 : Shape := ⟨4, ![2048, 4, 6, 64]⟩
abbrev S4x2048x6x64 : Shape := ⟨4, ![4, 2048, 6, 64]⟩
abbrev S_ : Shape := ⟨0, ![]⟩
abbrev S4x32x64x6x64 : Shape := ⟨5, ![4, 32, 64, 6, 64]⟩
abbrev S4x64x6x64 : Shape := ⟨4, ![4, 64, 6, 64]⟩
abbrev S4x2176x6x64 : Shape := ⟨4, ![4, 2176, 6, 64]⟩
abbrev S4x34x64x6x64 : Shape := ⟨5, ![4, 34, 64, 6, 64]⟩
abbrev S4x32x192x6x64 : Shape := ⟨5, ![4, 32, 192, 6, 64]⟩
abbrev S2048 : Shape := ⟨1, ![2048]⟩
abbrev S32x64 : Shape := ⟨2, ![32, 64]⟩
abbrev S32 : Shape := ⟨1, ![32]⟩
abbrev S32x1 : Shape := ⟨2, ![32, 1]⟩
abbrev S192 : Shape := ⟨1, ![192]⟩
abbrev S1x192 : Shape := ⟨2, ![1, 192]⟩
abbrev S32x192 : Shape := ⟨2, ![32, 192]⟩
abbrev S32x64x1 : Shape := ⟨3, ![32, 64, 1]⟩
abbrev S32x1x192 : Shape := ⟨3, ![32, 1, 192]⟩
abbrev S32x64x192 : Shape := ⟨3, ![32, 64, 192]⟩
abbrev S4x32x6x64x192 : Shape := ⟨5, ![4, 32, 6, 64, 192]⟩
abbrev S1x32x1x64x192 : Shape := ⟨5, ![1, 32, 1, 64, 192]⟩
abbrev S4x32x6x64 : Shape := ⟨4, ![4, 32, 6, 64]⟩
abbrev S4x32x6x64x1 : Shape := ⟨5, ![4, 32, 6, 64, 1]⟩
abbrev S4x32x6x64x64 : Shape := ⟨5, ![4, 32, 6, 64, 64]⟩
abbrev S4x32x64x6 : Shape := ⟨4, ![4, 32, 64, 6]⟩
abbrev S4x32x64x6x1 : Shape := ⟨5, ![4, 32, 64, 6, 1]⟩
abbrev S4x2048x6 : Shape := ⟨3, ![4, 2048, 6]⟩
abbrev S2048x4x6 : Shape := ⟨3, ![2048, 4, 6]⟩
abbrev S8192x6 : Shape := ⟨2, ![8192, 6]⟩

abbrev nBuf : Space → Nat
  | .hbm => 99
  | .vmem => 0
  | .smem => 0
  | _ => 0

abbrev bufTy : (tb : Table) → Fin (tcTables nBuf tb) → BufTy
  | .hbm, ⟨0, _⟩ => ⟨S8192x6x64, .f32⟩
  | .hbm, ⟨1, _⟩ => ⟨S8192x6x64, .f32⟩
  | .hbm, ⟨2, _⟩ => ⟨S8192x6x64, .f32⟩
  | .hbm, ⟨3, _⟩ => ⟨S2048x4x6x64, .f32⟩
  | .hbm, ⟨4, _⟩ => ⟨S4x2048x6x64, .f32⟩
  | .hbm, ⟨5, _⟩ => ⟨S2048x4x6x64, .f32⟩
  | .hbm, ⟨6, _⟩ => ⟨S4x2048x6x64, .f32⟩
  | .hbm, ⟨7, _⟩ => ⟨S2048x4x6x64, .f32⟩
  | .hbm, ⟨8, _⟩ => ⟨S4x2048x6x64, .f32⟩
  | .hbm, ⟨9, _⟩ => ⟨S_, .i32⟩
  | .hbm, ⟨10, _⟩ => ⟨S_, .f32⟩
  | .hbm, ⟨11, _⟩ => ⟨S4x2048x6x64, .f32⟩
  | .hbm, ⟨12, _⟩ => ⟨S4x32x64x6x64, .f32⟩
  | .hbm, ⟨13, _⟩ => ⟨S_, .f32⟩
  | .hbm, ⟨14, _⟩ => ⟨S4x64x6x64, .f32⟩
  | .hbm, ⟨15, _⟩ => ⟨S_, .f32⟩
  | .hbm, ⟨16, _⟩ => ⟨S4x64x6x64, .f32⟩
  | .hbm, ⟨17, _⟩ => ⟨S4x2176x6x64, .f32⟩
  | .hbm, ⟨18, _⟩ => ⟨S4x34x64x6x64, .f32⟩
  | .hbm, ⟨19, _⟩ => ⟨S4x2176x6x64, .f32⟩
  | .hbm, ⟨20, _⟩ => ⟨S4x34x64x6x64, .f32⟩
  | .hbm, ⟨21, _⟩ => ⟨S4x32x64x6x64, .f32⟩
  | .hbm, ⟨22, _⟩ => ⟨S4x32x64x6x64, .f32⟩
  | .hbm, ⟨23, _⟩ => ⟨S4x32x64x6x64, .f32⟩
  | .hbm, ⟨24, _⟩ => ⟨S4x32x192x6x64, .f32⟩
  | .hbm, ⟨25, _⟩ => ⟨S4x32x64x6x64, .f32⟩
  | .hbm, ⟨26, _⟩ => ⟨S4x32x64x6x64, .f32⟩
  | .hbm, ⟨27, _⟩ => ⟨S4x32x64x6x64, .f32⟩
  | .hbm, ⟨28, _⟩ => ⟨S4x32x192x6x64, .f32⟩
  | .hbm, ⟨29, _⟩ => ⟨S2048, .i32⟩
  | .hbm, ⟨30, _⟩ => ⟨S32x64, .i32⟩
  | .hbm, ⟨31, _⟩ => ⟨S32, .i32⟩
  | .hbm, ⟨32, _⟩ => ⟨S32x1, .i32⟩
  | .hbm, ⟨33, _⟩ => ⟨S_, .i32⟩
  | .hbm, ⟨34, _⟩ => ⟨S32x1, .i32⟩
  | .hbm, ⟨35, _⟩ => ⟨S32x1, .i32⟩
  | .hbm, ⟨36, _⟩ => ⟨S_, .i32⟩
  | .hbm, ⟨37, _⟩ => ⟨S32x1, .i32⟩
  | .hbm, ⟨38, _⟩ => ⟨S32x1, .i32⟩
  | .hbm, ⟨39, _⟩ => ⟨S192, .i32⟩
  | .hbm, ⟨40, _⟩ => ⟨S1x192, .i32⟩
  | .hbm, ⟨41, _⟩ => ⟨S32x192, .i32⟩
  | .hbm, ⟨42, _⟩ => ⟨S32x192, .i32⟩
  | .hbm, ⟨43, _⟩ => ⟨S32x192, .i32⟩
  | .hbm, ⟨44, _⟩ => ⟨S32x64x1, .i32⟩
  | .hbm, ⟨45, _⟩ => ⟨S32x1x192, .i32⟩
  | .hbm, ⟨46, _⟩ => ⟨S32x64x192, .i32⟩
  | .hbm, ⟨47, _⟩ => ⟨S32x64x192, .i32⟩
  | .hbm, ⟨48, _⟩ => ⟨S32x64x192, .i32⟩
  | .hbm, ⟨49, _⟩ => ⟨S32x64x192, .i32⟩
  | .hbm, ⟨50, _⟩ => ⟨S_, .i32⟩
  | .hbm, ⟨51, _⟩ => ⟨S32x64x192, .i32⟩
  | .hbm, ⟨52, _⟩ => ⟨S32x64x192, .i1⟩
  | .hbm, ⟨53, _⟩ => ⟨S32x1x192, .i32⟩
  | .hbm, ⟨54, _⟩ => ⟨S_, .i32⟩
  | .hbm, ⟨55, _⟩ => ⟨S32x1x192, .i32⟩
  | .hbm, ⟨56, _⟩ => ⟨S32x1x192, .i1⟩
  | .hbm, ⟨57, _⟩ => ⟨S32x64x192, .i1⟩
  | .hbm, ⟨58, _⟩ => ⟨S32x64x192, .i1⟩
  | .hbm, ⟨59, _⟩ => ⟨S32x1x192, .i32⟩
  | .hbm, ⟨60, _⟩ => ⟨S_, .i32⟩
  | .hbm, ⟨61, _⟩ => ⟨S32x1x192, .i32⟩
  | .hbm, ⟨62, _⟩ => ⟨S32x1x192, .i1⟩
  | .hbm, ⟨63, _⟩ => ⟨S32x64x192, .i1⟩
  | .hbm, ⟨64, _⟩ => ⟨S32x64x192, .i1⟩
  | .hbm, ⟨65, _⟩ => ⟨S4x32x6x64x192, .f32⟩
  | .hbm, ⟨66, _⟩ => ⟨S_, .f32⟩
  | .hbm, ⟨67, _⟩ => ⟨S4x32x6x64x192, .f32⟩
  | .hbm, ⟨68, _⟩ => ⟨S4x32x6x64x192, .f32⟩
  | .hbm, ⟨69, _⟩ => ⟨S1x32x1x64x192, .i1⟩
  | .hbm, ⟨70, _⟩ => ⟨S_, .f32⟩
  | .hbm, ⟨71, _⟩ => ⟨S_, .f32⟩
  | .hbm, ⟨72, _⟩ => ⟨S4x32x6x64x192, .i1⟩
  | .hbm, ⟨73, _⟩ => ⟨S4x32x6x64x192, .f32⟩
  | .hbm, ⟨74, _⟩ => ⟨S4x32x6x64x192, .f32⟩
  | .hbm, ⟨75, _⟩ => ⟨S_, .f32⟩
  | .hbm, ⟨76, _⟩ => ⟨S4x32x6x64, .f32⟩
  | .hbm, ⟨77, _⟩ => ⟨S4x32x6x64x1, .f32⟩
  | .hbm, ⟨78, _⟩ => ⟨S4x32x6x64x192, .f32⟩
  | .hbm, ⟨79, _⟩ => ⟨S4x32x6x64x192, .f32⟩
  | .hbm, ⟨80, _⟩ => ⟨S4x32x6x64x192, .f32⟩
  | .hbm, ⟨81, _⟩ => ⟨S_, .f32⟩
  | .hbm, ⟨82, _⟩ => ⟨S4x32x6x64, .f32⟩
  | .hbm, ⟨83, _⟩ => ⟨S4x32x6x64x64, .f32⟩
  | .hbm, ⟨84, _⟩ => ⟨S4x32x64x6x64, .f32⟩
  | .hbm, ⟨85, _⟩ => ⟨S4x32x64x6, .f32⟩
  | .hbm, ⟨86, _⟩ => ⟨S4x32x64x6x1, .f32⟩
  | .hbm, ⟨87, _⟩ => ⟨S4x32x64x6x64, .f32⟩
  | .hbm, ⟨88, _⟩ => ⟨S4x32x64x6x64, .f32⟩
  | .hbm, ⟨89, _⟩ => ⟨S4x32x6x64, .f32⟩
  | .hbm, ⟨90, _⟩ => ⟨S4x32x6x64, .f32⟩
  | .hbm, ⟨91, _⟩ => ⟨S4x32x6x64, .f32⟩
  | .hbm, ⟨92, _⟩ => ⟨S4x32x64x6, .f32⟩
  | .hbm, ⟨93, _⟩ => ⟨S4x2048x6x64, .f32⟩
  | .hbm, ⟨94, _⟩ => ⟨S4x2048x6, .f32⟩
  | .hbm, ⟨95, _⟩ => ⟨S2048x4x6x64, .f32⟩
  | .hbm, ⟨96, _⟩ => ⟨S8192x6x64, .f32⟩
  | .hbm, ⟨97, _⟩ => ⟨S2048x4x6, .f32⟩
  | .hbm, ⟨98, _⟩ => ⟨S8192x6, .f32⟩
  | _, _ => ⟨S8192x6x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_c_1 : Ref sig .tc := ⟨.hbm, 33, rfl⟩
abbrev main_v26 : Ref sig .tc := ⟨.hbm, 34, rfl⟩
abbrev main_v27 : Ref sig .tc := ⟨.hbm, 35, rfl⟩
abbrev main_c_2 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_c_3 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_c_4 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_c_5 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_6 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_7 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_v57 : Ref sig .tc := ⟨.hbm, 74, rfl⟩
abbrev main_cst_8 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_9 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩

abbrev nD : Nat := 1
abbrev τ : Topo := Topo.v7x

variable {F : FTy → Type} [FloatOps F]
-- ==== Proof.Reals.lean ====
/- Facts about extended reals that several calls' proofs use: a sum of reals is a real, the constants the programs
   name by their words, and what "the absolute value is below infinity at every element" says about an array. -/
module

public import Idealize.ShloMosaic.Lib.Pointwise
public import Idealize.ShloMosaic.Lib.ReduceAll
public import Idealize.ShloMosaic.PureOps.Ideal.Laws

@[expose] public section

noncomputable section

namespace Cert.Reals

open Idealize.ShloMosaic

/-- A finite sum of reals, taken in the extended reals, is the real sum. -/
theorem sum_coe {ι : Type*} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-- An extended real whose absolute value is below infinity is a real. -/
theorem real_of_abs {x : EReal} (h : max x (-x) < ⊤) : ∃ r : ℝ, x = r := by
  induction x with
  | bot => simp at h
  | top => simp at h
  | coe r => exact ⟨r, rfl⟩

/-- The word of 1024. -/
theorem c1024 : Ideal.ofBits .f32 0x44800000#32 = ((1024 : ℝ) : EReal) := by
  simp [Ideal.ofBits, Ideal.ieee]; rw [← EReal.coe_mul]; norm_num

/-- The word of −1/2. -/
theorem cNegHalf : Ideal.ofBits .f32 0xBF000000#32 = ((-(1 / 2) : ℝ) : EReal) := by
  simp [Ideal.ofBits, Ideal.ieee]; rw [← EReal.coe_mul]; norm_num

/-- The word of infinity. -/
theorem cInf : Ideal.ofBits .f32 0x7F800000#32 = ⊤ := by
  simp [Ideal.ofBits, Ideal.ieee]

/-- The word of minus infinity. -/
theorem cNegInf : Ideal.ofBits .f32 0xFF800000#32 = ⊥ := by
  simp [Ideal.ofBits, Ideal.ieee]

/-- The maximum of finitely many reals, taken in the extended reals from minus infinity, is a real. -/
theorem fold_max_real {n : ℕ} [NeZero n] (f : Fin n → EReal) (g : Fin n → ℝ) (h : ∀ i, f i = (g i : EReal)) :
    ∃ x : ℝ, Finset.univ.fold max (Ideal.ofBits .f32 0xFF800000#32) f = (x : EReal) := by
  rw [cNegInf]
  have e : Finset.univ.fold max ⊥ f = Finset.univ.sup f := rfl
  obtain ⟨i, -, hi⟩ := Finset.exists_mem_eq_sup Finset.univ ⟨0, Finset.mem_univ _⟩ f
  exact ⟨g i, by rw [e, hi, h i]⟩

/-- The greater of two reals, taken in the extended reals. -/
theorem max_real (a b : ℝ) : max (a : EReal) (b : EReal) = ((max a b : ℝ) : EReal) := (EReal.coe_strictMono.monotone.map_max).symm

/-- A sum over the first `T (k + 1)` indices is the sum over the first `T k` and the sum over the tile after them. -/
theorem sum_lt_tile {N T k : ℕ} (h : T * (k + 1) ≤ N) (f : Fin N → ℝ) :
    (∑ n, if n.val < T * (k + 1) then f n else 0) = (∑ n, if n.val < T * k then f n else 0)
      + ∑ r : Fin T, f ⟨T * k + r.val, by have := r.isLt; have : T * (k + 1) = T * k + T := Nat.mul_succ ..; omega⟩ := by
  have hT : T * (k + 1) = T * k + T := Nat.mul_succ ..
  have e : ∑ r : Fin T, f ⟨T * k + r.val, by have := r.isLt; omega⟩
      = ∑ n : Fin N, if T * k ≤ n.val ∧ n.val < T * (k + 1) then f n else 0 := by
    rw [← Finset.sum_filter]
    refine Finset.sum_bij (fun r _ => ⟨T * k + r.val, by have := r.isLt; omega⟩) ?_ ?_ ?_ ?_
    · intro r _; simp; omega
    · intro a _ b _ hab; simpa [Fin.ext_iff] using hab
    · intro n hn
      simp only [Finset.mem_filter, Finset.mem_univ, true_and] at hn
      exact ⟨⟨n.val - T * k, by omega⟩, Finset.mem_univ _, Fin.ext (by simp; omega)⟩
    · intro r _; rfl
  rw [e, ← Finset.sum_add_distrib]
  refine Finset.sum_congr rfl fun n _ => ?_
  by_cases h1 : n.val < T * k
  · rw [if_pos (by omega), if_pos h1, if_neg (by omega), add_zero]
  · by_cases h2 : n.val < T * (k + 1)
    · rw [if_pos h2, if_neg h1, if_pos (by omega), zero_add]
    · rw [if_neg h2, if_neg h1, if_neg (by omega), zero_add]

/-- The norms' epsilon, as its word reads. -/
def eps : ℝ := 8796093 * (2 : ℝ) ^ (-43 : ℤ)

theorem eps_pos : 0 < eps := by unfold eps; positivity

/-- The word of the norms' epsilon. -/
theorem cEps : Ideal.ofBits .f32 0x358637BD#32 = ((eps : ℝ) : EReal) := by
  simp [Ideal.ofBits, Ideal.ieee, eps]; try norm_num

/-- Dividing by a nonzero real, both taken in the extended reals. -/
theorem div_real (a : ℝ) {b : ℝ} (hb : b ≠ 0) : Ideal.div (a : EReal) (b : EReal) = ((a / b : ℝ) : EReal) := by
  rw [Ideal.div_coe hb, ← EReal.coe_mul]; congr 1; ring

/-- The reciprocal root of a positive real. -/
theorem rsqrt_real {v : ℝ} (hv : 0 < v) : Ideal.rsqrt (v : EReal) = (((Real.sqrt v)⁻¹ : ℝ) : EReal) := by
  rw [Ideal.rsqrt_coe, if_neg (not_lt.2 hv.le), if_neg hv.ne']

/-- An array of reals, as an array of extended reals. -/
abbrev up {ι : Type} (f : ι → ℝ) : ι → EReal := fun i => (f i : EReal)

/-- WHAT THE PRECONDITION SAYS OF ONE ARRAY: where `all(|x| < inf)` holds, `x` is an array of reals. -/
theorem real_of_all {s : Shape} {axes : List (Fin s.rank)} (x : FVec Ideal s .f32)
    (bc : (⟨0, ![]⟩ : Shape).BroadcastsInDim s ![]) (red : s.ReducesTo axes ⟨0, ![]⟩) (hu : 0 < (⟨0, ![]⟩ : Shape).numel)
    (h : Host.reduce IntOp.andi (cmpf .olt (Host.absf x) (broadcastInDim s ![] bc (constant ⟨0, ![]⟩ .f32 0x7F800000#32)))
      (constantI ⟨0, ![]⟩ 1 1#1) red hu = fun _ => 1#1) : ∃ f : s.Idx → ℝ, x = up f := by
  have key : ∀ i, ∃ r : ℝ, x i = (r : EReal) := fun i => by
    have e := Host.reduce_andi_all _ _ red hu (Shape.Idx.first hu) (congrFun h _) i
    have e' : BitVec.ofBool (decide (FloatOps.absf (x i) < Ideal.ofBits .f32 0x7F800000#32)) = 1#1 := e
    rw [cInf] at e'
    refine real_of_abs (x := x i) ?_
    by_contra hn
    have : decide ((FloatOps.absf (x i) : EReal) < ⊤) = false := decide_eq_false hn
    rw [this] at e'
    exact absurd e' (by decide)
  choose f hf using key
  exact ⟨f, funext hf⟩

end Cert.Reals

end
-- ==== Proof.NormMath.lean ====
/- THE MATHEMATICS OF A NORM'S GRADIENT over the reals: a row's reciprocal root mean square, and the gradients of the
   norm's input and scale as plain sums. -/
module

public import proofs.«01_k».proof.Proof.Reals

@[expose] public section

noncomputable section

namespace Cert.NormMath

open Idealize.ShloMosaic Cert.Reals

/-- A row's reciprocal root mean square. -/
def rr (x : Fin 1024 → ℝ) : ℝ := (Real.sqrt ((∑ k, x k * x k) / 1024 + eps))⁻¹

/-- A row's mean square plus the epsilon is positive. -/
theorem ms_pos (x : Fin 1024 → ℝ) : 0 < (∑ k, x k * x k) / 1024 + eps := by
  have : 0 ≤ ∑ k, x k * x k := Finset.sum_nonneg fun k _ => mul_self_nonneg _
  have := eps_pos
  positivity

/-- The programs' `rsqrt (mean (x²) + eps)` of a row of reals is the real `rr`. -/
theorem rsqrt_row (x : Fin 1024 → ℝ) :
    Ideal.rsqrt (Ideal.div (∑ k, (x k : EReal) * (x k : EReal)) (Ideal.ofBits .f32 0x44800000#32) + Ideal.ofBits .f32 0x358637BD#32)
      = (rr x : EReal) := by
  simp only [← EReal.coe_mul, sum_coe, c1024, cEps]
  rw [div_real _ (by norm_num), ← EReal.coe_add, rsqrt_real (ms_pos x)]; rfl

/-- `rr` divided by what it is the reciprocal root of is its cube. -/
theorem rr_div (x : Fin 1024 → ℝ) : rr x / ((∑ k, x k * x k) / 1024 + eps) = rr x ^ 3 := by
  have h := ms_pos x
  unfold rr
  have hs : Real.sqrt ((∑ k, x k * x k) / 1024 + eps) ≠ 0 := (Real.sqrt_pos.2 h).ne'
  conv_lhs => rw [← Real.sq_sqrt h.le]
  rw [Real.sqrt_sq (Real.sqrt_nonneg _)]
  field_simp

/-- The input gradient's element, over the reals. -/
def dxR (x g y : Fin 1024 → ℝ) (b : Fin 1024) : ℝ :=
  rr x * (y b * g b - x b * rr x * ((∑ k, y k * g k * (x k * rr x)) / 1024))

/-- The scale gradient's element, over the reals. -/
def dgR (x y : Fin 8192 → Fin 1024 → ℝ) (b : Fin 1024) : ℝ := ∑ a, y a b * (x a b * rr (x a))

/-! ## The loss of a norm's output -/

/-- A row's error: the norm's output less the target. -/
def err (x g t : Fin 1024 → ℝ) (b : Fin 1024) : ℝ := x b * rr x * g b - t b

/-- A row's mean squared error. -/
def mse (x g t : Fin 1024 → ℝ) : ℝ := (∑ b, err x g t b * err x g t b) / 1024

/-- The norm output's cotangent: the error over the row's length. -/
def ct (x g t : Fin 1024 → ℝ) (b : Fin 1024) : ℝ := err x g t b * (1 / 1024)

/-- The loss: half the sum over the rows of their mean squared errors. -/
def lossR (x t : Fin 8192 → Fin 1024 → ℝ) (g : Fin 1024 → ℝ) : ℝ := 1 / 2 * ∑ a, mse (x a) g (t a)

end Cert.NormMath

end
-- ==== Proof.NormBwd.lean ====
/- THE BACKWARD OF A NORM. The kernel walks 16 blocks of 512 rows, writes each block's input gradient and adds each
   block's part of the scale's gradient into one row. Here: what one block's body computes at an element, over the reals;
   that the reference's two results are the same reals; and that the kernel's two result arrays are the reference's. -/
module

public import proofs.«01_k».proof.Proof.NormMath
public import proofs.«01_k».proof.Proof.Gen.NormBwdIdeal.Value
public import proofs.«01_k».proof.Proof.Gen.NormBwdRefIdeal.Run
public import proofs.«01_k».proof.Proof.Gen.NormBwdRefIdeal.Read
public import Idealize.ShloMosaic.Lib.Pipeline.ValueKit

@[expose] public section

set_option maxRecDepth 16384

noncomputable section

namespace Cert.NormBwdIdeal.Value

open Cert.NormBwdIdeal Cert.NormBwdIdeal.Gen Idealize.ShloMosaic Idealize.ShloMosaic.TcCoe Idealize.SL.Sem
open Idealize.ShloMosaic.Pipeline (Dat)
open Cert.Reals Cert.NormMath

/-! ## The kernel's body at an element -/

/-- A block's input gradient. -/
theorem pay5_apply (x y : Fin 512 → Fin 1024 → ℝ) (g : Fin 1024 → ℝ) (X Y : FVec Ideal S512x1024 .f32) (G : FVec Ideal S1x1024 .f32)
    (hX : ∀ a b, X (ix2 a b) = (x a b : EReal)) (hY : ∀ a b, Y (ix2 a b) = (y a b : EReal)) (hG : ∀ b, G (ix2 0 b) = (g b : EReal))
    (a : Fin 512) (b : Fin 1024) : k0_pay5 (F := Ideal) X Y G (ix2 a b) = (dxR (x a) g (y a) b : EReal) := by
  pointwise [k0_pay5, k0_pay3, k0_pay2]
  simp only [hX, hY, hG]
  rw [rsqrt_row]
  simp only [← EReal.coe_mul, sum_coe, c1024]
  rw [div_real _ (by norm_num), ← EReal.coe_mul, ← EReal.coe_sub, ← EReal.coe_mul]; rfl

/-- The scale's gradient row after a block: what it held and the block's part. -/
theorem pay4_apply (x y : Fin 512 → Fin 1024 → ℝ) (X Y : FVec Ideal S512x1024 .f32) (acc : FVec Ideal S1x1024 .f32)
    (hX : ∀ a b, X (ix2 a b) = (x a b : EReal)) (hY : ∀ a b, Y (ix2 a b) = (y a b : EReal)) (b : Fin 1024) :
    k0_pay4 (F := Ideal) X Y acc (ix2 0 b) = acc (ix2 0 b) + ((∑ a, y a b * (x a b * rr (x a)) : ℝ) : EReal) := by
  pointwise [k0_pay4, k0_pay3, k0_pay2]
  simp only [hX, hY]
  simp only [rsqrt_row]
  simp only [← EReal.coe_mul, sum_coe]

/-- The row starts at zero. -/
theorem pay1_apply (j : S1x1024.Idx) : k0_pay1 (F := Ideal) j = 0 := by pointwise [k0_pay1]

/-- An index of a one-row array is its column's. -/
theorem eq_row (j : S1x1024.Idx) : j = ix2 0 (j 1) :=
  (eq_ix2 j).trans (congrArg (fun z : Fin 1 => (ix2 z (j 1) : S1x1024.Idx)) (@Subsingleton.elim (Fin 1) _ (j 0) 0))

/-- Which block each window stages at a point. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] :=
  (by decide +kernel : ∀ t : Fin grid0.N, _)

/-! ## The reference at an element -/

section Ref
open Cert.NormBwdRefIdeal.Read

variable (x y : Fin 8192 → Fin 1024 → ℝ) (g : Fin 1024 → ℝ) (X Y : FVec Ideal S8192x1024 .f32) (G : FVec Ideal ⟨1, ![1024]⟩ .f32)
    (hX : ∀ a b, X (ix2 a b) = (x a b : EReal)) (hY : ∀ a b, Y (ix2 a b) = (y a b : EReal)) (hG : ∀ b, G (ix1 b) = (g b : EReal))
include hX hY hG

/-- The reference's gradient of the input. -/
theorem ref_dx (a : Fin 8192) (b : Fin 1024) :
    val_main_v35 (F := Ideal) X G Y (ix2 a b) = (dxR (x a) g (y a) b : EReal) := by
  pointwise [val_main_v35, val_main_v34, val_main_v33, val_main_v32, val_main_v31, val_main_v30, val_main_v29, val_main_v28,
   val_main_v27, val_main_v26, val_main_v25, val_main_v24, val_main_v23, val_main_v22, val_main_v20, val_main_v19, val_main_v13,
   val_main_v10, val_main_v9, val_main_v8, val_main_v7, val_main_v6, val_main_v5, val_main_v4, val_main_v3, val_main_v2, val_main_v1,
   val_main_v0, val_main_cst, val_main_cst_0, val_main_cst_1, val_main_cst_2, val_main_cst_5, val_main_cst_6, val_main_cst_7]
  simp only [hX, hY, hG]
  rw [rsqrt_row]
  have hms := ms_pos (x a)
  simp only [← EReal.coe_mul, sum_coe, c1024, cNegHalf, cEps, div_real _ (show (1024 : ℝ) ≠ 0 by norm_num), ← EReal.coe_add,
    div_real _ hms.ne', rr_div]
  congr 1
  have hs : ∑ k, y a k * g k * (x a k * rr (x a)) = (∑ k, x a k * (y a k * g k)) * rr (x a) := by
    rw [Finset.sum_mul]; exact Finset.sum_congr rfl fun k _ => by ring
  rw [dxR, hs]
  simp only [Finset.univ_unique, Finset.sum_singleton]
  ring

omit hG in
/-- The reference's gradient of the scale. -/
theorem ref_dg (b : Fin 1024) : val_main_v36 (F := Ideal) X Y (ix2 0 b) = (dgR x y b : EReal) := by
  pointwise [val_main_v36, val_main_v21, val_main_v18, val_main_v17, val_main_v16, val_main_v12, val_main_v11, val_main_v7, val_main_v6,
    val_main_v5, val_main_v4, val_main_v3, val_main_v2, val_main_v1, val_main_v0, val_main_cst, val_main_cst_0, val_main_cst_1,
    val_main_cst_3, val_main_cst_4]
  simp only [hX, hY]
  simp only [rsqrt_row]
  simp only [← EReal.coe_mul, sum_coe]
  congr 1
  simp only [Finset.univ_unique, Finset.sum_singleton]
  exact Finset.sum_congr rfl fun k _ => by ring

end Ref

/-! ## The kernel's result arrays -/

variable (m : (ℓ : Loc nD τ sig) → Buf (Elt Ideal) ℓ)
variable (c : Dev nD) (x y : Fin 8192 → Fin 1024 → ℝ) (g : Fin 1024 → ℝ)
    (hX : ∀ a b, (m ((c : Thread nD τ).loc main_arg0) : FVec Ideal S8192x1024 .f32) (ix2 a b) = (x a b : EReal))
    (hY : ∀ a b, (m ((c : Thread nD τ).loc main_arg2) : FVec Ideal S8192x1024 .f32) (ix2 a b) = (y a b : EReal))
    (hG : ∀ b, (m ((c : Thread nD τ).loc main_arg1) : FVec Ideal S1024 .f32) (ix1 b) = (g b : EReal))

/-- The row of the array that row `a` of point `t`'s block is. -/
def row (t : Fin cfg0.N) (a : Fin 512) : Fin 8192 := ⟨t.val * 512 + a.val, by
  have ht : t.val < 16 := lt_of_lt_of_eq t.isLt N_0
  omega⟩

include hX in
/-- The block of rows a point stages. -/
theorem blk_x (t : Fin cfg0.N) (a : Fin 512) (b : Fin 1024) :
    (iblk m c 0 t : FVec Ideal S512x1024 .f32) (ix2 a b) = (x (row t a) b : EReal) := by
  refine Eq.trans ?_ (hX (row t a) b)
  blk_ext [iblk, V, idx t, row]

include hY in
/-- The block of cotangents a point stages. -/
theorem blk_y (t : Fin cfg0.N) (a : Fin 512) (b : Fin 1024) :
    (iblk m c 2 t : FVec Ideal S512x1024 .f32) (ix2 a b) = (y (row t a) b : EReal) := by
  refine Eq.trans ?_ (hY (row t a) b)
  blk_ext [iblk, V, idx t, row]

include hG in
/-- The scale a point stages. -/
theorem blk_g (t : Fin cfg0.N) (b : Fin 1024) :
    (iblk m c 1 t : FVec Ideal S1x1024 .f32) (ix2 0 b) = (g b : EReal) := by
  refine Eq.trans ?_ (hG b)
  blk_simp [iblk]
  entry_read
  pointwise
  blk_ext [idx t]

include hX hY hG in
/-- The input gradient's array. -/
theorem final_dx (G : FVec Ideal S8192x1024 .f32) (h : ∀ a b, G (ix2 a b) = (dxR (x a) g (y a) b : EReal)) :
    (dats m 0 c).arrAt 3 (cfgs 0).N = G := by
  refine (dats m 0 c).arrAt_eq_of_covers 3 _ (by decide +kernel) fun t _ j => ?_
  blk_simp
  rw [after0_3]
  have hp : (k0_pay5 (F := Ideal) (iblk m c 0 t) (iblk m c 2 t) (iblk m c 1 t) : FVec Ideal S512x1024 .f32) j
      = G (((cfg0.win 3).blk t).view.emb j) := by
    have hj : j = ix2 (j 0) (j 1) := eq_ix2 j
    rw [hj]
    refine (pay5_apply _ _ g _ _ _ (blk_x m c x hX t) (blk_y m c y hY t) (blk_g m c g hG t) (j 0) (j 1)).trans ?_
    refine (h (row t (j 0)) (j 1)).symm.trans (congrArg G ?_)
    blk_ext [idx t, row]
  by_cases h0 : t.val % 16 = 0
  · rw [outsAt0_A m c t h0]; frame_out; exact hp
  · rw [outsAt0_B m c t h0]; frame_out; exact hp

include hX hY in
/-- The scale gradient's array. -/
theorem final_dg (G : FVec Ideal S1x1024 .f32) (h : ∀ b, G (ix2 0 b) = (dgR x y b : EReal)) :
    (dats m 0 c).arrAt 4 (cfgs 0).N = G := by
  refine (dats m 0 c).arrAt_eq_of_covers 4 _ (by decide +kernel) fun t hf j => ?_
  blk_simp
  rw [after0_4, Pipeline.eq_sum_fin_of_reset_step_apply_of_flush (fun n h => (outsAt0 m c n h).2) 16 (fun _ => (0 : EReal))
    (fun t j => ((∑ a : Fin 512, y (row t a) (j 1) * (x (row t a) (j 1) * rr (x (row t a))) : ℝ) : EReal))
    (fun t h j => by
      rw [outsAt0_A m c t h]; frame_out
      rw [eq_row j]
      exact (pay4_apply _ _ _ _ _ (blk_x m c x hX t) (blk_y m c y hY t) (j 1)).trans (by rw [pay1_apply]; rfl))
    (fun t h j => by
      rw [outsAt0_B m c t h]; frame_out
      rw [eq_row j]
      exact pay4_apply _ _ _ _ _ (blk_x m c x hX t) (blk_y m c y hY t) (j 1))
    t ((flush0_4 t).mp hf) _, zero_add]
  have ht : t.val / 16 = 0 := by
    have := lt_of_lt_of_eq t.isLt N_0
    omega
  have hg : G ((win0_4.blk t).view.emb j) = (dgR x y (j 1) : EReal) := by
    refine Eq.trans (congrArg G ?_) (h (j 1))
    blk_ext [idx t]
  have hd : (dgR x y (j 1) : EReal) = ∑ s : Fin 16, ((∑ a : Fin 512, (y ⟨s.val * 512 + a.val, by omega⟩ (j 1)
      * (x ⟨s.val * 512 + a.val, by omega⟩ (j 1) * rr (x ⟨s.val * 512 + a.val, by omega⟩))) : ℝ) : EReal) := by
    rw [sum_coe]
    exact congrArg _ (Fin.sum_univ_tiles 16 512 rfl fun a : Fin 8192 => y a (j 1) * (x a (j 1) * rr (x a)))
  refine Eq.trans ?_ (hg.trans hd).symm
  refine Fin.sum_fin_congr fun s => ?_
  have hr : ∀ a, row ⟨16 * (t.val / 16) + s.val, Pipeline.run_point_lt_of_flush t ((flush0_4 t).mp hf) s⟩ a
      = ⟨s.val * 512 + a.val, by omega⟩ := fun a => by
    simp only [row, ht]; congr 1; omega
  simp only [hr]

end Cert.NormBwdIdeal.Value

end
-- ==== Proof.NormBwdClaim.lean ====
/- The norm's value claim: on finite arguments the kernel's two result arrays and the reference's are equal. -/
module

public import proofs.«01_k».proof.Defs
public import proofs.«01_k».proof.Proof.NormBwd
public import proofs.«01_k».proof.Proof.Gen.Pre_norm_fin
public import Idealize.ShloMosaic.Lib.Claim

@[expose] public section

set_option maxRecDepth 16384

noncomputable section

namespace Cert.NormBwdClaim

open Idealize.ShloMosaic Idealize.SL.Sem Cert.Reals Cert.NormMath
open Cert.NormBwdIdeal.Value Cert.NormBwdRefIdeal.Read

/-- What the precondition says: the three arguments are arrays of reals. -/
theorem reals_of_pre (X Y : FVec Ideal Cert.Pre_norm_fin.S8192x1024 .f32) (G : FVec Ideal Cert.Pre_norm_fin.S1024 .f32)
    (h : (letI := Cert.Pre_norm_fin.Gen.facts; (Cert.Pre_norm_fin.fn (F := Ideal) X G Y).1 = (fun _ => 1#1)
      ∧ (Cert.Pre_norm_fin.fn (F := Ideal) X G Y).2.1 = (fun _ => 1#1) ∧ (Cert.Pre_norm_fin.fn (F := Ideal) X G Y).2.2 = (fun _ => 1#1))) :
    ∃ (x y : Fin 8192 → Fin 1024 → ℝ) (g : Fin 1024 → ℝ), (∀ a b, X (ix2 a b) = (x a b : EReal))
      ∧ (∀ a b, Y (ix2 a b) = (y a b : EReal)) ∧ (∀ b, G (ix1 b) = (g b : EReal)) := by
  unfold Cert.Pre_norm_fin.fn at h
  dsimp only at h
  obtain ⟨h0, h1, h2⟩ := h
  obtain ⟨fx, hx⟩ := real_of_all X _ _ _ h0
  obtain ⟨fg, hg⟩ := real_of_all G _ _ _ h1
  obtain ⟨fy, hy⟩ := real_of_all Y _ _ _ h2
  exact ⟨fun a b => fx (ix2 a b), fun a b => fy (ix2 a b), fun b => fg (ix1 b),
    fun a b => congrFun hx (ix2 a b), fun a b => congrFun hy (ix2 a b), fun b => congrFun hg (ix1 b)⟩

/-- The norm's kernel and `jax.vjp` of the norm end with equal results, from finite arguments. -/
theorem algebraic : Cert.algebraic_NormBwdIdeal_NormBwdRefIdeal_pre_norm_fin (hNormBwdIdeal := Cert.NormBwdIdeal.Gen.facts)
    (hNormBwdRefIdeal := Cert.NormBwdRefIdeal.Gen.facts) (hPre_norm_fin := Cert.Pre_norm_fin.Gen.facts) := by
  intro m g m' g' hpre hagree
  refine ⟨fun c => (Cert.NormBwdIdeal.Gen.dats m 0 c).arrAt 3 Cert.NormBwdIdeal.cfg0.N,
    fun c => (Cert.NormBwdIdeal.Gen.dats m 0 c).arrAt 4 Cert.NormBwdIdeal.cfg0.N, Cert.NormBwdIdeal.Value.run_blocks m g,
    (θ_run Cert.NormBwdRefIdeal.defs _ _).mono (fun r h c => ?_) (Cert.NormBwdRefIdeal.Value.run m' g')⟩
  obtain ⟨x, y, gg, hX, hY, hG⟩ := reals_of_pre _ _ _ (hpre c)
  obtain ⟨e0, e1, e2⟩ := hagree c
  obtain ⟨h0, h1, h2⟩ := h c
  refine ⟨h0.trans ?_, h1.trans ?_, h2⟩
  · rw [e0, e1, e2, val_main_v35_eq]
    exact (final_dx m c x y gg hX hY hG _ (ref_dx x y gg _ _ _ hX hY hG)).symm
  · rw [e0, e2, val_main_v36_eq]
    exact (final_dg m c x y hX hY _ (ref_dg x y _ _ hX hY)).symm

/-- The reference ends, keeps its arguments, and leaves every counter at zero. -/
theorem frame_ref : Cert.quiescent_NormBwdRefIdeal (hNormBwdRefIdeal := Cert.NormBwdRefIdeal.Gen.facts) := fun m ρ _ =>
  (θ_run Cert.NormBwdRefIdeal.defs _ _).mono (fun r h => ⟨fun c => (h c).2.2, sem_eq_zero_of_no_sems (by decide) r.2⟩)
    (Cert.NormBwdRefIdeal.Value.run (F := Ideal) m ρ)

end Cert.NormBwdClaim

end
-- ==== Proof.DenseMath.lean ====
/- DENSE ATTENTION OVER THE REALS: one query's softmax weights from its scores, the row's log-sum, the output and the three
   gradients as plain sums. Both programs' results are shown to be these. -/
module

public import proofs.«01_k».proof.Proof.Reals

@[expose] public section

noncomputable section

namespace Cert.DenseMath

open Idealize.ShloMosaic Cert.Reals

/-- The attention's scale, 96 to the power −1/2 as its word reads. -/
def scl : ℝ := 3424635 / 33554432

/-- The word of the scale. -/
theorem cScl : Ideal.ofBits .f32 0x3DD105EC#32 = ((scl : ℝ) : EReal) := by
  simp [Ideal.ofBits, Ideal.ieee, scl]; try (rw [← EReal.coe_mul]; norm_num)

/-- The word of the running maximum's start, a real. -/
theorem cStart : Ideal.ofBits .f32 0xF149F2CA#32 = ((-(13234890 * (2 : ℝ) ^ (76 : ℤ)) : ℝ) : EReal) := by
  simp [Ideal.ofBits, Ideal.ieee]; try norm_num

variable {N : ℕ}

/-- A key's weight before the division. -/
def ew (s : Fin N → ℝ) (n : Fin N) : ℝ := Real.exp (scl * s n)

/-- The row's sum of weights. -/
def den (s : Fin N → ℝ) : ℝ := ∑ n, ew s n

/-- The softmax weight. -/
def pw (s : Fin N → ℝ) (n : Fin N) : ℝ := ew s n / den s

theorem den_pos [NeZero N] (s : Fin N → ℝ) : 0 < den s :=
  Finset.sum_pos (fun _ _ => Real.exp_pos _) ⟨0, Finset.mem_univ _⟩

/-- Weights taken relative to any `m`: each is the weight divided by the same positive factor. -/
theorem ew_rel (s : Fin N → ℝ) (m : ℝ) (n : Fin N) : Real.exp (scl * (s n - m)) = Real.exp (-(scl * m)) * ew s n := by
  rw [ew, ← Real.exp_add]; congr 1; ring

/-- The weighted mean does not depend on the reference `m`. -/
theorem mean_rel [NeZero N] (s v : Fin N → ℝ) (m : ℝ) :
    (∑ n, Real.exp (scl * (s n - m)) * v n) / (∑ n, Real.exp (scl * (s n - m))) = ∑ n, pw s n * v n := by
  simp only [ew_rel, mul_assoc, ← Finset.mul_sum]
  rw [mul_div_mul_left _ _ (Real.exp_pos _).ne', Finset.sum_div]
  refine Finset.sum_congr rfl fun n _ => ?_
  rw [pw, den]; ring

/-- Nor does the row's log-sum. -/
theorem log_rel [NeZero N] (s : Fin N → ℝ) (m : ℝ) :
    m * scl + Real.log (∑ n, Real.exp (scl * (s n - m))) = Real.log (den s) := by
  simp only [ew_rel, ← Finset.mul_sum]
  rw [show ∑ n, ew s n = den s from rfl, Real.log_mul (Real.exp_pos _).ne' (den_pos s).ne', Real.log_exp]; ring

/-- The weight from the row's log-sum. -/
theorem exp_log [NeZero N] (s : Fin N → ℝ) (n : Fin N) : Real.exp (s n * scl - Real.log (den s)) = pw s n := by
  rw [Real.exp_sub, Real.exp_log (den_pos s), pw, ew, mul_comm]

/-- A score's gradient: the weight times what the value's product is above its weighted mean, times the scale. -/
def dsw (s dp : Fin N → ℝ) (n : Fin N) : ℝ := pw s n * (dp n - ∑ m, pw s m * dp m) * scl

/-! ## The whole call: arrays are position, head, channel -/

variable {D E : ℕ} (q k : Fin N → Fin 6 → Fin D → ℝ) (v y : Fin N → Fin 6 → Fin E → ℝ)

/-- Head `h`'s score of query `a` and key `n`. -/
def sc (h : Fin 6) (a n : Fin N) : ℝ := ∑ d, q a h d * k n h d

/-- The output's cotangent at query `a` times key `n`'s value. -/
def dp (h : Fin 6) (a n : Fin N) : ℝ := ∑ e, y a h e * v n h e

/-- The output. -/
def oR (a : Fin N) (h : Fin 6) (e : Fin E) : ℝ := ∑ n, pw (sc q k h a) n * v n h e

/-- The queries' gradient. -/
def dqR (a : Fin N) (h : Fin 6) (d : Fin D) : ℝ := ∑ n, dsw (sc q k h a) (dp v y h a) n * k n h d

/-- The keys' gradient. -/
def dkR (n : Fin N) (h : Fin 6) (d : Fin D) : ℝ := ∑ a, dsw (sc q k h a) (dp v y h a) n * q a h d

/-- The values' gradient. -/
def dvR (n : Fin N) (h : Fin 6) (e : Fin E) : ℝ := ∑ a, pw (sc q k h a) n * y a h e

/-- The cotangent times the output is the weighted mean of the cotangent times the values. -/
theorem delta_eq (h : Fin 6) (a : Fin N) : ∑ e, y a h e * oR q k v a h e = ∑ n, pw (sc q k h a) n * dp v y h a n := by
  simp only [oR, dp, Finset.mul_sum]
  rw [Finset.sum_comm]
  exact Finset.sum_congr rfl fun n _ => Finset.sum_congr rfl fun e _ => by ring

end Cert.DenseMath

end
-- ==== Proof.DenseFwd.lean ====
/- THE FORWARD CALL OF DENSE ATTENTION, ONE BLOCK: the two output blocks of a grid point over the reals, by a running maximum over
   four tiles of keys. -/
module

public import proofs.«01_k».proof.Proof.DenseMath
public import proofs.«01_k».proof.Proof.Gen.DenseIdeal.Frame
public import Idealize.ShloMosaic.Lib.Pipeline.ValueKit

@[expose] public section

set_option maxRecDepth 16384

noncomputable section

namespace Cert.DenseIdeal.Value

open Cert.DenseIdeal Cert.DenseIdeal.Gen Idealize.ShloMosaic Idealize.ShloMosaic.TcCoe Idealize.SL.Sem
open Idealize.ShloMosaic.Pipeline (Dat)
open Cert.Reals Cert.DenseMath

variable (c : Dev nD) (i : grid0.Coords) (a2 : Memref sig .tc .vmem S1x512x96 .bf16) (h2 : a2.IsWhole)
  (a3 : Memref sig .tc .vmem S1x8192x96 .bf16) (h3 : a3.IsWhole) (a4 : Memref sig .tc .vmem S1x8192x128 .bf16) (h4 : a4.IsWhole)
  (a5 : Memref sig .tc .vmem S1x512x64 .f32) (h5 : a5.IsWhole) (a6 : Memref sig .tc .vmem S1x512x1 .f32) (h6 : a6.IsWhole)

theorem off1 : ∀ k : Fin k0_t1_loop.trips, k0_off1 k = ![0, 2048 * k.val, 0] := by decide +kernel
theorem off2 : ∀ k : Fin k0_t1_loop.trips, k0_off2 k = ![0, 2048 * k.val, 0] := by decide +kernel

theorem lt4 (k : Fin k0_t1_loop.trips) : k.val < 4 := k.isLt.trans_le k0_t1_abs.2.1

abbrev keyAt (k : Fin k0_t1_loop.trips) (r : Fin 2048) : Fin 8192 := ⟨2048 * k.val + r.val, by have := lt4 k; omega⟩

abbrev kTile (x1 : Vec Ideal S1x8192x96 .bf16) (k : Fin k0_t1_loop.trips) : Vec Ideal S1x2048x96 .bf16 :=
  View.ld x1 (Rect.unit (s := S1x8192x96) (k0_off1 k) S1x2048x96.size (k0_off1_inb k))
abbrev vTile (x2 : Vec Ideal S1x8192x128 .bf16) (k : Fin k0_t1_loop.trips) : Vec Ideal S1x2048x128 .bf16 :=
  View.ld x2 (Rect.unit (s := S1x8192x128) (k0_off2 k) S1x2048x128.size (k0_off2_inb k))

theorem kTile_apply (x1 : Vec Ideal S1x8192x96 .bf16) (k : Fin k0_t1_loop.trips) (r : Fin 2048) (d : Fin 96) :
    kTile x1 k (ix3 0 r d) = x1 (ix3 0 (keyAt k r) d) := by
  refine congrArg x1 (funext fun a => Fin.ext ?_)
  have := off1 k
  match a with
  | ⟨0, _⟩ => show k0_off1 k 0 + 1 * 0 = 0; rw [this]; rfl
  | ⟨1, _⟩ => show k0_off1 k 1 + 1 * r.val = _; rw [this]; simp
  | ⟨2, _⟩ => show k0_off1 k 2 + 1 * d.val = _; rw [this]; simp

theorem vTile_apply (x2 : Vec Ideal S1x8192x128 .bf16) (k : Fin k0_t1_loop.trips) (r : Fin 2048) (d : Fin 128) :
    vTile x2 k (ix3 0 r d) = x2 (ix3 0 (keyAt k r) d) := by
  refine congrArg x2 (funext fun a => Fin.ext ?_)
  have := off2 k
  match a with
  | ⟨0, _⟩ => show k0_off2 k 0 + 1 * 0 = 0; rw [this]; rfl
  | ⟨1, _⟩ => show k0_off2 k 1 + 1 * r.val = _; rw [this]; simp
  | ⟨2, _⟩ => show k0_off2 k 2 + 1 * d.val = _; rw [this]; simp

theorem trip_eq (v0 : Vec Ideal S1x512x96 .bf16) (x1 : Vec Ideal S1x8192x96 .bf16) (x2 : Vec Ideal S1x8192x128 .bf16)
    (k : Fin k0_t1_loop.trips) (acc : FVec Ideal S512x1 .f32 × FVec Ideal S512x128 .f32) :
    tripR_k0_t1 (F := Ideal) Variants.none c none i a2 h2 a3 h3 a4 h4 a5 h5 a6 h6 v0 (h3.unread x1) (h4.unread x2) k acc
      = (k0_pay4 v0 acc.1 (kTile x1 k), k0_pay5 v0 acc.1 acc.2 (kTile x1 k) (vTile x2 k)) := by
  unfold tripR_k0_t1 trip_k0_t1
  dsimp only
  simp only [View.readAt_eq_ld, h3.read_unread, h4.read_unread]

theorem hz3 : (![0, 0, 0] : Fin 3 → Nat) = fun _ => 0 := funext fun a => by fin_cases a <;> rfl

abbrev st (x0 : Vec Ideal S1x512x96 .bf16) (x1 : Vec Ideal S1x8192x96 .bf16) (x2 : Vec Ideal S1x8192x128 .bf16) (n : ℕ) :=
  st_k0_t1 (F := Ideal) Variants.none c none i a2 h2 a3 h3 a4 h4 a5 h5 a6 h6 x0 (h3.unread x1) (h4.unread x2) (k0_pay1, k0_pay2) n

theorem trips4 : Scf.trips (0#32) (Scalar.addi 0#32 4#32) 1#32 = 4 := by decide +kernel

theorem out3_eq (x0 : Vec Ideal S1x512x96 .bf16) (x1 : Vec Ideal S1x8192x96 .bf16) (x2 : Vec Ideal S1x8192x128 .bf16) :
    out0_A_3 (F := Ideal) c i a2 h2 a3 h3 a4 h4 a5 h5 a6 h6 x0 x1 x2 = k0_pay7 (st c i a2 h2 a3 h3 a4 h4 a5 h5 a6 h6 x0 x1 x2 4).2 := by
  unfold out0_A_3
  rw [View.read_writes_eq_canon _ _ _ (cover0_A_3 c i a2 h2 a3 h3 a4 h4 a5 h5 a6 h6 x0 x1 x2)]
  unfold kernelRun0_A
  dsimp only
  sl_unfold_run_names
  rw [View.canon_unit_zero hz3]
  simp only [View.readAt_eq_ld, h2.read_unread, View.ld_unit_zero (S := S1x512x96) hz3, trips4]

theorem out4_eq (x0 : Vec Ideal S1x512x96 .bf16) (x1 : Vec Ideal S1x8192x96 .bf16) (x2 : Vec Ideal S1x8192x128 .bf16) :
    out0_A_4 (F := Ideal) c i a2 h2 a3 h3 a4 h4 a5 h5 a6 h6 x0 x1 x2 = k0_pay8 (st c i a2 h2 a3 h3 a4 h4 a5 h5 a6 h6 x0 x1 x2 4).1
      (st c i a2 h2 a3 h3 a4 h4 a5 h5 a6 h6 x0 x1 x2 4).2 := by
  unfold out0_A_4
  rw [View.read_writes_eq_canon _ _ _ (cover0_A_4 c i a2 h2 a3 h3 a4 h4 a5 h5 a6 h6 x0 x1 x2)]
  unfold kernelRun0_A
  dsimp only
  sl_unfold_run_names
  rw [View.canon_unit_zero hz3]
  simp only [View.readAt_eq_ld, h2.read_unread, View.ld_unit_zero (S := S1x512x96) hz3, trips4]

theorem st_succ (x0 : Vec Ideal S1x512x96 .bf16) (x1 : Vec Ideal S1x8192x96 .bf16) (x2 : Vec Ideal S1x8192x128 .bf16) (k : Fin k0_t1_loop.trips) :
    st c i a2 h2 a3 h3 a4 h4 a5 h5 a6 h6 x0 x1 x2 (k.val + 1)
      = (k0_pay4 x0 (st c i a2 h2 a3 h3 a4 h4 a5 h5 a6 h6 x0 x1 x2 k.val).1 (kTile x1 k),
         k0_pay5 x0 (st c i a2 h2 a3 h3 a4 h4 a5 h5 a6 h6 x0 x1 x2 k.val).1 (st c i a2 h2 a3 h3 a4 h4 a5 h5 a6 h6 x0 x1 x2 k.val).2
           (kTile x1 k) (vTile x2 k)) := by
  unfold st
  rw [st_k0_t1_succ (k := k), trip_eq]

theorem pay3_apply (q : Fin 512 → Fin 96 → ℝ) (y : Fin 2048 → Fin 96 → ℝ) (x0 : Vec Ideal S1x512x96 .bf16) (b : Vec Ideal S1x2048x96 .bf16)
    (hq : ∀ r d, x0 (ix3 0 r d) = (q r d : EReal)) (hb : ∀ n d, b (ix3 0 n d) = (y n d : EReal)) (r : Fin 512) (n : Fin 2048) :
    k0_pay3 x0 b (ix2 r n) = ((∑ d, q r d * y n d : ℝ) : EReal) := by
  pointwise [k0_pay3]
  simp only [hq, hb]
  simp only [← EReal.coe_mul, sum_coe]

theorem pay4_apply (x0 : Vec Ideal S1x512x96 .bf16) (m : FVec Ideal S512x1 .f32) (b : Vec Ideal S1x2048x96 .bf16) (r : Fin 512)
    (μ : ℝ) (hm : m (ix2 r 0) = (μ : EReal)) (g : Fin 2048 → ℝ) (hg : ∀ n, k0_pay3 x0 b (ix2 r n) = (g n : EReal)) :
    ∃ μ' : ℝ, k0_pay4 x0 m b (ix2 r 0) = (μ' : EReal) := by
  pointwise [k0_pay4]
  obtain ⟨x, hx⟩ := fold_max_real (fun n => k0_pay3 x0 b (ix2 r n)) g hg
  exact ⟨max μ x, by rw [hx, hm, max_real]⟩

/-- The named constant is the scale over the logarithm of two. -/
theorem named_to_log2 : (Named.named κ "to_log2" 0x3E16C740#32 : Ideal .f32) = ((scl * (Real.log 2)⁻¹ : ℝ) : EReal) := by
  rw [IdealRules.named_const.ideal_named_scalar κ "to_log2" (φ := .f32) 0x3E16C740#32 _ rfl]; rfl

/-- Two to a difference of reals times that constant is the exponential of the scaled difference. -/
theorem exp2_diff (φ : FTy) (a b : ℝ) : (FloatOps.exp2 (F := Ideal) (φ := φ) (((a : EReal) - (b : EReal)) * ((scl * (Real.log 2)⁻¹ : ℝ) : EReal)))
    = ((Real.exp (scl * (a - b)) : ℝ) : EReal) := by
  rw [← EReal.coe_sub, ← EReal.coe_mul]
  show Ideal.exp2 _ = _
  rw [Ideal.exp2_coe]
  congr 1
  rw [show ∀ x : ℝ, Real.rpow 2 x = (2 : ℝ) ^ x from fun _ => rfl, Real.rpow_def_of_pos two_pos]
  congr 1
  have : Real.log 2 ≠ 0 := (Real.log_pos one_lt_two).ne'
  field_simp

theorem pay5_apply (x0 : Vec Ideal S1x512x96 .bf16) (m : FVec Ideal S512x1 .f32) (acc : FVec Ideal S512x128 .f32) (b : Vec Ideal S1x2048x96 .bf16)
    (b' : Vec Ideal S1x2048x128 .bf16) (r : Fin 512) (e : Fin 128) (μ μ' A : ℝ) (g w : Fin 2048 → ℝ)
    (hm : m (ix2 r 0) = (μ : EReal)) (hg : ∀ n, k0_pay3 x0 b (ix2 r n) = (g n : EReal)) (hm' : k0_pay4 x0 m b (ix2 r 0) = (μ' : EReal))
    (hA : acc (ix2 r e) = (A : EReal)) (hw : ∀ n, b' (ix3 0 n e) = (w n : EReal)) :
    k0_pay5 x0 m acc b b' (ix2 r e)
      = ((Real.exp (scl * (μ - μ')) * A + ∑ n, Real.exp (scl * (g n - μ')) * w n : ℝ) : EReal) := by
  pointwise [k0_pay5]
  simp only [hm, hg, hm', hA, hw, named_to_log2]
  simp only [exp2_diff]
  simp only [← EReal.coe_mul, sum_coe, ← EReal.coe_add]

theorem pay7_apply (acc : FVec Ideal S512x128 .f32) (r : Fin 512) (e : Fin 64) :
    k0_pay7 acc (ix3 0 r e) = Ideal.div (acc (ix2 r ⟨e.val, by omega⟩)) (acc (ix2 r 64)) := by
  pointwise [k0_pay7, k0_pay6]

theorem pay8_apply (m : FVec Ideal S512x1 .f32) (acc : FVec Ideal S512x128 .f32) (r : Fin 512) :
    k0_pay8 m acc (ix3 0 r 0) = m (ix2 r 0) * Ideal.ofBits .f32 0x3DD105EC#32 + Ideal.log (acc (ix2 r 64)) := by
  pointwise [k0_pay8, k0_pay6]

/-! ## The loop -/

section
variable (x0 : Vec Ideal S1x512x96 .bf16) (x1 : Vec Ideal S1x8192x96 .bf16) (x2 : Vec Ideal S1x8192x128 .bf16)
  (q : Fin 512 → Fin 96 → ℝ) (k : Fin 8192 → Fin 96 → ℝ) (w : Fin 8192 → Fin 128 → ℝ)
  (hq : ∀ r d, x0 (ix3 0 r d) = (q r d : EReal)) (hk : ∀ n d, x1 (ix3 0 n d) = (k n d : EReal))
  (hw : ∀ n e, x2 (ix3 0 n e) = (w n e : EReal))

include hq hk hw in
/-- Before trip `n` the carried maximum is real, and the carried sums are the sums over the keys met so far, relative to it. -/
theorem st_real : ∀ n : ℕ, n ≤ 4 → ∃ μ : Fin 512 → ℝ, (∀ r, (st c i a2 h2 a3 h3 a4 h4 a5 h5 a6 h6 x0 x1 x2 n).1 (ix2 r 0) = (μ r : EReal))
    ∧ ∀ r e, (st c i a2 h2 a3 h3 a4 h4 a5 h5 a6 h6 x0 x1 x2 n).2 (ix2 r e)
      = ((∑ j, if j.val < 2048 * n then Real.exp (scl * ((∑ d, q r d * k j d) - μ r)) * w j e else 0 : ℝ) : EReal)
  | 0, _ => by
    refine ⟨fun _ => -(13234890 * (2 : ℝ) ^ (76 : ℤ)), fun r => ?_, fun r e => ?_⟩
    · show k0_pay1 (F := Ideal) (ix2 r 0) = _
      pointwise [k0_pay1]
      exact cStart
    · show k0_pay2 (F := Ideal) (ix2 r e) = _
      pointwise [k0_pay2]
      simp
  | n + 1, hn => by
    obtain ⟨μ, hμ, hA⟩ := st_real n (by omega)
    have ht : n < k0_t1_loop.trips := lt_of_lt_of_eq (by omega : n < 4) (by decide +kernel)
    have e := st_succ c i a2 h2 a3 h3 a4 h4 a5 h5 a6 h6 x0 x1 x2 ⟨n, ht⟩
    have hs : ∀ r j, k0_pay3 x0 (kTile x1 ⟨n, ht⟩) (ix2 r j) = ((∑ d, q r d * k (keyAt ⟨n, ht⟩ j) d : ℝ) : EReal) := fun r j =>
      pay3_apply q _ x0 _ hq (fun j d => (kTile_apply x1 ⟨n, ht⟩ j d).trans (hk _ d)) r j
    choose μ' hμ' using fun r => pay4_apply x0 (st c i a2 h2 a3 h3 a4 h4 a5 h5 a6 h6 x0 x1 x2 n).1 (kTile x1 ⟨n, ht⟩) r (μ r) (hμ r) _ (hs r)
    refine ⟨μ', fun r => ?_, fun r e' => ?_⟩
    · rw [e]; exact hμ' r
    · rw [e]
      refine (pay5_apply x0 _ _ _ _ r e' (μ r) (μ' r) _ _ (fun j => w (keyAt ⟨n, ht⟩ j) e') (hμ r) (hs r) (hμ' r) (hA r e')
        (fun j => (vTile_apply x2 ⟨n, ht⟩ j e').trans (hw _ e'))).trans ?_
      rw [sum_lt_tile (N := 8192) (T := 2048) (k := n) (by omega), Finset.mul_sum]
      congr 2
      refine Finset.sum_congr rfl fun j _ => ?_
      split
      · rw [← mul_assoc, ← Real.exp_add]; congr 2; ring
      · simp

include hq hk hw in
/-- THE OUTPUT BLOCK: the weighted mean of the values, where column 64 of the operand holds ones. -/
theorem out3_real (h1 : ∀ n, w n 64 = 1) (r : Fin 512) (e : Fin 64) :
    out0_A_3 (F := Ideal) c i a2 h2 a3 h3 a4 h4 a5 h5 a6 h6 x0 x1 x2 (ix3 0 r e)
      = ((∑ n, pw (fun n => ∑ d, q r d * k n d) n * w n ⟨e.val, by omega⟩ : ℝ) : EReal) := by
  obtain ⟨μ, hμ, hA⟩ := st_real c i a2 h2 a3 h3 a4 h4 a5 h5 a6 h6 x0 x1 x2 q k w hq hk hw 4 le_rfl
  have hlt : ∀ j : Fin 8192, j.val < 2048 * 4 := fun j => j.isLt
  simp only [hlt, if_true] at hA
  rw [out3_eq, pay7_apply, hA, hA]
  simp only [h1, mul_one]
  rw [div_real _ (Finset.sum_pos (fun _ _ => Real.exp_pos _) ⟨(0 : Fin 8192), Finset.mem_univ _⟩).ne', mean_rel]

include hq hk hw in
/-- THE LOG-SUM BLOCK. -/
theorem out4_real (h1 : ∀ n, w n 64 = 1) (r : Fin 512) :
    out0_A_4 (F := Ideal) c i a2 h2 a3 h3 a4 h4 a5 h5 a6 h6 x0 x1 x2 (ix3 0 r 0)
      = ((Real.log (den (fun n => ∑ d, q r d * k n d)) : ℝ) : EReal) := by
  obtain ⟨μ, hμ, hA⟩ := st_real c i a2 h2 a3 h3 a4 h4 a5 h5 a6 h6 x0 x1 x2 q k w hq hk hw 4 le_rfl
  have hlt : ∀ j : Fin 8192, j.val < 2048 * 4 := fun j => j.isLt
  simp only [hlt, if_true] at hA
  rw [out4_eq, pay8_apply, hA, hμ, cScl]
  simp only [h1, mul_one]
  rw [Ideal.log_coe, if_neg (not_le.2 (Finset.sum_pos (fun _ _ => Real.exp_pos _) ⟨(0 : Fin 8192), Finset.mem_univ _⟩)),
    ← EReal.coe_mul, ← EReal.coe_add, log_rel]

end

end Cert.DenseIdeal.Value

end
-- ==== Proof.DenseOut.lean ====
/- THE FORWARD CALL'S ARRAYS: what region 0 of the program leaves in its two result arrays, block by block, when its operand
   arrays hold reals. -/
module

public import proofs.«01_k».proof.Proof.DenseFwd

@[expose] public section

set_option backward.proofsInPublic true
set_option maxRecDepth 16384

noncomputable section

namespace Cert.DenseIdeal.Value

open Cert.DenseIdeal Cert.DenseIdeal.Gen Idealize.ShloMosaic Idealize.ShloMosaic.TcCoe Idealize.SL.Sem
open Idealize.ShloMosaic.Pipeline (Dat)
open Cert.Reals Cert.DenseMath

/-- The forward windows' blocks: 16 query blocks of 512 rows per head, a head's keys and values whole. -/
theorem idx0 : ∀ t : Fin cfg0.N, win0_0.index t = ![t.val / 16, t.val % 16, 0] ∧ win0_1.index t = ![t.val / 16, 0, 0]
    ∧ win0_2.index t = ![t.val / 16, 0, 0] ∧ win0_3.index t = ![t.val / 16, t.val % 16, 0] ∧ win0_4.index t = ![t.val / 16, t.val % 16, 0] :=
  (by decide +kernel : ∀ t : Fin grid0.N, _)

theorem lt96 (t : Fin cfg0.N) : t.val < 96 := lt_of_lt_of_eq t.isLt N_0

/-- The head of a forward grid point. -/
def head0 (t : Fin cfg0.N) : Fin 6 := ⟨t.val / 16, by have := lt96 t; omega⟩

/-- The query at row `r` of a forward grid point's block. -/
def query0 (t : Fin cfg0.N) (r : Fin 512) : Fin 8192 := ⟨t.val % 16 * 512 + r.val, by omega⟩

variable (V : (c : Dev nD) → (b : Ref sig .tc) → Buf (Elt Ideal) ((c : Thread nD τ).loc b)) (c : Dev nD)
  (q k : Fin 8192 → Fin 6 → Fin 96 → ℝ) (v : Fin 8192 → Fin 6 → Fin 64 → ℝ) (w : Fin 6 → Fin 8192 → Fin 128 → ℝ)
  (hq : ∀ h a d, (V c main_v1 : FVec Ideal S6x8192x96 .bf16) (ix3 h a d) = (q a h d : EReal))
  (hk : ∀ h n d, (V c main_v3 : FVec Ideal S6x8192x96 .bf16) (ix3 h n d) = (k n h d : EReal))
  (hw : ∀ h n e, (V c main_v8 : FVec Ideal S6x8192x128 .bf16) (ix3 h n e) = (w h n e : EReal))
  (hv : ∀ h n (e : Fin 64), w h n ⟨e.val, by omega⟩ = v n h e) (h1 : ∀ h n, w h n 64 = 1)

include hq in
theorem blk0_q (t : Fin cfg0.N) (r : Fin 512) (d : Fin 96) :
    (iblk0 V c 0 t : FVec Ideal S1x512x96 .bf16) (ix3 0 r d) = (q (query0 t r) (head0 t) d : EReal) := by
  refine Eq.trans ?_ (hq (head0 t) (query0 t r) d)
  blk_ext [iblk0, idx0 t, query0, head0]

include hk in
theorem blk0_k (t : Fin cfg0.N) (n : Fin 8192) (d : Fin 96) :
    (iblk0 V c 1 t : FVec Ideal S1x8192x96 .bf16) (ix3 0 n d) = (k n (head0 t) d : EReal) := by
  refine Eq.trans ?_ (hk (head0 t) n d)
  blk_ext [iblk0, idx0 t, head0]

include hw in
theorem blk0_v (t : Fin cfg0.N) (n : Fin 8192) (e : Fin 128) :
    (iblk0 V c 2 t : FVec Ideal S1x8192x128 .bf16) (ix3 0 n e) = (w (head0 t) n e : EReal) := by
  refine Eq.trans ?_ (hw (head0 t) n e)
  blk_ext [iblk0, idx0 t, head0]

include hq hk hw hv h1 in
/-- The forward's output block at a grid point. -/
theorem blk0_o (t : Fin cfg0.N) (r : Fin 512) (e : Fin 64) :
    ((outsAt0 V c t).1 : FVec Ideal S1x512x64 .f32) (ix3 0 r e) = (oR q k v (query0 t r) (head0 t) e : EReal) := by
  unfold outsAt0
  dsimp only
  rw [out3_real c (grid0.coords t) _ _ _ _ _ _ _ _ _ _
    _ _ _ _ _ _ (blk0_q V c q hq t) (blk0_k V c k hk t) (blk0_v V c w hw t) (h1 _) r e]
  simp only [hv]
  rfl

include hq hk hw h1 in
/-- The forward's log-sum block at a grid point. -/
theorem blk0_l (t : Fin cfg0.N) (r : Fin 512) :
    ((outsAt0 V c t).2 : FVec Ideal S1x512x1 .f32) (ix3 0 r 0) = (Real.log (den (sc q k (head0 t) (query0 t r))) : EReal) := by
  unfold outsAt0
  dsimp only
  rw [out4_real c (grid0.coords t) _ _ _ _ _ _ _ _ _ _
    _ _ _ _ _ _ (blk0_q V c q hq t) (blk0_k V c k hk t) (blk0_v V c w hw t) (h1 _) r]
  rfl

include hq hk hw hv h1 in
/-- The forward's output array. -/
theorem final0_o (G : FVec Ideal S6x8192x64 .f32) (hG : ∀ h a e, G (ix3 h a e) = (oR q k v a h e : EReal)) :
    (dat0 V c).arrAt 3 cfg0.N = G := by
  refine (dat0 V c).arrAt_eq_of_covers 3 _ (by decide +kernel) fun t _ j => ?_
  blk_simp
  rw [after0_3]
  have hp : ((outsAt0 V c t).1 : FVec Ideal S1x512x64 .f32) j = G (((cfg0.win 3).blk t).view.emb j) := by
    have hj : j = ix3 0 (j 1) (j 2) := (eq_ix3 j).trans (congrArg (fun x => ix3 x (j 1) (j 2)) (Subsingleton.elim (α := Fin 1) _ _))
    rw [hj]
    refine (blk0_o V c q k v w hq hk hw hv h1 t (j 1) (j 2)).trans ?_
    refine (hG (head0 t) (query0 t (j 1)) (j 2)).symm.trans (congrArg G ?_)
    blk_ext [idx0 t, query0, head0]
  exact hp

include hq hk hw h1 in
/-- The forward's array of log-sums. -/
theorem final0_l (G : FVec Ideal S6x8192x1 .f32) (hG : ∀ h a, G (ix3 h a 0) = (Real.log (den (sc q k h a)) : EReal)) :
    (dat0 V c).arrAt 4 cfg0.N = G := by
  refine (dat0 V c).arrAt_eq_of_covers 4 _ (by decide +kernel) fun t _ j => ?_
  blk_simp
  rw [after0_4]
  have hp : ((outsAt0 V c t).2 : FVec Ideal S1x512x1 .f32) j = G (((cfg0.win 4).blk t).view.emb j) := by
    have hj : j = ix3 0 (j 1) 0 := (eq_ix3 j).trans (congrArg₂ (fun x y => ix3 x (j 1) y) (Subsingleton.elim (α := Fin 1) _ _) (Subsingleton.elim (α := Fin 1) _ _))
    rw [hj]
    refine (blk0_l V c q k w hq hk hw h1 t (j 1)).trans ?_
    refine (hG (head0 t) (query0 t (j 1))).symm.trans (congrArg G ?_)
    blk_ext [idx0 t, query0, head0]
  exact hp

end Cert.DenseIdeal.Value

end
-- ==== Proof.DenseTrip.lean ====
/- THE BACKWARD CALL'S LOOP: one trip of region 1's body as its printed payloads, the same payloads over the reals, and the
   state before each trip — the queries' gradient over the keys met so far, the keys' and values' gradients added to in the
   rows met so far. -/
module

public import proofs.«01_k».proof.Proof.DenseFwd

@[expose] public section

set_option maxRecDepth 16384

noncomputable section

namespace Cert.DenseIdeal.Value.Bwd

open Cert.DenseIdeal Cert.DenseIdeal.Gen Idealize.ShloMosaic Idealize.ShloMosaic.TcCoe Idealize.SL.Sem
open Idealize.ShloMosaic.Pipeline (Dat)
open Cert.Reals Cert.DenseMath

variable (c : Dev nD) (i : grid1.Coords) (a2 : Memref sig .tc .vmem S1x96x256 .bf16) (h2 : a2.IsWhole)
  (a3 : Memref sig .tc .vmem S1x8192x96 .bf16) (h3 : a3.IsWhole) (a4 : Memref sig .tc .vmem S1x96x8192 .bf16) (h4 : a4.IsWhole)
  (a5 : Memref sig .tc .vmem S1x8192x64 .bf16) (h5 : a5.IsWhole) (a6 : Memref sig .tc .vmem S1x64x256 .f32) (h6 : a6.IsWhole)
  (a7 : Memref sig .tc .vmem S1x1x256 .f32) (h7 : a7.IsWhole) (a8 : Memref sig .tc .vmem S1x64x256 .f32) (h8 : a8.IsWhole)
  (a9 : Memref sig .tc .vmem S1x96x256 .f32) (h9 : a9.IsWhole) (a10 : Memref sig .tc .vmem S1x8192x96 .f32) (h10 : a10.IsWhole)
  (a11 : Memref sig .tc .vmem S1x8192x64 .f32) (h11 : a11.IsWhole)

theorem off1 : ∀ k : Fin k1_t1_loop.trips, k1_off1 k = ![0, 2048 * k.val, 0] := by decide +kernel
theorem off2 : ∀ k : Fin k1_t1_loop.trips, k1_off2 k = ![0, 2048 * k.val, 0] := by decide +kernel
theorem off3 : ∀ k : Fin k1_t1_loop.trips, k1_off3 k = ![0, 0, 2048 * k.val] := by decide +kernel

theorem lt4 (k : Fin k1_t1_loop.trips) : k.val < 4 := k.isLt.trans_le k1_t1_abs.2.1

/-- The key at row `r` of trip `k`'s tile. -/
abbrev keyAt (k : Fin k1_t1_loop.trips) (r : Fin 2048) : Fin 8192 := ⟨2048 * k.val + r.val, by have := lt4 k; omega⟩

/-- Trip `k`'s rectangle in an array of rows of 96, of rows of 64, and of columns. -/
abbrev r1 (k : Fin k1_t1_loop.trips) : Rect S1x8192x96 := Rect.unit (s := S1x8192x96) (k1_off1 k) S1x2048x96.size (k1_off1_inb k)
abbrev r2 (k : Fin k1_t1_loop.trips) : Rect S1x8192x64 := Rect.unit (s := S1x8192x64) (k1_off2 k) S1x2048x64.size (k1_off2_inb k)
abbrev r3 (k : Fin k1_t1_loop.trips) : Rect S1x96x8192 := Rect.unit (s := S1x96x8192) (k1_off3 k) S1x96x2048.size (k1_off3_inb k)

theorem emb1 (k : Fin k1_t1_loop.trips) (r : Fin 2048) (d : Fin 96) :
    (r1 k).emb (ix3 0 r d : S1x2048x96.Idx) = (ix3 0 (keyAt k r) d : S1x8192x96.Idx) := by
  refine funext fun a => Fin.ext ?_
  have := off1 k
  match a with
  | ⟨0, _⟩ => show k1_off1 k 0 + 1 * 0 = 0; rw [this]; rfl
  | ⟨1, _⟩ => show k1_off1 k 1 + 1 * r.val = _; rw [this]; simp
  | ⟨2, _⟩ => show k1_off1 k 2 + 1 * d.val = _; rw [this]; simp

theorem emb2 (k : Fin k1_t1_loop.trips) (r : Fin 2048) (d : Fin 64) :
    (r2 k).emb (ix3 0 r d : S1x2048x64.Idx) = (ix3 0 (keyAt k r) d : S1x8192x64.Idx) := by
  refine funext fun a => Fin.ext ?_
  have := off2 k
  match a with
  | ⟨0, _⟩ => show k1_off2 k 0 + 1 * 0 = 0; rw [this]; rfl
  | ⟨1, _⟩ => show k1_off2 k 1 + 1 * r.val = _; rw [this]; simp
  | ⟨2, _⟩ => show k1_off2 k 2 + 1 * d.val = _; rw [this]; simp

theorem emb3 (k : Fin k1_t1_loop.trips) (r : Fin 2048) (d : Fin 96) :
    (r3 k).emb (ix3 0 d r : S1x96x2048.Idx) = (ix3 0 d (keyAt k r) : S1x96x8192.Idx) := by
  refine funext fun a => Fin.ext ?_
  have := off3 k
  match a with
  | ⟨0, _⟩ => show k1_off3 k 0 + 1 * 0 = 0; rw [this]; rfl
  | ⟨1, _⟩ => show k1_off3 k 1 + 1 * d.val = _; rw [this]; simp
  | ⟨2, _⟩ => show k1_off3 k 2 + 1 * r.val = _; rw [this]; simp

/-- Trip `k`'s tile of the keys, of the keys transposed, of the values, and of the two arrays the body adds to. -/
abbrev kT {e : EltTy} (x1 : Vec Ideal S1x8192x96 e) (k : Fin k1_t1_loop.trips) : Vec Ideal S1x2048x96 e := View.ld x1 (r1 k)
abbrev tT (x2 : Vec Ideal S1x96x8192 .bf16) (k : Fin k1_t1_loop.trips) : Vec Ideal S1x96x2048 .bf16 := View.ld x2 (r3 k)
abbrev vT {e : EltTy} (x3 : Vec Ideal S1x8192x64 e) (k : Fin k1_t1_loop.trips) : Vec Ideal S1x2048x64 e := View.ld x3 (r2 k)

theorem kT_apply {e : EltTy} (x1 : Vec Ideal S1x8192x96 e) (k : Fin k1_t1_loop.trips) (r : Fin 2048) (d : Fin 96) :
    kT x1 k (ix3 0 r d) = x1 (ix3 0 (keyAt k r) d) := congrArg x1 (emb1 k r d)
theorem vT_apply {e : EltTy} (x3 : Vec Ideal S1x8192x64 e) (k : Fin k1_t1_loop.trips) (r : Fin 2048) (d : Fin 64) :
    vT x3 k (ix3 0 r d) = x3 (ix3 0 (keyAt k r) d) := congrArg x3 (emb2 k r d)
theorem tT_apply (x2 : Vec Ideal S1x96x8192 .bf16) (k : Fin k1_t1_loop.trips) (r : Fin 2048) (d : Fin 96) :
    tT x2 k (ix3 0 d r) = x2 (ix3 0 d (keyAt k r)) := congrArg x2 (emb3 k r d)

/-- A trip's new sum for the queries' gradient. -/
theorem trip_eq (v3 : Vec Ideal S1x96x256 .bf16) (v5 v7 : Vec Ideal S1x64x256 .f32) (v13 : Vec Ideal S1x1x256 .f32)
    (x1 : Vec Ideal S1x8192x96 .bf16) (x2 : Vec Ideal S1x96x8192 .bf16) (x3 : Vec Ideal S1x8192x64 .bf16)
    (k : Fin k1_t1_loop.trips) (acc : FVec Ideal S96x256 .f32) (f10 f11) :
    tripR_k1_t1 (F := Ideal) Variants.none c none i a2 h2 a3 h3 a4 h4 a5 h5 a6 h6 a7 h7 a8 h8 a9 h9 a10 h10 a11 h11 v3 v5 v7 v13
      (h3.unread x1) (h4.unread x2) (h5.unread x3) k acc f10 f11
      = k1_pay10 acc (k1_pay13 (k1_pay3 v3) (k1_pay5 v5 v7) (k1_pay6 v5) (k1_pay7 v13) (kT (e := .bf16) x1 k) (vT (e := .bf16) x3 k)) (tT x2 k) := by
  unfold tripR_k1_t1 trip_k1_t1
  dsimp only
  sl_unfold_run_names
  simp only [View.readAt_eq_ld, h3.read_unread, h4.read_unread, h5.read_unread]
  rfl

/-- A trip's two stores. -/
theorem tripL_eq (v3 : Vec Ideal S1x96x256 .bf16) (v5 v7 : Vec Ideal S1x64x256 .f32) (v13 : Vec Ideal S1x1x256 .f32)
    (x1 : Vec Ideal S1x8192x96 .bf16) (x2 : Vec Ideal S1x96x8192 .bf16) (x3 : Vec Ideal S1x8192x64 .bf16)
    (k : Fin k1_t1_loop.trips) (acc : FVec Ideal S96x256 .f32) (f10 f11) :
    tripL_k1_t1 (F := Ideal) Variants.none c none i a2 h2 a3 h3 a4 h4 a5 h5 a6 h6 a7 h7 a8 h8 a9 h9 a10 h10 a11 h11 v3 v5 v7 v13
      (h3.unread x1) (h4.unread x2) (h5.unread x3) k acc f10 f11
      = ([⟨r1 k, k1_pay9 (k1_pay15 (k1_pay3 v3) (k1_pay5 v5 v7) (k1_pay6 v5) (k1_pay7 v13) (kT (e := .bf16) x1 k) (vT (e := .bf16) x3 k)
            (kT (e := .f32) (a10.view.read (Elt Ideal) f10) k))⟩],
         [⟨r2 k, k1_pay14 (k1_pay3 v3) (k1_pay6 v5) (k1_pay7 v13) (kT (e := .bf16) x1 k) (vT (e := .f32) (a11.view.read (Elt Ideal) f11) k)⟩]) := by
  unfold tripL_k1_t1 trip_k1_t1
  dsimp only
  sl_unfold_run_names
  simp only [View.readAt_eq_ld, h3.read_unread, h4.read_unread, h5.read_unread]
  rfl

/-! ## The payloads over the reals -/

section
variable (v3 : Vec Ideal S1x96x256 .bf16) (v5 v7 : Vec Ideal S1x64x256 .f32) (v13 : Vec Ideal S1x1x256 .f32)
  (q : Fin 256 → Fin 96 → ℝ) (y o : Fin 256 → Fin 64 → ℝ) (l : Fin 256 → ℝ)
  (hq : ∀ j d, v3 (ix3 0 d j) = (q j d : EReal)) (hy : ∀ j e, v5 (ix3 0 e j) = (y j e : EReal))
  (ho : ∀ j e, v7 (ix3 0 e j) = (o j e : EReal)) (hl : ∀ j, v13 (ix3 0 0 j) = (l j : EReal))

theorem pay3_apply (d : Fin 96) (j : Fin 256) : k1_pay3 v3 (ix2 d j) = v3 (ix3 0 d j) := by
  pointwise [k1_pay3]

/-- A key's weight for query `j` of the block, from the row's log-sum. -/
def pB (κ : Fin 96 → ℝ) (j : Fin 256) : ℝ := Real.exp ((∑ d, κ d * q j d) * scl - l j)

/-- A score's gradient in the block. -/
def dsB (κ : Fin 96 → ℝ) (ν : Fin 64 → ℝ) (j : Fin 256) : ℝ :=
  pB q l κ j * ((∑ e, ν e * y j e) - ∑ e, y j e * o j e) * scl

include hq hl in
theorem pay12_apply (b : Vec Ideal S1x2048x96 .bf16) (κ : Fin 2048 → Fin 96 → ℝ) (hb : ∀ r d, b (ix3 0 r d) = (κ r d : EReal))
    (r : Fin 2048) (j : Fin 256) : k1_pay12 (k1_pay3 v3) (k1_pay7 v13) b (ix2 r j) = (pB q l (κ r) j : EReal) := by
  pointwise [k1_pay12, k1_pay3, k1_pay7]
  simp only [hq, hl, hb, cScl]
  simp only [← EReal.coe_mul]
  simp only [sum_coe, ← EReal.coe_sub, Ideal.exp_coe]
  rfl

include hq hy ho hl in
theorem pay13_apply (b : Vec Ideal S1x2048x96 .bf16) (κ : Fin 2048 → Fin 96 → ℝ) (hb : ∀ r d, b (ix3 0 r d) = (κ r d : EReal))
    (b' : Vec Ideal S1x2048x64 .bf16) (ν : Fin 2048 → Fin 64 → ℝ) (hb' : ∀ r e, b' (ix3 0 r e) = (ν r e : EReal))
    (r : Fin 2048) (j : Fin 256) :
    k1_pay13 (k1_pay3 v3) (k1_pay5 v5 v7) (k1_pay6 v5) (k1_pay7 v13) b b' (ix2 r j) = (dsB q y o l (κ r) (ν r) j : EReal) := by
  pointwise [k1_pay13, k1_pay5, k1_pay6, k1_pay4]
  simp only [pay12_apply v3 v13 q l hq hl b κ hb, hy, ho, hb', cScl]
  simp only [← EReal.coe_mul, sum_coe, ← EReal.coe_sub]
  rfl

include hq hy ho hl in
theorem pay15_apply (b : Vec Ideal S1x2048x96 .bf16) (κ : Fin 2048 → Fin 96 → ℝ) (hb : ∀ r d, b (ix3 0 r d) = (κ r d : EReal))
    (b' : Vec Ideal S1x2048x64 .bf16) (ν : Fin 2048 → Fin 64 → ℝ) (hb' : ∀ r e, b' (ix3 0 r e) = (ν r e : EReal))
    (b'' : Vec Ideal S1x2048x96 .f32) (z : Fin 2048 → Fin 96 → ℝ) (hz : ∀ r d, b'' (ix3 0 r d) = (z r d : EReal))
    (r : Fin 2048) (d : Fin 96) :
    k1_pay9 (k1_pay15 (k1_pay3 v3) (k1_pay5 v5 v7) (k1_pay6 v5) (k1_pay7 v13) b b' b'') (ix3 0 r d)
      = ((z r d + ∑ j, dsB q y o l (κ r) (ν r) j * q j d : ℝ) : EReal) := by
  pointwise [k1_pay9, k1_pay15]
  simp only [pay13_apply v3 v5 v7 v13 q y o l hq hy ho hl b κ hb b' ν hb', pay3_apply, hq, hz]
  simp only [← EReal.coe_mul, sum_coe, ← EReal.coe_add]

include hq hy hl in
theorem pay14_apply (b : Vec Ideal S1x2048x96 .bf16) (κ : Fin 2048 → Fin 96 → ℝ) (hb : ∀ r d, b (ix3 0 r d) = (κ r d : EReal))
    (b'' : Vec Ideal S1x2048x64 .f32) (z : Fin 2048 → Fin 64 → ℝ) (hz : ∀ r d, b'' (ix3 0 r d) = (z r d : EReal))
    (r : Fin 2048) (e : Fin 64) :
    k1_pay14 (k1_pay3 v3) (k1_pay6 v5) (k1_pay7 v13) b b'' (ix3 0 r e)
      = ((z r e + ∑ j, pB q l (κ r) j * y j e : ℝ) : EReal) := by
  pointwise [k1_pay14, k1_pay6, k1_pay4]
  simp only [pay12_apply v3 v13 q l hq hl b κ hb, hy, hz]
  simp only [← EReal.coe_mul, sum_coe, ← EReal.coe_add]

theorem pay10_apply (acc : FVec Ideal S96x256 .f32) (g : FVec Ideal S2048x256 .bf16) (b : Vec Ideal S1x96x2048 .bf16) (d : Fin 96) (j : Fin 256)
    (A : ℝ) (γ κ : Fin 2048 → ℝ) (hA : acc (ix2 d j) = (A : EReal)) (hg : ∀ r, g (ix2 r j) = (γ r : EReal))
    (hb : ∀ r, b (ix3 0 d r) = (κ r : EReal)) : k1_pay10 acc g b (ix2 d j) = ((A + ∑ r, κ r * γ r : ℝ) : EReal) := by
  pointwise [k1_pay10]
  simp only [hA, hg, hb]
  simp only [← EReal.coe_mul, sum_coe, ← EReal.coe_add]

end

/-! ## The state before each trip -/

section
variable (x0 : Vec Ideal S1x96x256 .bf16) (x1 : Vec Ideal S1x8192x96 .bf16) (x2 : Vec Ideal S1x96x8192 .bf16) (x3 : Vec Ideal S1x8192x64 .bf16)
  (x4 : Vec Ideal S1x64x256 .f32) (x5 : Vec Ideal S1x1x256 .f32) (x6 : Vec Ideal S1x64x256 .f32)
  (G10 : BufTy.Contents (Elt Ideal) a10.view.ty) (G11 : BufTy.Contents (Elt Ideal) a11.view.ty)

/-- The carried sum and the stores so far, before trip `n`. -/
abbrev st (n : ℕ) :=
  st_k1_t1 (F := Ideal) Variants.none c none i a2 h2 a3 h3 a4 h4 a5 h5 a6 h6 a7 h7 a8 h8 a9 h9 a10 h10 a11 h11 x0 x6 x4 x5 (h3.unread x1) (h4.unread x2) (h5.unread x3) G10 G11 k1_pay8 n

/-- What the keys' gradient block reads before trip `n`. -/
abbrev cur10 (n : ℕ) : Vec Ideal S1x8192x96 .f32 :=
  a10.view.read (Elt Ideal) (a10.view.writes (Elt Ideal) G10 (st c i a2 h2 a3 h3 a4 h4 a5 h5 a6 h6 a7 h7 a8 h8 a9 h9 a10 h10 a11 h11 x0 x1 x2 x3 x4 x5 x6 G10 G11 n).2.1)

/-- What the values' gradient block reads before trip `n`. -/
abbrev cur11 (n : ℕ) : Vec Ideal S1x8192x64 .f32 :=
  a11.view.read (Elt Ideal) (a11.view.writes (Elt Ideal) G11 (st c i a2 h2 a3 h3 a4 h4 a5 h5 a6 h6 a7 h7 a8 h8 a9 h9 a10 h10 a11 h11 x0 x1 x2 x3 x4 x5 x6 G10 G11 n).2.2)

theorem st_succ (k : Fin k1_t1_loop.trips) :
    st c i a2 h2 a3 h3 a4 h4 a5 h5 a6 h6 a7 h7 a8 h8 a9 h9 a10 h10 a11 h11 x0 x1 x2 x3 x4 x5 x6 G10 G11 (k.val + 1)
      = (k1_pay10 (st c i a2 h2 a3 h3 a4 h4 a5 h5 a6 h6 a7 h7 a8 h8 a9 h9 a10 h10 a11 h11 x0 x1 x2 x3 x4 x5 x6 G10 G11 k.val).1
          (k1_pay13 (k1_pay3 x0) (k1_pay5 x6 x4) (k1_pay6 x6) (k1_pay7 x5) (kT (e := .bf16) x1 k) (vT (e := .bf16) x3 k)) (tT x2 k),
         ⟨r1 k, k1_pay9 (k1_pay15 (k1_pay3 x0) (k1_pay5 x6 x4) (k1_pay6 x6) (k1_pay7 x5) (kT (e := .bf16) x1 k) (vT (e := .bf16) x3 k)
            (kT (e := .f32) (cur10 c i a2 h2 a3 h3 a4 h4 a5 h5 a6 h6 a7 h7 a8 h8 a9 h9 a10 h10 a11 h11 x0 x1 x2 x3 x4 x5 x6 G10 G11 k.val) k))⟩ :: (st c i a2 h2 a3 h3 a4 h4 a5 h5 a6 h6 a7 h7 a8 h8 a9 h9 a10 h10 a11 h11 x0 x1 x2 x3 x4 x5 x6 G10 G11 k.val).2.1,
         ⟨r2 k, k1_pay14 (k1_pay3 x0) (k1_pay6 x6) (k1_pay7 x5) (kT (e := .bf16) x1 k)
            (vT (e := .f32) (cur11 c i a2 h2 a3 h3 a4 h4 a5 h5 a6 h6 a7 h7 a8 h8 a9 h9 a10 h10 a11 h11 x0 x1 x2 x3 x4 x5 x6 G10 G11 k.val) k)⟩ :: (st c i a2 h2 a3 h3 a4 h4 a5 h5 a6 h6 a7 h7 a8 h8 a9 h9 a10 h10 a11 h11 x0 x1 x2 x3 x4 x5 x6 G10 G11 k.val).2.2) := by
  unfold st
  rw [st_k1_t1_succ (k := k), trip_eq, tripL_eq]
  rfl

variable (q : Fin 256 → Fin 96 → ℝ) (y o : Fin 256 → Fin 64 → ℝ) (l : Fin 256 → ℝ) (κ : Fin 8192 → Fin 96 → ℝ) (ν : Fin 8192 → Fin 64 → ℝ)
  (hq : ∀ j d, x0 (ix3 0 d j) = (q j d : EReal)) (hy : ∀ j e, x6 (ix3 0 e j) = (y j e : EReal))
  (ho : ∀ j e, x4 (ix3 0 e j) = (o j e : EReal)) (hl : ∀ j, x5 (ix3 0 0 j) = (l j : EReal))
  (hk : ∀ n d, x1 (ix3 0 n d) = (κ n d : EReal)) (ht : ∀ n d, x2 (ix3 0 d n) = (κ n d : EReal)) (hv : ∀ n e, x3 (ix3 0 n e) = (ν n e : EReal))
  (B10 : Fin 8192 → Fin 96 → ℝ) (hB10 : ∀ n d, (a10.view.read (Elt Ideal) G10 : Vec Ideal S1x8192x96 .f32) (ix3 0 n d) = (B10 n d : EReal))
  (B11 : Fin 8192 → Fin 64 → ℝ) (hB11 : ∀ n e, (a11.view.read (Elt Ideal) G11 : Vec Ideal S1x8192x64 .f32) (ix3 0 n e) = (B11 n e : EReal))

include hq hy ho hl hk ht hv hB10 hB11 in
/-- Before trip `n`: the queries' gradient holds the sum over the first `2048 n` keys; the keys' and values' gradients hold what they
    held at entry, with this block of queries added in the first `2048 n` rows. -/
theorem st_real : ∀ n : ℕ, n ≤ 4 →
    (∀ d j, (st c i a2 h2 a3 h3 a4 h4 a5 h5 a6 h6 a7 h7 a8 h8 a9 h9 a10 h10 a11 h11 x0 x1 x2 x3 x4 x5 x6 G10 G11 n).1 (ix2 d j)
      = ((∑ m, if m.val < 2048 * n then κ m d * dsB q y o l (κ m) (ν m) j else 0 : ℝ) : EReal))
    ∧ (∀ m d, cur10 c i a2 h2 a3 h3 a4 h4 a5 h5 a6 h6 a7 h7 a8 h8 a9 h9 a10 h10 a11 h11 x0 x1 x2 x3 x4 x5 x6 G10 G11 n (ix3 0 m d)
      = ((B10 m d + if m.val < 2048 * n then ∑ j, dsB q y o l (κ m) (ν m) j * q j d else 0 : ℝ) : EReal))
    ∧ (∀ m e, cur11 c i a2 h2 a3 h3 a4 h4 a5 h5 a6 h6 a7 h7 a8 h8 a9 h9 a10 h10 a11 h11 x0 x1 x2 x3 x4 x5 x6 G10 G11 n (ix3 0 m e)
      = ((B11 m e + if m.val < 2048 * n then ∑ j, pB q l (κ m) j * y j e else 0 : ℝ) : EReal))
  | 0, _ => by
    refine ⟨fun d j => ?_, fun m d => ?_, fun m e => ?_⟩
    · show k1_pay8 (F := Ideal) (ix2 d j) = _
      pointwise [k1_pay8]
      simp
    · refine (hB10 m d).trans ?_
      simp
    · refine (hB11 m e).trans ?_
      simp
  | n + 1, hn => by
    obtain ⟨hA, g10, g11⟩ := st_real n (by omega)
    have ht4 : n < k1_t1_loop.trips := lt_of_lt_of_eq (by omega : n < 4) (by decide +kernel)
    have e := st_succ c i a2 h2 a3 h3 a4 h4 a5 h5 a6 h6 a7 h7 a8 h8 a9 h9 a10 h10 a11 h11 x0 x1 x2 x3 x4 x5 x6 G10 G11 ⟨n, ht4⟩
    have hb := fun r d => (kT_apply (e := .bf16) x1 ⟨n, ht4⟩ r d).trans (hk _ d)
    have hb' := fun r d => (vT_apply (e := .bf16) x3 ⟨n, ht4⟩ r d).trans (hv _ d)
    refine ⟨fun d j => ?_, fun m d => ?_, fun m e' => ?_⟩
    · rw [e]
      refine (pay10_apply _ _ _ d j _ _ (fun r => κ (keyAt ⟨n, ht4⟩ r) d) (hA d j)
        (fun r => pay13_apply x0 x6 x4 x5 q y o l hq hy ho hl _ _ hb _ _ hb' r j)
        (fun r => (tT_apply x2 ⟨n, ht4⟩ r d).trans (ht _ d))).trans ?_
      rw [sum_lt_tile (N := 8192) (T := 2048) (k := n) (by omega)]
    · unfold cur10
      rw [e]
      by_cases h : 2048 * n ≤ m.val ∧ m.val < 2048 * (n + 1)
      · obtain ⟨r, rfl⟩ : ∃ r : Fin 2048, m = keyAt ⟨n, ht4⟩ r := ⟨⟨m.val - 2048 * n, by omega⟩, Fin.ext (by simp; omega)⟩
        rw [View.read_writes_cons_hit _ _ _ _ _ (ix3 0 r d : S1x2048x96.Idx) _ (emb1 ⟨n, ht4⟩ r d)]
        rw [pay15_apply x0 x6 x4 x5 q y o l hq hy ho hl _ _ hb _ _ hb' _ _ (fun r d => (kT_apply (e := .f32) _ ⟨n, ht4⟩ r d).trans (g10 _ d)) r d]
        rw [if_pos h.2, if_neg (by omega), add_zero]
      · rw [View.read_writes_cons_miss_of_axis _ _ _ _ _ 1 (2048 * n) 2048 (by show k1_off1 ⟨n, ht4⟩ 1 = _; rw [off1]; rfl) rfl rfl (by show m.val < _ ∨ _ ≤ m.val; omega)]
        refine (g10 m d).trans ?_
        congr 3
        exact propext (by omega)
    · unfold cur11
      rw [e]
      by_cases h : 2048 * n ≤ m.val ∧ m.val < 2048 * (n + 1)
      · obtain ⟨r, rfl⟩ : ∃ r : Fin 2048, m = keyAt ⟨n, ht4⟩ r := ⟨⟨m.val - 2048 * n, by omega⟩, Fin.ext (by simp; omega)⟩
        rw [View.read_writes_cons_hit _ _ _ _ _ (ix3 0 r e' : S1x2048x64.Idx) _ (emb2 ⟨n, ht4⟩ r e')]
        rw [pay14_apply x0 x6 x5 q y l hq hy hl _ _ hb _ _ (fun r d => (vT_apply (e := .f32) _ ⟨n, ht4⟩ r d).trans (g11 _ d)) r e']
        rw [if_pos h.2, if_neg (by omega), add_zero]
      · rw [View.read_writes_cons_miss_of_axis _ _ _ _ _ 1 (2048 * n) 2048 (by show k1_off2 ⟨n, ht4⟩ 1 = _; rw [off2]; rfl) rfl rfl (by show m.val < _ ∨ _ ≤ m.val; omega)]
        refine (g11 m e').trans ?_
        congr 3
        exact propext (by omega)

end

end Cert.DenseIdeal.Value.Bwd

end
-- ==== Proof.DenseBlocks.lean ====
/- THE BACKWARD CALL'S BLOCKS: what one grid point of region 1 leaves in its three result blocks, as the state after the
   loop's four trips. A head's first point starts from zeros, the others from what the point before left. -/
module

public import proofs.«01_k».proof.Proof.DenseTrip

@[expose] public section

set_option maxRecDepth 16384

noncomputable section

namespace Cert.DenseIdeal.Value.Bwd

open Cert.DenseIdeal Cert.DenseIdeal.Gen Idealize.ShloMosaic Idealize.ShloMosaic.TcCoe Idealize.SL.Sem
open Idealize.ShloMosaic.Pipeline (Dat)
open Cert.Reals Cert.DenseMath

variable (c : Dev nD) (i : grid1.Coords) (a2 : Memref sig .tc .vmem S1x96x256 .bf16) (h2 : a2.IsWhole)
  (a3 : Memref sig .tc .vmem S1x8192x96 .bf16) (h3 : a3.IsWhole) (a4 : Memref sig .tc .vmem S1x96x8192 .bf16) (h4 : a4.IsWhole)
  (a5 : Memref sig .tc .vmem S1x8192x64 .bf16) (h5 : a5.IsWhole) (a6 : Memref sig .tc .vmem S1x64x256 .f32) (h6 : a6.IsWhole)
  (a7 : Memref sig .tc .vmem S1x1x256 .f32) (h7 : a7.IsWhole) (a8 : Memref sig .tc .vmem S1x64x256 .f32) (h8 : a8.IsWhole)
  (a9 : Memref sig .tc .vmem S1x96x256 .f32) (h9 : a9.IsWhole) (a10 : Memref sig .tc .vmem S1x8192x96 .f32) (h10 : a10.IsWhole)
  (a11 : Memref sig .tc .vmem S1x8192x64 .f32) (h11 : a11.IsWhole)

variable (x0 : Vec Ideal S1x96x256 .bf16) (x1 : Vec Ideal S1x8192x96 .bf16) (x2 : Vec Ideal S1x96x8192 .bf16) (x3 : Vec Ideal S1x8192x64 .bf16)
  (x4 : Vec Ideal S1x64x256 .f32) (x5 : Vec Ideal S1x1x256 .f32) (x6 : Vec Ideal S1x64x256 .f32)
  (y8 : Vec Ideal S1x8192x96 .f32) (y9 : Vec Ideal S1x8192x64 .f32)

/-- A head's first point starts from blocks of zeros. -/
abbrev z10 : BufTy.Contents (Elt Ideal) a10.view.ty := a10.view.writes (Elt Ideal) a10.view.junk
  [⟨Rect.unit (s := S1x8192x96) ![0, 0, 0] S1x8192x96.size inb_S1x8192x96_S1x8192x96_0_0_0, k1_pay1 (F := Ideal)⟩]
abbrev z11 : BufTy.Contents (Elt Ideal) a11.view.ty := a11.view.writes (Elt Ideal) a11.view.junk
  [⟨Rect.unit (s := S1x8192x64) ![0, 0, 0] S1x8192x64.size inb_S1x8192x64_S1x8192x64_0_0_0, k1_pay2 (F := Ideal)⟩]

theorem z10_apply (n : Fin 8192) (d : Fin 96) : (a10.view.read (Elt Ideal) (z10 a10) : Vec Ideal S1x8192x96 .f32) (ix3 0 n d) = ((0 : ℝ) : EReal) := by
  unfold z10
  rw [View.read_writes_cons_hit_of_coords _ _ _ _ _ (ix3 0 n d : S1x8192x96.Idx) _ (fun a => by fin_cases a <;> simp)]
  pointwise [k1_pay1]
  simp

theorem z11_apply (n : Fin 8192) (e : Fin 64) : (a11.view.read (Elt Ideal) (z11 a11) : Vec Ideal S1x8192x64 .f32) (ix3 0 n e) = ((0 : ℝ) : EReal) := by
  unfold z11
  rw [View.read_writes_cons_hit_of_coords _ _ _ _ _ (ix3 0 n e : S1x8192x64.Idx) _ (fun a => by fin_cases a <;> simp)]
  pointwise [k1_pay2]
  simp

theorem trips4 : Scf.trips (0#32) (Scalar.addi 0#32 4#32) 1#32 = 4 := by decide +kernel

theorem outA7 (hc : cond1_0 i) : out1_A_7 (F := Ideal) c i a2 h2 a3 h3 a4 h4 a5 h5 a6 h6 a7 h7 a8 h8 a9 h9 a10 h10 a11 h11 hc x0 x1 x2 x3 x4 x5 x6 = k1_pay11 (st c i a2 h2 a3 h3 a4 h4 a5 h5 a6 h6 a7 h7 a8 h8 a9 h9 a10 h10 a11 h11 x0 x1 x2 x3 x4 x5 x6 (z10 a10) (z11 a11) 4).1 := by
  unfold out1_A_7
  rw [View.read_writes_eq_canon _ _ _ (cover1_A_7 c i a2 h2 a3 h3 a4 h4 a5 h5 a6 h6 a7 h7 a8 h8 a9 h9 a10 h10 a11 h11 hc x0 x1 x2 x3 x4 x5 x6)]
  unfold kernelRun1_A
  dsimp only
  sl_unfold_run_names
  rw [View.canon_unit_zero hz3]
  simp only [View.readAt_eq_ld, h2.read_unread, h6.read_unread, h7.read_unread, h8.read_unread, View.ld_unit_zero (S := S1x96x256) hz3, View.ld_unit_zero (S := S1x64x256) hz3, View.ld_unit_zero (S := S1x1x256) hz3, trips4]

theorem outA8 (hc : cond1_0 i) : out1_A_8 (F := Ideal) c i a2 h2 a3 h3 a4 h4 a5 h5 a6 h6 a7 h7 a8 h8 a9 h9 a10 h10 a11 h11 hc x0 x1 x2 x3 x4 x5 x6 = cur10 c i a2 h2 a3 h3 a4 h4 a5 h5 a6 h6 a7 h7 a8 h8 a9 h9 a10 h10 a11 h11 x0 x1 x2 x3 x4 x5 x6 (z10 a10) (z11 a11) 4 := by
  unfold out1_A_8
  rw [View.read_writes_of_cover VO1_8 _ a10.view a10.view.junk _ (cover1_A_8 c i a2 h2 a3 h3 a4 h4 a5 h5 a6 h6 a7 h7 a8 h8 a9 h9 a10 h10 a11 h11 hc x0 x1 x2 x3 x4 x5 x6)]
  unfold kernelRun1_A
  dsimp only
  sl_unfold_run_names
  simp only [View.writes_append, View.readAt_eq_ld, h2.read_unread, h6.read_unread, h7.read_unread, h8.read_unread, View.ld_unit_zero (S := S1x96x256) hz3, View.ld_unit_zero (S := S1x64x256) hz3, View.ld_unit_zero (S := S1x1x256) hz3, trips4]

theorem outA9 (hc : cond1_0 i) : out1_A_9 (F := Ideal) c i a2 h2 a3 h3 a4 h4 a5 h5 a6 h6 a7 h7 a8 h8 a9 h9 a10 h10 a11 h11 hc x0 x1 x2 x3 x4 x5 x6 = cur11 c i a2 h2 a3 h3 a4 h4 a5 h5 a6 h6 a7 h7 a8 h8 a9 h9 a10 h10 a11 h11 x0 x1 x2 x3 x4 x5 x6 (z10 a10) (z11 a11) 4 := by
  unfold out1_A_9
  rw [View.read_writes_of_cover VO1_9 _ a11.view a11.view.junk _ (cover1_A_9 c i a2 h2 a3 h3 a4 h4 a5 h5 a6 h6 a7 h7 a8 h8 a9 h9 a10 h10 a11 h11 hc x0 x1 x2 x3 x4 x5 x6)]
  unfold kernelRun1_A
  dsimp only
  sl_unfold_run_names
  simp only [View.writes_append, View.readAt_eq_ld, h2.read_unread, h6.read_unread, h7.read_unread, h8.read_unread, View.ld_unit_zero (S := S1x96x256) hz3, View.ld_unit_zero (S := S1x64x256) hz3, View.ld_unit_zero (S := S1x1x256) hz3, trips4]

theorem outB7 (hc : ¬cond1_0 i) : out1_B_7 (F := Ideal) c i a2 h2 a3 h3 a4 h4 a5 h5 a6 h6 a7 h7 a8 h8 a9 h9 a10 h10 a11 h11 hc x0 x1 x2 x3 x4 x5 x6 y8 y9 = k1_pay11 (st c i a2 h2 a3 h3 a4 h4 a5 h5 a6 h6 a7 h7 a8 h8 a9 h9 a10 h10 a11 h11 x0 x1 x2 x3 x4 x5 x6 (h10.unread y8) (h11.unread y9) 4).1 := by
  unfold out1_B_7
  rw [View.read_writes_eq_canon _ _ _ (cover1_B_7 c i a2 h2 a3 h3 a4 h4 a5 h5 a6 h6 a7 h7 a8 h8 a9 h9 a10 h10 a11 h11 hc x0 x1 x2 x3 x4 x5 x6 y8 y9)]
  unfold kernelRun1_B
  dsimp only
  sl_unfold_run_names
  rw [View.canon_unit_zero hz3]
  simp only [View.readAt_eq_ld, h2.read_unread, h6.read_unread, h7.read_unread, h8.read_unread, View.ld_unit_zero (S := S1x96x256) hz3, View.ld_unit_zero (S := S1x64x256) hz3, View.ld_unit_zero (S := S1x1x256) hz3, trips4]

theorem outB8 (hc : ¬cond1_0 i) : out1_B_8 (F := Ideal) c i a2 h2 a3 h3 a4 h4 a5 h5 a6 h6 a7 h7 a8 h8 a9 h9 a10 h10 a11 h11 hc x0 x1 x2 x3 x4 x5 x6 y8 y9 = cur10 c i a2 h2 a3 h3 a4 h4 a5 h5 a6 h6 a7 h7 a8 h8 a9 h9 a10 h10 a11 h11 x0 x1 x2 x3 x4 x5 x6 (h10.unread y8) (h11.unread y9) 4 := by
  unfold out1_B_8
  rw [View.read_writes_of_cover VO1_8 _ a10.view (h10.unread y8) _ (cover1_B_8 c i a2 h2 a3 h3 a4 h4 a5 h5 a6 h6 a7 h7 a8 h8 a9 h9 a10 h10 a11 h11 hc x0 x1 x2 x3 x4 x5 x6 y8 y9)]
  unfold kernelRun1_B
  dsimp only
  sl_unfold_run_names
  simp only [View.readAt_eq_ld, h2.read_unread, h6.read_unread, h7.read_unread, h8.read_unread, View.ld_unit_zero (S := S1x96x256) hz3, View.ld_unit_zero (S := S1x64x256) hz3, View.ld_unit_zero (S := S1x1x256) hz3, trips4]

theorem outB9 (hc : ¬cond1_0 i) : out1_B_9 (F := Ideal) c i a2 h2 a3 h3 a4 h4 a5 h5 a6 h6 a7 h7 a8 h8 a9 h9 a10 h10 a11 h11 hc x0 x1 x2 x3 x4 x5 x6 y8 y9 = cur11 c i a2 h2 a3 h3 a4 h4 a5 h5 a6 h6 a7 h7 a8 h8 a9 h9 a10 h10 a11 h11 x0 x1 x2 x3 x4 x5 x6 (h10.unread y8) (h11.unread y9) 4 := by
  unfold out1_B_9
  rw [View.read_writes_of_cover VO1_9 _ a11.view (h11.unread y9) _ (cover1_B_9 c i a2 h2 a3 h3 a4 h4 a5 h5 a6 h6 a7 h7 a8 h8 a9 h9 a10 h10 a11 h11 hc x0 x1 x2 x3 x4 x5 x6 y8 y9)]
  unfold kernelRun1_B
  dsimp only
  sl_unfold_run_names
  simp only [View.readAt_eq_ld, h2.read_unread, h6.read_unread, h7.read_unread, h8.read_unread, View.ld_unit_zero (S := S1x96x256) hz3, View.ld_unit_zero (S := S1x64x256) hz3, View.ld_unit_zero (S := S1x1x256) hz3, trips4]

end Cert.DenseIdeal.Value.Bwd

end
-- ==== Proof.DenseBwd.lean ====
/- THE BACKWARD CALL'S ARRAYS: what region 1 of the program leaves in its three result arrays, when its operand arrays hold
   reals, and among them the output and the log-sums of the forward. -/
module

public import proofs.«01_k».proof.Proof.DenseBlocks

@[expose] public section

set_option maxRecDepth 16384

noncomputable section

namespace Cert.DenseIdeal.Value.Bwd

open Cert.DenseIdeal Cert.DenseIdeal.Gen Idealize.ShloMosaic Idealize.ShloMosaic.TcCoe Idealize.SL.Sem
open Idealize.ShloMosaic.Pipeline (Dat)
open Cert.Reals Cert.DenseMath

/-- The last cast of the queries' gradient keeps every entry. -/
theorem pay11_apply (g : FVec Ideal S96x256 .f32) (d : Fin 96) (j : Fin 256) : k1_pay11 g (ix3 0 d j) = g (ix2 d j) := by
  pointwise [k1_pay11]

section
variable (c : Dev nD) (i : grid1.Coords) (a2 : Memref sig .tc .vmem S1x96x256 .bf16) (h2 : a2.IsWhole)
  (a3 : Memref sig .tc .vmem S1x8192x96 .bf16) (h3 : a3.IsWhole) (a4 : Memref sig .tc .vmem S1x96x8192 .bf16) (h4 : a4.IsWhole)
  (a5 : Memref sig .tc .vmem S1x8192x64 .bf16) (h5 : a5.IsWhole) (a6 : Memref sig .tc .vmem S1x64x256 .f32) (h6 : a6.IsWhole)
  (a7 : Memref sig .tc .vmem S1x1x256 .f32) (h7 : a7.IsWhole) (a8 : Memref sig .tc .vmem S1x64x256 .f32) (h8 : a8.IsWhole)
  (a9 : Memref sig .tc .vmem S1x96x256 .f32) (h9 : a9.IsWhole) (a10 : Memref sig .tc .vmem S1x8192x96 .f32) (h10 : a10.IsWhole)
  (a11 : Memref sig .tc .vmem S1x8192x64 .f32) (h11 : a11.IsWhole)

variable (x0 : Vec Ideal S1x96x256 .bf16) (x1 : Vec Ideal S1x8192x96 .bf16) (x2 : Vec Ideal S1x96x8192 .bf16) (x3 : Vec Ideal S1x8192x64 .bf16)
  (x4 : Vec Ideal S1x64x256 .f32) (x5 : Vec Ideal S1x1x256 .f32) (x6 : Vec Ideal S1x64x256 .f32)
  (q : Fin 256 → Fin 96 → ℝ) (y o : Fin 256 → Fin 64 → ℝ) (l : Fin 256 → ℝ) (κ : Fin 8192 → Fin 96 → ℝ) (ν : Fin 8192 → Fin 64 → ℝ)
  (hq : ∀ j d, x0 (ix3 0 d j) = (q j d : EReal)) (hy : ∀ j e, x6 (ix3 0 e j) = (y j e : EReal))
  (ho : ∀ j e, x4 (ix3 0 e j) = (o j e : EReal)) (hl : ∀ j, x5 (ix3 0 0 j) = (l j : EReal))
  (hk : ∀ n d, x1 (ix3 0 n d) = (κ n d : EReal)) (ht : ∀ n d, x2 (ix3 0 d n) = (κ n d : EReal)) (hv : ∀ n e, x3 (ix3 0 n e) = (ν n e : EReal))

include hq hy ho hl hk ht hv in
/-- A head's first point. -/
theorem outA_real (hc : cond1_0 i) :
    (∀ d j, out1_A_7 (F := Ideal) c i a2 h2 a3 h3 a4 h4 a5 h5 a6 h6 a7 h7 a8 h8 a9 h9 a10 h10 a11 h11 hc x0 x1 x2 x3 x4 x5 x6 (ix3 0 d j) = ((∑ m, κ m d * dsB q y o l (κ m) (ν m) j : ℝ) : EReal))
    ∧ (∀ m d, out1_A_8 (F := Ideal) c i a2 h2 a3 h3 a4 h4 a5 h5 a6 h6 a7 h7 a8 h8 a9 h9 a10 h10 a11 h11 hc x0 x1 x2 x3 x4 x5 x6 (ix3 0 m d) = ((∑ j, dsB q y o l (κ m) (ν m) j * q j d : ℝ) : EReal))
    ∧ (∀ m e, out1_A_9 (F := Ideal) c i a2 h2 a3 h3 a4 h4 a5 h5 a6 h6 a7 h7 a8 h8 a9 h9 a10 h10 a11 h11 hc x0 x1 x2 x3 x4 x5 x6 (ix3 0 m e) = ((∑ j, pB q l (κ m) j * y j e : ℝ) : EReal)) := by
  obtain ⟨g7, g8, g9⟩ := st_real c i a2 h2 a3 h3 a4 h4 a5 h5 a6 h6 a7 h7 a8 h8 a9 h9 a10 h10 a11 h11 x0 x1 x2 x3 x4 x5 x6 (z10 a10) (z11 a11) q y o l κ ν hq hy ho hl hk ht hv (fun _ _ => 0) (z10_apply a10) (fun _ _ => 0) (z11_apply a11) 4 le_rfl
  have hlt : ∀ m : Fin 8192, m.val < 2048 * 4 := fun m => m.isLt
  simp only [hlt, if_true, zero_add] at g7 g8 g9
  exact ⟨fun d j => by rw [outA7, pay11_apply, g7], fun m d => by rw [outA8]; exact g8 m d, fun m e => by rw [outA9]; exact g9 m e⟩

include hq hy ho hl hk ht hv in
/-- A later point, over what the point before left. -/
theorem outB_real (hc : ¬cond1_0 i)
    (y8 : Vec Ideal S1x8192x96 .f32) (B8 : Fin 8192 → Fin 96 → ℝ) (hy8 : ∀ n d, y8 (ix3 0 n d) = (B8 n d : EReal))
    (y9 : Vec Ideal S1x8192x64 .f32) (B9 : Fin 8192 → Fin 64 → ℝ) (hy9 : ∀ n e, y9 (ix3 0 n e) = (B9 n e : EReal)) :
    (∀ d j, out1_B_7 (F := Ideal) c i a2 h2 a3 h3 a4 h4 a5 h5 a6 h6 a7 h7 a8 h8 a9 h9 a10 h10 a11 h11 hc x0 x1 x2 x3 x4 x5 x6 y8 y9 (ix3 0 d j) = ((∑ m, κ m d * dsB q y o l (κ m) (ν m) j : ℝ) : EReal))
    ∧ (∀ m d, out1_B_8 (F := Ideal) c i a2 h2 a3 h3 a4 h4 a5 h5 a6 h6 a7 h7 a8 h8 a9 h9 a10 h10 a11 h11 hc x0 x1 x2 x3 x4 x5 x6 y8 y9 (ix3 0 m d) = ((B8 m d + ∑ j, dsB q y o l (κ m) (ν m) j * q j d : ℝ) : EReal))
    ∧ (∀ m e, out1_B_9 (F := Ideal) c i a2 h2 a3 h3 a4 h4 a5 h5 a6 h6 a7 h7 a8 h8 a9 h9 a10 h10 a11 h11 hc x0 x1 x2 x3 x4 x5 x6 y8 y9 (ix3 0 m e) = ((B9 m e + ∑ j, pB q l (κ m) j * y j e : ℝ) : EReal)) := by
  obtain ⟨g7, g8, g9⟩ := st_real c i a2 h2 a3 h3 a4 h4 a5 h5 a6 h6 a7 h7 a8 h8 a9 h9 a10 h10 a11 h11 x0 x1 x2 x3 x4 x5 x6 (h10.unread y8) (h11.unread y9) q y o l κ ν hq hy ho hl hk ht hv B8 (fun n d => by rw [h10.read_unread]; exact hy8 n d) B9 (fun n e => by rw [h11.read_unread]; exact hy9 n e) 4 le_rfl
  have hlt : ∀ m : Fin 8192, m.val < 2048 * 4 := fun m => m.isLt
  simp only [hlt, if_true] at g7 g8 g9
  exact ⟨fun d j => by rw [outB7, pay11_apply, g7], fun m d => by rw [outB8]; exact g8 m d, fun m e => by rw [outB9]; exact g9 m e⟩

end

/-! ## The windows and the arrays -/

/-- The backward windows' blocks: 32 query blocks of 256 columns per head, a head's keys and values whole. -/
theorem idx1 : ∀ t : Fin cfg1.N, win1_0.index t = ![t.val / 32, 0, t.val % 32] ∧ win1_1.index t = ![t.val / 32, 0, 0]
    ∧ win1_2.index t = ![t.val / 32, 0, 0] ∧ win1_3.index t = ![t.val / 32, 0, 0] ∧ win1_4.index t = ![t.val / 32, 0, t.val % 32]
    ∧ win1_5.index t = ![t.val / 32, 0, t.val % 32] ∧ win1_6.index t = ![t.val / 32, 0, t.val % 32] ∧ win1_7.index t = ![t.val / 32, 0, t.val % 32]
    ∧ win1_8.index t = ![t.val / 32, 0, 0] ∧ win1_9.index t = ![t.val / 32, 0, 0] :=
  (by decide +kernel : ∀ t : Fin grid1.N, _)

theorem lt192 (t : Fin cfg1.N) : t.val < 192 := lt_of_lt_of_eq t.isLt N_1

/-- The head of a backward grid point. -/
def head1 (t : Fin cfg1.N) : Fin 6 := ⟨t.val / 32, by have := lt192 t; omega⟩

/-- The query at column `j` of a backward grid point's block. -/
def query1 (t : Fin cfg1.N) (j : Fin 256) : Fin 8192 := ⟨256 * (t.val % 32) + j.val, by omega⟩

variable (V : (c : Dev nD) → (b : Ref sig .tc) → Buf (Elt Ideal) ((c : Thread nD τ).loc b)) (c : Dev nD)
  (q k : Fin 8192 → Fin 6 → Fin 96 → ℝ) (v y : Fin 8192 → Fin 6 → Fin 64 → ℝ)
  (hq : ∀ h a d, (V c main_v11 : FVec Ideal S6x96x8192 .bf16) (ix3 h d a) = (q a h d : EReal))
  (hk : ∀ h n d, (V c main_v3 : FVec Ideal S6x8192x96 .bf16) (ix3 h n d) = (k n h d : EReal))
  (ht : ∀ h n d, (V c main_v12 : FVec Ideal S6x96x8192 .bf16) (ix3 h d n) = (k n h d : EReal))
  (hv : ∀ h n e, (V c main_v5 : FVec Ideal S6x8192x64 .bf16) (ix3 h n e) = (v n h e : EReal))
  (ho : ∀ h a e, (V c main_v13 : FVec Ideal S6x64x8192 .f32) (ix3 h e a) = (oR q k v a h e : EReal))
  (hl : ∀ h a, (V c main_v14 : FVec Ideal S6x1x8192 .f32) (ix3 h 0 a) = (Real.log (den (sc q k h a)) : EReal))
  (hy : ∀ h a e, (V c main_v15 : FVec Ideal S6x64x8192 .f32) (ix3 h e a) = (y a h e : EReal))

include hq in
theorem blk1_q (t : Fin cfg1.N) (j : Fin 256) (d : Fin 96) :
    (iblk1 V c 0 t : FVec Ideal S1x96x256 .bf16) (ix3 0 d j) = (q (query1 t j) (head1 t) d : EReal) := by
  refine Eq.trans ?_ (hq (head1 t) (query1 t j) d)
  blk_ext [iblk1, idx1 t, query1, head1]

include hk in
theorem blk1_k (t : Fin cfg1.N) (n : Fin 8192) (d : Fin 96) :
    (iblk1 V c 1 t : FVec Ideal S1x8192x96 .bf16) (ix3 0 n d) = (k n (head1 t) d : EReal) := by
  refine Eq.trans ?_ (hk (head1 t) n d)
  blk_ext [iblk1, idx1 t, head1]

include ht in
theorem blk1_t (t : Fin cfg1.N) (n : Fin 8192) (d : Fin 96) :
    (iblk1 V c 2 t : FVec Ideal S1x96x8192 .bf16) (ix3 0 d n) = (k n (head1 t) d : EReal) := by
  refine Eq.trans ?_ (ht (head1 t) n d)
  blk_ext [iblk1, idx1 t, head1]

include hv in
theorem blk1_v (t : Fin cfg1.N) (n : Fin 8192) (e : Fin 64) :
    (iblk1 V c 3 t : FVec Ideal S1x8192x64 .bf16) (ix3 0 n e) = (v n (head1 t) e : EReal) := by
  refine Eq.trans ?_ (hv (head1 t) n e)
  blk_ext [iblk1, idx1 t, head1]

include ho in
theorem blk1_o (t : Fin cfg1.N) (j : Fin 256) (e : Fin 64) :
    (iblk1 V c 4 t : FVec Ideal S1x64x256 .f32) (ix3 0 e j) = (oR q k v (query1 t j) (head1 t) e : EReal) := by
  refine Eq.trans ?_ (ho (head1 t) (query1 t j) e)
  blk_ext [iblk1, idx1 t, query1, head1]

include hl in
theorem blk1_l (t : Fin cfg1.N) (j : Fin 256) :
    (iblk1 V c 5 t : FVec Ideal S1x1x256 .f32) (ix3 0 0 j) = (Real.log (den (sc q k (head1 t) (query1 t j))) : EReal) := by
  refine Eq.trans ?_ (hl (head1 t) (query1 t j))
  blk_ext [iblk1, idx1 t, query1, head1]

include hy in
theorem blk1_y (t : Fin cfg1.N) (j : Fin 256) (e : Fin 64) :
    (iblk1 V c 6 t : FVec Ideal S1x64x256 .f32) (ix3 0 e j) = (y (query1 t j) (head1 t) e : EReal) := by
  refine Eq.trans ?_ (hy (head1 t) (query1 t j) e)
  blk_ext [iblk1, idx1 t, query1, head1]

/-- The block's weights are the call's. -/
theorem pB_eq (h : Fin 6) (a : Fin 256 → Fin 8192) (n : Fin 8192) (j : Fin 256) :
    pB (fun j d => q (a j) h d) (fun j => Real.log (den (sc q k h (a j)))) (k n h) j = pw (sc q k h (a j)) n := by
  rw [← exp_log, pB, sc]
  simp only [mul_comm]

/-- The block's score gradients are the call's. -/
theorem dsB_eq (h : Fin 6) (a : Fin 256 → Fin 8192) (n : Fin 8192) (j : Fin 256) :
    dsB (fun j d => q (a j) h d) (fun j e => y (a j) h e) (fun j e => oR q k v (a j) h e) (fun j => Real.log (den (sc q k h (a j)))) (k n h) (v n h) j
      = dsw (sc q k h (a j)) (dp v y h (a j)) n := by
  rw [dsB, pB_eq, dsw, delta_eq]
  simp only [dp, mul_comm]

include hq hk ht hv ho hl hy in
theorem first (t : Fin cfg1.N) (h0 : t.val % 32 = 0) :
    (∀ d j, ((outsAt1 V c t.val t.isLt).1 : FVec Ideal S1x96x256 .f32) (ix3 0 d j) = (dqR q k v y (query1 t j) (head1 t) d : EReal))
    ∧ (∀ m d, ((outsAt1 V c t.val t.isLt).2.1 : FVec Ideal S1x8192x96 .f32) (ix3 0 m d)
      = ((∑ a : Fin 8192, if a.val < 256 * (t.val % 32 + 1) then dsw (sc q k (head1 t) a) (dp v y (head1 t) a) m * q a (head1 t) d else 0 : ℝ) : EReal))
    ∧ (∀ m e, ((outsAt1 V c t.val t.isLt).2.2 : FVec Ideal S1x8192x64 .f32) (ix3 0 m e)
      = ((∑ a : Fin 8192, if a.val < 256 * (t.val % 32 + 1) then pw (sc q k (head1 t) a) m * y a (head1 t) e else 0 : ℝ) : EReal)) := by
  rw [outsAt1_A V c t h0]
  dsimp only
  obtain ⟨r7, r8, r9⟩ := outA_real c (grid1.coords t) (ms1_0 t) (hs1_0 t) (ms1_1 t) (hs1_1 t) (ms1_2 t) (hs1_2 t) (ms1_3 t) (hs1_3 t)
    (ms1_4 t) (hs1_4 t) (ms1_5 t) (hs1_5 t) (ms1_6 t) (hs1_6 t) (ms1_7 t) (hs1_7 t) (ms1_8 t) (hs1_8 t) (ms1_9 t) (hs1_9 t)
    _ _ _ _ _ _ _ _ _ _ _ _ _ (blk1_q V c q hq t) (blk1_y V c y hy t) (blk1_o V c q k v ho t) (blk1_l V c q k hl t)
    (blk1_k V c k hk t) (blk1_t V c k ht t) (blk1_v V c v hv t) ((hcond1_0 t).mpr h0)
  refine ⟨fun d j => (r7 d j).trans ?_, fun m d => (r8 m d).trans ?_, fun m e => (r9 m e).trans ?_⟩
  · simp only [dsB_eq, dqR, mul_comm]
  · simp only [dsB_eq]
    rw [sum_lt_tile (N := 8192) (T := 256) (k := t.val % 32) (by omega)]
    have hz : ∀ a : Fin 8192, ¬a.val < 256 * (t.val % 32) := fun a => by omega
    simp only [hz, if_false, Finset.sum_const_zero, zero_add]
    rfl
  · simp only [pB_eq]
    rw [sum_lt_tile (N := 8192) (T := 256) (k := t.val % 32) (by omega)]
    have hz : ∀ a : Fin 8192, ¬a.val < 256 * (t.val % 32) := fun a => by omega
    simp only [hz, if_false, Finset.sum_const_zero, zero_add]
    rfl

include hq hk ht hv ho hl hy in
theorem later (t : Fin cfg1.N) (h0 : ¬t.val % 32 = 0)
    (g8 : ∀ m d, ((outsAt1 V c (t.val - 1) (Nat.lt_of_le_of_lt (Nat.sub_le _ _) t.isLt)).2.1 : FVec Ideal S1x8192x96 .f32) (ix3 0 m d)
      = ((∑ a : Fin 8192, if a.val < 256 * (t.val % 32) then dsw (sc q k (head1 t) a) (dp v y (head1 t) a) m * q a (head1 t) d else 0 : ℝ) : EReal))
    (g9 : ∀ m e, ((outsAt1 V c (t.val - 1) (Nat.lt_of_le_of_lt (Nat.sub_le _ _) t.isLt)).2.2 : FVec Ideal S1x8192x64 .f32) (ix3 0 m e)
      = ((∑ a : Fin 8192, if a.val < 256 * (t.val % 32) then pw (sc q k (head1 t) a) m * y a (head1 t) e else 0 : ℝ) : EReal)) :
    (∀ d j, ((outsAt1 V c t.val t.isLt).1 : FVec Ideal S1x96x256 .f32) (ix3 0 d j) = (dqR q k v y (query1 t j) (head1 t) d : EReal))
    ∧ (∀ m d, ((outsAt1 V c t.val t.isLt).2.1 : FVec Ideal S1x8192x96 .f32) (ix3 0 m d)
      = ((∑ a : Fin 8192, if a.val < 256 * (t.val % 32 + 1) then dsw (sc q k (head1 t) a) (dp v y (head1 t) a) m * q a (head1 t) d else 0 : ℝ) : EReal))
    ∧ (∀ m e, ((outsAt1 V c t.val t.isLt).2.2 : FVec Ideal S1x8192x64 .f32) (ix3 0 m e)
      = ((∑ a : Fin 8192, if a.val < 256 * (t.val % 32 + 1) then pw (sc q k (head1 t) a) m * y a (head1 t) e else 0 : ℝ) : EReal)) := by
  rw [outsAt1_B V c t h0]
  dsimp only
  obtain ⟨r7, r8, r9⟩ := outB_real c (grid1.coords t) (ms1_0 t) (hs1_0 t) (ms1_1 t) (hs1_1 t) (ms1_2 t) (hs1_2 t) (ms1_3 t) (hs1_3 t)
    (ms1_4 t) (hs1_4 t) (ms1_5 t) (hs1_5 t) (ms1_6 t) (hs1_6 t) (ms1_7 t) (hs1_7 t) (ms1_8 t) (hs1_8 t) (ms1_9 t) (hs1_9 t)
    _ _ _ _ _ _ _ _ _ _ _ _ _ (blk1_q V c q hq t) (blk1_y V c y hy t) (blk1_o V c q k v ho t) (blk1_l V c q k hl t)
    (blk1_k V c k hk t) (blk1_t V c k ht t) (blk1_v V c v hv t) (fun h => h0 ((hcond1_0 t).mp h)) _ _ g8 _ _ g9
  refine ⟨fun d j => (r7 d j).trans ?_, fun m d => (r8 m d).trans ?_, fun m e => (r9 m e).trans ?_⟩
  · simp only [dsB_eq, dqR, mul_comm]
  · simp only [dsB_eq]
    rw [sum_lt_tile (N := 8192) (T := 256) (k := t.val % 32) (by omega)]
    rfl
  · simp only [pB_eq]
    rw [sum_lt_tile (N := 8192) (T := 256) (k := t.val % 32) (by omega)]
    rfl

include hq hk ht hv ho hl hy in
/-- After each point: its block of the queries' gradient, and the keys' and values' gradients over the queries met so far in the head. -/
theorem outs1 : ∀ (n : ℕ) (hn : n < cfg1.N),
    (∀ d j, ((outsAt1 V c n hn).1 : FVec Ideal S1x96x256 .f32) (ix3 0 d j) = (dqR q k v y (query1 ⟨n, hn⟩ j) (head1 ⟨n, hn⟩) d : EReal))
    ∧ (∀ m d, ((outsAt1 V c n hn).2.1 : FVec Ideal S1x8192x96 .f32) (ix3 0 m d)
      = ((∑ a : Fin 8192, if a.val < 256 * (n % 32 + 1) then dsw (sc q k (head1 ⟨n, hn⟩) a) (dp v y (head1 ⟨n, hn⟩) a) m * q a (head1 ⟨n, hn⟩) d else 0 : ℝ) : EReal))
    ∧ (∀ m e, ((outsAt1 V c n hn).2.2 : FVec Ideal S1x8192x64 .f32) (ix3 0 m e)
      = ((∑ a : Fin 8192, if a.val < 256 * (n % 32 + 1) then pw (sc q k (head1 ⟨n, hn⟩) a) m * y a (head1 ⟨n, hn⟩) e else 0 : ℝ) : EReal)) := by
  intro n
  induction n with
  | zero => intro hn; exact first V c q k v y hq hk ht hv ho hl hy ⟨0, hn⟩ rfl
  | succ n ih =>
    intro hn
    by_cases h0 : (n + 1) % 32 = 0
    · exact first V c q k v y hq hk ht hv ho hl hy ⟨n + 1, hn⟩ h0
    · obtain ⟨-, g8, g9⟩ := ih (by omega)
      have hh : head1 ⟨n, by omega⟩ = head1 ⟨n + 1, hn⟩ := Fin.ext (by simp only [head1]; omega)
      have hm : n % 32 + 1 = (n + 1) % 32 := by omega
      rw [hh, hm] at g8 g9
      exact later V c q k v y hq hk ht hv ho hl hy ⟨n + 1, hn⟩ h0 g8 g9

include hq hk ht hv ho hl hy in
/-- The queries' gradient, as the program stores it: columns are positions. -/
theorem final1_q (G : FVec Ideal S6x96x8192 .f32) (hG : ∀ h a d, G (ix3 h d a) = (dqR q k v y a h d : EReal)) :
    (dat1 V c).arrAt 7 cfg1.N = G := by
  refine (dat1 V c).arrAt_eq_of_covers 7 _ (by decide +kernel) fun t _ j => ?_
  blk_simp
  rw [after1_7]
  have hp : ((outsAt1 V c t.val t.isLt).1 : FVec Ideal S1x96x256 .f32) j = G (((cfg1.win 7).blk t).view.emb j) := by
    have hj : j = ix3 0 (j 1) (j 2) := (eq_ix3 j).trans (congrArg (fun x => ix3 x (j 1) (j 2)) (Subsingleton.elim (α := Fin 1) _ _))
    rw [hj]
    refine ((outs1 V c q k v y hq hk ht hv ho hl hy t.val t.isLt).1 (j 1) (j 2)).trans ?_
    refine (hG (head1 t) (query1 t (j 2)) (j 1)).symm.trans (congrArg G ?_)
    blk_ext [idx1 t, query1, head1]
  exact hp

include hq hk ht hv ho hl hy in
/-- The keys' gradient. -/
theorem final1_k (G : FVec Ideal S6x8192x96 .f32) (hG : ∀ h n d, G (ix3 h n d) = (dkR q k v y n h d : EReal)) :
    (dat1 V c).arrAt 8 cfg1.N = G := by
  refine (dat1 V c).arrAt_eq_of_covers 8 _ (by decide +kernel) fun t hf j => ?_
  blk_simp
  rw [after1_8]
  have h31 : t.val % 32 = 31 := by have := (flush1_8 t).mp hf; omega
  have hp : ((outsAt1 V c t.val t.isLt).2.1 : FVec Ideal S1x8192x96 .f32) j = G (((cfg1.win 8).blk t).view.emb j) := by
    have hj : j = ix3 0 (j 1) (j 2) := (eq_ix3 j).trans (congrArg (fun x => ix3 x (j 1) (j 2)) (Subsingleton.elim (α := Fin 1) _ _))
    rw [hj]
    refine ((outs1 V c q k v y hq hk ht hv ho hl hy t.val t.isLt).2.1 (j 1) (j 2)).trans ?_
    have hlt : ∀ a : Fin 8192, a.val < 256 * (t.val % 32 + 1) := fun a => by omega
    simp only [hlt, if_true]
    refine (hG (head1 t) (j 1) (j 2)).symm.trans (congrArg G ?_)
    blk_ext [idx1 t, head1]
  exact hp

include hq hk ht hv ho hl hy in
/-- The values' gradient. -/
theorem final1_v (G : FVec Ideal S6x8192x64 .f32) (hG : ∀ h n e, G (ix3 h n e) = (dvR q k y n h e : EReal)) :
    (dat1 V c).arrAt 9 cfg1.N = G := by
  refine (dat1 V c).arrAt_eq_of_covers 9 _ (by decide +kernel) fun t hf j => ?_
  blk_simp
  rw [after1_9]
  have h31 : t.val % 32 = 31 := by have := (flush1_9 t).mp hf; omega
  have hp : ((outsAt1 V c t.val t.isLt).2.2 : FVec Ideal S1x8192x64 .f32) j = G (((cfg1.win 9).blk t).view.emb j) := by
    have hj : j = ix3 0 (j 1) (j 2) := (eq_ix3 j).trans (congrArg (fun x => ix3 x (j 1) (j 2)) (Subsingleton.elim (α := Fin 1) _ _))
    rw [hj]
    refine ((outs1 V c q k v y hq hk ht hv ho hl hy t.val t.isLt).2.2 (j 1) (j 2)).trans ?_
    have hlt : ∀ a : Fin 8192, a.val < 256 * (t.val % 32 + 1) := fun a => by omega
    simp only [hlt, if_true]
    refine (hG (head1 t) (j 1) (j 2)).symm.trans (congrArg G ?_)
    blk_ext [idx1 t, head1]
  exact hp

end Cert.DenseIdeal.Value.Bwd

end
-- ==== Proof.DenseLaunch.lean ====
/- THE PROGRAM OF DENSE ATTENTION RUN TO ITS END: its result arrays hold what the last host stretch leaves, its arguments are
   unchanged. -/
module

public import proofs.«01_k».proof.Proof.Gen.DenseIdeal.Frame

@[expose] public section

set_option maxRecDepth 16384

noncomputable section

namespace Cert.DenseIdeal.Value

open Cert.DenseIdeal Cert.DenseIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

set_option backward.isDefEq.respectTransparency.types false in
/-- Every execution of the program ends with each unscoped buffer of each core as the last host stretch leaves it. -/
theorem run_all {F : FTy → Type} [FloatOps F] [Named F] (m : (ℓ : Loc nD τ sig) → Buf (Elt F) ℓ) (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitr [HO]; · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun _ h _ => h)

/-- The four result arrays and the four arguments at the end of a run. -/
theorem run_values {F : FTy → Type} [FloatOps F] [Named F] (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v10) = W5 m ρ c (Proc.devRef .tc main_v10)
      ∧ r.2.mem ((c.tc : Thread nD τ).loc main_v17) = W5 m ρ c (Proc.devRef .tc main_v17)
      ∧ r.2.mem ((c.tc : Thread nD τ).loc main_v18) = W5 m ρ c (Proc.devRef .tc main_v18)
      ∧ r.2.mem ((c.tc : Thread nD τ).loc main_v19) = W5 m ρ c (Proc.devRef .tc main_v19)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ (h : ∀ c : Dev nD, ∀ b ∈ Pipeline.ucRefs τ sig, _ = W5 m ρ c b) c => ⟨h c _ (mem_uc main_v10 (by decide)), h c _ (mem_uc main_v17 (by decide)),
    h c _ (mem_uc main_v18 (by decide)), h c _ (mem_uc main_v19 (by decide)),
    (h c _ (mem_uc main_arg0 (by decide))).trans (W5_main_arg0 m ρ c), (h c _ (mem_uc main_arg1 (by decide))).trans (W5_main_arg1 m ρ c),
    (h c _ (mem_uc main_arg2 (by decide))).trans (W5_main_arg2 m ρ c), (h c _ (mem_uc main_arg3 (by decide))).trans (W5_main_arg3 m ρ c)⟩)
    (run_all m ρ)

end Cert.DenseIdeal.Value

end
-- ==== Proof.DenseRun.lean ====
/- THE PROGRAM OF DENSE ATTENTION RUN TO ITS END: its four result arrays hold what the last host stretch leaves, and that
   is, from arguments that hold reals, the plain sums of DenseMath. -/
module

public import proofs.«01_k».proof.Proof.DenseOut
public import proofs.«01_k».proof.Proof.DenseBwd
public import proofs.«01_k».proof.Proof.DenseLaunch
public import Idealize.ShloMosaic.Lib.StableHlo.ReadAt

@[expose] public section

set_option maxRecDepth 16384

noncomputable section

namespace Cert.DenseIdeal.Value

open Cert.DenseIdeal Cert.DenseIdeal.Gen Idealize.ShloMosaic Idealize.ShloMosaic.TcCoe Idealize.SL.Sem
open Cert.Reals Cert.DenseMath

/-! ## The host stretches, each array at an index -/

section Host
variable (V : Valuation τ sig (Elt Ideal))

/-- The queries, heads first. -/
theorem read_v1 (h : Fin 6) (a : Fin 8192) (d : Fin 96) :
    (StableHlo.after hostOps0 V (Proc.devRef .tc main_v1) : FVec Ideal S6x8192x96 .bf16) (ix3 h a d)
      = (V (Proc.devRef .tc main_arg0) : FVec Ideal S8192x6x96 .f32) (ix3 a h d) := by
  after_reads_at

/-- The keys, heads first. -/
theorem read_v3 (h : Fin 6) (a : Fin 8192) (d : Fin 96) :
    (StableHlo.after hostOps0 V (Proc.devRef .tc main_v3) : FVec Ideal S6x8192x96 .bf16) (ix3 h a d)
      = (V (Proc.devRef .tc main_arg1) : FVec Ideal S8192x6x96 .f32) (ix3 a h d) := by
  after_reads_at

/-- The values, heads first. -/
theorem read_v5 (h : Fin 6) (a : Fin 8192) (e : Fin 64) :
    (StableHlo.after hostOps0 V (Proc.devRef .tc main_v5) : FVec Ideal S6x8192x64 .bf16) (ix3 h a e)
      = (V (Proc.devRef .tc main_arg2) : FVec Ideal S8192x6x64 .f32) (ix3 a h e) := by
  after_reads_at

/-- The values with a column of ones and zeros after them. -/
theorem read_v8 (h : Fin 6) (a : Fin 8192) (e : Fin 128) :
    (StableHlo.after hostOps0 V (Proc.devRef .tc main_v8) : FVec Ideal S6x8192x128 .bf16) (ix3 h a e)
      = if p : e.val < 64 then (V (Proc.devRef .tc main_arg2) : FVec Ideal S8192x6x64 .f32) (ix3 a h ⟨e.val, p⟩)
        else if e.val = 64 then ((1 : ℝ) : EReal) else ((0 : ℝ) : EReal) := by
  after_reads_at
  by_cases p : e.val < 64
  · rw [dif_pos p, dif_pos p]
    after_reads_at
  · rw [dif_neg p, dif_neg p]
    by_cases r : e.val = 64
    · rw [dif_pos (by omega), if_pos r]
      after_reads_at
      exact EReal.coe_one.symm
    · rw [dif_neg (by omega), if_neg r]
      after_reads_at
      exact EReal.coe_zero.symm

/-- The output, positions first. -/
theorem read_v10 (a : Fin 8192) (h : Fin 6) (e : Fin 64) :
    (StableHlo.after hostOps1 V (Proc.devRef .tc main_v10) : FVec Ideal S8192x6x64 .f32) (ix3 a h e)
      = (V (Proc.devRef .tc main_v9_0) : FVec Ideal S6x8192x64 .f32) (ix3 h a e) := by
  after_reads_at

/-- The queries with positions last. -/
theorem read_v11 (h : Fin 6) (d : Fin 96) (a : Fin 8192) :
    (StableHlo.after hostOps1 V (Proc.devRef .tc main_v11) : FVec Ideal S6x96x8192 .bf16) (ix3 h d a)
      = (V (Proc.devRef .tc main_v1) : FVec Ideal S6x8192x96 .bf16) (ix3 h a d) := by
  after_reads_at

/-- The keys with positions last. -/
theorem read_v12 (h : Fin 6) (d : Fin 96) (a : Fin 8192) :
    (StableHlo.after hostOps1 V (Proc.devRef .tc main_v12) : FVec Ideal S6x96x8192 .bf16) (ix3 h d a)
      = (V (Proc.devRef .tc main_v3) : FVec Ideal S6x8192x96 .bf16) (ix3 h a d) := by
  after_reads_at

/-- The output with positions last. -/
theorem read_v13 (h : Fin 6) (e : Fin 64) (a : Fin 8192) :
    (StableHlo.after hostOps1 V (Proc.devRef .tc main_v13) : FVec Ideal S6x64x8192 .f32) (ix3 h e a)
      = (V (Proc.devRef .tc main_v9_0) : FVec Ideal S6x8192x64 .f32) (ix3 h a e) := by
  after_reads_at

/-- The log-sums with positions last. -/
theorem read_v14 (h : Fin 6) (a : Fin 8192) :
    (StableHlo.after hostOps1 V (Proc.devRef .tc main_v14) : FVec Ideal S6x1x8192 .f32) (ix3 h 0 a)
      = (V (Proc.devRef .tc main_v9_1) : FVec Ideal S6x8192x1 .f32) (ix3 h a 0) := by
  after_reads_at

/-- The output's cotangent, heads first and positions last. -/
theorem read_v15 (h : Fin 6) (e : Fin 64) (a : Fin 8192) :
    (StableHlo.after hostOps1 V (Proc.devRef .tc main_v15) : FVec Ideal S6x64x8192 .f32) (ix3 h e a)
      = (V (Proc.devRef .tc main_arg3) : FVec Ideal S8192x6x64 .f32) (ix3 a h e) := by
  after_reads_at

/-- The queries' gradient, positions first. -/
theorem read_v17 (a : Fin 8192) (h : Fin 6) (d : Fin 96) :
    (StableHlo.after hostOps2 V (Proc.devRef .tc main_v17) : FVec Ideal S8192x6x96 .f32) (ix3 a h d)
      = (V (Proc.devRef .tc main_v16_0) : FVec Ideal S6x96x8192 .f32) (ix3 h d a) := by
  after_reads_at

/-- The keys' gradient, positions first. -/
theorem read_v18 (a : Fin 8192) (h : Fin 6) (d : Fin 96) :
    (StableHlo.after hostOps2 V (Proc.devRef .tc main_v18) : FVec Ideal S8192x6x96 .f32) (ix3 a h d)
      = (V (Proc.devRef .tc main_v16_1) : FVec Ideal S6x8192x96 .f32) (ix3 h a d) := by
  after_reads_at

/-- The values' gradient, positions first. -/
theorem read_v19 (a : Fin 8192) (h : Fin 6) (e : Fin 64) :
    (StableHlo.after hostOps2 V (Proc.devRef .tc main_v19) : FVec Ideal S8192x6x64 .f32) (ix3 a h e)
      = (V (Proc.devRef .tc main_v16_2) : FVec Ideal S6x8192x64 .f32) (ix3 h a e) := by
  after_reads_at

end Host

/-! ## The results over the reals -/

section Reals
variable (m : (ℓ : Loc nD τ sig) → Buf (Elt Ideal) ℓ) (ρ : Dev nD → PrngReg) (c : Dev nD)
  (q k : Fin 8192 → Fin 6 → Fin 96 → ℝ) (v y : Fin 8192 → Fin 6 → Fin 64 → ℝ)
  (hq : ∀ a h d, (m ((c.tc : Thread nD τ).loc main_arg0) : FVec Ideal S8192x6x96 .f32) (ix3 a h d) = (q a h d : EReal))
  (hk : ∀ a h d, (m ((c.tc : Thread nD τ).loc main_arg1) : FVec Ideal S8192x6x96 .f32) (ix3 a h d) = (k a h d : EReal))
  (hv : ∀ a h e, (m ((c.tc : Thread nD τ).loc main_arg2) : FVec Ideal S8192x6x64 .f32) (ix3 a h e) = (v a h e : EReal))
  (hy : ∀ a h e, (m ((c.tc : Thread nD τ).loc main_arg3) : FVec Ideal S8192x6x64 .f32) (ix3 a h e) = (y a h e : EReal))

/-- The values with their column of ones. -/
def wide (h : Fin 6) (n : Fin 8192) (e : Fin 128) : ℝ := if p : e.val < 64 then v n h ⟨e.val, p⟩ else if e.val = 64 then 1 else 0

include hq in
theorem V1_q (h : Fin 6) (a : Fin 8192) (d : Fin 96) : (V1 m ρ c main_v1 : FVec Ideal S6x8192x96 .bf16) (ix3 h a d) = (q a h d : EReal) :=
  (read_v1 (W0 m ρ c) h a d).trans (hq a h d)

include hk in
theorem V1_k (h : Fin 6) (a : Fin 8192) (d : Fin 96) : (V1 m ρ c main_v3 : FVec Ideal S6x8192x96 .bf16) (ix3 h a d) = (k a h d : EReal) :=
  (read_v3 (W0 m ρ c) h a d).trans (hk a h d)

include hv in
theorem V1_v (h : Fin 6) (a : Fin 8192) (e : Fin 64) : (V1 m ρ c main_v5 : FVec Ideal S6x8192x64 .bf16) (ix3 h a e) = (v a h e : EReal) :=
  (read_v5 (W0 m ρ c) h a e).trans (hv a h e)

include hv in
theorem V1_w (h : Fin 6) (a : Fin 8192) (e : Fin 128) : (V1 m ρ c main_v8 : FVec Ideal S6x8192x128 .bf16) (ix3 h a e) = (wide v h a e : EReal) := by
  refine (read_v8 (W0 m ρ c) h a e).trans ?_
  unfold wide
  split_ifs with p
  · exact hv a h ⟨e.val, p⟩
  · rfl
  · rfl

theorem wide_v (h : Fin 6) (n : Fin 8192) (e : Fin 64) : wide v h n ⟨e.val, by omega⟩ = v n h e := by
  unfold wide; rw [dif_pos e.isLt]

theorem wide_one (h : Fin 6) (n : Fin 8192) : wide v h n 64 = 1 := rfl

include hq hk hv in
/-- The forward call's output. -/
theorem W2_o (h : Fin 6) (a : Fin 8192) (e : Fin 64) :
    (W2 m ρ c (Proc.devRef .tc main_v9_0) : FVec Ideal S6x8192x64 .f32) (ix3 h a e) = (oR q k v a h e : EReal) := by
  have hW := (W2_arr m ρ c 3).trans (final0_o (V1 m ρ) c q k v (wide v) (V1_q m ρ c q hq) (V1_k m ρ c k hk) (V1_w m ρ c v hv)
    (wide_v v) (wide_one v) (fun i => ((oR q k v (i 1) (i 0) (i 2) : ℝ) : EReal)) fun _ _ _ => rfl)
  exact congrFun hW (ix3 h a e)

include hq hk hv in
/-- The forward call's log-sums. -/
theorem W2_l (h : Fin 6) (a : Fin 8192) :
    (W2 m ρ c (Proc.devRef .tc main_v9_1) : FVec Ideal S6x8192x1 .f32) (ix3 h a 0) = (Real.log (den (sc q k h a)) : EReal) := by
  have hW := (W2_arr m ρ c 4).trans (final0_l (V1 m ρ) c q k (wide v) (V1_q m ρ c q hq) (V1_k m ρ c k hk) (V1_w m ρ c v hv)
    (wide_one v) (fun i => ((Real.log (den (sc q k (i 0) (i 1))) : ℝ) : EReal)) fun _ _ => rfl)
  exact congrFun hW (ix3 h a 0)

/-- An array the forward call reads or leaves alone is as before it. -/
theorem W2_v1 : W2 m ρ c (Proc.devRef .tc main_v1) = W1 m ρ c (Proc.devRef .tc main_v1) := W2_of m ρ c main_v1 (by decide +kernel)
theorem W2_v3 : W2 m ρ c (Proc.devRef .tc main_v3) = W1 m ρ c (Proc.devRef .tc main_v3) := W2_of m ρ c main_v3 (by decide +kernel)
theorem W2_v5 : W2 m ρ c (Proc.devRef .tc main_v5) = W1 m ρ c (Proc.devRef .tc main_v5) := W2_of m ρ c main_v5 (by decide +kernel)

/-! What the backward call finds in its seven operands. -/

include hq in
theorem V3_q (h : Fin 6) (a : Fin 8192) (d : Fin 96) : (V3 m ρ c main_v11 : FVec Ideal S6x96x8192 .bf16) (ix3 h d a) = (q a h d : EReal) :=
  (read_v11 (W2 m ρ c) h d a).trans ((congrFun (W2_v1 m ρ c) (ix3 h a d)).trans (V1_q m ρ c q hq h a d))

include hk in
theorem V3_k (h : Fin 6) (a : Fin 8192) (d : Fin 96) : (V3 m ρ c main_v3 : FVec Ideal S6x8192x96 .bf16) (ix3 h a d) = (k a h d : EReal) :=
  (congrFun (W3_of m ρ c main_v3 (by decide +kernel)) (ix3 h a d)).trans
    ((congrFun (W2_v3 m ρ c) (ix3 h a d)).trans (V1_k m ρ c k hk h a d))

include hk in
theorem V3_t (h : Fin 6) (a : Fin 8192) (d : Fin 96) : (V3 m ρ c main_v12 : FVec Ideal S6x96x8192 .bf16) (ix3 h d a) = (k a h d : EReal) :=
  (read_v12 (W2 m ρ c) h d a).trans ((congrFun (W2_v3 m ρ c) (ix3 h a d)).trans (V1_k m ρ c k hk h a d))

include hv in
theorem V3_v (h : Fin 6) (a : Fin 8192) (e : Fin 64) : (V3 m ρ c main_v5 : FVec Ideal S6x8192x64 .bf16) (ix3 h a e) = (v a h e : EReal) :=
  (congrFun (W3_of m ρ c main_v5 (by decide +kernel)) (ix3 h a e)).trans
    ((congrFun (W2_v5 m ρ c) (ix3 h a e)).trans (V1_v m ρ c v hv h a e))

include hq hk hv in
theorem V3_o (h : Fin 6) (a : Fin 8192) (e : Fin 64) : (V3 m ρ c main_v13 : FVec Ideal S6x64x8192 .f32) (ix3 h e a) = (oR q k v a h e : EReal) :=
  (read_v13 (W2 m ρ c) h e a).trans (W2_o m ρ c q k v hq hk hv h a e)

include hq hk hv in
theorem V3_l (h : Fin 6) (a : Fin 8192) : (V3 m ρ c main_v14 : FVec Ideal S6x1x8192 .f32) (ix3 h 0 a) = (Real.log (den (sc q k h a)) : EReal) :=
  (read_v14 (W2 m ρ c) h a).trans (W2_l m ρ c q k v hq hk hv h a)

include hy in
theorem V3_y (h : Fin 6) (a : Fin 8192) (e : Fin 64) : (V3 m ρ c main_v15 : FVec Ideal S6x64x8192 .f32) (ix3 h e a) = (y a h e : EReal) :=
  (read_v15 (W2 m ρ c) h e a).trans ((congrFun (W2_args m ρ c main_arg3 (by decide)) (ix3 a h e)).trans (hy a h e))

/-! The four results. -/

include hq hk hv in
/-- The output. -/
theorem res_o (a : Fin 8192) (h : Fin 6) (e : Fin 64) :
    (W5 m ρ c (Proc.devRef .tc main_v10) : FVec Ideal S8192x6x64 .f32) (ix3 a h e) = (oR q k v a h e : EReal) :=
  (congrFun ((W5_of m ρ c main_v10 (by decide +kernel)).trans (W4_of m ρ c main_v10 (by decide +kernel))) (ix3 a h e)).trans
    ((read_v10 (W2 m ρ c) a h e).trans (W2_o m ρ c q k v hq hk hv h a e))

include hq hk hv hy in
/-- The queries' gradient. -/
theorem res_q (a : Fin 8192) (h : Fin 6) (d : Fin 96) :
    (W5 m ρ c (Proc.devRef .tc main_v17) : FVec Ideal S8192x6x96 .f32) (ix3 a h d) = (dqR q k v y a h d : EReal) := by
  refine (read_v17 (W4 m ρ c) a h d).trans ?_
  have hW := (W4_arr m ρ c 7).trans (Bwd.final1_q (V3 m ρ) c q k v y (fun h a d => V3_q m ρ c q hq h a d) (V3_k m ρ c k hk) (V3_t m ρ c k hk)
    (V3_v m ρ c v hv) (V3_o m ρ c q k v hq hk hv) (V3_l m ρ c q k v hq hk hv) (V3_y m ρ c y hy)
    (fun i => ((dqR q k v y (i 2) (i 0) (i 1) : ℝ) : EReal)) fun _ _ _ => rfl)
  exact congrFun hW (ix3 h d a)

include hq hk hv hy in
/-- The keys' gradient. -/
theorem res_k (a : Fin 8192) (h : Fin 6) (d : Fin 96) :
    (W5 m ρ c (Proc.devRef .tc main_v18) : FVec Ideal S8192x6x96 .f32) (ix3 a h d) = (dkR q k v y a h d : EReal) := by
  refine (read_v18 (W4 m ρ c) a h d).trans ?_
  have hW := (W4_arr m ρ c 8).trans (Bwd.final1_k (V3 m ρ) c q k v y (fun h a d => V3_q m ρ c q hq h a d) (V3_k m ρ c k hk) (V3_t m ρ c k hk)
    (V3_v m ρ c v hv) (V3_o m ρ c q k v hq hk hv) (V3_l m ρ c q k v hq hk hv) (V3_y m ρ c y hy)
    (fun i => ((dkR q k v y (i 1) (i 0) (i 2) : ℝ) : EReal)) fun _ _ _ => rfl)
  exact congrFun hW (ix3 h a d)

include hq hk hv hy in
/-- The values' gradient. -/
theorem res_v (a : Fin 8192) (h : Fin 6) (e : Fin 64) :
    (W5 m ρ c (Proc.devRef .tc main_v19) : FVec Ideal S8192x6x64 .f32) (ix3 a h e) = (dvR q k y a h e : EReal) := by
  refine (read_v19 (W4 m ρ c) a h e).trans ?_
  have hW := (W4_arr m ρ c 9).trans (Bwd.final1_v (V3 m ρ) c q k v y (fun h a d => V3_q m ρ c q hq h a d) (V3_k m ρ c k hk) (V3_t m ρ c k hk)
    (V3_v m ρ c v hv) (V3_o m ρ c q k v hq hk hv) (V3_l m ρ c q k v hq hk hv) (V3_y m ρ c y hy)
    (fun i => ((dvR q k y (i 1) (i 0) (i 2) : ℝ) : EReal)) fun _ _ _ => rfl)
  exact congrFun hW (ix3 h a e)

end Reals

end Cert.DenseIdeal.Value

end
-- ==== Proof.DenseRef.lean ====
/- THE REFERENCE OF DENSE ATTENTION, READ: its four results at an index, over the reals, are the plain sums of DenseMath. -/
module

public import proofs.«01_k».proof.Proof.Gen.DenseRefIdeal.Read
public import proofs.«01_k».proof.Proof.DenseMath
public import Idealize.ShloMosaic.Lib.Pointwise

@[expose] public section

set_option maxRecDepth 16384

noncomputable section

namespace Cert.DenseRefIdeal.Read

open Cert.DenseRefIdeal Cert.DenseRefIdeal.Gen Idealize.ShloMosaic Cert.Reals Cert.DenseMath

variable (q k : Fin 8192 → Fin 6 → Fin 96 → ℝ) (v y : Fin 8192 → Fin 6 → Fin 64 → ℝ)
  (X0 X1 : FVec Ideal S8192x6x96 .f32) (X2 X3 : FVec Ideal S8192x6x64 .f32)
  (h0 : ∀ a h d, X0 (ix3 a h d) = (q a h d : EReal)) (h1 : ∀ a h d, X1 (ix3 a h d) = (k a h d : EReal))
  (h2 : ∀ a h e, X2 (ix3 a h e) = (v a h e : EReal)) (h3 : ∀ a h e, X3 (ix3 a h e) = (y a h e : EReal))

include h0 h1 in
/-- The scaled scores. -/
theorem ref_score (h : Fin 6) (a n : Fin 8192) : val_main_v2 (F := Ideal) X0 X1 (ix3 h a n) = ((sc q k h a n * scl : ℝ) : EReal) := by
  pointwise [val_main_v2, val_main_v0, val_main_v1, val_main_cst]
  simp only [h0, h1, cScl]
  simp only [← EReal.coe_mul]
  rw [sum_coe, ← EReal.coe_mul, sc]

/-- The maximum of each row, as the reference takes it. -/
def rowMax {F : FTy → Type} [FloatOps F] (y : (⟨S6x8192x8192, .f32⟩ : BufTy).Contents (Elt F)) : (⟨S6x8192, .f32⟩ : BufTy).Contents (Elt F) :=
  Host.reduce FloatOps.maximumf y (val_main_cst_0 (F := F)) reducesTo_S6x8192x8192_S6x8192_d2 h_S_

theorem rowMax_eq {F : FTy → Type} [FloatOps F] (X0 X1 : (⟨S8192x6x96, .f32⟩ : BufTy).Contents (Elt F)) :
    val_main_v3 (F := F) X0 X1 = rowMax (val_main_v2 (F := F) X0 X1) := rfl

/-- A row's maximum is a real where its entries are. -/
theorem row_max (y : FVec Ideal S6x8192x8192 .f32) (f : Fin 8192 → ℝ) (h : Fin 6) (a : Fin 8192)
    (hy : ∀ n, y (ix3 h a n) = (f n : EReal)) : ∃ x : ℝ, rowMax (F := Ideal) y (ix2 h a) = (x : EReal) := by
  obtain ⟨x, hx⟩ := fold_max_real (fun n : Fin 8192 => y (ix3 h a n)) _ hy
  refine ⟨x, ?_⟩
  rw [← hx]
  pointwise [rowMax, val_main_cst_0]

include h0 h1 in
/-- A row's maximum is a real. -/
theorem ref_max0 (h : Fin 6) (a : Fin 8192) : ∃ x : ℝ, val_main_v3 (F := Ideal) X0 X1 (ix2 h a) = (x : EReal) := by
  rw [rowMax_eq]
  exact row_max (val_main_v2 (F := Ideal) X0 X1) _ h a (ref_score q k X0 X1 h0 h1 h a)

/-- The maximum with minus infinity changes nothing. -/
theorem ref_max1 (h : Fin 6) (a : Fin 8192) (x : ℝ) (hx : val_main_v3 (F := Ideal) X0 X1 (ix2 h a) = (x : EReal)) :
    val_main_v10 (F := Ideal) X0 X1 (ix2 h a) = (x : EReal) := by
  rw [val_main_v10_apply, hx, val_main_v9_apply, show val_main_cst_2 (F := Ideal) _ = (⊥ : EReal) from cNegInf]
  exact max_eq_right bot_le

/-- The exponentials from the row's maximum. -/
theorem ref_exp0 (h : Fin 6) (a n : Fin 8192) : val_main_v23 (F := Ideal) X0 X1 (ix3 h a n)
    = Ideal.exp (val_main_v2 (F := Ideal) X0 X1 (ix3 h a n) - val_main_v10 (F := Ideal) X0 X1 (ix2 h a)) := by
  pointwise [val_main_v23, val_main_v22, val_main_v21, val_main_v20]

include h0 h1 in
/-- The exponentials are the weights times one positive factor per row. -/
theorem ref_exp (h : Fin 6) (a : Fin 8192) : ∃ c : ℝ, 0 < c ∧ ∀ n, val_main_v23 (F := Ideal) X0 X1 (ix3 h a n) = ((c * ew (sc q k h a) n : ℝ) : EReal) := by
  obtain ⟨x, hx⟩ := ref_max0 q k X0 X1 h0 h1 h a
  refine ⟨Real.exp (-x), Real.exp_pos _, fun n => ?_⟩
  rw [ref_exp0, ref_max1 X0 X1 h a x hx, ref_score q k X0 X1 h0 h1, ← EReal.coe_sub, Ideal.exp_coe, ew, ← Real.exp_add]
  exact congrArg (fun x : ℝ => ((Real.exp x : ℝ) : EReal)) (by ring)

section Rows
variable (h : Fin 6) (a : Fin 8192) (c : ℝ) (hc : 0 < c)
  (hw : ∀ n, val_main_v23 (F := Ideal) X0 X1 (ix3 h a n) = ((c * ew (sc q k h a) n : ℝ) : EReal))

include hw in
/-- The row's sum. -/
theorem ref_den : val_main_v25 (F := Ideal) X0 X1 (ix3 h a 0) = ((c * den (sc q k h a) : ℝ) : EReal) := by
  pointwise [val_main_v25, val_main_v24, val_main_cst_8]
  simp only [hw]
  rw [sum_coe, ← Finset.mul_sum]
  simp [den]

end Rows

include h0 h1 in
/-- The softmax weights. -/
theorem ref_p (h : Fin 6) (a n : Fin 8192) : val_main_v27 (F := Ideal) X0 X1 (ix3 h a n) = ((pw (sc q k h a) n : ℝ) : EReal) := by
  obtain ⟨c, hc, hw⟩ := ref_exp q k X0 X1 h0 h1 h a
  pointwise [val_main_v27, val_main_v26]
  rw [hw, ref_den q k X0 X1 h a c hw, div_real _ (mul_pos hc (den_pos _)).ne', mul_div_mul_left _ _ hc.ne']
  rfl

include h0 h1 h2 in
/-- The output. -/
theorem ref_o (a : Fin 8192) (h : Fin 6) (e : Fin 64) : val_main_v32 (F := Ideal) X0 X1 X2 (ix3 a h e) = ((oR q k v a h e : ℝ) : EReal) := by
  pointwise [val_main_v32, val_main_v31]
  simp only [h2, ref_p q k X0 X1 h0 h1]
  simp only [← EReal.coe_mul]
  rw [sum_coe, oR]
  congr 1; exact Finset.sum_congr rfl fun n _ => by ring

include h0 h1 h3 in
/-- The values' gradient. -/
theorem ref_dv (n : Fin 8192) (h : Fin 6) (e : Fin 64) : val_main_v36 (F := Ideal) X0 X1 X3 (ix3 n h e) = ((dvR q k y n h e : ℝ) : EReal) := by
  pointwise [val_main_v36, val_main_v35, val_main_v33]
  simp only [h3, ref_p q k X0 X1 h0 h1]
  simp only [← EReal.coe_mul]
  rw [sum_coe, dvR]
  congr 1; exact Finset.sum_congr rfl fun n _ => by ring

include h2 h3 in
/-- The output's cotangent times the values. -/
theorem ref_dp (h : Fin 6) (a n : Fin 8192) : val_main_v34 (F := Ideal) X2 X3 (ix3 h a n) = ((dp v y h a n : ℝ) : EReal) := by
  pointwise [val_main_v34, val_main_v33]
  simp only [h2, h3]
  simp only [← EReal.coe_mul]
  rw [sum_coe, dp]

include h0 h1 h2 h3 in
/-- A scaled score's gradient. -/
theorem ref_ds (h : Fin 6) (a n : Fin 8192) :
    val_main_v50 (F := Ideal) X0 X1 X2 X3 (ix3 h a n) = ((dsw (sc q k h a) (dp v y h a) n : ℝ) : EReal) := by
  obtain ⟨c, hc, hw⟩ := ref_exp q k X0 X1 h0 h1 h a
  have hd := ref_den q k X0 X1 h a c hw
  have hD := den_pos (sc q k h a)
  have hs : val_main_v30 (F := Ideal) X0 X1 (ix3 h a 0) = ((1 / ((c * den (sc q k h a)) * (c * den (sc q k h a))) : ℝ) : EReal) := by
    pointwise [val_main_v30, val_main_v29, val_main_v28, val_main_cst_9]
    rw [hd, ← EReal.coe_mul, ← EReal.coe_one, div_real _ (by positivity)]
  have ht : val_main_v40 (F := Ideal) X0 X1 X2 X3 (ix2 h a)
      = ((∑ m, dp v y h a m * (1 / ((c * den (sc q k h a)) * (c * den (sc q k h a)))) * (c * ew (sc q k h a) m) : ℝ) : EReal) := by
    pointwise [val_main_v40, val_main_v39, val_main_v38, val_main_v37, val_main_cst_10]
    simp only [hw, hs, ref_dp v y X2 X3 h2 h3]
    simp only [← EReal.coe_mul]
    rw [sum_coe]
  have hu : val_main_v45 (F := Ideal) X0 X1 X2 X3 (ix2 h a)
      = ((-∑ m, dp v y h a m * (1 / ((c * den (sc q k h a)) * (c * den (sc q k h a)))) * (c * ew (sc q k h a) m) : ℝ) : EReal) := by
    pointwise [val_main_v45, val_main_v42, val_main_v41, val_main_cst_11]
    rw [Finset.univ_unique, Finset.sum_singleton, ht, EReal.coe_neg]
  pointwise [val_main_v50, val_main_v49, val_main_v48, val_main_v47, val_main_v46, val_main_v44, val_main_v43, val_main_cst_12]
  rw [hw, hd, hu, ref_dp v y X2 X3 h2 h3, cScl, div_real _ (by positivity), ← EReal.coe_add, ← EReal.coe_mul, ← EReal.coe_mul]
  refine congrArg (fun x : ℝ => (x : EReal)) ?_
  have e : ∑ m, dp v y h a m * (1 / ((c * den (sc q k h a)) * (c * den (sc q k h a)))) * (c * ew (sc q k h a) m)
      = (∑ m, pw (sc q k h a) m * dp v y h a m) / (c * den (sc q k h a)) := by
    rw [Finset.sum_div]
    refine Finset.sum_congr rfl fun m _ => ?_
    rw [pw]; field_simp
  rw [e, dsw, pw]; field_simp; ring

include h0 h1 h2 h3 in
/-- The queries' gradient. -/
theorem ref_dq (a : Fin 8192) (h : Fin 6) (d : Fin 96) :
    val_main_v54 (F := Ideal) X0 X1 X2 X3 (ix3 a h d) = ((dqR q k v y a h d : ℝ) : EReal) := by
  pointwise [val_main_v54, val_main_v53]
  simp only [h1, ref_ds q k v y X0 X1 X2 X3 h0 h1 h2 h3]
  simp only [← EReal.coe_mul]
  rw [sum_coe, dqR]

include h0 h1 h2 h3 in
/-- The keys' gradient. -/
theorem ref_dk (n : Fin 8192) (h : Fin 6) (d : Fin 96) :
    val_main_v52 (F := Ideal) X0 X1 X2 X3 (ix3 n h d) = ((dkR q k v y n h d : ℝ) : EReal) := by
  pointwise [val_main_v52, val_main_v51]
  simp only [h0, ref_ds q k v y X0 X1 X2 X3 h0 h1 h2 h3]
  simp only [← EReal.coe_mul]
  rw [sum_coe, dkR]

end Cert.DenseRefIdeal.Read

end
-- ==== Proof.DenseClaim.lean ====
/- Dense attention's value claim: on finite arguments the kernel's output and three gradients and the reference's are equal. -/
module

public import proofs.«01_k».proof.Defs
public import proofs.«01_k».proof.Proof.DenseRun
public import proofs.«01_k».proof.Proof.DenseRef
public import proofs.«01_k».proof.Proof.Gen.Pre_dense_fin
public import Idealize.ShloMosaic.Lib.Claim

@[expose] public section

set_option maxRecDepth 16384

noncomputable section

namespace Cert.DenseClaim

open Idealize.ShloMosaic Idealize.SL.Sem Cert.Reals Cert.DenseMath
open Cert.DenseIdeal.Value Cert.DenseRefIdeal.Read

/-- What the precondition says: the four arguments are arrays of reals. -/
theorem reals_of_pre (X0 X1 : FVec Ideal Cert.Pre_dense_fin.S8192x6x96 .f32) (X2 X3 : FVec Ideal Cert.Pre_dense_fin.S8192x6x64 .f32)
    (h : (letI := Cert.Pre_dense_fin.Gen.facts; (Cert.Pre_dense_fin.fn (F := Ideal) X0 X1 X2 X3).1 = (fun _ => 1#1)
      ∧ (Cert.Pre_dense_fin.fn (F := Ideal) X0 X1 X2 X3).2.1 = (fun _ => 1#1) ∧ (Cert.Pre_dense_fin.fn (F := Ideal) X0 X1 X2 X3).2.2.1 = (fun _ => 1#1)
      ∧ (Cert.Pre_dense_fin.fn (F := Ideal) X0 X1 X2 X3).2.2.2 = (fun _ => 1#1))) :
    ∃ (q k : Fin 8192 → Fin 6 → Fin 96 → ℝ) (v y : Fin 8192 → Fin 6 → Fin 64 → ℝ), (∀ a h d, X0 (ix3 a h d) = (q a h d : EReal))
      ∧ (∀ a h d, X1 (ix3 a h d) = (k a h d : EReal)) ∧ (∀ a h e, X2 (ix3 a h e) = (v a h e : EReal))
      ∧ (∀ a h e, X3 (ix3 a h e) = (y a h e : EReal)) := by
  unfold Cert.Pre_dense_fin.fn at h
  dsimp only at h
  obtain ⟨h0, h1, h2, h3⟩ := h
  obtain ⟨f0, e0⟩ := real_of_all X0 _ _ _ h0
  obtain ⟨f1, e1⟩ := real_of_all X1 _ _ _ h1
  obtain ⟨f2, e2⟩ := real_of_all X2 _ _ _ h2
  obtain ⟨f3, e3⟩ := real_of_all X3 _ _ _ h3
  exact ⟨fun a h d => f0 (ix3 a h d), fun a h d => f1 (ix3 a h d), fun a h d => f2 (ix3 a h d), fun a h d => f3 (ix3 a h d),
    fun a h d => congrFun e0 (ix3 a h d), fun a h d => congrFun e1 (ix3 a h d), fun a h d => congrFun e2 (ix3 a h d),
    fun a h d => congrFun e3 (ix3 a h d)⟩

/-- Two arrays of rank three equal at every index are equal. -/
theorem ext3 {A B C : ℕ} (X Y : FVec Ideal ⟨3, ![A, B, C]⟩ .f32) (f : Fin A → Fin B → Fin C → ℝ)
    (hX : ∀ a b c, X (ix3 a b c) = (f a b c : EReal)) (hY : ∀ a b c, Y (ix3 a b c) = (f a b c : EReal)) : X = Y := by
  funext i
  rw [eq_ix3 i]
  exact (hX _ _ _).trans (hY _ _ _).symm

/-- The kernel and `jax.vjp` of dense attention end with equal results, from finite arguments. -/
theorem algebraic : Cert.algebraic_DenseIdeal_DenseRefIdeal_pre_dense_fin (hDenseIdeal := Cert.DenseIdeal.Gen.facts)
    (hDenseRefIdeal := Cert.DenseRefIdeal.Gen.facts) (hPre_dense_fin := Cert.Pre_dense_fin.Gen.facts) := by
  intro m g m' g' hpre hagree
  refine ⟨fun c => Cert.DenseIdeal.Gen.W5 m g c _, fun c => Cert.DenseIdeal.Gen.W5 m g c _, fun c => Cert.DenseIdeal.Gen.W5 m g c _,
    fun c => Cert.DenseIdeal.Gen.W5 m g c _, Cert.DenseIdeal.Value.run_values m g,
    (θ_run Cert.DenseRefIdeal.defs _ _).mono (fun r h c => ?_) (Cert.DenseRefIdeal.Value.run m' g')⟩
  obtain ⟨q, k, v, y, hq, hk, hv, hy⟩ := reals_of_pre _ _ _ _ (hpre c)
  obtain ⟨e0, e1, e2, e3⟩ := hagree c
  obtain ⟨h0, h1, h2, h3, h4⟩ := h c
  refine ⟨h0.trans ?_, h1.trans ?_, h2.trans ?_, h3.trans ?_, h4⟩
  · rw [e0, e1, e2, val_main_v32_eq]
    exact ext3 _ _ _ (ref_o q k v _ _ _ hq hk hv) (res_o m g c q k v hq hk hv)
  · rw [val_main_v54_eq, e0, e1, e2, e3]
    exact ext3 _ _ _ (ref_dq q k v y _ _ _ _ hq hk hv hy) (res_q m g c q k v y hq hk hv hy)
  · rw [val_main_v52_eq, e0, e1, e2, e3]
    exact ext3 _ _ _ (ref_dk q k v y _ _ _ _ hq hk hv hy) (res_k m g c q k v y hq hk hv hy)
  · rw [e0, e1, e3, val_main_v36_eq]
    exact ext3 _ _ _ (ref_dv q k y _ _ _ hq hk hy) (res_v m g c q k v y hq hk hv hy)

/-- The reference ends, keeps its arguments, and leaves every counter at zero. -/
theorem frame_ref : Cert.quiescent_DenseRefIdeal (hDenseRefIdeal := Cert.DenseRefIdeal.Gen.facts) := fun m ρ _ =>
  (θ_run Cert.DenseRefIdeal.defs _ _).mono (fun r h => ⟨fun c => (h c).2.2.2.2, sem_eq_zero_of_no_sems (by decide) r.2⟩)
    (Cert.DenseRefIdeal.Value.run (F := Ideal) m ρ)

/-- The named constant stands where its float word stood. -/
theorem preserves : Cert.preserves_Dense_DenseIdeal :=
  IdealRules.named_const.statement Cert.DenseIdeal.κ "to_log2" .f32 0x3E16C740#32 (((3424635 / 33554432) * (Real.log 2)⁻¹ : ℝ) : EReal) rfl

end Cert.DenseClaim

end
-- ==== Proof.LossHead.lean ====
/- THE LOSS AND ITS GRADIENTS. The kernel walks 16 blocks of 512 rows, adds each block's part of the loss into one row of
   equal numbers and its part of the scale's gradient into another, and writes each block's input gradient. Here: what one
   block's body computes at an element, over the reals; that the reference's three results are the same reals; and what the
   kernel's result arrays hold. -/
module

public import proofs.«01_k».proof.Proof.NormMath
public import proofs.«01_k».proof.Proof.Gen.LossHeadIdeal.Frame
public import proofs.«01_k».proof.Proof.Gen.LossHeadRefIdeal.Run
public import proofs.«01_k».proof.Proof.Gen.LossHeadRefIdeal.Read
public import Idealize.ShloMosaic.Lib.Pipeline.ValueKit
public import Idealize.ShloMosaic.Lib.Pipeline.Value
public import Idealize.ShloMosaic.Lib.StableHlo.ReadAt

@[expose] public section

set_option maxRecDepth 16384

noncomputable section

namespace Cert.LossHeadIdeal.Value

open Cert.LossHeadIdeal Cert.LossHeadIdeal.Gen Idealize.ShloMosaic Idealize.ShloMosaic.TcCoe Idealize.SL.Sem
open Idealize.ShloMosaic.Pipeline (Dat)
open Cert.Reals Cert.NormMath

/-- The word of 1/1024. -/
theorem c1024inv : Ideal.ofBits .f32 0x3A800000#32 = ((1 / 1024 : ℝ) : EReal) := by
  simp [Ideal.ofBits, Ideal.ieee]; rw [← EReal.coe_mul]; norm_num

/-- The word of 1/2. -/
theorem cHalf : Ideal.ofBits .f32 0x3F000000#32 = ((1 / 2 : ℝ) : EReal) := by
  simp [Ideal.ofBits, Ideal.ieee]; rw [← EReal.coe_mul]; norm_num

/-- The word of 2. -/
theorem cTwo : Ideal.ofBits .f32 0x40000000#32 = ((2 : ℝ) : EReal) := by
  simp [Ideal.ofBits, Ideal.ieee]; rw [← EReal.coe_mul]; norm_num

/-! ## The kernel's body at an element -/

section Body
variable (x t : Fin 512 → Fin 1024 → ℝ) (g : Fin 1024 → ℝ) (X T : FVec Ideal S512x1024 .f32) (G : FVec Ideal S1x1024 .f32)
    (hX : ∀ a b, X (ix2 a b) = (x a b : EReal)) (hT : ∀ a b, T (ix2 a b) = (t a b : EReal)) (hG : ∀ b, G (ix2 0 b) = (g b : EReal))
include hX

/-- The normalised row. -/
theorem xhat_apply (a : Fin 512) (b : Fin 1024) : k0_pay7 (F := Ideal) X (ix2 a b) = ((x a b * rr (x a) : ℝ) : EReal) := by
  pointwise [k0_pay7, k0_pay6]
  simp only [hX]
  rw [rsqrt_row, ← EReal.coe_mul]

include hT hG

/-- The error. -/
theorem err_apply (a : Fin 512) (b : Fin 1024) : k0_pay8 (F := Ideal) X G T (ix2 a b) = (err (x a) g (t a) b : EReal) := by
  pointwise [k0_pay8, k0_pay5]
  rw [xhat_apply x X hX, hG, hT, ← EReal.coe_mul, ← EReal.coe_sub]; rfl

/-- The norm output's cotangent. -/
theorem ct_apply (a : Fin 512) (b : Fin 1024) : k0_pay10 (F := Ideal) X G T (ix2 a b) = (ct (x a) g (t a) b : EReal) := by
  pointwise [k0_pay10]
  rw [err_apply x t g X T G hX hT hG, c1024inv, ← EReal.coe_mul]; rfl

/-- The loss row after a block: what it held and half the block's sum of mean squared errors. -/
theorem loss_apply (acc : FVec Ideal S1x128 .f32) (e : Fin 128) :
    k0_pay9 (F := Ideal) X G T acc (ix2 0 e) = acc (ix2 0 e) + ((1 / 2 * ∑ a, mse (x a) g (t a) : ℝ) : EReal) := by
  pointwise [k0_pay9]
  simp only [err_apply x t g X T G hX hT hG]
  simp only [← EReal.coe_mul, sum_coe, c1024, cHalf, div_real _ (show (1024 : ℝ) ≠ 0 by norm_num)]
  simp only [Finset.univ_unique, Finset.sum_singleton]
  rfl

/-- The input gradient of a block. -/
theorem dx_apply (a : Fin 512) (b : Fin 1024) :
    k0_pay2 (F := Ideal) (k0_pay5 G) (k0_pay6 X) (k0_pay7 X) (k0_pay10 X G T) (ix2 a b)
      = (dxR (x a) g (ct (x a) g (t a)) b : EReal) := by
  pointwise [k0_pay2, k0_pay5, k0_pay6]
  simp only [ct_apply x t g X T G hX hT hG, xhat_apply x X hX]
  simp only [hX, hG]
  rw [rsqrt_row]
  simp only [← EReal.coe_mul, sum_coe, c1024]
  rw [div_real _ (by norm_num), ← EReal.coe_mul, ← EReal.coe_sub, ← EReal.coe_mul]; rfl

/-- The scale's gradient row after a block: what it held and the block's part. -/
theorem dg_apply (acc : FVec Ideal S1x1024 .f32) (b : Fin 1024) :
    k0_pay1 (F := Ideal) (k0_pay7 X) (k0_pay10 X G T) acc (ix2 0 b)
      = acc (ix2 0 b) + ((∑ a, ct (x a) g (t a) b * (x a b * rr (x a)) : ℝ) : EReal) := by
  pointwise [k0_pay1]
  simp only [ct_apply x t g X T G hX hT hG, xhat_apply x X hX]
  simp only [← EReal.coe_mul, sum_coe]

end Body

theorem zero_loss (j : S1x128.Idx) : k0_pay4 (F := Ideal) j = 0 := by pointwise [k0_pay4]
theorem zero_dg (j : S1x1024.Idx) : k0_pay3 (F := Ideal) j = 0 := by pointwise [k0_pay3]

/-! ## The reference at an element -/

section Ref
open Cert.LossHeadRefIdeal.Read

variable (x t : Fin 8192 → Fin 1024 → ℝ) (g : Fin 1024 → ℝ) (X T : FVec Ideal S8192x1024 .f32) (G : FVec Ideal ⟨1, ![1024]⟩ .f32)
    (hX : ∀ a b, X (ix2 a b) = (x a b : EReal)) (hT : ∀ a b, T (ix2 a b) = (t a b : EReal)) (hG : ∀ b, G (ix1 b) = (g b : EReal))
include hX

/-- The reference's reciprocal root mean square. -/
theorem ref_rr (a : Fin 8192) : val_main_v7 (F := Ideal) X (ix2 a 0) = (rr (x a) : EReal) := by
  pointwise [val_main_v7, val_main_v6, val_main_v5, val_main_v4, val_main_v3, val_main_v2, val_main_v1, val_main_v0, val_main_cst,
    val_main_cst_0, val_main_cst_1]
  simp only [hX]
  rw [rsqrt_row]

include hT hG

/-- The reference's error. -/
theorem ref_err (a : Fin 8192) (b : Fin 1024) : val_main_v16 (F := Ideal) X G T (ix2 a b) = (err (x a) g (t a) b : EReal) := by
  pointwise [val_main_v16, val_main_v15, val_main_v14, val_main_v13, val_main_v12, val_main_v11]
  simp only [ref_rr x X hX, hX, hT, hG]
  simp only [← EReal.coe_mul, ← EReal.coe_sub]; rfl

/-- The reference's loss. -/
theorem ref_loss (i : S_.Idx) : val_main_v24 (F := Ideal) X G T i = (lossR x t g : EReal) := by
  pointwise [val_main_v24, val_main_v23, val_main_v22, val_main_v21, val_main_v20, val_main_v17, val_main_cst_4, val_main_cst_5,
    val_main_cst_6, val_main_cst_7]
  simp only [ref_err x t g X T G hX hT hG]
  simp only [← EReal.coe_mul, sum_coe, c1024, cHalf, div_real _ (show (1024 : ℝ) ≠ 0 by norm_num)]
  rfl

/-- The reference's cotangent of the norm's output. -/
theorem ref_ct (a : Fin 8192) (b : Fin 1024) : val_main_v30 (F := Ideal) X G T (ix2 a b) = (ct (x a) g (t a) b : EReal) := by
  pointwise [val_main_v30, val_main_v29, val_main_v28, val_main_v27, val_main_v26, val_main_v25, val_main_v19, val_main_v18,
    val_main_cst_3, val_main_cst_8, val_main_cst_9, val_main_cst_10]
  simp only [ref_err x t g X T G hX hT hG]
  simp only [← EReal.coe_one, c1024, cHalf, cTwo, ← EReal.coe_mul, div_real _ (show (1024 : ℝ) ≠ 0 by norm_num)]
  congr 1
  unfold ct
  ring

/-- The reference's gradient of the input. -/
theorem ref_dx (a : Fin 8192) (b : Fin 1024) :
    val_main_v50 (F := Ideal) X G T (ix2 a b) = (dxR (x a) g (ct (x a) g (t a)) b : EReal) := by
  pointwise [val_main_v50, val_main_v49, val_main_v48, val_main_v47, val_main_v46, val_main_v45, val_main_v44, val_main_v43,
    val_main_v42, val_main_v41, val_main_v40, val_main_v39, val_main_v38, val_main_v37, val_main_v35, val_main_v34, val_main_v13,
    val_main_v10, val_main_v9, val_main_v8, val_main_v6, val_main_v5, val_main_v4, val_main_v3, val_main_v2, val_main_v1, val_main_v0,
    val_main_cst, val_main_cst_0, val_main_cst_1, val_main_cst_2, val_main_cst_13, val_main_cst_14, val_main_cst_15]
  simp only [Finset.univ_unique, Finset.sum_singleton, show (default : Fin 1) = 0 from rfl]
  simp only [ref_ct x t g X T G hX hT hG, ref_rr x X hX, hX, hG]
  have hms := ms_pos (x a)
  simp only [← EReal.coe_mul, sum_coe, c1024, cNegHalf, cEps, div_real _ (show (1024 : ℝ) ≠ 0 by norm_num), ← EReal.coe_add,
    div_real _ hms.ne', rr_div]
  congr 1
  have hs : ∑ k, ct (x a) g (t a) k * g k * (x a k * rr (x a)) = (∑ k, x a k * (ct (x a) g (t a) k * g k)) * rr (x a) := by
    rw [Finset.sum_mul]; exact Finset.sum_congr rfl fun k _ => by ring
  rw [dxR, hs]
  ring

/-- The reference's gradient of the scale. -/
theorem ref_dg (b : Fin 1024) : val_main_v36 (F := Ideal) X G T (ix1 b) = (dgR x (fun a => ct (x a) g (t a)) b : EReal) := by
  pointwise [val_main_v36, val_main_v33, val_main_v32, val_main_v31, val_main_v12, val_main_v11, val_main_cst_11, val_main_cst_12]
  simp only [ref_ct x t g X T G hX hT hG, ref_rr x X hX, hX]
  simp only [← EReal.coe_mul, sum_coe]
  congr 1
  simp only [Finset.univ_unique, Finset.sum_singleton]
  exact Finset.sum_congr rfl fun k _ => by ring

end Ref

/-! ## The kernel's result arrays -/

variable (m : (ℓ : Loc nD τ sig) → Buf (Elt Ideal) ℓ)
variable (c : Dev nD) (x y : Fin 8192 → Fin 1024 → ℝ) (g : Fin 1024 → ℝ)
    (hX : ∀ a b, (m ((c : Thread nD τ).loc main_arg0) : FVec Ideal S8192x1024 .f32) (ix2 a b) = (x a b : EReal))
    (hT : ∀ a b, (m ((c : Thread nD τ).loc main_arg2) : FVec Ideal S8192x1024 .f32) (ix2 a b) = (y a b : EReal))
    (hG : ∀ b, (m ((c : Thread nD τ).loc main_arg1) : FVec Ideal S1024 .f32) (ix1 b) = (g b : EReal))

/-- Which block each window stages at a point. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![0, 0] :=
  (by decide +kernel : ∀ t : Fin grid0.N, _)

/-- The row of the array that row `a` of point `t`'s block is. -/
def row (t : Fin cfg0.N) (a : Fin 512) : Fin 8192 := ⟨t.val * 512 + a.val, by
  have ht : t.val < 16 := lt_of_lt_of_eq t.isLt N_0
  omega⟩

/-- An index of a one-row array is its column's. -/
theorem eq_row {n : ℕ} (j : (⟨2, ![1, n]⟩ : Shape).Idx) : j = ix2 0 (j 1) :=
  (eq_ix2 j).trans (congrArg (fun z : Fin 1 => (ix2 z (j 1) : (⟨2, ![1, n]⟩ : Shape).Idx)) (@Subsingleton.elim (Fin 1) _ (j 0) 0))

include hX in
/-- The block of rows a point stages. -/
theorem blk_x (t : Fin cfg0.N) (a : Fin 512) (b : Fin 1024) :
    (iblk m c 0 t : FVec Ideal S512x1024 .f32) (ix2 a b) = (x (row t a) b : EReal) := by
  refine Eq.trans ?_ (hX (row t a) b)
  blk_ext [iblk, V, idx t, row]

include hT in
/-- The block of targets a point stages. -/
theorem blk_t (t : Fin cfg0.N) (a : Fin 512) (b : Fin 1024) :
    (iblk m c 2 t : FVec Ideal S512x1024 .f32) (ix2 a b) = (y (row t a) b : EReal) := by
  refine Eq.trans ?_ (hT (row t a) b)
  blk_ext [iblk, V, idx t, row]

/-- The scale as a row. -/
theorem read_g (V : Valuation τ sig (Elt Ideal)) (b : Fin 1024) :
    (StableHlo.after (List.flatten [hostOps0]) V (Proc.devRef .tc main_v0) : FVec Ideal S1x1024 .f32) (ix2 0 b)
      = (V (Proc.devRef .tc main_arg1) : FVec Ideal S1024 .f32) (ix1 b) := by
  after_reads_at

include hG in
/-- The scale a point stages. -/
theorem blk_g (t : Fin cfg0.N) (b : Fin 1024) :
    (iblk m c 1 t : FVec Ideal S1x1024 .f32) (ix2 0 b) = (g b : EReal) := by
  refine Eq.trans (b := (V m c main_v0 : FVec Ideal S1x1024 .f32) (ix2 0 b)) ?_ ((read_g _ b).trans (hG b))
  blk_ext [iblk, idx t]

include hX hT hG

/-- The input gradient's array. -/
theorem final_dx (G : FVec Ideal S8192x1024 .f32) (h : ∀ a b, G (ix2 a b) = (dxR (x a) g (ct (x a) g (y a)) b : EReal)) :
    (dats m 0 c).arrAt 4 (cfgs 0).N = G := by
  refine (dats m 0 c).arrAt_eq_of_covers 4 _ (by decide +kernel) fun t _ j => ?_
  blk_simp
  rw [after0_4]
  have hp : (k0_pay2 (F := Ideal) (k0_pay5 (iblk m c 1 t)) (k0_pay6 (iblk m c 0 t)) (k0_pay7 (iblk m c 0 t))
      (k0_pay10 (iblk m c 0 t) (iblk m c 1 t) (iblk m c 2 t)) : FVec Ideal S512x1024 .f32) j
      = G (((cfg0.win 4).blk t).view.emb j) := by
    have hj : j = ix2 (j 0) (j 1) := eq_ix2 j
    rw [hj]
    refine (dx_apply _ _ g _ _ _ (blk_x m c x hX t) (blk_t m c y hT t) (blk_g m c g hG t) (j 0) (j 1)).trans ?_
    refine (h (row t (j 0)) (j 1)).symm.trans (congrArg G ?_)
    blk_ext [idx t, row]
  by_cases h0 : t.val % 16 = 0
  · rw [outsAt0_A m c t h0]; frame_out; exact hp
  · rw [outsAt0_B m c t h0]; frame_out; exact hp

/-- The scale gradient's array. -/
theorem final_dg (G : FVec Ideal S1x1024 .f32) (h : ∀ b, G (ix2 0 b) = (dgR x (fun a => ct (x a) g (y a)) b : EReal)) :
    (dats m 0 c).arrAt 5 (cfgs 0).N = G := by
  refine (dats m 0 c).arrAt_eq_of_covers 5 _ (by decide +kernel) fun t hf j => ?_
  blk_simp
  rw [after0_5, Pipeline.eq_sum_fin_of_reset_step_apply_of_flush (fun n h => (outsAt0 m c n h).2.2) 16 (fun _ => (0 : EReal))
    (fun t j => ((∑ a : Fin 512, ct (x (row t a)) g (y (row t a)) (j 1) * (x (row t a) (j 1) * rr (x (row t a))) : ℝ) : EReal))
    (fun t h j => by
      rw [outsAt0_A m c t h]; frame_out
      rw [eq_row j]
      exact (dg_apply _ _ g _ _ _ (blk_x m c x hX t) (blk_t m c y hT t) (blk_g m c g hG t) _ (j 1)).trans (by rw [zero_dg]; rfl))
    (fun t h j => by
      rw [outsAt0_B m c t h]; frame_out
      rw [eq_row j]
      exact dg_apply _ _ g _ _ _ (blk_x m c x hX t) (blk_t m c y hT t) (blk_g m c g hG t) _ (j 1))
    t ((flush0_5 t).mp hf) _, zero_add]
  have ht : t.val / 16 = 0 := by
    have := lt_of_lt_of_eq t.isLt N_0
    omega
  have hg : G ((win0_5.blk t).view.emb j) = (dgR x (fun a => ct (x a) g (y a)) (j 1) : EReal) := by
    refine Eq.trans (congrArg G ?_) (h (j 1))
    blk_ext [idx t]
  have hd : (dgR x (fun a => ct (x a) g (y a)) (j 1) : EReal) = ∑ s : Fin 16, ((∑ a : Fin 512,
      (fun r : Fin 8192 => ct (x r) g (y r) (j 1) * (x r (j 1) * rr (x r))) ⟨s.val * 512 + a.val, by omega⟩ : ℝ) : EReal) := by
    rw [sum_coe]
    exact congrArg _ (Fin.sum_univ_tiles 16 512 rfl fun r : Fin 8192 => ct (x r) g (y r) (j 1) * (x r (j 1) * rr (x r)))
  refine Eq.trans ?_ (hg.trans hd).symm
  refine Fin.sum_fin_congr fun s => ?_
  have hr : ∀ a, row ⟨16 * (t.val / 16) + s.val, Pipeline.run_point_lt_of_flush t ((flush0_5 t).mp hf) s⟩ a
      = ⟨s.val * 512 + a.val, by omega⟩ := fun a => by
    simp only [row, ht]; congr 1; omega
  simp only [hr]

/-- The loss row's array. -/
theorem final_loss (G : FVec Ideal S1x128 .f32) (h : ∀ e, G (ix2 0 e) = (lossR x y g : EReal)) :
    (dats m 0 c).arrAt 3 (cfgs 0).N = G := by
  refine (dats m 0 c).arrAt_eq_of_covers 3 _ (by decide +kernel) fun t hf j => ?_
  blk_simp
  rw [after0_3, Pipeline.eq_sum_fin_of_reset_step_apply_of_flush (fun n h => (outsAt0 m c n h).1) 16 (fun _ => (0 : EReal))
    (fun t j => ((1 / 2 * ∑ a : Fin 512, mse (x (row t a)) g (y (row t a)) : ℝ) : EReal))
    (fun t h j => by
      rw [outsAt0_A m c t h]; frame_out
      rw [eq_row j]
      exact (loss_apply _ _ g _ _ _ (blk_x m c x hX t) (blk_t m c y hT t) (blk_g m c g hG t) _ (j 1)).trans (by rw [zero_loss]))
    (fun t h j => by
      rw [outsAt0_B m c t h]; frame_out
      rw [eq_row j]
      exact loss_apply _ _ g _ _ _ (blk_x m c x hX t) (blk_t m c y hT t) (blk_g m c g hG t) _ (j 1))
    t ((flush0_3 t).mp hf) _, zero_add]
  have ht : t.val / 16 = 0 := by
    have := lt_of_lt_of_eq t.isLt N_0
    omega
  have hg : G ((win0_3.blk t).view.emb j) = (lossR x y g : EReal) := by
    refine Eq.trans (congrArg G ?_) (h (j 1))
    blk_ext [idx t]
  have hd : (lossR x y g : EReal) = ∑ s : Fin 16, ((1 / 2 * ∑ a : Fin 512,
      (fun r : Fin 8192 => mse (x r) g (y r)) ⟨s.val * 512 + a.val, by omega⟩ : ℝ) : EReal) := by
    rw [sum_coe, ← Finset.mul_sum]
    exact congrArg (fun z : ℝ => ((1 / 2 * z : ℝ) : EReal)) (Fin.sum_univ_tiles 16 512 rfl fun r : Fin 8192 => mse (x r) g (y r))
  refine Eq.trans ?_ (hg.trans hd).symm
  refine Fin.sum_fin_congr fun s => ?_
  have hr : ∀ a, row ⟨16 * (t.val / 16) + s.val, Pipeline.run_point_lt_of_flush t ((flush0_3 t).mp hf) s⟩ a
      = ⟨s.val * 512 + a.val, by omega⟩ := fun a => by
    simp only [row, ht]; congr 1; omega
  simp only [hr]

end Cert.LossHeadIdeal.Value

end
-- ==== Proof.LossHeadRun.lean ====
/- THE LOSS PROGRAM RUN TO ITS END: the three results as the last host lines leave them, the arguments unchanged. -/
module

public import proofs.«01_k».proof.Proof.LossHead
public import Idealize.ShloMosaic.Lib.StableHlo.ReadAt

@[expose] public section

set_option maxRecDepth 16384

noncomputable section

namespace Cert.LossHeadIdeal.Value

open Cert.LossHeadIdeal Cert.LossHeadIdeal.Gen Idealize.ShloMosaic Idealize.ShloMosaic.TcCoe Idealize.SL.Sem
open Cert.Reals Cert.NormMath

/-- The loss is the loss row's first number. -/
theorem read_loss (V : Valuation τ sig (Elt Ideal)) (i : S_.Idx) :
    (StableHlo.after (List.flatten [hostOps1]) V (Proc.devRef .tc main_v3) : FVec Ideal S_ .f32) i
      = (V (Proc.devRef .tc main_v1_0) : FVec Ideal S1x128 .f32) (ix2 0 0) := by
  after_reads_at

/-- The scale's gradient is its row. -/
theorem read_dg (V : Valuation τ sig (Elt Ideal)) (b : Fin 1024) :
    (StableHlo.after (List.flatten [hostOps1]) V (Proc.devRef .tc main_v4) : FVec Ideal S1024 .f32) (ix1 b)
      = (V (Proc.devRef .tc main_v1_2) : FVec Ideal S1x1024 .f32) (ix2 0 b) := by
  after_reads_at

variable (m : (ℓ : Loc nD τ sig) → Buf (Elt Ideal) ℓ) (ρ : Dev nD → PrngReg)

/-- The buffers when the last host lines begin. -/
abbrev W (c : Dev nD) : Valuation τ sig (Elt Ideal) :=
  Pipeline.withArrays spec0 c (V0 m c) fun w => (dats m 0 c).arrAt w cfg0.N

/-- An array of the region holds what the region left in it. -/
theorem W_arr (c : Dev nD) (w : Fin 6) : W m c (Proc.devRef .tc (Pipeline.arrRef spec0 w)) = (dats m 0 c).arrAt w cfg0.N :=
  Pipeline.withArrays_arr spec0 winFacts0.arr_inj c (V0 m c) _ w

/-- Every run ends with the three results as the last host lines leave them and the arguments unchanged. -/
theorem run_values : θ_run defs (onTc (τ := τ) (main (F := Ideal))) ⟨m, fun _ => 0, ρ⟩ (fun r => ∀ c : Dev nD,
      r.2.mem ((c : Thread nD τ).loc main_v3) = StableHlo.after (List.flatten [hostOps1]) (W m c) (Proc.devRef .tc main_v3)
      ∧ r.2.mem ((c : Thread nD τ).loc main_v1_1) = (dats m 0 c).arrAt 4 cfg0.N
      ∧ r.2.mem ((c : Thread nD τ).loc main_v4) = StableHlo.after (List.flatten [hostOps1]) (W m c) (Proc.devRef .tc main_v4)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun r h c => ⟨(h.1 c).2 main_v3 (Pipeline.mem_restRefs_of main_v3 (by decide) (by decide)), (h.1 c).1 4,
      (h.1 c).2 main_v4 (Pipeline.mem_restRefs_of main_v4 (by decide) (by decide)), h.2 c⟩)
    (θ_run_and (run_main m ρ) (unchanged m ρ))

end Cert.LossHeadIdeal.Value

end
-- ==== Proof.LossHeadClaim.lean ====
/- The loss's value claim: on finite arguments the kernel's loss and gradients and the reference's are equal. -/
module

public import proofs.«01_k».proof.Defs
public import proofs.«01_k».proof.Proof.LossHeadRun
public import proofs.«01_k».proof.Proof.Gen.Pre_loss_fin
public import Idealize.ShloMosaic.Lib.Claim

@[expose] public section

set_option maxRecDepth 16384

noncomputable section

namespace Cert.LossHeadClaim

open Idealize.ShloMosaic Idealize.SL.Sem Cert.Reals Cert.NormMath
open Cert.LossHeadIdeal.Value Cert.LossHeadRefIdeal.Read

/-- What the precondition says: the three arguments are arrays of reals. -/
theorem reals_of_pre (X T : FVec Ideal Cert.Pre_loss_fin.S8192x1024 .f32) (G : FVec Ideal Cert.Pre_loss_fin.S1024 .f32)
    (h : (letI := Cert.Pre_loss_fin.Gen.facts; (Cert.Pre_loss_fin.fn (F := Ideal) X G T).1 = (fun _ => 1#1)
      ∧ (Cert.Pre_loss_fin.fn (F := Ideal) X G T).2.1 = (fun _ => 1#1) ∧ (Cert.Pre_loss_fin.fn (F := Ideal) X G T).2.2 = (fun _ => 1#1))) :
    ∃ (x t : Fin 8192 → Fin 1024 → ℝ) (g : Fin 1024 → ℝ), (∀ a b, X (ix2 a b) = (x a b : EReal))
      ∧ (∀ a b, T (ix2 a b) = (t a b : EReal)) ∧ (∀ b, G (ix1 b) = (g b : EReal)) := by
  unfold Cert.Pre_loss_fin.fn at h
  dsimp only at h
  obtain ⟨h0, h1, h2⟩ := h
  obtain ⟨fx, hx⟩ := real_of_all X _ _ _ h0
  obtain ⟨fg, hg⟩ := real_of_all G _ _ _ h1
  obtain ⟨ft, ht⟩ := real_of_all T _ _ _ h2
  exact ⟨fun a b => fx (ix2 a b), fun a b => ft (ix2 a b), fun b => fg (ix1 b),
    fun a b => congrFun hx (ix2 a b), fun a b => congrFun ht (ix2 a b), fun b => congrFun hg (ix1 b)⟩

/-- The loss kernel and `jax.value_and_grad` of the loss end with equal results, from finite arguments. -/
theorem algebraic : Cert.algebraic_LossHeadIdeal_LossHeadRefIdeal_pre_loss_fin (hLossHeadIdeal := Cert.LossHeadIdeal.Gen.facts)
    (hLossHeadRefIdeal := Cert.LossHeadRefIdeal.Gen.facts) (hPre_loss_fin := Cert.Pre_loss_fin.Gen.facts) := by
  intro m g m' g' hpre hagree
  refine ⟨fun c => StableHlo.after (List.flatten [Cert.LossHeadIdeal.Gen.hostOps1]) (W m c) (Proc.devRef .tc Cert.LossHeadIdeal.main_v3),
    fun c => (Cert.LossHeadIdeal.Gen.dats m 0 c).arrAt 4 Cert.LossHeadIdeal.cfg0.N,
    fun c => StableHlo.after (List.flatten [Cert.LossHeadIdeal.Gen.hostOps1]) (W m c) (Proc.devRef .tc Cert.LossHeadIdeal.main_v4),
    run_values m g,
    (θ_run Cert.LossHeadRefIdeal.defs _ _).mono (fun r h c => ?_) (Cert.LossHeadRefIdeal.Value.run m' g')⟩
  obtain ⟨x, t, gg, hX, hT, hG⟩ := reals_of_pre _ _ _ (hpre c)
  obtain ⟨e0, e1, e2⟩ := hagree c
  obtain ⟨h0, h1, h2, h3⟩ := h c
  refine ⟨h0.trans ?_, h1.trans ?_, h2.trans ?_, h3⟩
  · rw [e0, e1, e2, val_main_v24_eq]
    funext i
    refine (ref_loss x t gg _ _ _ hX hT hG i).trans (Eq.symm ((read_loss (W m c) i).trans ?_))
    exact congrFun ((W_arr m c 3).trans (final_loss m c x t gg hX hT hG (fun _ => ((lossR x t gg : ℝ) : EReal)) fun _ => rfl)) (ix2 0 0)
  · rw [val_main_v50_eq, e0, e1, e2]
    exact (final_dx m c x t gg hX hT hG _ (ref_dx x t gg _ _ _ hX hT hG)).symm
  · rw [e0, e1, e2, val_main_v36_eq]
    funext i
    rw [eq_ix1 i]
    refine (ref_dg x t gg _ _ _ hX hT hG (i 0)).trans (Eq.symm ((read_dg (W m c) (i 0)).trans ?_))
    exact congrFun ((W_arr m c 5).trans (final_dg m c x t gg hX hT hG
      (fun j => ((dgR x (fun a => ct (x a) gg (t a)) (j 1) : ℝ) : EReal)) fun _ => rfl)) (ix2 0 (i 0))

/-- The reference ends, keeps its arguments, and leaves every counter at zero. -/
theorem frame_ref : Cert.quiescent_LossHeadRefIdeal (hLossHeadRefIdeal := Cert.LossHeadRefIdeal.Gen.facts) := fun m ρ _ =>
  (θ_run Cert.LossHeadRefIdeal.defs _ _).mono (fun r h => ⟨fun c => (h c).2.2.2, sem_eq_zero_of_no_sems (by decide) r.2⟩)
    (Cert.LossHeadRefIdeal.Value.run (F := Ideal) m ρ)

end Cert.LossHeadClaim

end
-- ==== Proof.MlpLaunch.lean ====
/- THE PROGRAM OF THE GATED PRODUCT RUN TO ITS END: its result arrays hold what the last region leaves, its arguments are
   unchanged. -/
module

public import proofs.«01_k».proof.Proof.Gen.MlpIdeal.Frame

@[expose] public section

set_option maxRecDepth 16384

noncomputable section

namespace Cert.MlpIdeal.Value

open Cert.MlpIdeal Cert.MlpIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

set_option backward.isDefEq.respectTransparency.types false in
/-- Every execution of the program ends with each unscoped buffer of each core as the last region leaves it. -/
theorem run_all {F : FTy → Type} [FloatOps F] (m : (ℓ : Loc nD τ sig) → Buf (Elt F) ℓ) (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h _ => h)

/-- The two result arrays and the four arguments at the end of a run. -/
theorem run_values {F : FTy → Type} [FloatOps F] (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v2_1) = W4 m ρ c (Proc.devRef .tc main_v2_1)
      ∧ r.2.mem ((c.tc : Thread nD τ).loc main_v4) = W4 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ (h : ∀ c : Dev nD, ∀ b ∈ Pipeline.ucRefs τ sig, _ = W4 m ρ c b) c => ⟨h c _ (mem_uc main_v2_1 (by decide)), h c _ (mem_uc main_v4 (by decide)),
    (h c _ (mem_uc main_arg0 (by decide))).trans (W4_main_arg0 m ρ c), (h c _ (mem_uc main_arg1 (by decide))).trans (W4_main_arg1 m ρ c),
    (h c _ (mem_uc main_arg2 (by decide))).trans (W4_main_arg2 m ρ c), (h c _ (mem_uc main_arg3 (by decide))).trans (W4_main_arg3 m ρ c)⟩)
    (run_all m ρ)

end Cert.MlpIdeal.Value

end
-- ==== Proof.Mlp.lean ====
/- THE GATED PRODUCT. The first call walks 8 by 4 blocks of h·w1 and stores each block and its squared relu; the second walks
   8 by 4 blocks of dy·w2ᵀ and multiplies each by twice the relu of the first call's block. Here: what one block's body
   leaves at an element; that the reference's two results are the same; and that the kernel's two result arrays are the
   reference's. Nothing asks for finite arguments: sums and products are the extended reals' own. -/
module

public import proofs.«01_k».proof.Proof.Reals
public import proofs.«01_k».proof.Proof.MlpLaunch
public import proofs.«01_k».proof.Proof.Gen.MlpRefIdeal.Run
public import proofs.«01_k».proof.Proof.Gen.MlpRefIdeal.Read
public import Idealize.ShloMosaic.Lib.StableHlo.ReadAt
public import Idealize.ShloMosaic.Lib.Pipeline.ValueKit

@[expose] public section

set_option maxRecDepth 16384

noncomputable section

namespace Cert.MlpIdeal.Value

open Cert.MlpIdeal Cert.MlpIdeal.Gen Idealize.ShloMosaic Idealize.ShloMosaic.TcCoe Idealize.SL.Sem
open Idealize.ShloMosaic.Pipeline (Dat)

/-- The up product. -/
def upR (h : Fin 8192 → Fin 1024 → EReal) (w : Fin 1024 → Fin 4096 → EReal) (a : Fin 8192) (b : Fin 4096) : EReal := ∑ k, h a k * w k b

/-- The constant 2. -/
theorem c2 : (Ideal.ofBits .f32 0x40000000#32 : EReal) = ((2 : ℝ) : EReal) := by
  simp [Ideal.ofBits, Ideal.ieee]; rw [← EReal.coe_mul]; norm_num

/-- The squared relu. -/
def actR (u : EReal) : EReal := max u 0 * max u 0

/-- The up product's gradient: the cotangent times the down weights, times twice the relu. -/
def duR (u : EReal) (w : Fin 4096 → Fin 1024 → EReal) (y : Fin 8192 → Fin 1024 → EReal) (a : Fin 8192) (b : Fin 4096) : EReal :=
  (∑ k, y a k * w b k) * ((2 : ℝ) * max u 0)

/-! ## The reference at an element -/

section Ref
open Cert.MlpRefIdeal.Read

variable (X0 : FVec Ideal S8192x1024 .f32) (X1 : FVec Ideal S1024x4096 .f32) (X2 : FVec Ideal S4096x1024 .f32) (X3 : FVec Ideal S8192x1024 .f32)

/-- The reference's activation. -/
theorem ref_a (a : Fin 8192) (b : Fin 4096) :
    val_main_v15 (F := Ideal) X0 X1 (ix2 a b) = actR (upR (fun a k => X0 (ix2 a k)) (fun k b => X1 (ix2 k b)) a b) := by
  pointwise [val_main_v15, val_main_v2, val_main_v1, val_main_v0, val_main_call0_v0, val_main_call0_cst]
  rfl

/-- Masking where the relu is zero changes nothing: twice the relu is zero there. -/
theorem mask_relu (u d : EReal) : (if 0 < u then d * ((2 : ℝ) * max u 0) else 0) = d * ((2 : ℝ) * max u 0) := by
  split_ifs with h
  · rfl
  · rw [max_eq_right (not_lt.1 h), mul_zero, mul_zero]

/-- The reference's gradient. -/
theorem ref_du (a : Fin 8192) (b : Fin 4096) :
    val_main_v16 (F := Ideal) X0 X1 X2 X3 (ix2 a b)
      = duR (upR (fun a k => X0 (ix2 a k)) (fun k b => X1 (ix2 k b)) a b) (fun b k => X2 (ix2 b k)) (fun a k => X3 (ix2 a k)) a b := by
  unfold duR
  rw [← mask_relu]
  pointwise [val_main_v16, val_main_v14, val_main_v13, val_main_v12, val_main_v11, val_main_v9, val_main_v8, val_main_v5, val_main_v4, val_main_v3,
    val_main_v0, val_main_call1_v0, val_main_call1_cst, val_main_cst, val_main_cst_1, val_main_cst_2]
  rw [c2]
  rfl

end Ref

/-! ## The kernel's blocks at an element -/

/-- The up product's block: the sum over the 1024 columns. -/
theorem pay02_apply (A B : FVec Ideal S1024x1024 .bf16) (r s : Fin 1024) :
    k0_pay2 (F := Ideal) (k0_pay1 (F := Ideal)) A B (ix2 r s) = ∑ k : Fin 1024, (A (ix2 r k) : EReal) * B (ix2 k s) := by
  pointwise [k0_pay2, k0_pay1]

/-- The gradient's block before its factor: the sum over the 1024 columns. -/
theorem pay12_apply (A : FVec Ideal S1024x1024 .f32) (B : FVec Ideal S1024x1024 .bf16) (r s : Fin 1024) :
    k1_pay2 (F := Ideal) (k1_pay1 (F := Ideal)) A B (ix2 r s) = ∑ k : Fin 1024, (A (ix2 r k) : EReal) * B (ix2 s k) := by
  pointwise [k1_pay2, k1_pay1]

/-- The squared relu of a block. -/
theorem pay03_apply (A : FVec Ideal S1024x1024 .f32) (j : S1024x1024.Idx) : k0_pay3 (F := Ideal) A j = actR (A j) := by
  pointwise [k0_pay3]
  rfl

/-- A block times twice a block's relu. -/
theorem pay13_apply (A U : FVec Ideal S1024x1024 .f32) (j : S1024x1024.Idx) : k1_pay3 (F := Ideal) A U j = A j * ((2 : ℝ) * max (U j) 0 : EReal) := by
  pointwise [k1_pay3]
  rw [c2]

/-- Which block each window of the first call stages at a point. -/
theorem idx0 : ∀ t : Fin cfg0.N, win0_0.index t = ![t.val / 4, 0] ∧ win0_1.index t = ![0, t.val % 4] ∧ win0_2.index t = ![t.val / 4, t.val % 4]
    ∧ win0_3.index t = ![t.val / 4, t.val % 4] :=
  (by decide +kernel : ∀ t : Fin grid0.N, _)

/-- Which block each window of the second call stages at a point. -/
theorem idx1 : ∀ t : Fin cfg1.N, win1_0.index t = ![t.val / 4, 0] ∧ win1_1.index t = ![t.val % 4, 0] ∧ win1_2.index t = ![t.val / 4, t.val % 4]
    ∧ win1_3.index t = ![t.val / 4, t.val % 4] :=
  (by decide +kernel : ∀ t : Fin grid1.N, _)

/-- The array's row of a block's row. -/
def row (t : ℕ) (r : Fin 1024) (h : t < 32) : Fin 8192 := ⟨t / 4 * 1024 + r.val, by omega⟩

/-- The array's column of a block's column. -/
def col (t : ℕ) (s : Fin 1024) : Fin 4096 := ⟨t % 4 * 1024 + s.val, by omega⟩

/-- The first call has 32 points. -/
theorem lt0 (t : Fin cfg0.N) : t.val < 32 := lt_of_lt_of_eq t.isLt N_0

/-- The second call has 32 points. -/
theorem lt1 (t : Fin cfg1.N) : t.val < 32 := lt_of_lt_of_eq t.isLt N_1

variable (V : (c : Dev nD) → (b : Ref sig .tc) → Buf (Elt Ideal) ((c : Thread nD τ).loc b)) (c : Dev nD)
  (h : Fin 8192 → Fin 1024 → EReal) (w1 : Fin 1024 → Fin 4096 → EReal) (w2 : Fin 4096 → Fin 1024 → EReal) (y : Fin 8192 → Fin 1024 → EReal)
  (u : Fin 8192 → Fin 4096 → EReal)

/-- The up product's block at a point of the first call. -/
theorem blk0_u (hh : ∀ a k, (V c main_v0 : FVec Ideal S8192x1024 .bf16) (ix2 a k) = h a k)
    (hw : ∀ k b, (V c main_v1 : FVec Ideal S1024x4096 .bf16) (ix2 k b) = w1 k b) (t : Fin cfg0.N) (r s : Fin 1024) :
    k0_pay2 (F := Ideal) (k0_pay1 (F := Ideal)) (iblk0 V c 0 t) (iblk0 V c 1 t) (ix2 r s) = upR h w1 (row t.val r (lt0 t)) (col t.val s) := by
  rw [pay02_apply]
  refine Finset.sum_congr rfl fun k _ => congrArg₂ (· * ·) ?_ ?_
  · refine Eq.trans ?_ (hh _ k)
    blk_ext [iblk0, idx0 t, row]
  · refine Eq.trans ?_ (hw k _)
    blk_ext [iblk0, idx0 t, col]

/-- The up product's array. -/
theorem final0_u (hh : ∀ a k, (V c main_v0 : FVec Ideal S8192x1024 .bf16) (ix2 a k) = h a k)
    (hw : ∀ k b, (V c main_v1 : FVec Ideal S1024x4096 .bf16) (ix2 k b) = w1 k b)
    (G : FVec Ideal S8192x4096 .f32) (hG : ∀ a b, G (ix2 a b) = upR h w1 a b) : (dat0 V c).arrAt 2 cfg0.N = G := by
  refine (dat0 V c).arrAt_eq_of_covers 2 _ (by decide +kernel) fun t _ j => ?_
  blk_simp
  rw [after0_2]
  have hp : (k0_pay2 (F := Ideal) (k0_pay1 (F := Ideal)) (iblk0 V c 0 t) (iblk0 V c 1 t) : FVec Ideal S1024x1024 .f32) j
      = G (((cfg0.win 2).blk t).view.emb j) := by
    refine (congrArg (k0_pay2 (F := Ideal) (k0_pay1 (F := Ideal)) (iblk0 V c 0 t) (iblk0 V c 1 t)) (eq_ix2 j)).trans ((blk0_u V c h w1 hh hw t (j 0) (j 1)).trans ?_)
    refine (hG _ _).symm.trans (congrArg G ?_)
    blk_ext [idx0 t, row, col]
  unfold outsAt0
  frame_out
  exact hp

/-- The activation's array. -/
theorem final0_a (hh : ∀ a k, (V c main_v0 : FVec Ideal S8192x1024 .bf16) (ix2 a k) = h a k)
    (hw : ∀ k b, (V c main_v1 : FVec Ideal S1024x4096 .bf16) (ix2 k b) = w1 k b)
    (G : FVec Ideal S8192x4096 .bf16) (hG : ∀ a b, G (ix2 a b) = actR (upR h w1 a b)) : (dat0 V c).arrAt 3 cfg0.N = G := by
  refine (dat0 V c).arrAt_eq_of_covers 3 _ (by decide +kernel) fun t _ j => ?_
  blk_simp
  rw [after0_3]
  have hp : (k0_pay3 (F := Ideal) (k0_pay2 (F := Ideal) (k0_pay1 (F := Ideal)) (iblk0 V c 0 t) (iblk0 V c 1 t)) : FVec Ideal S1024x1024 .bf16) j
      = G (((cfg0.win 3).blk t).view.emb j) := by
    refine (pay03_apply _ j).trans ?_
    refine (congrArg (fun j => actR (k0_pay2 (F := Ideal) (k0_pay1 (F := Ideal)) (iblk0 V c 0 t) (iblk0 V c 1 t) j)) (eq_ix2 j)).trans
      ((congrArg actR (blk0_u V c h w1 hh hw t (j 0) (j 1))).trans ?_)
    refine (hG _ _).symm.trans (congrArg G ?_)
    blk_ext [idx0 t, row, col]
  unfold outsAt0
  frame_out
  exact hp

/-- The gradient's array. -/
theorem final1 (hy : ∀ a k, (V c main_arg3 : FVec Ideal S8192x1024 .f32) (ix2 a k) = y a k)
    (hw : ∀ b k, (V c main_v3 : FVec Ideal S4096x1024 .bf16) (ix2 b k) = w2 b k)
    (hu : ∀ a b, (V c main_v2_0 : FVec Ideal S8192x4096 .f32) (ix2 a b) = u a b)
    (G : FVec Ideal S8192x4096 .bf16) (hG : ∀ a b, G (ix2 a b) = duR (u a b) w2 y a b) : (dat1 V c).arrAt 3 cfg1.N = G := by
  refine (dat1 V c).arrAt_eq_of_covers 3 _ (by decide +kernel) fun t _ j => ?_
  blk_simp
  rw [after1_3]
  have hp : (k1_pay3 (F := Ideal) (k1_pay2 (F := Ideal) (k1_pay1 (F := Ideal)) (iblk1 V c 0 t) (iblk1 V c 1 t)) (iblk1 V c 2 t) : FVec Ideal S1024x1024 .bf16) j
      = G (((cfg1.win 3).blk t).view.emb j) := by
    have he : ∀ r s : Fin 1024, ((cfg1.win 3).blk t).view.emb (ix2 r s) = ix2 (row t.val r (lt1 t)) (col t.val s) := fun r s => by
      blk_ext [idx1 t, row, col]
    refine (pay13_apply _ _ j).trans ?_
    suffices hs : ∀ r s : Fin 1024, k1_pay2 (F := Ideal) (k1_pay1 (F := Ideal)) (iblk1 V c 0 t) (iblk1 V c 1 t) (ix2 r s)
        * ((2 : ℝ) * max (show EReal from (iblk1 V c 2 t : FVec Ideal S1024x1024 .f32) (ix2 r s)) 0) = G (((cfg1.win 3).blk t).view.emb (ix2 r s)) by
      rw [show j = ix2 (j 0) (j 1) from eq_ix2 j]; exact hs _ _
    intro r s
    rw [pay12_apply, he, hG]
    unfold duR
    refine congrArg₂ (· * ·) (Finset.sum_congr rfl fun k _ => congrArg₂ (· * ·) ?_ ?_) (congrArg (fun z => ((2 : ℝ) : EReal) * max z 0) ?_)
    · refine Eq.trans ?_ (hy _ k)
      blk_ext [iblk1, idx1 t, row]
    · refine Eq.trans ?_ (hw _ k)
      blk_ext [iblk1, idx1 t, col]
    · refine Eq.trans ?_ (hu _ _)
      blk_ext [iblk1, idx1 t, row, col]
  unfold outsAt1
  frame_out
  exact hp

/-! ## The host stretches -/

section Host
variable (V : Valuation τ sig (Elt Ideal))

/-- The first call's rows are the first argument. -/
theorem read_v0 (a : Fin 8192) (k : Fin 1024) : (StableHlo.after hostOps0 V (Proc.devRef .tc main_v0) : FVec Ideal S8192x1024 .bf16) (ix2 a k)
    = (V (Proc.devRef .tc main_arg0) : FVec Ideal S8192x1024 .f32) (ix2 a k) := by
  after_reads_at

/-- The first call's weights are the second argument. -/
theorem read_v1 (k : Fin 1024) (b : Fin 4096) : (StableHlo.after hostOps0 V (Proc.devRef .tc main_v1) : FVec Ideal S1024x4096 .bf16) (ix2 k b)
    = (V (Proc.devRef .tc main_arg1) : FVec Ideal S1024x4096 .f32) (ix2 k b) := by
  after_reads_at

/-- The second call's weights are the third argument. -/
theorem read_v3 (b : Fin 4096) (k : Fin 1024) : (StableHlo.after hostOps1 V (Proc.devRef .tc main_v3) : FVec Ideal S4096x1024 .bf16) (ix2 b k)
    = (V (Proc.devRef .tc main_arg2) : FVec Ideal S4096x1024 .f32) (ix2 b k) := by
  after_reads_at

end Host

/-! ## The results -/

section Results
variable (m : (ℓ : Loc nD τ sig) → Buf (Elt Ideal) ℓ) (ρ : Dev nD → PrngReg)
  (hh : ∀ a k, (m ((c.tc : Thread nD τ).loc main_arg0) : FVec Ideal S8192x1024 .f32) (ix2 a k) = h a k)
  (hw1 : ∀ k b, (m ((c.tc : Thread nD τ).loc main_arg1) : FVec Ideal S1024x4096 .f32) (ix2 k b) = w1 k b)
  (hw2 : ∀ b k, (m ((c.tc : Thread nD τ).loc main_arg2) : FVec Ideal S4096x1024 .f32) (ix2 b k) = w2 b k)
  (hy : ∀ a k, (m ((c.tc : Thread nD τ).loc main_arg3) : FVec Ideal S8192x1024 .f32) (ix2 a k) = y a k)

include hh hw1 in
/-- The activation at the end of a run. -/
theorem res_a (a : Fin 8192) (b : Fin 4096) :
    (W4 m ρ c (Proc.devRef .tc main_v2_1) : FVec Ideal S8192x4096 .bf16) (ix2 a b) = actR (upR h w1 a b) := by
  have hW := (W2_arr m ρ c 3).trans (final0_a (V1 m ρ) c h w1 (fun a k => (read_v0 (W0 m ρ c) a k).trans (hh a k))
    (fun k b => (read_v1 (W0 m ρ c) k b).trans (hw1 k b)) (fun i => actR (upR h w1 (i 0) (i 1))) fun _ _ => rfl)
  exact (congrFun ((W4_of m ρ c main_v2_1 (by decide +kernel)).trans (W3_of m ρ c main_v2_1 (by decide +kernel))) (ix2 a b)).trans (congrFun hW (ix2 a b))

include hh hw1 hw2 hy in
/-- The gradient at the end of a run. -/
theorem res_du (a : Fin 8192) (b : Fin 4096) :
    (W4 m ρ c (Proc.devRef .tc main_v4) : FVec Ideal S8192x4096 .bf16) (ix2 a b) = duR (upR h w1 a b) w2 y a b := by
  have hU := (W2_arr m ρ c 2).trans (final0_u (V1 m ρ) c h w1 (fun a k => (read_v0 (W0 m ρ c) a k).trans (hh a k))
    (fun k b => (read_v1 (W0 m ρ c) k b).trans (hw1 k b)) (fun i => upR h w1 (i 0) (i 1)) fun _ _ => rfl)
  have hW := (W4_arr m ρ c 3).trans (final1 (V3 m ρ) c w2 y (upR h w1)
    (fun a k => (congrFun (W3_args m ρ c main_arg3 (by decide)) (ix2 a k)).trans (hy a k))
    (fun b k => (read_v3 (W2 m ρ c) b k).trans ((congrFun (W2_args m ρ c main_arg2 (by decide)) (ix2 b k)).trans (hw2 b k)))
    (fun a b => (congrFun (W3_of m ρ c main_v2_0 (by decide +kernel)) (ix2 a b)).trans (congrFun hU (ix2 a b)))
    (fun i => duR (upR h w1 (i 0) (i 1)) w2 y (i 0) (i 1)) fun _ _ => rfl)
  exact congrFun hW (ix2 a b)

end Results

end Cert.MlpIdeal.Value

end
-- ==== Proof.MlpClaim.lean ====
/- The gated product's value claim: the kernel's activation and gradient and the reference's are equal, whatever the arguments. -/
module

public import proofs.«01_k».proof.Defs
public import proofs.«01_k».proof.Proof.Mlp
public import Idealize.ShloMosaic.Lib.Claim

@[expose] public section

set_option maxRecDepth 16384

noncomputable section

namespace Cert.MlpClaim

open Idealize.ShloMosaic Idealize.SL.Sem
open Cert.MlpIdeal.Value Cert.MlpRefIdeal.Read

/-- Two arrays of rank two equal at every index are equal. -/
theorem ext2 {A B : ℕ} (X Y : FVec Ideal ⟨2, ![A, B]⟩ .bf16) (h : ∀ a b, X (ix2 a b) = Y (ix2 a b)) : X = Y := by
  funext i
  rw [eq_ix2 i]
  exact h _ _

/-- The two calls and `jax.vjp` of the squared relu's product end with equal results. -/
theorem algebraic : Cert.algebraic_MlpIdeal_MlpRefIdeal (hMlpIdeal := Cert.MlpIdeal.Gen.facts) (hMlpRefIdeal := Cert.MlpRefIdeal.Gen.facts) := by
  intro m g m' g' _ hagree
  refine ⟨fun c => Cert.MlpIdeal.Gen.W4 m g c _, fun c => Cert.MlpIdeal.Gen.W4 m g c _, Cert.MlpIdeal.Value.run_values m g,
    (θ_run Cert.MlpRefIdeal.defs _ _).mono (fun r h c => ?_) (Cert.MlpRefIdeal.Value.run m' g')⟩
  obtain ⟨e0, e1, e2, e3⟩ := hagree c
  obtain ⟨h0, h1, h2⟩ := h c
  refine ⟨h0.trans ?_, h1.trans ?_, h2⟩
  · rw [val_main_v15_eq, e0, e1]
    exact ext2 _ _ fun a b => (ref_a _ _ a b).trans (res_a c _ _ m g (fun _ _ => rfl) (fun _ _ => rfl) a b).symm
  · rw [val_main_v16_eq, e0, e1, e2, e3]
    exact ext2 _ _ fun a b => (ref_du _ _ _ _ a b).trans
      (res_du c _ _ _ _ m g (fun _ _ => rfl) (fun _ _ => rfl) (fun _ _ => rfl) (fun _ _ => rfl) a b).symm

/-- The reference ends, keeps its arguments, and leaves every counter at zero. -/
theorem frame_ref : Cert.quiescent_MlpRefIdeal (hMlpRefIdeal := Cert.MlpRefIdeal.Gen.facts) := fun m ρ _ =>
  (θ_run Cert.MlpRefIdeal.defs _ _).mono (fun r h => ⟨fun c => (h c).2.2, sem_eq_zero_of_no_sems (by decide) r.2⟩)
    (Cert.MlpRefIdeal.Value.run (F := Ideal) m ρ)

end Cert.MlpClaim

end
-- ==== Proof.BandBody0.lean ====
/- THE FORWARD KERNEL OF THE BANDED ATTENTION AT ONE GRID POINT: it stores two halves of the output block and two halves of the block
   of row log-sums. -/
module

public import proofs.«01_k».proof.Proof.Gen.BandIdeal.Launch
public import proofs.«01_k».proof.Proof.Gen.BandIdeal.Skeleton
public import proofs.«01_k».proof.Proof.Gen.BandIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.BandIdeal.Hand0

open Cert.BandIdeal Cert.BandIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section
variable (c : Dev nD) (i : grid0.Coords)
  (a2 : Memref sig .tc .vmem S1x512x64 .bf16) (h2 : a2.IsWhole) (a3 : Memref sig .tc .vmem S1x640x64 .bf16) (h3 : a3.IsWhole)
  (a4 : Memref sig .tc .vmem S1x640x64 .bf16) (h4 : a4.IsWhole) (a5 : Memref sig .tc .vmem S1x512x64 .f32) (h5 : a5.IsWhole)
  (a6 : Memref sig .tc .vmem S1x512x1 .f32) (h6 : a6.IsWhole)
  (x0 : Vec F S1x512x64 .bf16) (x1 x2 : Vec F S1x640x64 .bf16)

set_option maxHeartbeats 4000000 in
/-- The pieces that the point stores into the blocks of the output and of the row log-sums, with the proof that the body, holding the
    input blocks at their contents and the two output blocks at any contents, ends with these pieces written. -/
noncomputable def pieces :
    Σ' (L3 : List (View.Piece (Elt F) S1x512x64 .f32)),
    { L4 : List (View.Piece (Elt F) S1x512x1 .f32) //
      ∀ (E : Set ℕ) (K : PUnit → sProp 𝕄),
        iprop(owns (c : Thread nD τ) a2 fullShare x0 ∗ owns (c : Thread nD τ) a3 fullShare x1 ∗ owns (c : Thread nD τ) a4 fullShare x2
            ∗ (∃ d, owns (c : Thread nD τ) a5 fullShare d) ∗ (∃ d, owns (c : Thread nD τ) a6 fullShare d)
            ∗ (iprop(owns (c : Thread nD τ) a2 fullShare x0 ∗ owns (c : Thread nD τ) a3 fullShare x1 ∗ owns (c : Thread nD τ) a4 fullShare x2
              ∗ (∃ f, a5.view.loc (c : Thread nD τ) ↦[a5.view.set]{fullShare} a5.view.writes (Elt F) f L3)
              ∗ (∃ f, a6.view.loc (c : Thread nD τ) ↦[a6.view.set]{fullShare} a6.view.writes (Elt F) f L4)) -∗ K ⟨⟩))
          ⊢ wp frame (wpE (defs₀ (F := F)) Variants.none c none) E
              (cc0_att_b16_fwd i a2 h2 a3 h3 a4 h4 a5 h5 a6 h6) K } := by
  refine ⟨?_, ?_, fun E K => ?run⟩
  case run =>
    simp only [cc0_att_b16_fwd_eq_skeleton]
    unfold cc0_att_b16_fwd_skel
    simp only [k0_part1_eq_skeleton]
    unfold k0_part1_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := h2.eq_unread hf0; obtain rfl := h3.eq_unread hf1; obtain rfl := h4.eq_unread hf2
    sl_exec
    sl_step
    iapply Hk
    isplitl [H0]; · iexists _; isplitr; · ipureintro; exact h2.read_unread _
                    iexact H0
    isplitl [H1]; · iexists _; isplitr; · ipureintro; exact h3.read_unread _
                    iexact H1
    isplitl [H2]; · iexists _; isplitr; · ipureintro; exact h4.read_unread _
                    iexact H2
    isplitl [H3]; · iexists _; iexact H3
    iexists _; iexact H4

end

end Cert.BandIdeal.Hand0

end
-- ==== Proof.BandDat0.lean ====
/- THE FORWARD CALL OF THE BANDED ATTENTION: what it does at every grid point, stated for the launch. -/
module

public import proofs.«01_k».proof.Proof.BandBody0

@[expose] public section

set_option maxRecDepth 16384

noncomputable section

namespace Cert.BandIdeal.Hand0

open Cert.BandIdeal Cert.BandIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- what the core's buffers hold when the call begins
variable (V : (c : Dev nD) → (b : Ref sig .tc) → Buf (Elt F) ((c : Thread nD τ).loc b))

/-- The block of window `w` at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window 0's staging buffer at point `t`. -/
abbrev ms0 (t : Fin cfg0.N) : Memref sig .tc .vmem S1x512x64 .bf16 := win0_0.stage (cfg0.slots t 0)
abbrev hs0 (t : Fin cfg0.N) : (ms0 t).IsWhole := hstage0_0 ((cfg0.slots t 0).cast nbuf0_0)
/-- Window 1's staging buffer at point `t`. -/
abbrev ms1 (t : Fin cfg0.N) : Memref sig .tc .vmem S1x640x64 .bf16 := win0_1.stage (cfg0.slots t 1)
abbrev hs1 (t : Fin cfg0.N) : (ms1 t).IsWhole := hstage0_1 ((cfg0.slots t 1).cast nbuf0_1)
/-- Window 2's staging buffer at point `t`. -/
abbrev ms2 (t : Fin cfg0.N) : Memref sig .tc .vmem S1x640x64 .bf16 := win0_2.stage (cfg0.slots t 2)
abbrev hs2 (t : Fin cfg0.N) : (ms2 t).IsWhole := hstage0_2 ((cfg0.slots t 2).cast nbuf0_2)
/-- Window 3's staging buffer at point `t`. -/
abbrev ms3 (t : Fin cfg0.N) : Memref sig .tc .vmem S1x512x64 .f32 := win0_3.stage (cfg0.slots t 3)
abbrev hs3 (t : Fin cfg0.N) : (ms3 t).IsWhole := hstage0_3 ((cfg0.slots t 3).cast nbuf0_3)
/-- Window 4's staging buffer at point `t`. -/
abbrev ms4 (t : Fin cfg0.N) : Memref sig .tc .vmem S1x512x1 .f32 := win0_4.stage (cfg0.slots t 4)
abbrev hs4 (t : Fin cfg0.N) : (ms4 t).IsWhole := hstage0_4 ((cfg0.slots t 4).cast nbuf0_4)

/-- The pieces stored at point `t`. -/
abbrev run (c : Dev nD) (t : Fin cfg0.N) :=
  pieces (F := F) c (grid0.coords t) (ms0 t) (hs0 t) (ms1 t) (hs1 t) (ms2 t) (hs2 t) (ms3 t) (hs3 t) (ms4 t) (hs4 t) (iblk V c 0 t) (iblk V c 1 t) (iblk V c 2 t)

/-- The contents of output window 3's block after point `t`. -/
def out3 (c : Dev nD) (t : Fin cfg0.N) : Vec F S1x512x64 .f32 := View.canon (run V c t).1

/-- The contents of output window 4's block after point `t`. -/
def out4 (c : Dev nD) (t : Fin cfg0.N) : Vec F S1x512x1 .f32 := View.canon (run V c t).2.1

/-- The data of the call: its arrays as it finds them, what each window's staging buffer holds after a point; the core's other
    buffers ride along, and nothing is owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => out3 V c t
    | ⟨4, _⟩ => out4 V c t
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = out3 V c t := by dsimp only [dat]
theorem after_4 (c : Dev nD) (t : Fin cfg0.N) : (dat V c).after 4 t = out4 V c t := by dsimp only [dat]

/-- An input window's staging buffer holds its block before every point. -/
theorem before_0 (c : Dev nD) (t : Fin cfg0.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-- No window is idle at any point. -/
theorem live (w : Fin cfg0.W) (t : Fin cfg0.N) : cfg0.idle w (grid0.coords t) = false := by
  revert w t; decide +kernel

/-- A window's buffer is left exactly at the contents stated after the point. -/
theorem leaves (c : Dev nD) (t : Fin cfg0.N) (w : Fin cfg0.W) :
    (dat V c).leavesExact w t = owns (c : Thread nD τ) ((cfg0.win w).stage (cfg0.slots t w)) fullShare ((dat V c).after w t) := by
  unfold Dat.leavesExact; rw [live w t]

/-- The pieces stored into output window 3's block cover it. -/
theorem cover3 (c : Dev nD) (t : Fin cfg0.N) (y : S1x512x64.Idx) : ∃ pc ∈ (run V c t).1, y ∈ pc.1.set := by
  exact View.cover_of_tiledL (run V c t).1 S1x256x64.size (by sl_kernel_rfl) y

/-- The pieces stored into output window 4's block cover it. -/
theorem cover4 (c : Dev nD) (t : Fin cfg0.N) (y : S1x512x1.Idx) : ∃ pc ∈ (run V c t).2.1, y ∈ pc.1.set := by
  exact View.cover_of_tiledL (run V c t).2.1 S1x256x1.size (by sl_kernel_rfl) y

/-- What the body is entered with at point `t`. -/
def entry (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

/-- What it leaves. -/
def exit (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

/-- The body at a point, from its entry to its exit. -/
theorem sound (c : Dev nD) (t : Fin cfg0.N) :
    entry V c t ⊢ wp frame (wpE (defs₀ (F := F)) Variants.none c none) Set.univ (bodyAt0 t) (fun _ => exit V c t) := by
  unfold entry exit bodyAt0
  simp only [before_0, before_1, before_2]
  rw [show (dat V c).Φ t.succ = (dat V c).Φ t.castSucc from rfl,
    show (dat V c).owesAt () t.succ = (dat V c).owesAt () t.castSucc from rfl]
  rw [leaves V c t 0, leaves V c t 1, leaves V c t 2, leaves V c t 3, leaves V c t 4]
  rw [after_0, after_1, after_2, after_3, after_4]
  iintro ⟨HΦ, Ho, ⟨%d0, H0⟩, ⟨%d1, H1⟩, ⟨%d2, H2⟩, ⟨%d3, H3⟩, ⟨%d4, H4⟩⟩
  iapply ((run V c t).2.2 Set.univ _)
  isplitl [H0]; · iexact H0
  isplitl [H1]; · iexact H1
  isplitl [H2]; · iexact H2
  isplitl [H3]; · iexists _; iexact H3
  isplitl [H4]; · iexists _; iexact H4
  iintro ⟨H0, H1, H2, ⟨%e3, H3⟩, ⟨%e4, H4⟩⟩
  isplitl [HΦ]; · iexact HΦ
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_eq_canon _ _ _ (cover3 V c t)
  unfold owns; iexists _; isplitr
  swap; · iexact H4
  ipureintro; exact View.read_writes_eq_canon _ _ _ (cover4 V c t)

/-- The body's obligation at every point. -/
theorem obligation (c : Dev nD) : BodyObligation (dat (F := F) V c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (sound V c t) rfl .rfl fun _ => .rfl

end Cert.BandIdeal.Hand0

end
-- ==== Proof.BandBody1.lean ====
/- THE BACKWARD KERNEL OF THE BANDED ATTENTION AT ONE GRID POINT: run from any contents of the three gradient blocks, it zeroes the
   blocks of dk and dv, adds two query tiles' parts to a span of rows each, and stores two halves of dq. -/
module

public import proofs.«01_k».proof.Proof.Gen.BandIdeal.Launch
public import proofs.«01_k».proof.Proof.Gen.BandIdeal.Skeleton
public import proofs.«01_k».proof.Proof.Gen.BandIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.BandIdeal.Hand

open Cert.BandIdeal Cert.BandIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The condition under which a point clears the blocks of dk and dv: its second coordinate is zero. -/
abbrev first (i : grid1.Coords) : Prop :=
  (Scalar.cmpi .ne (Scalar.extui (Scalar.cmpi .eq (BitVec.ofNat 32 (i 1).val) 0#32)) 0#32) = 1#1

/-- The grid's second axis has one value, so every point clears its blocks. -/
theorem first_all : ∀ t : Fin cfg1.N, first (grid1.coords t) := by decide +kernel

section
variable (c : Dev nD) (i : grid1.Coords)
  (a2 : Memref sig .tc .vmem S1x512x64 .bf16) (h2 : a2.IsWhole) (a3 : Memref sig .tc .vmem S1x640x64 .bf16) (h3 : a3.IsWhole)
  (a4 : Memref sig .tc .vmem S1x640x64 .bf16) (h4 : a4.IsWhole) (a5 : Memref sig .tc .vmem S1x512x64 .f32) (h5 : a5.IsWhole)
  (a6 : Memref sig .tc .vmem S1x512x1 .f32) (h6 : a6.IsWhole) (a7 : Memref sig .tc .vmem S1x512x64 .f32) (h7 : a7.IsWhole)
  (a8 : Memref sig .tc .vmem S1x512x1 .f32) (h8 : a8.IsWhole) (a9 : Memref sig .tc .vmem S1x512x64 .f32) (h9 : a9.IsWhole)
  (a10 : Memref sig .tc .vmem S1x640x64 .f32) (h10 : a10.IsWhole) (a11 : Memref sig .tc .vmem S1x640x64 .f32) (h11 : a11.IsWhole)
  (hf : first i)
  (x0 : Vec F S1x512x64 .bf16) (x1 x2 : Vec F S1x640x64 .bf16) (x3 : Vec F S1x512x64 .f32) (x4 : Vec F S1x512x1 .f32)
  (x5 : Vec F S1x512x64 .f32) (x6 : Vec F S1x512x1 .f32)

set_option maxHeartbeats 4000000 in
/-- The pieces that the point stores into the blocks of dq, dk and dv, with the proof that the body, holding the input blocks at
    their contents and the three gradient blocks at any contents, ends with these pieces written. -/
noncomputable def pieces :
    Σ' (L7 : List (View.Piece (Elt F) S1x512x64 .f32)) (L8 : List (View.Piece (Elt F) S1x640x64 .f32)),
    { L9 : List (View.Piece (Elt F) S1x640x64 .f32) //
      ∀ (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4 ∗ owns (c : Thread nD τ) a7 fullShare x5
            ∗ owns (c : Thread nD τ) a8 fullShare x6
            ∗ (∃ d, owns (c : Thread nD τ) a9 fullShare d) ∗ (∃ d, owns (c : Thread nD τ) a10 fullShare d) ∗ (∃ d, owns (c : Thread nD τ) a11 fullShare d)
            ∗ (iprop(owns (c : Thread nD τ) a2 fullShare x0 ∗ owns (c : Thread nD τ) a3 fullShare x1 ∗ owns (c : Thread nD τ) a4 fullShare x2
              ∗ owns (c : Thread nD τ) a5 fullShare x3 ∗ owns (c : Thread nD τ) a6 fullShare x4 ∗ owns (c : Thread nD τ) a7 fullShare x5
              ∗ owns (c : Thread nD τ) a8 fullShare x6
              ∗ (∃ f, a9.view.loc (c : Thread nD τ) ↦[a9.view.set]{fullShare} a9.view.writes (Elt F) f L7)
              ∗ (∃ f, a10.view.loc (c : Thread nD τ) ↦[a10.view.set]{fullShare} a10.view.writes (Elt F) f L8)
              ∗ (∃ f, a11.view.loc (c : Thread nD τ) ↦[a11.view.set]{fullShare} a11.view.writes (Elt F) f L9)) -∗ K ⟨⟩))
          ⊢ wp frame (wpE (defs₀ (F := F)) Variants.none c none) E
              (cc1_att_b16_bwd i a2 h2 a3 h3 a4 h4 a5 h5 a6 h6 a7 h7 a8 h8 a9 h9 a10 h10 a11 h11) K } := by
  refine ⟨?_, ?_, ?_, fun E K => ?run⟩
  case run =>
    simp only [cc1_att_b16_bwd_eq_skeleton]
    unfold cc1_att_b16_bwd_skel
    simp only [k1_part1_eq_skeleton, k1_part2_eq_skeleton, k1_part3_eq_skeleton, k1_part4_eq_skeleton]
    unfold k1_part1_skel k1_part2_skel k1_part3_skel k1_part4_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
      ⟨%d7, %f7, -, H7⟩, ⟨%d8, %f8, -, H8⟩, ⟨%d9, %f9, -, H9⟩, Hk⟩
    obtain rfl := h2.eq_unread hf0; obtain rfl := h3.eq_unread hf1; obtain rfl := h4.eq_unread hf2; obtain rfl := h5.eq_unread hf3
    obtain rfl := h6.eq_unread hf4; obtain rfl := h7.eq_unread hf5; obtain rfl := h8.eq_unread hf6
    sl_exec (disch := sl_exact hf)
    sl_step
    iapply Hk
    isplitl [H0]; · iexists _; isplitr; · ipureintro; exact h2.read_unread _
                    iexact H0
    isplitl [H1]; · iexists _; isplitr; · ipureintro; exact h3.read_unread _
                    iexact H1
    isplitl [H2]; · iexists _; isplitr; · ipureintro; exact h4.read_unread _
                    iexact H2
    isplitl [H3]; · iexists _; isplitr; · ipureintro; exact h5.read_unread _
                    iexact H3
    isplitl [H4]; · iexists _; isplitr; · ipureintro; exact h6.read_unread _
                    iexact H4
    isplitl [H5]; · iexists _; isplitr; · ipureintro; exact h7.read_unread _
                    iexact H5
    isplitl [H6]; · iexists _; isplitr; · ipureintro; exact h8.read_unread _
                    iexact H6
    isplitl [H7]; · iexists _; iexact H7
    isplitl [H8]; · iexists _; iexact H8
    iexists _; iexact H9

end

end Cert.BandIdeal.Hand

end
-- ==== Proof.BandTiles.lean ====
/- WHAT ONE GRID POINT STORES: the pieces of the backward and of the forward kernel, in terms of the two query tiles. -/
module

public import proofs.«01_k».proof.Proof.BandBody0
public import proofs.«01_k».proof.Proof.BandBody1
public import Idealize.ShloMosaic.Lib.Pipeline.Value

@[expose] public section

set_option maxRecDepth 16384
set_option backward.proofsInPublic true

noncomputable section

namespace Cert.BandIdeal.Hand

open Cert.BandIdeal Cert.BandIdeal.Gen
open Idealize.ShloMosaic Idealize.ShloMosaic.TcCoe Idealize.ShloMosaic.Tactic

variable {F : FTy → Type} [FloatOps F] [Named F]

/-- Rows 0–255 and rows 256–511 of a block of 512 rows, and the two spans of 384 keys of a block of 640 keys. -/
abbrev top : Rect S1x512x64 := Rect.unit ![0, 0, 0] S1x256x64.size inb_S1x512x64_S1x256x64_0_0_0
abbrev bot : Rect S1x512x64 := Rect.unit ![0, 256, 0] S1x256x64.size inb_S1x512x64_S1x256x64_0_256_0
abbrev top1 : Rect S1x512x1 := Rect.unit ![0, 0, 0] S1x256x1.size inb_S1x512x1_S1x256x1_0_0_0
abbrev bot1 : Rect S1x512x1 := Rect.unit ![0, 256, 0] S1x256x1.size inb_S1x512x1_S1x256x1_0_256_0
abbrev all : Rect S1x640x64 := Rect.unit ![0, 0, 0] S1x640x64.size inb_S1x640x64_S1x640x64_0_0_0
abbrev span0 (i : grid1.Coords) : Rect S1x640x64 := Rect.unit (k1_off1 i 0#32) S1x384x64.size (k1_off1_inb i 0)
abbrev span1 (i : grid1.Coords) : Rect S1x640x64 := Rect.unit (k1_off1 i 256#32) S1x384x64.size (k1_off1_inb i 1)

/-- The first row of each tile, as the program computes it. -/
abbrev base0 (i : grid1.Coords) : BitVec 32 := Scalar.addi (Scalar.muli (BitVec.ofNat 32 (i 1).val) 512#32) 0#32
abbrev base1 (i : grid1.Coords) : BitVec 32 := Scalar.addi (Scalar.muli (BitVec.ofNat 32 (i 1).val) 512#32) 256#32

section
variable (i : grid1.Coords) (q : Vec F S1x256x64 .bf16) (k v : Vec F S1x384x64 .bf16) (o g : Vec F S1x256x64 .f32)
  (l dl : Vec F S1x256x1 .f32) (acc : Vec F S1x384x64 .f32)

/-- The first tile: the gradient of its scores, and what it stores of dv, dk and dq. -/
def ds0 : FVec F S256x384 .bf16 :=
  k1_pay15 (Scalar.subi (base0 i) 64#32) (k1_pay8 v) (k1_pay10 g o dl) (k1_pay11 g) (k1_pay12 q k) (k1_pay13 i)
    (iota .tc S1x384 32 [1] iota_S1x384_d1_w32) l
def dv0 : FVec F S1x384x64 .f32 :=
  k1_pay16 (Scalar.subi (base0 i) 64#32) (k1_pay11 g) (k1_pay12 q k) (k1_pay13 i) (iota .tc S1x384 32 [1] iota_S1x384_d1_w32) l acc
def dk0 : FVec F S1x384x64 .f32 := k1_pay17 (k1_pay6 q) (ds0 i q k v o g l dl) acc
def dq0 : FVec F S1x256x64 .f32 := k1_pay18 (k1_pay7 k) (ds0 i q k v o g l dl)

/-- The second tile: the same. -/
def ds1 : FVec F S256x384 .bf16 :=
  k1_pay26 (base1 i) (k1_pay19 q) (Scalar.subi (base1 i) 64#32) (k1_pay20 k) (k1_pay21 v) (k1_pay22 g) (k1_pay23 g o) dl l
def dv1 : FVec F S1x384x64 .f32 :=
  k1_pay1 (k1_pay24 (k1_pay22 g)) (k1_pay25 (base1 i) (k1_pay19 q) (Scalar.subi (base1 i) 64#32) (k1_pay20 k) l) acc
def dk1 : FVec F S1x384x64 .f32 := k1_pay2 (k1_pay19 q) (ds1 i q k v o g l dl) acc
def dq1 : FVec F S1x256x64 .f32 := k1_pay3 (k1_pay20 k) (ds1 i q k v o g l dl)
end

section
variable (c : Dev nD) (i : grid1.Coords)
  (a2 : Memref sig .tc .vmem S1x512x64 .bf16) (h2 : a2.IsWhole) (a3 : Memref sig .tc .vmem S1x640x64 .bf16) (h3 : a3.IsWhole)
  (a4 : Memref sig .tc .vmem S1x640x64 .bf16) (h4 : a4.IsWhole) (a5 : Memref sig .tc .vmem S1x512x64 .f32) (h5 : a5.IsWhole)
  (a6 : Memref sig .tc .vmem S1x512x1 .f32) (h6 : a6.IsWhole) (a7 : Memref sig .tc .vmem S1x512x64 .f32) (h7 : a7.IsWhole)
  (a8 : Memref sig .tc .vmem S1x512x1 .f32) (h8 : a8.IsWhole) (a9 : Memref sig .tc .vmem S1x512x64 .f32) (h9 : a9.IsWhole)
  (a10 : Memref sig .tc .vmem S1x640x64 .f32) (h10 : a10.IsWhole) (a11 : Memref sig .tc .vmem S1x640x64 .f32) (h11 : a11.IsWhole)
  (hf : first i)
  (x0 : Vec F S1x512x64 .bf16) (x1 x2 : Vec F S1x640x64 .bf16) (x3 : Vec F S1x512x64 .f32) (x4 : Vec F S1x512x1 .f32)
  (x5 : Vec F S1x512x64 .f32) (x6 : Vec F S1x512x1 .f32)

/-- The pieces of dq: the two halves. -/
theorem pieces_dq : (pieces c i a2 h2 a3 h3 a4 h4 a5 h5 a6 h6 a7 h7 a8 h8 a9 h9 a10 h10 a11 h11 hf x0 x1 x2 x3 x4 x5 x6).1
    = [⟨bot, dq1 i (View.ld x0 bot) (View.ld x1 (span1 i)) (View.ld x2 (span1 i)) (View.ld x3 bot) (View.ld x5 bot) (View.ld x4 bot1) (View.ld x6 bot1)⟩,
       ⟨top, dq0 i (View.ld x0 top) (View.ld x1 (span0 i)) (View.ld x2 (span0 i)) (View.ld x3 top) (View.ld x5 top) (View.ld x4 top1) (View.ld x6 top1)⟩] := by
  delta pieces
  dsimp only
  sl_unfold_run_names
  simp only [View.readAt_eq_ld, h2.read_unread, h3.read_unread, h4.read_unread, h5.read_unread, h6.read_unread, h7.read_unread, h8.read_unread]
  rfl

/-- The pieces of dk: zeros, then the two tiles' parts added to their spans. -/
theorem pieces_dk : (pieces c i a2 h2 a3 h3 a4 h4 a5 h5 a6 h6 a7 h7 a8 h8 a9 h9 a10 h10 a11 h11 hf x0 x1 x2 x3 x4 x5 x6).2.1
    = (⟨span1 i, dk1 i (View.ld x0 bot) (View.ld x1 (span1 i)) (View.ld x2 (span1 i)) (View.ld x3 bot) (View.ld x5 bot) (View.ld x4 bot1) (View.ld x6 bot1)
          (View.ld (View.canon [⟨span0 i, dk0 i (View.ld x0 top) (View.ld x1 (span0 i)) (View.ld x2 (span0 i)) (View.ld x3 top) (View.ld x5 top) (View.ld x4 top1) (View.ld x6 top1)
            (View.ld (View.canon [⟨all, k1_pay4 (F := F)⟩]) (span0 i))⟩, ⟨all, k1_pay4 (F := F)⟩]) (span1 i))⟩
       :: [⟨span0 i, dk0 i (View.ld x0 top) (View.ld x1 (span0 i)) (View.ld x2 (span0 i)) (View.ld x3 top) (View.ld x5 top) (View.ld x4 top1) (View.ld x6 top1)
            (View.ld (View.canon [⟨all, k1_pay4 (F := F)⟩]) (span0 i))⟩, ⟨all, k1_pay4 (F := F)⟩]) := by
  delta pieces
  dsimp only
  sl_unfold_run_names
  simp only [View.readAt_eq_ld, h2.read_unread, h3.read_unread, h4.read_unread, h5.read_unread, h6.read_unread, h7.read_unread, h8.read_unread,
    View.read_writes_junk_eq_canon, dk0, dk1, dv0, dv1, ds0, ds1]

/-- The pieces of dv: likewise. -/
theorem pieces_dv : (pieces c i a2 h2 a3 h3 a4 h4 a5 h5 a6 h6 a7 h7 a8 h8 a9 h9 a10 h10 a11 h11 hf x0 x1 x2 x3 x4 x5 x6).2.2.1
    = (⟨span1 i, dv1 i (View.ld x0 bot) (View.ld x1 (span1 i)) (View.ld x5 bot) (View.ld x4 bot1)
          (View.ld (View.canon [⟨span0 i, dv0 i (View.ld x0 top) (View.ld x1 (span0 i)) (View.ld x5 top) (View.ld x4 top1)
            (View.ld (View.canon [⟨all, k1_pay5 (F := F)⟩]) (span0 i))⟩, ⟨all, k1_pay5 (F := F)⟩]) (span1 i))⟩
       :: [⟨span0 i, dv0 i (View.ld x0 top) (View.ld x1 (span0 i)) (View.ld x5 top) (View.ld x4 top1)
            (View.ld (View.canon [⟨all, k1_pay5 (F := F)⟩]) (span0 i))⟩, ⟨all, k1_pay5 (F := F)⟩]) := by
  delta pieces
  dsimp only
  sl_unfold_run_names
  simp only [View.readAt_eq_ld, h2.read_unread, h3.read_unread, h4.read_unread, h5.read_unread, h6.read_unread, h7.read_unread, h8.read_unread,
    View.read_writes_junk_eq_canon, dk0, dk1, dv0, dv1, ds0, ds1]
end

end Cert.BandIdeal.Hand

end
-- ==== Proof.BandDat1.lean ====
/- THE BACKWARD CALL OF THE BANDED ATTENTION: what it does at every grid point, stated for the launch. -/
module

public import proofs.«01_k».proof.Proof.BandTiles
public import Idealize.ShloMosaic.Lib.Pipeline.Value

@[expose] public section

set_option maxRecDepth 16384

noncomputable section

namespace Cert.BandIdeal.Hand

open Cert.BandIdeal Cert.BandIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The offset of a whole block. -/
theorem zero3 : (![0, 0, 0] : Fin 3 → ℕ) = fun _ => 0 := by decide

-- what the core's buffers hold when the call begins
variable (V : (c : Dev nD) → (b : Ref sig .tc) → Buf (Elt F) ((c : Thread nD τ).loc b))

/-- The block of window `w` at point `t`, read off its array. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Window 0's staging buffer at point `t`. -/
abbrev ms0 (t : Fin cfg1.N) : Memref sig .tc .vmem S1x512x64 .bf16 := win1_0.stage (cfg1.slots t 0)
abbrev hs0 (t : Fin cfg1.N) : (ms0 t).IsWhole := hstage1_0 ((cfg1.slots t 0).cast nbuf1_0)
/-- Window 1's staging buffer at point `t`. -/
abbrev ms1 (t : Fin cfg1.N) : Memref sig .tc .vmem S1x640x64 .bf16 := win1_1.stage (cfg1.slots t 1)
abbrev hs1 (t : Fin cfg1.N) : (ms1 t).IsWhole := hstage1_1 ((cfg1.slots t 1).cast nbuf1_1)
/-- Window 2's staging buffer at point `t`. -/
abbrev ms2 (t : Fin cfg1.N) : Memref sig .tc .vmem S1x640x64 .bf16 := win1_2.stage (cfg1.slots t 2)
abbrev hs2 (t : Fin cfg1.N) : (ms2 t).IsWhole := hstage1_2 ((cfg1.slots t 2).cast nbuf1_2)
/-- Window 3's staging buffer at point `t`. -/
abbrev ms3 (t : Fin cfg1.N) : Memref sig .tc .vmem S1x512x64 .f32 := win1_3.stage (cfg1.slots t 3)
abbrev hs3 (t : Fin cfg1.N) : (ms3 t).IsWhole := hstage1_3 ((cfg1.slots t 3).cast nbuf1_3)
/-- Window 4's staging buffer at point `t`. -/
abbrev ms4 (t : Fin cfg1.N) : Memref sig .tc .vmem S1x512x1 .f32 := win1_4.stage (cfg1.slots t 4)
abbrev hs4 (t : Fin cfg1.N) : (ms4 t).IsWhole := hstage1_4 ((cfg1.slots t 4).cast nbuf1_4)
/-- Window 5's staging buffer at point `t`. -/
abbrev ms5 (t : Fin cfg1.N) : Memref sig .tc .vmem S1x512x64 .f32 := win1_5.stage (cfg1.slots t 5)
abbrev hs5 (t : Fin cfg1.N) : (ms5 t).IsWhole := hstage1_5 ((cfg1.slots t 5).cast nbuf1_5)
/-- Window 6's staging buffer at point `t`. -/
abbrev ms6 (t : Fin cfg1.N) : Memref sig .tc .vmem S1x512x1 .f32 := win1_6.stage (cfg1.slots t 6)
abbrev hs6 (t : Fin cfg1.N) : (ms6 t).IsWhole := hstage1_6 ((cfg1.slots t 6).cast nbuf1_6)
/-- Window 7's staging buffer at point `t`. -/
abbrev ms7 (t : Fin cfg1.N) : Memref sig .tc .vmem S1x512x64 .f32 := win1_7.stage (cfg1.slots t 7)
abbrev hs7 (t : Fin cfg1.N) : (ms7 t).IsWhole := hstage1_7 ((cfg1.slots t 7).cast nbuf1_7)
/-- Window 8's staging buffer at point `t`. -/
abbrev ms8 (t : Fin cfg1.N) : Memref sig .tc .vmem S1x640x64 .f32 := win1_8.stage (cfg1.slots t 8)
abbrev hs8 (t : Fin cfg1.N) : (ms8 t).IsWhole := hstage1_8 ((cfg1.slots t 8).cast nbuf1_8)
/-- Window 9's staging buffer at point `t`. -/
abbrev ms9 (t : Fin cfg1.N) : Memref sig .tc .vmem S1x640x64 .f32 := win1_9.stage (cfg1.slots t 9)
abbrev hs9 (t : Fin cfg1.N) : (ms9 t).IsWhole := hstage1_9 ((cfg1.slots t 9).cast nbuf1_9)

/-- The pieces stored at point `t`. -/
abbrev run (c : Dev nD) (t : Fin cfg1.N) :=
  pieces (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (first_all t) (iblk V c 0 t) (iblk V c 1 t) (iblk V c 2 t) (iblk V c 3 t) (iblk V c 4 t) (iblk V c 5 t) (iblk V c 6 t)

/-- The contents of output window 7's block after point `t`. -/
def out7 (c : Dev nD) (t : Fin cfg1.N) : Vec F S1x512x64 .f32 := View.canon (run V c t).1

/-- The contents of output window 8's block after point `t`. -/
def out8 (c : Dev nD) (t : Fin cfg1.N) : Vec F S1x640x64 .f32 := View.canon (run V c t).2.1

/-- The contents of output window 9's block after point `t`. -/
def out9 (c : Dev nD) (t : Fin cfg1.N) : Vec F S1x640x64 .f32 := View.canon (run V c t).2.2.1

/-- The data of the call: its arrays as it finds them, what each window's staging buffer holds after a point; the core's other
    buffers ride along, and nothing is owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => out7 V c t
    | ⟨8, _⟩ => out8 V c t
    | ⟨9, _⟩ => out9 V c t
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = iblk V c 6 t := by dsimp only [dat]
theorem after_7 (c : Dev nD) (t : Fin cfg1.N) : (dat V c).after 7 t = out7 V c t := by dsimp only [dat]
theorem after_8 (c : Dev nD) (t : Fin cfg1.N) : (dat V c).after 8 t = out8 V c t := by dsimp only [dat]
theorem after_9 (c : Dev nD) (t : Fin cfg1.N) : (dat V c).after 9 t = out9 V c t := by dsimp only [dat]

/-- An input window's staging buffer holds its block before every point. -/
theorem before_0 (c : Dev nD) (t : Fin cfg1.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat V c).before 3 t d = iblk V c 3 t :=
  ((dat V c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg1.N) (d) : (dat V c).before 4 t d = iblk V c 4 t :=
  ((dat V c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin cfg1.N) (d) : (dat V c).before 5 t d = iblk V c 5 t :=
  ((dat V c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
theorem before_6 (c : Dev nD) (t : Fin cfg1.N) (d) : (dat V c).before 6 t d = iblk V c 6 t :=
  ((dat V c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)

/-- No window is idle at any point. -/
theorem live (w : Fin cfg1.W) (t : Fin cfg1.N) : cfg1.idle w (grid1.coords t) = false := by
  revert w t; decide +kernel

/-- A window's buffer is left exactly at the contents stated after the point. -/
theorem leaves (c : Dev nD) (t : Fin cfg1.N) (w : Fin cfg1.W) :
    (dat V c).leavesExact w t = owns (c : Thread nD τ) ((cfg1.win w).stage (cfg1.slots t w)) fullShare ((dat V c).after w t) := by
  unfold Dat.leavesExact; rw [live w t]

/-- The pieces stored into output window 7's block cover it. -/
theorem cover7 (c : Dev nD) (t : Fin cfg1.N) (y : S1x512x64.Idx) : ∃ pc ∈ (run V c t).1, y ∈ pc.1.set := by
  exact View.cover_of_tiledL (run V c t).1 S1x256x64.size (by sl_kernel_rfl) y

/-- The pieces stored into output window 8's block cover it. -/
theorem cover8 (c : Dev nD) (t : Fin cfg1.N) (y : S1x640x64.Idx) : ∃ pc ∈ (run V c t).2.1, y ∈ pc.1.set := by
  rw [run, pieces_dk]
  exact ⟨_, List.mem_cons_of_mem _ (List.mem_cons_of_mem _ List.mem_cons_self), View.mem_set_unit_zero zero3 inb_S1x640x64_S1x640x64_0_0_0 y⟩

/-- The pieces stored into output window 9's block cover it. -/
theorem cover9 (c : Dev nD) (t : Fin cfg1.N) (y : S1x640x64.Idx) : ∃ pc ∈ (run V c t).2.2.1, y ∈ pc.1.set := by
  rw [run, pieces_dv]
  exact ⟨_, List.mem_cons_of_mem _ (List.mem_cons_of_mem _ List.mem_cons_self), View.mem_set_unit_zero zero3 inb_S1x640x64_S1x640x64_0_0_0 y⟩

/-- What the body is entered with at point `t`. -/
def entry (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d))
    ∗ (∃ d, owns (c : Thread nD τ) (ms7 t) fullShare ((dat V c).before 7 t d))
    ∗ (∃ d, owns (c : Thread nD τ) (ms8 t) fullShare ((dat V c).before 8 t d))
    ∗ (∃ d, owns (c : Thread nD τ) (ms9 t) fullShare ((dat V c).before 9 t d)))

/-- What it leaves. -/
def exit (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t)

/-- The body at a point, from its entry to its exit. -/
theorem sound (c : Dev nD) (t : Fin cfg1.N) :
    entry V c t ⊢ wp frame (wpE (defs₀ (F := F)) Variants.none c none) Set.univ (bodyAt1 t) (fun _ => exit V c t) := by
  unfold entry exit bodyAt1
  simp only [before_0, before_1, before_2, before_3, before_4, before_5, before_6]
  rw [show (dat V c).Φ t.succ = (dat V c).Φ t.castSucc from rfl,
    show (dat V c).owesAt () t.succ = (dat V c).owesAt () t.castSucc from rfl]
  rw [leaves V c t 0, leaves V c t 1, leaves V c t 2, leaves V c t 3, leaves V c t 4, leaves V c t 5, leaves V c t 6, leaves V c t 7, leaves V c t 8, leaves V c t 9]
  rw [after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((run V c t).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, ⟨%e7, H7⟩, ⟨%e8, H8⟩, ⟨%e9, H9⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_eq_canon _ _ _ (cover7 V c t)
  isplitl [H8]
  · unfold owns; iexists _; isplitr
    swap; · iexact H8
    ipureintro; exact View.read_writes_eq_canon _ _ _ (cover8 V c t)
  unfold owns; iexists _; isplitr
  swap; · iexact H9
  ipureintro; exact View.read_writes_eq_canon _ _ _ (cover9 V c t)

/-- The body's obligation at every point. -/
theorem obligation (c : Dev nD) : BodyObligation (dat (F := F) V c) (defs₀ (F := F)) Variants.none () Set.univ := fun t => by
  rw [bigSep_W1, bigSep_W1, show defs₀ (F := F) .tc cfg1.body (cfg1.bodyArgs t (cfg1.slots t)) = bodyAt1 t from by
    unfold defs₀; rw [Defs.onTc_tc]]
  exact triple_restated (sound V c t) rfl .rfl fun _ => .rfl

end Cert.BandIdeal.Hand

end
-- ==== Proof.BandRun.lean ====
/- THE PROGRAM OF THE BANDED ATTENTION RUN TO ITS END: every buffer holds what the last host stretch leaves, the arguments are
   unchanged, and every counter is zero. The text is over any reading `F` of the floats. -/
module

public import proofs.«01_k».proof.Proof.BandDat0
public import proofs.«01_k».proof.Proof.BandDat1
public import proofs.«01_k».proof.Proof.Gen.BandIdeal.Regions

@[expose] public section

set_option maxRecDepth 16384

noncomputable section

namespace Cert.BandIdeal.Run

open Cert.BandIdeal Cert.BandIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- The argument arrays. -/
abbrev args : List (Ref sig .tc) := [main_arg0, main_arg1, main_arg2, main_arg3, main_arg4]

/-- The buffers at launch, and after each host stretch before the forward call. -/
abbrev B0 (c : Dev nD) : Valuation τ sig (Elt F) := fun b => m (c, b)
abbrev B1 (c : Dev nD) : Valuation τ sig (Elt F) := StableHlo.after hostOps0 (B0 m c)
abbrev B2 (c : Dev nD) : Valuation τ sig (Elt F) := StableHlo.after hostOps0_1 (B1 m c)
abbrev B3 (c : Dev nD) : Valuation τ sig (Elt F) := StableHlo.after hostOps0_2 (B2 m c)
abbrev B4 (c : Dev nD) : Valuation τ sig (Elt F) := StableHlo.after hostOps0_3 (B3 m c)
/-- What the forward call is entered with. -/
abbrev E4 : (c : Dev nD) → (b : Ref sig .tc) → Buf (Elt F) ((c : Thread nD τ).loc b) := fun c b => B4 m c b
/-- After the forward call: its arrays as its points leave them, the rest as before it. -/
def B5 (c : Dev nD) : Valuation τ sig (Elt F) :=
  Pipeline.withArrays spec0 c (B4 m c) fun w => (Hand0.dat (E4 m) c).arrAt w cfg0.N
abbrev E5 : (c : Dev nD) → (b : Ref sig .tc) → Buf (Elt F) ((c : Thread nD τ).loc b) := fun c b => B5 m c b
abbrev B6 (c : Dev nD) : Valuation τ sig (Elt F) := StableHlo.after hostOps1 (B5 m c)
/-- What the backward call is entered with. -/
abbrev E6 : (c : Dev nD) → (b : Ref sig .tc) → Buf (Elt F) ((c : Thread nD τ).loc b) := fun c b => B6 m c b
/-- After the backward call: its arrays as its points leave them, the rest as before it. -/
def B7 (c : Dev nD) : Valuation τ sig (Elt F) :=
  Pipeline.withArrays spec1 c (B6 m c) fun w => (Hand.dat (E6 m) c).arrAt w cfg1.N
abbrev E7 : (c : Dev nD) → (b : Ref sig .tc) → Buf (Elt F) ((c : Thread nD τ).loc b) := fun c b => B7 m c b
/-- At the end. -/
abbrev B8 (c : Dev nD) : Valuation τ sig (Elt F) := StableHlo.after hostOps2 (B7 m c)

theorem B5_arr (c : Dev nD) (w : Fin cfg0.W) :
    B5 m c (Proc.devRef .tc (Pipeline.arrRef spec0 w)) = (Hand0.dat (E4 m) c).arrAt w cfg0.N := by
  unfold B5; exact Pipeline.withArrays_arr spec0 launch0.win.arr_inj c _ _ w

theorem B5_of_ne (c : Dev nD) (b : Ref sig .tc) (hb : ∀ w, Pipeline.arrRef spec0 w ≠ b) :
    B5 m c (Proc.devRef .tc b) = B4 m c (Proc.devRef .tc b) := by
  unfold B5; exact Pipeline.withArrays_of_ne spec0 c _ _ b hb

/-- A buffer that is no output array of the call is as it was before the call. -/
theorem B5_of (c : Dev nD) (r : Ref sig .tc) (h : ∀ w : Fin cfg0.W, Pipeline.arrRef spec0 w = r → (cfg0.win w).isOut = false) :
    B5 m c (Proc.devRef .tc r) = B4 m c (Proc.devRef .tc r) := by
  by_cases hw : ∃ w : Fin cfg0.W, Pipeline.arrRef spec0 w = r
  · obtain ⟨w, rfl⟩ := hw
    exact (B5_arr m c w).trans (((Hand0.dat (E4 m) c).arrAt_in w (h w rfl) _).trans (Hand0.A_eq (E4 m) c w))
  · exact B5_of_ne m c r fun w e => hw ⟨w, e⟩

theorem B7_arr (c : Dev nD) (w : Fin cfg1.W) :
    B7 m c (Proc.devRef .tc (Pipeline.arrRef spec1 w)) = (Hand.dat (E6 m) c).arrAt w cfg1.N := by
  unfold B7; exact Pipeline.withArrays_arr spec1 launch1.win.arr_inj c _ _ w

theorem B7_of_ne (c : Dev nD) (b : Ref sig .tc) (hb : ∀ w, Pipeline.arrRef spec1 w ≠ b) :
    B7 m c (Proc.devRef .tc b) = B6 m c (Proc.devRef .tc b) := by
  unfold B7; exact Pipeline.withArrays_of_ne spec1 c _ _ b hb

/-- A buffer that is no output array of the call is as it was before the call. -/
theorem B7_of (c : Dev nD) (r : Ref sig .tc) (h : ∀ w : Fin cfg1.W, Pipeline.arrRef spec1 w = r → (cfg1.win w).isOut = false) :
    B7 m c (Proc.devRef .tc r) = B6 m c (Proc.devRef .tc r) := by
  by_cases hw : ∃ w : Fin cfg1.W, Pipeline.arrRef spec1 w = r
  · obtain ⟨w, rfl⟩ := hw
    exact (B7_arr m c w).trans (((Hand.dat (E6 m) c).arrAt_in w (h w rfl) _).trans (Hand.A_eq (E6 m) c w))
  · exact B7_of_ne m c r fun w e => hw ⟨w, e⟩

theorem B1_of (c : Dev nD) (r : Ref sig .tc) (h : r ∉ hostOps0_W) : B1 m c (Proc.devRef .tc r) = B0 m c (Proc.devRef .tc r) :=
  StableHlo.after_of_writes_sub hostOps0 _ hostOps0_writes h
theorem B2_of (c : Dev nD) (r : Ref sig .tc) (h : r ∉ hostOps0_1_W) : B2 m c (Proc.devRef .tc r) = B1 m c (Proc.devRef .tc r) :=
  StableHlo.after_of_writes_sub hostOps0_1 _ hostOps0_1_writes h
theorem B3_of (c : Dev nD) (r : Ref sig .tc) (h : r ∉ hostOps0_2_W) : B3 m c (Proc.devRef .tc r) = B2 m c (Proc.devRef .tc r) :=
  StableHlo.after_of_writes_sub hostOps0_2 _ hostOps0_2_writes h
theorem B4_of (c : Dev nD) (r : Ref sig .tc) (h : r ∉ hostOps0_3_W) : B4 m c (Proc.devRef .tc r) = B3 m c (Proc.devRef .tc r) :=
  StableHlo.after_of_writes_sub hostOps0_3 _ hostOps0_3_writes h
theorem B6_of (c : Dev nD) (r : Ref sig .tc) (h : r ∉ hostOps1_W) : B6 m c (Proc.devRef .tc r) = B5 m c (Proc.devRef .tc r) :=
  StableHlo.after_of_writes_sub hostOps1 _ hostOps1_writes h
theorem B8_of (c : Dev nD) (r : Ref sig .tc) (h : r ∉ hostOps2_W) : B8 m c (Proc.devRef .tc r) = B7 m c (Proc.devRef .tc r) :=
  StableHlo.after_of_writes_sub hostOps2 _ hostOps2_writes h

/-- No host stretch and no call writes an argument. -/
theorem args_end (c : Dev nD) : ∀ a ∈ args, B8 m c (Proc.devRef .tc a) = m ((c : Thread nD τ).loc a) := fun a ha =>
  (B8_of m c a ((by decide +kernel : ∀ a ∈ args, a ∉ hostOps2_W) a ha)).trans <|
  (B7_of m c a ((by decide +kernel : ∀ a ∈ args, ∀ w : Fin cfg1.W, Pipeline.arrRef spec1 w = a → (cfg1.win w).isOut = false) a ha)).trans <|
  (B6_of m c a ((by decide +kernel : ∀ a ∈ args, a ∉ hostOps1_W) a ha)).trans <|
  (B5_of m c a ((by decide +kernel : ∀ a ∈ args, ∀ w : Fin cfg0.W, Pipeline.arrRef spec0 w = a → (cfg0.win w).isOut = false) a ha)).trans <|
  (B4_of m c a ((by decide +kernel : ∀ a ∈ args, a ∉ hostOps0_3_W) a ha)).trans <|
  (B3_of m c a ((by decide +kernel : ∀ a ∈ args, a ∉ hostOps0_2_W) a ha)).trans <|
  (B2_of m c a ((by decide +kernel : ∀ a ∈ args, a ∉ hostOps0_1_W) a ha)).trans <|
  B1_of m c a ((by decide +kernel : ∀ a ∈ args, a ∉ hostOps0_W) a ha)

/-- No call has a prefetched table. -/
abbrev noTab : (p : Fin 2) → (pcfgs (F := F) p).Adm := fun p => (cfgs p).toPCfg_adm
/-- The data of both calls. -/
def pdats : (p : Fin 2) → (c : Dev nD) → Dat τ (Elt F) Unit ℕ (UR sig nD τ) ℕ (Pipeline.pin (pcfgs (F := F)) noTab p) c
  | ⟨0, _⟩ => fun c => Hand0.dat (E4 m) c
  | ⟨1, _⟩ => fun c => Hand.dat (E6 m) c
abbrev 𝒱₀ : Variants := Variants.none
abbrev L : GSem nD τ sig → Finset Unit := fun _ => ∅
abbrev lv : GSem nD τ sig → Unit → ℕ := fun _ _ => 0
/-- What rides through every segment: the generator register, and that the core owes nothing. -/
abbrev R (c : Dev nD) : sProp 𝕄 := iprop((∃ r, prngReg c r) ∗ ∃ W, owes (c : Thread nD τ) (0 : CellTallies nD τ sig Unit) W)
/-- A host stretch as a segment. -/
abbrev host (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state of a core. -/
abbrev Last (c : Dev nD) : sProp 𝕄 := iprop(StableHlo.held (c : Thread nD τ) (Pipeline.ucRefs τ sig) (B8 m c) ∗ ∃ r, prngReg c r)

set_option backward.isDefEq.respectTransparency.types false in
/-- The forward call as a segment, from the buffers at `B4` to the buffers at `B5`. -/
def reg0 : Pipeline.RegionSeg (pcfgs (F := F)) noTab (pdats m) () defs₀ 𝒱₀ L lv 0 where
  win := launch0.win.to₀
  block_pos := launch0.block_pos
  stage_whole := launch0.stage_whole
  K := PEmpty
  osem k := k.elim
  ho := Pipeline.OwnSemFacts.none _
  hbody c := (Hand0.obligation (E4 m) c).loose
  hwaits := Pipeline.hwaits_of_owed_zero _ _ _ _ L lv 0 fun _ _ => rfl
  pre c := iprop(StableHlo.held (c : Thread nD τ) (Pipeline.ucRefs τ sig) (B4 m c) ∗ R c)
  post c := iprop(StableHlo.held (c : Thread nD τ) (Pipeline.ucRefs τ sig) (B5 m c) ∗ R c)
  X c := iprop(∃ r, prngReg c r)
  Y c := iprop(∃ r, prngReg c r)
  Z c := Pipeline.unscopedRest (Ix := Unit) (Name := ℕ) (U := UR sig nD τ) (Lvl := ℕ) spec0 c (E4 m c)
  hentry c := by
    rw [Pipeline.ownSems0_none]
    have hsplit := Pipeline.arrays_of_unscopedBufs (p := 0) (pcfgs (F := F)) noTab (pdats m) launch0.win launch0.arr_whole c
      ((pdats m 0 c).share_full fun _ => rfl) (E4 m c) (Hand0.A_eq (E4 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTab (Ix := Unit) (Name := ℕ) (U := UR sig nD τ) (Lvl := ℕ)
      launch0.win launch0.arr_whole c (pdats m) ((pdats m 0 c).share_full fun _ => rfl)
      (E4 m c) (E5 m c) ((pdats m 0 c).arrAt · cfg0.N) (fun w => (B5_arr m c w).symm)
      (fun b hb => B5_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The backward call as a segment, from the buffers at `B6` to the buffers at `B7`. -/
def reg1 : Pipeline.RegionSeg (pcfgs (F := F)) noTab (pdats m) () defs₀ 𝒱₀ L lv 1 where
  win := launch1.win.to₀
  block_pos := launch1.block_pos
  stage_whole := launch1.stage_whole
  K := PEmpty
  osem k := k.elim
  ho := Pipeline.OwnSemFacts.none _
  hbody c := (Hand.obligation (E6 m) c).loose
  hwaits := Pipeline.hwaits_of_owed_zero _ _ _ _ L lv 1 fun _ _ => rfl
  pre c := iprop(StableHlo.held (c : Thread nD τ) (Pipeline.ucRefs τ sig) (B6 m c) ∗ R c)
  post c := iprop(StableHlo.held (c : Thread nD τ) (Pipeline.ucRefs τ sig) (B7 m c) ∗ R c)
  X c := iprop(∃ r, prngReg c r)
  Y c := iprop(∃ r, prngReg c r)
  Z c := Pipeline.unscopedRest (Ix := Unit) (Name := ℕ) (U := UR sig nD τ) (Lvl := ℕ) spec1 c (E6 m c)
  hentry c := by
    rw [Pipeline.ownSems0_none]
    have hsplit := Pipeline.arrays_of_unscopedBufs (p := 1) (pcfgs (F := F)) noTab (pdats m) launch1.win launch1.arr_whole c
      ((pdats m 1 c).share_full fun _ => rfl) (E6 m c) (Hand.A_eq (E6 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTab (Ix := Unit) (Name := ℕ) (U := UR sig nD τ) (Lvl := ℕ)
      launch1.win launch1.arr_whole c (pdats m) ((pdats m 1 c).share_full fun _ => rfl)
      (E6 m c) (E7 m c) ((pdats m 1 c).arrAt · cfg1.N) (fun w => (B7_arr m c w).symm)
      (fun b hb => B7_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program as its eight segments. -/
abbrev segments : List (Pipeline.Seg (pcfgs (F := F)) noTab (pdats m) () defs₀ 𝒱₀ L lv) :=
  [ .host (host hostOps0 hostOps0_sub hostOps0_fresh (B0 m)),
    .host (host hostOps0_1 hostOps0_1_sub hostOps0_1_fresh (B1 m)),
    .host (host hostOps0_2 hostOps0_2_sub hostOps0_2_fresh (B2 m)),
    .host (host hostOps0_3 hostOps0_3_sub hostOps0_3_fresh (B3 m)),
    .region (reg0 m),
    .host (host hostOps1 hostOps1_sub hostOps1_fresh (B5 m)),
    .region (reg1 m),
    .host (host hostOps2 hostOps2_sub hostOps2_fresh (B7 m)) ]

theorem main_segments (c : Dev nD) : main (F := F) c = Pipeline.Seg.run (segments m) := (main_chain c).trans (by chain_rfl)

theorem no_unscoped : ∀ sm : SemLoc sig, sm.isScoped .tc = true := by decide

variable (ρ : Dev nD → PrngReg)

set_option backward.isDefEq.respectTransparency.types false in
/-- Every execution ends with each unscoped buffer of each core at `B8`, and with every counter at zero. -/
theorem run_all :
    θ_run defs (onTc (τ := τ) (main (F := F))) ⟨m, fun _ => 0, ρ⟩
      (fun r => (∀ c : Dev nD, ∀ b ∈ Pipeline.ucRefs τ sig, r.2.mem (((c : Thread nD τ)).1, b) = B8 m c b) ∧ r.2.sem = fun _ => 0) :=
  Pipeline.θ_run_regions_kit_sems (pcfgs (F := F)) noTab (pdats m) () cellOf_inj emb₁ defs₀ 𝒱₀ L lv m ρ main (segments m)
    (fun c Q => by rw [main_segments m c])
    (by simp only [segments, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Last m)
    (hch := ⟨fun _ => .rfl, fun _ => .rfl, fun _ => .rfl, fun _ => .rfl, fun _ => .rfl, fun _ => .rfl, fun _ => .rfl, fun _ => .rfl, fun c => by
      dsimp only [Pipeline.Seg.post, host, Pipeline.HostSeg.ofOps]
      iintro ⟨Hh, Hp, HO⟩
      isplitr [HO]; · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B8 m c b)
    (hfin := fun c s' => by
      iintro ⟨⟨Hh, -⟩, HSI⟩
      unfold StableHlo.held
      imodintro
      iapply (pointsTo_read_all (Pipeline.ucRefs τ sig) (fun b => (((c : Thread nD τ)).1, b)) (B8 m c) s')
      isplitl [Hh] <;> iassumption)
    (hQ := fun _ h hz => ⟨h, funext fun g => hz g (.inr (no_unscoped g.2))⟩)

/-- The result arrays and the arguments at the end of a run. -/
theorem run_values :
    θ_run defs (onTc (τ := τ) (main (F := F))) ⟨m, fun _ => 0, ρ⟩ (fun r => ∀ c : Dev nD,
      r.2.mem ((c.tc : Thread nD τ).loc main_v17) = B8 m c (Proc.devRef .tc main_v17)
      ∧ r.2.mem ((c.tc : Thread nD τ).loc main_v21) = B8 m c (Proc.devRef .tc main_v21)
      ∧ r.2.mem ((c.tc : Thread nD τ).loc main_v34) = B8 m c (Proc.devRef .tc main_v34)
      ∧ r.2.mem ((c.tc : Thread nD τ).loc main_v37) = B8 m c (Proc.devRef .tc main_v37)
      ∧ r.2.mem ((c.tc : Thread nD τ).loc main_v40) = B8 m c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ hh c => by
    have h := hh.1
    exact ⟨h c _ (mem_uc main_v17 (by decide)),
     h c _ (mem_uc main_v21 (by decide)),
     h c _ (mem_uc main_v34 (by decide)),
     h c _ (mem_uc main_v37 (by decide)),
     h c _ (mem_uc main_v40 (by decide)),
     (h c _ (mem_uc main_arg0 (by decide))).trans (args_end m c main_arg0 (by decide)),
     (h c _ (mem_uc main_arg1 (by decide))).trans (args_end m c main_arg1 (by decide)),
     (h c _ (mem_uc main_arg2 (by decide))).trans (args_end m c main_arg2 (by decide)),
     (h c _ (mem_uc main_arg3 (by decide))).trans (args_end m c main_arg3 (by decide)),
     (h c _ (mem_uc main_arg4 (by decide))).trans (args_end m c main_arg4 (by decide))⟩) (run_all m ρ)

/-- The arguments and the counters at the end of a run. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ hh => ⟨fun c => by
    have h := hh.1
    exact ⟨(h c _ (mem_uc main_arg0 (by decide))).trans (args_end m c main_arg0 (by decide)),
     (h c _ (mem_uc main_arg1 (by decide))).trans (args_end m c main_arg1 (by decide)),
     (h c _ (mem_uc main_arg2 (by decide))).trans (args_end m c main_arg2 (by decide)),
     (h c _ (mem_uc main_arg3 (by decide))).trans (args_end m c main_arg3 (by decide)),
     (h c _ (mem_uc main_arg4 (by decide))).trans (args_end m c main_arg4 (by decide))⟩, hh.2⟩) (run_all m ρ)

end Cert.BandIdeal.Run

end
-- ==== Proof.BandMath.lean ====
/- BANDED ATTENTION OVER THE REALS: a query looks at the keys at most 64 places away. The weights, the row's log-sum, the output and
   the three gradients as sums over all keys or all queries, with the pairs out of the band left out; and how a sum over a window
   of slots, or over the tiles whose windows meet a key, is such a sum. -/
module

public import proofs.«01_k».proof.Proof.Reals

@[expose] public section

noncomputable section

namespace Cert.BandMath

open Idealize.ShloMosaic Cert.Reals

/-- Query `n` looks at key `m`. -/
abbrev near (n m : Fin 512) : Prop := n.val ≤ m.val + 64 ∧ m.val ≤ n.val + 64

/-- Query `n` looks at the key in row `r` of the padded keys, which begin with 64 rows of zeros and end with 64. -/
abbrev inb (n r : ℕ) : Prop := n ≤ r ∧ r ≤ n + 128 ∧ 64 ≤ r ∧ r < 576

/-- Row `r` of the padded array. -/
def pd (f : Fin 512 → ℝ) (r : ℕ) : ℝ := if h : 64 ≤ r ∧ r < 576 then f ⟨r - 64, by omega⟩ else 0

/-- A row inside the padding. -/
theorem pd_in (f : Fin 512 → ℝ) (m : Fin 512) : pd f (m.val + 64) = f m := by
  unfold pd
  rw [dif_pos ⟨by omega, by omega⟩]
  exact congrArg f (Fin.ext (by simp))

/-- The sum over the slots of a window that holds a query's whole band. -/
theorem slots {S a : ℕ} (n : Fin 512) (h1 : a ≤ n.val) (h2 : n.val + 128 < a + S) (g : Fin S → ℝ) (f : Fin 512 → ℝ)
    (hg : ∀ j, g j = if inb n.val (a + j.val) then pd f (a + j.val) else 0) : ∑ j, g j = ∑ m, if near n m then f m else 0 := by
  rw [← Finset.sum_filter]
  symm
  refine Finset.sum_of_injOn (fun m : Fin 512 => if h : a ≤ m.val + 64 ∧ m.val + 64 < a + S then (⟨m.val + 64 - a, by omega⟩ : Fin S) else ⟨0, by omega⟩) ?_ ?_ ?_ ?_
  · intro x hx y hy hxy
    simp only [Finset.coe_filter, Finset.mem_univ, true_and, Set.mem_setOf_eq] at hx hy
    dsimp only at hxy
    rw [dif_pos (by omega), dif_pos (by omega), Fin.mk.injEq] at hxy
    exact Fin.ext (by omega)
  · intro x _
    exact Finset.mem_coe.2 (Finset.mem_univ _)
  · intro j _ hj
    rw [hg]
    refine if_neg fun hin => hj ⟨⟨a + j.val - 64, by omega⟩, ?_, ?_⟩
    · simp only [Finset.coe_filter, Finset.mem_univ, true_and, Set.mem_setOf_eq]; constructor <;> (simp only; omega)
    · have := j.isLt
      dsimp only
      rw [dif_pos (by omega)]
      exact Fin.ext (by simp only; omega)
  · intro m hm
    simp only [Finset.mem_filter, Finset.mem_univ, true_and] at hm
    rw [hg, dif_pos (by omega)]
    dsimp only
    rw [show a + (m.val + 64 - a) = m.val + 64 by omega, if_pos (by omega), pd_in]

/-- The sum over a tile of `T` queries, as a sum over all of them. -/
theorem tile {T b : ℕ} (hb : T * b + T ≤ 512) (f : Fin 512 → ℝ) :
    ∑ i : Fin T, f ⟨T * b + i.val, by have := i.isLt; omega⟩ = ∑ n : Fin 512, if T * b ≤ n.val ∧ n.val < T * b + T then f n else 0 := by
  rw [← Finset.sum_filter]
  refine Finset.sum_bij (fun i _ => ⟨T * b + i.val, by have := i.isLt; omega⟩) ?_ ?_ ?_ ?_
  · intro i _; simp
  · intro x _ y _ hxy; simpa [Fin.ext_iff] using hxy
  · intro n hn
    simp only [Finset.mem_filter, Finset.mem_univ, true_and] at hn
    exact ⟨⟨n.val - T * b, by omega⟩, Finset.mem_univ _, Fin.ext (by simp; omega)⟩
  · intro i _; rfl

/-- A condition on a whole sum, moved inside. -/
theorem zero (p : Prop) [Decidable p] (F : Fin 512 → ℝ) : (if p then ∑ n, F n else 0) = ∑ n, if p then F n else 0 := by
  by_cases h : p <;> simp [h]

/-- A key's sum over the queries from two tiles of 256, each adding to the 384 rows of its window. -/
theorem cols2 (m : Fin 512) (f : Fin 512 → ℝ) (g0 g1 : Fin 256 → ℝ)
    (h0 : ∀ i : Fin 256, g0 i = if inb (256 * 0 + i.val) (m.val + 64) then f ⟨256 * 0 + i.val, by have := i.isLt; omega⟩ else 0)
    (h1 : ∀ i : Fin 256, g1 i = if inb (256 * 1 + i.val) (m.val + 64) then f ⟨256 * 1 + i.val, by have := i.isLt; omega⟩ else 0) :
    (if m.val + 64 < 384 then ∑ i, g0 i else 0) + (if 256 ≤ m.val + 64 then ∑ i, g1 i else 0) = ∑ n, if near n m then f n else 0 := by
  simp only [h0, h1]
  rw [tile (T := 256) (b := 0) (by omega) (fun n => if inb n.val (m.val + 64) then f n else 0),
    tile (T := 256) (b := 1) (by omega) (fun n => if inb n.val (m.val + 64) then f n else 0),
    zero (m.val + 64 < 384), zero (256 ≤ m.val + 64), ← Finset.sum_add_distrib]
  refine Finset.sum_congr rfl fun n _ => ?_
  have hm := m.isLt
  have hn := n.isLt
  by_cases hn : near n m
  · rw [if_pos hn, if_pos (c := inb n.val (m.val + 64)) (by omega)]
    split_ifs <;> first | omega | simp
  · rw [if_neg hn, if_neg (c := inb n.val (m.val + 64)) (by omega)]
    simp

/-- A key's sum over the queries from the three blocks of 64 that see its block. -/
theorem cols3 (m : Fin 512) (f : Fin 512 → ℝ) (g : ℕ → ℝ)
    (hg : ∀ b, (hb : b < 8) → g b = ∑ i : Fin 64, if inb (64 * b + i.val) (m.val + 64) then f ⟨64 * b + i.val, by have := i.isLt; omega⟩ else 0) :
    (if 2 ≤ m.val / 64 + 1 then g (m.val / 64 + 1 - 2) else 0) + g (m.val / 64) + (if m.val / 64 + 1 < 8 then g (m.val / 64 + 1) else 0)
      = ∑ n, if near n m then f n else 0 := by
  have hm := m.isLt
  have key : ∀ b, (hb : b < 8) → g b = ∑ n : Fin 512, if 64 * b ≤ n.val ∧ n.val < 64 * b + 64 then (if inb n.val (m.val + 64) then f n else 0) else 0 :=
    fun b hb => (hg b hb).trans (tile (T := 64) (b := b) (by omega) (fun n => if inb n.val (m.val + 64) then f n else 0))
  have e1 : (if 2 ≤ m.val / 64 + 1 then g (m.val / 64 + 1 - 2) else 0)
      = ∑ n : Fin 512, if 2 ≤ m.val / 64 + 1 then (if 64 * (m.val / 64 + 1 - 2) ≤ n.val ∧ n.val < 64 * (m.val / 64 + 1 - 2) + 64 then (if inb n.val (m.val + 64) then f n else 0) else 0) else 0 := by
    rw [← zero, key _ (by omega)]
  have e3 : (if m.val / 64 + 1 < 8 then g (m.val / 64 + 1) else 0)
      = ∑ n : Fin 512, if m.val / 64 + 1 < 8 then (if 64 * (m.val / 64 + 1) ≤ n.val ∧ n.val < 64 * (m.val / 64 + 1) + 64 then (if inb n.val (m.val + 64) then f n else 0) else 0) else 0 := by
    rw [← zero]
    by_cases h : m.val / 64 + 1 < 8
    · rw [if_pos h, if_pos h, key _ h]
    · rw [if_neg h, if_neg h]
  rw [e1, key _ (by omega), e3, ← Finset.sum_add_distrib, ← Finset.sum_add_distrib]
  refine Finset.sum_congr rfl fun n _ => ?_
  by_cases hn : near n m
  · rw [if_pos hn]
    by_cases c1 : n.val / 64 + 1 = m.val / 64
    · rw [if_pos (by omega), if_pos (by omega), if_pos (by omega), if_neg (by omega), add_zero]
      split_ifs <;> first | omega | simp
    · by_cases c2 : n.val / 64 = m.val / 64
      · rw [if_pos (c := 64 * (m.val / 64) ≤ n.val ∧ n.val < 64 * (m.val / 64) + 64) (by omega), if_pos (c := inb n.val (m.val + 64)) (by omega)]
        split_ifs <;> first | omega | simp
      · rw [if_neg (c := 64 * (m.val / 64) ≤ n.val ∧ n.val < 64 * (m.val / 64) + 64) (by omega), if_pos (c := inb n.val (m.val + 64)) (by omega)]
        split_ifs <;> first | omega | simp
  · rw [if_neg hn]
    split_ifs <;> first | omega | simp

/-! ## One query's row -/

variable (n : Fin 512) (s : Fin 512 → ℝ)

/-- A key's weight before the division; 0 out of the band. -/
def ew (m : Fin 512) : ℝ := if near n m then Real.exp (s m) else 0

/-- The row's sum of weights. -/
def den : ℝ := ∑ m, ew n s m

/-- The softmax weight. -/
def pw (m : Fin 512) : ℝ := ew n s m / den n s

/-- The row's sum is positive: a query looks at its own key. -/
theorem den_pos : 0 < den n s := by
  refine Finset.sum_pos' (fun m _ => ?_) ⟨n, Finset.mem_univ _, ?_⟩
  · unfold ew; split
    · exact (Real.exp_pos _).le
    · exact le_rfl
  · unfold ew; rw [if_pos ⟨by omega, by omega⟩]; exact Real.exp_pos _

/-- The weight from the row's log-sum. -/
theorem exp_log (m : Fin 512) : (if near n m then Real.exp (s m - Real.log (den n s)) else 0) = pw n s m := by
  unfold pw ew
  split
  · rw [Real.exp_sub, Real.exp_log (den_pos n s)]
  · rw [zero_div]

/-- A score's gradient. -/
def dsw (dp : Fin 512 → ℝ) (dl : ℝ) (m : Fin 512) : ℝ := pw n s m * (dp m - (∑ j, pw n s j * dp j - dl)) * (1 / 8)

/-- What is 0 out of the band needs no indicator. -/
theorem near_pw (m : Fin 512) (x : ℝ) : (if near n m then pw n s m * x else 0) = pw n s m * x := by
  by_cases h : near n m
  · rw [if_pos h]
  · rw [if_neg h, pw, ew, if_neg h, zero_div, zero_mul]

/-! ## The whole call at one class and head: arrays are position, channel -/

variable (q k v y : Fin 512 → Fin 64 → ℝ) (dl : Fin 512 → ℝ)

/-- The scaled score of query `n` and key `m`. -/
def sc (n m : Fin 512) : ℝ := (∑ d, q n d * k m d) * (1 / 8)

/-- The output's cotangent at query `n` times key `m`'s value. -/
def dp (n m : Fin 512) : ℝ := ∑ e, y n e * v m e

/-- The output. -/
def oR (n : Fin 512) (e : Fin 64) : ℝ := ∑ m, pw n (sc q k n) m * v m e

/-- The log of the row's sum. -/
def lR (n : Fin 512) : ℝ := Real.log (den n (sc q k n))

/-- The queries' gradient. -/
def dqR (n : Fin 512) (d : Fin 64) : ℝ := ∑ m, dsw n (sc q k n) (dp v y n) (dl n) m * k m d

/-- The keys' gradient. -/
def dkR (m : Fin 512) (d : Fin 64) : ℝ := ∑ n, dsw n (sc q k n) (dp v y n) (dl n) m * q n d

/-- The values' gradient. -/
def dvR (m : Fin 512) (e : Fin 64) : ℝ := ∑ n, pw n (sc q k n) m * y n e

/-- The cotangent times the output is the weighted mean of the cotangent times the values. -/
theorem delta_eq (n : Fin 512) : ∑ e, y n e * oR q k v n e = ∑ m, pw n (sc q k n) m * dp v y n m := by
  simp only [oR, dp, Finset.mul_sum]
  rw [Finset.sum_comm]
  exact Finset.sum_congr rfl fun m _ => Finset.sum_congr rfl fun e _ => by ring

/-! ## A row laid out in slots: slot `r` is the padded key `r`, and 0 where the query does not look at it -/

/-- A row's function of the keys, in its slots. -/
def slot (n : Fin 512) (f : Fin 512 → ℝ) (r : ℕ) : ℝ := if inb n.val r then pd f r else 0

/-- The sum over the slots of a window that holds the query's whole band. -/
theorem slot_sum {S a : ℕ} (n : Fin 512) (h1 : a ≤ n.val) (h2 : n.val + 128 < a + S) (f : Fin 512 → ℝ) (hf : ∀ m, ¬ near n m → f m = 0) :
    ∑ j : Fin S, slot n f (a + j.val) = ∑ m, f m := by
  refine (slots n h1 h2 (fun j : Fin S => slot n f (a + j.val)) f fun _ => rfl).trans (Finset.sum_congr rfl fun m _ => ?_)
  by_cases h : near n m
  · rw [if_pos h]
  · rw [if_neg h, hf m h]

/-- A slot times a padded array's row. -/
theorem slot_mul (n : Fin 512) (f g : Fin 512 → ℝ) (r : ℕ) : slot n f r * pd g r = slot n (fun m => f m * g m) r := by
  unfold slot pd
  split_ifs <;> simp

/-- The slot of a key. -/
theorem slot_at (n m : Fin 512) (f : Fin 512 → ℝ) : slot n f (m.val + 64) = if near n m then f m else 0 := by
  have hm := m.isLt
  have hn := n.isLt
  unfold slot
  by_cases h : near n m
  · rw [if_pos (by omega), if_pos h, pd_in]
  · rw [if_neg (by omega), if_neg h]

/-- In a row's slots, a factor that is common to the keys. -/
theorem slot_const (n : Fin 512) (f : Fin 512 → ℝ) (c : ℝ) (r : ℕ) : c * slot n f r = slot n (fun m => c * f m) r := by
  unfold slot pd
  split_ifs <;> simp

/-- The scores of the padded keys. -/
theorem sc_pd (n : Fin 512) (r : ℕ) : (∑ d, q n d * pd (fun m => k m d) r) * (1 / 8) = pd (sc q k n) r := by
  unfold pd sc
  split_ifs <;> simp

/-- The output's cotangent times the padded values. -/
theorem dp_pd (n : Fin 512) (r : ℕ) : ∑ e, y n e * pd (fun m => v m e) r = pd (dp v y n) r := by
  unfold pd dp
  split_ifs <;> simp

/-- The weights vanish out of the band. -/
theorem ew_far (m : Fin 512) (h : ¬ near n m) : ew n s m = 0 := if_neg h
theorem pw_far (m : Fin 512) (h : ¬ near n m) : pw n s m = 0 := by rw [pw, ew_far n s m h, zero_div]
theorem dsw_far (dp : Fin 512 → ℝ) (dl : ℝ) (m : Fin 512) (h : ¬ near n m) : dsw n s dp dl m = 0 := by rw [dsw, pw_far n s m h]; ring

/-- The exponentials from any base are the weights times one factor. -/
theorem slot_exp (x : ℝ) (r : ℕ) : (if inb n.val r then Real.exp (pd s r - x) else 0) = Real.exp (-x) * slot n (ew n s) r := by
  unfold slot
  by_cases h : inb n.val r
  · have h' : 64 ≤ r ∧ r < 576 := ⟨h.2.2.1, h.2.2.2⟩
    rw [if_pos h, if_pos h, pd, pd, dif_pos h', dif_pos h', ew, if_pos (by unfold near; dsimp only; omega), ← Real.exp_add]
    congr 1; ring
  · rw [if_neg h, if_neg h, mul_zero]

/-- A score's gradient in its slot, from the weight in its slot. -/
theorem slot_dsw (f : Fin 512 → ℝ) (dl : ℝ) (r : ℕ) :
    slot n (pw n s) r * (pd f r - (∑ j, pw n s j * f j - dl)) * (1 / 8) = slot n (dsw n s f dl) r := by
  unfold slot
  split_ifs with h
  · have h' : 64 ≤ r ∧ r < 576 := ⟨h.2.2.1, h.2.2.2⟩
    simp only [pd, dif_pos h', dsw]
  · ring

/-- The weights sum to 1. -/
theorem pw_sum : ∑ m, pw n s m = 1 := by
  simp only [pw, ← Finset.sum_div]
  exact div_self (den_pos n s).ne'

/-- The largest of a row's entries, from minus infinity, is a real where some entries are reals and the others minus infinity. -/
theorem fold_max {N : ℕ} (f : Fin N → EReal) (g : Fin N → ℝ) (p : Fin N → Prop) [DecidablePred p]
    (h : ∀ j, f j = if p j then (g j : EReal) else ⊥) (i : Fin N) (hi : p i) : ∃ x : ℝ, Finset.univ.fold max (Ideal.ofBits .f32 0xFF800000#32) f = (x : EReal) := by
  rw [cNegInf]
  have e : Finset.univ.fold max ⊥ f = Finset.univ.sup f := rfl
  obtain ⟨j, -, hj⟩ := Finset.exists_mem_eq_sup Finset.univ ⟨i, Finset.mem_univ _⟩ f
  have hle : f i ≤ Finset.univ.sup f := Finset.le_sup (Finset.mem_univ _)
  rw [hj, h i, if_pos hi, h j] at hle
  by_cases hp : p j
  · exact ⟨g j, by rw [e, hj, h j, if_pos hp]⟩
  · rw [if_neg hp] at hle
    exact absurd (le_bot_iff.1 hle) (EReal.coe_ne_bot _)

/-- A zero shared out among the entries that attain a maximum is zero, whatever their number. -/
theorem tie {N : ℕ} (r : Fin N → ℝ) (hr : ∀ j, 0 ≤ r j) (j : Fin N) : Ideal.div 0 ((∑ i, r i : ℝ) : EReal) * (r j : EReal) = 0 := by
  by_cases h : ∑ i, r i = 0
  · have := (Finset.sum_eq_zero_iff_of_nonneg fun i _ => hr i).1 h j (Finset.mem_univ _)
    rw [this, EReal.coe_zero, mul_zero]
  · rw [Ideal.div_coe h, zero_mul, zero_mul]

end Cert.BandMath

end
-- ==== Proof.BandMask.lean ====
/- THE BAND'S MASK IN WORDS: the comparisons that the two programs make on 32-bit positions say that a key is in a query's band. -/
module

public import proofs.«01_k».proof.Proof.BandMath
public import Idealize.ShloMosaic.Lib.WordCmp

@[expose] public section

noncomputable section

namespace Cert.BandMask

open Idealize.ShloMosaic Cert.BandMath

/-- A small integer, as a word, reads back. -/
theorem toInt_word {z : ℤ} (h1 : -(2 ^ 20) ≤ z) (h2 : z ≤ 2 ^ 20) : (BitVec.ofInt 32 z).toInt = z := by
  rw [BitVec.toInt_ofInt]
  exact Int.bmod_eq_of_le (by omega) (by omega)

theorem nat_word (n : ℕ) : BitVec.ofNat 32 n = BitVec.ofInt 32 (n : ℤ) := (BitVec.ofInt_natCast ..).symm
theorem add_word (x y : ℤ) : IntOp.addi (BitVec.ofInt 32 x) (BitVec.ofInt 32 y) = BitVec.ofInt 32 (x + y) := (BitVec.ofInt_add ..).symm
theorem sub_word (x y : ℤ) : IntOp.subi (BitVec.ofInt 32 x) (BitVec.ofInt 32 y) = BitVec.ofInt 32 (x - y) := by
  show BitVec.ofInt 32 x - BitVec.ofInt 32 y = _
  rw [BitVec.sub_eq_add_neg, ← BitVec.ofInt_neg, ← BitVec.ofInt_add, Int.sub_eq_add_neg]
theorem mul_word (x y : ℤ) : IntOp.muli (BitVec.ofInt 32 x) (BitVec.ofInt 32 y) = BitVec.ofInt 32 (x * y) := (BitVec.ofInt_mul ..).symm
theorem neg_word : (4294967232#32 : BitVec 32) = BitVec.ofInt 32 (-64) := by decide
theorem word64 : (64#32 : BitVec 32) = BitVec.ofInt 32 64 := by decide
theorem mul64 (x : ℤ) : IntOp.muli (BitVec.ofInt 32 x) 64#32 = BitVec.ofInt 32 (x * 64) := by rw [word64, mul_word]
theorem sub64 (x : ℤ) : IntOp.subi (BitVec.ofInt 32 x) 64#32 = BitVec.ofInt 32 (x - 64) := by rw [word64, sub_word]
theorem abs_word {z : ℤ} (h1 : -(2 ^ 20) ≤ z) (h2 : z ≤ 2 ^ 20) : (IntOp.absi (BitVec.ofInt 32 z)).toInt = |z| := by
  unfold IntOp.absi
  rw [BitVec.msb_eq_toInt, toInt_word h1 h2]
  by_cases h : z < 0
  · rw [if_pos (by simpa using h), ← BitVec.ofInt_neg, toInt_word (by omega) (by omega), abs_of_neg h]
  · rw [if_neg (by simpa using h), toInt_word h1 h2, abs_of_nonneg (by omega)]

/-- The kernel's mask at key position `z` and query position `x`. -/
theorem kernel_mask {z x : ℤ} (n r : ℕ) (hn : n < 512) (hr : r < 640) (hx : x = n) (hz : z = (r : ℤ) - 64) :
    IntOp.andi (IntOp.andi (IntOp.andi (IntOp.cmpi .sle (BitVec.ofInt 32 (z - x)) 64#32) (IntOp.cmpi .sge (BitVec.ofInt 32 (z - x)) 4294967232#32))
      (IntOp.cmpi .sge (BitVec.ofInt 32 z) 0#32)) (IntOp.cmpi .slt (BitVec.ofInt 32 z) 512#32) = BitVec.ofBool (decide (inb n r)) := by
  subst hx hz
  rw [WordCmp.cmpi_sle_eq, WordCmp.cmpi_sge_eq, WordCmp.cmpi_sge_eq, WordCmp.cmpi_slt_eq, toInt_word (by omega) (by omega), toInt_word (by omega) (by omega),
    neg_word, toInt_word (by omega) (by omega), WordCmp.andi_ofBool, WordCmp.andi_ofBool, WordCmp.andi_ofBool]
  refine congrArg BitVec.ofBool ?_
  rw [← Bool.decide_and, ← Bool.decide_and, ← Bool.decide_and]
  refine decide_eq_decide.2 ?_
  rw [show (64#32 : BitVec 32).toInt = 64 from rfl, show (0#32 : BitVec 32).toInt = 0 from rfl, show (512#32 : BitVec 32).toInt = 512 from rfl]
  unfold inb
  omega

/-- The reference's mask at the same two positions. -/
theorem ref_mask {z x : ℤ} (n r : ℕ) (hn : n < 512) (hr : r < 640) (hx : x = n) (hz : z = (r : ℤ) - 64) :
    IntOp.andi (IntOp.andi (IntOp.cmpi .sle (IntOp.absi (BitVec.ofInt 32 (x - z))) 64#32)
      (IntOp.cmpi .sge (BitVec.ofInt 32 z) 0#32)) (IntOp.cmpi .slt (BitVec.ofInt 32 z) 512#32) = BitVec.ofBool (decide (inb n r)) := by
  subst hx hz
  rw [WordCmp.cmpi_sle_eq, WordCmp.cmpi_sge_eq, WordCmp.cmpi_slt_eq, abs_word (by omega) (by omega), toInt_word (by omega) (by omega),
    WordCmp.andi_ofBool, WordCmp.andi_ofBool]
  refine congrArg BitVec.ofBool ?_
  rw [← Bool.decide_and, ← Bool.decide_and]
  refine decide_eq_decide.2 ?_
  rw [show (64#32 : BitVec 32).toInt = 64 from rfl, show (0#32 : BitVec 32).toInt = 0 from rfl, show (512#32 : BitVec 32).toInt = 512 from rfl, abs_le]
  unfold inb
  omega

end Cert.BandMask

end
-- ==== Proof.BandRefA.lean ====
/- THE REFERENCE OF BANDED ATTENTION, READ, FIRST PART: the blocks of queries, the windows of keys and values and the mask at an index. -/
module

public import proofs.«01_k».proof.Proof.Gen.BandRefIdeal.Read
public import proofs.«01_k».proof.Proof.BandMath
public import proofs.«01_k».proof.Proof.BandMask
public import Idealize.ShloMosaic.Lib.Pointwise

@[expose] public section

set_option maxRecDepth 16384
set_option backward.proofsInPublic true

noncomputable section

namespace Cert.BandRefIdeal.Read

open Cert.BandRefIdeal Cert.BandRefIdeal.Gen Idealize.ShloMosaic Cert.Reals Cert.BandMath

/-- Row of the undilated array at which class `c` has its position `n`. -/
abbrev at16 (c : Fin 16) (n : Fin 512) : Fin 8192 := ⟨16 * n.val + c.val, by omega⟩

/-- The `i`-th query of block `b`. -/
abbrev row (b : Fin 8) (i : Fin 64) : Fin 512 := ⟨64 * b.val + i.val, by omega⟩

variable (q k v y : Fin 16 → Fin 6 → Fin 512 → Fin 64 → ℝ) (dl : Fin 16 → Fin 6 → Fin 512 → ℝ)
  (X0 X1 X2 X3 : FVec Ideal S8192x6x64 .f32) (X4 : FVec Ideal S8192x6 .f32)
  (h0 : ∀ c h n d, X0 (ix3 (at16 c n) h d) = (q c h n d : EReal)) (h1 : ∀ c h n d, X1 (ix3 (at16 c n) h d) = (k c h n d : EReal))
  (h2 : ∀ c h n d, X2 (ix3 (at16 c n) h d) = (v c h n d : EReal)) (h3 : ∀ c h n d, X3 (ix3 (at16 c n) h d) = (y c h n d : EReal))
  (h4 : ∀ c h n, X4 (ix2 (at16 c n) h) = (dl c h n : EReal))

include h0 in
/-- A dilated array: class, position, head, channel. -/
theorem ref_q1 (c : Fin 16) (n : Fin 512) (h : Fin 6) (d : Fin 64) : val_main_v1 (F := Ideal) X0 (ix4 c n h d) = (q c h n d : EReal) := by
  pointwise [val_main_v1, val_main_v0]
  rw [← h0]
  congr 2
  exact Fin.ext (by simp only; omega)

include h0 in
/-- The queries in blocks of 64. -/
theorem ref_q (c : Fin 16) (b : Fin 8) (i : Fin 64) (h : Fin 6) (d : Fin 64) :
    val_main_v7 (F := Ideal) X0 (ix5 c b i h d) = (q c h (row b i) d : EReal) := by
  rw [← ref_q1 q X0 h0]
  pointwise [val_main_v7, val_main_v6_0]
  rw [dif_pos (by omega)]
  congr 2
  exact Fin.ext (by simp only; omega)

include h0 in
/-- The same of the keys' array. -/
theorem ref_k1 (c : Fin 16) (n : Fin 512) (h : Fin 6) (d : Fin 64) : val_main_v3 (F := Ideal) X0 (ix4 c n h d) = (q c h n d : EReal) := by
  pointwise [val_main_v3, val_main_v2]
  rw [← h0]
  congr 2
  exact Fin.ext (by simp only; omega)

include h1 in
/-- The padded keys. -/
theorem ref_kp (c : Fin 16) (r : Fin 640) (h : Fin 6) (d : Fin 64) :
    val_main_v10 (F := Ideal) X1 (ix4 c r h d) = (pd (fun m => k c h m d) r.val : EReal) := by
  pointwise [val_main_v10, val_main_v8, val_main_v9, val_main_cst, val_main_cst_0]
  unfold pd
  by_cases e : 64 ≤ r.val ∧ r.val < 576
  · rw [dif_neg (by omega), dif_pos (by omega), dif_pos e, ref_k1 k X1 h1]
  · rw [dif_neg e]
    split_ifs <;> first | omega | rfl

include h1 in
/-- The padded keys in blocks of 64. -/
theorem ref_kb (c : Fin 16) (b : Fin 10) (i : Fin 64) (h : Fin 6) (d : Fin 64) :
    val_main_v13 (F := Ideal) X1 (ix5 c b i h d) = (pd (fun m => k c h m d) (b.val * 64 + i.val) : EReal) := by
  refine Eq.trans ?_ (ref_kp k X1 h1 c ⟨b.val * 64 + i.val, by omega⟩ h d)
  rw [val_main_v13_apply]
  refine congrArg (val_main_v10 (F := Ideal) X1) (funext fun a => Fin.ext ?_)
  have := c.isLt; have := b.isLt; have := h.isLt; have := i.isLt; have := d.isLt
  match a with
  | ⟨0, _⟩ => show ((((c.val * 10 + b.val) * 64 + i.val) * 6 + h.val) * 64 + d.val) / 245760 = c.val; omega
  | ⟨1, _⟩ => show ((((c.val * 10 + b.val) * 64 + i.val) * 6 + h.val) * 64 + d.val) / 384 % 640 = b.val * 64 + i.val; omega
  | ⟨2, _⟩ => show ((((c.val * 10 + b.val) * 64 + i.val) * 6 + h.val) * 64 + d.val) / 64 % 6 = h.val; omega
  | ⟨3, _⟩ => show ((((c.val * 10 + b.val) * 64 + i.val) * 6 + h.val) * 64 + d.val) % 64 = d.val; omega

include h1 in
/-- The windows of keys: the block's own 64 rows of the padded keys and the 128 after them. -/
theorem ref_kw (c : Fin 16) (b : Fin 8) (j : Fin 192) (h : Fin 6) (d : Fin 64) :
    val_main_v21 (F := Ideal) X1 (ix5 c b j h d) = (pd (fun m => k c h m d) (64 * b.val + j.val) : EReal) := by
  pointwise [val_main_v21, val_main_v18, val_main_v19, val_main_v20]
  split_ifs
  all_goals
    rw [ref_kb k X1 h1]
    refine congrArg (fun r => ((pd (fun m => k c h m d) r : ℝ) : EReal)) ?_
    dsimp only
    omega

/-- The windows of values are read as the windows of keys are. -/
theorem win_eq (X : FVec Ideal S8192x6x64 .f32) : val_main_v25 (F := Ideal) X = val_main_v21 (F := Ideal) X := by
  unfold val_main_v25 val_main_v21 val_main_v18 val_main_v19 val_main_v20 val_main_v22 val_main_v23 val_main_v24 val_main_v13 val_main_v17 val_main_v10 val_main_v14
  rfl

/-- The mask. -/
theorem ref_mask (b : Fin 8) (i : Fin 64) (j : Fin 192) :
    val_main_v56 (F := Ideal) (ix3 b i j) = BitVec.ofBool (decide (inb (64 * b.val + i.val) (64 * b.val + j.val))) := by
  pointwise [val_main_v56, val_main_v55, val_main_v54, val_main_v53, val_main_v52, val_main_v51, val_main_v50, val_main_v49, val_main_v48, val_main_v47,
    val_main_v46, val_main_v45, val_main_v44, val_main_v43, val_main_v42, val_main_v41, val_main_v40, val_main_v39, val_main_v38, val_main_v37, val_main_v36,
    val_main_v35, val_main_v34, val_main_v33, val_main_v32, val_main_v31, val_main_v30, val_main_v29, val_main_v28, val_main_v27, val_main_v26,
    val_main_c_5, val_main_c_6, val_main_c_7, val_main_c_8, val_main_c_9]
  rw [BandMask.nat_word (b.val * 64 + i.val), BandMask.nat_word b.val, BandMask.nat_word j.val, BandMask.mul64, BandMask.sub64, BandMask.add_word, BandMask.sub_word]
  exact BandMask.ref_mask _ _ (by omega) (by omega) (by push_cast; ring) (by push_cast; ring)

include h3 in
/-- The output's cotangent in blocks of 64. -/
theorem ref_y (c : Fin 16) (b : Fin 8) (i : Fin 64) (h : Fin 6) (d : Fin 64) :
    val_main_v97 (F := Ideal) X3 (ix5 c b i h d) = (y c h (row b i) d : EReal) := by
  rw [← h3]
  pointwise [val_main_v97, val_main_v95, val_main_v94]
  congr 2
  exact Fin.ext (by simp only; omega)

include h4 in
/-- The log-sum's cotangent in blocks of 64. -/
theorem ref_dl (c : Fin 16) (b : Fin 8) (h : Fin 6) (i : Fin 64) :
    val_main_v98 (F := Ideal) X4 (ix4 c b h i) = (dl c h (row b i) : EReal) := by
  rw [← h4]
  pointwise [val_main_v98, val_main_v96, val_main_v93, val_main_v92]
  congr 2
  exact Fin.ext (by simp only; omega)

end Cert.BandRefIdeal.Read

end
-- ==== Proof.BandRefB.lean ====
/- THE REFERENCE OF BANDED ATTENTION, READ, SECOND PART: scores, weights, the output, the log-sum and the scores' gradient at an index. -/
module

public import proofs.«01_k».proof.Proof.BandRefA

@[expose] public section

set_option maxRecDepth 16384
set_option backward.proofsInPublic true

noncomputable section

namespace Cert.BandRefIdeal.Read

open Cert.BandRefIdeal Cert.BandRefIdeal.Gen Idealize.ShloMosaic Cert.Reals Cert.BandMath

variable (q k v y : Fin 16 → Fin 6 → Fin 512 → Fin 64 → ℝ) (dl : Fin 16 → Fin 6 → Fin 512 → ℝ)
  (X0 X1 X2 X3 : FVec Ideal S8192x6x64 .f32) (X4 : FVec Ideal S8192x6 .f32)
  (h0 : ∀ c h n d, X0 (ix3 (at16 c n) h d) = (q c h n d : EReal)) (h1 : ∀ c h n d, X1 (ix3 (at16 c n) h d) = (k c h n d : EReal))
  (h2 : ∀ c h n d, X2 (ix3 (at16 c n) h d) = (v c h n d : EReal)) (h3 : ∀ c h n d, X3 (ix3 (at16 c n) h d) = (y c h n d : EReal))
  (h4 : ∀ c h n, X4 (ix2 (at16 c n) h) = (dl c h n : EReal))

/-- The word of 1/8. -/
theorem cEighth : Ideal.ofBits .f32 0x3E000000#32 = ((1 / 8 : ℝ) : EReal) := by
  simp [Ideal.ofBits, Ideal.ieee]; rw [← EReal.coe_mul]; norm_num

/-- Plain real arithmetic, for the rows below: `E` a factor of a row, `D` its sum, `w` a weight. -/
theorem ar_num (w D v : ℝ) (hD : D ≠ 0) : w * v = D * (w / D * v) := by field_simp
theorem ar_o (E D o : ℝ) (hE : E ≠ 0) (hD : D ≠ 0) : E * D * o / (E * D) = o := by field_simp
theorem ar_lse (x l : ℝ) : x + (-x + l) = l := by ring
theorem ar_mean (y E D o : ℝ) (hE : E ≠ 0) (hD : D ≠ 0) : y * (1 / (E * D * (E * D))) * (E * D * o) = y * o / (E * D) := by field_simp
theorem ar_ds (p dl t E D w : ℝ) (hE : E ≠ 0) (hD : D ≠ 0) : (p / (E * D) + (dl / (E * D) + -(t / (E * D)))) * (E * w) = w / D * (p - (t - dl)) := by
  field_simp; ring
theorem ar_p (E D w y : ℝ) (hE : E ≠ 0) (hD : D ≠ 0) : y / (E * D) * (E * w) = w / D * y := by field_simp

include h0 h1 in
/-- The scaled scores. -/
theorem ref_score (c : Fin 16) (b : Fin 8) (h : Fin 6) (i : Fin 64) (j : Fin 192) :
    val_main_v59 (F := Ideal) X0 X1 (ix5 c b h i j) = (pd (sc (q c h) (k c h) (row b i)) (64 * b.val + j.val) : EReal) := by
  pointwise [val_main_v59, val_main_v57, val_main_v58, val_main_cst_10]
  simp only [ref_q q X0 h0, ref_kw k X1 h1, cEighth]
  simp only [← EReal.coe_mul]
  rw [sum_coe, ← EReal.coe_mul, sc_pd]

/-- The mask at every class and head. -/
theorem ref_bit (c : Fin 16) (b : Fin 8) (h : Fin 6) (i : Fin 64) (j : Fin 192) :
    val_main_v61_1 (F := Ideal) (ix5 c b h i j) = BitVec.ofBool (decide (inb (64 * b.val + i.val) (64 * b.val + j.val))) := by
  rw [← ref_mask]
  pointwise [val_main_v61_1, val_main_v60]

include h0 h1 in
/-- The masked scores. -/
theorem ref_masked (c : Fin 16) (b : Fin 8) (h : Fin 6) (i : Fin 64) (j : Fin 192) :
    val_main_v61_0 (F := Ideal) X0 X1 (ix5 c b h i j) = if inb (64 * b.val + i.val) (64 * b.val + j.val)
      then (pd (sc (q c h) (k c h) (row b i)) (64 * b.val + j.val) : EReal) else ⊥ := by
  rw [val_main_v61_0_apply, ref_bit, ref_score q k X0 X1 h0 h1, show val_main_call1_v2 (F := Ideal) (ix5 c b h i j) = (⊥ : EReal) by
    pointwise [val_main_call1_v2, val_main_call1_v0, val_main_cst_11]; exact cNegInf]
  by_cases hi : inb (64 * b.val + i.val) (64 * b.val + j.val)
  · rw [if_pos hi, decide_eq_true hi]; rfl
  · rw [if_neg hi, decide_eq_false hi]; rfl

/-- The maximum of each row, as the reference takes it. -/
def rowMax {F : FTy → Type} [FloatOps F] (y : (⟨S16x8x6x64x192, .f32⟩ : BufTy).Contents (Elt F)) : (⟨S16x8x6x64, .f32⟩ : BufTy).Contents (Elt F) :=
  Host.reduce FloatOps.maximumf y (val_main_cst_12 (F := F)) reducesTo_S16x8x6x64x192_S16x8x6x64_d4 h_S_

theorem rowMax_eq {F : FTy → Type} [FloatOps F] (X0 X1 : (⟨S8192x6x64, .f32⟩ : BufTy).Contents (Elt F)) :
    val_main_v62 (F := F) X0 X1 = rowMax (val_main_v61_0 (F := F) X0 X1) := rfl

/-- A row's maximum is a real where one of its entries is, and the others are reals or minus infinity. -/
theorem row_max (y : FVec Ideal S16x8x6x64x192 .f32) (f : Fin 192 → ℝ) (p : Fin 192 → Prop) [DecidablePred p] (c : Fin 16) (b : Fin 8) (h : Fin 6) (i : Fin 64)
    (hy : ∀ n, y (ix5 c b h i n) = if p n then (f n : EReal) else ⊥) (j : Fin 192) (hj : p j) : ∃ x : ℝ, rowMax (F := Ideal) y (ix4 c b h i) = (x : EReal) := by
  obtain ⟨x, hx⟩ := fold_max (fun n : Fin 192 => y (ix5 c b h i n)) _ p hy j hj
  refine ⟨x, ?_⟩
  rw [← hx]
  pointwise [rowMax, val_main_cst_12]

include h0 h1 in
/-- A row's maximum is a real: a query looks at its own key. -/
theorem ref_max (c : Fin 16) (b : Fin 8) (h : Fin 6) (i : Fin 64) : ∃ x : ℝ, val_main_v62 (F := Ideal) X0 X1 (ix4 c b h i) = (x : EReal) := by
  rw [rowMax_eq]
  exact row_max (val_main_v61_0 (F := Ideal) X0 X1) _ _ c b h i (ref_masked q k X0 X1 h0 h1 c b h i) ⟨i.val + 64, by omega⟩
    ⟨by dsimp only; omega, by dsimp only; omega, by dsimp only; omega, by dsimp only; omega⟩

/-- A row's maximum, kept with a trailing axis of one place and read back. -/
theorem max_read (c : Fin 16) (b : Fin 8) (h : Fin 6) (i : Fin 64) : val_main_v82 (F := Ideal) X0 X1 (ix4 c b h i) = val_main_v62 (F := Ideal) X0 X1 (ix4 c b h i) := by
  rw [val_main_v82_apply, val_main_v68_apply]
  refine congrArg (val_main_v62 (F := Ideal) X0 X1) (funext fun a => Fin.ext ?_)
  have := c.isLt; have := b.isLt; have := h.isLt; have := i.isLt
  match a with
  | ⟨0, _⟩ => show (((c.val * 8 + b.val) * 6 + h.val) * 64 + i.val) / 3072 = c.val; omega
  | ⟨1, _⟩ => show (((c.val * 8 + b.val) * 6 + h.val) * 64 + i.val) / 384 % 8 = b.val; omega
  | ⟨2, _⟩ => show (((c.val * 8 + b.val) * 6 + h.val) * 64 + i.val) / 64 % 6 = h.val; omega
  | ⟨3, _⟩ => show (((c.val * 8 + b.val) * 6 + h.val) * 64 + i.val) / 1 % 64 = i.val; omega

section Rows
variable (c : Fin 16) (b : Fin 8) (h : Fin 6) (i : Fin 64) (x : ℝ) (hx : val_main_v62 (F := Ideal) X0 X1 (ix4 c b h i) = (x : EReal))

include h0 h1 hx in
/-- The exponentials are the weights times one factor. -/
theorem ref_exp (j : Fin 192) : val_main_v71 (F := Ideal) X0 X1 (ix5 c b h i j)
    = ((Real.exp (-x) * slot (row b i) (ew (row b i) (sc (q c h) (k c h) (row b i))) (64 * b.val + j.val) : ℝ) : EReal) := by
  rw [← slot_exp]
  have e : val_main_v71 (F := Ideal) X0 X1 (ix5 c b h i j) = Ideal.exp (val_main_v61_0 (F := Ideal) X0 X1 (ix5 c b h i j) - val_main_v62 (F := Ideal) X0 X1 (ix4 c b h i)) := by
    unfold val_main_v71 val_main_v70 val_main_v69 val_main_v68
    generalize val_main_v62 (F := Ideal) X0 X1 = M
    generalize val_main_v61_0 (F := Ideal) X0 X1 = S
    pointwise
  rw [e, hx, ref_masked q k X0 X1 h0 h1]
  by_cases hi : inb (64 * b.val + i.val) (64 * b.val + j.val)
  · rw [if_pos hi, if_pos hi, ← EReal.coe_sub, Ideal.exp_coe]
  · rw [if_neg hi, if_neg hi, EReal.bot_sub, Ideal.exp_bot, EReal.coe_zero]

include h0 h1 hx in
/-- The row's sum. -/
theorem ref_den : val_main_v72 (F := Ideal) X0 X1 (ix4 c b h i) = ((Real.exp (-x) * den (row b i) (sc (q c h) (k c h) (row b i)) : ℝ) : EReal) := by
  pointwise [val_main_v72, val_main_cst_14]
  simp only [ref_exp q k X0 X1 h0 h1 c b h i x hx]
  rw [sum_coe, ← Finset.mul_sum, slot_sum _ (by dsimp only; omega) (by dsimp only; omega) _ (ew_far _ _), den]

include h0 h1 hx h2 in
/-- The weighted sum of the values, not yet divided. -/
theorem ref_num (e : Fin 64) : val_main_v74 (F := Ideal) X0 X1 X2 (ix5 c b i h e)
    = ((Real.exp (-x) * den (row b i) (sc (q c h) (k c h) (row b i)) * oR (q c h) (k c h) (v c h) (row b i) e : ℝ) : EReal) := by
  have hD := (den_pos (row b i) (sc (q c h) (k c h) (row b i))).ne'
  pointwise [val_main_v74, val_main_v73]
  simp only [ref_exp q k X0 X1 h0 h1 c b h i x hx, win_eq, ref_kw v X2 h2]
  simp only [← EReal.coe_mul]
  rw [sum_coe]
  refine congrArg (fun x : ℝ => (x : EReal)) ?_
  calc _ = ∑ j : Fin 192, Real.exp (-x) * slot (row b i) (fun m => ew (row b i) (sc (q c h) (k c h) (row b i)) m * v c h m e) (64 * b.val + j.val) := by
        refine Finset.sum_congr rfl fun j _ => ?_
        rw [← slot_mul]; exact (mul_left_comm _ _ _).trans (congrArg (fun t : ℝ => Real.exp (-x) * t) (mul_comm _ _))
    _ = _ := by
        rw [← Finset.mul_sum, slot_sum _ (by dsimp only; omega) (by dsimp only; omega) _ (fun m hm => by rw [ew_far _ _ m hm, zero_mul]), oR, mul_assoc]
        refine congrArg (fun t : ℝ => Real.exp (-x) * t) ?_
        rw [Finset.mul_sum]
        refine Finset.sum_congr rfl fun m _ => ?_
        exact ar_num _ _ _ hD

include h0 h1 hx in
/-- The log of the row's sum. -/
theorem ref_lse : val_main_v84 (F := Ideal) X0 X1 (ix4 c b h i) = (lR (q c h) (k c h) (row b i) : EReal) := by
  have hD := den_pos (row b i) (sc (q c h) (k c h) (row b i))
  rw [val_main_v84_apply, val_main_v83_apply, max_read]
  show (val_main_v62 (F := Ideal) X0 X1 (ix4 c b h i) : EReal) + Ideal.log (val_main_v72 (F := Ideal) X0 X1 (ix4 c b h i)) = _
  rw [hx, ref_den q k X0 X1 h0 h1 c b h i x hx, Ideal.log_coe, if_neg (not_le.2 (mul_pos (Real.exp_pos _) hD)), ← EReal.coe_add,
    Real.log_mul (Real.exp_pos _).ne' hD.ne', Real.log_exp, lR]
  exact congrArg (fun x : ℝ => (x : EReal)) (ar_lse _ _)

include h0 h1 hx h2 in
/-- The output. -/
theorem ref_o5 (e : Fin 64) : val_main_v78 (F := Ideal) X0 X1 X2 (ix5 c b i h e) = (oR (q c h) (k c h) (v c h) (row b i) e : EReal) := by
  have hD := den_pos (row b i) (sc (q c h) (k c h) (row b i))
  have hn := ref_num q k v X0 X1 X2 h0 h1 h2 c b h i x hx e
  have hd := ref_den q k X0 X1 h0 h1 c b h i x hx
  unfold val_main_v78 val_main_v77 val_main_v76 val_main_v75
  revert hn hd
  generalize val_main_v74 (F := Ideal) X0 X1 X2 = N
  generalize val_main_v72 (F := Ideal) X0 X1 = D
  intro hn hd
  pointwise
  rw [hn, hd, div_real _ (mul_pos (Real.exp_pos _) hD).ne']
  exact congrArg (fun x : ℝ => (x : EReal)) (ar_o _ _ _ (Real.exp_pos (-x)).ne' hD.ne')

include h0 h1 h2 h3 h4 hx in
/-- The gradient of a masked score but for the maximum's part: the weight times its difference from the mean. -/
theorem ref_g (j : Fin 192) : val_main_v118 (F := Ideal) X0 X1 X2 X3 X4 (ix5 c b h i j)
    = ((slot (row b i) (fun m => pw (row b i) (sc (q c h) (k c h) (row b i)) m * (dp (v c h) (y c h) (row b i) m
      - (∑ j, pw (row b i) (sc (q c h) (k c h) (row b i)) j * dp (v c h) (y c h) (row b i) j - dl c h (row b i)))) (64 * b.val + j.val) : ℝ) : EReal) := by
  have hD := den_pos (row b i) (sc (q c h) (k c h) (row b i))
  have hE := Real.exp_pos (-x)
  have hP := mul_pos hE hD
  have hd := ref_den q k X0 X1 h0 h1 c b h i x hx
  have hs : val_main_v76 (F := Ideal) X0 X1 (ix5 c b i h 0) = ((Real.exp (-x) * den (row b i) (sc (q c h) (k c h) (row b i)) : ℝ) : EReal) := by
    rw [← hd]; pointwise [val_main_v76, val_main_v75]
  have hr : val_main_v81 (F := Ideal) X0 X1 (ix5 c b i h 0)
      = ((1 / ((Real.exp (-x) * den (row b i) (sc (q c h) (k c h) (row b i))) * (Real.exp (-x) * den (row b i) (sc (q c h) (k c h) (row b i)))) : ℝ) : EReal) := by
    pointwise [val_main_v81, val_main_v80, val_main_v79, val_main_cst_15]
    rw [hs, ← EReal.coe_mul, ← EReal.coe_one, div_real _ (by positivity)]
  have h99 : val_main_v99 (F := Ideal) X0 X1 X4 (ix4 c b h i) = ((dl c h (row b i) / (Real.exp (-x) * den (row b i) (sc (q c h) (k c h) (row b i))) : ℝ) : EReal) := by
    rw [val_main_v99_apply, ref_dl dl X4 h4, hd]
    exact div_real _ hP.ne'
  have h104 : val_main_v104 (F := Ideal) X0 X1 X2 X3 (ix4 c b i h)
      = (((∑ m, pw (row b i) (sc (q c h) (k c h) (row b i)) m * dp (v c h) (y c h) (row b i) m) / (Real.exp (-x) * den (row b i) (sc (q c h) (k c h) (row b i))) : ℝ) : EReal) := by
    pointwise [val_main_v104, val_main_v103, val_main_v102, val_main_v101, val_main_cst_16]
    simp only [hr, ref_y y X3 h3, ref_num q k v X0 X1 X2 h0 h1 h2 c b h i x hx]
    simp only [← EReal.coe_mul]
    rw [sum_coe, ← delta_eq, Finset.sum_div]
    refine congrArg (fun x : ℝ => (x : EReal)) (Finset.sum_congr rfl fun e _ => ar_mean _ _ _ _ hE.ne' hD.ne')
  have h110 : val_main_v110 (F := Ideal) X0 X1 X2 X3 (ix4 c b h i)
      = ((-((∑ m, pw (row b i) (sc (q c h) (k c h) (row b i)) m * dp (v c h) (y c h) (row b i) m) / (Real.exp (-x) * den (row b i) (sc (q c h) (k c h) (row b i)))) : ℝ) : EReal) := by
    pointwise [val_main_v110, val_main_v109, val_main_v106, val_main_v105, val_main_cst_17]
    simp only [Finset.univ_unique, Finset.sum_singleton, h104, EReal.coe_neg]
  have h113 : val_main_v113 (F := Ideal) X0 X1 X2 X3 (ix5 c b h i j)
      = ((pd (dp (v c h) (y c h) (row b i)) (64 * b.val + j.val) / (Real.exp (-x) * den (row b i) (sc (q c h) (k c h) (row b i))) : ℝ) : EReal) := by
    pointwise [val_main_v113, val_main_v112, val_main_v108, val_main_v107]
    simp only [hs, ref_y y X3 h3, win_eq, ref_kw v X2 h2, div_real _ hP.ne']
    simp only [← EReal.coe_mul]
    rw [sum_coe, ← dp_pd, Finset.sum_div]
    refine congrArg (fun x : ℝ => (x : EReal)) (Finset.sum_congr rfl fun e _ => div_mul_eq_mul_div _ _ _)
  pointwise [val_main_v118, val_main_v117, val_main_v116, val_main_v111]
  rw [h113, h99, h110, ref_exp q k X0 X1 h0 h1 c b h i x hx, ← EReal.coe_add, ← EReal.coe_add, ← EReal.coe_mul]
  refine congrArg (fun x : ℝ => (x : EReal)) ?_
  unfold slot
  split_ifs with hi
  · have h' : 64 ≤ 64 * b.val + j.val ∧ 64 * b.val + j.val < 576 := ⟨hi.2.2.1, hi.2.2.2⟩
    rw [pd, pd, pd, dif_pos h', dif_pos h', dif_pos h']
    exact ar_ds _ _ _ _ _ _ hE.ne' hD.ne'
  · rw [mul_zero, mul_zero]

include h0 h1 h2 h3 h4 hx in
/-- The part of the gradient that goes through the row's maximum is zero. -/
theorem ref_tie (j : Fin 192) : val_main_v126 (F := Ideal) X0 X1 X2 X3 X4 (ix5 c b h i j) = (0 : EReal) := by
  have h120 : val_main_v120 (F := Ideal) X0 X1 X2 X3 X4 (ix4 c b h i) = ((-dl c h (row b i) : ℝ) : EReal) := by
    pointwise [val_main_v120, val_main_v119, val_main_cst_18]
    simp only [ref_g q k v y dl X0 X1 X2 X3 X4 h0 h1 h2 h3 h4 c b h i x hx]
    simp only [← EReal.coe_neg]
    rw [sum_coe, Finset.sum_neg_distrib, slot_sum _ (by dsimp only; omega) (by dsimp only; omega) _ (fun m hm => by rw [pw_far _ _ m hm, zero_mul])]
    refine congrArg (fun x : ℝ => ((-x : ℝ) : EReal)) ?_
    simp only [mul_sub, Finset.sum_sub_distrib, ← Finset.sum_mul, pw_sum]
    ring
  have h123 : val_main_v123 (F := Ideal) X0 X1 X2 X3 X4 (ix4 c b h i) = (0 : EReal) := by
    pointwise [val_main_v123, val_main_v122, val_main_v121, val_main_v100, val_main_cst_19]
    simp only [Finset.univ_unique, Finset.sum_singleton, h120, ref_dl dl X4 h4]
    rw [← EReal.coe_add, add_neg_cancel, EReal.coe_zero]
  have h66 : ∀ j, val_main_v66 (F := Ideal) X0 X1 (ix5 c b h i j) = (((val_main_v65 (F := Ideal) X0 X1 (ix5 c b h i j)).toNat : ℝ) : EReal) := fun j => rfl
  have h67 : val_main_v67 (F := Ideal) X0 X1 (ix4 c b h i) = ((∑ j, ((val_main_v65 (F := Ideal) X0 X1 (ix5 c b h i j)).toNat : ℝ) : ℝ) : EReal) := by
    rw [← sum_coe]
    simp only [← h66]
    pointwise [val_main_v67, val_main_cst_13]
  pointwise [val_main_v126, val_main_v125, val_main_v124]
  rw [h123, h67, h66]
  exact tie (fun j => ((val_main_v65 (F := Ideal) X0 X1 (ix5 c b h i j)).toNat : ℝ)) (fun j => Nat.cast_nonneg _) j

end Rows

include h0 h1 h2 h3 h4 in
/-- A score's gradient. -/
theorem ref_ds (c : Fin 16) (b : Fin 8) (h : Fin 6) (i : Fin 64) (j : Fin 192) : val_main_v130 (F := Ideal) X0 X1 X2 X3 X4 (ix5 c b h i j)
    = ((slot (row b i) (dsw (row b i) (sc (q c h) (k c h) (row b i)) (dp (v c h) (y c h) (row b i)) (dl c h (row b i))) (64 * b.val + j.val) : ℝ) : EReal) := by
  obtain ⟨x, hx⟩ := ref_max q k X0 X1 h0 h1 c b h i
  have e : val_main_v128 (F := Ideal) X0 X1 X2 X3 X4 (ix5 c b h i j) = val_main_v118 (F := Ideal) X0 X1 X2 X3 X4 (ix5 c b h i j) := by
    rw [val_main_v128_apply, ref_bit, val_main_v127_apply, ref_tie q k v y dl X0 X1 X2 X3 X4 h0 h1 h2 h3 h4 c b h i x hx,
      show val_main_call2_v0 (F := Ideal) (ix5 c b h i j) = (0 : EReal) by pointwise [val_main_call2_v0, val_main_call2_cst],
      ref_g q k v y dl X0 X1 X2 X3 X4 h0 h1 h2 h3 h4 c b h i x hx]
    by_cases hi : inb (64 * b.val + i.val) (64 * b.val + j.val)
    · rw [decide_eq_true hi]; exact add_zero _
    · rw [decide_eq_false hi, slot, if_neg hi, EReal.coe_zero]; rfl
  have e2 : val_main_v129 (F := Ideal) (ix5 c b h i j) = ((1 / 8 : ℝ) : EReal) := by
    pointwise [val_main_v129, val_main_cst_20]; exact cEighth
  rw [val_main_v130_apply, e, e2, ref_g q k v y dl X0 X1 X2 X3 X4 h0 h1 h2 h3 h4 c b h i x hx]
  refine (EReal.coe_mul _ _).symm.trans (congrArg (fun x : ℝ => (x : EReal)) ?_)
  rw [mul_comm, slot_const]
  exact congrArg (fun f => slot (row b i) f (64 * b.val + j.val)) (funext fun m => by rw [dsw]; ring)

end Cert.BandRefIdeal.Read

end
-- ==== Proof.BandPay.lean ====
/- THE FORWARD TILE OF THE BANDED ATTENTION OVER THE REALS: 256 queries against a span of 384 padded keys. -/
module

public import proofs.«01_k».proof.Proof.BandTiles
public import proofs.«01_k».proof.Proof.BandMask
public import proofs.«01_k».proof.Proof.BandRefB
public import Idealize.ShloMosaic.Lib.Pointwise

@[expose] public section

set_option maxRecDepth 16384
set_option backward.proofsInPublic true

noncomputable section

namespace Cert.BandIdeal.Hand0

open Cert.BandIdeal Cert.BandIdeal.Gen Cert.BandMath Cert.BandMask Cert.Reals
open Idealize.ShloMosaic Idealize.ShloMosaic.TcCoe Idealize.ShloMosaic.Tactic

/-- Query `r` of the tile that begins with query `a`. -/
abbrev at' (a : ℕ) (ha : a + 256 ≤ 512) (r : Fin 256) : Fin 512 := ⟨a + r.val, by omega⟩

/-- The numbers of the tile's queries and of its keys, as the kernel computes them. -/
def rows (b : BitVec 32) : IVec S256x1 32 := addi (broadcast S256x1 b) (iota .tc S256x1 32 [0] iota_S256x1_d0_w32)
def cols : IVec S1x384 32 := iota .tc S1x384 32 [1] iota_S1x384_d1_w32
def first (b : BitVec 32) : IVec S1x384 32 := broadcast S1x384 (Scalar.subi b 64#32)

/-- Where a query may look, the score stays; elsewhere it is minus infinity. -/
theorem masked (a : ℕ) (ha : a + 256 ≤ 512) (x : FVec Ideal S256x384 .f32) (r : Fin 256) (j : Fin 384) :
    k0_pay1 (F := Ideal) x (rows (BitVec.ofInt 32 a)) cols (first (BitVec.ofInt 32 a)) (ix2 r j)
      = if inb (at' a ha r).val (a + j.val) then x (ix2 r j) else ⊥ := by
  pointwise [k0_pay1, rows, cols, first]
  rw [nat_word r.val, nat_word j.val, show Scalar.subi (BitVec.ofInt 32 (a : ℤ)) 64#32 = _ from sub64 _, add_word, add_word, sub_word,
    kernel_mask (at' a ha r).val (a + j.val) (by omega) (by omega) (by push_cast; ring) (by push_cast; ring),
    IdealRules.named_const.ideal_named_scalar κ "mask" (φ := .f32) 0xF149F2CA#32 _ rfl]
  by_cases hi : inb (at' a ha r).val (a + j.val)
  · rw [if_pos hi, decide_eq_true hi]; rfl
  · rw [if_neg hi, decide_eq_false hi]; rfl

/-- The largest score of each query. -/
def most (x : FVec Ideal S256x384 .f32) : FVec Ideal S256 .f32 :=
  multiReduction .maximumf [1] S256 x 0xFF800000#32 reduces_S256x384_S256 (.inl rfl) rfl

/-- The scaled scores of a tile. -/
theorem scores (a : ℕ) (ha : a + 256 ≤ 512) (q k : Fin 512 → Fin 64 → ℝ) (x1 : FVec Ideal S1x384x64 .bf16) (x0 : FVec Ideal S1x256x64 .bf16)
    (h0 : ∀ r d, x0 (ix3 0 r d) = (q (at' a ha r) d : EReal)) (h1 : ∀ j d, x1 (ix3 0 j d) = (pd (fun m => k m d) (a + j.val) : EReal)) (r : Fin 256) (j : Fin 384) :
    k0_pay16 (F := Ideal) x1 x0 (ix2 r j) = (pd (sc q k (at' a ha r)) (a + j.val) : EReal) := by
  pointwise [k0_pay16]
  simp only [h0, h1, BandRefIdeal.Read.cEighth]
  simp only [← EReal.coe_mul]
  rw [sum_coe, ← EReal.coe_mul, sc_pd]

section
variable (a : ℕ) (ha : a + 256 ≤ 512) (s : Fin 512 → ℝ) (v : Fin 512 → Fin 64 → ℝ) (r : Fin 256) (x : FVec Ideal S256x384 .f32)
  (hx : ∀ j : Fin 384, x (ix2 r j) = if inb (at' a ha r).val (a + j.val) then (pd s (a + j.val) : EReal) else ⊥)

include hx in
/-- The largest score of a query is a real: it looks at its own key. -/
theorem most_real : ∃ M : ℝ, most x (ix1 r) = (M : EReal) := by
  obtain ⟨M, hM⟩ := fold_max (fun j : Fin 384 => x (ix2 r j)) _ _ hx ⟨r.val + 64, by omega⟩
    ⟨by dsimp only; omega, by dsimp only; omega, by dsimp only; omega, by dsimp only; omega⟩
  refine ⟨M, ?_⟩
  rw [← hM]
  pointwise [most]

include hx in
/-- The weights of a tile before they are divided by their sum. -/
theorem weight (M : ℝ) (hM : most x (ix1 r) = (M : EReal)) (j : Fin 384) :
    k0_pay11 (F := Ideal) x (most x) (ix2 r j) = ((Real.exp (-M) * slot (at' a ha r) (ew (at' a ha r) s) (a + j.val) : ℝ) : EReal) := by
  rw [← slot_exp]
  pointwise [k0_pay11, k0_pay10]
  rw [hM, hx]
  by_cases hi : inb (at' a ha r).val (a + j.val)
  · rw [if_pos hi, if_pos hi, ← EReal.coe_sub, Ideal.exp_coe]
  · rw [if_neg hi, if_neg hi, EReal.bot_sub, Ideal.exp_bot, EReal.coe_zero]

include hx in
/-- Their sum. -/
theorem total (M : ℝ) (hM : most x (ix1 r) = (M : EReal)) (z : Fin 1) :
    k0_pay12 (F := Ideal) x (most x) (ix2 r z) = ((Real.exp (-M) * den (at' a ha r) s : ℝ) : EReal) := by
  pointwise [k0_pay12]
  simp only [weight a ha s r x hx M hM]
  rw [sum_coe, ← Finset.mul_sum, slot_sum (at' a ha r) (by dsimp only; omega) (by dsimp only; omega) _ (ew_far _ _), den]

include hx in
/-- What the tile stores of the output. -/
theorem tile_o (x2 : FVec Ideal S384x64 .bf16) (h2 : ∀ j e, x2 (ix2 j e) = (pd (fun m => v m e) (a + j.val) : EReal)) (e : Fin 64) :
    k0_pay13 (F := Ideal) x2 x (most x) (ix3 0 r e) = ((∑ m, pw (at' a ha r) s m * v m e : ℝ) : EReal) := by
  obtain ⟨M, hM⟩ := most_real a ha s r x hx
  pointwise [k0_pay13]
  simp only [weight a ha s r x hx M hM, total a ha s r x hx M hM, h2]
  have hd := den_pos (at' a ha r) s
  have hM' := Real.exp_pos (-M)
  simp only [← EReal.coe_mul, mul_assoc, slot_mul]
  rw [sum_coe, ← Finset.mul_sum, slot_sum (at' a ha r) (by dsimp only; omega) (by dsimp only; omega) _ (fun m hm => by rw [ew_far _ _ _ hm, zero_mul]),
    Ideal.div_coe (by positivity), ← EReal.coe_mul]
  refine congrArg (fun x : ℝ => (x : EReal)) ?_
  rw [mul_comm, ← mul_assoc, Finset.mul_sum]
  refine Finset.sum_congr rfl fun m _ => ?_
  rw [pw]
  field_simp

include hx in
/-- What the tile stores of the row log-sums. -/
theorem tile_l (z : Fin 1) : k0_pay14 (F := Ideal) x (most x) (ix3 0 r z) = ((Real.log (den (at' a ha r) s) : ℝ) : EReal) := by
  obtain ⟨M, hM⟩ := most_real a ha s r x hx
  have hd := den_pos (at' a ha r) s
  have hM' := Real.exp_pos (-M)
  pointwise [k0_pay14, k0_pay10]
  rw [total a ha s r x hx M hM, hM, Ideal.log_coe, if_neg (not_le.2 (mul_pos hM' hd)), ← EReal.coe_add, Real.log_mul hM'.ne' hd.ne', Real.log_exp]
  refine congrArg (fun x : ℝ => (x : EReal)) ?_
  ring
end

section
variable (i : grid0.Coords) (v : FVec Ideal S1x384x64 .bf16) (k : FVec Ideal S1x384x64 .bf16) (q : FVec Ideal S1x256x64 .bf16) (b : BitVec 32)

/-- The second tile is the first one, begun 256 queries later. -/
theorem second_o : k0_pay5 (F := Ideal) (k0_pay15 v) (k0_pay16 k q) (rows b) cols (first b)
    = k0_pay13 (k0_pay7 v) (k0_pay1 (k0_pay16 k q) (rows b) cols (first b)) (most (k0_pay1 (k0_pay16 k q) (rows b) cols (first b))) := rfl
theorem second_l : k0_pay6 (F := Ideal) (k0_pay16 k q) (rows b) cols (first b)
    = k0_pay14 (k0_pay1 (k0_pay16 k q) (rows b) cols (first b)) (most (k0_pay1 (k0_pay16 k q) (rows b) cols (first b))) := rfl
theorem first_masked : k0_pay8 (F := Ideal) i k q
    = k0_pay1 (k0_pay16 k q) (rows (Scalar.addi (Scalar.muli (BitVec.ofNat 32 (i 1).val) 512#32) 0#32)) cols
        (first (Scalar.addi (Scalar.muli (BitVec.ofNat 32 (i 1).val) 512#32) 0#32)) := rfl
end

/-- One tile's output and row log-sums, from the queries, keys and values it reads. -/
theorem tile_out (a : ℕ) (ha : a + 256 ≤ 512) (q k v : Fin 512 → Fin 64 → ℝ) (x0 : FVec Ideal S1x256x64 .bf16) (x1 x2 : FVec Ideal S1x384x64 .bf16)
    (h0 : ∀ r d, x0 (ix3 0 r d) = (q (at' a ha r) d : EReal)) (h1 : ∀ j d, x1 (ix3 0 j d) = (pd (fun m => k m d) (a + j.val) : EReal))
    (h2 : ∀ j d, x2 (ix3 0 j d) = (pd (fun m => v m d) (a + j.val) : EReal)) (r : Fin 256) (e : Fin 64) :
    k0_pay13 (F := Ideal) (k0_pay7 x2) (k0_pay1 (k0_pay16 x1 x0) (rows (BitVec.ofInt 32 a)) cols (first (BitVec.ofInt 32 a)))
      (most (k0_pay1 (k0_pay16 x1 x0) (rows (BitVec.ofInt 32 a)) cols (first (BitVec.ofInt 32 a)))) (ix3 0 r e) = (oR q k v (at' a ha r) e : EReal) := by
  refine tile_o a ha (sc q k (at' a ha r)) v r _ (fun j => ?_) _ (fun j e => ?_) e
  · rw [masked a ha, scores a ha q k x1 x0 h0 h1]
  · pointwise [k0_pay7]
    exact h2 j e
theorem tile_lse (a : ℕ) (ha : a + 256 ≤ 512) (q k : Fin 512 → Fin 64 → ℝ) (x0 : FVec Ideal S1x256x64 .bf16) (x1 : FVec Ideal S1x384x64 .bf16)
    (h0 : ∀ r d, x0 (ix3 0 r d) = (q (at' a ha r) d : EReal)) (h1 : ∀ j d, x1 (ix3 0 j d) = (pd (fun m => k m d) (a + j.val) : EReal)) (r : Fin 256) (z : Fin 1) :
    k0_pay14 (F := Ideal) (k0_pay1 (k0_pay16 x1 x0) (rows (BitVec.ofInt 32 a)) cols (first (BitVec.ofInt 32 a)))
      (most (k0_pay1 (k0_pay16 x1 x0) (rows (BitVec.ofInt 32 a)) cols (first (BitVec.ofInt 32 a)))) (ix3 0 r z) = (lR q k (at' a ha r) : EReal) :=
  tile_l a ha (sc q k (at' a ha r)) r _ (fun j => by rw [masked a ha, scores a ha q k x1 x0 h0 h1]) z

end Cert.BandIdeal.Hand0

end
-- ==== Proof.BandPayB.lean ====
/- THE BACKWARD TILE OF THE BANDED ATTENTION OVER THE REALS: 256 queries against a span of 384 padded keys. -/
module

public import proofs.«01_k».proof.Proof.BandPay

@[expose] public section

set_option maxRecDepth 16384
set_option backward.proofsInPublic true

noncomputable section

namespace Cert.BandIdeal.Hand

open Cert.BandIdeal Cert.BandIdeal.Gen Cert.BandMath Cert.BandMask Cert.Reals
open Cert.BandIdeal.Hand0 (at' rows cols)
open Idealize.ShloMosaic Idealize.ShloMosaic.TcCoe Idealize.ShloMosaic.Tactic

section
variable (b : BitVec 32) (i : grid1.Coords) (q : FVec Ideal S1x256x64 .bf16) (k v : FVec Ideal S1x384x64 .bf16) (o g : FVec Ideal S1x256x64 .f32)
  (l dl : FVec Ideal S1x256x1 .f32) (acc : FVec Ideal S1x384x64 .f32)

/-- The weights of a tile that begins with query `b`, the gradient of its scores, and what it adds to dv. -/
def wT : FVec Ideal S256x384 .f32 := k1_pay14 (F := Ideal) (Scalar.subi b 64#32) (k1_pay12 q k) (rows b) cols l
def dsT : FVec Ideal S256x384 .bf16 :=
  k1_pay15 (F := Ideal) (Scalar.subi b 64#32) (k1_pay8 v) (k1_pay10 g o dl) (k1_pay11 g) (k1_pay12 q k) (rows b) cols l
def dvT : FVec Ideal S1x384x64 .f32 := k1_pay16 (F := Ideal) (Scalar.subi b 64#32) (k1_pay11 g) (k1_pay12 q k) (rows b) cols l acc

/-- Both tiles are this one. -/
theorem ds0_eq : ds0 (F := Ideal) i q k v o g l dl = dsT (base0 i) q k v o g l dl := rfl
theorem ds1_eq : ds1 (F := Ideal) i q k v o g l dl = dsT (base1 i) q k v o g l dl := rfl
theorem dq0_eq : dq0 (F := Ideal) i q k v o g l dl = k1_pay18 (k1_pay7 k) (dsT (base0 i) q k v o g l dl) := rfl
theorem dq1_eq : dq1 (F := Ideal) i q k v o g l dl = k1_pay18 (k1_pay7 k) (dsT (base1 i) q k v o g l dl) := rfl
theorem dk0_eq : dk0 (F := Ideal) i q k v o g l dl acc = k1_pay17 (k1_pay6 q) (dsT (base0 i) q k v o g l dl) acc := rfl
theorem dk1_eq : dk1 (F := Ideal) i q k v o g l dl acc = k1_pay17 (k1_pay6 q) (dsT (base1 i) q k v o g l dl) acc := rfl
theorem dv0_eq : dv0 (F := Ideal) i q k g l acc = dvT (base0 i) q k g l acc := rfl
theorem dv1_eq : dv1 (F := Ideal) i q k g l acc = dvT (base1 i) q k g l acc := rfl
end

section
variable (a : ℕ) (ha : a + 256 ≤ 512) (q k v y : Fin 512 → Fin 64 → ℝ) (dl : Fin 512 → ℝ)
  (x0 : FVec Ideal S1x256x64 .bf16) (x1 x2 : FVec Ideal S1x384x64 .bf16) (x3 x5 : FVec Ideal S1x256x64 .f32) (x4 x6 : FVec Ideal S1x256x1 .f32)
  (acc : FVec Ideal S1x384x64 .f32)
  (h0 : ∀ r d, x0 (ix3 0 r d) = (q (at' a ha r) d : EReal)) (h1 : ∀ j d, x1 (ix3 0 j d) = (pd (fun m => k m d) (a + j.val) : EReal))
  (h2 : ∀ j d, x2 (ix3 0 j d) = (pd (fun m => v m d) (a + j.val) : EReal)) (h3 : ∀ r d, x3 (ix3 0 r d) = (oR q k v (at' a ha r) d : EReal))
  (h4 : ∀ r z, x4 (ix3 0 r z) = (lR q k (at' a ha r) : EReal)) (h5 : ∀ r d, x5 (ix3 0 r d) = (y (at' a ha r) d : EReal))
  (h6 : ∀ r z, x6 (ix3 0 r z) = (dl (at' a ha r) : EReal))

include h0 h1 in
/-- The scaled scores. -/
theorem score (r : Fin 256) (j : Fin 384) : k1_pay12 (F := Ideal) x0 x1 (ix2 r j) = (pd (sc q k (at' a ha r)) (a + j.val) : EReal) := by
  pointwise [k1_pay12, k1_pay6, k1_pay7]
  simp only [h0, h1, BandRefIdeal.Read.cEighth]
  simp only [← EReal.coe_mul]
  rw [sum_coe, ← EReal.coe_mul, sc_pd]

/-- The weights from any scores: the exponential where a query may look, zero elsewhere. -/
theorem weights (x : FVec Ideal S256x384 .f32) (r : Fin 256) (j : Fin 384) :
    k1_pay14 (F := Ideal) (Scalar.subi (BitVec.ofInt 32 a) 64#32) x (rows (BitVec.ofInt 32 a)) cols x4 (ix2 r j)
      = if inb (at' a ha r).val (a + j.val) then Ideal.exp (x (ix2 r j) - x4 (ix3 0 r 0)) else 0 := by
  pointwise [k1_pay14, rows, cols]
  rw [nat_word r.val, nat_word j.val, show Scalar.subi (BitVec.ofInt 32 (a : ℤ)) 64#32 = _ from sub64 _, add_word, add_word, sub_word,
    kernel_mask (at' a ha r).val (a + j.val) (by omega) (by omega) (by push_cast; ring) (by push_cast; ring)]
  by_cases hi : inb (at' a ha r).val (a + j.val)
  · rw [if_pos hi, decide_eq_true hi]; rfl
  · rw [if_neg hi, decide_eq_false hi]; rfl

include h0 h1 h4 in
/-- The weights are the row's softmax. -/
theorem wT_val (r : Fin 256) (j : Fin 384) :
    wT (BitVec.ofInt 32 a) x0 x1 x4 (ix2 r j) = (slot (at' a ha r) (pw (at' a ha r) (sc q k (at' a ha r))) (a + j.val) : EReal) := by
  rw [wT, weights a ha, score a ha q k x0 x1 h0 h1, h4]
  by_cases hi : inb (at' a ha r).val (a + j.val)
  · rw [if_pos hi, slot, if_pos hi, ← EReal.coe_sub, Ideal.exp_coe]
    refine congrArg (fun x : ℝ => (x : EReal)) ?_
    have hj : a + j.val = (⟨a + j.val - 64, by omega⟩ : Fin 512).val + 64 := by dsimp only; omega
    rw [hj, pd_in, pd_in, ← exp_log, if_pos, lR]
    have hi' : inb (a + r.val) (a + j.val) := hi
    exact ⟨show a + r.val ≤ a + j.val - 64 + 64 by omega, show a + j.val - 64 ≤ a + r.val + 64 by omega⟩
  · rw [if_neg hi, slot, if_neg hi, EReal.coe_zero]

include h3 h5 h6 in
/-- The row's sum of output times cotangent, less the cotangent of the row's log-sum. -/
theorem delta (r : Fin 256) (z : Fin 1) : k1_pay10 (F := Ideal) x5 x3 x6 (ix2 r z)
    = ((∑ m, pw (at' a ha r) (sc q k (at' a ha r)) m * dp v y (at' a ha r) m - dl (at' a ha r) : ℝ) : EReal) := by
  pointwise [k1_pay10, k1_pay9]
  simp only [h3, h5, h6]
  simp only [← EReal.coe_mul]
  rw [sum_coe, ← EReal.coe_sub, delta_eq]

include h0 h1 h2 h3 h4 h5 h6 in
/-- The gradient of the scores. -/
theorem dsT_val (r : Fin 256) (j : Fin 384) : dsT (BitVec.ofInt 32 a) x0 x1 x2 x3 x5 x4 x6 (ix2 r j)
    = (slot (at' a ha r) (dsw (at' a ha r) (sc q k (at' a ha r)) (dp v y (at' a ha r)) (dl (at' a ha r))) (a + j.val) : EReal) := by
  have hw := wT_val a ha q k x0 x1 x4 h0 h1 h4 r j
  have hd := fun z => delta a ha q k v y dl x3 x5 x6 h3 h5 h6 r z
  unfold wT at hw
  pointwise [dsT, k1_pay15, k1_pay8, k1_pay11, k1_pay9]
  rw [hw]
  simp only [hd, h2, h5, BandRefIdeal.Read.cEighth]
  simp only [← EReal.coe_mul]
  rw [sum_coe, dp_pd, ← EReal.coe_sub, ← EReal.coe_mul, ← EReal.coe_mul, slot_dsw]

include h0 h1 h2 h3 h4 h5 h6 in
/-- What a tile stores of dq. -/
theorem dq_val (r : Fin 256) (d : Fin 64) : k1_pay18 (F := Ideal) (k1_pay7 x1) (dsT (BitVec.ofInt 32 a) x0 x1 x2 x3 x5 x4 x6) (ix3 0 r d)
    = (dqR q k v y dl (at' a ha r) d : EReal) := by
  have hd := dsT_val a ha q k v y dl x0 x1 x2 x3 x5 x4 x6 h0 h1 h2 h3 h4 h5 h6 r
  generalize dsT (BitVec.ofInt 32 a) x0 x1 x2 x3 x5 x4 x6 = D at hd ⊢
  pointwise [k1_pay18, k1_pay7]
  simp only [hd, h1]
  simp only [← EReal.coe_mul, slot_mul]
  rw [sum_coe, slot_sum (at' a ha r) (by dsimp only; omega) (by dsimp only; omega) _ (fun m hm => by rw [dsw_far _ _ _ _ _ hm, zero_mul]), dqR]

include h0 h1 h2 h3 h4 h5 h6 in
/-- What a tile adds to dk. -/
theorem dk_val (j : Fin 384) (d : Fin 64) : k1_pay17 (F := Ideal) (k1_pay6 x0) (dsT (BitVec.ofInt 32 a) x0 x1 x2 x3 x5 x4 x6) acc (ix3 0 j d)
    = acc (ix3 0 j d) + ((∑ r : Fin 256, slot (at' a ha r) (dsw (at' a ha r) (sc q k (at' a ha r)) (dp v y (at' a ha r)) (dl (at' a ha r))) (a + j.val)
        * q (at' a ha r) d : ℝ) : EReal) := by
  have hd := fun r => dsT_val a ha q k v y dl x0 x1 x2 x3 x5 x4 x6 h0 h1 h2 h3 h4 h5 h6 r j
  generalize dsT (BitVec.ofInt 32 a) x0 x1 x2 x3 x5 x4 x6 = D at hd ⊢
  pointwise [k1_pay17, k1_pay6]
  simp only [hd, h0]
  simp only [← EReal.coe_mul]
  rw [sum_coe]

include h0 h1 h4 h5 in
/-- What a tile adds to dv. -/
theorem dv_val (j : Fin 384) (d : Fin 64) : dvT (BitVec.ofInt 32 a) x0 x1 x5 x4 acc (ix3 0 j d)
    = acc (ix3 0 j d) + ((∑ r : Fin 256, slot (at' a ha r) (pw (at' a ha r) (sc q k (at' a ha r))) (a + j.val) * y (at' a ha r) d : ℝ) : EReal) := by
  have hd := fun r => wT_val a ha q k x0 x1 x4 h0 h1 h4 r j
  unfold wT at hd
  pointwise [dvT, k1_pay16, k1_pay11, k1_pay9]
  simp only [hd, h5]
  simp only [← EReal.coe_mul]
  rw [sum_coe]
end

end Cert.BandIdeal.Hand

end
-- ==== Proof.BandRect.lean ====
/- ROWS OF A BLOCK: reading a range of rows of a block of shape 1×N×D, and what a block holds after stores at ranges of rows. -/
module

public import Idealize.ShloMosaic.Lib.Pipeline.FrameBody
public import Idealize.ShloMosaic.Lib.Pipeline.Value
public import Idealize.ShloMosaic.Lib.Pipeline.ValueKit.Geometry
public import Idealize.ShloMosaic.Lib.Pointwise.Index

@[expose] public section

set_option backward.proofsInPublic true

noncomputable section

namespace Cert.BandRect

open Idealize.ShloMosaic

/-- A block of `N` rows of `D` entries. -/
abbrev Sh (N D : ℕ) : Shape := ⟨3, ![1, N, D]⟩

section
variable {N M D o : ℕ} (off : Fin (Sh N D).rank → ℕ) (e : off = ![0, o, 0]) (h : ∀ a, off a + (Sh M D).size a ≤ (Sh N D).size a)

include e in
/-- Where the entry in row `j` of the range lies in the block. -/
theorem emb_row (ho : o + M ≤ N) (j : Fin M) (d : Fin D) :
    (Rect.unit (s := Sh N D) off (Sh M D).size h).emb (ix3 0 j d) = ix3 0 ⟨o + j.val, by omega⟩ d := by
  subst e
  funext a
  refine Fin.ext ?_
  rw [ValueKit.rect_emb_unit_val]
  match a with
  | ⟨0, _⟩ => rfl
  | ⟨1, _⟩ => rfl
  | ⟨2, _⟩ => exact Nat.zero_add _

include e in
/-- A row outside the range is not in its rectangle. -/
theorem row_out (n : Fin N) (d : Fin D) (hn : n.val < o ∨ o + M ≤ n.val) : ix3 0 n d ∉ (Rect.unit (s := Sh N D) off (Sh M D).size h).set := by
  subst e
  intro hm
  have := (Rect.mem_set_unit.1 hm) (1 : Fin 3)
  have h1 : o ≤ n.val := this.1
  have h2 : n.val < o + M := this.2
  omega

variable {Val : EltTy → Type} {t : EltTy} (X : (Sh N D).Idx → Val t)

include e in
/-- A range of rows read from a block. -/
theorem ld_row (ho : o + M ≤ N) (j : Fin M) (d : Fin D) :
    View.ld X (Rect.unit (s := Sh N D) off (Sh M D).size h) (ix3 0 j d) = X (ix3 0 ⟨o + j.val, by omega⟩ d) :=
  congrArg X (emb_row off e h ho j d)

variable [∀ e, Nonempty (Val e)] (w : (Rect.unit (s := Sh N D) off (Sh M D).size h).shape.Idx → Val t) (L : List (View.Piece Val (Sh N D) t))

include e in
/-- A row in the range last stored is what was stored. -/
theorem canon_in (ho : o + M ≤ N) (j : Fin M) (d : Fin D) :
    View.canon (⟨Rect.unit (s := Sh N D) off (Sh M D).size h, w⟩ :: L) (ix3 0 ⟨o + j.val, by omega⟩ d) = w (ix3 0 j d) := by
  rw [← emb_row off e h ho j d]
  exact View.canon_cons_emb _ w L _

include e in
/-- A row outside it is as it was. -/
theorem canon_out (n : Fin N) (d : Fin D) (hn : n.val < o ∨ o + M ≤ n.val) :
    View.canon (⟨Rect.unit (s := Sh N D) off (Sh M D).size h, w⟩ :: L) (ix3 0 n d) = View.canon L (ix3 0 n d) :=
  View.canon_cons_of_not_mem _ L (row_out off e h n d hn)
end

end Cert.BandRect

end
-- ==== Proof.BandBlock.lean ====
/- ONE GRID POINT OF THE BANDED ATTENTION OVER THE REALS: what the forward and the backward kernel leave of a whole class and head. -/
module

public import proofs.«01_k».proof.Proof.BandPayB
public import proofs.«01_k».proof.Proof.BandRect
public import proofs.«01_k».proof.Proof.BandDat0
public import proofs.«01_k».proof.Proof.BandDat1

@[expose] public section

set_option maxRecDepth 16384
set_option backward.proofsInPublic true

noncomputable section

namespace Cert.BandIdeal.Block

open Cert.BandIdeal Cert.BandIdeal.Gen Cert.BandMath Cert.BandMask Cert.Reals Cert.BandRect
open Cert.BandIdeal.Hand0 (at' rows cols)
open Cert.BandIdeal.Hand (top bot top1 bot1 all span0 span1 base0 base1)
open Idealize.ShloMosaic Idealize.ShloMosaic.TcCoe Idealize.ShloMosaic.Tactic

/-- An entry is a given real. -/
abbrev Is (y : EReal) (x : ℝ) : Prop := y = (x : EReal)

/-- The grid's second axis has one place. -/
theorem one (i : grid1.Coords) : (i 1).val = 0 := by have : (i 1).val < 1 := (i 1).isLt; omega
theorem one0 (i : grid0.Coords) : (i 1).val = 0 := by have : (i 1).val < 1 := (i 1).isLt; omega

/-- The tiles begin with queries 0 and 256, and so do their spans of keys. -/
theorem base0_eq (i : grid1.Coords) : base0 i = BitVec.ofInt 32 ((0 : ℕ) : ℤ) := by unfold base0; rw [one]; rfl
theorem base1_eq (i : grid1.Coords) : base1 i = BitVec.ofInt 32 ((256 : ℕ) : ℤ) := by unfold base1; rw [one]; rfl
theorem off0_eq (i : grid1.Coords) : k1_off1 i 0#32 = ![0, 0, 0] := by have := k1_off1_eq i 0; rw [one] at this; exact this
theorem off1_eq (i : grid1.Coords) : k1_off1 i 256#32 = ![0, 256, 0] := by have := k1_off1_eq i 1; rw [one] at this; exact this
theorem foff0_eq (i : grid0.Coords) : k0_off1 i 0#32 = ![0, 0, 0] := by have := k0_off1_eq i 0; rw [one0] at this; exact this
theorem foff1_eq (i : grid0.Coords) : k0_off1 i 256#32 = ![0, 256, 0] := by have := k0_off1_eq i 1; rw [one0] at this; exact this

section
variable (c : Dev nD) (i : grid0.Coords)
  (a2 : Memref sig .tc .vmem S1x512x64 .bf16) (g2 : a2.IsWhole) (a3 : Memref sig .tc .vmem S1x640x64 .bf16) (g3 : a3.IsWhole)
  (a4 : Memref sig .tc .vmem S1x640x64 .bf16) (g4 : a4.IsWhole) (a5 : Memref sig .tc .vmem S1x512x64 .f32) (g5 : a5.IsWhole)
  (a6 : Memref sig .tc .vmem S1x512x1 .f32) (g6 : a6.IsWhole)
  (x0 : Vec Ideal S1x512x64 .bf16) (x1 x2 : Vec Ideal S1x640x64 .bf16)

abbrev fspan0 : Rect S1x640x64 := Rect.unit (k0_off1 i 0#32) S1x384x64.size (k0_off1_inb i 0)
abbrev fspan1 : Rect S1x640x64 := Rect.unit (k0_off1 i 256#32) S1x384x64.size (k0_off1_inb i 1)
abbrev fbase0 : BitVec 32 := Scalar.addi (Scalar.muli (BitVec.ofNat 32 (i 1).val) 512#32) 0#32
abbrev fbase1 : BitVec 32 := Scalar.addi (Scalar.muli (BitVec.ofNat 32 (i 1).val) 512#32) 256#32

/-- The masked scores of a forward tile. -/
abbrev msk (b : BitVec 32) (k : Vec Ideal S1x384x64 .bf16) (q : Vec Ideal S1x256x64 .bf16) : FVec Ideal S256x384 .f32 :=
  k0_pay1 (F := Ideal) (k0_pay16 k q) (rows b) cols (Hand0.first b)

/-- The pieces of the forward output: the two halves. -/
theorem pieces_o : (Hand0.pieces (F := Ideal) c i a2 g2 a3 g3 a4 g4 a5 g5 a6 g6 x0 x1 x2).1
    = [⟨bot, k0_pay13 (F := Ideal) (k0_pay7 (View.ld x2 (fspan1 i))) (msk (fbase1 i) (View.ld x1 (fspan1 i)) (View.ld x0 bot))
          (Hand0.most (msk (fbase1 i) (View.ld x1 (fspan1 i)) (View.ld x0 bot)))⟩,
       ⟨top, k0_pay13 (F := Ideal) (k0_pay7 (View.ld x2 (fspan0 i))) (msk (fbase0 i) (View.ld x1 (fspan0 i)) (View.ld x0 top))
          (Hand0.most (msk (fbase0 i) (View.ld x1 (fspan0 i)) (View.ld x0 top)))⟩] := by
  delta Hand0.pieces
  dsimp only
  sl_unfold_run_names
  simp only [View.readAt_eq_ld, g2.read_unread, g3.read_unread, g4.read_unread]
  rfl

/-- The pieces of the row log-sums. -/
theorem pieces_l : (Hand0.pieces (F := Ideal) c i a2 g2 a3 g3 a4 g4 a5 g5 a6 g6 x0 x1 x2).2.1
    = [⟨bot1, k0_pay14 (F := Ideal) (msk (fbase1 i) (View.ld x1 (fspan1 i)) (View.ld x0 bot))
          (Hand0.most (msk (fbase1 i) (View.ld x1 (fspan1 i)) (View.ld x0 bot)))⟩,
       ⟨top1, k0_pay14 (F := Ideal) (msk (fbase0 i) (View.ld x1 (fspan0 i)) (View.ld x0 top))
          (Hand0.most (msk (fbase0 i) (View.ld x1 (fspan0 i)) (View.ld x0 top)))⟩] := by
  delta Hand0.pieces
  dsimp only
  sl_unfold_run_names
  simp only [View.readAt_eq_ld, g2.read_unread, g3.read_unread, g4.read_unread]
  rfl

variable (q k v : Fin 512 → Fin 64 → ℝ) (h0 : ∀ n d, Is (x0 (ix3 0 n d)) (q n d))
  (h1 : ∀ j d, Is (x1 (ix3 0 j d)) (pd (fun m => k m d) j.val)) (h2 : ∀ j d, Is (x2 (ix3 0 j d)) (pd (fun m => v m d) j.val))

/-- A range of 256 rows read from a block of 512, and a span of 384 padded keys read from a block of 640. -/
theorem part (a : ℕ) (ha : a + 256 ≤ 512) (off : Fin 3 → ℕ) (e : off = ![0, a, 0]) (hi) (X : Vec Ideal S1x512x64 .bf16) (f : Fin 512 → Fin 64 → ℝ)
    (h : ∀ n d, Is (X (ix3 0 n d)) (f n d)) (r : Fin 256) (d : Fin 64) :
    Is (View.ld X (Rect.unit off S1x256x64.size hi) (ix3 0 r d)) (f (at' a ha r) d) :=
  (ld_row (N := 512) (M := 256) (D := 64) off e hi X ha r d).trans (h _ d)
theorem keys (a : ℕ) (ha : a + 256 ≤ 512) (off : Fin 3 → ℕ) (e : off = ![0, a, 0]) (hi) (X : Vec Ideal S1x640x64 .bf16) (f : Fin 512 → Fin 64 → ℝ)
    (h : ∀ j d, Is (X (ix3 0 j d)) (pd (fun m => f m d) j.val)) (j : Fin 384) (d : Fin 64) :
    Is (View.ld X (Rect.unit off S1x384x64.size hi) (ix3 0 j d)) (pd (fun m => f m d) (a + j.val)) :=
  (ld_row (N := 640) (M := 384) (D := 64) off e hi X (by omega) j d).trans (h _ d)

/-- A query is in the first half or in the second. -/
theorem halves (n : Fin 512) : (∃ r : Fin 256, n = at' 0 (by omega) r) ∨ ∃ r : Fin 256, n = at' 256 (by omega) r := by
  by_cases h : n.val < 256
  · exact .inl ⟨⟨n.val, h⟩, Fin.ext (by show n.val = 0 + n.val; omega)⟩
  · exact .inr ⟨⟨n.val - 256, by omega⟩, Fin.ext (by show n.val = 256 + (n.val - 256); omega)⟩

theorem fbase0_eq : fbase0 i = BitVec.ofInt 32 ((0 : ℕ) : ℤ) := by unfold fbase0; rw [one0]; rfl
theorem fbase1_eq : fbase1 i = BitVec.ofInt 32 ((256 : ℕ) : ℤ) := by unfold fbase1; rw [one0]; rfl

include h0 h1 h2 in
/-- The forward output of a class and head. -/
theorem block_o (n : Fin 512) (e : Fin 64) :
    Is (View.canon (Hand0.pieces (F := Ideal) c i a2 g2 a3 g3 a4 g4 a5 g5 a6 g6 x0 x1 x2).1 (ix3 0 n e)) (oR q k v n e) := by
  rw [pieces_o, fbase0_eq, fbase1_eq]
  obtain ⟨r, rfl⟩ | ⟨r, rfl⟩ := halves n
  · refine (canon_out (N := 512) (M := 256) (D := 64) (o := 256) _ rfl _ _ _ _ _ (.inl (by show 0 + r.val < 256; omega))).trans ?_
    refine (canon_in (N := 512) (M := 256) (D := 64) (o := 0) _ rfl _ _ _ (by omega) r e).trans ?_
    exact Hand0.tile_out 0 (by omega) q k v _ _ _ (part 0 _ _ rfl _ x0 q h0) (keys 0 (by omega) _ (foff0_eq i) _ x1 k h1) (keys 0 (by omega) _ (foff0_eq i) _ x2 v h2) r e
  · refine (canon_in (N := 512) (M := 256) (D := 64) (o := 256) _ rfl _ _ _ (by omega) r e).trans ?_
    exact Hand0.tile_out 256 (by omega) q k v _ _ _ (part 256 _ _ rfl _ x0 q h0) (keys 256 (by omega) _ (foff1_eq i) _ x1 k h1) (keys 256 (by omega) _ (foff1_eq i) _ x2 v h2) r e

include h0 h1 in
/-- Its row log-sums. -/
theorem block_l (n : Fin 512) (z : Fin 1) :
    Is (View.canon (Hand0.pieces (F := Ideal) c i a2 g2 a3 g3 a4 g4 a5 g5 a6 g6 x0 x1 x2).2.1 (ix3 0 n z)) (lR q k n) := by
  rw [pieces_l, fbase0_eq, fbase1_eq]
  obtain ⟨r, rfl⟩ | ⟨r, rfl⟩ := halves n
  · refine (canon_out (N := 512) (M := 256) (D := 1) (o := 256) _ rfl _ _ _ _ _ (.inl (by show 0 + r.val < 256; omega))).trans ?_
    refine (canon_in (N := 512) (M := 256) (D := 1) (o := 0) _ rfl _ _ _ (by omega) r z).trans ?_
    exact Hand0.tile_lse 0 (by omega) q k _ _ (part 0 _ _ rfl _ x0 q h0) (keys 0 (by omega) _ (foff0_eq i) _ x1 k h1) r z
  · refine (canon_in (N := 512) (M := 256) (D := 1) (o := 256) _ rfl _ _ _ (by omega) r z).trans ?_
    exact Hand0.tile_lse 256 (by omega) q k _ _ (part 256 _ _ rfl _ x0 q h0) (keys 256 (by omega) _ (foff1_eq i) _ x1 k h1) r z
end

section
variable (c : Dev nD) (i : grid1.Coords)
  (a2 : Memref sig .tc .vmem S1x512x64 .bf16) (g2 : a2.IsWhole) (a3 : Memref sig .tc .vmem S1x640x64 .bf16) (g3 : a3.IsWhole)
  (a4 : Memref sig .tc .vmem S1x640x64 .bf16) (g4 : a4.IsWhole) (a5 : Memref sig .tc .vmem S1x512x64 .f32) (g5 : a5.IsWhole)
  (a6 : Memref sig .tc .vmem S1x512x1 .f32) (g6 : a6.IsWhole) (a7 : Memref sig .tc .vmem S1x512x64 .f32) (g7 : a7.IsWhole)
  (a8 : Memref sig .tc .vmem S1x512x1 .f32) (g8 : a8.IsWhole) (a9 : Memref sig .tc .vmem S1x512x64 .f32) (g9 : a9.IsWhole)
  (a10 : Memref sig .tc .vmem S1x640x64 .f32) (g10 : a10.IsWhole) (a11 : Memref sig .tc .vmem S1x640x64 .f32) (g11 : a11.IsWhole)
  (hf : Hand.first i)
  (x0 : Vec Ideal S1x512x64 .bf16) (x1 x2 : Vec Ideal S1x640x64 .bf16) (x3 : Vec Ideal S1x512x64 .f32) (x4 : Vec Ideal S1x512x1 .f32)
  (x5 : Vec Ideal S1x512x64 .f32) (x6 : Vec Ideal S1x512x1 .f32)
  (q k v y : Fin 512 → Fin 64 → ℝ) (dl : Fin 512 → ℝ)
  (h0 : ∀ n d, Is (x0 (ix3 0 n d)) (q n d)) (h1 : ∀ j d, Is (x1 (ix3 0 j d)) (pd (fun m => k m d) j.val))
  (h2 : ∀ j d, Is (x2 (ix3 0 j d)) (pd (fun m => v m d) j.val)) (h3 : ∀ n d, Is (x3 (ix3 0 n d)) (oR q k v n d))
  (h4 : ∀ n z, Is (x4 (ix3 0 n z)) (lR q k n)) (h5 : ∀ n d, Is (x5 (ix3 0 n d)) (y n d)) (h6 : ∀ n z, Is (x6 (ix3 0 n z)) (dl n))

/-- The same for the blocks kept in single precision, and for the blocks of one column. -/
theorem part32 (a : ℕ) (ha : a + 256 ≤ 512) (off : Fin 3 → ℕ) (e : off = ![0, a, 0]) (hi) (X : Vec Ideal S1x512x64 .f32) (f : Fin 512 → Fin 64 → ℝ)
    (h : ∀ n d, Is (X (ix3 0 n d)) (f n d)) (r : Fin 256) (d : Fin 64) :
    Is (View.ld X (Rect.unit off S1x256x64.size hi) (ix3 0 r d)) (f (at' a ha r) d) :=
  (ld_row (N := 512) (M := 256) (D := 64) off e hi X ha r d).trans (h _ d)
theorem part1 (a : ℕ) (ha : a + 256 ≤ 512) (off : Fin 3 → ℕ) (e : off = ![0, a, 0]) (hi) (X : Vec Ideal S1x512x1 .f32) (f : Fin 512 → ℝ)
    (h : ∀ n z, Is (X (ix3 0 n z)) (f n)) (r : Fin 256) (z : Fin 1) :
    Is (View.ld X (Rect.unit off S1x256x1.size hi) (ix3 0 r z)) (f (at' a ha r)) :=
  (ld_row (N := 512) (M := 256) (D := 1) off e hi X ha r z).trans (h _ z)

include h0 h1 h2 h3 h4 h5 h6 in
/-- The queries' gradient of a class and head. -/
theorem block_dq (n : Fin 512) (d : Fin 64) :
    Is (View.canon (Hand.pieces (F := Ideal) c i a2 g2 a3 g3 a4 g4 a5 g5 a6 g6 a7 g7 a8 g8 a9 g9 a10 g10 a11 g11 hf x0 x1 x2 x3 x4 x5 x6).1 (ix3 0 n d))
      (dqR q k v y dl n d) := by
  rw [Hand.pieces_dq]
  obtain ⟨r, rfl⟩ | ⟨r, rfl⟩ := halves n
  · refine (canon_out (N := 512) (M := 256) (D := 64) (o := 256) _ rfl _ _ _ _ _ (.inl (by show 0 + r.val < 256; omega))).trans ?_
    refine (canon_in (N := 512) (M := 256) (D := 64) (o := 0) _ rfl _ _ _ (by omega) r d).trans ?_
    rw [Hand.dq0_eq, base0_eq]
    exact Hand.dq_val 0 (by omega) q k v y dl _ _ _ _ _ _ _ (part 0 _ _ rfl _ x0 q h0) (keys 0 (by omega) _ (off0_eq i) _ x1 k h1)
      (keys 0 (by omega) _ (off0_eq i) _ x2 v h2) (part32 0 _ _ rfl _ x3 _ h3) (part1 0 _ _ rfl _ x4 _ h4) (part32 0 _ _ rfl _ x5 _ h5) (part1 0 _ _ rfl _ x6 _ h6) r d
  · refine (canon_in (N := 512) (M := 256) (D := 64) (o := 256) _ rfl _ _ _ (by omega) r d).trans ?_
    rw [Hand.dq1_eq, base1_eq]
    exact Hand.dq_val 256 (by omega) q k v y dl _ _ _ _ _ _ _ (part 256 _ _ rfl _ x0 q h0) (keys 256 (by omega) _ (off1_eq i) _ x1 k h1)
      (keys 256 (by omega) _ (off1_eq i) _ x2 v h2) (part32 256 _ _ rfl _ x3 _ h3) (part1 256 _ _ rfl _ x4 _ h4) (part32 256 _ _ rfl _ x5 _ h5)
      (part1 256 _ _ rfl _ x6 _ h6) r d

/-- A block of 640 rows that is cleared and then added to over the two spans: row `R` holds the sum of what the spans over it added. -/
theorem acc2 (z : Vec Ideal S1x640x64 .f32) (hz : ∀ R d, Is (z (ix3 0 R d)) 0) (w0 w1 : Vec Ideal S1x384x64 .f32 → Vec Ideal S1x384x64 .f32)
    (p0 p1 : ℕ → Fin 64 → ℝ) (hw0 : ∀ (acc : Vec Ideal S1x384x64 .f32) (x : ℝ) j d, Is (acc (ix3 0 j d)) x → Is (w0 acc (ix3 0 j d)) (x + p0 (0 + j.val) d))
    (hw1 : ∀ (acc : Vec Ideal S1x384x64 .f32) (x : ℝ) j d, Is (acc (ix3 0 j d)) x → Is (w1 acc (ix3 0 j d)) (x + p1 (256 + j.val) d)) (R : Fin 640) (d : Fin 64) :
    Is (View.canon (⟨span1 i, w1 (View.ld (View.canon [⟨span0 i, w0 (View.ld (View.canon [⟨all, z⟩]) (span0 i))⟩, ⟨all, z⟩]) (span1 i))⟩
        :: [⟨span0 i, w0 (View.ld (View.canon [⟨all, z⟩]) (span0 i))⟩, ⟨all, z⟩]) (ix3 0 R d))
      ((if R.val < 384 then p0 R.val d else 0) + if 256 ≤ R.val then p1 R.val d else 0) := by
  have e0 : ∀ (R : Fin 640) (d : Fin 64), Is (View.canon (Val := Elt Ideal) (s := S1x640x64) (e := .f32) [⟨all, z⟩] (ix3 0 R d)) 0 := fun R d => by
    have := canon_in (Val := Elt Ideal) (t := .f32) (N := 640) (M := 640) (D := 64) (o := 0) ![0, 0, 0] rfl inb_S1x640x64_S1x640x64_0_0_0 z [] (by omega) R d
    rw [show (⟨0 + R.val, by omega⟩ : Fin 640) = R from Fin.ext (by simp)] at this
    exact this.trans (hz R d)
  have e1 : ∀ (R : Fin 640) (d : Fin 64), Is (View.canon (Val := Elt Ideal) (s := S1x640x64) (e := .f32)
      [⟨span0 i, w0 (View.ld (View.canon [⟨all, z⟩]) (span0 i))⟩, ⟨all, z⟩] (ix3 0 R d)) (if R.val < 384 then p0 R.val d else 0) := fun R d => by
    by_cases h : R.val < 384
    · have := canon_in (Val := Elt Ideal) (t := .f32) (N := 640) (M := 384) (D := 64) (o := 0) _ (off0_eq i) (k1_off1_inb i 0)
        (w0 (View.ld (View.canon [⟨all, z⟩]) (span0 i))) [⟨all, z⟩] (by omega) ⟨R.val, h⟩ d
      rw [show (⟨0 + (⟨R.val, h⟩ : Fin 384).val, by omega⟩ : Fin 640) = R from Fin.ext (by simp)] at this
      refine this.trans ?_
      refine (hw0 _ 0 ⟨R.val, h⟩ d ((ld_row (Val := Elt Ideal) (t := .f32) (N := 640) (M := 384) (D := 64) _ (off0_eq i) _ _ (by omega) _ d).trans (e0 _ d))).trans ?_
      rw [if_pos h, zero_add, zero_add]
    · rw [if_neg h]
      exact (canon_out (Val := Elt Ideal) (t := .f32) (N := 640) (M := 384) (D := 64) (o := 0) _ (off0_eq i) _ _ _ R d (.inr (by omega))).trans (e0 R d)
  by_cases h : 256 ≤ R.val
  · have := canon_in (Val := Elt Ideal) (t := .f32) (N := 640) (M := 384) (D := 64) (o := 256) _ (off1_eq i) (k1_off1_inb i 1)
      (w1 (View.ld (View.canon [⟨span0 i, w0 (View.ld (View.canon [⟨all, z⟩]) (span0 i))⟩, ⟨all, z⟩]) (span1 i)))
      [⟨span0 i, w0 (View.ld (View.canon [⟨all, z⟩]) (span0 i))⟩, ⟨all, z⟩] (by omega) ⟨R.val - 256, by omega⟩ d
    have hR : (⟨256 + (⟨R.val - 256, by omega⟩ : Fin 384).val, by show 256 + (R.val - 256) < 640; omega⟩ : Fin 640) = R := Fin.ext (by show 256 + (R.val - 256) = R.val; omega)
    rw [hR] at this
    refine this.trans ?_
    refine (hw1 _ _ ⟨R.val - 256, by omega⟩ d ((ld_row (Val := Elt Ideal) (t := .f32) (N := 640) (M := 384) (D := 64) _ (off1_eq i) _ _ (by omega) _ d).trans
      ((congrArg (fun S => View.canon (Val := Elt Ideal) (s := S1x640x64) (e := .f32) [⟨span0 i, w0 (View.ld (View.canon [⟨all, z⟩]) (span0 i))⟩, ⟨all, z⟩] (ix3 0 S d)) hR).trans
        (e1 R d)))).trans ?_
    rw [if_pos h, show 256 + (⟨R.val - 256, by omega⟩ : Fin 384).val = R.val from congrArg Fin.val hR]
  · rw [if_neg h, add_zero]
    exact (canon_out (Val := Elt Ideal) (t := .f32) (N := 640) (M := 384) (D := 64) (o := 256) _ (off1_eq i) _ _ _ R d (.inl (by omega))).trans (e1 R d)

/-- A key's sum over the queries of both tiles. -/
theorem sum2 (f : Fin 512 → Fin 512 → ℝ) (y : Fin 512 → ℝ) (hf : ∀ n m, ¬ near n m → f n m = 0) (m : Fin 512) :
    ((if m.val + 64 < 384 then ∑ r : Fin 256, slot (at' 0 (by omega) r) (f (at' 0 (by omega) r)) (m.val + 64) * y (at' 0 (by omega) r) else 0)
      + if 256 ≤ m.val + 64 then ∑ r : Fin 256, slot (at' 256 (by omega) r) (f (at' 256 (by omega) r)) (m.val + 64) * y (at' 256 (by omega) r) else 0)
      = ∑ n, f n m * y n := by
  refine (cols2 m (fun n => f n m * y n) _ _ (fun r => ?_) fun r => ?_).trans (Finset.sum_congr rfl fun n _ => ?_)
  · rw [slot, pd_in, ite_mul, zero_mul]
  · rw [slot, pd_in, ite_mul, zero_mul]
  · by_cases hn : near n m
    · rw [if_pos hn]
    · rw [if_neg hn, hf n m hn, zero_mul]

include h0 h1 h2 h3 h4 h5 h6 in
/-- The keys' gradient of a class and head, in the rows after the leading padding. -/
theorem block_dk (m : Fin 512) (d : Fin 64) :
    Is (View.canon (Hand.pieces (F := Ideal) c i a2 g2 a3 g3 a4 g4 a5 g5 a6 g6 a7 g7 a8 g8 a9 g9 a10 g10 a11 g11 hf x0 x1 x2 x3 x4 x5 x6).2.1
      (ix3 0 ⟨m.val + 64, by omega⟩ d)) (dkR q k v y dl m d) := by
  rw [Hand.pieces_dk]
  refine (acc2 i _ (fun R d => ?_) (Hand.dk0 i _ _ _ _ _ _ _) (Hand.dk1 i _ _ _ _ _ _ _)
    (fun R d => ∑ r : Fin 256, slot (at' 0 (by omega) r) (dsw (at' 0 (by omega) r) (sc q k (at' 0 (by omega) r)) (dp v y (at' 0 (by omega) r)) (dl (at' 0 (by omega) r))) R
      * q (at' 0 (by omega) r) d)
    (fun R d => ∑ r : Fin 256, slot (at' 256 (by omega) r) (dsw (at' 256 (by omega) r) (sc q k (at' 256 (by omega) r)) (dp v y (at' 256 (by omega) r)) (dl (at' 256 (by omega) r))) R
      * q (at' 256 (by omega) r) d)
    (fun acc x j d ha => ?_) (fun acc x j d ha => ?_) ⟨m.val + 64, by omega⟩ d).trans ?_
  · pointwise [k1_pay4]
    exact EReal.coe_zero.symm
  · rw [Hand.dk0_eq, base0_eq]
    refine (Hand.dk_val 0 (by omega) q k v y dl _ _ _ _ _ _ _ acc (part 0 _ _ rfl _ x0 q h0) (keys 0 (by omega) _ (off0_eq i) _ x1 k h1)
      (keys 0 (by omega) _ (off0_eq i) _ x2 v h2) (part32 0 _ _ rfl _ x3 _ h3) (part1 0 _ _ rfl _ x4 _ h4) (part32 0 _ _ rfl _ x5 _ h5)
      (part1 0 _ _ rfl _ x6 _ h6) j d).trans ?_
    rw [ha, ← EReal.coe_add]
  · rw [Hand.dk1_eq, base1_eq]
    refine (Hand.dk_val 256 (by omega) q k v y dl _ _ _ _ _ _ _ acc (part 256 _ _ rfl _ x0 q h0) (keys 256 (by omega) _ (off1_eq i) _ x1 k h1)
      (keys 256 (by omega) _ (off1_eq i) _ x2 v h2) (part32 256 _ _ rfl _ x3 _ h3) (part1 256 _ _ rfl _ x4 _ h4) (part32 256 _ _ rfl _ x5 _ h5)
      (part1 256 _ _ rfl _ x6 _ h6) j d).trans ?_
    rw [ha, ← EReal.coe_add]
  · exact congrArg (fun x : ℝ => (x : EReal)) (sum2 (fun n m => dsw n (sc q k n) (dp v y n) (dl n) m) (fun n => q n d) (fun n m h => dsw_far _ _ _ _ _ h) m)

include h0 h1 h4 h5 in
/-- The values' gradient of a class and head. -/
theorem block_dv (m : Fin 512) (d : Fin 64) :
    Is (View.canon (Hand.pieces (F := Ideal) c i a2 g2 a3 g3 a4 g4 a5 g5 a6 g6 a7 g7 a8 g8 a9 g9 a10 g10 a11 g11 hf x0 x1 x2 x3 x4 x5 x6).2.2.1
      (ix3 0 ⟨m.val + 64, by omega⟩ d)) (dvR q k y m d) := by
  rw [Hand.pieces_dv]
  refine (acc2 i _ (fun R d => ?_) (Hand.dv0 i _ _ _ _) (Hand.dv1 i _ _ _ _)
    (fun R d => ∑ r : Fin 256, slot (at' 0 (by omega) r) (pw (at' 0 (by omega) r) (sc q k (at' 0 (by omega) r))) R * y (at' 0 (by omega) r) d)
    (fun R d => ∑ r : Fin 256, slot (at' 256 (by omega) r) (pw (at' 256 (by omega) r) (sc q k (at' 256 (by omega) r))) R * y (at' 256 (by omega) r) d)
    (fun acc x j d ha => ?_) (fun acc x j d ha => ?_) ⟨m.val + 64, by omega⟩ d).trans ?_
  · pointwise [k1_pay5]
    exact EReal.coe_zero.symm
  · rw [Hand.dv0_eq, base0_eq]
    refine (Hand.dv_val 0 (by omega) q k y _ _ _ _ acc (part 0 _ _ rfl _ x0 q h0) (keys 0 (by omega) _ (off0_eq i) _ x1 k h1)
      (part1 0 _ _ rfl _ x4 _ h4) (part32 0 _ _ rfl _ x5 _ h5) j d).trans ?_
    rw [ha, ← EReal.coe_add]
  · rw [Hand.dv1_eq, base1_eq]
    refine (Hand.dv_val 256 (by omega) q k y _ _ _ _ acc (part 256 _ _ rfl _ x0 q h0) (keys 256 (by omega) _ (off1_eq i) _ x1 k h1)
      (part1 256 _ _ rfl _ x4 _ h4) (part32 256 _ _ rfl _ x5 _ h5) j d).trans ?_
    rw [ha, ← EReal.coe_add]
  · exact congrArg (fun x : ℝ => (x : EReal)) (sum2 (fun n m => pw n (sc q k n) m) (fun n => y n d) (fun n m h => pw_far _ _ _ h) m)
end

end Cert.BandIdeal.Block

end
-- ==== Proof.BandArr.lean ====
/- THE ARRAYS OF THE BANDED ATTENTION'S TWO CALLS: each block of an output array is what its grid point leaves. -/
module

public import proofs.«01_k».proof.Proof.BandBlock
public import Idealize.ShloMosaic.Lib.Pipeline.ValueKit.Geometry

@[expose] public section

set_option maxRecDepth 16384
set_option backward.proofsInPublic true

noncomputable section

namespace Cert.BandIdeal.Arr

open Cert.BandIdeal Cert.BandIdeal.Gen Cert.BandMath Cert.Reals
open Cert.BandIdeal.Block (Is)
open Idealize.ShloMosaic Idealize.ShloMosaic.TcCoe Idealize.ShloMosaic.Tactic

variable (V : (c : Dev nD) → (b : Ref sig .tc) → Buf (Elt Ideal) ((c : Thread nD τ).loc b)) (c : Dev nD)

/-- The grid points, by class and head. -/
abbrev pt0 (b : Fin 96) : Fin cfg0.N := ⟨b.val, b.isLt⟩
abbrev pt1 (b : Fin 96) : Fin cfg1.N := ⟨b.val, b.isLt⟩

/-- Every window stages the block of its point's class and head. -/
theorem idx0 : ∀ t : Fin cfg0.N, win0_0.index t = ![t.val, 0, 0] ∧ win0_1.index t = ![t.val, 0, 0] ∧ win0_2.index t = ![t.val, 0, 0] ∧ win0_3.index t = ![t.val, 0, 0] ∧ win0_4.index t = ![t.val, 0, 0] :=
  (by decide +kernel : ∀ t : Fin grid0.N, _)
theorem idx1 : ∀ t : Fin cfg1.N, win1_0.index t = ![t.val, 0, 0] ∧ win1_1.index t = ![t.val, 0, 0] ∧ win1_2.index t = ![t.val, 0, 0] ∧ win1_3.index t = ![t.val, 0, 0] ∧ win1_4.index t = ![t.val, 0, 0] ∧ win1_5.index t = ![t.val, 0, 0] ∧ win1_6.index t = ![t.val, 0, 0] ∧ win1_7.index t = ![t.val, 0, 0] ∧ win1_8.index t = ![t.val, 0, 0] ∧ win1_9.index t = ![t.val, 0, 0] :=
  (by decide +kernel : ∀ t : Fin grid1.N, _)

/-- The forward output's array. -/
theorem arr_o (b : Fin 96) (n : Fin 512) (e : Fin 64) :
    (((Hand0.dat V c).arrAt 3 cfg0.N : FVec Ideal S96x512x64 .f32) (ix3 b n e)) = (Hand0.out3 V c (pt0 b) : FVec Ideal S1x512x64 .f32) (ix3 0 n e) := by
  have hG : (Hand0.dat V c).arrAt 3 cfg0.N = fun j : S96x512x64.Idx => (Hand0.out3 V c (pt0 (j 0)) : FVec Ideal S1x512x64 .f32) (ix3 0 (j 1) (j 2)) := by
    refine (Hand0.dat V c).arrAt_eq_of_covers 3 _ (by decide +kernel) fun t _ j => ?_
    blk_simp
    rw [Hand0.after_3]
    have he : ∀ (n : Fin 512) (d : Fin 64), ((cfg0.win 3).blk t).view.emb (ix3 0 n d) = ix3 ⟨t.val, t.isLt⟩ n d := fun n d => by
      blk_ext [idx0 t]
    have hp : (Hand0.out3 V c t : FVec Ideal S1x512x64 .f32) j
        = (fun j : S96x512x64.Idx => (Hand0.out3 V c (pt0 (j 0)) : FVec Ideal S1x512x64 .f32) (ix3 0 (j 1) (j 2))) (((cfg0.win 3).blk t).view.emb j) := by
      have hj : j = ix3 0 (j 1) (j 2) := (eq_ix3 j).trans (congrArg (fun x => ix3 x (j 1) (j 2)) (Subsingleton.elim (α := Fin 1) _ _))
      rw [hj]
      exact (congrArg (fun j : S96x512x64.Idx => (Hand0.out3 V c (pt0 (j 0)) : FVec Ideal S1x512x64 .f32) (ix3 0 (j 1) (j 2))) (he (j 1) (j 2))).symm
    exact hp
  rw [hG]
  rfl

/-- The row log-sums' array. -/
theorem arr_l (b : Fin 96) (n : Fin 512) (e : Fin 1) :
    (((Hand0.dat V c).arrAt 4 cfg0.N : FVec Ideal S96x512x1 .f32) (ix3 b n e)) = (Hand0.out4 V c (pt0 b) : FVec Ideal S1x512x1 .f32) (ix3 0 n e) := by
  have hG : (Hand0.dat V c).arrAt 4 cfg0.N = fun j : S96x512x1.Idx => (Hand0.out4 V c (pt0 (j 0)) : FVec Ideal S1x512x1 .f32) (ix3 0 (j 1) (j 2)) := by
    refine (Hand0.dat V c).arrAt_eq_of_covers 4 _ (by decide +kernel) fun t _ j => ?_
    blk_simp
    rw [Hand0.after_4]
    have he : ∀ (n : Fin 512) (d : Fin 1), ((cfg0.win 4).blk t).view.emb (ix3 0 n d) = ix3 ⟨t.val, t.isLt⟩ n d := fun n d => by
      blk_ext [idx0 t]
    have hp : (Hand0.out4 V c t : FVec Ideal S1x512x1 .f32) j
        = (fun j : S96x512x1.Idx => (Hand0.out4 V c (pt0 (j 0)) : FVec Ideal S1x512x1 .f32) (ix3 0 (j 1) (j 2))) (((cfg0.win 4).blk t).view.emb j) := by
      have hj : j = ix3 0 (j 1) (j 2) := (eq_ix3 j).trans (congrArg (fun x => ix3 x (j 1) (j 2)) (Subsingleton.elim (α := Fin 1) _ _))
      rw [hj]
      exact (congrArg (fun j : S96x512x1.Idx => (Hand0.out4 V c (pt0 (j 0)) : FVec Ideal S1x512x1 .f32) (ix3 0 (j 1) (j 2))) (he (j 1) (j 2))).symm
    exact hp
  rw [hG]
  rfl

/-- The queries' gradient's array. -/
theorem arr_dq (b : Fin 96) (n : Fin 512) (e : Fin 64) :
    (((Hand.dat V c).arrAt 7 cfg1.N : FVec Ideal S96x512x64 .f32) (ix3 b n e)) = (Hand.out7 V c (pt1 b) : FVec Ideal S1x512x64 .f32) (ix3 0 n e) := by
  have hG : (Hand.dat V c).arrAt 7 cfg1.N = fun j : S96x512x64.Idx => (Hand.out7 V c (pt1 (j 0)) : FVec Ideal S1x512x64 .f32) (ix3 0 (j 1) (j 2)) := by
    refine (Hand.dat V c).arrAt_eq_of_covers 7 _ (by decide +kernel) fun t _ j => ?_
    blk_simp
    rw [Hand.after_7]
    have he : ∀ (n : Fin 512) (d : Fin 64), ((cfg1.win 7).blk t).view.emb (ix3 0 n d) = ix3 ⟨t.val, t.isLt⟩ n d := fun n d => by
      blk_ext [idx1 t]
    have hp : (Hand.out7 V c t : FVec Ideal S1x512x64 .f32) j
        = (fun j : S96x512x64.Idx => (Hand.out7 V c (pt1 (j 0)) : FVec Ideal S1x512x64 .f32) (ix3 0 (j 1) (j 2))) (((cfg1.win 7).blk t).view.emb j) := by
      have hj : j = ix3 0 (j 1) (j 2) := (eq_ix3 j).trans (congrArg (fun x => ix3 x (j 1) (j 2)) (Subsingleton.elim (α := Fin 1) _ _))
      rw [hj]
      exact (congrArg (fun j : S96x512x64.Idx => (Hand.out7 V c (pt1 (j 0)) : FVec Ideal S1x512x64 .f32) (ix3 0 (j 1) (j 2))) (he (j 1) (j 2))).symm
    exact hp
  rw [hG]
  rfl

/-- The keys' gradient's array, padded. -/
theorem arr_dk (b : Fin 96) (n : Fin 640) (e : Fin 64) :
    (((Hand.dat V c).arrAt 8 cfg1.N : FVec Ideal S96x640x64 .f32) (ix3 b n e)) = (Hand.out8 V c (pt1 b) : FVec Ideal S1x640x64 .f32) (ix3 0 n e) := by
  have hG : (Hand.dat V c).arrAt 8 cfg1.N = fun j : S96x640x64.Idx => (Hand.out8 V c (pt1 (j 0)) : FVec Ideal S1x640x64 .f32) (ix3 0 (j 1) (j 2)) := by
    refine (Hand.dat V c).arrAt_eq_of_covers 8 _ (by decide +kernel) fun t _ j => ?_
    blk_simp
    rw [Hand.after_8]
    have he : ∀ (n : Fin 640) (d : Fin 64), ((cfg1.win 8).blk t).view.emb (ix3 0 n d) = ix3 ⟨t.val, t.isLt⟩ n d := fun n d => by
      blk_ext [idx1 t]
    have hp : (Hand.out8 V c t : FVec Ideal S1x640x64 .f32) j
        = (fun j : S96x640x64.Idx => (Hand.out8 V c (pt1 (j 0)) : FVec Ideal S1x640x64 .f32) (ix3 0 (j 1) (j 2))) (((cfg1.win 8).blk t).view.emb j) := by
      have hj : j = ix3 0 (j 1) (j 2) := (eq_ix3 j).trans (congrArg (fun x => ix3 x (j 1) (j 2)) (Subsingleton.elim (α := Fin 1) _ _))
      rw [hj]
      exact (congrArg (fun j : S96x640x64.Idx => (Hand.out8 V c (pt1 (j 0)) : FVec Ideal S1x640x64 .f32) (ix3 0 (j 1) (j 2))) (he (j 1) (j 2))).symm
    exact hp
  rw [hG]
  rfl

/-- The values' gradient's array, padded. -/
theorem arr_dv (b : Fin 96) (n : Fin 640) (e : Fin 64) :
    (((Hand.dat V c).arrAt 9 cfg1.N : FVec Ideal S96x640x64 .f32) (ix3 b n e)) = (Hand.out9 V c (pt1 b) : FVec Ideal S1x640x64 .f32) (ix3 0 n e) := by
  have hG : (Hand.dat V c).arrAt 9 cfg1.N = fun j : S96x640x64.Idx => (Hand.out9 V c (pt1 (j 0)) : FVec Ideal S1x640x64 .f32) (ix3 0 (j 1) (j 2)) := by
    refine (Hand.dat V c).arrAt_eq_of_covers 9 _ (by decide +kernel) fun t _ j => ?_
    blk_simp
    rw [Hand.after_9]
    have he : ∀ (n : Fin 640) (d : Fin 64), ((cfg1.win 9).blk t).view.emb (ix3 0 n d) = ix3 ⟨t.val, t.isLt⟩ n d := fun n d => by
      blk_ext [idx1 t]
    have hp : (Hand.out9 V c t : FVec Ideal S1x640x64 .f32) j
        = (fun j : S96x640x64.Idx => (Hand.out9 V c (pt1 (j 0)) : FVec Ideal S1x640x64 .f32) (ix3 0 (j 1) (j 2))) (((cfg1.win 9).blk t).view.emb j) := by
      have hj : j = ix3 0 (j 1) (j 2) := (eq_ix3 j).trans (congrArg (fun x => ix3 x (j 1) (j 2)) (Subsingleton.elim (α := Fin 1) _ _))
      rw [hj]
      exact (congrArg (fun j : S96x640x64.Idx => (Hand.out9 V c (pt1 (j 0)) : FVec Ideal S1x640x64 .f32) (ix3 0 (j 1) (j 2))) (he (j 1) (j 2))).symm
    exact hp
  rw [hG]
  rfl

/-! The blocks of the input arrays. -/

theorem blk0_0 (b : Fin 96) (n : Fin 512) (d : Fin 64) :
    (Hand0.iblk V c 0 (pt0 b) : FVec Ideal S1x512x64 .bf16) (ix3 0 n d) = (V c main_v3 : FVec Ideal S96x512x64 .bf16) (ix3 b n d) := by
  blk_ext [Hand0.iblk, idx0 (pt0 b)]
theorem blk0_1 (b : Fin 96) (n : Fin 640) (d : Fin 64) :
    (Hand0.iblk V c 1 (pt0 b) : FVec Ideal S1x640x64 .bf16) (ix3 0 n d) = (V c main_v12 : FVec Ideal S96x640x64 .bf16) (ix3 b n d) := by
  blk_ext [Hand0.iblk, idx0 (pt0 b)]
theorem blk0_2 (b : Fin 96) (n : Fin 640) (d : Fin 64) :
    (Hand0.iblk V c 2 (pt0 b) : FVec Ideal S1x640x64 .bf16) (ix3 0 n d) = (V c main_v13 : FVec Ideal S96x640x64 .bf16) (ix3 b n d) := by
  blk_ext [Hand0.iblk, idx0 (pt0 b)]
theorem blk1_0 (b : Fin 96) (n : Fin 512) (d : Fin 64) :
    (Hand.iblk V c 0 (pt1 b) : FVec Ideal S1x512x64 .bf16) (ix3 0 n d) = (V c main_v3 : FVec Ideal S96x512x64 .bf16) (ix3 b n d) := by
  blk_ext [Hand.iblk, idx1 (pt1 b)]
theorem blk1_1 (b : Fin 96) (n : Fin 640) (d : Fin 64) :
    (Hand.iblk V c 1 (pt1 b) : FVec Ideal S1x640x64 .bf16) (ix3 0 n d) = (V c main_v12 : FVec Ideal S96x640x64 .bf16) (ix3 b n d) := by
  blk_ext [Hand.iblk, idx1 (pt1 b)]
theorem blk1_2 (b : Fin 96) (n : Fin 640) (d : Fin 64) :
    (Hand.iblk V c 2 (pt1 b) : FVec Ideal S1x640x64 .bf16) (ix3 0 n d) = (V c main_v13 : FVec Ideal S96x640x64 .bf16) (ix3 b n d) := by
  blk_ext [Hand.iblk, idx1 (pt1 b)]
theorem blk1_3 (b : Fin 96) (n : Fin 512) (d : Fin 64) :
    (Hand.iblk V c 3 (pt1 b) : FVec Ideal S1x512x64 .f32) (ix3 0 n d) = (V c main_v14_0 : FVec Ideal S96x512x64 .f32) (ix3 b n d) := by
  blk_ext [Hand.iblk, idx1 (pt1 b)]
theorem blk1_4 (b : Fin 96) (n : Fin 512) (d : Fin 1) :
    (Hand.iblk V c 4 (pt1 b) : FVec Ideal S1x512x1 .f32) (ix3 0 n d) = (V c main_v14_1 : FVec Ideal S96x512x1 .f32) (ix3 b n d) := by
  blk_ext [Hand.iblk, idx1 (pt1 b)]
theorem blk1_5 (b : Fin 96) (n : Fin 512) (d : Fin 64) :
    (Hand.iblk V c 5 (pt1 b) : FVec Ideal S1x512x64 .f32) (ix3 0 n d) = (V c main_v24 : FVec Ideal S96x512x64 .f32) (ix3 b n d) := by
  blk_ext [Hand.iblk, idx1 (pt1 b)]
theorem blk1_6 (b : Fin 96) (n : Fin 512) (d : Fin 1) :
    (Hand.iblk V c 6 (pt1 b) : FVec Ideal S1x512x1 .f32) (ix3 0 n d) = (V c main_v28 : FVec Ideal S96x512x1 .f32) (ix3 b n d) := by
  blk_ext [Hand.iblk, idx1 (pt1 b)]

end Cert.BandIdeal.Arr

end
-- ==== Proof.BandHost.lean ====
/- THE HOST LINES OF THE BANDED ATTENTION: splitting the positions into classes, padding the keys and values, and joining the classes again. -/
module

public import proofs.«01_k».proof.Proof.BandRun
public import proofs.«01_k».proof.Proof.BandRefA
public import Idealize.ShloMosaic.Lib.StableHlo.ReadAt

@[expose] public section

set_option maxRecDepth 16384
set_option backward.proofsInPublic true

noncomputable section

namespace Cert.BandIdeal.Host

open Cert.BandIdeal Cert.BandIdeal.Gen Idealize.ShloMosaic Idealize.ShloMosaic.TcCoe Idealize.SL.Sem
open Cert.Reals Cert.BandMath
open Cert.BandRefIdeal.Read (at16)

variable (V : Valuation τ sig (Elt Ideal))

/-- Class `c` of head `h`. -/
abbrev cls (c : Fin 16) (h : Fin 6) : Fin 96 := ⟨6 * c.val + h.val, by omega⟩

/-- The integer zero as a real. -/
theorem word_zero : FloatOps.sitofp (F := Ideal) .bf16 0#32 = (0 : EReal) := by
  show ((((0#32 : BitVec 32).toInt : ℝ)) : EReal) = 0
  simp

/-- The queries, split into classes. -/
theorem read_v3 (c : Fin 16) (h : Fin 6) (n : Fin 512) (d : Fin 64) :
    (StableHlo.after hostOps0 V (Proc.devRef .tc main_v3) : FVec Ideal S96x512x64 .bf16) (ix3 (cls c h) n d)
      = (V (Proc.devRef .tc main_arg0) : FVec Ideal S8192x6x64 .f32) (ix3 (at16 c n) h d) := by
  after_reads_at
  refine congrArg _ (congrArg₂ (fun a b => ix3 a b d) (Fin.ext ?_) (Fin.ext ?_)) <;> dsimp only <;> omega

/-- The keys, split into classes. -/
theorem read_v7 (c : Fin 16) (h : Fin 6) (n : Fin 512) (d : Fin 64) :
    (StableHlo.after hostOps0 V (Proc.devRef .tc main_v7) : FVec Ideal S96x512x64 .bf16) (ix3 (cls c h) n d)
      = (V (Proc.devRef .tc main_arg1) : FVec Ideal S8192x6x64 .f32) (ix3 (at16 c n) h d) := by
  after_reads_at
  refine congrArg _ (congrArg₂ (fun a b => ix3 a b d) (Fin.ext ?_) (Fin.ext ?_)) <;> dsimp only <;> omega

/-- The values, split into classes. -/
theorem read_v11 (c : Fin 16) (h : Fin 6) (n : Fin 512) (d : Fin 64) :
    (StableHlo.after hostOps0 V (Proc.devRef .tc main_v11) : FVec Ideal S96x512x64 .bf16) (ix3 (cls c h) n d)
      = (V (Proc.devRef .tc main_arg2) : FVec Ideal S8192x6x64 .f32) (ix3 (at16 c n) h d) := by
  after_reads_at
  refine congrArg _ (congrArg₂ (fun a b => ix3 a b d) (Fin.ext ?_) (Fin.ext ?_)) <;> dsimp only <;> omega

/-- The integer zero that the padding is made of. -/
theorem read_c (j : S_.Idx) : (StableHlo.after hostOps0 V (Proc.devRef .tc main_c) : IVec S_ 32) j = 0#32 := by
  after_reads_at

/-- The keys with 64 rows of zeros before and after. -/
theorem read_v12 (hc : ∀ j, (V (Proc.devRef .tc main_c) : IVec S_ 32) j = 0#32) (b : Fin 96) (r : Fin 640) (d : Fin 64) :
    (StableHlo.after hostOps0_1 V (Proc.devRef .tc main_v12) : FVec Ideal S96x640x64 .bf16) (ix3 b r d)
      = if p : 64 ≤ r.val ∧ r.val < 576 then (show EReal from (V (Proc.devRef .tc main_v7) : FVec Ideal S96x512x64 .bf16) (ix3 b ⟨r.val - 64, by omega⟩ d)) else (0 : EReal) := by
  after_reads_at
  rw [hc]
  by_cases h : 64 ≤ r.val ∧ r.val < 576
  · rw [dif_pos h, dif_pos (by omega)]
  · rw [dif_neg h, dif_neg (by omega)]
    exact word_zero

/-- The integer zero that the padding is made of. -/
theorem read_c_0 (j : S_.Idx) : (StableHlo.after hostOps0_2 V (Proc.devRef .tc main_c_0) : IVec S_ 32) j = 0#32 := by
  after_reads_at

/-- The values with 64 rows of zeros before and after. -/
theorem read_v13 (hc : ∀ j, (V (Proc.devRef .tc main_c_0) : IVec S_ 32) j = 0#32) (b : Fin 96) (r : Fin 640) (d : Fin 64) :
    (StableHlo.after hostOps0_3 V (Proc.devRef .tc main_v13) : FVec Ideal S96x640x64 .bf16) (ix3 b r d)
      = if p : 64 ≤ r.val ∧ r.val < 576 then (show EReal from (V (Proc.devRef .tc main_v11) : FVec Ideal S96x512x64 .bf16) (ix3 b ⟨r.val - 64, by omega⟩ d)) else (0 : EReal) := by
  after_reads_at
  rw [hc]
  by_cases h : 64 ≤ r.val ∧ r.val < 576
  · rw [dif_pos h, dif_pos (by omega)]
  · rw [dif_neg h, dif_neg (by omega)]
    exact word_zero

/-- The output, classes joined. -/
theorem read_v17 (c : Fin 16) (h : Fin 6) (n : Fin 512) (d : Fin 64) :
    (StableHlo.after hostOps1 V (Proc.devRef .tc main_v17) : FVec Ideal S8192x6x64 .f32) (ix3 (at16 c n) h d)
      = (V (Proc.devRef .tc main_v14_0) : FVec Ideal S96x512x64 .f32) (ix3 (cls c h) n d) := by
  after_reads_at
  refine congrArg _ (congrArg₂ (fun a b => ix3 a b d) (Fin.ext ?_) (Fin.ext ?_)) <;> dsimp only <;> omega

/-- The queries' gradient, classes joined. -/
theorem read_v34 (c : Fin 16) (h : Fin 6) (n : Fin 512) (d : Fin 64) :
    (StableHlo.after hostOps2 V (Proc.devRef .tc main_v34) : FVec Ideal S8192x6x64 .f32) (ix3 (at16 c n) h d)
      = (V (Proc.devRef .tc main_v29_0) : FVec Ideal S96x512x64 .f32) (ix3 (cls c h) n d) := by
  after_reads_at
  refine congrArg _ (congrArg₂ (fun a b => ix3 a b d) (Fin.ext ?_) (Fin.ext ?_)) <;> dsimp only <;> omega

/-- The row log-sums, classes joined. -/
theorem read_v21 (c : Fin 16) (h : Fin 6) (n : Fin 512) :
    (StableHlo.after hostOps1 V (Proc.devRef .tc main_v21) : FVec Ideal S8192x6 .f32) (ix2 (at16 c n) h)
      = (V (Proc.devRef .tc main_v14_1) : FVec Ideal S96x512x1 .f32) (ix3 (cls c h) n 0) := by
  after_reads_at
  refine congrArg _ (congrArg₂ (fun a b => ix3 a b 0) (Fin.ext ?_) (Fin.ext ?_)) <;> dsimp only <;> omega

/-- The output's cotangent, split into classes. -/
theorem read_v24 (c : Fin 16) (h : Fin 6) (n : Fin 512) (d : Fin 64) :
    (StableHlo.after hostOps1 V (Proc.devRef .tc main_v24) : FVec Ideal S96x512x64 .f32) (ix3 (cls c h) n d)
      = (V (Proc.devRef .tc main_arg3) : FVec Ideal S8192x6x64 .f32) (ix3 (at16 c n) h d) := by
  after_reads_at
  refine congrArg _ (congrArg₂ (fun a b => ix3 a b d) (Fin.ext ?_) (Fin.ext ?_)) <;> dsimp only <;> omega

/-- The row log-sums' cotangent, split into classes. -/
theorem read_v28 (c : Fin 16) (h : Fin 6) (n : Fin 512) :
    (StableHlo.after hostOps1 V (Proc.devRef .tc main_v28) : FVec Ideal S96x512x1 .f32) (ix3 (cls c h) n 0)
      = (V (Proc.devRef .tc main_arg4) : FVec Ideal S8192x6 .f32) (ix2 (at16 c n) h) := by
  after_reads_at
  refine congrArg _ (congrArg₂ (fun a b => ix2 a b) (Fin.ext ?_) (Fin.ext ?_)) <;> dsimp only <;> omega

/-- The keys' gradient, without the padding, classes joined. -/
theorem read_v37 (c : Fin 16) (h : Fin 6) (n : Fin 512) (d : Fin 64) :
    (StableHlo.after hostOps2 V (Proc.devRef .tc main_v37) : FVec Ideal S8192x6x64 .f32) (ix3 (at16 c n) h d)
      = (V (Proc.devRef .tc main_v29_1) : FVec Ideal S96x640x64 .f32) (ix3 (cls c h) ⟨n.val + 64, by omega⟩ d) := by
  after_reads_at
  refine congrArg _ (congrArg₂ (fun a b => ix3 a b d) (Fin.ext ?_) (Fin.ext ?_)) <;> dsimp only <;> omega

/-- The values' gradient, likewise. -/
theorem read_v40 (c : Fin 16) (h : Fin 6) (n : Fin 512) (d : Fin 64) :
    (StableHlo.after hostOps2 V (Proc.devRef .tc main_v40) : FVec Ideal S8192x6x64 .f32) (ix3 (at16 c n) h d)
      = (V (Proc.devRef .tc main_v29_2) : FVec Ideal S96x640x64 .f32) (ix3 (cls c h) ⟨n.val + 64, by omega⟩ d) := by
  after_reads_at
  refine congrArg _ (congrArg₂ (fun a b => ix3 a b d) (Fin.ext ?_) (Fin.ext ?_)) <;> dsimp only <;> omega

end Cert.BandIdeal.Host

end
-- ==== Proof.BandVal.lean ====
/- THE BANDED ATTENTION'S RESULTS: what the program's buffers hold at its end, class by class and head by head, when its arguments are
   arrays of reals. -/
module

public import proofs.«01_k».proof.Proof.BandArr
public import proofs.«01_k».proof.Proof.BandHost

@[expose] public section

set_option maxRecDepth 16384
set_option backward.proofsInPublic true

noncomputable section

namespace Cert.BandIdeal.Val

open Cert.BandIdeal Cert.BandIdeal.Gen Cert.BandIdeal.Run Cert.BandIdeal.Host Cert.BandIdeal.Arr Cert.BandMath Cert.Reals
open Cert.BandIdeal.Block (Is block_o block_l block_dq block_dk block_dv)
open Cert.BandRefIdeal.Read (at16)
open Idealize.ShloMosaic Idealize.ShloMosaic.TcCoe Idealize.SL.Sem

variable (m : (ℓ : Loc nD τ sig) → Buf (Elt Ideal) ℓ) (D : Dev nD)
  (q k v y : Fin 16 → Fin 6 → Fin 512 → Fin 64 → ℝ) (dl : Fin 16 → Fin 6 → Fin 512 → ℝ)
  (h0 : ∀ c h n d, Is ((m ((D : Thread nD τ).loc main_arg0) : Vec Ideal S8192x6x64 .f32) (ix3 (at16 c n) h d)) (q c h n d))
  (h1 : ∀ c h n d, Is ((m ((D : Thread nD τ).loc main_arg1) : Vec Ideal S8192x6x64 .f32) (ix3 (at16 c n) h d)) (k c h n d))
  (h2 : ∀ c h n d, Is ((m ((D : Thread nD τ).loc main_arg2) : Vec Ideal S8192x6x64 .f32) (ix3 (at16 c n) h d)) (v c h n d))
  (h3 : ∀ c h n d, Is ((m ((D : Thread nD τ).loc main_arg3) : Vec Ideal S8192x6x64 .f32) (ix3 (at16 c n) h d)) (y c h n d))
  (h4 : ∀ c h n, Is ((m ((D : Thread nD τ).loc main_arg4) : Vec Ideal S8192x6 .f32) (ix2 (at16 c n) h)) (dl c h n))

/-- A padded column of reals. -/
theorem padded (f : Fin 512 → ℝ) (g : Fin 512 → EReal) (hg : ∀ n, Is (g n) (f n)) (r : Fin 640) :
    Is (if p : 64 ≤ r.val ∧ r.val < 576 then g ⟨r.val - 64, by omega⟩ else (0 : EReal)) (pd f r.val) := by
  unfold pd
  by_cases h : 64 ≤ r.val ∧ r.val < 576
  · rw [dif_pos h, dif_pos h]
    exact hg _
  · rw [dif_neg h, dif_neg h]
    exact EReal.coe_zero.symm

include h0 in
/-- What the calls find: the queries, the padded keys and the padded values of every class and head. -/
theorem in_q (c : Fin 16) (h : Fin 6) (n : Fin 512) (d : Fin 64) :
    Is ((B4 m D (Proc.devRef .tc main_v3) : Vec Ideal S96x512x64 .bf16) (ix3 (cls c h) n d)) (q c h n d) := by
  rw [B4_of m D main_v3 (by decide +kernel), B3_of m D main_v3 (by decide +kernel), B2_of m D main_v3 (by decide +kernel)]
  exact (read_v3 (B0 m D) c h n d).trans (h0 c h n d)

include h1 in
theorem in_k (c : Fin 16) (h : Fin 6) (j : Fin 640) (d : Fin 64) :
    Is ((B4 m D (Proc.devRef .tc main_v12) : Vec Ideal S96x640x64 .bf16) (ix3 (cls c h) j d)) (pd (fun n => k c h n d) j.val) := by
  rw [B4_of m D main_v12 (by decide +kernel), B3_of m D main_v12 (by decide +kernel)]
  exact (read_v12 (B1 m D) (read_c (B0 m D)) (cls c h) j d).trans
    (padded (fun n => k c h n d) (fun n => (B1 m D (Proc.devRef .tc main_v7) : Vec Ideal S96x512x64 .bf16) (ix3 (cls c h) n d))
      (fun n => (read_v7 (B0 m D) c h n d).trans (h1 c h n d)) j)

include h2 in
theorem in_v (c : Fin 16) (h : Fin 6) (j : Fin 640) (d : Fin 64) :
    Is ((B4 m D (Proc.devRef .tc main_v13) : Vec Ideal S96x640x64 .bf16) (ix3 (cls c h) j d)) (pd (fun n => v c h n d) j.val) := by
  refine (read_v13 (B3 m D) (read_c_0 (B2 m D)) (cls c h) j d).trans
    (padded (fun n => v c h n d) (fun n => (B3 m D (Proc.devRef .tc main_v11) : Vec Ideal S96x512x64 .bf16) (ix3 (cls c h) n d))
      (fun n => ?_) j)
  rw [B3_of m D main_v11 (by decide +kernel), B2_of m D main_v11 (by decide +kernel)]
  exact (read_v11 (B0 m D) c h n d).trans (h2 c h n d)

include h0 h1 h2 in
/-- The forward call's two arrays. -/
theorem fwd_o (c : Fin 16) (h : Fin 6) (n : Fin 512) (e : Fin 64) :
    Is ((B5 m D (Proc.devRef .tc main_v14_0) : Vec Ideal S96x512x64 .f32) (ix3 (cls c h) n e)) (oR (q c h) (k c h) (v c h) n e) := by
  refine (congrFun (B5_arr m D 3) _).trans ((arr_o (E4 m) D (cls c h) n e).trans ?_)
  exact block_o _ _ _ _ _ _ _ _ _ _ _ _ _ _ _ (q c h) (k c h) (v c h)
    (fun n d => (blk0_0 (E4 m) D (cls c h) n d).trans (in_q m D q h0 c h n d))
    (fun j d => (blk0_1 (E4 m) D (cls c h) j d).trans (in_k m D k h1 c h j d))
    (fun j d => (blk0_2 (E4 m) D (cls c h) j d).trans (in_v m D v h2 c h j d)) n e

include h0 h1 in
theorem fwd_l (c : Fin 16) (h : Fin 6) (n : Fin 512) (z : Fin 1) :
    Is ((B5 m D (Proc.devRef .tc main_v14_1) : Vec Ideal S96x512x1 .f32) (ix3 (cls c h) n z)) (lR (q c h) (k c h) n) := by
  refine (congrFun (B5_arr m D 4) _).trans ((arr_l (E4 m) D (cls c h) n z).trans ?_)
  exact block_l _ _ _ _ _ _ _ _ _ _ _ _ _ _ _ (q c h) (k c h)
    (fun n d => (blk0_0 (E4 m) D (cls c h) n d).trans (in_q m D q h0 c h n d))
    (fun j d => (blk0_1 (E4 m) D (cls c h) j d).trans (in_k m D k h1 c h j d)) n z

/-! What the backward call finds at a point, as its body's blocks. -/

section
variable (c : Fin 16) (h : Fin 6)

include h0 in
theorem at_q (n : Fin 512) (d : Fin 64) : Is ((Hand.iblk (E6 m) D 0 (pt1 (cls c h)) : Vec Ideal S1x512x64 .bf16) (ix3 0 n d)) (q c h n d) := by
  refine (blk1_0 (E6 m) D (cls c h) n d).trans ?_
  have e : E6 m D main_v3 = B4 m D (Proc.devRef .tc main_v3) := (B6_of m D main_v3 (by decide +kernel)).trans (B5_of m D main_v3 (by decide +kernel))
  rw [e]
  exact in_q m D q h0 c h n d

include h1 in
theorem at_k (j : Fin 640) (d : Fin 64) : Is ((Hand.iblk (E6 m) D 1 (pt1 (cls c h)) : Vec Ideal S1x640x64 .bf16) (ix3 0 j d)) (pd (fun n => k c h n d) j.val) := by
  refine (blk1_1 (E6 m) D (cls c h) j d).trans ?_
  have e : E6 m D main_v12 = B4 m D (Proc.devRef .tc main_v12) := (B6_of m D main_v12 (by decide +kernel)).trans (B5_of m D main_v12 (by decide +kernel))
  rw [e]
  exact in_k m D k h1 c h j d

include h2 in
theorem at_v (j : Fin 640) (d : Fin 64) : Is ((Hand.iblk (E6 m) D 2 (pt1 (cls c h)) : Vec Ideal S1x640x64 .bf16) (ix3 0 j d)) (pd (fun n => v c h n d) j.val) := by
  refine (blk1_2 (E6 m) D (cls c h) j d).trans ?_
  have e : E6 m D main_v13 = B4 m D (Proc.devRef .tc main_v13) := (B6_of m D main_v13 (by decide +kernel)).trans (B5_of m D main_v13 (by decide +kernel))
  rw [e]
  exact in_v m D v h2 c h j d

include h0 h1 h2 in
theorem at_o (n : Fin 512) (d : Fin 64) : Is ((Hand.iblk (E6 m) D 3 (pt1 (cls c h)) : Vec Ideal S1x512x64 .f32) (ix3 0 n d)) (oR (q c h) (k c h) (v c h) n d) := by
  refine (blk1_3 (E6 m) D (cls c h) n d).trans ?_
  have e : E6 m D main_v14_0 = B5 m D (Proc.devRef .tc main_v14_0) := B6_of m D main_v14_0 (by decide +kernel)
  rw [e]
  exact fwd_o m D q k v h0 h1 h2 c h n d

include h0 h1 in
theorem at_l (n : Fin 512) (z : Fin 1) : Is ((Hand.iblk (E6 m) D 4 (pt1 (cls c h)) : Vec Ideal S1x512x1 .f32) (ix3 0 n z)) (lR (q c h) (k c h) n) := by
  refine (blk1_4 (E6 m) D (cls c h) n z).trans ?_
  have e : E6 m D main_v14_1 = B5 m D (Proc.devRef .tc main_v14_1) := B6_of m D main_v14_1 (by decide +kernel)
  rw [e]
  exact fwd_l m D q k h0 h1 c h n z

/-- An argument is the same when the forward call has run. -/
theorem arg5 (a : Ref sig .tc) (ha : a ∈ args) : B5 m D (Proc.devRef .tc a) = m ((D : Thread nD τ).loc a) :=
  (B5_of m D a ((by decide +kernel : ∀ a ∈ args, ∀ w : Fin cfg0.W, Pipeline.arrRef spec0 w = a → (cfg0.win w).isOut = false) a ha)).trans <|
  (B4_of m D a ((by decide +kernel : ∀ a ∈ args, a ∉ hostOps0_3_W) a ha)).trans <|
  (B3_of m D a ((by decide +kernel : ∀ a ∈ args, a ∉ hostOps0_2_W) a ha)).trans <|
  (B2_of m D a ((by decide +kernel : ∀ a ∈ args, a ∉ hostOps0_1_W) a ha)).trans <|
  B1_of m D a ((by decide +kernel : ∀ a ∈ args, a ∉ hostOps0_W) a ha)

include h3 in
theorem at_y (n : Fin 512) (d : Fin 64) : Is ((Hand.iblk (E6 m) D 5 (pt1 (cls c h)) : Vec Ideal S1x512x64 .f32) (ix3 0 n d)) (y c h n d) := by
  refine (blk1_5 (E6 m) D (cls c h) n d).trans ((read_v24 (B5 m D) c h n d).trans ?_)
  rw [arg5 m D main_arg3 (by decide)]
  exact h3 c h n d

include h4 in
theorem at_dl (n : Fin 512) (z : Fin 1) : Is ((Hand.iblk (E6 m) D 6 (pt1 (cls c h)) : Vec Ideal S1x512x1 .f32) (ix3 0 n z)) (dl c h n) := by
  obtain rfl : z = 0 := Subsingleton.elim _ _
  refine (blk1_6 (E6 m) D (cls c h) n 0).trans ((read_v28 (B5 m D) c h n).trans ?_)
  rw [arg5 m D main_arg4 (by decide)]
  exact h4 c h n
end

/-! The five results. -/

include h0 h1 h2 in
/-- The forward output. -/
theorem res_o (c : Fin 16) (h : Fin 6) (n : Fin 512) (e : Fin 64) :
    Is ((B8 m D (Proc.devRef .tc main_v17) : Vec Ideal S8192x6x64 .f32) (ix3 (at16 c n) h e)) (oR (q c h) (k c h) (v c h) n e) := by
  rw [B8_of m D main_v17 (by decide +kernel), B7_of m D main_v17 (by decide +kernel)]
  exact (read_v17 (B5 m D) c h n e).trans (fwd_o m D q k v h0 h1 h2 c h n e)

include h0 h1 in
/-- The row log-sums. -/
theorem res_l (c : Fin 16) (h : Fin 6) (n : Fin 512) :
    Is ((B8 m D (Proc.devRef .tc main_v21) : Vec Ideal S8192x6 .f32) (ix2 (at16 c n) h)) (lR (q c h) (k c h) n) := by
  rw [B8_of m D main_v21 (by decide +kernel), B7_of m D main_v21 (by decide +kernel)]
  exact (read_v21 (B5 m D) c h n).trans (fwd_l m D q k h0 h1 c h n 0)

include h0 h1 h2 h3 h4 in
/-- The queries' gradient. -/
theorem res_dq (c : Fin 16) (h : Fin 6) (n : Fin 512) (d : Fin 64) :
    Is ((B8 m D (Proc.devRef .tc main_v34) : Vec Ideal S8192x6x64 .f32) (ix3 (at16 c n) h d)) (dqR (q c h) (k c h) (v c h) (y c h) (dl c h) n d) := by
  refine (read_v34 (B7 m D) c h n d).trans ((congrFun (B7_arr m D 7) _).trans ((arr_dq (E6 m) D (cls c h) n d).trans ?_))
  exact block_dq (q := q c h) (k := k c h) (v := v c h) (y := y c h) (dl := dl c h) (h0 := fun n d => at_q m D q h0 c h n d) (h1 := fun j d => at_k m D k h1 c h j d)
    (h2 := fun j d => at_v m D v h2 c h j d) (h3 := fun n d => at_o m D q k v h0 h1 h2 c h n d) (h4 := fun n z => at_l m D q k h0 h1 c h n z)
    (h5 := fun n d => at_y m D y h3 c h n d) (h6 := fun n z => at_dl m D dl h4 c h n z) (n := n) (d := d) ..

include h0 h1 h2 h3 h4 in
/-- The keys' gradient. -/
theorem res_dk (c : Fin 16) (h : Fin 6) (n : Fin 512) (d : Fin 64) :
    Is ((B8 m D (Proc.devRef .tc main_v37) : Vec Ideal S8192x6x64 .f32) (ix3 (at16 c n) h d)) (dkR (q c h) (k c h) (v c h) (y c h) (dl c h) n d) := by
  refine (read_v37 (B7 m D) c h n d).trans ((congrFun (B7_arr m D 8) _).trans ((arr_dk (E6 m) D (cls c h) ⟨n.val + 64, by omega⟩ d).trans ?_))
  exact block_dk (q := q c h) (k := k c h) (v := v c h) (y := y c h) (dl := dl c h) (h0 := fun n d => at_q m D q h0 c h n d) (h1 := fun j d => at_k m D k h1 c h j d)
    (h2 := fun j d => at_v m D v h2 c h j d) (h3 := fun n d => at_o m D q k v h0 h1 h2 c h n d) (h4 := fun n z => at_l m D q k h0 h1 c h n z)
    (h5 := fun n d => at_y m D y h3 c h n d) (h6 := fun n z => at_dl m D dl h4 c h n z) (m := n) (d := d) ..

include h0 h1 h3 in
/-- The values' gradient. -/
theorem res_dv (c : Fin 16) (h : Fin 6) (n : Fin 512) (d : Fin 64) :
    Is ((B8 m D (Proc.devRef .tc main_v40) : Vec Ideal S8192x6x64 .f32) (ix3 (at16 c n) h d)) (dvR (q c h) (k c h) (y c h) n d) := by
  refine (read_v40 (B7 m D) c h n d).trans ((congrFun (B7_arr m D 9) _).trans ((arr_dv (E6 m) D (cls c h) ⟨n.val + 64, by omega⟩ d).trans ?_))
  exact block_dv (q := q c h) (k := k c h) (y := y c h) (h0 := fun n d => at_q m D q h0 c h n d) (h1 := fun j d => at_k m D k h1 c h j d)
    (h4 := fun n z => at_l m D q k h0 h1 c h n z) (h5 := fun n d => at_y m D y h3 c h n d) (m := n) (d := d) ..

end Cert.BandIdeal.Val

end
-- ==== Proof.BandRefC.lean ====
/- THE REFERENCE OF BANDED ATTENTION, READ, LAST PART: its five results at an index, over the reals, are the plain sums of BandMath. -/
module

public import proofs.«01_k».proof.Proof.BandRefB

@[expose] public section

set_option maxRecDepth 16384
set_option backward.proofsInPublic true

noncomputable section

namespace Cert.BandRefIdeal.Read

open Cert.BandRefIdeal Cert.BandRefIdeal.Gen Idealize.ShloMosaic Cert.Reals Cert.BandMath

/-- A key's sum over the queries, added up from the windows of the three blocks that hold it. -/
theorem scatter (f : Fin 512 → Fin 512 → ℝ) (w : Fin 512 → ℝ) (hf : ∀ n m, ¬ near n m → f n m = 0) (A : Fin 8 → Fin 192 → EReal)
    (hA : ∀ b j, A b j = ((∑ i : Fin 64, slot (row b i) (f (row b i)) (64 * b.val + j.val) * w (row b i) : ℝ) : EReal)) (m : Fin 512) :
    (if h : 2 ≤ m.val / 64 + 1 ∧ m.val / 64 + 1 - 2 < 8 then A ⟨m.val / 64 + 1 - 2, h.2⟩ ⟨128 + m.val % 64, by omega⟩ else 0)
      + (if h : 1 ≤ m.val / 64 + 1 ∧ m.val / 64 + 1 - 1 < 8 then A ⟨m.val / 64 + 1 - 1, h.2⟩ ⟨64 + m.val % 64, by omega⟩ else 0)
      + (if h : m.val / 64 + 1 < 8 then A ⟨m.val / 64 + 1, h⟩ ⟨m.val % 64, by omega⟩ else 0) = ((∑ n, f n m * w n : ℝ) : EReal) := by
  have hm := m.isLt
  have hB : ∀ (b : Fin 8) (j : Fin 192), 64 * b.val + j.val = m.val + 64 →
      A b j = ((∑ i : Fin 64, (if inb (64 * b.val + i.val) (m.val + 64) then f (row b i) m * w (row b i) else 0) : ℝ) : EReal) := fun b j e => by
    rw [hA, e]
    refine congrArg (fun x : ℝ => (x : EReal)) (Finset.sum_congr rfl fun i _ => ?_)
    rw [slot, pd_in]
    split_ifs <;> simp
  let g : ℕ → ℝ := fun b => if hb : b < 8 then ∑ i : Fin 64, (if inb (64 * b + i.val) (m.val + 64) then f (row ⟨b, hb⟩ i) m * w (row ⟨b, hb⟩ i) else 0) else 0
  have hg : ∀ (b : ℕ) (hb : b < 8) (j : Fin 192), 64 * b + j.val = m.val + 64 → A ⟨b, hb⟩ j = (g b : EReal) := fun b hb j e => by
    rw [hB ⟨b, hb⟩ j e]; simp only [g, dif_pos hb]
  have c3 := cols3 m (fun n => f n m * w n) g (fun b hb => by simp only [g, dif_pos hb])
  have e3 : (∑ n, f n m * w n) = ∑ n, if near n m then f n m * w n else 0 := Finset.sum_congr rfl fun n _ => by
    by_cases h : near n m
    · rw [if_pos h]
    · rw [if_neg h, hf n m h, zero_mul]
  rw [e3, ← c3, EReal.coe_add, EReal.coe_add]
  refine congrArg₂ (fun x y : EReal => x + y) (congrArg₂ (fun x y : EReal => x + y) ?_ ?_) ?_
  · by_cases h : 2 ≤ m.val / 64 + 1
    · rw [dif_pos ⟨h, by omega⟩, if_pos h, hg _ _ _ (by dsimp only; omega)]
    · rw [dif_neg (fun k => h k.1), if_neg h, EReal.coe_zero]
  · rw [dif_pos ⟨by omega, by omega⟩, hg _ _ _ (by dsimp only; omega), show m.val / 64 + 1 - 1 = m.val / 64 by omega]
  · by_cases h : m.val / 64 + 1 < 8
    · rw [dif_pos h, if_pos h, hg _ _ _ (by dsimp only; omega)]
    · rw [dif_neg h, if_neg h, EReal.coe_zero]

variable (q k v y : Fin 16 → Fin 6 → Fin 512 → Fin 64 → ℝ) (dl : Fin 16 → Fin 6 → Fin 512 → ℝ)
  (X0 X1 X2 X3 : FVec Ideal S8192x6x64 .f32) (X4 : FVec Ideal S8192x6 .f32)
  (h0 : ∀ c h n d, X0 (ix3 (at16 c n) h d) = (q c h n d : EReal)) (h1 : ∀ c h n d, X1 (ix3 (at16 c n) h d) = (k c h n d : EReal))
  (h2 : ∀ c h n d, X2 (ix3 (at16 c n) h d) = (v c h n d : EReal)) (h3 : ∀ c h n d, X3 (ix3 (at16 c n) h d) = (y c h n d : EReal))
  (h4 : ∀ c h n, X4 (ix2 (at16 c n) h) = (dl c h n : EReal))

/-- The values' gradient is read from the ten blocks of padded rows. -/
theorem dv_rows (c : Fin 16) (m : Fin 512) (h : Fin 6) (e : Fin 64) : val_main_v162 (F := Ideal) X0 X1 X3 (ix3 (at16 c m) h e)
    = val_main_v151 (F := Ideal) X0 X1 X3 (ix4 c ⟨m.val + 64, by omega⟩ h e) := by
  unfold val_main_v162 val_main_v161 val_main_v153
  generalize val_main_v151 (F := Ideal) X0 X1 X3 = A
  pointwise
  exact congrArg₂ (fun a b => A (ix4 a b h e)) (Fin.ext (by dsimp only; omega)) (Fin.ext (by dsimp only; omega))

theorem dv_block (c : Fin 16) (m : Fin 512) (h : Fin 6) (e : Fin 64) : val_main_v151 (F := Ideal) X0 X1 X3 (ix4 c ⟨m.val + 64, by omega⟩ h e)
    = val_main_v142 (F := Ideal) X0 X1 X3 (ix5 c ⟨m.val / 64 + 1, by omega⟩ ⟨m.val % 64, by omega⟩ h e) := by
  rw [val_main_v151_apply]
  refine congrArg (val_main_v142 (F := Ideal) X0 X1 X3) (funext fun a => Fin.ext ?_)
  have := c.isLt; have := m.isLt; have := h.isLt; have := e.isLt
  match a with
  | ⟨0, _⟩ => show (((c.val * 640 + (m.val + 64)) * 6 + h.val) * 64 + e.val) / 245760 = c.val; omega
  | ⟨1, _⟩ => show (((c.val * 640 + (m.val + 64)) * 6 + h.val) * 64 + e.val) / 24576 % 10 = m.val / 64 + 1; omega
  | ⟨2, _⟩ => show (((c.val * 640 + (m.val + 64)) * 6 + h.val) * 64 + e.val) / 384 % 64 = m.val % 64; omega
  | ⟨3, _⟩ => show (((c.val * 640 + (m.val + 64)) * 6 + h.val) * 64 + e.val) / 64 % 6 = h.val; omega
  | ⟨4, _⟩ => show (((c.val * 640 + (m.val + 64)) * 6 + h.val) * 64 + e.val) % 64 = e.val; omega

/-- The keys' gradient is read from the ten blocks of padded rows. -/
theorem dk_rows (c : Fin 16) (m : Fin 512) (h : Fin 6) (e : Fin 64) : val_main_v164 (F := Ideal) X0 X1 X2 X3 X4 (ix3 (at16 c m) h e)
    = val_main_v155 (F := Ideal) X0 X1 X2 X3 X4 (ix4 c ⟨m.val + 64, by omega⟩ h e) := by
  unfold val_main_v164 val_main_v163 val_main_v157
  generalize val_main_v155 (F := Ideal) X0 X1 X2 X3 X4 = A
  pointwise
  exact congrArg₂ (fun a b => A (ix4 a b h e)) (Fin.ext (by dsimp only; omega)) (Fin.ext (by dsimp only; omega))

theorem dk_block (c : Fin 16) (m : Fin 512) (h : Fin 6) (e : Fin 64) : val_main_v155 (F := Ideal) X0 X1 X2 X3 X4 (ix4 c ⟨m.val + 64, by omega⟩ h e)
    = val_main_v150 (F := Ideal) X0 X1 X2 X3 X4 (ix5 c ⟨m.val / 64 + 1, by omega⟩ ⟨m.val % 64, by omega⟩ h e) := by
  rw [val_main_v155_apply]
  refine congrArg (val_main_v150 (F := Ideal) X0 X1 X2 X3 X4) (funext fun a => Fin.ext ?_)
  have := c.isLt; have := m.isLt; have := h.isLt; have := e.isLt
  match a with
  | ⟨0, _⟩ => show (((c.val * 640 + (m.val + 64)) * 6 + h.val) * 64 + e.val) / 245760 = c.val; omega
  | ⟨1, _⟩ => show (((c.val * 640 + (m.val + 64)) * 6 + h.val) * 64 + e.val) / 24576 % 10 = m.val / 64 + 1; omega
  | ⟨2, _⟩ => show (((c.val * 640 + (m.val + 64)) * 6 + h.val) * 64 + e.val) / 384 % 64 = m.val % 64; omega
  | ⟨3, _⟩ => show (((c.val * 640 + (m.val + 64)) * 6 + h.val) * 64 + e.val) / 64 % 6 = h.val; omega
  | ⟨4, _⟩ => show (((c.val * 640 + (m.val + 64)) * 6 + h.val) * 64 + e.val) % 64 = e.val; omega

include h0 h1 h3 in
/-- The values' gradient in windows. -/
theorem ref_dvw (c : Fin 16) (b : Fin 8) (j : Fin 192) (h : Fin 6) (e : Fin 64) : val_main_v115 (F := Ideal) X0 X1 X3 (ix5 c b j h e)
    = ((∑ i : Fin 64, slot (row b i) (pw (row b i) (sc (q c h) (k c h) (row b i))) (64 * b.val + j.val) * y c h (row b i) e : ℝ) : EReal) := by
  have key : ∀ i : Fin 64, val_main_v112 (F := Ideal) X0 X1 X3 (ix5 c b h e i) * val_main_v71 (F := Ideal) X0 X1 (ix5 c b h i j)
      = ((slot (row b i) (pw (row b i) (sc (q c h) (k c h) (row b i))) (64 * b.val + j.val) * y c h (row b i) e : ℝ) : EReal) := fun i => by
    obtain ⟨x, hx⟩ := ref_max q k X0 X1 h0 h1 c b h i
    have hD := den_pos (row b i) (sc (q c h) (k c h) (row b i))
    have hE := Real.exp_pos (-x)
    have hd := ref_den q k X0 X1 h0 h1 c b h i x hx
    have hs : val_main_v112 (F := Ideal) X0 X1 X3 (ix5 c b h e i) = Ideal.div (val_main_v97 (F := Ideal) X3 (ix5 c b i h e)) (val_main_v72 (F := Ideal) X0 X1 (ix4 c b h i)) := by
      unfold val_main_v112 val_main_v108 val_main_v107 val_main_v76 val_main_v75
      generalize val_main_v97 (F := Ideal) X3 = A
      generalize val_main_v72 (F := Ideal) X0 X1 = D
      pointwise
    rw [hs, ref_y y X3 h3, hd, div_real _ (mul_pos hE hD).ne', ref_exp q k X0 X1 h0 h1 c b h i x hx, ← EReal.coe_mul, ar_p _ _ _ _ hE.ne' hD.ne', div_eq_inv_mul,
      slot_const]
    exact congrArg (fun f => ((slot (row b i) f (64 * b.val + j.val) * y c h (row b i) e : ℝ) : EReal)) (funext fun m => (div_eq_inv_mul _ _).symm)
  have e1 : val_main_v115 (F := Ideal) X0 X1 X3 (ix5 c b j h e)
      = ∑ i : Fin 64, val_main_v112 (F := Ideal) X0 X1 X3 (ix5 c b h e i) * val_main_v71 (F := Ideal) X0 X1 (ix5 c b h i j) := by
    unfold val_main_v115 val_main_v114
    generalize val_main_v112 (F := Ideal) X0 X1 X3 = A
    generalize val_main_v71 (F := Ideal) X0 X1 = B
    pointwise
  rw [e1]
  simp only [key]
  rw [sum_coe]

include h0 h1 h2 h3 h4 in
/-- The keys' gradient in windows. -/
theorem ref_dkw (c : Fin 16) (b : Fin 8) (j : Fin 192) (h : Fin 6) (e : Fin 64) : val_main_v132 (F := Ideal) X0 X1 X2 X3 X4 (ix5 c b j h e)
    = ((∑ i : Fin 64, slot (row b i) (dsw (row b i) (sc (q c h) (k c h) (row b i)) (dp (v c h) (y c h) (row b i)) (dl c h (row b i))) (64 * b.val + j.val)
        * q c h (row b i) e : ℝ) : EReal) := by
  have e1 : val_main_v132 (F := Ideal) X0 X1 X2 X3 X4 (ix5 c b j h e)
      = ∑ i : Fin 64, val_main_v130 (F := Ideal) X0 X1 X2 X3 X4 (ix5 c b h i j) * val_main_v7 (F := Ideal) X0 (ix5 c b i h e) := by
    unfold val_main_v132 val_main_v131
    generalize val_main_v130 (F := Ideal) X0 X1 X2 X3 X4 = A
    generalize val_main_v7 (F := Ideal) X0 = B
    pointwise
  rw [e1]
  simp only [ref_ds q k v y dl X0 X1 X2 X3 X4 h0 h1 h2 h3 h4, ref_q q X0 h0]
  simp only [← EReal.coe_mul]
  rw [sum_coe]

include h0 h1 h3 in
/-- The values' gradient. -/
theorem ref_dv (c : Fin 16) (m : Fin 512) (h : Fin 6) (e : Fin 64) :
    val_main_v162 (F := Ideal) X0 X1 X3 (ix3 (at16 c m) h e) = (dvR (q c h) (k c h) (y c h) m e : EReal) := by
  have hw := fun b j => ref_dvw q k y X0 X1 X3 h0 h1 h3 c b j h e
  rw [dv_rows, dv_block]
  have key : ∀ (B : Fin 10) (I : Fin 64), val_main_v142 (F := Ideal) X0 X1 X3 (ix5 c B I h e)
      = ((if h_1 : 2 ≤ B.val ∧ B.val - 2 < 8 then (val_main_v115 (F := Ideal) X0 X1 X3 (ix5 c ⟨B.val - 2, h_1.2⟩ ⟨128 + I.val, by omega⟩ h e) : EReal) else 0)
        + (if h_1 : 1 ≤ B.val ∧ B.val - 1 < 8 then (val_main_v115 (F := Ideal) X0 X1 X3 (ix5 c ⟨B.val - 1, h_1.2⟩ ⟨64 + I.val, by omega⟩ h e) : EReal) else 0))
        + (if h_1 : B.val < 8 then (val_main_v115 (F := Ideal) X0 X1 X3 (ix5 c ⟨B.val, h_1⟩ ⟨I.val, by omega⟩ h e) : EReal) else 0) := fun B I => by
    unfold val_main_v142 val_main_v141 val_main_v140 val_main_v139 val_main_v138 val_main_v137 val_main_v136 val_main_v135 val_main_cst_21 val_main_cst_22 val_main_cst_23
    generalize val_main_v115 (F := Ideal) X0 X1 X3 = A
    pointwise
  exact (key _ _).trans (scatter (fun n => pw n (sc (q c h) (k c h) n)) (fun n => y c h n e) (fun n m => pw_far _ _ m) (fun b j => val_main_v115 (F := Ideal) X0 X1 X3 (ix5 c b j h e)) hw m)

include h0 h1 h2 h3 h4 in
/-- The keys' gradient. -/
theorem ref_dk (c : Fin 16) (m : Fin 512) (h : Fin 6) (e : Fin 64) :
    val_main_v164 (F := Ideal) X0 X1 X2 X3 X4 (ix3 (at16 c m) h e) = (dkR (q c h) (k c h) (v c h) (y c h) (dl c h) m e : EReal) := by
  have hw := fun b j => ref_dkw q k v y dl X0 X1 X2 X3 X4 h0 h1 h2 h3 h4 c b j h e
  rw [dk_rows, dk_block]
  have key : ∀ (B : Fin 10) (I : Fin 64), val_main_v150 (F := Ideal) X0 X1 X2 X3 X4 (ix5 c B I h e)
      = ((if h_1 : 2 ≤ B.val ∧ B.val - 2 < 8 then (val_main_v132 (F := Ideal) X0 X1 X2 X3 X4 (ix5 c ⟨B.val - 2, h_1.2⟩ ⟨128 + I.val, by omega⟩ h e) : EReal) else 0)
        + (if h_1 : 1 ≤ B.val ∧ B.val - 1 < 8 then (val_main_v132 (F := Ideal) X0 X1 X2 X3 X4 (ix5 c ⟨B.val - 1, h_1.2⟩ ⟨64 + I.val, by omega⟩ h e) : EReal) else 0))
        + (if h_1 : B.val < 8 then (val_main_v132 (F := Ideal) X0 X1 X2 X3 X4 (ix5 c ⟨B.val, h_1⟩ ⟨I.val, by omega⟩ h e) : EReal) else 0) := fun B I => by
    unfold val_main_v150 val_main_v149 val_main_v148 val_main_v147 val_main_v146 val_main_v145 val_main_v144 val_main_v143 val_main_cst_24 val_main_cst_25 val_main_cst_26
    generalize val_main_v132 (F := Ideal) X0 X1 X2 X3 X4 = A
    pointwise
  exact (key _ _).trans (scatter (fun n => dsw n (sc (q c h) (k c h) n) (dp (v c h) (y c h) n) (dl c h n)) (fun n => q c h n e) (fun n m => dsw_far _ _ _ _ m)
    (fun b j => val_main_v132 (F := Ideal) X0 X1 X2 X3 X4 (ix5 c b j h e)) hw m)

/-- The block and the place in it of a position. -/
theorem row_surj (n : Fin 512) : ∃ b i, row b i = n := ⟨⟨n.val / 64, by omega⟩, ⟨n.val % 64, by omega⟩, Fin.ext (by dsimp only; omega)⟩

include h0 h1 h2 h3 h4 in
/-- The queries' gradient. -/
theorem ref_dq (c : Fin 16) (n : Fin 512) (h : Fin 6) (e : Fin 64) :
    val_main_v166 (F := Ideal) X0 X1 X2 X3 X4 (ix3 (at16 c n) h e) = (dqR (q c h) (k c h) (v c h) (y c h) (dl c h) n e : EReal) := by
  obtain ⟨b, i, rfl⟩ := row_surj n
  have e1 : val_main_v166 (F := Ideal) X0 X1 X2 X3 X4 (ix3 (at16 c (row b i)) h e) = val_main_v159 (F := Ideal) X0 X1 X2 X3 X4 (ix4 c (row b i) h e) := by
    unfold val_main_v166 val_main_v165 val_main_v160 val_main_call3_v0
    generalize val_main_v159 (F := Ideal) X0 X1 X2 X3 X4 = A
    pointwise
    rw [dif_pos ⟨by omega, by omega⟩]
    exact congrArg₂ (fun a b => A (ix4 a b h e)) (Fin.ext (by dsimp only; omega)) (Fin.ext (by dsimp only; omega))
  have e2 : val_main_v159 (F := Ideal) X0 X1 X2 X3 X4 (ix4 c (row b i) h e) = val_main_v134 (F := Ideal) X0 X1 X2 X3 X4 (ix5 c b i h e) := by
    rw [val_main_v159_apply]
    refine congrArg (val_main_v134 (F := Ideal) X0 X1 X2 X3 X4) (funext fun a => Fin.ext ?_)
    have := c.isLt; have := b.isLt; have := i.isLt; have := h.isLt; have := e.isLt
    match a with
    | ⟨0, _⟩ => show (((c.val * 512 + (64 * b.val + i.val)) * 6 + h.val) * 64 + e.val) / 196608 = c.val; omega
    | ⟨1, _⟩ => show (((c.val * 512 + (64 * b.val + i.val)) * 6 + h.val) * 64 + e.val) / 24576 % 8 = b.val; omega
    | ⟨2, _⟩ => show (((c.val * 512 + (64 * b.val + i.val)) * 6 + h.val) * 64 + e.val) / 384 % 64 = i.val; omega
    | ⟨3, _⟩ => show (((c.val * 512 + (64 * b.val + i.val)) * 6 + h.val) * 64 + e.val) / 64 % 6 = h.val; omega
    | ⟨4, _⟩ => show (((c.val * 512 + (64 * b.val + i.val)) * 6 + h.val) * 64 + e.val) % 64 = e.val; omega
  have e3 : val_main_v134 (F := Ideal) X0 X1 X2 X3 X4 (ix5 c b i h e)
      = ∑ j : Fin 192, val_main_v130 (F := Ideal) X0 X1 X2 X3 X4 (ix5 c b h i j) * val_main_v21 (F := Ideal) X1 (ix5 c b j h e) := by
    unfold val_main_v134 val_main_v133
    generalize val_main_v130 (F := Ideal) X0 X1 X2 X3 X4 = A
    generalize val_main_v21 (F := Ideal) X1 = B
    pointwise
  rw [e1, e2, e3]
  simp only [ref_ds q k v y dl X0 X1 X2 X3 X4 h0 h1 h2 h3 h4, ref_kw k X1 h1]
  simp only [← EReal.coe_mul]
  rw [sum_coe]
  simp only [slot_mul]
  rw [slot_sum _ (by dsimp only; omega) (by dsimp only; omega) _ (fun m hm => by rw [dsw_far _ _ _ _ m hm, zero_mul]), dqR]

include h0 h1 h2 in
/-- The output. -/
theorem ref_o (c : Fin 16) (n : Fin 512) (h : Fin 6) (e : Fin 64) :
    val_main_v89 (F := Ideal) X0 X1 X2 (ix3 (at16 c n) h e) = (oR (q c h) (k c h) (v c h) n e : EReal) := by
  obtain ⟨b, i, rfl⟩ := row_surj n
  obtain ⟨x, hx⟩ := ref_max q k X0 X1 h0 h1 c b h i
  have e1 : val_main_v89 (F := Ideal) X0 X1 X2 (ix3 (at16 c (row b i)) h e) = val_main_v86 (F := Ideal) X0 X1 X2 (ix4 c (row b i) h e) := by
    unfold val_main_v89 val_main_v88
    generalize val_main_v86 (F := Ideal) X0 X1 X2 = A
    pointwise
    exact congrArg₂ (fun a b => A (ix4 a b h e)) (Fin.ext (by dsimp only; omega)) (Fin.ext (by dsimp only; omega))
  have e2 : val_main_v86 (F := Ideal) X0 X1 X2 (ix4 c (row b i) h e) = val_main_v78 (F := Ideal) X0 X1 X2 (ix5 c b i h e) := by
    rw [val_main_v86_apply]
    refine congrArg (val_main_v78 (F := Ideal) X0 X1 X2) (funext fun a => Fin.ext ?_)
    have := c.isLt; have := b.isLt; have := i.isLt; have := h.isLt; have := e.isLt
    match a with
    | ⟨0, _⟩ => show (((c.val * 512 + (64 * b.val + i.val)) * 6 + h.val) * 64 + e.val) / 196608 = c.val; omega
    | ⟨1, _⟩ => show (((c.val * 512 + (64 * b.val + i.val)) * 6 + h.val) * 64 + e.val) / 24576 % 8 = b.val; omega
    | ⟨2, _⟩ => show (((c.val * 512 + (64 * b.val + i.val)) * 6 + h.val) * 64 + e.val) / 384 % 64 = i.val; omega
    | ⟨3, _⟩ => show (((c.val * 512 + (64 * b.val + i.val)) * 6 + h.val) * 64 + e.val) / 64 % 6 = h.val; omega
    | ⟨4, _⟩ => show (((c.val * 512 + (64 * b.val + i.val)) * 6 + h.val) * 64 + e.val) % 64 = e.val; omega
  rw [e1, e2, ref_o5 q k v X0 X1 X2 h0 h1 h2 c b h i x hx]

include h0 h1 in
/-- The log of the row's sum. -/
theorem ref_l (c : Fin 16) (n : Fin 512) (h : Fin 6) :
    val_main_v91 (F := Ideal) X0 X1 (ix2 (at16 c n) h) = (lR (q c h) (k c h) n : EReal) := by
  obtain ⟨b, i, rfl⟩ := row_surj n
  obtain ⟨x, hx⟩ := ref_max q k X0 X1 h0 h1 c b h i
  have e1 : val_main_v91 (F := Ideal) X0 X1 (ix2 (at16 c (row b i)) h) = val_main_v87 (F := Ideal) X0 X1 (ix3 c (row b i) h) := by
    unfold val_main_v91 val_main_v90
    generalize val_main_v87 (F := Ideal) X0 X1 = A
    pointwise
    exact congrArg₂ (fun a b => A (ix3 a b h)) (Fin.ext (by dsimp only; omega)) (Fin.ext (by dsimp only; omega))
  have e2 : val_main_v87 (F := Ideal) X0 X1 (ix3 c (row b i) h) = val_main_v85 (F := Ideal) X0 X1 (ix4 c b i h) := by
    rw [val_main_v87_apply]
    refine congrArg (val_main_v85 (F := Ideal) X0 X1) (funext fun a => Fin.ext ?_)
    have := c.isLt; have := b.isLt; have := i.isLt; have := h.isLt
    match a with
    | ⟨0, _⟩ => show ((c.val * 512 + (64 * b.val + i.val)) * 6 + h.val) / 3072 = c.val; omega
    | ⟨1, _⟩ => show ((c.val * 512 + (64 * b.val + i.val)) * 6 + h.val) / 384 % 8 = b.val; omega
    | ⟨2, _⟩ => show ((c.val * 512 + (64 * b.val + i.val)) * 6 + h.val) / 6 % 64 = i.val; omega
    | ⟨3, _⟩ => show ((c.val * 512 + (64 * b.val + i.val)) * 6 + h.val) % 6 = h.val; omega
  have e3 : val_main_v85 (F := Ideal) X0 X1 (ix4 c b i h) = val_main_v84 (F := Ideal) X0 X1 (ix4 c b h i) := by
    unfold val_main_v85
    generalize val_main_v84 (F := Ideal) X0 X1 = A
    pointwise
  rw [e1, e2, e3, ref_lse q k X0 X1 h0 h1 c b h i x hx]

end Cert.BandRefIdeal.Read

end
-- ==== Proof.BandClaim.lean ====
/- The banded attention's claims: the frames of the two programs' runs, what the one rewritten constant means, and the value: on
   finite arguments the kernel's output, row log-sums and three gradients and the reference's are equal. -/
module

public import proofs.«01_k».proof.Defs
public import proofs.«01_k».proof.Proof.BandRun
public import proofs.«01_k».proof.Proof.BandVal
public import proofs.«01_k».proof.Proof.BandRefC
public import proofs.«01_k».proof.Proof.Gen.Band
public import proofs.«01_k».proof.Proof.Gen.BandRefIdeal.Run
public import proofs.«01_k».proof.Proof.Gen.Pre_band_fin
public import Idealize.ShloMosaic.Lib.Claim

@[expose] public section

set_option maxRecDepth 16384

noncomputable section

namespace Cert.BandClaim

open Idealize.ShloMosaic Idealize.SL.Sem Cert.Reals Cert.BandMath
open Cert.BandRefIdeal.Read Cert.BandIdeal.Val

/-- At the machine's words a named constant is the word it was printed with. -/
abbrev word : Named Bits := ⟨fun _ _ φ b => Scalar.ofBits φ b⟩

/-- The printed program ends, keeps its arguments, and leaves every counter at zero. -/
theorem frame_kernel : Cert.quiescent_Band (hBand := Cert.Band.Gen.facts) := by
  have h : ∀ (m : (ℓ : Loc Cert.Band.nD Cert.Band.τ Cert.Band.sig) → Buf (Elt Bits) ℓ) (ρ : Dev Cert.Band.nD → PrngReg), _ := fun m ρ =>
    letI := word
    Cert.BandIdeal.Run.frame (F := Bits) m ρ
  intro m ρ _
  exact cast (by sl_kernel_rfl) (h m ρ)

/-- The same of the program read over the extended reals. -/
theorem frame_ideal : Cert.quiescent_BandIdeal (hBandIdeal := Cert.BandIdeal.Gen.facts) := fun m ρ _ =>
  Cert.BandIdeal.Run.frame (F := Ideal) m ρ

/-- The reference ends, keeps its arguments, and leaves every counter at zero. -/
theorem frame_ref : Cert.quiescent_BandRefIdeal (hBandRefIdeal := Cert.BandRefIdeal.Gen.facts) := fun m ρ _ =>
  (θ_run Cert.BandRefIdeal.defs _ _).mono (fun r h => ⟨fun c => (h c).2.2.2.2.2, sem_eq_zero_of_no_sems (by decide) r.2⟩)
    (Cert.BandRefIdeal.Value.run (F := Ideal) m ρ)

/-- The one constant of the kernel that is read as its name, the mask, is named −∞. -/
theorem preserves : Cert.preserves_Band_BandIdeal :=
  IdealRules.named_const.statement Cert.BandIdeal.κ "mask" .f32 0xF149F2CA#32 ⊥ rfl

/-- What the precondition says: the five arguments are arrays of reals. They are listed by class, head and place in the class. -/
theorem reals_of_pre (X0 X1 X2 X3 : FVec Ideal Cert.Pre_band_fin.S8192x6x64 .f32) (X4 : FVec Ideal Cert.Pre_band_fin.S8192x6 .f32)
    (h : (letI := Cert.Pre_band_fin.Gen.facts; (Cert.Pre_band_fin.fn (F := Ideal) X0 X1 X2 X3 X4).1 = (fun _ => 1#1)
      ∧ (Cert.Pre_band_fin.fn (F := Ideal) X0 X1 X2 X3 X4).2.1 = (fun _ => 1#1) ∧ (Cert.Pre_band_fin.fn (F := Ideal) X0 X1 X2 X3 X4).2.2.1 = (fun _ => 1#1)
      ∧ (Cert.Pre_band_fin.fn (F := Ideal) X0 X1 X2 X3 X4).2.2.2.1 = (fun _ => 1#1)
      ∧ (Cert.Pre_band_fin.fn (F := Ideal) X0 X1 X2 X3 X4).2.2.2.2 = (fun _ => 1#1))) :
    ∃ (q k v y : Fin 16 → Fin 6 → Fin 512 → Fin 64 → ℝ) (dl : Fin 16 → Fin 6 → Fin 512 → ℝ),
      (∀ c h n d, X0 (ix3 (at16 c n) h d) = (q c h n d : EReal)) ∧ (∀ c h n d, X1 (ix3 (at16 c n) h d) = (k c h n d : EReal))
      ∧ (∀ c h n d, X2 (ix3 (at16 c n) h d) = (v c h n d : EReal)) ∧ (∀ c h n d, X3 (ix3 (at16 c n) h d) = (y c h n d : EReal))
      ∧ (∀ c h n, X4 (ix2 (at16 c n) h) = (dl c h n : EReal)) := by
  unfold Cert.Pre_band_fin.fn Cert.Pre_band_fin.fn_part1 at h
  dsimp only at h
  obtain ⟨h0, h1, h2, h3, h4⟩ := h
  obtain ⟨f0, e0⟩ := real_of_all X0 _ _ _ h0
  obtain ⟨f1, e1⟩ := real_of_all X1 _ _ _ h1
  obtain ⟨f2, e2⟩ := real_of_all X2 _ _ _ h2
  obtain ⟨f3, e3⟩ := real_of_all X3 _ _ _ h3
  obtain ⟨f4, e4⟩ := real_of_all X4 _ _ _ h4
  exact ⟨fun c h n d => f0 (ix3 (at16 c n) h d), fun c h n d => f1 (ix3 (at16 c n) h d), fun c h n d => f2 (ix3 (at16 c n) h d),
    fun c h n d => f3 (ix3 (at16 c n) h d), fun c h n => f4 (ix2 (at16 c n) h), fun c h n d => congrFun e0 _, fun c h n d => congrFun e1 _,
    fun c h n d => congrFun e2 _, fun c h n d => congrFun e3 _, fun c h n => congrFun e4 _⟩

/-- Every position is some place of some class. -/
theorem at16_all (s : Fin 8192) : ∃ (c : Fin 16) (n : Fin 512), s = at16 c n :=
  ⟨⟨s.val % 16, Nat.mod_lt _ (by decide)⟩, ⟨s.val / 16, Nat.div_lt_of_lt_mul s.isLt⟩, Fin.ext (Nat.div_add_mod s.val 16).symm⟩

/-- Two arrays equal at every place of every class and head are equal. -/
theorem same3 (X Y : FVec Ideal ⟨3, ![8192, 6, 64]⟩ .f32) (f : Fin 16 → Fin 6 → Fin 512 → Fin 64 → ℝ)
    (hX : ∀ c h n d, X (ix3 (at16 c n) h d) = (f c h n d : EReal)) (hY : ∀ c h n d, Y (ix3 (at16 c n) h d) = (f c h n d : EReal)) : X = Y := by
  funext i
  obtain ⟨c, n, e⟩ := at16_all (i 0)
  rw [eq_ix3 i, e]
  exact (hX _ _ _ _).trans (hY _ _ _ _).symm

/-- The same of two arrays of one number a position and head. -/
theorem same2 (X Y : FVec Ideal ⟨2, ![8192, 6]⟩ .f32) (f : Fin 16 → Fin 6 → Fin 512 → ℝ)
    (hX : ∀ c h n, X (ix2 (at16 c n) h) = (f c h n : EReal)) (hY : ∀ c h n, Y (ix2 (at16 c n) h) = (f c h n : EReal)) : X = Y := by
  funext i
  obtain ⟨c, n, e⟩ := at16_all (i 0)
  rw [eq_ix2 i, e]
  exact (hX _ _ _).trans (hY _ _ _).symm

/-- The kernel and `jax.vjp` of the banded attention end with equal results, from finite arguments. -/
theorem algebraic : Cert.algebraic_BandIdeal_BandRefIdeal_pre_band_fin (hBandIdeal := Cert.BandIdeal.Gen.facts)
    (hBandRefIdeal := Cert.BandRefIdeal.Gen.facts) (hPre_band_fin := Cert.Pre_band_fin.Gen.facts) := by
  intro m g m' g' hpre hagree
  refine ⟨fun c => Cert.BandIdeal.Run.B8 m c _, fun c => Cert.BandIdeal.Run.B8 m c _, fun c => Cert.BandIdeal.Run.B8 m c _,
    fun c => Cert.BandIdeal.Run.B8 m c _, fun c => Cert.BandIdeal.Run.B8 m c _, Cert.BandIdeal.Run.run_values m g,
    (θ_run Cert.BandRefIdeal.defs _ _).mono (fun r h c => ?_) (Cert.BandRefIdeal.Value.run m' g')⟩
  obtain ⟨q, k, v, y, dl, hq, hk, hv, hy, hl⟩ := reals_of_pre _ _ _ _ _ (hpre c)
  obtain ⟨e0, e1, e2, e3, e4⟩ := hagree c
  have e0 : StableHlo.launchContents m' c (Proc.devRef .tc Cert.BandRefIdeal.main_arg0) = m ((c.tc : Thread Cert.BandIdeal.nD Cert.BandIdeal.τ).loc Cert.BandIdeal.main_arg0) := e0
  have e1 : StableHlo.launchContents m' c (Proc.devRef .tc Cert.BandRefIdeal.main_arg1) = m ((c.tc : Thread Cert.BandIdeal.nD Cert.BandIdeal.τ).loc Cert.BandIdeal.main_arg1) := e1
  have e2 : StableHlo.launchContents m' c (Proc.devRef .tc Cert.BandRefIdeal.main_arg2) = m ((c.tc : Thread Cert.BandIdeal.nD Cert.BandIdeal.τ).loc Cert.BandIdeal.main_arg2) := e2
  have e3 : StableHlo.launchContents m' c (Proc.devRef .tc Cert.BandRefIdeal.main_arg3) = m ((c.tc : Thread Cert.BandIdeal.nD Cert.BandIdeal.τ).loc Cert.BandIdeal.main_arg3) := e3
  have e4 : StableHlo.launchContents m' c (Proc.devRef .tc Cert.BandRefIdeal.main_arg4) = m ((c.tc : Thread Cert.BandIdeal.nD Cert.BandIdeal.τ).loc Cert.BandIdeal.main_arg4) := e4
  obtain ⟨r0, r1, r2, r3, r4, h5⟩ := h c
  refine ⟨r0.trans ?_, r1.trans ?_, r2.trans ?_, r3.trans ?_, r4.trans ?_, h5⟩
  · rw [val_main_v89_eq, e0, e1, e2]
    exact same3 _ _ (fun c h n d => oR (q c h) (k c h) (v c h) n d) (fun c h n d => ref_o q k v _ _ _ hq hk hv c n h d) (res_o m c q k v hq hk hv)
  · rw [val_main_v91_eq, e0, e1]
    exact same2 _ _ (fun c h n => lR (q c h) (k c h) n) (fun c h n => ref_l q k _ _ hq hk c n h) (res_l m c q k hq hk)
  · rw [val_main_v166_eq, e0, e1, e2, e3, e4]
    exact same3 _ _ (fun c h n d => dqR (q c h) (k c h) (v c h) (y c h) (dl c h) n d) (fun c h n d => ref_dq q k v y dl _ _ _ _ _ hq hk hv hy hl c n h d) (res_dq m c q k v y dl hq hk hv hy hl)
  · rw [val_main_v164_eq, e0, e1, e2, e3, e4]
    exact same3 _ _ (fun c h n d => dkR (q c h) (k c h) (v c h) (y c h) (dl c h) n d) (fun c h n d => ref_dk q k v y dl _ _ _ _ _ hq hk hv hy hl c n h d) (res_dk m c q k v y dl hq hk hv hy hl)
  · rw [val_main_v162_eq, e0, e1, e3]
    exact same3 _ _ (fun c h n d => dvR (q c h) (k c h) (y c h) n d) (fun c h n d => ref_dv q k y _ _ _ hq hk hy c n h d) (res_dv m c q k y hq hk hy)

end Cert.BandClaim

end
-- ==== Proof.Band4Body0.lean ====
/- THE FORWARD KERNEL OF THE BANDED ATTENTION OF DILATION 4 AT ONE GRID POINT: it stores the block of the output and the block of the row log-sums. -/
module

public import proofs.«01_k».proof.Proof.Gen.Band4Ideal.Launch
public import proofs.«01_k».proof.Proof.Gen.Band4Ideal.Skeleton
public import proofs.«01_k».proof.Proof.Gen.Band4Ideal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Pipeline.Value

@[expose] public section

set_option maxRecDepth 16384

noncomputable section

namespace Cert.Band4Ideal.Hand0

open Cert.Band4Ideal Cert.Band4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section
variable (c : Dev nD) (i : grid0.Coords)
  (a0 : Memref sig .tc .vmem S1x1024x64 .bf16) (h0 : a0.IsWhole)
  (a1 : Memref sig .tc .vmem S1x2176x64 .bf16) (h1 : a1.IsWhole)
  (a2 : Memref sig .tc .vmem S1x2176x64 .bf16) (h2 : a2.IsWhole)
  (a3 : Memref sig .tc .vmem S1x1024x64 .f32) (h3 : a3.IsWhole)
  (a4 : Memref sig .tc .vmem S1x1024x1 .f32) (h4 : a4.IsWhole)
  (x0 : Vec F S1x1024x64 .bf16) (x1 : Vec F S1x2176x64 .bf16) (x2 : Vec F S1x2176x64 .bf16)

set_option maxHeartbeats 16000000 in
/-- What the point stores into the blocks of the output and of the row log-sums. -/
noncomputable def pieces :
    Σ' (L3 : List (View.Piece (Elt F) S1x1024x64 .f32)),
    { L4 : List (View.Piece (Elt F) S1x1024x1 .f32) //
      ∀ (E : Set ℕ) (K : PUnit → sProp 𝕄),
        iprop((owns (c : Thread nD τ) a0 fullShare x0 ∗ owns (c : Thread nD τ) a1 fullShare x1 ∗ owns (c : Thread nD τ) a2 fullShare x2)
            ∗ (∃ d, owns (c : Thread nD τ) a3 fullShare d) ∗ (∃ d, owns (c : Thread nD τ) a4 fullShare d)
            ∗ (iprop((owns (c : Thread nD τ) a0 fullShare x0 ∗ owns (c : Thread nD τ) a1 fullShare x1 ∗ owns (c : Thread nD τ) a2 fullShare x2)
              ∗ (∃ f, a3.view.loc (c : Thread nD τ) ↦[a3.view.set]{fullShare} a3.view.writes (Elt F) f L3) ∗ (∃ f, a4.view.loc (c : Thread nD τ) ↦[a4.view.set]{fullShare} a4.view.writes (Elt F) f L4)) -∗ K ⟨⟩))
          ⊢ wp frame (wpE (defs₀ (F := F)) Variants.none c none) E
              (cc0_att_b4_fwd i a0 h0 a1 h1 a2 h2 a3 h3 a4 h4) K } := by
  refine ⟨?_, ?_, fun E K => ?run⟩
  case run =>
    simp only [cc0_att_b4_fwd_eq_skeleton]
    unfold cc0_att_b4_fwd_skel
    simp only [k0_part1_eq_skeleton, k0_part2_eq_skeleton, k0_part3_eq_skeleton, k0_part4_eq_skeleton, k0_part5_eq_skeleton]
    unfold k0_part1_skel k0_part2_skel k0_part3_skel k0_part4_skel k0_part5_skel
    unfold owns
    iintro ⟨⟨⟨%f0, %hf0, H0⟩, ⟨%f1, %hf1, H1⟩, ⟨%f2, %hf2, H2⟩⟩,
      ⟨%d3, %f3, -, H3⟩, ⟨%d4, %f4, -, H4⟩, Hk⟩
    obtain rfl := h0.eq_unread hf0; obtain rfl := h1.eq_unread hf1; obtain rfl := h2.eq_unread hf2
    sl_exec
    sl_step
    iapply Hk
    isplitl [H0 H1 H2]
    · isplitl [H0]; · iexists _; isplitr; · ipureintro; exact h0.read_unread _
                      iexact H0
      isplitl [H1]; · iexists _; isplitr; · ipureintro; exact h1.read_unread _
                      iexact H1
      iexists _; isplitr; · ipureintro; exact h2.read_unread _
      iexact H2
    isplitl [H3]; · iexists _; iexact H3
    iexists _; iexact H4

end

end Cert.Band4Ideal.Hand0

end
-- ==== Proof.Band4Dat0.lean ====
/- THE FORWARD CALL OF THE BANDED ATTENTION OF DILATION 4: what it does at every grid point, stated for the launch. -/
module

public import proofs.«01_k».proof.Proof.Band4Body0

@[expose] public section

set_option maxRecDepth 16384

noncomputable section

namespace Cert.Band4Ideal.Hand0

open Cert.Band4Ideal Cert.Band4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- what the core's buffers hold when the call begins
variable (V : (c : Dev nD) → (b : Ref sig .tc) → Buf (Elt F) ((c : Thread nD τ).loc b))

/-- The block of window `w` at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! The staging buffer of each window at a point, and that it is a whole buffer. -/

abbrev ms0 (t : Fin cfg0.N) : Memref sig .tc .vmem S1x1024x64 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x2176x64 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x2176x64 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024x64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024x1 .f32 := win0_4.stage (cfg0.slots t 4)
abbrev hs4 (t : Fin cfg0.N) : (ms4 t).IsWhole := hstage0_4 ((cfg0.slots t 4).cast nbuf0_4)

/-- The pieces stored at point `t`. -/
abbrev run (c : Dev nD) (t : Fin cfg0.N) := pieces (F := F) c (grid0.coords t) (ms0 t) (hs0 t) (ms1 t) (hs1 t) (ms2 t) (hs2 t) (ms3 t) (hs3 t) (ms4 t) (hs4 t) (iblk V c 0 t) (iblk V c 1 t) (iblk V c 2 t)

/-- The data of the call: its arrays as it finds them, what each window's staging buffer holds after a point; the core's other
    buffers ride along, and nothing is owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => View.canon (run V c t).1
    | ⟨4, _⟩ => View.canon (run V c t).2.1
  Φ _ := Pipeline.ΦA spec0 c
  q _ := fullShare
  owed _ := 0

/-- The arrays are as the call finds them. -/
theorem A_eq (c : Dev nD) (w : Fin cfg0.W) : (dat V c).A w = V c (Pipeline.arrRef spec0 w) := by
  dsimp only [dat]

/-! What each window's staging buffer holds after a point. -/

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = View.canon (run V c t).1 := by dsimp only [dat]
theorem after_4 (c : Dev nD) (t : Fin cfg0.N) : (dat V c).after 4 t = View.canon (run V c t).2.1 := by dsimp only [dat]

/-! An input window's staging buffer holds its block before every point. -/

theorem before_0 (c : Dev nD) (t : Fin cfg0.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-- No window is idle at any point. -/
theorem live (w : Fin cfg0.W) (t : Fin cfg0.N) : cfg0.idle w (grid0.coords t) = false := by
  revert w t; decide +kernel

/-- A window's buffer is left exactly at the contents stated after the point. -/
theorem leaves (c : Dev nD) (t : Fin cfg0.N) (w : Fin cfg0.W) :
    (dat V c).leavesExact w t = owns (c : Thread nD τ) ((cfg0.win w).stage (cfg0.slots t w)) fullShare ((dat V c).after w t) := by
  unfold Dat.leavesExact; rw [live w t]

/-! The stored pieces cover the two blocks. -/

theorem cover3 (c : Dev nD) (t : Fin cfg0.N) (i : S1x1024x64.Idx) : ∃ pc ∈ (run V c t).1, i ∈ pc.1.set := by
  exact View.cover_of_tiledL (run V c t).1 S1x256x64.size (by sl_kernel_rfl) i
theorem cover4 (c : Dev nD) (t : Fin cfg0.N) (i : S1x1024x1.Idx) : ∃ pc ∈ (run V c t).2.1, i ∈ pc.1.set := by
  exact View.cover_of_tiledL (run V c t).2.1 S1x256x1.size (by sl_kernel_rfl) i

/-- What the body is entered with at point `t`. -/
def entry (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

/-- What it leaves. -/
def exit (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t ∗ (dat V c).leavesExact 4 t)

/-- The body at a point, from its entry to its exit. -/
theorem sound (c : Dev nD) (t : Fin cfg0.N) :
    entry V c t ⊢ wp frame (wpE (defs₀ (F := F)) Variants.none c none) Set.univ (bodyAt0 t) (fun _ => exit V c t) := by
  unfold entry exit bodyAt0
  simp only [before_0, before_1, before_2]
  rw [show (dat V c).Φ t.succ = (dat V c).Φ t.castSucc from rfl,
    show (dat V c).owesAt () t.succ = (dat V c).owesAt () t.castSucc from rfl]
  rw [leaves V c t 0, leaves V c t 1, leaves V c t 2, leaves V c t 3, leaves V c t 4]
  rw [after_0, after_1, after_2, after_3, after_4]
  iintro ⟨HΦ, Ho, ⟨%d0, H0⟩, ⟨%d1, H1⟩, ⟨%d2, H2⟩, ⟨%d3, H3⟩, ⟨%d4, H4⟩⟩
  iapply ((run V c t).2.2 Set.univ _)
  isplitl [H0 H1 H2]
  · isplitl [H0]; · iexact H0
    isplitl [H1]; · iexact H1
    iexact H2
  isplitl [H3]; · iexists _; iexact H3
  isplitl [H4]; · iexists _; iexact H4
  iintro ⟨⟨H0, H1, H2⟩, ⟨%e3, H3⟩, ⟨%e4, H4⟩⟩
  isplitl [HΦ]; · iexact HΦ
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_eq_canon _ _ _ (cover3 V c t)
  unfold owns; iexists _; isplitr
  swap; · iexact H4
  ipureintro; exact View.read_writes_eq_canon _ _ _ (cover4 V c t)

/-- The body's obligation at every point. -/
theorem obligation (c : Dev nD) : BodyObligation (dat (F := F) V c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (sound V c t) rfl .rfl fun _ => .rfl

end Cert.Band4Ideal.Hand0

end
-- ==== Proof.Band4Body1.lean ====
/- THE BACKWARD KERNEL OF THE BANDED ATTENTION OF DILATION 4 AT ONE GRID POINT. The first point of a head clears the blocks of dk, dv; every point adds its
   query tiles' parts to them and stores its block of dq. -/
module

public import proofs.«01_k».proof.Proof.Gen.Band4Ideal.Launch
public import proofs.«01_k».proof.Proof.Gen.Band4Ideal.Skeleton
public import proofs.«01_k».proof.Proof.Gen.Band4Ideal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Pipeline.Value

@[expose] public section

set_option maxRecDepth 16384

noncomputable section

namespace Cert.Band4Ideal.Hand

open Cert.Band4Ideal Cert.Band4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The condition under which a point clears the carried blocks: its second coordinate is zero. -/
abbrev first (i : grid1.Coords) : Prop :=
  (Scalar.cmpi .ne (Scalar.extui (Scalar.cmpi .eq (BitVec.ofNat 32 (i 1).val) 0#32)) 0#32) = 1#1

/-- The condition holds at every point whose number is a multiple of 2, and there only. -/
theorem first_iff : ∀ t : Fin cfg1.N, first (grid1.coords t) ↔ t.val % 2 = 0 := by decide +kernel

section
variable (c : Dev nD) (i : grid1.Coords)
  (a0 : Memref sig .tc .vmem S1x1024x64 .bf16) (h0 : a0.IsWhole)
  (a1 : Memref sig .tc .vmem S1x2176x64 .bf16) (h1 : a1.IsWhole)
  (a2 : Memref sig .tc .vmem S1x2176x64 .bf16) (h2 : a2.IsWhole)
  (a3 : Memref sig .tc .vmem S1x1024x64 .f32) (h3 : a3.IsWhole)
  (a4 : Memref sig .tc .vmem S1x1024x1 .f32) (h4 : a4.IsWhole)
  (a5 : Memref sig .tc .vmem S1x1024x64 .f32) (h5 : a5.IsWhole)
  (a6 : Memref sig .tc .vmem S1x1024x1 .f32) (h6 : a6.IsWhole)
  (a7 : Memref sig .tc .vmem S1x1024x64 .f32) (h7 : a7.IsWhole)
  (a8 : Memref sig .tc .vmem S1x2176x64 .f32) (h8 : a8.IsWhole)
  (a9 : Memref sig .tc .vmem S1x2176x64 .f32) (h9 : a9.IsWhole)
  (x0 : Vec F S1x1024x64 .bf16) (x1 : Vec F S1x2176x64 .bf16) (x2 : Vec F S1x2176x64 .bf16) (x3 : Vec F S1x1024x64 .f32) (x4 : Vec F S1x1024x1 .f32) (x5 : Vec F S1x1024x64 .f32) (x6 : Vec F S1x1024x1 .f32)
  (y8 : Vec F S1x2176x64 .f32) (y9 : Vec F S1x2176x64 .f32)

set_option maxHeartbeats 16000000 in
/-- What the first point of a head stores into the three blocks of gradients, whatever they held. -/
noncomputable def firstPieces (hf : first i) :
    Σ' (L7 : List (View.Piece (Elt F) S1x1024x64 .f32)),
    Σ' (L8 : List (View.Piece (Elt F) S1x2176x64 .f32)),
    { L9 : List (View.Piece (Elt F) S1x2176x64 .f32) //
      ∀ (E : Set ℕ) (K : PUnit → sProp 𝕄),
        iprop((owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6)
            ∗ (∃ d, owns (c : Thread nD τ) a7 fullShare d) ∗ (∃ d, owns (c : Thread nD τ) a8 fullShare d) ∗ (∃ d, owns (c : Thread nD τ) a9 fullShare d)
            ∗ (iprop((owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6)
              ∗ (∃ f, a7.view.loc (c : Thread nD τ) ↦[a7.view.set]{fullShare} a7.view.writes (Elt F) f L7) ∗ (∃ f, a8.view.loc (c : Thread nD τ) ↦[a8.view.set]{fullShare} a8.view.writes (Elt F) f L8) ∗ (∃ f, a9.view.loc (c : Thread nD τ) ↦[a9.view.set]{fullShare} a9.view.writes (Elt F) f L9)) -∗ K ⟨⟩))
          ⊢ wp frame (wpE (defs₀ (F := F)) Variants.none c none) E
              (cc1_att_b4_bwd i a0 h0 a1 h1 a2 h2 a3 h3 a4 h4 a5 h5 a6 h6 a7 h7 a8 h8 a9 h9) K } := by
  refine ⟨?_, ?_, ?_, fun E K => ?run⟩
  case run =>
    simp only [cc1_att_b4_bwd_eq_skeleton]
    unfold cc1_att_b4_bwd_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton]
    unfold k1_part1_skel k1_part2_skel k1_part3_skel k1_part4_skel k1_part5_skel k1_part6_skel k1_part7_skel k1_part8_skel k1_part9_skel
    unfold owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩,
      ⟨%d7, %f7, -, H7⟩, ⟨%d8, %f8, -, H8⟩, ⟨%d9, %f9, -, H9⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6
    sl_exec (disch := sl_exact hf)
    sl_step
    iapply Hk
    isplitl [H0 H1 H2 H3 H4 H5 H6]
    · isplitl [H0]; · iexists _; isplitr; · ipureintro; exact h0.read_unread _
                      iexact H0
      isplitl [H1]; · iexists _; isplitr; · ipureintro; exact h1.read_unread _
                      iexact H1
      isplitl [H2]; · iexists _; isplitr; · ipureintro; exact h2.read_unread _
                      iexact H2
      isplitl [H3]; · iexists _; isplitr; · ipureintro; exact h3.read_unread _
                      iexact H3
      isplitl [H4]; · iexists _; isplitr; · ipureintro; exact h4.read_unread _
                      iexact H4
      isplitl [H5]; · iexists _; isplitr; · ipureintro; exact h5.read_unread _
                      iexact H5
      iexists _; isplitr; · ipureintro; exact h6.read_unread _
      iexact H6
    isplitl [H7]; · iexists _; iexact H7
    isplitl [H8]; · iexists _; iexact H8
    iexists _; iexact H9

set_option maxHeartbeats 16000000 in
/-- What a later point stores, over the contents that the point before left in the carried blocks. -/
noncomputable def laterPieces (hf : ¬ first i) :
    Σ' (L7 : List (View.Piece (Elt F) S1x1024x64 .f32)),
    Σ' (L8 : List (View.Piece (Elt F) S1x2176x64 .f32)),
    { L9 : List (View.Piece (Elt F) S1x2176x64 .f32) //
      ∀ (E : Set ℕ) (K : PUnit → sProp 𝕄),
        iprop((owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6)
            ∗ (∃ d, owns (c : Thread nD τ) a7 fullShare d) ∗ owns (c : Thread nD τ) a8 fullShare y8 ∗ owns (c : Thread nD τ) a9 fullShare y9
            ∗ (iprop((owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6)
              ∗ (∃ f, a7.view.loc (c : Thread nD τ) ↦[a7.view.set]{fullShare} a7.view.writes (Elt F) f L7) ∗ (a8.view.loc (c : Thread nD τ) ↦[a8.view.set]{fullShare} a8.view.writes (Elt F) (h8.unread y8) L8) ∗ (a9.view.loc (c : Thread nD τ) ↦[a9.view.set]{fullShare} a9.view.writes (Elt F) (h9.unread y9) L9)) -∗ K ⟨⟩))
          ⊢ wp frame (wpE (defs₀ (F := F)) Variants.none c none) E
              (cc1_att_b4_bwd i a0 h0 a1 h1 a2 h2 a3 h3 a4 h4 a5 h5 a6 h6 a7 h7 a8 h8 a9 h9) K } := by
  refine ⟨?_, ?_, ?_, fun E K => ?run⟩
  case run =>
    simp only [cc1_att_b4_bwd_eq_skeleton]
    unfold cc1_att_b4_bwd_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton]
    unfold k1_part1_skel k1_part2_skel k1_part3_skel k1_part4_skel k1_part5_skel k1_part6_skel k1_part7_skel k1_part8_skel k1_part9_skel
    unfold owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩,
      ⟨%d7, %f7, -, H7⟩, ⟨%f8, %hf8, H8⟩, ⟨%f9, %hf9, H9⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h8.eq_unread hf8; obtain rfl := h9.eq_unread hf9
    sl_exec (disch := sl_exact hf)
    sl_step
    iapply Hk
    isplitl [H0 H1 H2 H3 H4 H5 H6]
    · isplitl [H0]; · iexists _; isplitr; · ipureintro; exact h0.read_unread _
                      iexact H0
      isplitl [H1]; · iexists _; isplitr; · ipureintro; exact h1.read_unread _
                      iexact H1
      isplitl [H2]; · iexists _; isplitr; · ipureintro; exact h2.read_unread _
                      iexact H2
      isplitl [H3]; · iexists _; isplitr; · ipureintro; exact h3.read_unread _
                      iexact H3
      isplitl [H4]; · iexists _; isplitr; · ipureintro; exact h4.read_unread _
                      iexact H4
      isplitl [H5]; · iexists _; isplitr; · ipureintro; exact h5.read_unread _
                      iexact H5
      iexists _; isplitr; · ipureintro; exact h6.read_unread _
      iexact H6
    isplitl [H7]; · iexists _; iexact H7
    isplitl [H8]; · iexact H8
    iexact H9

end

end Cert.Band4Ideal.Hand

end
-- ==== Proof.Band4Dat1.lean ====
/- THE BACKWARD CALL OF THE BANDED ATTENTION OF DILATION 4: what it does at every grid point, stated for the launch. -/
module

public import proofs.«01_k».proof.Proof.Band4Body1

@[expose] public section

set_option maxRecDepth 16384

noncomputable section

namespace Cert.Band4Ideal.Hand

open Cert.Band4Ideal Cert.Band4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- what the core's buffers hold when the call begins
variable (V : (c : Dev nD) → (b : Ref sig .tc) → Buf (Elt F) ((c : Thread nD τ).loc b))

/-- The block of window `w` at point `t`, read off its array. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! The staging buffer of each window at a point, and that it is a whole buffer. -/

abbrev ms0 (t : Fin cfg1.N) : Memref sig .tc .vmem S1x1024x64 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S1x2176x64 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x2176x64 .bf16 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x1024x64 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S1x1024x1 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S1x1024x64 .f32 := win1_5.stage (cfg1.slots t 5)
abbrev hs5 (t : Fin cfg1.N) : (ms5 t).IsWhole := hstage1_5 ((cfg1.slots t 5).cast nbuf1_5)
abbrev ms6 (t : Fin cfg1.N) : Memref sig .tc .vmem S1x1024x1 .f32 := win1_6.stage (cfg1.slots t 6)
abbrev hs6 (t : Fin cfg1.N) : (ms6 t).IsWhole := hstage1_6 ((cfg1.slots t 6).cast nbuf1_6)
abbrev ms7 (t : Fin cfg1.N) : Memref sig .tc .vmem S1x1024x64 .f32 := win1_7.stage (cfg1.slots t 7)
abbrev hs7 (t : Fin cfg1.N) : (ms7 t).IsWhole := hstage1_7 ((cfg1.slots t 7).cast nbuf1_7)
abbrev ms8 (t : Fin cfg1.N) : Memref sig .tc .vmem S1x2176x64 .f32 := win1_8.stage (cfg1.slots t 8)
abbrev hs8 (t : Fin cfg1.N) : (ms8 t).IsWhole := hstage1_8 ((cfg1.slots t 8).cast nbuf1_8)
abbrev ms9 (t : Fin cfg1.N) : Memref sig .tc .vmem S1x2176x64 .f32 := win1_9.stage (cfg1.slots t 9)
abbrev hs9 (t : Fin cfg1.N) : (ms9 t).IsWhole := hstage1_9 ((cfg1.slots t 9).cast nbuf1_9)

/-- What the first point of a head stores. -/
abbrev runFirst (c : Dev nD) (t : Fin cfg1.N) (hf : first (grid1.coords t)) :=
  firstPieces (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (iblk V c 0 t) (iblk V c 1 t) (iblk V c 2 t) (iblk V c 3 t) (iblk V c 4 t) (iblk V c 5 t) (iblk V c 6 t) hf

/-- What a later point stores over the contents `y8 y9` of the carried blocks. -/
abbrev runLater (c : Dev nD) (t : Fin cfg1.N) (y8 : Vec F S1x2176x64 .f32) (y9 : Vec F S1x2176x64 .f32) (hf : ¬ first (grid1.coords t)) :=
  laterPieces (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (iblk V c 0 t) (iblk V c 1 t) (iblk V c 2 t) (iblk V c 3 t) (iblk V c 4 t) (iblk V c 5 t) (iblk V c 6 t) y8 y9 hf

/-- The contents of the carried blocks, in the order of their windows. -/
abbrev Carried (F : FTy → Type) [FloatOps F] : Type := Vec F S1x2176x64 .f32 × Vec F S1x2176x64 .f32

/-- The contents of the gradient blocks after a point, from those of the carried blocks before it. -/
def step (c : Dev nD) (t : Fin cfg1.N) (y : Carried F) : Vec F S1x1024x64 .f32 × Carried F :=
  if hf : first (grid1.coords t) then
    (View.canon (runFirst V c t hf).1, View.canon (runFirst V c t hf).2.1, View.canon (runFirst V c t hf).2.2.1)
  else
    (View.canon (runLater V c t y.1 y.2 hf).1,
      (ms8 t).view.read (Elt F) ((ms8 t).view.writes (Elt F) ((hs8 t).unread y.1) (runLater V c t y.1 y.2 hf).2.1),
      (ms9 t).view.read (Elt F) ((ms9 t).view.writes (Elt F) ((hs9 t).unread y.2) (runLater V c t y.1 y.2 hf).2.2.1))

/-- The contents of the gradient blocks after point `n`. -/
def outs (c : Dev nD) : (n : ℕ) → n < cfg1.N → Vec F S1x1024x64 .f32 × Carried F
  | 0, hn => step V c ⟨0, hn⟩ (View.canon [], View.canon [])
  | n + 1, hn => step V c ⟨n + 1, hn⟩ (outs c n (Nat.lt_of_succ_lt hn)).2

/-- The point before. -/
abbrev prev (c : Dev nD) (t : Fin cfg1.N) : Carried F := (outs V c (t.val - 1) (Nat.lt_of_le_of_lt (Nat.sub_le _ _) t.isLt)).2

/-- At the first point of a head. -/
theorem outs_first (c : Dev nD) (t : Fin cfg1.N) (hf : first (grid1.coords t)) :
    outs V c t.val t.isLt = (View.canon (runFirst V c t hf).1, View.canon (runFirst V c t hf).2.1, View.canon (runFirst V c t hf).2.2.1) := by
  obtain ⟨n, hn⟩ := t
  cases n with
  | zero => exact dif_pos hf
  | succ n => exact dif_pos hf

/-- At a later point. -/
theorem outs_later (c : Dev nD) (t : Fin cfg1.N) (hf : ¬ first (grid1.coords t)) :
    outs V c t.val t.isLt = (View.canon (runLater V c t (prev V c t).1 (prev V c t).2 hf).1,
      (ms8 t).view.read (Elt F) ((ms8 t).view.writes (Elt F) ((hs8 t).unread (prev V c t).1) (runLater V c t (prev V c t).1 (prev V c t).2 hf).2.1),
      (ms9 t).view.read (Elt F) ((ms9 t).view.writes (Elt F) ((hs9 t).unread (prev V c t).2) (runLater V c t (prev V c t).1 (prev V c t).2 hf).2.2.1)) := by
  obtain ⟨n, hn⟩ := t
  cases n with
  | zero => exact absurd ((first_iff ⟨0, hn⟩).mpr (Nat.zero_mod _)) hf
  | succ n => exact dif_neg hf

/-- The data of the call: its arrays as it finds them, what each window's staging buffer holds after a point; the core's other
    buffers ride along, and nothing is owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => (outs V c t.val t.isLt).1
    | ⟨8, _⟩ => (outs V c t.val t.isLt).2.1
    | ⟨9, _⟩ => (outs V c t.val t.isLt).2.2
  Φ _ := Pipeline.ΦA spec1 c
  q _ := fullShare
  owed _ := 0

/-- The arrays are as the call finds them. -/
theorem A_eq (c : Dev nD) (w : Fin cfg1.W) : (dat V c).A w = V c (Pipeline.arrRef spec1 w) := by
  dsimp only [dat]

/-! What each window's staging buffer holds after a point. -/

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = iblk V c 6 t := by dsimp only [dat]
theorem after_7 (c : Dev nD) (t : Fin cfg1.N) : (dat V c).after 7 t = (outs V c t.val t.isLt).1 := by dsimp only [dat]
theorem after_8 (c : Dev nD) (t : Fin cfg1.N) : (dat V c).after 8 t = (outs V c t.val t.isLt).2.1 := by dsimp only [dat]
theorem after_9 (c : Dev nD) (t : Fin cfg1.N) : (dat V c).after 9 t = (outs V c t.val t.isLt).2.2 := by dsimp only [dat]

/-! An input window's staging buffer holds its block before every point. -/

theorem before_0 (c : Dev nD) (t : Fin cfg1.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat V c).before 3 t d = iblk V c 3 t :=
  ((dat V c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg1.N) (d) : (dat V c).before 4 t d = iblk V c 4 t :=
  ((dat V c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin cfg1.N) (d) : (dat V c).before 5 t d = iblk V c 5 t :=
  ((dat V c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
theorem before_6 (c : Dev nD) (t : Fin cfg1.N) (d) : (dat V c).before 6 t d = iblk V c 6 t :=
  ((dat V c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)

/-! At a later point a carried block's staging buffer holds what the point before left in it. -/

theorem before_8 (c : Dev nD) (t : Fin cfg1.N) (hf : ¬ first (grid1.coords t)) (d) : (dat V c).before 8 t d = (prev V c t).1 := by
  have h0 : ¬ t.val % 2 = 0 := fun h => hf ((first_iff t).mpr h)
  have hN : t.val < 48 := lt_of_lt_of_eq t.isLt (show cfg1.N = 48 from N_1)
  rw [Dat.before_out_kept _ 8 rfl t (by omega) (Bool.eq_false_iff.mpr fun h => by have := (flush1_8 _).mp h; dsimp only at this; omega)
    (fun _ => rfl) (fun _ _ => rfl)]
  dsimp only [dat]
theorem before_9 (c : Dev nD) (t : Fin cfg1.N) (hf : ¬ first (grid1.coords t)) (d) : (dat V c).before 9 t d = (prev V c t).2 := by
  have h0 : ¬ t.val % 2 = 0 := fun h => hf ((first_iff t).mpr h)
  have hN : t.val < 48 := lt_of_lt_of_eq t.isLt (show cfg1.N = 48 from N_1)
  rw [Dat.before_out_kept _ 9 rfl t (by omega) (Bool.eq_false_iff.mpr fun h => by have := (flush1_9 _).mp h; dsimp only at this; omega)
    (fun _ => rfl) (fun _ _ => rfl)]
  dsimp only [dat]

/-- No window is idle at any point. -/
theorem live (w : Fin cfg1.W) (t : Fin cfg1.N) : cfg1.idle w (grid1.coords t) = false := by
  revert w t; decide +kernel

/-- A window's buffer is left exactly at the contents stated after the point. -/
theorem leaves (c : Dev nD) (t : Fin cfg1.N) (w : Fin cfg1.W) :
    (dat V c).leavesExact w t = owns (c : Thread nD τ) ((cfg1.win w).stage (cfg1.slots t w)) fullShare ((dat V c).after w t) := by
  unfold Dat.leavesExact; rw [live w t]

/-- The offset of a whole block. -/
theorem zero3 : (![0, 0, 0] : Fin 3 → ℕ) = fun _ => 0 := by decide

/-! The stored pieces cover the blocks that are not carried, and at the first point of a head the carried ones too. -/

theorem coverLater (c : Dev nD) (t : Fin cfg1.N) (y8 : Vec F S1x2176x64 .f32) (y9 : Vec F S1x2176x64 .f32) (hf : ¬ first (grid1.coords t)) (i : S1x1024x64.Idx) : ∃ pc ∈ (runLater V c t y8 y9 hf).1, i ∈ pc.1.set := by
  exact View.cover_of_tiledL (runLater V c t y8 y9 hf).1 S1x256x64.size (by sl_kernel_rfl) i
theorem coverFirst7 (c : Dev nD) (t : Fin cfg1.N) (hf : first (grid1.coords t)) (i : S1x1024x64.Idx) : ∃ pc ∈ (runFirst V c t hf).1, i ∈ pc.1.set := by
  exact View.cover_of_tiledL (runFirst V c t hf).1 S1x256x64.size (by sl_kernel_rfl) i
theorem coverFirst8 (c : Dev nD) (t : Fin cfg1.N) (hf : first (grid1.coords t)) (i : S1x2176x64.Idx) : ∃ pc ∈ (runFirst V c t hf).2.1, i ∈ pc.1.set := by
  exact ⟨_, List.mem_cons_of_mem _ (List.mem_cons_of_mem _ (List.mem_cons_of_mem _ (List.mem_cons_of_mem _ (List.mem_cons_self)))), View.mem_set_unit_zero zero3 inb_S1x2176x64_S1x2176x64_0_0_0 i⟩
theorem coverFirst9 (c : Dev nD) (t : Fin cfg1.N) (hf : first (grid1.coords t)) (i : S1x2176x64.Idx) : ∃ pc ∈ (runFirst V c t hf).2.2.1, i ∈ pc.1.set := by
  exact ⟨_, List.mem_cons_of_mem _ (List.mem_cons_of_mem _ (List.mem_cons_of_mem _ (List.mem_cons_of_mem _ (List.mem_cons_self)))), View.mem_set_unit_zero zero3 inb_S1x2176x64_S1x2176x64_0_0_0 i⟩

/-- What the body is entered with at point `t`. -/
def entry (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d))
    ∗ (∃ d, owns (c : Thread nD τ) (ms7 t) fullShare ((dat V c).before 7 t d))
    ∗ (∃ d, owns (c : Thread nD τ) (ms8 t) fullShare ((dat V c).before 8 t d))
    ∗ (∃ d, owns (c : Thread nD τ) (ms9 t) fullShare ((dat V c).before 9 t d)))

/-- What it leaves. -/
def exit (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t ∗ (dat V c).leavesExact 4 t ∗ (dat V c).leavesExact 5 t ∗ (dat V c).leavesExact 6 t ∗ (dat V c).leavesExact 7 t ∗ (dat V c).leavesExact 8 t ∗ (dat V c).leavesExact 9 t)

/-- The body at a point, from its entry to its exit. -/
theorem sound (c : Dev nD) (t : Fin cfg1.N) :
    entry V c t ⊢ wp frame (wpE (defs₀ (F := F)) Variants.none c none) Set.univ (bodyAt1 t) (fun _ => exit V c t) := by
  unfold entry exit bodyAt1
  simp only [before_0, before_1, before_2, before_3, before_4, before_5, before_6]
  rw [show (dat V c).Φ t.succ = (dat V c).Φ t.castSucc from rfl,
    show (dat V c).owesAt () t.succ = (dat V c).owesAt () t.castSucc from rfl]
  rw [leaves V c t 0, leaves V c t 1, leaves V c t 2, leaves V c t 3, leaves V c t 4, leaves V c t 5, leaves V c t 6, leaves V c t 7, leaves V c t 8, leaves V c t 9]
  rw [after_0, after_1, after_2, after_3, after_4, after_5, after_6, after_7, after_8, after_9]
  by_cases hf : first (grid1.coords t)
  · rw [outs_first V c t hf]; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runFirst V c t hf).2.2.2 Set.univ _)
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [H7]; · iexists _; iexact H7
    isplitl [H8]; · iexists _; iexact H8
    isplitl [H9]; · iexists _; iexact H9
    iintro ⟨⟨H0, H1, H2, H3, H4, H5, H6⟩, ⟨%e7, H7⟩, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_eq_canon _ _ _ (coverFirst7 V c t hf)
    isplitl [H8]
    · unfold owns; iexists _; isplitr
      swap; · iexact H8
      ipureintro; exact View.read_writes_eq_canon _ _ _ (coverFirst8 V c t hf)
    unfold owns; iexists _; isplitr
    swap; · iexact H9
    ipureintro; exact View.read_writes_eq_canon _ _ _ (coverFirst9 V c t hf)
  · simp only [before_8 V c t hf, before_9 V c t hf]
    rw [outs_later V c t hf]; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runLater V c t (prev V c t).1 (prev V c t).2 hf).2.2.2 Set.univ _)
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [H7]; · iexists _; iexact H7
    isplitl [H8]; · iexact H8
    isplitl [H9]; · iexact H9
    iintro ⟨⟨H0, H1, H2, H3, H4, H5, H6⟩, ⟨%e7, H7⟩, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_eq_canon _ _ _ (coverLater V c t _ _ hf)
    isplitl [H8]
    · unfold owns; iexists _; isplitr
      swap; · iexact H8
      ipureintro; rfl
    unfold owns; iexists _; isplitr
    swap; · iexact H9
    ipureintro; rfl

/-- The body's obligation at every point. -/
theorem obligation (c : Dev nD) : BodyObligation (dat (F := F) V c) (defs₀ (F := F)) Variants.none () Set.univ := fun t => by
  rw [bigSep_W1, bigSep_W1, show defs₀ (F := F) .tc cfg1.body (cfg1.bodyArgs t (cfg1.slots t)) = bodyAt1 t from by
    unfold defs₀; rw [Defs.onTc_tc]]
  exact triple_restated (sound V c t) rfl .rfl fun _ => .rfl

end Cert.Band4Ideal.Hand

end
-- ==== Proof.Band4Run.lean ====
/- THE PROGRAM OF THE BANDED ATTENTION OF DILATION 4 RUN TO ITS END: every buffer holds what the last host stretch leaves, the arguments are
   unchanged, and every counter is zero. The text is over any reading `F` of the floats. -/
module

public import proofs.«01_k».proof.Proof.Band4Dat0
public import proofs.«01_k».proof.Proof.Band4Dat1
public import proofs.«01_k».proof.Proof.Gen.Band4Ideal.Regions

@[expose] public section

set_option maxRecDepth 16384

noncomputable section

namespace Cert.Band4Ideal.Run

open Cert.Band4Ideal Cert.Band4Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- The argument arrays. -/
abbrev args : List (Ref sig .tc) := [main_arg0, main_arg1, main_arg2, main_arg3, main_arg4]

/-- The buffers at launch, and after each host stretch before the forward call. -/
abbrev B0 (c : Dev nD) : Valuation τ sig (Elt F) := fun b => m (c, b)
abbrev B1 (c : Dev nD) : Valuation τ sig (Elt F) := StableHlo.after hostOps0 (B0 m c)
abbrev B2 (c : Dev nD) : Valuation τ sig (Elt F) := StableHlo.after hostOps0_1 (B1 m c)
abbrev B3 (c : Dev nD) : Valuation τ sig (Elt F) := StableHlo.after hostOps0_2 (B2 m c)
abbrev B4 (c : Dev nD) : Valuation τ sig (Elt F) := StableHlo.after hostOps0_3 (B3 m c)
/-- What the forward call is entered with. -/
abbrev E4 : (c : Dev nD) → (b : Ref sig .tc) → Buf (Elt F) ((c : Thread nD τ).loc b) := fun c b => B4 m c b
/-- After the forward call: its arrays as its points leave them, the rest as before it. -/
def B5 (c : Dev nD) : Valuation τ sig (Elt F) :=
  Pipeline.withArrays spec0 c (B4 m c) fun w => (Hand0.dat (E4 m) c).arrAt w cfg0.N
abbrev E5 : (c : Dev nD) → (b : Ref sig .tc) → Buf (Elt F) ((c : Thread nD τ).loc b) := fun c b => B5 m c b
abbrev B6 (c : Dev nD) : Valuation τ sig (Elt F) := StableHlo.after hostOps1 (B5 m c)
/-- What the backward call is entered with. -/
abbrev E6 : (c : Dev nD) → (b : Ref sig .tc) → Buf (Elt F) ((c : Thread nD τ).loc b) := fun c b => B6 m c b
/-- After the backward call: its arrays as its points leave them, the rest as before it. -/
def B7 (c : Dev nD) : Valuation τ sig (Elt F) :=
  Pipeline.withArrays spec1 c (B6 m c) fun w => (Hand.dat (E6 m) c).arrAt w cfg1.N
abbrev E7 : (c : Dev nD) → (b : Ref sig .tc) → Buf (Elt F) ((c : Thread nD τ).loc b) := fun c b => B7 m c b
/-- At the end. -/
abbrev B8 (c : Dev nD) : Valuation τ sig (Elt F) := StableHlo.after hostOps2 (B7 m c)

theorem B5_arr (c : Dev nD) (w : Fin cfg0.W) :
    B5 m c (Proc.devRef .tc (Pipeline.arrRef spec0 w)) = (Hand0.dat (E4 m) c).arrAt w cfg0.N := by
  unfold B5; exact Pipeline.withArrays_arr spec0 launch0.win.arr_inj c _ _ w

theorem B5_of_ne (c : Dev nD) (b : Ref sig .tc) (hb : ∀ w, Pipeline.arrRef spec0 w ≠ b) :
    B5 m c (Proc.devRef .tc b) = B4 m c (Proc.devRef .tc b) := by
  unfold B5; exact Pipeline.withArrays_of_ne spec0 c _ _ b hb

/-- A buffer that is no output array of the call is as it was before the call. -/
theorem B5_of (c : Dev nD) (r : Ref sig .tc) (h : ∀ w : Fin cfg0.W, Pipeline.arrRef spec0 w = r → (cfg0.win w).isOut = false) :
    B5 m c (Proc.devRef .tc r) = B4 m c (Proc.devRef .tc r) := by
  by_cases hw : ∃ w : Fin cfg0.W, Pipeline.arrRef spec0 w = r
  · obtain ⟨w, rfl⟩ := hw
    exact (B5_arr m c w).trans (((Hand0.dat (E4 m) c).arrAt_in w (h w rfl) _).trans (Hand0.A_eq (E4 m) c w))
  · exact B5_of_ne m c r fun w e => hw ⟨w, e⟩

theorem B7_arr (c : Dev nD) (w : Fin cfg1.W) :
    B7 m c (Proc.devRef .tc (Pipeline.arrRef spec1 w)) = (Hand.dat (E6 m) c).arrAt w cfg1.N := by
  unfold B7; exact Pipeline.withArrays_arr spec1 launch1.win.arr_inj c _ _ w

theorem B7_of_ne (c : Dev nD) (b : Ref sig .tc) (hb : ∀ w, Pipeline.arrRef spec1 w ≠ b) :
    B7 m c (Proc.devRef .tc b) = B6 m c (Proc.devRef .tc b) := by
  unfold B7; exact Pipeline.withArrays_of_ne spec1 c _ _ b hb

/-- A buffer that is no output array of the call is as it was before the call. -/
theorem B7_of (c : Dev nD) (r : Ref sig .tc) (h : ∀ w : Fin cfg1.W, Pipeline.arrRef spec1 w = r → (cfg1.win w).isOut = false) :
    B7 m c (Proc.devRef .tc r) = B6 m c (Proc.devRef .tc r) := by
  by_cases hw : ∃ w : Fin cfg1.W, Pipeline.arrRef spec1 w = r
  · obtain ⟨w, rfl⟩ := hw
    exact (B7_arr m c w).trans (((Hand.dat (E6 m) c).arrAt_in w (h w rfl) _).trans (Hand.A_eq (E6 m) c w))
  · exact B7_of_ne m c r fun w e => hw ⟨w, e⟩

theorem B1_of (c : Dev nD) (r : Ref sig .tc) (h : r ∉ hostOps0_W) : B1 m c (Proc.devRef .tc r) = B0 m c (Proc.devRef .tc r) :=
  StableHlo.after_of_writes_sub hostOps0 _ hostOps0_writes h
theorem B2_of (c : Dev nD) (r : Ref sig .tc) (h : r ∉ hostOps0_1_W) : B2 m c (Proc.devRef .tc r) = B1 m c (Proc.devRef .tc r) :=
  StableHlo.after_of_writes_sub hostOps0_1 _ hostOps0_1_writes h
theorem B3_of (c : Dev nD) (r : Ref sig .tc) (h : r ∉ hostOps0_2_W) : B3 m c (Proc.devRef .tc r) = B2 m c (Proc.devRef .tc r) :=
  StableHlo.after_of_writes_sub hostOps0_2 _ hostOps0_2_writes h
theorem B4_of (c : Dev nD) (r : Ref sig .tc) (h : r ∉ hostOps0_3_W) : B4 m c (Proc.devRef .tc r) = B3 m c (Proc.devRef .tc r) :=
  StableHlo.after_of_writes_sub hostOps0_3 _ hostOps0_3_writes h
theorem B6_of (c : Dev nD) (r : Ref sig .tc) (h : r ∉ hostOps1_W) : B6 m c (Proc.devRef .tc r) = B5 m c (Proc.devRef .tc r) :=
  StableHlo.after_of_writes_sub hostOps1 _ hostOps1_writes h
theorem B8_of (c : Dev nD) (r : Ref sig .tc) (h : r ∉ hostOps2_W) : B8 m c (Proc.devRef .tc r) = B7 m c (Proc.devRef .tc r) :=
  StableHlo.after_of_writes_sub hostOps2 _ hostOps2_writes h

/-- No host stretch and no call writes an argument. -/
theorem args_end (c : Dev nD) : ∀ a ∈ args, B8 m c (Proc.devRef .tc a) = m ((c : Thread nD τ).loc a) := fun a ha =>
  (B8_of m c a ((by decide +kernel : ∀ a ∈ args, a ∉ hostOps2_W) a ha)).trans <|
  (B7_of m c a ((by decide +kernel : ∀ a ∈ args, ∀ w : Fin cfg1.W, Pipeline.arrRef spec1 w = a → (cfg1.win w).isOut = false) a ha)).trans <|
  (B6_of m c a ((by decide +kernel : ∀ a ∈ args, a ∉ hostOps1_W) a ha)).trans <|
  (B5_of m c a ((by decide +kernel : ∀ a ∈ args, ∀ w : Fin cfg0.W, Pipeline.arrRef spec0 w = a → (cfg0.win w).isOut = false) a ha)).trans <|
  (B4_of m c a ((by decide +kernel : ∀ a ∈ args, a ∉ hostOps0_3_W) a ha)).trans <|
  (B3_of m c a ((by decide +kernel : ∀ a ∈ args, a ∉ hostOps0_2_W) a ha)).trans <|
  (B2_of m c a ((by decide +kernel : ∀ a ∈ args, a ∉ hostOps0_1_W) a ha)).trans <|
  B1_of m c a ((by decide +kernel : ∀ a ∈ args, a ∉ hostOps0_W) a ha)

/-- No call has a prefetched table. -/
abbrev noTab : (p : Fin 2) → (pcfgs (F := F) p).Adm := fun p => (cfgs p).toPCfg_adm
/-- The data of both calls. -/
def pdats : (p : Fin 2) → (c : Dev nD) → Dat τ (Elt F) Unit ℕ (UR sig nD τ) ℕ (Pipeline.pin (pcfgs (F := F)) noTab p) c
  | ⟨0, _⟩ => fun c => Hand0.dat (E4 m) c
  | ⟨1, _⟩ => fun c => Hand.dat (E6 m) c
abbrev 𝒱₀ : Variants := Variants.none
abbrev L : GSem nD τ sig → Finset Unit := fun _ => ∅
abbrev lv : GSem nD τ sig → Unit → ℕ := fun _ _ => 0
/-- What rides through every segment: the generator register, and that the core owes nothing. -/
abbrev R (c : Dev nD) : sProp 𝕄 := iprop((∃ r, prngReg c r) ∗ ∃ W, owes (c : Thread nD τ) (0 : CellTallies nD τ sig Unit) W)
/-- A host stretch as a segment. -/
abbrev host (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state of a core. -/
abbrev Last (c : Dev nD) : sProp 𝕄 := iprop(StableHlo.held (c : Thread nD τ) (Pipeline.ucRefs τ sig) (B8 m c) ∗ ∃ r, prngReg c r)

set_option backward.isDefEq.respectTransparency.types false in
/-- The forward call as a segment, from the buffers at `B4` to the buffers at `B5`. -/
def reg0 : Pipeline.RegionSeg (pcfgs (F := F)) noTab (pdats m) () defs₀ 𝒱₀ L lv 0 where
  win := launch0.win.to₀
  block_pos := launch0.block_pos
  stage_whole := launch0.stage_whole
  K := PEmpty
  osem k := k.elim
  ho := Pipeline.OwnSemFacts.none _
  hbody c := (Hand0.obligation (E4 m) c).loose
  hwaits := Pipeline.hwaits_of_owed_zero _ _ _ _ L lv 0 fun _ _ => rfl
  pre c := iprop(StableHlo.held (c : Thread nD τ) (Pipeline.ucRefs τ sig) (B4 m c) ∗ R c)
  post c := iprop(StableHlo.held (c : Thread nD τ) (Pipeline.ucRefs τ sig) (B5 m c) ∗ R c)
  X c := iprop(∃ r, prngReg c r)
  Y c := iprop(∃ r, prngReg c r)
  Z c := Pipeline.unscopedRest (Ix := Unit) (Name := ℕ) (U := UR sig nD τ) (Lvl := ℕ) spec0 c (E4 m c)
  hentry c := by
    rw [Pipeline.ownSems0_none]
    have hsplit := Pipeline.arrays_of_unscopedBufs (p := 0) (pcfgs (F := F)) noTab (pdats m) launch0.win launch0.arr_whole c
      ((pdats m 0 c).share_full fun _ => rfl) (E4 m c) (Hand0.A_eq (E4 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTab (Ix := Unit) (Name := ℕ) (U := UR sig nD τ) (Lvl := ℕ)
      launch0.win launch0.arr_whole c (pdats m) ((pdats m 0 c).share_full fun _ => rfl)
      (E4 m c) (E5 m c) ((pdats m 0 c).arrAt · cfg0.N) (fun w => (B5_arr m c w).symm)
      (fun b hb => B5_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The backward call as a segment, from the buffers at `B6` to the buffers at `B7`. -/
def reg1 : Pipeline.RegionSeg (pcfgs (F := F)) noTab (pdats m) () defs₀ 𝒱₀ L lv 1 where
  win := launch1.win.to₀
  block_pos := launch1.block_pos
  stage_whole := launch1.stage_whole
  K := PEmpty
  osem k := k.elim
  ho := Pipeline.OwnSemFacts.none _
  hbody c := (Hand.obligation (E6 m) c).loose
  hwaits := Pipeline.hwaits_of_owed_zero _ _ _ _ L lv 1 fun _ _ => rfl
  pre c := iprop(StableHlo.held (c : Thread nD τ) (Pipeline.ucRefs τ sig) (B6 m c) ∗ R c)
  post c := iprop(StableHlo.held (c : Thread nD τ) (Pipeline.ucRefs τ sig) (B7 m c) ∗ R c)
  X c := iprop(∃ r, prngReg c r)
  Y c := iprop(∃ r, prngReg c r)
  Z c := Pipeline.unscopedRest (Ix := Unit) (Name := ℕ) (U := UR sig nD τ) (Lvl := ℕ) spec1 c (E6 m c)
  hentry c := by
    rw [Pipeline.ownSems0_none]
    have hsplit := Pipeline.arrays_of_unscopedBufs (p := 1) (pcfgs (F := F)) noTab (pdats m) launch1.win launch1.arr_whole c
      ((pdats m 1 c).share_full fun _ => rfl) (E6 m c) (Hand.A_eq (E6 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTab (Ix := Unit) (Name := ℕ) (U := UR sig nD τ) (Lvl := ℕ)
      launch1.win launch1.arr_whole c (pdats m) ((pdats m 1 c).share_full fun _ => rfl)
      (E6 m c) (E7 m c) ((pdats m 1 c).arrAt · cfg1.N) (fun w => (B7_arr m c w).symm)
      (fun b hb => B7_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program as its eight segments. -/
abbrev segments : List (Pipeline.Seg (pcfgs (F := F)) noTab (pdats m) () defs₀ 𝒱₀ L lv) :=
  [ .host (host hostOps0 hostOps0_sub hostOps0_fresh (B0 m)),
    .host (host hostOps0_1 hostOps0_1_sub hostOps0_1_fresh (B1 m)),
    .host (host hostOps0_2 hostOps0_2_sub hostOps0_2_fresh (B2 m)),
    .host (host hostOps0_3 hostOps0_3_sub hostOps0_3_fresh (B3 m)),
    .region (reg0 m),
    .host (host hostOps1 hostOps1_sub hostOps1_fresh (B5 m)),
    .region (reg1 m),
    .host (host hostOps2 hostOps2_sub hostOps2_fresh (B7 m)) ]

theorem main_segments (c : Dev nD) : main (F := F) c = Pipeline.Seg.run (segments m) := (main_chain c).trans (by chain_rfl)

theorem no_unscoped : ∀ sm : SemLoc sig, sm.isScoped .tc = true := by decide

variable (ρ : Dev nD → PrngReg)

set_option backward.isDefEq.respectTransparency.types false in
/-- Every execution ends with each unscoped buffer of each core at `B8`, and with every counter at zero. -/
theorem run_all :
    θ_run defs (onTc (τ := τ) (main (F := F))) ⟨m, fun _ => 0, ρ⟩
      (fun r => (∀ c : Dev nD, ∀ b ∈ Pipeline.ucRefs τ sig, r.2.mem (((c : Thread nD τ)).1, b) = B8 m c b) ∧ r.2.sem = fun _ => 0) :=
  Pipeline.θ_run_regions_kit_sems (pcfgs (F := F)) noTab (pdats m) () cellOf_inj emb₁ defs₀ 𝒱₀ L lv m ρ main (segments m)
    (fun c Q => by rw [main_segments m c])
    (by simp only [segments, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Last m)
    (hch := ⟨fun _ => .rfl, fun _ => .rfl, fun _ => .rfl, fun _ => .rfl, fun _ => .rfl, fun _ => .rfl, fun _ => .rfl, fun _ => .rfl, fun c => by
      dsimp only [Pipeline.Seg.post, host, Pipeline.HostSeg.ofOps]
      iintro ⟨Hh, Hp, HO⟩
      isplitr [HO]; · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B8 m c b)
    (hfin := fun c s' => by
      iintro ⟨⟨Hh, -⟩, HSI⟩
      unfold StableHlo.held
      imodintro
      iapply (pointsTo_read_all (Pipeline.ucRefs τ sig) (fun b => (((c : Thread nD τ)).1, b)) (B8 m c) s')
      isplitl [Hh] <;> iassumption)
    (hQ := fun _ h hz => ⟨h, funext fun g => hz g (.inr (no_unscoped g.2))⟩)

/-- The arguments and the counters at the end of a run. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ hh => ⟨fun c => by
    have h := hh.1
    exact ⟨(h c _ (mem_uc main_arg0 (by decide))).trans (args_end m c main_arg0 (by decide)),
     (h c _ (mem_uc main_arg1 (by decide))).trans (args_end m c main_arg1 (by decide)),
     (h c _ (mem_uc main_arg2 (by decide))).trans (args_end m c main_arg2 (by decide)),
     (h c _ (mem_uc main_arg3 (by decide))).trans (args_end m c main_arg3 (by decide)),
     (h c _ (mem_uc main_arg4 (by decide))).trans (args_end m c main_arg4 (by decide))⟩, hh.2⟩) (run_all m ρ)

end Cert.Band4Ideal.Run

end
-- ==== Proof.Band4Claim.lean ====
/- The banded attention of dilation 4: the frames of the runs of its programs, and what the one rewritten constant means. -/
module

public import proofs.«01_k».proof.Defs
public import proofs.«01_k».proof.Proof.Band4Run
public import proofs.«01_k».proof.Proof.Gen.Band4
public import proofs.«01_k».proof.Proof.Gen.Band4RefIdeal.Run
public import Idealize.ShloMosaic.Lib.Claim

@[expose] public section

set_option maxRecDepth 16384

noncomputable section

namespace Cert.Band4Claim

open Idealize.ShloMosaic Idealize.SL.Sem

/-- At the machine's words a named constant is the word it was printed with. -/
abbrev word : Named Bits := ⟨fun _ _ φ b => Scalar.ofBits φ b⟩

/-- The printed program ends, keeps its arguments, and leaves every counter at zero. -/
theorem frame_kernel : Cert.quiescent_Band4 (hBand4 := Cert.Band4.Gen.facts) := by
  have h : ∀ (m : (ℓ : Loc Cert.Band4.nD Cert.Band4.τ Cert.Band4.sig) → Buf (Elt Bits) ℓ) (ρ : Dev Cert.Band4.nD → PrngReg), _ := fun m ρ =>
    letI := word
    Cert.Band4Ideal.Run.frame (F := Bits) m ρ
  intro m ρ _
  exact cast (by sl_kernel_rfl) (h m ρ)

/-- The same of the program read over the extended reals. -/
theorem frame_ideal : Cert.quiescent_Band4Ideal (hBand4Ideal := Cert.Band4Ideal.Gen.facts) := fun m ρ _ =>
  Cert.Band4Ideal.Run.frame (F := Ideal) m ρ

/-- The reference ends, keeps its arguments, and leaves every counter at zero. -/
theorem frame_ref : Cert.quiescent_Band4RefIdeal (hBand4RefIdeal := Cert.Band4RefIdeal.Gen.facts) := fun m ρ _ =>
  (θ_run Cert.Band4RefIdeal.defs _ _).mono (fun r h => ⟨fun c => (h c).2.2.2.2.2, sem_eq_zero_of_no_sems (by decide) r.2⟩)
    (Cert.Band4RefIdeal.Value.run (F := Ideal) m ρ)

/-- The one constant of the kernel that is read as its name, the mask, is named −∞. -/
theorem preserves : Cert.preserves_Band4_Band4Ideal :=
  IdealRules.named_const.statement Cert.Band4Ideal.κ "mask" .f32 0xF149F2CA#32 ⊥ rfl

end Cert.Band4Claim

end
-- ==== Proof.NattenBody0.lean ====
/- THE FORWARD KERNEL OF THE NEIGHBOURHOOD ATTENTION AT ONE GRID POINT: it stores the block of the output and the block of the row log-sums. -/
module

public import proofs.«01_k».proof.Proof.Gen.NattenIdeal.Launch
public import proofs.«01_k».proof.Proof.Gen.NattenIdeal.Skeleton
public import proofs.«01_k».proof.Proof.Gen.NattenIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Pipeline.Value

@[expose] public section

set_option maxRecDepth 16384

noncomputable section

namespace Cert.NattenIdeal.Hand0

open Cert.NattenIdeal Cert.NattenIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section
variable (c : Dev nD) (i : grid0.Coords)
  (a0 : Memref sig .tc .vmem S1x1024x64 .bf16) (h0 : a0.IsWhole)
  (a1 : Memref sig .tc .vmem S1x8704x64 .bf16) (h1 : a1.IsWhole)
  (a2 : Memref sig .tc .vmem S1x8704x64 .bf16) (h2 : a2.IsWhole)
  (a3 : Memref sig .tc .vmem S1x256x768 .f32) (h3 : a3.IsWhole)
  (a4 : Memref sig .tc .vmem S1x1024x64 .f32) (h4 : a4.IsWhole)
  (a5 : Memref sig .tc .vmem S1x1024x1 .f32) (h5 : a5.IsWhole)
  (x0 : Vec F S1x1024x64 .bf16) (x1 : Vec F S1x8704x64 .bf16) (x2 : Vec F S1x8704x64 .bf16) (x3 : Vec F S1x256x768 .f32)

set_option maxHeartbeats 16000000 in
/-- What the point stores into the blocks of the output and of the row log-sums. -/
noncomputable def pieces :
    Σ' (L4 : List (View.Piece (Elt F) S1x1024x64 .f32)),
    { L5 : List (View.Piece (Elt F) S1x1024x1 .f32) //
      ∀ (E : Set ℕ) (K : PUnit → sProp 𝕄),
        iprop((owns (c : Thread nD τ) a0 fullShare x0 ∗ owns (c : Thread nD τ) a1 fullShare x1 ∗ owns (c : Thread nD τ) a2 fullShare x2 ∗ owns (c : Thread nD τ) a3 fullShare x3)
            ∗ (∃ d, owns (c : Thread nD τ) a4 fullShare d) ∗ (∃ d, owns (c : Thread nD τ) a5 fullShare d)
            ∗ (iprop((owns (c : Thread nD τ) a0 fullShare x0 ∗ owns (c : Thread nD τ) a1 fullShare x1 ∗ owns (c : Thread nD τ) a2 fullShare x2 ∗ owns (c : Thread nD τ) a3 fullShare x3)
              ∗ (∃ f, a4.view.loc (c : Thread nD τ) ↦[a4.view.set]{fullShare} a4.view.writes (Elt F) f L4) ∗ (∃ f, a5.view.loc (c : Thread nD τ) ↦[a5.view.set]{fullShare} a5.view.writes (Elt F) f L5)) -∗ K ⟨⟩))
          ⊢ wp frame (wpE (defs₀ (F := F)) Variants.none c none) E
              (cc0_att_c_fwd i a0 h0 a1 h1 a2 h2 a3 h3 a4 h4 a5 h5) K } := by
  refine ⟨?_, ?_, fun E K => ?run⟩
  case run =>
    simp only [cc0_att_c_fwd_eq_skeleton]
    unfold cc0_att_c_fwd_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold k0_part1_skel k0_part2_skel k0_part3_skel k0_part4_skel k0_part5_skel k0_part6_skel k0_part7_skel k0_part8_skel
    unfold owns
    iintro ⟨⟨⟨%f0, %hf0, H0⟩, ⟨%f1, %hf1, H1⟩, ⟨%f2, %hf2, H2⟩, ⟨%f3, %hf3, H3⟩⟩,
      ⟨%d4, %f4, -, H4⟩, ⟨%d5, %f5, -, H5⟩, Hk⟩
    obtain rfl := h0.eq_unread hf0; obtain rfl := h1.eq_unread hf1; obtain rfl := h2.eq_unread hf2; obtain rfl := h3.eq_unread hf3
    sl_exec
    sl_step
    iapply Hk
    isplitl [H0 H1 H2 H3]
    · isplitl [H0]; · iexists _; isplitr; · ipureintro; exact h0.read_unread _
                      iexact H0
      isplitl [H1]; · iexists _; isplitr; · ipureintro; exact h1.read_unread _
                      iexact H1
      isplitl [H2]; · iexists _; isplitr; · ipureintro; exact h2.read_unread _
                      iexact H2
      iexists _; isplitr; · ipureintro; exact h3.read_unread _
      iexact H3
    isplitl [H4]; · iexists _; iexact H4
    iexists _; iexact H5

end

end Cert.NattenIdeal.Hand0

end
-- ==== Proof.NattenDat0.lean ====
/- THE FORWARD CALL OF THE NEIGHBOURHOOD ATTENTION: what it does at every grid point, stated for the launch. -/
module

public import proofs.«01_k».proof.Proof.NattenBody0

@[expose] public section

set_option maxRecDepth 16384

noncomputable section

namespace Cert.NattenIdeal.Hand0

open Cert.NattenIdeal Cert.NattenIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- what the core's buffers hold when the call begins
variable (V : (c : Dev nD) → (b : Ref sig .tc) → Buf (Elt F) ((c : Thread nD τ).loc b))

/-- The block of window `w` at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! The staging buffer of each window at a point, and that it is a whole buffer. -/

abbrev ms0 (t : Fin cfg0.N) : Memref sig .tc .vmem S1x1024x64 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x8704x64 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x8704x64 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x256x768 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024x64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024x1 .f32 := win0_5.stage (cfg0.slots t 5)
abbrev hs5 (t : Fin cfg0.N) : (ms5 t).IsWhole := hstage0_5 ((cfg0.slots t 5).cast nbuf0_5)

/-- The pieces stored at point `t`. -/
abbrev run (c : Dev nD) (t : Fin cfg0.N) := pieces (F := F) c (grid0.coords t) (ms0 t) (hs0 t) (ms1 t) (hs1 t) (ms2 t) (hs2 t) (ms3 t) (hs3 t) (ms4 t) (hs4 t) (ms5 t) (hs5 t) (iblk V c 0 t) (iblk V c 1 t) (iblk V c 2 t) (iblk V c 3 t)

/-- The data of the call: its arrays as it finds them, what each window's staging buffer holds after a point; the core's other
    buffers ride along, and nothing is owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => View.canon (run V c t).1
    | ⟨5, _⟩ => View.canon (run V c t).2.1
  Φ _ := Pipeline.ΦA spec0 c
  q _ := fullShare
  owed _ := 0

/-- The arrays are as the call finds them. -/
theorem A_eq (c : Dev nD) (w : Fin cfg0.W) : (dat V c).A w = V c (Pipeline.arrRef spec0 w) := by
  dsimp only [dat]

/-! What each window's staging buffer holds after a point. -/

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = View.canon (run V c t).1 := by dsimp only [dat]
theorem after_5 (c : Dev nD) (t : Fin cfg0.N) : (dat V c).after 5 t = View.canon (run V c t).2.1 := by dsimp only [dat]

/-! An input window's staging buffer holds its block before every point. -/

theorem before_0 (c : Dev nD) (t : Fin cfg0.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dat V c).before 3 t d = iblk V c 3 t :=
  ((dat V c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

/-- No window is idle at any point. -/
theorem live (w : Fin cfg0.W) (t : Fin cfg0.N) : cfg0.idle w (grid0.coords t) = false := by
  revert w t; decide +kernel

/-- A window's buffer is left exactly at the contents stated after the point. -/
theorem leaves (c : Dev nD) (t : Fin cfg0.N) (w : Fin cfg0.W) :
    (dat V c).leavesExact w t = owns (c : Thread nD τ) ((cfg0.win w).stage (cfg0.slots t w)) fullShare ((dat V c).after w t) := by
  unfold Dat.leavesExact; rw [live w t]

/-! The stored pieces cover the two blocks. -/

theorem cover4 (c : Dev nD) (t : Fin cfg0.N) (i : S1x1024x64.Idx) : ∃ pc ∈ (run V c t).1, i ∈ pc.1.set := by
  exact View.cover_of_tiledL (run V c t).1 S1x256x64.size (by sl_kernel_rfl) i
theorem cover5 (c : Dev nD) (t : Fin cfg0.N) (i : S1x1024x1.Idx) : ∃ pc ∈ (run V c t).2.1, i ∈ pc.1.set := by
  exact View.cover_of_tiledL (run V c t).2.1 S1x256x1.size (by sl_kernel_rfl) i

/-- What the body is entered with at point `t`. -/
def entry (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d)))

/-- What it leaves. -/
def exit (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t ∗ (dat V c).leavesExact 4 t ∗ (dat V c).leavesExact 5 t)

/-- The body at a point, from its entry to its exit. -/
theorem sound (c : Dev nD) (t : Fin cfg0.N) :
    entry V c t ⊢ wp frame (wpE (defs₀ (F := F)) Variants.none c none) Set.univ (bodyAt0 t) (fun _ => exit V c t) := by
  unfold entry exit bodyAt0
  simp only [before_0, before_1, before_2, before_3]
  rw [show (dat V c).Φ t.succ = (dat V c).Φ t.castSucc from rfl,
    show (dat V c).owesAt () t.succ = (dat V c).owesAt () t.castSucc from rfl]
  rw [leaves V c t 0, leaves V c t 1, leaves V c t 2, leaves V c t 3, leaves V c t 4, leaves V c t 5]
  rw [after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply ((run V c t).2.2 Set.univ _)
  isplitl [H0 H1 H2 H3]
  · isplitl [H0]; · iexact H0
    isplitl [H1]; · iexact H1
    isplitl [H2]; · iexact H2
    iexact H3
  isplitl [H4]; · iexists _; iexact H4
  isplitl [H5]; · iexists _; iexact H5
  iintro ⟨⟨H0, H1, H2, H3⟩, ⟨%e4, H4⟩, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_eq_canon _ _ _ (cover4 V c t)
  unfold owns; iexists _; isplitr
  swap; · iexact H5
  ipureintro; exact View.read_writes_eq_canon _ _ _ (cover5 V c t)

/-- The body's obligation at every point. -/
theorem obligation (c : Dev nD) : BodyObligation (dat (F := F) V c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (sound V c t) rfl .rfl fun _ => .rfl

end Cert.NattenIdeal.Hand0

end
-- ==== Proof.NattenBody1.lean ====
/- THE BACKWARD KERNEL OF THE NEIGHBOURHOOD ATTENTION AT ONE GRID POINT. The first point of a head clears the blocks of dk, dv and of the biases; every point adds its
   query tiles' parts to them and stores its block of dq. -/
module

public import proofs.«01_k».proof.Proof.Gen.NattenIdeal.Launch
public import proofs.«01_k».proof.Proof.Gen.NattenIdeal.Skeleton
public import proofs.«01_k».proof.Proof.Gen.NattenIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Pipeline.Value

@[expose] public section

set_option maxRecDepth 16384

noncomputable section

namespace Cert.NattenIdeal.Hand

open Cert.NattenIdeal Cert.NattenIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The condition under which a point clears the carried blocks: its second coordinate is zero. -/
abbrev first (i : grid1.Coords) : Prop :=
  (Scalar.cmpi .ne (Scalar.extui (Scalar.cmpi .eq (BitVec.ofNat 32 (i 1).val) 0#32)) 0#32) = 1#1

/-- The condition holds at every point whose number is a multiple of 8, and there only. -/
theorem first_iff : ∀ t : Fin cfg1.N, first (grid1.coords t) ↔ t.val % 8 = 0 := by decide +kernel

section
variable (c : Dev nD) (i : grid1.Coords)
  (a0 : Memref sig .tc .vmem S1x1024x64 .bf16) (h0 : a0.IsWhole)
  (a1 : Memref sig .tc .vmem S1x8704x64 .bf16) (h1 : a1.IsWhole)
  (a2 : Memref sig .tc .vmem S1x8704x64 .bf16) (h2 : a2.IsWhole)
  (a3 : Memref sig .tc .vmem S1x256x768 .f32) (h3 : a3.IsWhole)
  (a4 : Memref sig .tc .vmem S1x1024x64 .f32) (h4 : a4.IsWhole)
  (a5 : Memref sig .tc .vmem S1x1024x1 .f32) (h5 : a5.IsWhole)
  (a6 : Memref sig .tc .vmem S1x1024x64 .f32) (h6 : a6.IsWhole)
  (a7 : Memref sig .tc .vmem S1x1024x1 .f32) (h7 : a7.IsWhole)
  (a8 : Memref sig .tc .vmem S1x1024x64 .f32) (h8 : a8.IsWhole)
  (a9 : Memref sig .tc .vmem S1x8704x64 .f32) (h9 : a9.IsWhole)
  (a10 : Memref sig .tc .vmem S1x8704x64 .f32) (h10 : a10.IsWhole)
  (a11 : Memref sig .tc .vmem S1x256x768 .f32) (h11 : a11.IsWhole)
  (x0 : Vec F S1x1024x64 .bf16) (x1 : Vec F S1x8704x64 .bf16) (x2 : Vec F S1x8704x64 .bf16) (x3 : Vec F S1x256x768 .f32) (x4 : Vec F S1x1024x64 .f32) (x5 : Vec F S1x1024x1 .f32) (x6 : Vec F S1x1024x64 .f32) (x7 : Vec F S1x1024x1 .f32)
  (y9 : Vec F S1x8704x64 .f32) (y10 : Vec F S1x8704x64 .f32) (y11 : Vec F S1x256x768 .f32)

set_option maxHeartbeats 16000000 in
/-- What the first point of a head stores into the four blocks of gradients, whatever they held. -/
noncomputable def firstPieces (hf : first i) :
    Σ' (L8 : List (View.Piece (Elt F) S1x1024x64 .f32)),
    Σ' (L9 : List (View.Piece (Elt F) S1x8704x64 .f32)),
    Σ' (L10 : List (View.Piece (Elt F) S1x8704x64 .f32)),
    { L11 : List (View.Piece (Elt F) S1x256x768 .f32) //
      ∀ (E : Set ℕ) (K : PUnit → sProp 𝕄),
        iprop((owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7)
            ∗ (∃ d, owns (c : Thread nD τ) a8 fullShare d) ∗ (∃ d, owns (c : Thread nD τ) a9 fullShare d) ∗ (∃ d, owns (c : Thread nD τ) a10 fullShare d) ∗ (∃ d, owns (c : Thread nD τ) a11 fullShare d)
            ∗ (iprop((owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7)
              ∗ (∃ f, a8.view.loc (c : Thread nD τ) ↦[a8.view.set]{fullShare} a8.view.writes (Elt F) f L8) ∗ (∃ f, a9.view.loc (c : Thread nD τ) ↦[a9.view.set]{fullShare} a9.view.writes (Elt F) f L9) ∗ (∃ f, a10.view.loc (c : Thread nD τ) ↦[a10.view.set]{fullShare} a10.view.writes (Elt F) f L10) ∗ (∃ f, a11.view.loc (c : Thread nD τ) ↦[a11.view.set]{fullShare} a11.view.writes (Elt F) f L11)) -∗ K ⟨⟩))
          ⊢ wp frame (wpE (defs₀ (F := F)) Variants.none c none) E
              (cc1_att_c_bwd i a0 h0 a1 h1 a2 h2 a3 h3 a4 h4 a5 h5 a6 h6 a7 h7 a8 h8 a9 h9 a10 h10 a11 h11) K } := by
  refine ⟨?_, ?_, ?_, ?_, fun E K => ?run⟩
  case run =>
    simp only [cc1_att_c_bwd_eq_skeleton]
    unfold cc1_att_c_bwd_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton]
    unfold k1_part1_skel k1_part2_skel k1_part3_skel k1_part4_skel k1_part5_skel k1_part6_skel k1_part7_skel k1_part8_skel k1_part9_skel k1_part10_skel k1_part11_skel k1_part12_skel
    unfold owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩,
      ⟨%d8, %f8, -, H8⟩, ⟨%d9, %f9, -, H9⟩, ⟨%d10, %f10, -, H10⟩, ⟨%d11, %f11, -, H11⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7
    sl_exec (disch := sl_exact hf)
    sl_step
    iapply Hk
    isplitl [H0 H1 H2 H3 H4 H5 H6 H7]
    · isplitl [H0]; · iexists _; isplitr; · ipureintro; exact h0.read_unread _
                      iexact H0
      isplitl [H1]; · iexists _; isplitr; · ipureintro; exact h1.read_unread _
                      iexact H1
      isplitl [H2]; · iexists _; isplitr; · ipureintro; exact h2.read_unread _
                      iexact H2
      isplitl [H3]; · iexists _; isplitr; · ipureintro; exact h3.read_unread _
                      iexact H3
      isplitl [H4]; · iexists _; isplitr; · ipureintro; exact h4.read_unread _
                      iexact H4
      isplitl [H5]; · iexists _; isplitr; · ipureintro; exact h5.read_unread _
                      iexact H5
      isplitl [H6]; · iexists _; isplitr; · ipureintro; exact h6.read_unread _
                      iexact H6
      iexists _; isplitr; · ipureintro; exact h7.read_unread _
      iexact H7
    isplitl [H8]; · iexists _; iexact H8
    isplitl [H9]; · iexists _; iexact H9
    isplitl [H10]; · iexists _; iexact H10
    iexists _; iexact H11

set_option maxHeartbeats 16000000 in
/-- What a later point stores, over the contents that the point before left in the carried blocks. -/
noncomputable def laterPieces (hf : ¬ first i) :
    Σ' (L8 : List (View.Piece (Elt F) S1x1024x64 .f32)),
    Σ' (L9 : List (View.Piece (Elt F) S1x8704x64 .f32)),
    Σ' (L10 : List (View.Piece (Elt F) S1x8704x64 .f32)),
    { L11 : List (View.Piece (Elt F) S1x256x768 .f32) //
      ∀ (E : Set ℕ) (K : PUnit → sProp 𝕄),
        iprop((owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7)
            ∗ (∃ d, owns (c : Thread nD τ) a8 fullShare d) ∗ owns (c : Thread nD τ) a9 fullShare y9 ∗ owns (c : Thread nD τ) a10 fullShare y10 ∗ owns (c : Thread nD τ) a11 fullShare y11
            ∗ (iprop((owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7)
              ∗ (∃ f, a8.view.loc (c : Thread nD τ) ↦[a8.view.set]{fullShare} a8.view.writes (Elt F) f L8) ∗ (a9.view.loc (c : Thread nD τ) ↦[a9.view.set]{fullShare} a9.view.writes (Elt F) (h9.unread y9) L9) ∗ (a10.view.loc (c : Thread nD τ) ↦[a10.view.set]{fullShare} a10.view.writes (Elt F) (h10.unread y10) L10) ∗ (a11.view.loc (c : Thread nD τ) ↦[a11.view.set]{fullShare} a11.view.writes (Elt F) (h11.unread y11) L11)) -∗ K ⟨⟩))
          ⊢ wp frame (wpE (defs₀ (F := F)) Variants.none c none) E
              (cc1_att_c_bwd i a0 h0 a1 h1 a2 h2 a3 h3 a4 h4 a5 h5 a6 h6 a7 h7 a8 h8 a9 h9 a10 h10 a11 h11) K } := by
  refine ⟨?_, ?_, ?_, ?_, fun E K => ?run⟩
  case run =>
    simp only [cc1_att_c_bwd_eq_skeleton]
    unfold cc1_att_c_bwd_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton]
    unfold k1_part1_skel k1_part2_skel k1_part3_skel k1_part4_skel k1_part5_skel k1_part6_skel k1_part7_skel k1_part8_skel k1_part9_skel k1_part10_skel k1_part11_skel k1_part12_skel
    unfold owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩,
      ⟨%d8, %f8, -, H8⟩, ⟨%f9, %hf9, H9⟩, ⟨%f10, %hf10, H10⟩, ⟨%f11, %hf11, H11⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h9.eq_unread hf9; obtain rfl := h10.eq_unread hf10; obtain rfl := h11.eq_unread hf11
    sl_exec (disch := sl_exact hf)
    sl_step
    iapply Hk
    isplitl [H0 H1 H2 H3 H4 H5 H6 H7]
    · isplitl [H0]; · iexists _; isplitr; · ipureintro; exact h0.read_unread _
                      iexact H0
      isplitl [H1]; · iexists _; isplitr; · ipureintro; exact h1.read_unread _
                      iexact H1
      isplitl [H2]; · iexists _; isplitr; · ipureintro; exact h2.read_unread _
                      iexact H2
      isplitl [H3]; · iexists _; isplitr; · ipureintro; exact h3.read_unread _
                      iexact H3
      isplitl [H4]; · iexists _; isplitr; · ipureintro; exact h4.read_unread _
                      iexact H4
      isplitl [H5]; · iexists _; isplitr; · ipureintro; exact h5.read_unread _
                      iexact H5
      isplitl [H6]; · iexists _; isplitr; · ipureintro; exact h6.read_unread _
                      iexact H6
      iexists _; isplitr; · ipureintro; exact h7.read_unread _
      iexact H7
    isplitl [H8]; · iexists _; iexact H8
    isplitl [H9]; · iexact H9
    isplitl [H10]; · iexact H10
    iexact H11

end

end Cert.NattenIdeal.Hand

end
-- ==== Proof.NattenDat1.lean ====
/- THE BACKWARD CALL OF THE NEIGHBOURHOOD ATTENTION: what it does at every grid point, stated for the launch. -/
module

public import proofs.«01_k».proof.Proof.NattenBody1

@[expose] public section

set_option maxRecDepth 16384

noncomputable section

namespace Cert.NattenIdeal.Hand

open Cert.NattenIdeal Cert.NattenIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- what the core's buffers hold when the call begins
variable (V : (c : Dev nD) → (b : Ref sig .tc) → Buf (Elt F) ((c : Thread nD τ).loc b))

/-- The block of window `w` at point `t`, read off its array. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! The staging buffer of each window at a point, and that it is a whole buffer. -/

abbrev ms0 (t : Fin cfg1.N) : Memref sig .tc .vmem S1x1024x64 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S1x8704x64 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x8704x64 .bf16 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x256x768 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S1x1024x64 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S1x1024x1 .f32 := win1_5.stage (cfg1.slots t 5)
abbrev hs5 (t : Fin cfg1.N) : (ms5 t).IsWhole := hstage1_5 ((cfg1.slots t 5).cast nbuf1_5)
abbrev ms6 (t : Fin cfg1.N) : Memref sig .tc .vmem S1x1024x64 .f32 := win1_6.stage (cfg1.slots t 6)
abbrev hs6 (t : Fin cfg1.N) : (ms6 t).IsWhole := hstage1_6 ((cfg1.slots t 6).cast nbuf1_6)
abbrev ms7 (t : Fin cfg1.N) : Memref sig .tc .vmem S1x1024x1 .f32 := win1_7.stage (cfg1.slots t 7)
abbrev hs7 (t : Fin cfg1.N) : (ms7 t).IsWhole := hstage1_7 ((cfg1.slots t 7).cast nbuf1_7)
abbrev ms8 (t : Fin cfg1.N) : Memref sig .tc .vmem S1x1024x64 .f32 := win1_8.stage (cfg1.slots t 8)
abbrev hs8 (t : Fin cfg1.N) : (ms8 t).IsWhole := hstage1_8 ((cfg1.slots t 8).cast nbuf1_8)
abbrev ms9 (t : Fin cfg1.N) : Memref sig .tc .vmem S1x8704x64 .f32 := win1_9.stage (cfg1.slots t 9)
abbrev hs9 (t : Fin cfg1.N) : (ms9 t).IsWhole := hstage1_9 ((cfg1.slots t 9).cast nbuf1_9)
abbrev ms10 (t : Fin cfg1.N) : Memref sig .tc .vmem S1x8704x64 .f32 := win1_10.stage (cfg1.slots t 10)
abbrev hs10 (t : Fin cfg1.N) : (ms10 t).IsWhole := hstage1_10 ((cfg1.slots t 10).cast nbuf1_10)
abbrev ms11 (t : Fin cfg1.N) : Memref sig .tc .vmem S1x256x768 .f32 := win1_11.stage (cfg1.slots t 11)
abbrev hs11 (t : Fin cfg1.N) : (ms11 t).IsWhole := hstage1_11 ((cfg1.slots t 11).cast nbuf1_11)

/-- What the first point of a head stores. -/
abbrev runFirst (c : Dev nD) (t : Fin cfg1.N) (hf : first (grid1.coords t)) :=
  firstPieces (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (iblk V c 0 t) (iblk V c 1 t) (iblk V c 2 t) (iblk V c 3 t) (iblk V c 4 t) (iblk V c 5 t) (iblk V c 6 t) (iblk V c 7 t) hf

/-- What a later point stores over the contents `y9 y10 y11` of the carried blocks. -/
abbrev runLater (c : Dev nD) (t : Fin cfg1.N) (y9 : Vec F S1x8704x64 .f32) (y10 : Vec F S1x8704x64 .f32) (y11 : Vec F S1x256x768 .f32) (hf : ¬ first (grid1.coords t)) :=
  laterPieces (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (iblk V c 0 t) (iblk V c 1 t) (iblk V c 2 t) (iblk V c 3 t) (iblk V c 4 t) (iblk V c 5 t) (iblk V c 6 t) (iblk V c 7 t) y9 y10 y11 hf

/-- The contents of the carried blocks, in the order of their windows. -/
abbrev Carried (F : FTy → Type) [FloatOps F] : Type := Vec F S1x8704x64 .f32 × Vec F S1x8704x64 .f32 × Vec F S1x256x768 .f32

/-- The contents of the gradient blocks after a point, from those of the carried blocks before it. -/
def step (c : Dev nD) (t : Fin cfg1.N) (y : Carried F) : Vec F S1x1024x64 .f32 × Carried F :=
  if hf : first (grid1.coords t) then
    (View.canon (runFirst V c t hf).1, View.canon (runFirst V c t hf).2.1, View.canon (runFirst V c t hf).2.2.1, View.canon (runFirst V c t hf).2.2.2.1)
  else
    (View.canon (runLater V c t y.1 y.2.1 y.2.2 hf).1,
      (ms9 t).view.read (Elt F) ((ms9 t).view.writes (Elt F) ((hs9 t).unread y.1) (runLater V c t y.1 y.2.1 y.2.2 hf).2.1),
      (ms10 t).view.read (Elt F) ((ms10 t).view.writes (Elt F) ((hs10 t).unread y.2.1) (runLater V c t y.1 y.2.1 y.2.2 hf).2.2.1),
      (ms11 t).view.read (Elt F) ((ms11 t).view.writes (Elt F) ((hs11 t).unread y.2.2) (runLater V c t y.1 y.2.1 y.2.2 hf).2.2.2.1))

/-- The contents of the gradient blocks after point `n`. -/
def outs (c : Dev nD) : (n : ℕ) → n < cfg1.N → Vec F S1x1024x64 .f32 × Carried F
  | 0, hn => step V c ⟨0, hn⟩ (View.canon [], View.canon [], View.canon [])
  | n + 1, hn => step V c ⟨n + 1, hn⟩ (outs c n (Nat.lt_of_succ_lt hn)).2

/-- The point before. -/
abbrev prev (c : Dev nD) (t : Fin cfg1.N) : Carried F := (outs V c (t.val - 1) (Nat.lt_of_le_of_lt (Nat.sub_le _ _) t.isLt)).2

/-- At the first point of a head. -/
theorem outs_first (c : Dev nD) (t : Fin cfg1.N) (hf : first (grid1.coords t)) :
    outs V c t.val t.isLt = (View.canon (runFirst V c t hf).1, View.canon (runFirst V c t hf).2.1, View.canon (runFirst V c t hf).2.2.1, View.canon (runFirst V c t hf).2.2.2.1) := by
  obtain ⟨n, hn⟩ := t
  cases n with
  | zero => exact dif_pos hf
  | succ n => exact dif_pos hf

/-- At a later point. -/
theorem outs_later (c : Dev nD) (t : Fin cfg1.N) (hf : ¬ first (grid1.coords t)) :
    outs V c t.val t.isLt = (View.canon (runLater V c t (prev V c t).1 (prev V c t).2.1 (prev V c t).2.2 hf).1,
      (ms9 t).view.read (Elt F) ((ms9 t).view.writes (Elt F) ((hs9 t).unread (prev V c t).1) (runLater V c t (prev V c t).1 (prev V c t).2.1 (prev V c t).2.2 hf).2.1),
      (ms10 t).view.read (Elt F) ((ms10 t).view.writes (Elt F) ((hs10 t).unread (prev V c t).2.1) (runLater V c t (prev V c t).1 (prev V c t).2.1 (prev V c t).2.2 hf).2.2.1),
      (ms11 t).view.read (Elt F) ((ms11 t).view.writes (Elt F) ((hs11 t).unread (prev V c t).2.2) (runLater V c t (prev V c t).1 (prev V c t).2.1 (prev V c t).2.2 hf).2.2.2.1)) := by
  obtain ⟨n, hn⟩ := t
  cases n with
  | zero => exact absurd ((first_iff ⟨0, hn⟩).mpr (Nat.zero_mod _)) hf
  | succ n => exact dif_neg hf

/-- The data of the call: its arrays as it finds them, what each window's staging buffer holds after a point; the core's other
    buffers ride along, and nothing is owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => (outs V c t.val t.isLt).1
    | ⟨9, _⟩ => (outs V c t.val t.isLt).2.1
    | ⟨10, _⟩ => (outs V c t.val t.isLt).2.2.1
    | ⟨11, _⟩ => (outs V c t.val t.isLt).2.2.2
  Φ _ := Pipeline.ΦA spec1 c
  q _ := fullShare
  owed _ := 0

/-- The arrays are as the call finds them. -/
theorem A_eq (c : Dev nD) (w : Fin cfg1.W) : (dat V c).A w = V c (Pipeline.arrRef spec1 w) := by
  dsimp only [dat]

/-! What each window's staging buffer holds after a point. -/

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = iblk V c 6 t := by dsimp only [dat]
theorem after_7 (c : Dev nD) (t : Fin cfg1.N) : (dat V c).after 7 t = iblk V c 7 t := by dsimp only [dat]
theorem after_8 (c : Dev nD) (t : Fin cfg1.N) : (dat V c).after 8 t = (outs V c t.val t.isLt).1 := by dsimp only [dat]
theorem after_9 (c : Dev nD) (t : Fin cfg1.N) : (dat V c).after 9 t = (outs V c t.val t.isLt).2.1 := by dsimp only [dat]
theorem after_10 (c : Dev nD) (t : Fin cfg1.N) : (dat V c).after 10 t = (outs V c t.val t.isLt).2.2.1 := by dsimp only [dat]
theorem after_11 (c : Dev nD) (t : Fin cfg1.N) : (dat V c).after 11 t = (outs V c t.val t.isLt).2.2.2 := by dsimp only [dat]

/-! An input window's staging buffer holds its block before every point. -/

theorem before_0 (c : Dev nD) (t : Fin cfg1.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat V c).before 3 t d = iblk V c 3 t :=
  ((dat V c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg1.N) (d) : (dat V c).before 4 t d = iblk V c 4 t :=
  ((dat V c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin cfg1.N) (d) : (dat V c).before 5 t d = iblk V c 5 t :=
  ((dat V c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
theorem before_6 (c : Dev nD) (t : Fin cfg1.N) (d) : (dat V c).before 6 t d = iblk V c 6 t :=
  ((dat V c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)
theorem before_7 (c : Dev nD) (t : Fin cfg1.N) (d) : (dat V c).before 7 t d = iblk V c 7 t :=
  ((dat V c).before_in_eq_fetched 7 rfl (fun _ => rfl) (fun _ _ _ => rfl)
    (fun t => by rw [after_7]; unfold Dat.blockOf iblk; rw [A_eq]; try rfl) t d).trans
    (by unfold Dat.fetched Dat.blockOf iblk; rw [A_eq]; try rfl)

/-! At a later point a carried block's staging buffer holds what the point before left in it. -/

theorem before_9 (c : Dev nD) (t : Fin cfg1.N) (hf : ¬ first (grid1.coords t)) (d) : (dat V c).before 9 t d = (prev V c t).1 := by
  have h0 : ¬ t.val % 8 = 0 := fun h => hf ((first_iff t).mpr h)
  have hN : t.val < 32 := lt_of_lt_of_eq t.isLt (show cfg1.N = 32 from N_1)
  rw [Dat.before_out_kept _ 9 rfl t (by omega) (Bool.eq_false_iff.mpr fun h => by have := (flush1_9 _).mp h; dsimp only at this; omega)
    (fun _ => rfl) (fun _ _ => rfl)]
  dsimp only [dat]
theorem before_10 (c : Dev nD) (t : Fin cfg1.N) (hf : ¬ first (grid1.coords t)) (d) : (dat V c).before 10 t d = (prev V c t).2.1 := by
  have h0 : ¬ t.val % 8 = 0 := fun h => hf ((first_iff t).mpr h)
  have hN : t.val < 32 := lt_of_lt_of_eq t.isLt (show cfg1.N = 32 from N_1)
  rw [Dat.before_out_kept _ 10 rfl t (by omega) (Bool.eq_false_iff.mpr fun h => by have := (flush1_10 _).mp h; dsimp only at this; omega)
    (fun _ => rfl) (fun _ _ => rfl)]
  dsimp only [dat]
theorem before_11 (c : Dev nD) (t : Fin cfg1.N) (hf : ¬ first (grid1.coords t)) (d) : (dat V c).before 11 t d = (prev V c t).2.2 := by
  have h0 : ¬ t.val % 8 = 0 := fun h => hf ((first_iff t).mpr h)
  have hN : t.val < 32 := lt_of_lt_of_eq t.isLt (show cfg1.N = 32 from N_1)
  rw [Dat.before_out_kept _ 11 rfl t (by omega) (Bool.eq_false_iff.mpr fun h => by have := (flush1_11 _).mp h; dsimp only at this; omega)
    (fun _ => rfl) (fun _ _ => rfl)]
  dsimp only [dat]

/-- No window is idle at any point. -/
theorem live (w : Fin cfg1.W) (t : Fin cfg1.N) : cfg1.idle w (grid1.coords t) = false := by
  revert w t; decide +kernel

/-- A window's buffer is left exactly at the contents stated after the point. -/
theorem leaves (c : Dev nD) (t : Fin cfg1.N) (w : Fin cfg1.W) :
    (dat V c).leavesExact w t = owns (c : Thread nD τ) ((cfg1.win w).stage (cfg1.slots t w)) fullShare ((dat V c).after w t) := by
  unfold Dat.leavesExact; rw [live w t]

/-- The offset of a whole block. -/
theorem zero3 : (![0, 0, 0] : Fin 3 → ℕ) = fun _ => 0 := by decide

/-! The stored pieces cover the blocks that are not carried, and at the first point of a head the carried ones too. -/

theorem coverLater (c : Dev nD) (t : Fin cfg1.N) (y9 : Vec F S1x8704x64 .f32) (y10 : Vec F S1x8704x64 .f32) (y11 : Vec F S1x256x768 .f32) (hf : ¬ first (grid1.coords t)) (i : S1x1024x64.Idx) : ∃ pc ∈ (runLater V c t y9 y10 y11 hf).1, i ∈ pc.1.set := by
  exact View.cover_of_tiledL (runLater V c t y9 y10 y11 hf).1 S1x256x64.size (by sl_kernel_rfl) i
theorem coverFirst8 (c : Dev nD) (t : Fin cfg1.N) (hf : first (grid1.coords t)) (i : S1x1024x64.Idx) : ∃ pc ∈ (runFirst V c t hf).1, i ∈ pc.1.set := by
  exact View.cover_of_tiledL (runFirst V c t hf).1 S1x256x64.size (by sl_kernel_rfl) i
theorem coverFirst9 (c : Dev nD) (t : Fin cfg1.N) (hf : first (grid1.coords t)) (i : S1x8704x64.Idx) : ∃ pc ∈ (runFirst V c t hf).2.1, i ∈ pc.1.set := by
  exact ⟨_, List.mem_cons_of_mem _ (List.mem_cons_of_mem _ (List.mem_cons_of_mem _ (List.mem_cons_of_mem _ (List.mem_cons_self)))), View.mem_set_unit_zero zero3 inb_S1x8704x64_S1x8704x64_0_0_0 i⟩
theorem coverFirst10 (c : Dev nD) (t : Fin cfg1.N) (hf : first (grid1.coords t)) (i : S1x8704x64.Idx) : ∃ pc ∈ (runFirst V c t hf).2.2.1, i ∈ pc.1.set := by
  exact ⟨_, List.mem_cons_of_mem _ (List.mem_cons_of_mem _ (List.mem_cons_of_mem _ (List.mem_cons_of_mem _ (List.mem_cons_self)))), View.mem_set_unit_zero zero3 inb_S1x8704x64_S1x8704x64_0_0_0 i⟩
theorem coverFirst11 (c : Dev nD) (t : Fin cfg1.N) (hf : first (grid1.coords t)) (i : S1x256x768.Idx) : ∃ pc ∈ (runFirst V c t hf).2.2.2.1, i ∈ pc.1.set := by
  exact ⟨_, List.mem_cons_self, View.mem_set_unit_zero zero3 inb_S1x256x768_S1x256x768_0_0_0 i⟩

/-- What the body is entered with at point `t`. -/
def entry (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d))
    ∗ (∃ d, owns (c : Thread nD τ) (ms7 t) fullShare ((dat V c).before 7 t d))
    ∗ (∃ d, owns (c : Thread nD τ) (ms8 t) fullShare ((dat V c).before 8 t d))
    ∗ (∃ d, owns (c : Thread nD τ) (ms9 t) fullShare ((dat V c).before 9 t d))
    ∗ (∃ d, owns (c : Thread nD τ) (ms10 t) fullShare ((dat V c).before 10 t d))
    ∗ (∃ d, owns (c : Thread nD τ) (ms11 t) fullShare ((dat V c).before 11 t d)))

/-- What it leaves. -/
def exit (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t ∗ (dat V c).leavesExact 4 t ∗ (dat V c).leavesExact 5 t ∗ (dat V c).leavesExact 6 t ∗ (dat V c).leavesExact 7 t ∗ (dat V c).leavesExact 8 t ∗ (dat V c).leavesExact 9 t ∗ (dat V c).leavesExact 10 t ∗ (dat V c).leavesExact 11 t)

/-- The body at a point, from its entry to its exit. -/
theorem sound (c : Dev nD) (t : Fin cfg1.N) :
    entry V c t ⊢ wp frame (wpE (defs₀ (F := F)) Variants.none c none) Set.univ (bodyAt1 t) (fun _ => exit V c t) := by
  unfold entry exit bodyAt1
  simp only [before_0, before_1, before_2, before_3, before_4, before_5, before_6, before_7]
  rw [show (dat V c).Φ t.succ = (dat V c).Φ t.castSucc from rfl,
    show (dat V c).owesAt () t.succ = (dat V c).owesAt () t.castSucc from rfl]
  rw [leaves V c t 0, leaves V c t 1, leaves V c t 2, leaves V c t 3, leaves V c t 4, leaves V c t 5, leaves V c t 6, leaves V c t 7, leaves V c t 8, leaves V c t 9, leaves V c t 10, leaves V c t 11]
  rw [after_0, after_1, after_2, after_3, after_4, after_5, after_6, after_7, after_8, after_9, after_10, after_11]
  by_cases hf : first (grid1.coords t)
  · rw [outs_first V c t hf]; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runFirst V c t hf).2.2.2.2 Set.univ _)
    isplitl [H0 H1 H2 H3 H4 H5 H6 H7]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitl [H8]; · iexists _; iexact H8
    isplitl [H9]; · iexists _; iexact H9
    isplitl [H10]; · iexists _; iexact H10
    isplitl [H11]; · iexists _; iexact H11
    iintro ⟨⟨H0, H1, H2, H3, H4, H5, H6, H7⟩, ⟨%e8, H8⟩, ⟨%e9, H9⟩, ⟨%e10, H10⟩, ⟨%e11, H11⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_eq_canon _ _ _ (coverFirst8 V c t hf)
    isplitl [H9]
    · unfold owns; iexists _; isplitr
      swap; · iexact H9
      ipureintro; exact View.read_writes_eq_canon _ _ _ (coverFirst9 V c t hf)
    isplitl [H10]
    · unfold owns; iexists _; isplitr
      swap; · iexact H10
      ipureintro; exact View.read_writes_eq_canon _ _ _ (coverFirst10 V c t hf)
    unfold owns; iexists _; isplitr
    swap; · iexact H11
    ipureintro; exact View.read_writes_eq_canon _ _ _ (coverFirst11 V c t hf)
  · simp only [before_9 V c t hf, before_10 V c t hf, before_11 V c t hf]
    rw [outs_later V c t hf]; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runLater V c t (prev V c t).1 (prev V c t).2.1 (prev V c t).2.2 hf).2.2.2.2 Set.univ _)
    isplitl [H0 H1 H2 H3 H4 H5 H6 H7]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitl [H8]; · iexists _; iexact H8
    isplitl [H9]; · iexact H9
    isplitl [H10]; · iexact H10
    isplitl [H11]; · iexact H11
    iintro ⟨⟨H0, H1, H2, H3, H4, H5, H6, H7⟩, ⟨%e8, H8⟩, H9, H10, H11⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_eq_canon _ _ _ (coverLater V c t _ _ _ hf)
    isplitl [H9]
    · unfold owns; iexists _; isplitr
      swap; · iexact H9
      ipureintro; rfl
    isplitl [H10]
    · unfold owns; iexists _; isplitr
      swap; · iexact H10
      ipureintro; rfl
    unfold owns; iexists _; isplitr
    swap; · iexact H11
    ipureintro; rfl

/-- The body's obligation at every point. -/
theorem obligation (c : Dev nD) : BodyObligation (dat (F := F) V c) (defs₀ (F := F)) Variants.none () Set.univ := fun t => by
  rw [bigSep_W1, bigSep_W1, show defs₀ (F := F) .tc cfg1.body (cfg1.bodyArgs t (cfg1.slots t)) = bodyAt1 t from by
    unfold defs₀; rw [Defs.onTc_tc]]
  exact triple_restated (sound V c t) rfl .rfl fun _ => .rfl

end Cert.NattenIdeal.Hand

end
-- ==== Proof.NattenRun.lean ====
/- THE PROGRAM OF THE NEIGHBOURHOOD ATTENTION RUN TO ITS END: every buffer holds what the last host stretch leaves, the arguments are
   unchanged, and every counter is zero. The text is over any reading `F` of the floats. -/
module

public import proofs.«01_k».proof.Proof.NattenDat0
public import proofs.«01_k».proof.Proof.NattenDat1
public import proofs.«01_k».proof.Proof.Gen.NattenIdeal.Regions

@[expose] public section

set_option maxRecDepth 16384

noncomputable section

namespace Cert.NattenIdeal.Run

open Cert.NattenIdeal Cert.NattenIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- The argument arrays. -/
abbrev args : List (Ref sig .tc) := [main_arg0, main_arg1, main_arg2, main_arg3, main_arg4]

/-- The buffers at launch, and after each host stretch before the forward call. -/
abbrev B0 (c : Dev nD) : Valuation τ sig (Elt F) := fun b => m (c, b)
abbrev B1 (c : Dev nD) : Valuation τ sig (Elt F) := StableHlo.after hostOps0 (B0 m c)
abbrev B2 (c : Dev nD) : Valuation τ sig (Elt F) := StableHlo.after hostOps0_1 (B1 m c)
abbrev B3 (c : Dev nD) : Valuation τ sig (Elt F) := StableHlo.after hostOps0_2 (B2 m c)
abbrev B4 (c : Dev nD) : Valuation τ sig (Elt F) := StableHlo.after hostOps0_3 (B3 m c)
/-- What the forward call is entered with. -/
abbrev E4 : (c : Dev nD) → (b : Ref sig .tc) → Buf (Elt F) ((c : Thread nD τ).loc b) := fun c b => B4 m c b
/-- After the forward call: its arrays as its points leave them, the rest as before it. -/
def B5 (c : Dev nD) : Valuation τ sig (Elt F) :=
  Pipeline.withArrays spec0 c (B4 m c) fun w => (Hand0.dat (E4 m) c).arrAt w cfg0.N
abbrev E5 : (c : Dev nD) → (b : Ref sig .tc) → Buf (Elt F) ((c : Thread nD τ).loc b) := fun c b => B5 m c b
abbrev B6 (c : Dev nD) : Valuation τ sig (Elt F) := StableHlo.after hostOps1 (B5 m c)
/-- What the backward call is entered with. -/
abbrev E6 : (c : Dev nD) → (b : Ref sig .tc) → Buf (Elt F) ((c : Thread nD τ).loc b) := fun c b => B6 m c b
/-- After the backward call: its arrays as its points leave them, the rest as before it. -/
def B7 (c : Dev nD) : Valuation τ sig (Elt F) :=
  Pipeline.withArrays spec1 c (B6 m c) fun w => (Hand.dat (E6 m) c).arrAt w cfg1.N
abbrev E7 : (c : Dev nD) → (b : Ref sig .tc) → Buf (Elt F) ((c : Thread nD τ).loc b) := fun c b => B7 m c b
/-- At the end. -/
abbrev B8 (c : Dev nD) : Valuation τ sig (Elt F) := StableHlo.after hostOps2 (B7 m c)

theorem B5_arr (c : Dev nD) (w : Fin cfg0.W) :
    B5 m c (Proc.devRef .tc (Pipeline.arrRef spec0 w)) = (Hand0.dat (E4 m) c).arrAt w cfg0.N := by
  unfold B5; exact Pipeline.withArrays_arr spec0 launch0.win.arr_inj c _ _ w

theorem B5_of_ne (c : Dev nD) (b : Ref sig .tc) (hb : ∀ w, Pipeline.arrRef spec0 w ≠ b) :
    B5 m c (Proc.devRef .tc b) = B4 m c (Proc.devRef .tc b) := by
  unfold B5; exact Pipeline.withArrays_of_ne spec0 c _ _ b hb

/-- A buffer that is no output array of the call is as it was before the call. -/
theorem B5_of (c : Dev nD) (r : Ref sig .tc) (h : ∀ w : Fin cfg0.W, Pipeline.arrRef spec0 w = r → (cfg0.win w).isOut = false) :
    B5 m c (Proc.devRef .tc r) = B4 m c (Proc.devRef .tc r) := by
  by_cases hw : ∃ w : Fin cfg0.W, Pipeline.arrRef spec0 w = r
  · obtain ⟨w, rfl⟩ := hw
    exact (B5_arr m c w).trans (((Hand0.dat (E4 m) c).arrAt_in w (h w rfl) _).trans (Hand0.A_eq (E4 m) c w))
  · exact B5_of_ne m c r fun w e => hw ⟨w, e⟩

theorem B7_arr (c : Dev nD) (w : Fin cfg1.W) :
    B7 m c (Proc.devRef .tc (Pipeline.arrRef spec1 w)) = (Hand.dat (E6 m) c).arrAt w cfg1.N := by
  unfold B7; exact Pipeline.withArrays_arr spec1 launch1.win.arr_inj c _ _ w

theorem B7_of_ne (c : Dev nD) (b : Ref sig .tc) (hb : ∀ w, Pipeline.arrRef spec1 w ≠ b) :
    B7 m c (Proc.devRef .tc b) = B6 m c (Proc.devRef .tc b) := by
  unfold B7; exact Pipeline.withArrays_of_ne spec1 c _ _ b hb

/-- A buffer that is no output array of the call is as it was before the call. -/
theorem B7_of (c : Dev nD) (r : Ref sig .tc) (h : ∀ w : Fin cfg1.W, Pipeline.arrRef spec1 w = r → (cfg1.win w).isOut = false) :
    B7 m c (Proc.devRef .tc r) = B6 m c (Proc.devRef .tc r) := by
  by_cases hw : ∃ w : Fin cfg1.W, Pipeline.arrRef spec1 w = r
  · obtain ⟨w, rfl⟩ := hw
    exact (B7_arr m c w).trans (((Hand.dat (E6 m) c).arrAt_in w (h w rfl) _).trans (Hand.A_eq (E6 m) c w))
  · exact B7_of_ne m c r fun w e => hw ⟨w, e⟩

theorem B1_of (c : Dev nD) (r : Ref sig .tc) (h : r ∉ hostOps0_W) : B1 m c (Proc.devRef .tc r) = B0 m c (Proc.devRef .tc r) :=
  StableHlo.after_of_writes_sub hostOps0 _ hostOps0_writes h
theorem B2_of (c : Dev nD) (r : Ref sig .tc) (h : r ∉ hostOps0_1_W) : B2 m c (Proc.devRef .tc r) = B1 m c (Proc.devRef .tc r) :=
  StableHlo.after_of_writes_sub hostOps0_1 _ hostOps0_1_writes h
theorem B3_of (c : Dev nD) (r : Ref sig .tc) (h : r ∉ hostOps0_2_W) : B3 m c (Proc.devRef .tc r) = B2 m c (Proc.devRef .tc r) :=
  StableHlo.after_of_writes_sub hostOps0_2 _ hostOps0_2_writes h
theorem B4_of (c : Dev nD) (r : Ref sig .tc) (h : r ∉ hostOps0_3_W) : B4 m c (Proc.devRef .tc r) = B3 m c (Proc.devRef .tc r) :=
  StableHlo.after_of_writes_sub hostOps0_3 _ hostOps0_3_writes h
theorem B6_of (c : Dev nD) (r : Ref sig .tc) (h : r ∉ hostOps1_W) : B6 m c (Proc.devRef .tc r) = B5 m c (Proc.devRef .tc r) :=
  StableHlo.after_of_writes_sub hostOps1 _ hostOps1_writes h
theorem B8_of (c : Dev nD) (r : Ref sig .tc) (h : r ∉ hostOps2_W) : B8 m c (Proc.devRef .tc r) = B7 m c (Proc.devRef .tc r) :=
  StableHlo.after_of_writes_sub hostOps2 _ hostOps2_writes h

/-- No host stretch and no call writes an argument. -/
theorem args_end (c : Dev nD) : ∀ a ∈ args, B8 m c (Proc.devRef .tc a) = m ((c : Thread nD τ).loc a) := fun a ha =>
  (B8_of m c a ((by decide +kernel : ∀ a ∈ args, a ∉ hostOps2_W) a ha)).trans <|
  (B7_of m c a ((by decide +kernel : ∀ a ∈ args, ∀ w : Fin cfg1.W, Pipeline.arrRef spec1 w = a → (cfg1.win w).isOut = false) a ha)).trans <|
  (B6_of m c a ((by decide +kernel : ∀ a ∈ args, a ∉ hostOps1_W) a ha)).trans <|
  (B5_of m c a ((by decide +kernel : ∀ a ∈ args, ∀ w : Fin cfg0.W, Pipeline.arrRef spec0 w = a → (cfg0.win w).isOut = false) a ha)).trans <|
  (B4_of m c a ((by decide +kernel : ∀ a ∈ args, a ∉ hostOps0_3_W) a ha)).trans <|
  (B3_of m c a ((by decide +kernel : ∀ a ∈ args, a ∉ hostOps0_2_W) a ha)).trans <|
  (B2_of m c a ((by decide +kernel : ∀ a ∈ args, a ∉ hostOps0_1_W) a ha)).trans <|
  B1_of m c a ((by decide +kernel : ∀ a ∈ args, a ∉ hostOps0_W) a ha)

/-- No call has a prefetched table. -/
abbrev noTab : (p : Fin 2) → (pcfgs (F := F) p).Adm := fun p => (cfgs p).toPCfg_adm
/-- The data of both calls. -/
def pdats : (p : Fin 2) → (c : Dev nD) → Dat τ (Elt F) Unit ℕ (UR sig nD τ) ℕ (Pipeline.pin (pcfgs (F := F)) noTab p) c
  | ⟨0, _⟩ => fun c => Hand0.dat (E4 m) c
  | ⟨1, _⟩ => fun c => Hand.dat (E6 m) c
abbrev 𝒱₀ : Variants := Variants.none
abbrev L : GSem nD τ sig → Finset Unit := fun _ => ∅
abbrev lv : GSem nD τ sig → Unit → ℕ := fun _ _ => 0
/-- What rides through every segment: the generator register, and that the core owes nothing. -/
abbrev R (c : Dev nD) : sProp 𝕄 := iprop((∃ r, prngReg c r) ∗ ∃ W, owes (c : Thread nD τ) (0 : CellTallies nD τ sig Unit) W)
/-- A host stretch as a segment. -/
abbrev host (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state of a core. -/
abbrev Last (c : Dev nD) : sProp 𝕄 := iprop(StableHlo.held (c : Thread nD τ) (Pipeline.ucRefs τ sig) (B8 m c) ∗ ∃ r, prngReg c r)

set_option backward.isDefEq.respectTransparency.types false in
/-- The forward call as a segment, from the buffers at `B4` to the buffers at `B5`. -/
def reg0 : Pipeline.RegionSeg (pcfgs (F := F)) noTab (pdats m) () defs₀ 𝒱₀ L lv 0 where
  win := launch0.win.to₀
  block_pos := launch0.block_pos
  stage_whole := launch0.stage_whole
  K := PEmpty
  osem k := k.elim
  ho := Pipeline.OwnSemFacts.none _
  hbody c := (Hand0.obligation (E4 m) c).loose
  hwaits := Pipeline.hwaits_of_owed_zero _ _ _ _ L lv 0 fun _ _ => rfl
  pre c := iprop(StableHlo.held (c : Thread nD τ) (Pipeline.ucRefs τ sig) (B4 m c) ∗ R c)
  post c := iprop(StableHlo.held (c : Thread nD τ) (Pipeline.ucRefs τ sig) (B5 m c) ∗ R c)
  X c := iprop(∃ r, prngReg c r)
  Y c := iprop(∃ r, prngReg c r)
  Z c := Pipeline.unscopedRest (Ix := Unit) (Name := ℕ) (U := UR sig nD τ) (Lvl := ℕ) spec0 c (E4 m c)
  hentry c := by
    rw [Pipeline.ownSems0_none]
    have hsplit := Pipeline.arrays_of_unscopedBufs (p := 0) (pcfgs (F := F)) noTab (pdats m) launch0.win launch0.arr_whole c
      ((pdats m 0 c).share_full fun _ => rfl) (E4 m c) (Hand0.A_eq (E4 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTab (Ix := Unit) (Name := ℕ) (U := UR sig nD τ) (Lvl := ℕ)
      launch0.win launch0.arr_whole c (pdats m) ((pdats m 0 c).share_full fun _ => rfl)
      (E4 m c) (E5 m c) ((pdats m 0 c).arrAt · cfg0.N) (fun w => (B5_arr m c w).symm)
      (fun b hb => B5_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The backward call as a segment, from the buffers at `B6` to the buffers at `B7`. -/
def reg1 : Pipeline.RegionSeg (pcfgs (F := F)) noTab (pdats m) () defs₀ 𝒱₀ L lv 1 where
  win := launch1.win.to₀
  block_pos := launch1.block_pos
  stage_whole := launch1.stage_whole
  K := PEmpty
  osem k := k.elim
  ho := Pipeline.OwnSemFacts.none _
  hbody c := (Hand.obligation (E6 m) c).loose
  hwaits := Pipeline.hwaits_of_owed_zero _ _ _ _ L lv 1 fun _ _ => rfl
  pre c := iprop(StableHlo.held (c : Thread nD τ) (Pipeline.ucRefs τ sig) (B6 m c) ∗ R c)
  post c := iprop(StableHlo.held (c : Thread nD τ) (Pipeline.ucRefs τ sig) (B7 m c) ∗ R c)
  X c := iprop(∃ r, prngReg c r)
  Y c := iprop(∃ r, prngReg c r)
  Z c := Pipeline.unscopedRest (Ix := Unit) (Name := ℕ) (U := UR sig nD τ) (Lvl := ℕ) spec1 c (E6 m c)
  hentry c := by
    rw [Pipeline.ownSems0_none]
    have hsplit := Pipeline.arrays_of_unscopedBufs (p := 1) (pcfgs (F := F)) noTab (pdats m) launch1.win launch1.arr_whole c
      ((pdats m 1 c).share_full fun _ => rfl) (E6 m c) (Hand.A_eq (E6 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTab (Ix := Unit) (Name := ℕ) (U := UR sig nD τ) (Lvl := ℕ)
      launch1.win launch1.arr_whole c (pdats m) ((pdats m 1 c).share_full fun _ => rfl)
      (E6 m c) (E7 m c) ((pdats m 1 c).arrAt · cfg1.N) (fun w => (B7_arr m c w).symm)
      (fun b hb => B7_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program as its eight segments. -/
abbrev segments : List (Pipeline.Seg (pcfgs (F := F)) noTab (pdats m) () defs₀ 𝒱₀ L lv) :=
  [ .host (host hostOps0 hostOps0_sub hostOps0_fresh (B0 m)),
    .host (host hostOps0_1 hostOps0_1_sub hostOps0_1_fresh (B1 m)),
    .host (host hostOps0_2 hostOps0_2_sub hostOps0_2_fresh (B2 m)),
    .host (host hostOps0_3 hostOps0_3_sub hostOps0_3_fresh (B3 m)),
    .region (reg0 m),
    .host (host hostOps1 hostOps1_sub hostOps1_fresh (B5 m)),
    .region (reg1 m),
    .host (host hostOps2 hostOps2_sub hostOps2_fresh (B7 m)) ]

theorem main_segments (c : Dev nD) : main (F := F) c = Pipeline.Seg.run (segments m) := (main_chain c).trans (by chain_rfl)

theorem no_unscoped : ∀ sm : SemLoc sig, sm.isScoped .tc = true := by decide

variable (ρ : Dev nD → PrngReg)

set_option backward.isDefEq.respectTransparency.types false in
/-- Every execution ends with each unscoped buffer of each core at `B8`, and with every counter at zero. -/
theorem run_all :
    θ_run defs (onTc (τ := τ) (main (F := F))) ⟨m, fun _ => 0, ρ⟩
      (fun r => (∀ c : Dev nD, ∀ b ∈ Pipeline.ucRefs τ sig, r.2.mem (((c : Thread nD τ)).1, b) = B8 m c b) ∧ r.2.sem = fun _ => 0) :=
  Pipeline.θ_run_regions_kit_sems (pcfgs (F := F)) noTab (pdats m) () cellOf_inj emb₁ defs₀ 𝒱₀ L lv m ρ main (segments m)
    (fun c Q => by rw [main_segments m c])
    (by simp only [segments, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Last m)
    (hch := ⟨fun _ => .rfl, fun _ => .rfl, fun _ => .rfl, fun _ => .rfl, fun _ => .rfl, fun _ => .rfl, fun _ => .rfl, fun _ => .rfl, fun c => by
      dsimp only [Pipeline.Seg.post, host, Pipeline.HostSeg.ofOps]
      iintro ⟨Hh, Hp, HO⟩
      isplitr [HO]; · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B8 m c b)
    (hfin := fun c s' => by
      iintro ⟨⟨Hh, -⟩, HSI⟩
      unfold StableHlo.held
      imodintro
      iapply (pointsTo_read_all (Pipeline.ucRefs τ sig) (fun b => (((c : Thread nD τ)).1, b)) (B8 m c) s')
      isplitl [Hh] <;> iassumption)
    (hQ := fun _ h hz => ⟨h, funext fun g => hz g (.inr (no_unscoped g.2))⟩)

/-- The arguments and the counters at the end of a run. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ hh => ⟨fun c => by
    have h := hh.1
    exact ⟨(h c _ (mem_uc main_arg0 (by decide))).trans (args_end m c main_arg0 (by decide)),
     (h c _ (mem_uc main_arg1 (by decide))).trans (args_end m c main_arg1 (by decide)),
     (h c _ (mem_uc main_arg2 (by decide))).trans (args_end m c main_arg2 (by decide)),
     (h c _ (mem_uc main_arg3 (by decide))).trans (args_end m c main_arg3 (by decide)),
     (h c _ (mem_uc main_arg4 (by decide))).trans (args_end m c main_arg4 (by decide))⟩, hh.2⟩) (run_all m ρ)

end Cert.NattenIdeal.Run

end
-- ==== Proof.NattenClaim.lean ====
/- The neighbourhood attention: the frames of the runs of its programs, and what the one rewritten constant means. -/
module

public import proofs.«01_k».proof.Defs
public import proofs.«01_k».proof.Proof.NattenRun
public import proofs.«01_k».proof.Proof.Gen.Natten
public import Idealize.ShloMosaic.Lib.Claim

@[expose] public section

set_option maxRecDepth 16384

noncomputable section

namespace Cert.NattenClaim

open Idealize.ShloMosaic Idealize.SL.Sem

/-- At the machine's words a named constant is the word it was printed with. -/
abbrev word : Named Bits := ⟨fun _ _ φ b => Scalar.ofBits φ b⟩

/-- The printed program ends, keeps its arguments, and leaves every counter at zero. -/
theorem frame_kernel : Cert.quiescent_Natten (hNatten := Cert.Natten.Gen.facts) := by
  have h : ∀ (m : (ℓ : Loc Cert.Natten.nD Cert.Natten.τ Cert.Natten.sig) → Buf (Elt Bits) ℓ) (ρ : Dev Cert.Natten.nD → PrngReg), _ := fun m ρ =>
    letI := word
    Cert.NattenIdeal.Run.frame (F := Bits) m ρ
  intro m ρ _
  exact cast (by sl_kernel_rfl) (h m ρ)

/-- The same of the program read over the extended reals. -/
theorem frame_ideal : Cert.quiescent_NattenIdeal (hNattenIdeal := Cert.NattenIdeal.Gen.facts) := fun m ρ _ =>
  Cert.NattenIdeal.Run.frame (F := Ideal) m ρ

/-- The one constant of the kernel that is read as its name, the mask, is named −∞. -/
theorem preserves : Cert.preserves_Natten_NattenIdeal :=
  IdealRules.named_const.statement Cert.NattenIdeal.κ "mask" .f32 0xF149F2CA#32 ⊥ rfl

end Cert.NattenClaim

end
-- ==== Proof.NormFwd.lean ====
/- THE NORM. The kernel walks 16 blocks of 512 rows and scales each row by the inverse root of its mean square; the reference
   writes the same line over the whole array. Here: one block's body and the reference at an element are the same expression
   over the extended reals, whatever the arguments; and the kernel's result array is the reference's. -/
module

public import proofs.«01_k».proof.Proof.NormMath
public import proofs.«01_k».proof.Proof.Gen.NormFwdIdeal.Value
public import proofs.«01_k».proof.Proof.Gen.NormFwdRefIdeal.Run
public import proofs.«01_k».proof.Proof.Gen.NormFwdRefIdeal.Read
public import Idealize.ShloMosaic.Lib.Pipeline.ValueKit

@[expose] public section

set_option maxRecDepth 16384

noncomputable section

namespace Cert.NormFwdIdeal.Value

open Cert.NormFwdRefIdeal.Read Cert.NormFwdIdeal Cert.NormFwdIdeal.Gen Idealize.ShloMosaic Idealize.ShloMosaic.TcCoe Idealize.SL.Sem
open Idealize.ShloMosaic.Pipeline (Dat)

/-- A row's element over the root of the row's mean square, times the scale. -/
def unit (x g : Fin 1024 → EReal) (b : Fin 1024) : EReal :=
  x b * Ideal.rsqrt (Ideal.div (∑ k, x k * x k) (Ideal.ofBits .f32 0x44800000#32) + Ideal.ofBits .f32 0x358637BD#32) * g b

/-- One block's body at an element. -/
theorem pay1_apply (X : FVec Ideal S512x1024 .f32) (G : FVec Ideal S1x1024 .f32) (a : Fin 512) (b : Fin 1024) :
    k0_pay1 (F := Ideal) X G (ix2 a b) = unit (fun k => X (ix2 a k)) (fun k => G (ix2 0 k)) b := by
  pointwise [k0_pay1]
  rfl

/-- The reference at an element. -/
theorem ref_apply (X : FVec Ideal S8192x1024 .f32) (G : FVec Ideal S1024 .f32) (a : Fin 8192) (b : Fin 1024) :
    val_main_v13 (F := Ideal) X G (ix2 a b) = unit (fun k => X (ix2 a k)) (fun k => G (ix1 k)) b := by
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]
  rfl

/-- Which block each window stages at a point. -/
theorem idx : ∀ t : Fin cfg0.N, win0_0.index t = ![t.val, 0] ∧ win0_1.index t = ![0, 0] ∧ win0_2.index t = ![t.val, 0] :=
  (by decide +kernel : ∀ t : Fin grid0.N, _)

/-- The row of the array that row `a` of point `t`'s block is. -/
def row (t : Fin cfg0.N) (a : Fin 512) : Fin 8192 := ⟨t.val * 512 + a.val, by
  have ht : t.val < 16 := lt_of_lt_of_eq t.isLt N_0
  omega⟩

variable (m : (ℓ : Loc nD τ sig) → Buf (Elt Ideal) ℓ) (c : Dev nD)

/-- The block of rows a point stages. -/
theorem blk_x (t : Fin cfg0.N) (a : Fin 512) (b : Fin 1024) : (iblk m c 0 t : FVec Ideal S512x1024 .f32) (ix2 a b)
    = (m ((c : Thread nD τ).loc main_arg0) : FVec Ideal S8192x1024 .f32) (ix2 (row t a) b) := by
  blk_ext [iblk, V, idx t, row]

/-- The scale a point stages. -/
theorem blk_g (t : Fin cfg0.N) (b : Fin 1024) : (iblk m c 1 t : FVec Ideal S1x1024 .f32) (ix2 0 b)
    = (m ((c : Thread nD τ).loc main_arg1) : FVec Ideal S1024 .f32) (ix1 b) := by
  blk_simp [iblk]
  entry_read
  pointwise
  blk_ext [idx t]

/-- The kernel's result array is any array that has the normalised rows' elements. -/
theorem final_of (A : FVec Ideal S8192x1024 .bf16)
    (h : ∀ a b, A (ix2 a b) = unit (fun k => (m ((c : Thread nD τ).loc main_arg0) : FVec Ideal S8192x1024 .f32) (ix2 a k))
      (fun k => (m ((c : Thread nD τ).loc main_arg1) : FVec Ideal S1024 .f32) (ix1 k)) b) :
    (dats m 0 c).arrAt 2 (cfgs 0).N = A := by
  refine (dats m 0 c).arrAt_eq_of_covers 2 _ (by decide +kernel) fun t _ j => ?_
  blk_simp
  rw [after0_2]
  frame_out
  have hj : j = ix2 (j 0) (j 1) := eq_ix2 j
  rw [hj]
  refine (pay1_apply _ _ (j 0) (j 1)).trans ?_
  simp only [blk_g]
  refine Eq.trans ?_ ((h (row t (j 0)) (j 1)).symm.trans (congrArg A ?_))
  · exact congrArg (fun z => unit z _ (j 1)) (funext fun k => blk_x m c t (j 0) k)
  · blk_ext [idx t, row]

/-- The kernel's result array is the reference's of the same arguments. -/
theorem final : (dats m 0 c).arrAt 2 (cfgs 0).N
    = val_main_v13 (F := Ideal) (m ((c : Thread nD τ).loc main_arg0)) (m ((c : Thread nD τ).loc main_arg1)) :=
  final_of m c _ fun a b => ref_apply _ _ a b

end Cert.NormFwdIdeal.Value

end
-- ==== Proof.NormFwdClaim.lean ====
/- The norm's value claim: the kernel's normalised rows and the reference's are equal, whatever the arguments. -/
module

public import proofs.«01_k».proof.Defs
public import proofs.«01_k».proof.Proof.NormFwd
public import Idealize.ShloMosaic.Lib.Claim

@[expose] public section

set_option maxRecDepth 16384

noncomputable section

namespace Cert.NormFwdClaim

open Idealize.ShloMosaic Idealize.SL.Sem
open Cert.NormFwdIdeal.Value Cert.NormFwdRefIdeal.Read

/-- The norm's kernel and the norm written plainly end with equal results. -/
theorem algebraic : Cert.algebraic_NormFwdIdeal_NormFwdRefIdeal (hNormFwdIdeal := Cert.NormFwdIdeal.Gen.facts)
    (hNormFwdRefIdeal := Cert.NormFwdRefIdeal.Gen.facts) := by
  intro m g m' g' _ hagree
  refine ⟨fun c => (Cert.NormFwdIdeal.Gen.dats m 0 c).arrAt 2 Cert.NormFwdIdeal.cfg0.N, Cert.NormFwdIdeal.Value.run_blocks m g,
    (θ_run Cert.NormFwdRefIdeal.defs _ _).mono (fun r h c => ?_) (Cert.NormFwdRefIdeal.Value.run m' g')⟩
  obtain ⟨e0, e1⟩ := hagree c
  obtain ⟨h0, h1⟩ := h c
  refine ⟨h0.trans ?_, h1⟩
  rw [e0, e1, val_main_v13_eq]
  exact (final m c).symm

/-- The reference ends, keeps its arguments, and leaves every counter at zero. -/
theorem frame_ref : Cert.quiescent_NormFwdRefIdeal (hNormFwdRefIdeal := Cert.NormFwdRefIdeal.Gen.facts) := fun m ρ _ =>
  (θ_run Cert.NormFwdRefIdeal.defs _ _).mono (fun r h => ⟨fun c => (h c).2, sem_eq_zero_of_no_sems (by decide) r.2⟩)
    (Cert.NormFwdRefIdeal.Value.run (F := Ideal) m ρ)

end Cert.NormFwdClaim

end
-- ==== Proof.Adam.lean ====
/- THE OPTIMISER'S STEP. The kernel walks 41 blocks of 144 rows; at a block it adds the eight devices' gradients in their order
   and updates the two moments and the weights' change. The reference sums over the devices' axis and writes the same lines over
   the whole array. Here: one block's four results and the reference's at an element are the same expressions over the extended
   reals, whatever the arguments; and the kernel's four result arrays are the reference's. -/
module

public import proofs.«01_k».proof.Proof.Reals
public import proofs.«01_k».proof.Proof.Gen.AdamIdeal.Value
public import proofs.«01_k».proof.Proof.Gen.AdamRefIdeal.Run
public import proofs.«01_k».proof.Proof.Gen.AdamRefIdeal.Read
public import Idealize.ShloMosaic.Lib.Pipeline.ValueKit

@[expose] public section

set_option maxRecDepth 16384

noncomputable section

namespace Cert.AdamIdeal.Value

open Cert.AdamRefIdeal.Read Cert.AdamIdeal Cert.AdamIdeal.Gen Idealize.ShloMosaic Idealize.ShloMosaic.TcCoe Idealize.SL.Sem
open Idealize.ShloMosaic.Pipeline (Dat)

/-! ## The step at one element -/

/-- The first moment after the step. -/
def mom1 (g m : EReal) : EReal := Ideal.ofBits .f32 0x3F666666#32 * m + Ideal.ofBits .f32 0x3DCCCCCD#32 * g

/-- The second moment after the step. -/
def mom2 (g v : EReal) : EReal := Ideal.ofBits .f32 0x3F7FBE77#32 * v + Ideal.ofBits .f32 981668463#32 * (g * g)

/-- The weights' change. -/
def change (g w m v : EReal) : EReal :=
  Ideal.ofBits .f32 3129152111#32 * (Ideal.div (Ideal.div (mom1 g m) (Ideal.ofBits .f32 1059503362#32))
    (Ideal.sqrt (Ideal.div (mom2 g v) (Ideal.ofBits .f32 1008933580#32)) + Ideal.ofBits .f32 841731191#32)
    + Ideal.ofBits .f32 1008981770#32 * w)

/-- The sum of the devices' gradients. -/
theorem pay5_apply (P : FVec Ideal S8x144x1024 .bf16) (W M V : FVec Ideal S144x1024 .f32) (a : Fin 144) (b : Fin 1024) :
    k0_pay5 (F := Ideal) P W M V (ix2 a b) = ∑ i : Fin 8, P (ix3 i a b) := by
  pointwise [k0_pay5, k0_pay4]
  rw [Fin.sum_univ_eight]

/-- A block's first moment. -/
theorem pay1_apply (G M : FVec Ideal S144x1024 .f32) (a : Fin 144) (b : Fin 1024) :
    k0_pay1 (F := Ideal) G M (Ideal.ofBits .f32 0x3F666666#32) (ix2 a b) = mom1 (G (ix2 a b)) (M (ix2 a b)) := by
  pointwise [k0_pay1]
  rfl

/-- A block's second moment. -/
theorem pay2_apply (G V : FVec Ideal S144x1024 .f32) (a : Fin 144) (b : Fin 1024) :
    k0_pay2 (F := Ideal) G V (ix2 a b) = mom2 (G (ix2 a b)) (V (ix2 a b)) := by
  pointwise [k0_pay2]
  rfl

/-- A block's change of the weights. -/
theorem pay3_apply (G W M V : FVec Ideal S144x1024 .f32) (a : Fin 144) (b : Fin 1024) :
    k0_pay3 (F := Ideal) G M (Ideal.ofBits .f32 0x3F666666#32) V W (ix2 a b) = change (G (ix2 a b)) (W (ix2 a b)) (M (ix2 a b)) (V (ix2 a b)) := by
  pointwise [k0_pay3, k0_pay2, k0_pay1]
  rfl

/-! ## The reference at an element -/

section Ref

variable (P : FVec Ideal S8x5904x1024 .bf16) (W M V : FVec Ideal S5904x1024 .f32) (a : Fin 5904) (b : Fin 1024)

/-- The reference's gradient: the sum over the devices. -/
theorem ref_g : val_main_v1 (F := Ideal) P (ix2 a b) = ∑ i : Fin 8, P (ix3 i a b) := by
  pointwise [val_main_v1, val_main_v0, val_main_cst]

/-- The reference's first moment. -/
theorem ref_m : val_main_v6 (F := Ideal) P M (ix2 a b) = mom1 (∑ i : Fin 8, P (ix3 i a b)) (M (ix2 a b)) := by
  rw [← ref_g]
  pointwise [val_main_v6, val_main_v5, val_main_v4, val_main_v3, val_main_v2, val_main_cst_0, val_main_cst_1]
  rfl

/-- The reference's second moment. -/
theorem ref_v : val_main_v12 (F := Ideal) P V (ix2 a b) = mom2 (∑ i : Fin 8, P (ix3 i a b)) (V (ix2 a b)) := by
  rw [← ref_g]
  pointwise [val_main_v12, val_main_v11, val_main_v10, val_main_v9, val_main_v8, val_main_v7, val_main_cst_2, val_main_cst_3]
  rfl

/-- The reference's change of the weights. -/
theorem ref_d : val_main_v25 (F := Ideal) P W M V (ix2 a b)
    = change (∑ i : Fin 8, P (ix3 i a b)) (W (ix2 a b)) (M (ix2 a b)) (V (ix2 a b)) := by
  pointwise [val_main_v25, val_main_v24, val_main_v23, val_main_v22, val_main_v21, val_main_v20, val_main_v19, val_main_v18,
    val_main_v17, val_main_v16, val_main_v15, val_main_v14, val_main_v13, val_main_cst_4, val_main_cst_5, val_main_cst_6,
    val_main_cst_7, val_main_cst_8]
  rw [ref_m, ref_v]; rfl

end Ref

/-! ## The kernel's result arrays -/

/-- Which block each window stages at a point. -/
theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- The row of the array that row `a` of point `t`'s block is. -/
def row (t : Fin cfg0.N) (a : Fin 144) : Fin 5904 := ⟨t.val * 144 + a.val, by
  have ht : t.val < 41 := lt_of_lt_of_eq t.isLt N_0
  omega⟩

variable (m : (ℓ : Loc nD τ sig) → Buf (Elt Ideal) ℓ) (c : Dev nD)

/-- The gradients, weights and moments as launched. -/
def G0 : FVec Ideal S8x5904x1024 .bf16 := m ((c : Thread nD τ).loc main_arg0)
@[inherit_doc G0] def W0 : FVec Ideal S5904x1024 .f32 := m ((c : Thread nD τ).loc main_arg1)
@[inherit_doc G0] def M0 : FVec Ideal S5904x1024 .f32 := m ((c : Thread nD τ).loc main_arg2)
@[inherit_doc G0] def V0 : FVec Ideal S5904x1024 .f32 := m ((c : Thread nD τ).loc main_arg3)

/-- The devices' gradients a point stages. -/
theorem blk_p (t : Fin cfg0.N) (i : Fin 8) (a : Fin 144) (b : Fin 1024) :
    (iblk m c 0 t : FVec Ideal S8x144x1024 .bf16) (ix3 i a b) = G0 m c (ix3 i (row t a) b) := by
  unfold G0
  blk_ext [iblk, V, idx t, row]

/-- The weights a point stages. -/
theorem blk_w (t : Fin cfg0.N) (a : Fin 144) (b : Fin 1024) :
    (iblk m c 1 t : FVec Ideal S144x1024 .f32) (ix2 a b) = W0 m c (ix2 (row t a) b) := by
  unfold W0
  blk_ext [iblk, V, idx t, row]

/-- The first moments a point stages. -/
theorem blk_m (t : Fin cfg0.N) (a : Fin 144) (b : Fin 1024) :
    (iblk m c 2 t : FVec Ideal S144x1024 .f32) (ix2 a b) = M0 m c (ix2 (row t a) b) := by
  unfold M0
  blk_ext [iblk, V, idx t, row]

/-- The second moments a point stages. -/
theorem blk_v (t : Fin cfg0.N) (a : Fin 144) (b : Fin 1024) :
    (iblk m c 3 t : FVec Ideal S144x1024 .f32) (ix2 a b) = V0 m c (ix2 (row t a) b) := by
  unfold V0
  blk_ext [iblk, V, idx t, row]

/-- A block's summed gradient is the array's at the block's rows. -/
theorem sum_blk (t : Fin cfg0.N) (a : Fin 144) (b : Fin 1024) :
    k0_pay5 (F := Ideal) (iblk m c 0 t) (iblk m c 1 t) (iblk m c 2 t) (iblk m c 3 t) (ix2 a b)
      = ∑ i : Fin 8, G0 m c (ix3 i (row t a) b) :=
  (pay5_apply _ _ _ _ a b).trans (Finset.sum_congr rfl fun i _ => blk_p m c t i a b)

/-- A block's change of the weights is the reference's at the block's rows. -/
theorem blk_d (t : Fin cfg0.N) (a : Fin 144) (b : Fin 1024) :
    k0_pay3 (F := Ideal) (k0_pay5 (iblk m c 0 t) (iblk m c 1 t) (iblk m c 2 t) (iblk m c 3 t)) (iblk m c 2 t)
      (Ideal.ofBits .f32 0x3F666666#32) (iblk m c 3 t) (iblk m c 1 t) (ix2 a b)
      = val_main_v25 (F := Ideal) (G0 m c) (W0 m c) (M0 m c) (V0 m c) (ix2 (row t a) b) := by
  rw [pay3_apply, sum_blk, blk_w, blk_m, blk_v, ref_d]

/-- A block's first moment is the reference's at the block's rows. -/
theorem blk_m1 (t : Fin cfg0.N) (a : Fin 144) (b : Fin 1024) :
    k0_pay1 (F := Ideal) (k0_pay5 (iblk m c 0 t) (iblk m c 1 t) (iblk m c 2 t) (iblk m c 3 t)) (iblk m c 2 t)
      (Ideal.ofBits .f32 0x3F666666#32) (ix2 a b) = val_main_v6 (F := Ideal) (G0 m c) (M0 m c) (ix2 (row t a) b) := by
  rw [pay1_apply, sum_blk, blk_m, ref_m]

/-- A block's second moment is the reference's at the block's rows. -/
theorem blk_m2 (t : Fin cfg0.N) (a : Fin 144) (b : Fin 1024) :
    k0_pay2 (F := Ideal) (k0_pay5 (iblk m c 0 t) (iblk m c 1 t) (iblk m c 2 t) (iblk m c 3 t)) (iblk m c 3 t) (ix2 a b)
      = val_main_v12 (F := Ideal) (G0 m c) (V0 m c) (ix2 (row t a) b) := by
  rw [pay2_apply, sum_blk, blk_v, ref_v]

/-- The gradient's array is the reference's. -/
theorem final_g : (dats m 0 c).arrAt 4 (cfgs 0).N = val_main_v1 (F := Ideal) (G0 m c) := by
  refine (dats m 0 c).arrAt_eq_of_covers 4 _ (by decide +kernel) fun t _ j => ?_
  blk_simp
  rw [after0_4]
  frame_out
  have hj : j = ix2 (j 0) (j 1) := eq_ix2 j
  rw [hj]
  refine (sum_blk m c t (j 0) (j 1)).trans ((ref_g (G0 m c) (row t (j 0)) (j 1)).symm.trans (congrArg (val_main_v1 (F := Ideal) (G0 m c)) ?_))
  blk_ext [idx t, row]

/-- The weights' change's array is the reference's. -/
theorem final_d : (dats m 0 c).arrAt 5 (cfgs 0).N = val_main_v25 (F := Ideal) (G0 m c) (W0 m c) (M0 m c) (V0 m c) := by
  refine (dats m 0 c).arrAt_eq_of_covers 5 _ (by decide +kernel) fun t _ j => ?_
  blk_simp
  rw [after0_5]
  frame_out
  have hj : j = ix2 (j 0) (j 1) := eq_ix2 j
  rw [hj]
  refine (blk_d m c t (j 0) (j 1)).trans
    (congrArg (val_main_v25 (F := Ideal) (G0 m c) (W0 m c) (M0 m c) (V0 m c)) ?_)
  blk_ext [idx t, row]

/-- The first moment's array is the reference's. -/
theorem final_m : (dats m 0 c).arrAt 6 (cfgs 0).N = val_main_v6 (F := Ideal) (G0 m c) (M0 m c) := by
  refine (dats m 0 c).arrAt_eq_of_covers 6 _ (by decide +kernel) fun t _ j => ?_
  blk_simp
  rw [after0_6]
  frame_out
  have hj : j = ix2 (j 0) (j 1) := eq_ix2 j
  rw [hj]
  refine (blk_m1 m c t (j 0) (j 1)).trans (congrArg (val_main_v6 (F := Ideal) (G0 m c) (M0 m c)) ?_)
  blk_ext [idx t, row]

/-- The second moment's array is the reference's. -/
theorem final_v : (dats m 0 c).arrAt 7 (cfgs 0).N = val_main_v12 (F := Ideal) (G0 m c) (V0 m c) := by
  refine (dats m 0 c).arrAt_eq_of_covers 7 _ (by decide +kernel) fun t _ j => ?_
  blk_simp
  rw [after0_7]
  frame_out
  have hj : j = ix2 (j 0) (j 1) := eq_ix2 j
  rw [hj]
  refine (blk_m2 m c t (j 0) (j 1)).trans (congrArg (val_main_v12 (F := Ideal) (G0 m c) (V0 m c)) ?_)
  blk_ext [idx t, row]

end Cert.AdamIdeal.Value

end
-- ==== Proof.AdamClaim.lean ====
/- The optimiser's value claim: the kernel's summed gradient, change of the weights and moments and the reference's are equal, whatever the arguments. -/
module

public import proofs.«01_k».proof.Defs
public import proofs.«01_k».proof.Proof.Adam
public import Idealize.ShloMosaic.Lib.Claim

@[expose] public section

set_option maxRecDepth 16384

noncomputable section

namespace Cert.AdamClaim

open Idealize.ShloMosaic Idealize.SL.Sem
open Cert.AdamIdeal.Value Cert.AdamRefIdeal.Read

/-- The optimiser's kernel and the step written plainly end with equal results. -/
theorem algebraic : Cert.algebraic_AdamIdeal_AdamRefIdeal (hAdamIdeal := Cert.AdamIdeal.Gen.facts)
    (hAdamRefIdeal := Cert.AdamRefIdeal.Gen.facts) := by
  intro m g m' g' _ hagree
  refine ⟨fun c => (Cert.AdamIdeal.Gen.dats m 0 c).arrAt 4 Cert.AdamIdeal.cfg0.N, fun c => (Cert.AdamIdeal.Gen.dats m 0 c).arrAt 5 Cert.AdamIdeal.cfg0.N,
    fun c => (Cert.AdamIdeal.Gen.dats m 0 c).arrAt 6 Cert.AdamIdeal.cfg0.N, fun c => (Cert.AdamIdeal.Gen.dats m 0 c).arrAt 7 Cert.AdamIdeal.cfg0.N,
    Cert.AdamIdeal.Value.run_blocks m g,
    (θ_run Cert.AdamRefIdeal.defs _ _).mono (fun r h c => ?_) (Cert.AdamRefIdeal.Value.run m' g')⟩
  obtain ⟨e0, e1, e2, e3⟩ := hagree c
  obtain ⟨h0, h1, h2, h3, h4⟩ := h c
  refine ⟨h0.trans ?_, h1.trans ?_, h2.trans ?_, h3.trans ?_, h4⟩
  · rw [e0, val_main_v1_eq]
    exact (final_g m c).symm
  · rw [e0, e1, e2, e3, val_main_v25_eq]
    exact (final_d m c).symm
  · rw [e0, e2, val_main_v6_eq]
    exact (final_m m c).symm
  · rw [e0, e3, val_main_v12_eq]
    exact (final_v m c).symm

/-- The reference ends, keeps its arguments, and leaves every counter at zero. -/
theorem frame_ref : Cert.quiescent_AdamRefIdeal (hAdamRefIdeal := Cert.AdamRefIdeal.Gen.facts) := fun m ρ _ =>
  (θ_run Cert.AdamRefIdeal.defs _ _).mono (fun r h => ⟨fun c => (h c).2.2.2.2, sem_eq_zero_of_no_sems (by decide) r.2⟩)
    (Cert.AdamRefIdeal.Value.run (F := Ideal) m ρ)

end Cert.AdamClaim

end
-- ==== Proof.Product.lean ====
/- A PLAIN PRODUCT, the gradient of the down product's weight: 4096 × 1024 sums over 8192 rows. The kernel walks 4 blocks of 1024
   result rows and, for each, 16 blocks of 512 summed rows, adding each block's part into a scratch block that the last one
   writes out; the reference is one product. Here: one block's part at an element, the scratch after a run of blocks as the sum
   of their parts, and that the kernel's result array is the reference's, whatever the arguments. -/
module

public import proofs.«01_k».proof.Proof.Reals
public import proofs.«01_k».proof.Proof.Gen.ProductIdeal.Value
public import proofs.«01_k».proof.Proof.Gen.ProductRefIdeal.Run
public import proofs.«01_k».proof.Proof.Gen.ProductRefIdeal.Read
public import Idealize.ShloMosaic.Lib.Pipeline.ValueKit
public import Idealize.ShloMosaic.Lib.Pipeline.ReadBack

@[expose] public section

set_option maxRecDepth 16384

noncomputable section

namespace Cert.ProductIdeal.Value

open Cert.ProductRefIdeal.Read Cert.ProductIdeal Cert.ProductIdeal.Gen Idealize.ShloMosaic Idealize.ShloMosaic.TcCoe Idealize.SL.Sem
open Idealize.ShloMosaic.Pipeline (Dat)

/-- The scratch block after a block of summed rows: what it held and the block's part. -/
theorem pay2_apply (A : FVec Ideal S512x1024 .bf16) (B : FVec Ideal S512x1024 .f32) (acc : FVec Ideal S1024x1024 .f32) (r s : Fin 1024) :
    k0_pay2 (F := Ideal) acc A B (ix2 r s) = acc (ix2 r s) + ∑ k : Fin 512, (A (ix2 k r) : EReal) * B (ix2 k s) := by
  pointwise [k0_pay2]

/-- The scratch block starts at zero. -/
theorem pay1_apply (j : S1024x1024.Idx) : k0_pay1 (F := Ideal) j = 0 := by pointwise [k0_pay1]

/-- The reference at an element. -/
theorem ref_apply (A : FVec Ideal S8192x4096 .f32) (B : FVec Ideal S8192x1024 .f32) (r : Fin 4096) (s : Fin 1024) :
    val_main_v1 (F := Ideal) A B (ix2 r s) = ∑ k : Fin 8192, (A (ix2 k r) : EReal) * B (ix2 k s) := by
  pointwise [val_main_v1, val_main_v0]

/-- Which block each window stages at a point. -/
theorem idx : ∀ t : Fin cfg0.N, win0_0.index t = ![t.val % 16, t.val / 16] ∧ win0_1.index t = ![t.val % 16, 0]
    ∧ win0_2.index t = ![t.val / 16, 0] :=
  (by decide +kernel : ∀ t : Fin grid0.N, _)

/-- The call has 64 points. -/
theorem lt64 (t : Fin cfg0.N) : t.val < 64 := lt_of_lt_of_eq t.isLt N_0

/-- The summed row that row `k` of point `t`'s blocks is. -/
def red (t : Fin cfg0.N) (k : Fin 512) : Fin 8192 := ⟨t.val % 16 * 512 + k.val, by omega⟩

/-- The result row that row `r` of point `t`'s block is. -/
def row (t : Fin cfg0.N) (r : Fin 1024) : Fin 4096 := ⟨t.val / 16 * 1024 + r.val, by have := lt64 t; omega⟩

variable (m : (ℓ : Loc nD τ sig) → Buf (Elt Ideal) ℓ) (c : Dev nD)

/-- The first factor as launched. -/
def A0 : FVec Ideal S8192x4096 .f32 := m ((c : Thread nD τ).loc main_arg0)

/-- The second factor as launched. -/
def B0 : FVec Ideal S8192x1024 .f32 := m ((c : Thread nD τ).loc main_arg1)

/-- The first factor's block at a point. -/
theorem blk_a (t : Fin cfg0.N) (k : Fin 512) (r : Fin 1024) :
    (iblk m c 0 t : FVec Ideal S512x1024 .bf16) (ix2 k r) = A0 m c (ix2 (red t k) (row t r)) := by
  unfold A0
  blk_simp [iblk]
  entry_read
  pointwise
  blk_ext [idx t, red, row]

/-- The second factor's block at a point. -/
theorem blk_b (t : Fin cfg0.N) (k : Fin 512) (s : Fin 1024) :
    (iblk m c 1 t : FVec Ideal S512x1024 .f32) (ix2 k s) = B0 m c (ix2 (red t k) s) := by
  unfold B0
  blk_simp [iblk]
  entry_read
  blk_ext [idx t, red]

/-- A point's part of an element of its result block. -/
def part (t : Fin cfg0.N) (r s : Fin 1024) : EReal := ∑ k : Fin 512, A0 m c (ix2 (red t k) (row t r)) * B0 m c (ix2 (red t k) s)

/-- The scratch block after a point: what it held and the point's part. -/
theorem step (t : Fin cfg0.N) (acc : FVec Ideal S1024x1024 .f32) (r s : Fin 1024) :
    k0_pay2 (F := Ideal) acc (iblk m c 0 t) (iblk m c 1 t) (ix2 r s) = acc (ix2 r s) + part m c t r s :=
  (pay2_apply _ _ acc r s).trans (congrArg (acc (ix2 r s) + ·)
    (Finset.sum_congr rfl fun k _ => congrArg₂ (· * ·) (blk_a m c t k r) (blk_b m c t k s)))

/-- The last point of a run writes its scratch block out. -/
theorem out_eq (t : Fin cfg0.N) (h : t.val % 16 = 15) : (outsAt0 m c t.val t.isLt).1 = (outsAt0 m c t.val t.isLt).2 := by
  rw [outsAt0_C m c t (by omega) h]
  frame_out

/-- The scratch block at the end of a run is the sum of the run's parts. -/
theorem acc_eq (t : Fin cfg0.N) (h : t.val % 16 = 15) (r s : Fin 1024) :
    ((outsAt0 m c t.val t.isLt).2 : FVec Ideal S1024x1024 .f32) (ix2 r s)
      = ∑ q : Fin 16, part m c ⟨16 * (t.val / 16) + q.val, Pipeline.run_point_lt_of_flush t h q⟩ r s := by
  rw [Pipeline.eq_sum_fin_of_reset_step_apply_of_flush
    (fun n h (j : Fin 1024 × Fin 1024) => ((outsAt0 m c n h).2 : FVec Ideal S1024x1024 .f32) (ix2 j.1 j.2)) 16 (fun _ => (0 : EReal))
    (fun t j => part m c t j.1 j.2)
    (fun t h j => by
      rw [outsAt0_A m c t h (by omega)]; frame_out
      exact (step m c t _ j.1 j.2).trans (by rw [pay1_apply]))
    (fun t h j => by
      by_cases h1 : t.val % 16 = 15
      · rw [outsAt0_C m c t h h1]; frame_out
        rw [read_unread_whole]
        exact step m c t _ j.1 j.2
      · rw [outsAt0_B m c t h h1]; frame_out
        rw [read_unread_whole]
        exact step m c t _ j.1 j.2)
    t h (r, s), zero_add]

/-- The runs' parts of an element are the whole sum. -/
theorem sum_parts (A : Fin 8192 → EReal) (B : Fin 8192 → EReal) :
    ∑ k, A k * B k = ∑ q : Fin 16, ∑ k : Fin 512, A ⟨q.val * 512 + k.val, by omega⟩ * B ⟨q.val * 512 + k.val, by omega⟩ :=
  Fin.sum_univ_tiles 16 512 rfl fun a : Fin 8192 => A a * B a

/-- An element of the block a run writes out is the reference's. -/
theorem blk_out (t : Fin cfg0.N) (h : t.val % 16 = 15) (r s : Fin 1024) :
    ((outsAt0 m c t.val t.isLt).1 : FVec Ideal S1024x1024 .f32) (ix2 r s)
      = val_main_v1 (F := Ideal) (A0 m c) (B0 m c) (ix2 (row t r) s) := by
  rw [out_eq m c t h, acc_eq m c t h, ref_apply, sum_parts]
  refine Finset.sum_congr rfl fun q _ => Finset.sum_congr rfl fun k _ => ?_
  have hr : red ⟨16 * (t.val / 16) + q.val, Pipeline.run_point_lt_of_flush t h q⟩ k = ⟨q.val * 512 + k.val, by omega⟩ :=
    Fin.ext (show (16 * (t.val / 16) + q.val) % 16 * 512 + k.val = q.val * 512 + k.val by omega)
  have hw : row ⟨16 * (t.val / 16) + q.val, Pipeline.run_point_lt_of_flush t h q⟩ r = row t r :=
    Fin.ext (show (16 * (t.val / 16) + q.val) / 16 * 1024 + r.val = t.val / 16 * 1024 + r.val by omega)
  rw [hr, hw]

/-- The kernel's result array is the reference's. -/
theorem final : (dats m 0 c).arrAt 2 (cfgs 0).N = val_main_v1 (F := Ideal) (A0 m c) (B0 m c) := by
  refine (dats m 0 c).arrAt_eq_of_covers 2 _ (by decide +kernel) fun t hf j => ?_
  blk_simp
  rw [after0_2]
  have hj : j = ix2 (j 0) (j 1) := eq_ix2 j
  rw [hj]
  refine (blk_out m c t ((flush0_2 t).mp hf) (j 0) (j 1)).trans (congrArg (val_main_v1 (F := Ideal) (A0 m c) (B0 m c)) ?_)
  blk_ext [idx t, row]

end Cert.ProductIdeal.Value

end
-- ==== Proof.ProductClaim.lean ====
/- The product's value claim: the kernel's product and the reference's are equal, whatever the arguments. -/
module

public import proofs.«01_k».proof.Defs
public import proofs.«01_k».proof.Proof.Product
public import Idealize.ShloMosaic.Lib.Claim

@[expose] public section

set_option maxRecDepth 16384

noncomputable section

namespace Cert.ProductClaim

open Idealize.ShloMosaic Idealize.SL.Sem
open Cert.ProductIdeal.Value Cert.ProductRefIdeal.Read

/-- The blocked product and the product written plainly end with equal results. -/
theorem algebraic : Cert.algebraic_ProductIdeal_ProductRefIdeal (hProductIdeal := Cert.ProductIdeal.Gen.facts)
    (hProductRefIdeal := Cert.ProductRefIdeal.Gen.facts) := by
  intro m g m' g' _ hagree
  refine ⟨fun c => (Cert.ProductIdeal.Gen.dats m 0 c).arrAt 2 Cert.ProductIdeal.cfg0.N, Cert.ProductIdeal.Value.run_blocks m g,
    (θ_run Cert.ProductRefIdeal.defs _ _).mono (fun r h c => ?_) (Cert.ProductRefIdeal.Value.run m' g')⟩
  obtain ⟨e0, e1⟩ := hagree c
  obtain ⟨h0, h1⟩ := h c
  refine ⟨h0.trans ?_, h1⟩
  rw [e0, e1, val_main_v1_eq]
  exact (final m c).symm

/-- The reference ends, keeps its arguments, and leaves every counter at zero. -/
theorem frame_ref : Cert.quiescent_ProductRefIdeal (hProductRefIdeal := Cert.ProductRefIdeal.Gen.facts) := fun m ρ _ =>
  (θ_run Cert.ProductRefIdeal.defs _ _).mono (fun r h => ⟨fun c => (h c).2, sem_eq_zero_of_no_sems (by decide) r.2⟩)
    (Cert.ProductRefIdeal.Value.run (F := Ideal) m ρ)

end Cert.ProductClaim

end
-- ==== Proof.Band4fMath.lean ====
/- THE BANDED ATTENTION OF DILATION 4, FORWARD, AT THE EXTENDED REALS: a query looks at the keys at most 64 places away. The keys and
   values have 64 rows of zeros before and after; a row's maximum and its sums are taken over all padded rows, those out of the
   band being minus infinity or 0; and how a maximum or a sum over a window of rows is one over all of them. -/
module

public import proofs.«01_k».proof.Proof.BandMask

@[expose] public section

noncomputable section

namespace Cert.Band4f

open Idealize.ShloMosaic Cert.BandMask

/-- Query `n` looks at the key in row `r` of the padded keys. -/
abbrev inb (n r : ℕ) : Prop := n ≤ r ∧ r ≤ n + 128 ∧ 64 ≤ r ∧ r < 2112

/-- Row `r` of a padded array. -/
def pq (f : Fin 2048 → EReal) (r : ℕ) : EReal := if h : 64 ≤ r ∧ r < 2112 then f ⟨r - 64, by omega⟩ else 0

variable (q : Fin 64 → EReal) (k v : Fin 2048 → Fin 64 → EReal) (n : ℕ)

/-- The masked score of the query with entries `q` and number `n` at row `r`. -/
def T (r : ℕ) : EReal := if inb n r then (∑ d, q d * pq (fun m => k m d) r) * Ideal.ofBits .f32 0x3E000000#32 else ⊥

/-- The largest score of the query. -/
def M : EReal := (Finset.range 2176).sup (T q k n)

/-- The weight of row `r`, not yet divided by the sum of the weights. -/
def E (r : ℕ) : EReal := Ideal.exp (T q k n r - M q k n)

/-- The sum of the weights. -/
def D : EReal := ∑ r ∈ Finset.range 2176, E q k n r

/-- An entry of the output. -/
def O (e : Fin 64) : EReal := Ideal.div (∑ r ∈ Finset.range 2176, E q k n r * pq (fun m => v m e) r) (D q k n)

/-- The row's log-sum. -/
def L : EReal := M q k n + Ideal.log (D q k n)

theorem T_far (r : ℕ) (h : r < n ∨ n + 128 < r) : T q k n r = ⊥ := if_neg (by omega)
theorem E_far (r : ℕ) (h : r < n ∨ n + 128 < r) : E q k n r = 0 := by
  unfold E
  rw [T_far q k n r h, EReal.bot_sub, Ideal.exp_bot]

/-- A sum over a window that holds the band is the sum over all rows. -/
theorem win_sum {S a : ℕ} (h1 : a ≤ n) (h2 : n + 128 < a + S) (h3 : a + S ≤ 2176) (g : ℕ → EReal) (hg : ∀ r, r < n ∨ n + 128 < r → g r = 0) :
    ∑ j : Fin S, g (a + j.val) = ∑ r ∈ Finset.range 2176, g r := by
  rw [Fin.sum_univ_eq_sum_range (fun j => g (a + j)) S]
  refine (Finset.sum_subset_zero_on_sdiff (s₁ := (Finset.range S).map (addLeftEmbedding a)) ?_ ?_ fun _ _ => rfl).symm.trans ?_ |>.symm
  · intro x hx
    simp only [Finset.mem_map, Finset.mem_range, addLeftEmbedding_apply] at hx ⊢
    omega
  · intro x hx
    simp only [Finset.mem_sdiff, Finset.mem_map, Finset.mem_range, addLeftEmbedding_apply, not_exists, not_and] at hx
    refine hg x ?_
    have := hx.2 (x - a)
    omega
  · rw [Finset.sum_map]; rfl

/-- The same of the maximum. -/
theorem win_sup {S a : ℕ} (h1 : a ≤ n) (h2 : n + 128 < a + S) (h3 : a + S ≤ 2176) (g : ℕ → EReal) (hg : ∀ r, r < n ∨ n + 128 < r → g r = ⊥) :
    Finset.univ.sup (fun j : Fin S => g (a + j.val)) = (Finset.range 2176).sup g := by
  refine le_antisymm (Finset.sup_le fun j _ => Finset.le_sup (f := g) (Finset.mem_range.2 (by have := j.isLt; omega))) (Finset.sup_le fun r _ => ?_)
  by_cases h : r < n ∨ n + 128 < r
  · rw [hg r h]; exact bot_le
  · have := Finset.le_sup (f := fun j : Fin S => g (a + j.val)) (Finset.mem_univ (⟨r - a, by omega⟩ : Fin S))
    dsimp only at this
    rwa [show a + (r - a) = r by omega] at this

/-- The kernel's mask at key position `z` and query position `x`. -/
theorem kernel_mask {z x : ℤ} (n r : ℕ) (hn : n < 2048) (hr : r < 2176) (hx : x = n) (hz : z = (r : ℤ) - 64) :
    IntOp.andi (IntOp.andi (IntOp.andi (IntOp.cmpi .sle (BitVec.ofInt 32 (z - x)) 64#32) (IntOp.cmpi .sge (BitVec.ofInt 32 (z - x)) 4294967232#32))
      (IntOp.cmpi .sge (BitVec.ofInt 32 z) 0#32)) (IntOp.cmpi .slt (BitVec.ofInt 32 z) 2048#32) = BitVec.ofBool (decide (inb n r)) := by
  subst hx hz
  rw [WordCmp.cmpi_sle_eq, WordCmp.cmpi_sge_eq, WordCmp.cmpi_sge_eq, WordCmp.cmpi_slt_eq, toInt_word (by omega) (by omega), toInt_word (by omega) (by omega),
    neg_word, toInt_word (by omega) (by omega), WordCmp.andi_ofBool, WordCmp.andi_ofBool, WordCmp.andi_ofBool]
  refine congrArg BitVec.ofBool ?_
  rw [← Bool.decide_and, ← Bool.decide_and, ← Bool.decide_and]
  refine decide_eq_decide.2 ?_
  rw [show (64#32 : BitVec 32).toInt = 64 from rfl, show (0#32 : BitVec 32).toInt = 0 from rfl, show (2048#32 : BitVec 32).toInt = 2048 from rfl]
  unfold inb
  omega

/-- The reference's mask at the same two positions. -/
theorem ref_mask {z x : ℤ} (n r : ℕ) (hn : n < 2048) (hr : r < 2176) (hx : x = n) (hz : z = (r : ℤ) - 64) :
    IntOp.andi (IntOp.andi (IntOp.cmpi .sle (IntOp.absi (BitVec.ofInt 32 (x - z))) 64#32)
      (IntOp.cmpi .sge (BitVec.ofInt 32 z) 0#32)) (IntOp.cmpi .slt (BitVec.ofInt 32 z) 2048#32) = BitVec.ofBool (decide (inb n r)) := by
  subst hx hz
  rw [WordCmp.cmpi_sle_eq, WordCmp.cmpi_sge_eq, WordCmp.cmpi_slt_eq, abs_word (by omega) (by omega), toInt_word (by omega) (by omega),
    WordCmp.andi_ofBool, WordCmp.andi_ofBool]
  refine congrArg BitVec.ofBool ?_
  rw [← Bool.decide_and, ← Bool.decide_and]
  refine decide_eq_decide.2 ?_
  rw [show (64#32 : BitVec 32).toInt = 64 from rfl, show (0#32 : BitVec 32).toInt = 0 from rfl, show (2048#32 : BitVec 32).toInt = 2048 from rfl, abs_le]
  unfold inb
  omega

end Cert.Band4f

end
-- ==== Proof.Band4fTile.lean ====
/- ONE TILE OF THE BANDED ATTENTION OF DILATION 4, FORWARD: 256 queries against a span of 384 padded keys. -/
module

public import proofs.«01_k».proof.Proof.Gen.BandFwd4Ideal.Frame
public import proofs.«01_k».proof.Proof.Band4fMath
public import proofs.«01_k».proof.Proof.Reals
public import Idealize.ShloMosaic.Lib.Pointwise

@[expose] public section

set_option maxRecDepth 16384
set_option backward.proofsInPublic true

noncomputable section

namespace Cert.BandFwd4Ideal.Tile

open Cert.BandFwd4Ideal Cert.BandFwd4Ideal.Gen Cert.Band4f Cert.BandMask Cert.Reals
open Idealize.ShloMosaic Idealize.ShloMosaic.TcCoe Idealize.ShloMosaic.Tactic

/-- Query `r` of the tile that begins with query `a`. -/
abbrev at' (a : ℕ) (ha : a + 256 ≤ 2048) (r : Fin 256) : Fin 2048 := ⟨a + r.val, by omega⟩

/-- The numbers of the tile's queries and of its keys, as the kernel computes them. -/
def rows (b : BitVec 32) : IVec S256x1 32 := addi (broadcast S256x1 b) (iota .tc S256x1 32 [0] iota_S256x1_d0_w32)
def cols : IVec S1x384 32 := iota .tc S1x384 32 [1] iota_S1x384_d1_w32
def first (b : BitVec 32) : IVec S1x384 32 := broadcast S1x384 (Scalar.subi b 64#32)

/-- Where a query may look, the score stays; elsewhere it is minus infinity. -/
theorem masked (a : ℕ) (ha : a + 256 ≤ 2048) (x : FVec Ideal S256x384 .f32) (r : Fin 256) (j : Fin 384) :
    k0_pay19 (F := Ideal) x (rows (BitVec.ofInt 32 a)) cols (first (BitVec.ofInt 32 a)) (ix2 r j)
      = if inb (at' a ha r).val (a + j.val) then x (ix2 r j) else ⊥ := by
  pointwise [k0_pay19, rows, cols, first]
  rw [nat_word r.val, nat_word j.val, show Scalar.subi (BitVec.ofInt 32 (a : ℤ)) 64#32 = _ from sub64 _, add_word, add_word, sub_word,
    kernel_mask (at' a ha r).val (a + j.val) (by omega) (by omega) (by push_cast; ring) (by push_cast; ring),
    IdealRules.named_const.ideal_named_scalar κ "mask" (φ := .f32) 0xF149F2CA#32 _ rfl]
  by_cases hi : inb (at' a ha r).val (a + j.val)
  · rw [if_pos hi, decide_eq_true hi]; rfl
  · rw [if_neg hi, decide_eq_false hi]; rfl

/-- The largest score of each query. -/
def most (x : FVec Ideal S256x384 .f32) : FVec Ideal S256 .f32 :=
  multiReduction .maximumf [1] S256 x 0xFF800000#32 reduces_S256x384_S256 (.inl rfl) rfl

section
variable (a : ℕ) (ha : a + 256 ≤ 2048) (q : Fin 64 → EReal) (k v : Fin 2048 → Fin 64 → EReal) (r : Fin 256) (x : FVec Ideal S256x384 .f32)
  (hx : ∀ j : Fin 384, x (ix2 r j) = Band4f.T q k (at' a ha r).val (a + j.val))

include hx in
/-- The largest score of a query. -/
theorem most_eq : most x (ix1 r) = M q k (at' a ha r).val := by
  have e : most x (ix1 r) = Finset.univ.sup fun j : Fin 384 => x (ix2 r j) := by
    pointwise [most]
    rw [cNegInf]
    rfl
  rw [e]
  simp only [hx]
  exact win_sup (at' a ha r).val (a := a) (Nat.le_add_right _ _) (by show a + r.val + 128 < a + 384; omega) (by omega) _ (T_far q k _)

include hx in
/-- The weights of a tile before they are divided by their sum. -/
theorem weight (j : Fin 384) : k0_pay11 (F := Ideal) x (most x) (ix2 r j) = E q k (at' a ha r).val (a + j.val) := by
  pointwise [k0_pay11, k0_pay10]
  rw [most_eq a ha q k r x hx, hx]
  rfl

include hx in
/-- Their sum. -/
theorem total (z : Fin 1) : k0_pay12 (F := Ideal) x (most x) (ix2 r z) = D q k (at' a ha r).val := by
  pointwise [k0_pay12]
  simp only [weight a ha q k r x hx]
  exact win_sum (at' a ha r).val (a := a) (Nat.le_add_right _ _) (by show a + r.val + 128 < a + 384; omega) (by omega) _ (E_far q k _)

include hx in
/-- What the tile stores of the output. -/
theorem tile_o (x2 : FVec Ideal S384x64 .bf16) (h2 : ∀ j e, x2 (ix2 j e) = pq (fun m => v m e) (a + j.val)) (e : Fin 64) :
    k0_pay13 (F := Ideal) x2 x (most x) (ix3 0 r e) = O q k v (at' a ha r).val e := by
  pointwise [k0_pay13]
  simp only [weight a ha q k r x hx, total a ha q k r x hx, h2]
  unfold O
  refine congrArg (fun s => Ideal.div s (D q k (at' a ha r).val)) ?_
  exact win_sum (at' a ha r).val (a := a) (Nat.le_add_right _ _) (by show a + r.val + 128 < a + 384; omega) (by omega)
    (fun t => E q k (at' a ha r).val t * pq (fun m => v m e) t) (fun t ht => by rw [E_far q k _ t ht, zero_mul])

include hx in
/-- What the tile stores of the row log-sums. -/
theorem tile_l (z : Fin 1) : k0_pay14 (F := Ideal) x (most x) (ix3 0 r z) = L q k (at' a ha r).val := by
  pointwise [k0_pay14, k0_pay10]
  rw [total a ha q k r x hx, most_eq a ha q k r x hx]
  rfl
end

/-- The masked scores of a tile whose first query has the number `b`. -/
abbrev msk (b : BitVec 32) (k : Vec Ideal S1x384x64 .bf16) (q : Vec Ideal S1x256x64 .bf16) : FVec Ideal S256x384 .f32 :=
  k0_pay19 (F := Ideal) (k0_pay16 k q) (rows b) cols (first b)

/-- The masked scores. -/
theorem msk_eq (a : ℕ) (ha : a + 256 ≤ 2048) (q k : Fin 2048 → Fin 64 → EReal) (x1 : FVec Ideal S1x384x64 .bf16) (x0 : FVec Ideal S1x256x64 .bf16)
    (h0 : ∀ r d, x0 (ix3 0 r d) = q (at' a ha r) d) (h1 : ∀ j d, x1 (ix3 0 j d) = pq (fun m => k m d) (a + j.val)) (r : Fin 256) (j : Fin 384) :
    msk (BitVec.ofInt 32 a) x1 x0 (ix2 r j) = Band4f.T (q (at' a ha r)) k (at' a ha r).val (a + j.val) := by
  unfold msk
  rw [masked a ha]
  pointwise [k0_pay16]
  simp only [h0, h1]
  rfl

section
variable (i : grid0.Coords) (v k : Vec Ideal S1x384x64 .bf16) (q : Vec Ideal S1x256x64 .bf16)

/-- The first query's number in each of the four tiles. -/
abbrev base (t : BitVec 32) : BitVec 32 := Scalar.addi (Scalar.muli (BitVec.ofNat 32 (i 1).val) 1024#32) t

/-- The four tiles are one program at four places. -/
theorem o0 : k0_pay13 (F := Ideal) (k0_pay7 v) (k0_pay8 i k q) (k0_pay9 i k q)
    = k0_pay13 (k0_pay7 v) (msk (base i 0#32) k q) (most (msk (base i 0#32) k q)) := rfl
theorem l0 : k0_pay14 (F := Ideal) (k0_pay8 i k q) (k0_pay9 i k q) = k0_pay14 (msk (base i 0#32) k q) (most (msk (base i 0#32) k q)) := rfl
theorem o1 : k0_pay23 (F := Ideal) (k0_pay15 v) (k0_pay16 k q) (k0_pay17 (BitVec.ofNat 32 (i 1).val)) (iota .tc S1x384 32 [1] iota_S1x384_d1_w32) (k0_pay18 (BitVec.ofNat 32 (i 1).val))
    = k0_pay13 (k0_pay7 v) (msk (base i 256#32) k q) (most (msk (base i 256#32) k q)) := rfl
theorem l1 : k0_pay24 (F := Ideal) (k0_pay16 k q) (k0_pay17 (BitVec.ofNat 32 (i 1).val)) (iota .tc S1x384 32 [1] iota_S1x384_d1_w32) (k0_pay18 (BitVec.ofNat 32 (i 1).val))
    = k0_pay14 (msk (base i 256#32) k q) (most (msk (base i 256#32) k q)) := rfl
theorem o2 : k0_pay31 (F := Ideal) (k0_pay25 v) (k0_pay29 (base i 512#32) 64#32 k q) (k0_pay30 (base i 512#32) 64#32 k q)
    = k0_pay13 (k0_pay7 v) (msk (base i 512#32) k q) (most (msk (base i 512#32) k q)) := rfl
theorem l2 : k0_pay32 (F := Ideal) (k0_pay27 (base i 512#32) 64#32 k q) (k0_pay29 (base i 512#32) 64#32 k q)
    = k0_pay14 (msk (base i 512#32) k q) (most (msk (base i 512#32) k q)) := rfl
theorem o3 : k0_pay5 (F := Ideal) (k0_pay33 v) (k0_pay34 k q) (k0_pay35 (BitVec.ofNat 32 (i 1).val)) (k0_pay36 (BitVec.ofNat 32 (i 1).val)) (k0_pay37 (BitVec.ofNat 32 (i 1).val)) 4294967232#32
    = k0_pay13 (k0_pay7 v) (msk (base i 768#32) k q) (most (msk (base i 768#32) k q)) := rfl
theorem l3 : k0_pay6 (F := Ideal) (k0_pay34 k q) (k0_pay35 (BitVec.ofNat 32 (i 1).val)) (k0_pay36 (BitVec.ofNat 32 (i 1).val)) (k0_pay37 (BitVec.ofNat 32 (i 1).val)) 4294967232#32
    = k0_pay14 (msk (base i 768#32) k q) (most (msk (base i 768#32) k q)) := rfl
end

section
variable (a : ℕ) (ha : a + 256 ≤ 2048) (q k v : Fin 2048 → Fin 64 → EReal) (x0 : FVec Ideal S1x256x64 .bf16) (x1 x2 : FVec Ideal S1x384x64 .bf16)
    (h0 : ∀ r d, x0 (ix3 0 r d) = q (at' a ha r) d) (h1 : ∀ j d, x1 (ix3 0 j d) = pq (fun m => k m d) (a + j.val))
    (h2 : ∀ j d, x2 (ix3 0 j d) = pq (fun m => v m d) (a + j.val))

include h0 h1 h2 in
/-- One tile's output, from the queries, keys and values it reads. -/
theorem tile_out (b : BitVec 32) (hb : b = BitVec.ofInt 32 a) (r : Fin 256) (e : Fin 64) :
    k0_pay13 (F := Ideal) (k0_pay7 x2) (msk b x1 x0) (most (msk b x1 x0)) (ix3 0 r e) = O (q (at' a ha r)) k v (at' a ha r).val e := by
  subst hb
  refine tile_o a ha (q (at' a ha r)) k v r _ (fun j => msk_eq a ha q k x1 x0 h0 h1 r j) _ (fun j e => ?_) e
  pointwise [k0_pay7]
  exact h2 j e

include h0 h1 in
/-- Its row log-sums. -/
theorem tile_lse (b : BitVec 32) (hb : b = BitVec.ofInt 32 a) (r : Fin 256) (z : Fin 1) :
    k0_pay14 (F := Ideal) (msk b x1 x0) (most (msk b x1 x0)) (ix3 0 r z) = L (q (at' a ha r)) k (at' a ha r).val := by
  subst hb
  exact tile_l a ha (q (at' a ha r)) k r _ (fun j => msk_eq a ha q k x1 x0 h0 h1 r j) z
end

end Cert.BandFwd4Ideal.Tile

end
-- ==== Proof.Band4fBlock.lean ====
/- ONE GRID POINT OF THE BANDED ATTENTION OF DILATION 4, FORWARD: what the kernel leaves of half a class, four tiles of 256 queries. -/
module

public import proofs.«01_k».proof.Proof.Band4fTile
public import proofs.«01_k».proof.Proof.BandRect

@[expose] public section

set_option maxRecDepth 16384
set_option backward.proofsInPublic true

noncomputable section

namespace Cert.BandFwd4Ideal.Block

open Cert.BandFwd4Ideal Cert.BandFwd4Ideal.Gen Cert.BandFwd4Ideal.Tile Cert.Band4f Cert.BandRect
open Idealize.ShloMosaic Idealize.ShloMosaic.TcCoe Idealize.ShloMosaic.Tactic

/-- Tile `t` of a point begins with query `1024·i₁ + 256·t`, and so does its span of keys. -/
theorem base_eq : ∀ (i : grid0.Coords) (t : Fin 4), base i (BitVec.ofNat 32 (256 * t.val)) = BitVec.ofInt 32 ((1024 * (i 1).val + 256 * t.val : ℕ) : ℤ) := by
  decide +kernel
theorem off_eq : ∀ (i : grid0.Coords) (t : Fin 4), k0_off1 i (BitVec.ofNat 32 (256 * t.val)) = ![0, 1024 * (i 1).val + 256 * t.val, 0] := by
  decide +kernel

section
variable (c : Dev nD) (i : grid0.Coords)
  (a2 : Memref sig .tc .vmem S1x1024x64 .bf16) (g2 : a2.IsWhole) (a3 : Memref sig .tc .vmem S1x2176x64 .bf16) (g3 : a3.IsWhole)
  (a4 : Memref sig .tc .vmem S1x2176x64 .bf16) (g4 : a4.IsWhole) (a5 : Memref sig .tc .vmem S1x1024x64 .f32) (g5 : a5.IsWhole)
  (a6 : Memref sig .tc .vmem S1x1024x1 .f32) (g6 : a6.IsWhole)
  (x0 : Vec Ideal S1x1024x64 .bf16) (x1 x2 : Vec Ideal S1x2176x64 .bf16)

/-- A tile's queries, the rows it stores, and its span of keys. -/
abbrev qr (o : ℕ) (h : ∀ a, (![0, o, 0] : Fin 3 → ℕ) a + S1x256x64.size a ≤ S1x1024x64.size a) : Rect S1x1024x64 := Rect.unit ![0, o, 0] S1x256x64.size h
abbrev lr (o : ℕ) (h : ∀ a, (![0, o, 0] : Fin 3 → ℕ) a + S1x256x1.size a ≤ S1x1024x1.size a) : Rect S1x1024x1 := Rect.unit ![0, o, 0] S1x256x1.size h
abbrev kr (b : BitVec 32) (h : ∀ a, k0_off1 i b a + S1x384x64.size a ≤ S1x2176x64.size a) : Rect S1x2176x64 := Rect.unit (k0_off1 i b) S1x384x64.size h

/-- What a tile stores of the output and of the log-sums. -/
abbrev so (b : BitVec 32) (h : ∀ a, k0_off1 i b a + S1x384x64.size a ≤ S1x2176x64.size a) (o : ℕ)
    (h' : ∀ a, (![0, o, 0] : Fin 3 → ℕ) a + S1x256x64.size a ≤ S1x1024x64.size a) : FVec Ideal S1x256x64 .f32 :=
  k0_pay13 (F := Ideal) (k0_pay7 (View.ld x2 (kr i b h))) (msk (base i b) (View.ld x1 (kr i b h)) (View.ld x0 (qr o h'))) (most (msk (base i b) (View.ld x1 (kr i b h)) (View.ld x0 (qr o h'))))
abbrev sl (b : BitVec 32) (h : ∀ a, k0_off1 i b a + S1x384x64.size a ≤ S1x2176x64.size a) (o : ℕ)
    (h' : ∀ a, (![0, o, 0] : Fin 3 → ℕ) a + S1x256x64.size a ≤ S1x1024x64.size a) : FVec Ideal S1x256x1 .f32 :=
  k0_pay14 (F := Ideal) (msk (base i b) (View.ld x1 (kr i b h)) (View.ld x0 (qr o h'))) (most (msk (base i b) (View.ld x1 (kr i b h)) (View.ld x0 (qr o h'))))

/-- The pieces of the output: the four tiles. -/
theorem pieces_o : (kernelRun0_A (F := Ideal) c i a2 g2 a3 g3 a4 g4 a5 g5 a6 g6 x0 x1 x2).1
    = [⟨qr 768 inb_S1x1024x64_S1x256x64_0_768_0, so i x0 x1 x2 768#32 (k0_off1_inb i 3) 768 inb_S1x1024x64_S1x256x64_0_768_0⟩,
       ⟨qr 512 inb_S1x1024x64_S1x256x64_0_512_0, so i x0 x1 x2 512#32 (k0_off1_inb i 2) 512 inb_S1x1024x64_S1x256x64_0_512_0⟩,
       ⟨qr 256 inb_S1x1024x64_S1x256x64_0_256_0, so i x0 x1 x2 256#32 (k0_off1_inb i 1) 256 inb_S1x1024x64_S1x256x64_0_256_0⟩,
       ⟨qr 0 inb_S1x1024x64_S1x256x64_0_0_0, so i x0 x1 x2 0#32 (k0_off1_inb i 0) 0 inb_S1x1024x64_S1x256x64_0_0_0⟩] := by
  delta kernelRun0_A
  dsimp only
  sl_unfold_run_names
  simp only [View.readAt_eq_ld, g2.read_unread, g3.read_unread, g4.read_unread]
  rfl

/-- The pieces of the row log-sums. -/
theorem pieces_l : (kernelRun0_A (F := Ideal) c i a2 g2 a3 g3 a4 g4 a5 g5 a6 g6 x0 x1 x2).2.1
    = [⟨lr 768 inb_S1x1024x1_S1x256x1_0_768_0, sl i x0 x1 768#32 (k0_off1_inb i 3) 768 inb_S1x1024x64_S1x256x64_0_768_0⟩,
       ⟨lr 512 inb_S1x1024x1_S1x256x1_0_512_0, sl i x0 x1 512#32 (k0_off1_inb i 2) 512 inb_S1x1024x64_S1x256x64_0_512_0⟩,
       ⟨lr 256 inb_S1x1024x1_S1x256x1_0_256_0, sl i x0 x1 256#32 (k0_off1_inb i 1) 256 inb_S1x1024x64_S1x256x64_0_256_0⟩,
       ⟨lr 0 inb_S1x1024x1_S1x256x1_0_0_0, sl i x0 x1 0#32 (k0_off1_inb i 0) 0 inb_S1x1024x64_S1x256x64_0_0_0⟩] := by
  delta kernelRun0_A
  dsimp only
  sl_unfold_run_names
  simp only [View.readAt_eq_ld, g2.read_unread, g3.read_unread, g4.read_unread]
  rfl

/-- The second coordinate of a point is 0 or 1. -/
theorem half (i : grid0.Coords) : (i 1).val < 2 := (i 1).isLt
theorem qn_lt (i : grid0.Coords) (n : Fin 1024) : 1024 * (i 1).val + n.val < 2048 := by have := half i; omega
/-- The number in its class of a query of a point. -/
abbrev qn (i : grid0.Coords) (n : Fin 1024) : Fin 2048 := ⟨1024 * (i 1).val + n.val, qn_lt i n⟩

variable (q k v : Fin 2048 → Fin 64 → EReal)
  (h0 : ∀ (n : Fin 1024) d, x0 (ix3 0 n d) = q (qn i n) d)
  (h1 : ∀ (j : Fin 2176) d, x1 (ix3 0 j d) = pq (fun m => k m d) j.val) (h2 : ∀ (j : Fin 2176) d, x2 (ix3 0 j d) = pq (fun m => v m d) j.val)

include h0 in
/-- The queries a tile reads, and the keys and values. -/
theorem part (t : Fin 4) (hi) (r : Fin 256) (d : Fin 64) : View.ld x0 (qr (256 * t.val) hi) (ix3 0 r d)
    = q (at' (1024 * (i 1).val + 256 * t.val) (by have := half i; omega) r) d :=
  (ld_row (N := 1024) (M := 256) (D := 64) _ rfl hi x0 (by omega) r d).trans
    ((h0 _ d).trans (congrArg (fun n => q n d) (Fin.ext (by show _ + (_ + _) = _ + _ + _; omega))))
theorem keys (t : Fin 4) (hi) (X : Vec Ideal S1x2176x64 .bf16) (f : Fin 2048 → Fin 64 → EReal)
    (h : ∀ (j : Fin 2176) d, X (ix3 0 j d) = pq (fun m => f m d) j.val) (j : Fin 384) (d : Fin 64) :
    View.ld X (kr i (BitVec.ofNat 32 (256 * t.val)) hi) (ix3 0 j d) = pq (fun m => f m d) (1024 * (i 1).val + 256 * t.val + j.val) :=
  (ld_row (N := 2176) (M := 384) (D := 64) _ (off_eq i t) hi X (by have := half i; omega) j d).trans (h _ d)

include h0 h1 h2 in
/-- A tile's output. -/
theorem so_eq (t : Fin 4) (h) (h') (r : Fin 256) (e : Fin 64) : so i x0 x1 x2 (BitVec.ofNat 32 (256 * t.val)) h (256 * t.val) h' (ix3 0 r e)
    = O (q (at' (1024 * (i 1).val + 256 * t.val) (by have := half i; omega) r)) k v (1024 * (i 1).val + 256 * t.val + r.val) e :=
  tile_out _ _ q k v _ _ _ (part i x0 q h0 t h') (keys i t h x1 k h1) (keys i t h x2 v h2) _ (base_eq i t) r e

include h0 h1 in
/-- A tile's log-sums. -/
theorem sl_eq (t : Fin 4) (h) (h') (r : Fin 256) (z : Fin 1) : sl i x0 x1 (BitVec.ofNat 32 (256 * t.val)) h (256 * t.val) h' (ix3 0 r z)
    = L (q (at' (1024 * (i 1).val + 256 * t.val) (by have := half i; omega) r)) k (1024 * (i 1).val + 256 * t.val + r.val) :=
  tile_lse _ _ q k _ _ (part i x0 q h0 t h') (keys i t h x1 k h1) _ (base_eq i t) r z

/-- A row of the quarter that begins with row `o`. -/
theorem row_of (n : Fin 1024) (o : ℕ) (h : o ≤ n.val) (h' : n.val < o + 256) : ∃ (r : Fin 256) (hr : o + r.val < 1024), n = ⟨o + r.val, hr⟩ :=
  ⟨⟨n.val - o, by omega⟩, by show o + (n.val - o) < 1024; omega, Fin.ext (by show n.val = o + (n.val - o); omega)⟩

/-- Where four quarters are stored one after the other, row `256 t + r` is row `r` of the quarter `t`. -/
theorem quarters {D : ℕ} (w0 w1 w2 w3 : (Sh 256 D).Idx → EReal) (o0 o1 o2 o3 : Fin 3 → ℕ) (e0 : o0 = ![0, 0, 0]) (e1 : o1 = ![0, 256, 0])
    (e2 : o2 = ![0, 512, 0]) (e3 : o3 = ![0, 768, 0]) (i0 i1 i2 i3) (n : Fin 1024) (d : Fin D) (P : Fin 1024 → EReal → Prop)
    (p0 : ∀ r : Fin 256, P ⟨0 + r.val, by omega⟩ (w0 (ix3 0 r d))) (p1 : ∀ r : Fin 256, P ⟨256 + r.val, by omega⟩ (w1 (ix3 0 r d)))
    (p2 : ∀ r : Fin 256, P ⟨512 + r.val, by omega⟩ (w2 (ix3 0 r d))) (p3 : ∀ r : Fin 256, P ⟨768 + r.val, by omega⟩ (w3 (ix3 0 r d))) :
    P n (View.canon (Val := Elt Ideal) (s := Sh 1024 D) (e := .f32)
      [⟨Rect.unit o3 (Sh 256 D).size i3, w3⟩, ⟨Rect.unit o2 (Sh 256 D).size i2, w2⟩, ⟨Rect.unit o1 (Sh 256 D).size i1, w1⟩, ⟨Rect.unit o0 (Sh 256 D).size i0, w0⟩] (ix3 0 n d)) := by
  by_cases h3 : 768 ≤ n.val
  · obtain ⟨r, hr, rfl⟩ := row_of n 768 (by omega) (by omega)
    rw [canon_in (N := 1024) (M := 256) (D := D) (o := 768) _ e3 _ _ _ (by omega) r d]
    exact p3 r
  rw [canon_out (N := 1024) (M := 256) (D := D) (o := 768) _ e3 _ _ _ _ _ (.inl (by omega))]
  by_cases h2 : 512 ≤ n.val
  · obtain ⟨r, hr, rfl⟩ := row_of n 512 (by omega) (by omega)
    rw [canon_in (N := 1024) (M := 256) (D := D) (o := 512) _ e2 _ _ _ (by omega) r d]
    exact p2 r
  rw [canon_out (N := 1024) (M := 256) (D := D) (o := 512) _ e2 _ _ _ _ _ (.inl (by omega))]
  by_cases h1 : 256 ≤ n.val
  · obtain ⟨r, hr, rfl⟩ := row_of n 256 (by omega) (by omega)
    rw [canon_in (N := 1024) (M := 256) (D := D) (o := 256) _ e1 _ _ _ (by omega) r d]
    exact p1 r
  rw [canon_out (N := 1024) (M := 256) (D := D) (o := 256) _ e1 _ _ _ _ _ (.inl (by omega))]
  obtain ⟨r, hr, rfl⟩ := row_of n 0 (by omega) (by omega)
  rw [canon_in (N := 1024) (M := 256) (D := D) (o := 0) _ e0 _ _ _ (by omega) r d]
  exact p0 r

/-- Entries of the output and of the log-sums depend on the query only by its number. -/
theorem O_at {a b : Fin 2048} (h : a = b) (e : Fin 64) : O (q a) k v a.val e = O (q b) k v b.val e := by rw [h]
theorem L_at {a b : Fin 2048} (h : a = b) : L (q a) k a.val = L (q b) k b.val := by rw [h]

include h0 h1 h2 in
/-- The output of half a class. -/
theorem block_o (n : Fin 1024) (e : Fin 64) :
    out0_A_3 (F := Ideal) c i a2 g2 a3 g3 a4 g4 a5 g5 a6 g6 x0 x1 x2 (ix3 0 n e)
      = O (q (qn i n)) k v (1024 * (i 1).val + n.val) e := by
  have hc : out0_A_3 (F := Ideal) c i a2 g2 a3 g3 a4 g4 a5 g5 a6 g6 x0 x1 x2 = View.canon (kernelRun0_A (F := Ideal) c i a2 g2 a3 g3 a4 g4 a5 g5 a6 g6 x0 x1 x2).1 :=
    View.read_writes_eq_canon _ _ _ (cover0_A_3 c i a2 g2 a3 g3 a4 g4 a5 g5 a6 g6 x0 x1 x2)
  rw [hc, pieces_o]
  refine quarters (D := 64) _ _ _ _ _ _ _ _ rfl rfl rfl rfl _ _ _ _ n e
    (fun n y => y = O (q (qn i n)) k v (1024 * (i 1).val + n.val) e) ?_ ?_ ?_ ?_ <;> intro r
  · exact (so_eq i x0 x1 x2 q k v h0 h1 h2 0 _ _ r e).trans (O_at q k v (Fin.ext (by show _ + 0 + _ = _ + (0 + _); omega)) e)
  · exact (so_eq i x0 x1 x2 q k v h0 h1 h2 1 _ _ r e).trans (O_at q k v (Fin.ext (by show _ + 256 + _ = _ + (256 + _); omega)) e)
  · exact (so_eq i x0 x1 x2 q k v h0 h1 h2 2 _ _ r e).trans (O_at q k v (Fin.ext (by show _ + 512 + _ = _ + (512 + _); omega)) e)
  · exact (so_eq i x0 x1 x2 q k v h0 h1 h2 3 _ _ r e).trans (O_at q k v (Fin.ext (by show _ + 768 + _ = _ + (768 + _); omega)) e)

include h0 h1 in
/-- Its row log-sums. -/
theorem block_l (n : Fin 1024) (z : Fin 1) :
    out0_A_4 (F := Ideal) c i a2 g2 a3 g3 a4 g4 a5 g5 a6 g6 x0 x1 x2 (ix3 0 n z)
      = L (q (qn i n)) k (1024 * (i 1).val + n.val) := by
  have hc : out0_A_4 (F := Ideal) c i a2 g2 a3 g3 a4 g4 a5 g5 a6 g6 x0 x1 x2 = View.canon (kernelRun0_A (F := Ideal) c i a2 g2 a3 g3 a4 g4 a5 g5 a6 g6 x0 x1 x2).2.1 :=
    View.read_writes_eq_canon _ _ _ (cover0_A_4 c i a2 g2 a3 g3 a4 g4 a5 g5 a6 g6 x0 x1 x2)
  rw [hc, pieces_l]
  refine quarters (D := 1) _ _ _ _ _ _ _ _ rfl rfl rfl rfl _ _ _ _ n z
    (fun n y => y = L (q (qn i n)) k (1024 * (i 1).val + n.val)) ?_ ?_ ?_ ?_ <;> intro r
  · exact (sl_eq i x0 x1 q k h0 h1 0 _ _ r z).trans (L_at q k (Fin.ext (by show _ + 0 + _ = _ + (0 + _); omega)))
  · exact (sl_eq i x0 x1 q k h0 h1 1 _ _ r z).trans (L_at q k (Fin.ext (by show _ + 256 + _ = _ + (256 + _); omega)))
  · exact (sl_eq i x0 x1 q k h0 h1 2 _ _ r z).trans (L_at q k (Fin.ext (by show _ + 512 + _ = _ + (512 + _); omega)))
  · exact (sl_eq i x0 x1 q k h0 h1 3 _ _ r z).trans (L_at q k (Fin.ext (by show _ + 768 + _ = _ + (768 + _); omega)))
end

end Cert.BandFwd4Ideal.Block

end
-- ==== Proof.Band4fArr.lean ====
/- THE ARRAYS OF THE BANDED ATTENTION OF DILATION 4, FORWARD: the blocks of its inputs, and its outputs block by block. -/
module

public import proofs.«01_k».proof.Proof.Gen.BandFwd4Ideal.Frame
public import Idealize.ShloMosaic.Lib.Pipeline.ValueKit

@[expose] public section

set_option maxRecDepth 16384
set_option backward.proofsInPublic true

noncomputable section

namespace Cert.BandFwd4Ideal.Arr

open Cert.BandFwd4Ideal Cert.BandFwd4Ideal.Gen
open Idealize.ShloMosaic Idealize.ShloMosaic.TcCoe Idealize.ShloMosaic.Tactic Idealize.SL.Sem

section
variable (m : (ℓ : Loc nD τ sig) → Buf (Elt Ideal) ℓ) (c : Dev nD)

/-- The block each window stages at a point. -/
theorem idx : ∀ t : Fin cfg0.N, win0_0.index t = ![t.val / 2, t.val % 2, 0] ∧ win0_1.index t = ![t.val / 2, 0, 0] ∧ win0_2.index t = ![t.val / 2, 0, 0]
    ∧ win0_3.index t = ![t.val / 2, t.val % 2, 0] ∧ win0_4.index t = ![t.val / 2, t.val % 2, 0] :=
  (by decide +kernel : ∀ t : Fin grid0.N, _)

/-- The point of class-and-head `b` and half `s`, and its second coordinate. -/
abbrev pt (b : Fin 24) (s : Fin 2) : Fin cfg0.N := ⟨2 * b.val + s.val, lt_of_lt_of_eq (show 2 * b.val + s.val < 48 by omega) N_0.symm⟩
theorem coord : ∀ t : Fin cfg0.N, (cfg0.grid.coords t 1).val = t.val % 2 := (by decide +kernel : ∀ t : Fin grid0.N, (grid0.coords t 1).val = t.val % 2)

/-- The blocks of the point of class-and-head `b` and half `s`. -/
theorem idx_pt (b : Fin 24) (s : Fin 2) : win0_0.index (pt b s) = ![b.val, s.val, 0] ∧ win0_1.index (pt b s) = ![b.val, 0, 0] ∧ win0_2.index (pt b s) = ![b.val, 0, 0]
    ∧ win0_3.index (pt b s) = ![b.val, s.val, 0] ∧ win0_4.index (pt b s) = ![b.val, s.val, 0] := by
  have h := idx (pt b s)
  rw [show (pt b s).val / 2 = b.val by show (2 * b.val + s.val) / 2 = b.val; omega, show (pt b s).val % 2 = s.val by show (2 * b.val + s.val) % 2 = s.val; omega] at h
  exact h

/-- Row `n` of half `s`. -/
abbrev row (s : Fin 2) (n : Fin 1024) : Fin 2048 := ⟨s.val * 1024 + n.val, by omega⟩

/-- The blocks of an input array, whatever the array. -/
theorem blk_q' (X : FVec Ideal S24x2048x64 .bf16) (b : Fin 24) (s : Fin 2) (n : Fin 1024) (d : Fin 64) :
    (((cfg0.win 0).blk (pt b s)).view.read (Elt Ideal) X : FVec Ideal S1x1024x64 .bf16) (ix3 0 n d) = X (ix3 b (row s n) d) := by
  blk_ext [idx_pt b s]
theorem blk_k' (X : FVec Ideal S24x2176x64 .bf16) (b : Fin 24) (s : Fin 2) (n : Fin 2176) (d : Fin 64) :
    (((cfg0.win 1).blk (pt b s)).view.read (Elt Ideal) X : FVec Ideal S1x2176x64 .bf16) (ix3 0 n d) = X (ix3 b n d) := by
  blk_ext [idx_pt b s]
theorem blk_v' (X : FVec Ideal S24x2176x64 .bf16) (b : Fin 24) (s : Fin 2) (n : Fin 2176) (d : Fin 64) :
    (((cfg0.win 2).blk (pt b s)).view.read (Elt Ideal) X : FVec Ideal S1x2176x64 .bf16) (ix3 0 n d) = X (ix3 b n d) := by
  blk_ext [idx_pt b s]

/-- An output array is any array each of whose blocks is what the point leaves. -/
theorem arr_o (A : FVec Ideal S24x2048x64 .f32) (h : ∀ b s n e, A (ix3 b (row s n) e) = ((outsAt0 m c (pt b s)).1 : FVec Ideal S1x1024x64 .f32) (ix3 0 n e)) :
    (dats m 0 c).arrAt 3 cfg0.N = A := by
  refine (dats m 0 c).arrAt_eq_of_covers 3 _ (by decide +kernel) fun t _ j => ?_
  blk_simp
  rw [after0_3]
  have ht : t.val < 48 := lt_of_lt_of_eq t.isLt N_0
  obtain ⟨b, s, rfl⟩ : ∃ (b : Fin 24) (s : Fin 2), t = pt b s := ⟨⟨t.val / 2, by omega⟩, ⟨t.val % 2, by omega⟩, Fin.ext (by show t.val = 2 * (t.val / 2) + t.val % 2; omega)⟩
  have he : ∀ (n : Fin 1024) (d : Fin 64), ((cfg0.win 3).blk (pt b s)).view.emb (ix3 0 n d) = ix3 b (row s n) d := fun n d => by
    blk_ext [idx_pt b s]
  have hp : ((outsAt0 m c (pt b s)).1 : FVec Ideal S1x1024x64 .f32) j = A (((cfg0.win 3).blk (pt b s)).view.emb j) := by
    have hj : j = ix3 0 (j 1) (j 2) := (eq_ix3 j).trans (congrArg (fun x => ix3 x (j 1) (j 2)) (Subsingleton.elim (α := Fin 1) _ _))
    rw [hj]
    exact (h b s (j 1) (j 2)).symm.trans (congrArg A (he (j 1) (j 2)).symm)
  exact hp
theorem arr_l (A : FVec Ideal S24x2048x1 .f32) (h : ∀ b s n e, A (ix3 b (row s n) e) = ((outsAt0 m c (pt b s)).2 : FVec Ideal S1x1024x1 .f32) (ix3 0 n e)) :
    (dats m 0 c).arrAt 4 cfg0.N = A := by
  refine (dats m 0 c).arrAt_eq_of_covers 4 _ (by decide +kernel) fun t _ j => ?_
  blk_simp
  rw [after0_4]
  have ht : t.val < 48 := lt_of_lt_of_eq t.isLt N_0
  obtain ⟨b, s, rfl⟩ : ∃ (b : Fin 24) (s : Fin 2), t = pt b s := ⟨⟨t.val / 2, by omega⟩, ⟨t.val % 2, by omega⟩, Fin.ext (by show t.val = 2 * (t.val / 2) + t.val % 2; omega)⟩
  have he : ∀ (n : Fin 1024) (d : Fin 1), ((cfg0.win 4).blk (pt b s)).view.emb (ix3 0 n d) = ix3 b (row s n) d := fun n d => by
    blk_ext [idx_pt b s]
  have hp : ((outsAt0 m c (pt b s)).2 : FVec Ideal S1x1024x1 .f32) j = A (((cfg0.win 4).blk (pt b s)).view.emb j) := by
    have hj : j = ix3 0 (j 1) (j 2) := (eq_ix3 j).trans (congrArg (fun x => ix3 x (j 1) (j 2)) (Subsingleton.elim (α := Fin 1) _ _))
    rw [hj]
    exact (h b s (j 1) (j 2)).symm.trans (congrArg A (he (j 1) (j 2)).symm)
  exact hp
end

end Cert.BandFwd4Ideal.Arr

end
-- ==== Proof.Band4fWin.lean ====
/- THREE PIECES JOINED, AND A SLICE, OF ARRAYS OF RANK FIVE, at any sizes. -/
module

public import Idealize.ShloMosaic.Lib.Pointwise

@[expose] public section

set_option backward.proofsInPublic true

noncomputable section

namespace Cert.Band4f

open Idealize.ShloMosaic

/-- Three arrays joined along their third axis, at an index. -/
theorem join3 {α : Type} (P Q N R S : ℕ) (A B C : (⟨5, ![P, Q, N, R, S]⟩ : Shape).Idx → α) (hc) (c : Fin P) (b : Fin Q) (j : Fin (N + N + N)) (h : Fin R) (d : Fin S) :
    concatenate (⟨5, ![P, Q, N + N + N, R, S]⟩ : Shape) 2 [⟨⟨5, ![P, Q, N, R, S]⟩, A⟩, ⟨⟨5, ![P, Q, N, R, S]⟩, B⟩, ⟨⟨5, ![P, Q, N, R, S]⟩, C⟩] hc (ix5 c b j h d)
      = if h1 : j.val < N then A (ix5 c b ⟨j.val, h1⟩ h d) else if h2 : j.val - N < N then B (ix5 c b ⟨j.val - N, h2⟩ h d)
        else C (ix5 c b ⟨j.val - N - N, by omega⟩ h d) := by
  pointwise
  split_ifs
  all_goals
    refine congrArg _ (funext fun a => Fin.ext ?_)
    match a with
    | ⟨0, _⟩ => rfl
    | ⟨1, _⟩ => rfl
    | ⟨2, _⟩ => rfl
    | ⟨3, _⟩ => rfl
    | ⟨4, _⟩ => rfl

/-- A slice along the second axis, at an index. -/
theorem slice1 {α : Type} (P Q Q' N R S o : ℕ) (W : (⟨5, ![P, Q', N, R, S]⟩ : Shape).Idx → α) (hc) (c : Fin P) (b : Fin Q) (j : Fin N) (h : Fin R) (d : Fin S)
    (ho : b.val + o < Q') :
    extractStridedSlice (⟨5, ![P, Q, N, R, S]⟩ : Shape) ![0, o, 0, 0, 0] W hc (ix5 c b j h d) = W (ix5 c ⟨b.val + o, ho⟩ j h d) := by
  refine extractStridedSlice_apply _ W hc _ _ fun a => ?_
  match a with
  | ⟨0, _⟩ => exact (Nat.zero_add _).symm
  | ⟨1, _⟩ => exact Nat.add_comm _ _
  | ⟨2, _⟩ => exact (Nat.zero_add _).symm
  | ⟨3, _⟩ => exact (Nat.zero_add _).symm
  | ⟨4, _⟩ => exact (Nat.zero_add _).symm

/-- Windows of three blocks of rows of an array in blocks: the window that begins with block `b` holds its rows in order. -/
theorem window {α : Type} (P Q Q' N R S : ℕ) (W : (⟨5, ![P, Q', N, R, S]⟩ : Shape).Idx → α) (h0) (h1) (h2) (hc) (c : Fin P) (b : Fin Q)
    (j : Fin (N + N + N)) (h : Fin R) (d : Fin S) (hQ : Q + 2 = Q') (f : ℕ → α) (hW : ∀ b i, W (ix5 c b i h d) = f (b.val * N + i.val)) :
    concatenate (⟨5, ![P, Q, N + N + N, R, S]⟩ : Shape) 2 [⟨⟨5, ![P, Q, N, R, S]⟩, extractStridedSlice (⟨5, ![P, Q, N, R, S]⟩ : Shape) ![0, 0, 0, 0, 0] W h0⟩,
      ⟨⟨5, ![P, Q, N, R, S]⟩, extractStridedSlice (⟨5, ![P, Q, N, R, S]⟩ : Shape) ![0, 1, 0, 0, 0] W h1⟩,
      ⟨⟨5, ![P, Q, N, R, S]⟩, extractStridedSlice (⟨5, ![P, Q, N, R, S]⟩ : Shape) ![0, 2, 0, 0, 0] W h2⟩] hc (ix5 c b j h d) = f (N * b.val + j.val) := by
  have hj := j.isLt
  rw [join3]
  split_ifs
  · rw [slice1 P Q Q' N R S 0 W h0 c b _ h d (by omega), hW]
    exact congrArg f (by dsimp only; rw [Nat.add_zero, Nat.mul_comm])
  · rw [slice1 P Q Q' N R S 1 W h1 c b _ h d (by omega), hW]
    refine congrArg f ?_
    dsimp only
    rw [Nat.add_mul, Nat.mul_comm b.val N]
    omega
  · rw [slice1 P Q Q' N R S 2 W h2 c b _ h d (by omega), hW]
    refine congrArg f ?_
    dsimp only
    rw [Nat.add_mul, Nat.mul_comm b.val N]
    omega

end Cert.Band4f

end
-- ==== Proof.Band4fRefA.lean ====
/- THE REFERENCE OF THE BANDED ATTENTION OF DILATION 4, FORWARD, READ, FIRST PART: the blocks of queries and the windows of keys and values. -/
module

public import proofs.«01_k».proof.Proof.Gen.BandFwd4RefIdeal.Read
public import proofs.«01_k».proof.Proof.Band4fMath
public import proofs.«01_k».proof.Proof.Band4fWin
public import Idealize.ShloMosaic.Lib.Pointwise

@[expose] public section

set_option maxRecDepth 16384
set_option backward.proofsInPublic true

noncomputable section

namespace Cert.BandFwd4RefIdeal.Read

open Cert.BandFwd4RefIdeal Cert.BandFwd4RefIdeal.Gen Idealize.ShloMosaic Cert.Reals Cert.Band4f

/-- Row of the undilated array at which class `c` has its position `n`. -/
abbrev at4 (c : Fin 4) (n : Fin 2048) : Fin 8192 := ⟨4 * n.val + c.val, by omega⟩

/-- The `i`-th query of block `b`. -/
abbrev row (b : Fin 32) (i : Fin 64) : Fin 2048 := ⟨64 * b.val + i.val, by omega⟩

variable (X X0 X1 X2 : FVec Ideal S8192x6x64 .f32)

/-- An array by class, head, position and channel. -/
abbrev of (c : Fin 4) (h : Fin 6) (n : Fin 2048) (d : Fin 64) : EReal := X (ix3 (at4 c n) h d)

/-- A dilated array: class, position, head, channel. -/
theorem ref_q1 (c : Fin 4) (n : Fin 2048) (h : Fin 6) (d : Fin 64) : val_main_v1 (F := Ideal) X (ix4 c n h d) = of X c h n d := by
  pointwise [val_main_v1, val_main_v0]
  unfold of
  congr 2
  exact Fin.ext (by simp only; omega)

/-- The queries in blocks of 64. -/
theorem ref_q (c : Fin 4) (b : Fin 32) (i : Fin 64) (h : Fin 6) (d : Fin 64) :
    val_main_v7 (F := Ideal) X (ix5 c b i h d) = of X c h (row b i) d := by
  rw [← ref_q1]
  pointwise [val_main_v7, val_main_v6]
  rw [dif_pos (by omega)]
  congr 2
  exact Fin.ext (by simp only; omega)

/-- The keys and the values are split into classes as the queries are. -/
theorem k_eq : val_main_v3 (F := Ideal) X = val_main_v1 (F := Ideal) X := rfl

/-- The padded keys. -/
theorem ref_kp (c : Fin 4) (r : Fin 2176) (h : Fin 6) (d : Fin 64) :
    val_main_v10 (F := Ideal) X (ix4 c r h d) = pq (fun m => of X c h m d) r.val := by
  pointwise [val_main_v10, val_main_v8, val_main_v9, val_main_cst, val_main_cst_0]
  unfold pq
  by_cases e : 64 ≤ r.val ∧ r.val < 2112
  · rw [dif_neg (by omega), dif_pos (by omega), dif_pos e, k_eq, ref_q1]
  · rw [dif_neg e]
    split_ifs <;> first | omega | rfl

/-- The padded keys in blocks of 64. -/
theorem ref_kb (c : Fin 4) (b : Fin 34) (i : Fin 64) (h : Fin 6) (d : Fin 64) :
    val_main_v11 (F := Ideal) X (ix5 c b i h d) = pq (fun m => of X c h m d) (b.val * 64 + i.val) := by
  refine Eq.trans ?_ (ref_kp X c ⟨b.val * 64 + i.val, by omega⟩ h d)
  rw [val_main_v11_apply]
  refine congrArg (val_main_v10 (F := Ideal) X) (funext fun a => Fin.ext ?_)
  have := c.isLt; have := b.isLt; have := h.isLt; have := i.isLt; have := d.isLt
  match a with
  | ⟨0, _⟩ => show ((((c.val * 34 + b.val) * 64 + i.val) * 6 + h.val) * 64 + d.val) / 835584 = c.val; omega
  | ⟨1, _⟩ => show ((((c.val * 34 + b.val) * 64 + i.val) * 6 + h.val) * 64 + d.val) / 384 % 2176 = b.val * 64 + i.val; omega
  | ⟨2, _⟩ => show ((((c.val * 34 + b.val) * 64 + i.val) * 6 + h.val) * 64 + d.val) / 64 % 6 = h.val; omega
  | ⟨3, _⟩ => show ((((c.val * 34 + b.val) * 64 + i.val) * 6 + h.val) * 64 + d.val) % 64 = d.val; omega

/-- The windows of keys: the block's own 64 rows of the padded keys and the 128 after them. -/
theorem ref_kw (c : Fin 4) (b : Fin 32) (j : Fin 192) (h : Fin 6) (d : Fin 64) :
    val_main_v17 (F := Ideal) X (ix5 c b j h d) = pq (fun m => of X c h m d) (64 * b.val + j.val) := by
  have key := fun (b : Fin 34) (i : Fin 64) => ref_kb X c b i h d
  unfold val_main_v17 val_main_v14 val_main_v15 val_main_v16
  generalize pq (fun m => of X c h m d) = P at key ⊢
  generalize val_main_v11 (F := Ideal) X = W at key ⊢
  exact window 4 32 34 64 6 64 W slices_S4x34x64x6x64_S4x32x64x6x64_0_0_0_0_0 slices_S4x34x64x6x64_S4x32x64x6x64_0_1_0_0_0
    slices_S4x34x64x6x64_S4x32x64x6x64_0_2_0_0_0 concatenates_S4x32x64x6x64_S4x32x64x6x64_S4x32x64x6x64_S4x32x192x6x64_d2 c b j h d rfl P key

/-- The windows of values are read as the windows of keys are. -/
theorem win_eq : val_main_v21 (F := Ideal) X = val_main_v17 (F := Ideal) X := by
  unfold val_main_v21 val_main_v17 val_main_v14 val_main_v15 val_main_v16 val_main_v18 val_main_v19 val_main_v20 val_main_v11 val_main_v13 val_main_v10 val_main_v12
  rfl

end Cert.BandFwd4RefIdeal.Read

end
-- ==== Proof.Band4fHost.lean ====
/- THE HOST LINES OF THE BANDED ATTENTION OF DILATION 4, FORWARD: splitting the positions into classes, padding the keys
   and values, and joining the classes again. -/
module

public import proofs.«01_k».proof.Proof.Gen.BandFwd4Ideal.Frame
public import proofs.«01_k».proof.Proof.Band4fRefA
public import Idealize.ShloMosaic.Lib.StableHlo.ReadAt
public import Idealize.ShloMosaic.Lib.Pipeline.ValueKit

@[expose] public section

set_option maxRecDepth 16384
set_option backward.proofsInPublic true

noncomputable section

namespace Cert.BandFwd4Ideal.Host

open Cert.BandFwd4Ideal Cert.BandFwd4Ideal.Gen Cert.Band4f
open Idealize.ShloMosaic Idealize.ShloMosaic.TcCoe Idealize.ShloMosaic.Tactic Idealize.SL.Sem
open Cert.BandFwd4RefIdeal.Read (at4 of)

/-- Class `c` of head `h`. -/
abbrev cls (c : Fin 4) (h : Fin 6) : Fin 24 := ⟨6 * c.val + h.val, by omega⟩

/-- The integer zero as a real. -/
theorem word_zero : FloatOps.sitofp (F := Ideal) .bf16 0#32 = (0 : EReal) := by
  show ((((0#32 : BitVec 32).toInt : ℝ)) : EReal) = 0
  simp

section
variable (V : Valuation τ sig (Elt Ideal))

/-- Lines run one list after the other. -/
theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons o l ih => exact ih _

/-- The lines before the call, list by list. -/
theorem entry : StableHlo.after (List.flatten [hostOps0, hostOps0_1, hostOps0_2, hostOps0_3]) V
    = StableHlo.after hostOps0_3 (StableHlo.after hostOps0_2 (StableHlo.after hostOps0_1 (StableHlo.after hostOps0 V))) := by
  rw [List.flatten_cons, List.flatten_cons, List.flatten_cons, List.flatten_cons, List.flatten_nil, List.append_nil, after_append, after_append, after_append]

/-- The queries, keys and values, split into classes. -/
theorem split_v3 (c : Fin 4) (h : Fin 6) (n : Fin 2048) (d : Fin 64) :
    (StableHlo.after hostOps0 V (Proc.devRef .tc main_v3) : FVec Ideal S24x2048x64 .bf16) (ix3 (cls c h) n d)
      = (V (Proc.devRef .tc main_arg0) : FVec Ideal S8192x6x64 .f32) (ix3 (at4 c n) h d) := by
  after_reads_at
  refine congrArg _ (congrArg₂ (fun a b => ix3 a b d) (Fin.ext ?_) (Fin.ext ?_)) <;> dsimp only <;> omega
/-- The keys. -/
theorem split_v7 (c : Fin 4) (h : Fin 6) (n : Fin 2048) (d : Fin 64) :
    (StableHlo.after hostOps0 V (Proc.devRef .tc main_v7) : FVec Ideal S24x2048x64 .bf16) (ix3 (cls c h) n d)
      = (V (Proc.devRef .tc main_arg1) : FVec Ideal S8192x6x64 .f32) (ix3 (at4 c n) h d) := by
  after_reads_at
  refine congrArg _ (congrArg₂ (fun a b => ix3 a b d) (Fin.ext ?_) (Fin.ext ?_)) <;> dsimp only <;> omega
/-- The values. -/
theorem split_v11 (c : Fin 4) (h : Fin 6) (n : Fin 2048) (d : Fin 64) :
    (StableHlo.after hostOps0 V (Proc.devRef .tc main_v11) : FVec Ideal S24x2048x64 .bf16) (ix3 (cls c h) n d)
      = (V (Proc.devRef .tc main_arg2) : FVec Ideal S8192x6x64 .f32) (ix3 (at4 c n) h d) := by
  after_reads_at
  refine congrArg _ (congrArg₂ (fun a b => ix3 a b d) (Fin.ext ?_) (Fin.ext ?_)) <;> dsimp only <;> omega

/-- The integer zeros that the padding is made of. -/
theorem read_c (j : S_.Idx) : (StableHlo.after hostOps0 V (Proc.devRef .tc main_c) : IVec S_ 32) j = 0#32 := by
  after_reads_at
theorem read_c_0 (j : S_.Idx) : (StableHlo.after hostOps0_2 V (Proc.devRef .tc main_c_0) : IVec S_ 32) j = 0#32 := by
  after_reads_at

/-- The keys and the values with 64 rows of zeros before and after. -/
theorem pad_v12 (hc : ∀ j, (V (Proc.devRef .tc main_c) : IVec S_ 32) j = 0#32) (b : Fin 24) (r : Fin 2176) (d : Fin 64) :
    (StableHlo.after hostOps0_1 V (Proc.devRef .tc main_v12) : FVec Ideal S24x2176x64 .bf16) (ix3 b r d)
      = pq (fun n => (V (Proc.devRef .tc main_v7) : FVec Ideal S24x2048x64 .bf16) (ix3 b n d)) r.val := by
  unfold pq
  after_reads_at
  rw [hc]
  by_cases h : 64 ≤ r.val ∧ r.val < 2112
  · rw [dif_pos h, dif_pos (by omega)]
  · rw [dif_neg h, dif_neg (by omega)]
    exact word_zero
theorem pad_v13 (hc : ∀ j, (V (Proc.devRef .tc main_c_0) : IVec S_ 32) j = 0#32) (b : Fin 24) (r : Fin 2176) (d : Fin 64) :
    (StableHlo.after hostOps0_3 V (Proc.devRef .tc main_v13) : FVec Ideal S24x2176x64 .bf16) (ix3 b r d)
      = pq (fun n => (V (Proc.devRef .tc main_v11) : FVec Ideal S24x2048x64 .bf16) (ix3 b n d)) r.val := by
  unfold pq
  after_reads_at
  rw [hc]
  by_cases h : 64 ≤ r.val ∧ r.val < 2112
  · rw [dif_pos h, dif_pos (by omega)]
  · rw [dif_neg h, dif_neg (by omega)]
    exact word_zero

/-- A line leaves alone the buffers it does not write. -/
theorem keep_a (j : S24x2048x64.Idx) : (StableHlo.after hostOps0_1 V (Proc.devRef .tc main_v3) : FVec Ideal S24x2048x64 .bf16) j = (V (Proc.devRef .tc main_v3) : FVec Ideal S24x2048x64 .bf16) j := by
  after_reads_at
theorem keep_b (j : S24x2048x64.Idx) : (StableHlo.after hostOps0_2 V (Proc.devRef .tc main_v3) : FVec Ideal S24x2048x64 .bf16) j = (V (Proc.devRef .tc main_v3) : FVec Ideal S24x2048x64 .bf16) j := by
  after_reads_at
theorem keep_c (j : S24x2048x64.Idx) : (StableHlo.after hostOps0_3 V (Proc.devRef .tc main_v3) : FVec Ideal S24x2048x64 .bf16) j = (V (Proc.devRef .tc main_v3) : FVec Ideal S24x2048x64 .bf16) j := by
  after_reads_at
theorem keep_d (j : S24x2176x64.Idx) : (StableHlo.after hostOps0_2 V (Proc.devRef .tc main_v12) : FVec Ideal S24x2176x64 .bf16) j = (V (Proc.devRef .tc main_v12) : FVec Ideal S24x2176x64 .bf16) j := by
  after_reads_at
theorem keep_e (j : S24x2176x64.Idx) : (StableHlo.after hostOps0_3 V (Proc.devRef .tc main_v12) : FVec Ideal S24x2176x64 .bf16) j = (V (Proc.devRef .tc main_v12) : FVec Ideal S24x2176x64 .bf16) j := by
  after_reads_at
theorem keep_f (j : S24x2048x64.Idx) : (StableHlo.after hostOps0_1 V (Proc.devRef .tc main_v11) : FVec Ideal S24x2048x64 .bf16) j = (V (Proc.devRef .tc main_v11) : FVec Ideal S24x2048x64 .bf16) j := by
  after_reads_at
theorem keep_g (j : S24x2048x64.Idx) : (StableHlo.after hostOps0_2 V (Proc.devRef .tc main_v11) : FVec Ideal S24x2048x64 .bf16) j = (V (Proc.devRef .tc main_v11) : FVec Ideal S24x2048x64 .bf16) j := by
  after_reads_at

/-- What the call finds: the queries of a class and head. -/
theorem read_v3 (c : Fin 4) (h : Fin 6) (n : Fin 2048) (d : Fin 64) :
    (StableHlo.after (List.flatten [hostOps0, hostOps0_1, hostOps0_2, hostOps0_3]) V (Proc.devRef .tc main_v3) : FVec Ideal S24x2048x64 .bf16) (ix3 (cls c h) n d)
      = of (V (Proc.devRef .tc main_arg0) : FVec Ideal S8192x6x64 .f32) c h n d := by
  rw [entry]
  exact (keep_c _ _).trans ((keep_b _ _).trans ((keep_a _ _).trans (split_v3 V c h n d)))

/-- The padded keys. -/
theorem read_v12 (c : Fin 4) (h : Fin 6) (r : Fin 2176) (d : Fin 64) :
    (StableHlo.after (List.flatten [hostOps0, hostOps0_1, hostOps0_2, hostOps0_3]) V (Proc.devRef .tc main_v12) : FVec Ideal S24x2176x64 .bf16) (ix3 (cls c h) r d)
      = pq (fun n => of (V (Proc.devRef .tc main_arg1) : FVec Ideal S8192x6x64 .f32) c h n d) r.val := by
  rw [entry]
  refine (keep_e _ _).trans ((keep_d _ _).trans ((pad_v12 _ (read_c V) (cls c h) r d).trans ?_))
  exact congrArg (fun f => pq f r.val) (funext fun n => split_v7 V c h n d)

/-- The padded values. -/
theorem read_v13 (c : Fin 4) (h : Fin 6) (r : Fin 2176) (d : Fin 64) :
    (StableHlo.after (List.flatten [hostOps0, hostOps0_1, hostOps0_2, hostOps0_3]) V (Proc.devRef .tc main_v13) : FVec Ideal S24x2176x64 .bf16) (ix3 (cls c h) r d)
      = pq (fun n => of (V (Proc.devRef .tc main_arg2) : FVec Ideal S8192x6x64 .f32) c h n d) r.val := by
  rw [entry]
  refine (pad_v13 _ (read_c_0 _) (cls c h) r d).trans ?_
  exact congrArg (fun f => pq f r.val) (funext fun n => (keep_g _ _).trans ((keep_f _ _).trans (split_v11 V c h n d)))

/-- The output and the row log-sums, classes joined. -/
theorem read_v17 (c : Fin 4) (h : Fin 6) (n : Fin 2048) (d : Fin 64) :
    (StableHlo.after (List.flatten [hostOps1]) V (Proc.devRef .tc main_v17) : FVec Ideal S8192x6x64 .f32) (ix3 (at4 c n) h d)
      = (V (Proc.devRef .tc main_v14_0) : FVec Ideal S24x2048x64 .f32) (ix3 (cls c h) n d) := by
  after_reads_at
  refine congrArg _ (congrArg₂ (fun a b => ix3 a b d) (Fin.ext ?_) (Fin.ext ?_)) <;> dsimp only <;> omega
theorem read_v21 (c : Fin 4) (h : Fin 6) (n : Fin 2048) :
    (StableHlo.after (List.flatten [hostOps1]) V (Proc.devRef .tc main_v21) : FVec Ideal S8192x6 .f32) (ix2 (at4 c n) h)
      = (V (Proc.devRef .tc main_v14_1) : FVec Ideal S24x2048x1 .f32) (ix3 (cls c h) n 0) := by
  after_reads_at
  refine congrArg _ (congrArg₂ (fun a b => ix3 a b 0) (Fin.ext ?_) (Fin.ext ?_)) <;> dsimp only <;> omega
end

end Cert.BandFwd4Ideal.Host

end
-- ==== Proof.Band4fVal.lean ====
/- THE RESULTS OF THE BANDED ATTENTION OF DILATION 4, FORWARD: what the program's two result buffers hold at its end, class by class and
   head by head, whatever its arguments. -/
module

public import proofs.«01_k».proof.Proof.Band4fBlock
public import proofs.«01_k».proof.Proof.Band4fArr
public import proofs.«01_k».proof.Proof.Band4fHost

@[expose] public section

set_option maxRecDepth 16384
set_option backward.proofsInPublic true

noncomputable section

namespace Cert.BandFwd4Ideal.Val

open Cert.BandFwd4Ideal Cert.BandFwd4Ideal.Gen Cert.BandFwd4Ideal.Host Cert.BandFwd4Ideal.Arr Cert.BandFwd4Ideal.Block Cert.Band4f
open Cert.BandFwd4RefIdeal.Read (at4 of)
open Idealize.ShloMosaic Idealize.ShloMosaic.TcCoe Idealize.SL.Sem

variable (m : (ℓ : Loc nD τ sig) → Buf (Elt Ideal) ℓ) (ρ : Dev nD → PrngReg) (D : Dev nD)

/-- The three arguments. -/
abbrev Q : FVec Ideal S8192x6x64 .f32 := m ((D : Thread nD τ).loc main_arg0)
abbrev K : FVec Ideal S8192x6x64 .f32 := m ((D : Thread nD τ).loc main_arg1)
abbrev W : FVec Ideal S8192x6x64 .f32 := m ((D : Thread nD τ).loc main_arg2)

section
variable (c : Fin 4) (h : Fin 6) (s : Fin 2)

/-- The second coordinate of a point. -/
theorem coord_pt : (grid0.coords (pt (cls c h) s) 1).val = s.val :=
  (coord (pt (cls c h) s)).trans (by show (2 * _ + s.val) % 2 = s.val; omega)

/-- What a point finds: its queries, and the padded keys and values. -/
theorem in_q (n : Fin 1024) (d : Fin 64) : (iblk m D 0 (pt (cls c h) s) : FVec Ideal S1x1024x64 .bf16) (ix3 0 n d) = of (Q m D) c h (row s n) d :=
  (blk_q' (V m D main_v3) (cls c h) s n d).trans (read_v3 (fun b => m (D, b)) c h (row s n) d)
theorem in_k (n : Fin 2176) (d : Fin 64) : (iblk m D 1 (pt (cls c h) s) : FVec Ideal S1x2176x64 .bf16) (ix3 0 n d) = pq (fun n => of (K m D) c h n d) n.val :=
  (blk_k' (V m D main_v12) (cls c h) s n d).trans (read_v12 (fun b => m (D, b)) c h n d)
theorem in_v (n : Fin 2176) (d : Fin 64) : (iblk m D 2 (pt (cls c h) s) : FVec Ideal S1x2176x64 .bf16) (ix3 0 n d) = pq (fun n => of (W m D) c h n d) n.val :=
  (blk_v' (V m D main_v13) (cls c h) s n d).trans (read_v13 (fun b => m (D, b)) c h n d)

/-- The number of a query, said with the point's coordinate. -/
theorem num (i : grid0.Coords) (hi : (i 1).val = s.val) (n : Fin 1024) : qn i n = row s n :=
  Fin.ext (by show 1024 * (i 1).val + n.val = s.val * 1024 + n.val; omega)

variable (t : Fin cfg0.N) (hi : (grid0.coords t 1).val = s.val) (q k v : Fin 2048 → Fin 64 → EReal)
  (h0 : ∀ n d, (iblk m D 0 t : FVec Ideal S1x1024x64 .bf16) (ix3 0 n d) = q (row s n) d)
  (h1 : ∀ n d, (iblk m D 1 t : FVec Ideal S1x2176x64 .bf16) (ix3 0 n d) = pq (fun j => k j d) n.val)
  (h2 : ∀ n d, (iblk m D 2 t : FVec Ideal S1x2176x64 .bf16) (ix3 0 n d) = pq (fun j => v j d) n.val)

include hi h0 h1 h2 in
/-- What a point leaves of the output. -/
theorem point_o (n : Fin 1024) (e : Fin 64) : ((outsAt0 m D t).1 : FVec Ideal S1x1024x64 .f32) (ix3 0 n e) = O (q (row s n)) k v (row s n).val e := by
  unfold outsAt0
  dsimp only
  generalize iblk m D 0 t = x0 at h0 ⊢
  generalize iblk m D 1 t = x1 at h1 ⊢
  generalize iblk m D 2 t = x2 at h2 ⊢
  refine (block_o D (grid0.coords t) _ _ _ _ _ _ _ _ _ _ x0 x1 x2 q k v (fun n d => ?_) h1 h2 n e).trans (O_at q k v (num s (grid0.coords t) hi n) e)
  rw [num s (grid0.coords t) hi]
  exact h0 n d

include hi h0 h1 in
/-- What it leaves of the row log-sums. -/
theorem point_l (n : Fin 1024) (z : Fin 1) : ((outsAt0 m D t).2 : FVec Ideal S1x1024x1 .f32) (ix3 0 n z) = L (q (row s n)) k (row s n).val := by
  unfold outsAt0
  dsimp only
  generalize iblk m D 0 t = x0 at h0 ⊢
  generalize iblk m D 1 t = x1 at h1 ⊢
  generalize iblk m D 2 t = x2
  refine (block_l D (grid0.coords t) _ _ _ _ _ _ _ _ _ _ x0 x1 x2 q k (fun n d => ?_) h1 n z).trans (L_at q k (num s (grid0.coords t) hi n))
  rw [num s (grid0.coords t) hi]
  exact h0 n d

/-- The same, with the arguments. -/
theorem fwd_o (n : Fin 1024) (e : Fin 64) : ((outsAt0 m D (pt (cls c h) s)).1 : FVec Ideal S1x1024x64 .f32) (ix3 0 n e)
    = O (of (Q m D) c h (row s n)) (of (K m D) c h) (of (W m D) c h) (row s n).val e :=
  point_o m D s (pt (cls c h) s) (coord_pt c h s) (of (Q m D) c h) (of (K m D) c h) (of (W m D) c h) (in_q m D c h s) (in_k m D c h s) (in_v m D c h s) n e
theorem fwd_l (n : Fin 1024) (z : Fin 1) : ((outsAt0 m D (pt (cls c h) s)).2 : FVec Ideal S1x1024x1 .f32) (ix3 0 n z)
    = L (of (Q m D) c h (row s n)) (of (K m D) c h) (row s n).val :=
  point_l m D s (pt (cls c h) s) (coord_pt c h s) (of (Q m D) c h) (of (K m D) c h) (in_q m D c h s) (in_k m D c h s) n z
end

/-- The class and the head of a place of the arrays' first axis. -/
abbrev cOf (b : Fin 24) : Fin 4 := ⟨b.val / 6, by omega⟩
abbrev hOf (b : Fin 24) : Fin 6 := ⟨b.val % 6, by omega⟩
theorem cls_of (b : Fin 24) : cls (cOf b) (hOf b) = b := Fin.ext (by show 6 * (b.val / 6) + b.val % 6 = b.val; omega)
theorem cOf_cls (c : Fin 4) (h : Fin 6) : cOf (cls c h) = c := Fin.ext (by show (6 * c.val + h.val) / 6 = c.val; omega)
theorem hOf_cls (c : Fin 4) (h : Fin 6) : hOf (cls c h) = h := Fin.ext (by show (6 * c.val + h.val) % 6 = h.val; omega)

/-- The call's two output arrays. -/
def AO : FVec Ideal S24x2048x64 .f32 := fun j =>
  O (of (Q m D) (cOf (j 0)) (hOf (j 0)) (j 1)) (of (K m D) (cOf (j 0)) (hOf (j 0))) (of (W m D) (cOf (j 0)) (hOf (j 0))) (j 1).val (j 2)
def AL : FVec Ideal S24x2048x1 .f32 := fun j => L (of (Q m D) (cOf (j 0)) (hOf (j 0)) (j 1)) (of (K m D) (cOf (j 0)) (hOf (j 0))) (j 1).val
theorem AO_at (c : Fin 4) (h : Fin 6) (n : Fin 2048) (e : Fin 64) :
    AO m D (ix3 (cls c h) n e) = O (of (Q m D) c h n) (of (K m D) c h) (of (W m D) c h) n.val e := by
  show O (of (Q m D) (cOf (cls c h)) (hOf (cls c h)) n) (of (K m D) (cOf (cls c h)) (hOf (cls c h))) (of (W m D) (cOf (cls c h)) (hOf (cls c h))) n.val e = _
  rw [cOf_cls, hOf_cls]
theorem AL_at (c : Fin 4) (h : Fin 6) (n : Fin 2048) (z : Fin 1) : AL m D (ix3 (cls c h) n z) = L (of (Q m D) c h n) (of (K m D) c h) n.val := by
  show L (of (Q m D) (cOf (cls c h)) (hOf (cls c h)) n) (of (K m D) (cOf (cls c h)) (hOf (cls c h))) n.val = _
  rw [cOf_cls, hOf_cls]
theorem arr_out : (dats m 0 D).arrAt 3 cfg0.N = AO m D := arr_o m D (AO m D) fun b s n e => by
  rw [← cls_of b]
  exact (AO_at m D _ _ (row s n) e).trans (fwd_o m D _ _ s n e).symm
theorem arr_log : (dats m 0 D).arrAt 4 cfg0.N = AL m D := arr_l m D (AL m D) fun b s n e => by
  rw [← cls_of b]
  exact (AL_at m D _ _ (row s n) e).trans (fwd_l m D _ _ s n e).symm

/-- The buffers when the last host lines begin. -/
abbrev Vend : Valuation τ sig (Elt Ideal) := Pipeline.withArrays spec0 D (V0 m D) fun w => (dats m 0 D).arrAt w cfg0.N
theorem Vend_arr (w : Fin 5) : Vend m D (Proc.devRef .tc (Pipeline.arrRef spec0 w)) = (dats m 0 D).arrAt w cfg0.N :=
  Pipeline.withArrays_arr spec0 winFacts0.arr_inj D (V0 m D) _ w

/-- The output at the program's end, and the row log-sums. -/
theorem res_o (c : Fin 4) (h : Fin 6) (n : Fin 2048) (e : Fin 64) :
    (StableHlo.after (List.flatten [hostOps1]) (Vend m D) (Proc.devRef .tc main_v17) : FVec Ideal S8192x6x64 .f32) (ix3 (at4 c n) h e)
      = O (of (Q m D) c h n) (of (K m D) c h) (of (W m D) c h) n.val e :=
  (read_v17 (Vend m D) c h n e).trans ((congrFun ((Vend_arr m D 3).trans (arr_out m D)) _).trans (AO_at m D c h n e))
theorem res_l (c : Fin 4) (h : Fin 6) (n : Fin 2048) :
    (StableHlo.after (List.flatten [hostOps1]) (Vend m D) (Proc.devRef .tc main_v21) : FVec Ideal S8192x6 .f32) (ix2 (at4 c n) h)
      = L (of (Q m D) c h n) (of (K m D) c h) n.val :=
  (read_v21 (Vend m D) c h n).trans ((congrFun ((Vend_arr m D 4).trans (arr_log m D)) _).trans (AL_at m D c h n 0))

/-- Every run ends with the two results as the last host lines leave them and the arguments unchanged. -/
theorem run_values : θ_run defs (onTc (τ := τ) (main (F := Ideal))) ⟨m, fun _ => 0, ρ⟩ (fun r => ∀ c : Dev nD,
      r.2.mem ((c : Thread nD τ).loc main_v17) = StableHlo.after (List.flatten [hostOps1]) (Vend m c) (Proc.devRef .tc main_v17)
      ∧ r.2.mem ((c : Thread nD τ).loc main_v21) = StableHlo.after (List.flatten [hostOps1]) (Vend m c) (Proc.devRef .tc main_v21)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun r h c => ⟨(h.1 c).2 main_v17 (Pipeline.mem_restRefs_of main_v17 (by decide) (by decide)),
      (h.1 c).2 main_v21 (Pipeline.mem_restRefs_of main_v21 (by decide) (by decide)), h.2 c⟩)
    (θ_run_and (run_main m ρ) (unchanged m ρ))

end Cert.BandFwd4Ideal.Val

end
-- ==== Proof.Band4fRefB.lean ====
/- THE REFERENCE OF THE BANDED ATTENTION OF DILATION 4, FORWARD, READ, SECOND PART: the mask, the scores, the weights and the two results at an index. -/
module

public import proofs.«01_k».proof.Proof.Band4fRefA
public import Idealize.ShloMosaic.Lib.Pointwise

@[expose] public section

set_option maxRecDepth 16384
set_option backward.proofsInPublic true

noncomputable section

namespace Cert.BandFwd4RefIdeal.Read

open Cert.BandFwd4RefIdeal Cert.BandFwd4RefIdeal.Gen Idealize.ShloMosaic Cert.Reals Cert.Band4f

variable (X X0 X1 X2 : FVec Ideal S8192x6x64 .f32)

/-- The mask. -/
theorem mask_at (b : Fin 32) (i : Fin 64) (j : Fin 192) :
    val_main_v52 (F := Ideal) (ix3 b i j) = BitVec.ofBool (decide (inb (64 * b.val + i.val) (64 * b.val + j.val))) := by
  pointwise [val_main_v52, val_main_v51, val_main_v50, val_main_v49, val_main_v48, val_main_v47,
    val_main_v46, val_main_v45, val_main_v44, val_main_v43, val_main_v42, val_main_v41, val_main_v40, val_main_v39, val_main_v38, val_main_v37, val_main_v36,
    val_main_v35, val_main_v34, val_main_v33, val_main_v32, val_main_v31, val_main_v30, val_main_v29, val_main_v28, val_main_v27, val_main_v26,
    val_main_v25, val_main_v24, val_main_v23, val_main_v22, val_main_c_1, val_main_c_2, val_main_c_3, val_main_c_4, val_main_c_5]
  rw [BandMask.nat_word (b.val * 64 + i.val), BandMask.nat_word b.val, BandMask.nat_word j.val, BandMask.mul64, BandMask.sub64, BandMask.add_word, BandMask.sub_word]
  exact ref_mask _ _ (by omega) (by omega) (by push_cast; ring) (by push_cast; ring)

/-- The mask at every class and head. -/
theorem ref_bit (c : Fin 4) (b : Fin 32) (h : Fin 6) (i : Fin 64) (j : Fin 192) :
    val_main_call1_v1 (F := Ideal) (ix5 c b h i j) = BitVec.ofBool (decide (inb (64 * b.val + i.val) (64 * b.val + j.val))) := by
  rw [← mask_at]
  pointwise [val_main_call1_v1, val_main_v56]

/-- The scaled scores. -/
theorem ref_score (c : Fin 4) (b : Fin 32) (h : Fin 6) (i : Fin 64) (j : Fin 192) :
    val_main_v55 (F := Ideal) X0 X1 (ix5 c b h i j)
      = (∑ d, of X0 c h (row b i) d * pq (fun m => of X1 c h m d) (64 * b.val + j.val)) * Ideal.ofBits .f32 0x3E000000#32 := by
  pointwise [val_main_v55, val_main_v53, val_main_v54, val_main_cst_6]
  simp only [ref_q, ref_kw]

/-- The masked scores. -/
theorem ref_masked (c : Fin 4) (b : Fin 32) (h : Fin 6) (i : Fin 64) (j : Fin 192) :
    val_main_v57 (F := Ideal) X0 X1 (ix5 c b h i j) = Band4f.T (of X0 c h (row b i)) (of X1 c h) (row b i).val (64 * b.val + j.val) := by
  rw [val_main_v57_apply, ref_bit, ref_score, show val_main_call1_v2 (F := Ideal) (ix5 c b h i j) = (⊥ : EReal) by
    pointwise [val_main_call1_v2, val_main_call1_v0, val_main_cst_7]; exact cNegInf]
  unfold Band4f.T
  by_cases hi : inb (64 * b.val + i.val) (64 * b.val + j.val)
  · rw [if_pos hi, decide_eq_true hi]; rfl
  · rw [if_neg hi, decide_eq_false hi]; rfl

/-- The largest score of each query. -/
theorem ref_max (c : Fin 4) (b : Fin 32) (h : Fin 6) (i : Fin 64) :
    val_main_v58 (F := Ideal) X0 X1 (ix4 c b h i) = M (of X0 c h (row b i)) (of X1 c h) (row b i).val := by
  have e : val_main_v58 (F := Ideal) X0 X1 (ix4 c b h i) = Finset.univ.sup fun j : Fin 192 => val_main_v57 (F := Ideal) X0 X1 (ix5 c b h i j) := by
    unfold val_main_v58
    generalize val_main_v57 (F := Ideal) X0 X1 = S
    pointwise [val_main_cst_8]
    rw [cNegInf]
    rfl
  rw [e]
  simp only [ref_masked]
  exact win_sup (row b i).val (a := 64 * b.val) (Nat.le_add_right _ _) (by show 64 * b.val + i.val + 128 < 64 * b.val + 192; omega) (by omega) _ (T_far _ _ _)

/-- The weights. -/
theorem ref_exp (c : Fin 4) (b : Fin 32) (h : Fin 6) (i : Fin 64) (j : Fin 192) : val_main_v62 (F := Ideal) X0 X1 (ix5 c b h i j)
    = E (of X0 c h (row b i)) (of X1 c h) (row b i).val (64 * b.val + j.val) := by
  have e : val_main_v62 (F := Ideal) X0 X1 (ix5 c b h i j) = Ideal.exp (val_main_v57 (F := Ideal) X0 X1 (ix5 c b h i j) - val_main_v58 (F := Ideal) X0 X1 (ix4 c b h i)) := by
    unfold val_main_v62 val_main_v61 val_main_v60 val_main_v59
    generalize val_main_v58 (F := Ideal) X0 X1 = M
    generalize val_main_v57 (F := Ideal) X0 X1 = S
    pointwise
  rw [e, ref_masked, ref_max, E]

/-- Their sum. -/
theorem ref_den (c : Fin 4) (b : Fin 32) (h : Fin 6) (i : Fin 64) :
    val_main_v63 (F := Ideal) X0 X1 (ix4 c b h i) = D (of X0 c h (row b i)) (of X1 c h) (row b i).val := by
  pointwise [val_main_v63, val_main_cst_9]
  simp only [ref_exp]
  exact win_sum (row b i).val (a := 64 * b.val) (Nat.le_add_right _ _) (by show 64 * b.val + i.val + 128 < 64 * b.val + 192; omega) (by omega) _ (E_far _ _ _)

/-- The weighted sum of the values. -/
theorem ref_num (c : Fin 4) (b : Fin 32) (h : Fin 6) (i : Fin 64) (e : Fin 64) : val_main_v64 (F := Ideal) X0 X1 X2 (ix5 c b h e i)
    = ∑ r ∈ Finset.range 2176, E (of X0 c h (row b i)) (of X1 c h) (row b i).val r * pq (fun m => of X2 c h m e) r := by
  pointwise [val_main_v64]
  simp only [ref_exp, win_eq, ref_kw]
  refine Eq.trans (Finset.sum_congr rfl fun j _ => mul_comm _ _) ?_
  exact win_sum (row b i).val (a := 64 * b.val) (Nat.le_add_right _ _) (by show 64 * b.val + i.val + 128 < 64 * b.val + 192; omega) (by omega) (fun r => E (of X0 c h (row b i)) (of X1 c h) (row b i).val r * pq (fun m => of X2 c h m e) r)
    fun r hr => by rw [E_far _ _ _ r hr, zero_mul]

/-- The output, by class, block, place in the block, head and channel. -/
theorem ref_o (c : Fin 4) (b : Fin 32) (h : Fin 6) (i : Fin 64) (e : Fin 64) : val_main_v69 (F := Ideal) X0 X1 X2 (ix5 c b i h e)
    = O (of X0 c h (row b i)) (of X1 c h) (of X2 c h) (row b i).val e := by
  have r : val_main_v69 (F := Ideal) X0 X1 X2 (ix5 c b i h e) = Ideal.div (val_main_v64 (F := Ideal) X0 X1 X2 (ix5 c b h e i)) (val_main_v63 (F := Ideal) X0 X1 (ix4 c b h i)) := by
    unfold val_main_v69 val_main_v68 val_main_v67 val_main_v66 val_main_v65
    generalize val_main_v64 (F := Ideal) X0 X1 X2 = A
    generalize val_main_v63 (F := Ideal) X0 X1 = B
    pointwise
  rw [r, ref_num, ref_den, O]

/-- The row log-sums, by class, block, head and place in the block. -/
theorem ref_l (c : Fin 4) (b : Fin 32) (h : Fin 6) (i : Fin 64) : val_main_v72 (F := Ideal) X0 X1 (ix4 c b h i)
    = L (of X0 c h (row b i)) (of X1 c h) (row b i).val := by
  have m : val_main_v70 (F := Ideal) X0 X1 (ix4 c b h i) = val_main_v58 (F := Ideal) X0 X1 (ix4 c b h i) := by
    rw [val_main_v70_apply, val_main_v59_apply]
    refine congrArg (val_main_v58 (F := Ideal) X0 X1) (funext fun a => Fin.ext ?_)
    have := c.isLt; have := b.isLt; have := h.isLt; have := i.isLt
    match a with
    | ⟨0, _⟩ => show (((c.val * 32 + b.val) * 6 + h.val) * 64 + i.val) / 12288 = c.val; omega
    | ⟨1, _⟩ => show (((c.val * 32 + b.val) * 6 + h.val) * 64 + i.val) / 384 % 32 = b.val; omega
    | ⟨2, _⟩ => show (((c.val * 32 + b.val) * 6 + h.val) * 64 + i.val) / 64 % 6 = h.val; omega
    | ⟨3, _⟩ => show (((c.val * 32 + b.val) * 6 + h.val) * 64 + i.val) / 1 % 64 = i.val; omega
  rw [val_main_v72_apply, m, val_main_v71_apply, ref_max, ref_den]
  rfl

/-- The first result. -/
theorem out_o (c : Fin 4) (n : Fin 2048) (h : Fin 6) (e : Fin 64) : val_main_v77 (F := Ideal) X0 X1 X2 (ix3 (at4 c n) h e)
    = O (of X0 c h n) (of X1 c h) (of X2 c h) n.val e := by
  have hn : n = row ⟨n.val / 64, by omega⟩ ⟨n.val % 64, by omega⟩ := Fin.ext (by dsimp only; omega)
  refine Eq.trans ?_ ((ref_o X0 X1 X2 c ⟨n.val / 64, by omega⟩ h ⟨n.val % 64, by omega⟩ e).trans (by rw [← hn]))
  pointwise [val_main_v77, val_main_v76, val_main_v74]
  refine congrArg (val_main_v69 (F := Ideal) X0 X1 X2) (funext fun a => Fin.ext ?_)
  have := c.isLt; have := n.isLt; have := h.isLt; have := e.isLt
  match a with
  | ⟨0, _⟩ => show (4 * n.val + c.val) % 4 = c.val; omega
  | ⟨1, _⟩ => show (4 * n.val + c.val) / 4 / 64 = n.val / 64; omega
  | ⟨2, _⟩ => show (4 * n.val + c.val) / 4 % 64 = n.val % 64; omega
  | ⟨3, _⟩ => rfl
  | ⟨4, _⟩ => rfl

/-- The second result. -/
theorem out_l (c : Fin 4) (n : Fin 2048) (h : Fin 6) : val_main_v79 (F := Ideal) X0 X1 (ix2 (at4 c n) h)
    = L (of X0 c h n) (of X1 c h) n.val := by
  have hn : n = row ⟨n.val / 64, by omega⟩ ⟨n.val % 64, by omega⟩ := Fin.ext (by dsimp only; omega)
  refine Eq.trans ?_ ((ref_l X0 X1 c ⟨n.val / 64, by omega⟩ h ⟨n.val % 64, by omega⟩).trans (by rw [← hn]))
  pointwise [val_main_v79, val_main_v78, val_main_v75, val_main_v73]
  refine congrArg (val_main_v72 (F := Ideal) X0 X1) (funext fun a => Fin.ext ?_)
  have := c.isLt; have := n.isLt; have := h.isLt
  match a with
  | ⟨0, _⟩ => show (4 * n.val + c.val) % 4 = c.val; omega
  | ⟨1, _⟩ => show (4 * n.val + c.val) / 4 / 64 = n.val / 64; omega
  | ⟨2, _⟩ => rfl
  | ⟨3, _⟩ => show (4 * n.val + c.val) / 4 % 64 = n.val % 64; omega

end Cert.BandFwd4RefIdeal.Read

end
-- ==== Proof.BandFwd4Claim.lean ====
/- The value claim of the banded attention of dilation 4, forward: the kernel's output and row log-sums and the reference's are equal,
   whatever the arguments. -/
module

public import proofs.«01_k».proof.Defs
public import proofs.«01_k».proof.Proof.Band4fVal
public import proofs.«01_k».proof.Proof.Band4fRefB
public import Idealize.ShloMosaic.Lib.Claim

@[expose] public section

set_option maxRecDepth 16384

noncomputable section

namespace Cert.BandFwd4Claim

open Idealize.ShloMosaic Idealize.SL.Sem Cert.Band4f
open Cert.BandFwd4RefIdeal.Read Cert.BandFwd4Ideal.Val

/-- The reference ends, keeps its arguments, and leaves every counter at zero. -/
theorem frame_ref : Cert.quiescent_BandFwd4RefIdeal (hBandFwd4RefIdeal := Cert.BandFwd4RefIdeal.Gen.facts) := fun m ρ _ =>
  (θ_run Cert.BandFwd4RefIdeal.defs _ _).mono (fun r h => ⟨fun c => (h c).2.2, sem_eq_zero_of_no_sems (by decide) r.2⟩)
    (Cert.BandFwd4RefIdeal.Value.run (F := Ideal) m ρ)

/-- The one constant of the kernel that is read as its name, the mask, is named −∞. -/
theorem preserves : Cert.preserves_BandFwd4_BandFwd4Ideal :=
  IdealRules.named_const.statement Cert.BandFwd4Ideal.κ "mask" .f32 0xF149F2CA#32 ⊥ rfl

/-- Every position is a place in a class. -/
theorem at4_all (b : Fin 8192) : ∃ (c : Fin 4) (n : Fin 2048), b = at4 c n :=
  ⟨⟨b.val % 4, by omega⟩, ⟨b.val / 4, by omega⟩, Fin.ext (by show b.val = 4 * (b.val / 4) + b.val % 4; omega)⟩

/-- Arrays with the same entries, class by class and head by head, are equal. -/
theorem same3 (X Y : FVec Ideal ⟨3, ![8192, 6, 64]⟩ .f32) (f : Fin 4 → Fin 6 → Fin 2048 → Fin 64 → EReal)
    (hX : ∀ c h n d, X (ix3 (at4 c n) h d) = f c h n d) (hY : ∀ c h n d, Y (ix3 (at4 c n) h d) = f c h n d) : X = Y := by
  funext i
  obtain ⟨c, n, e⟩ := at4_all (i 0)
  rw [eq_ix3 i, e]
  exact (hX _ _ _ _).trans (hY _ _ _ _).symm
theorem same2 (X Y : FVec Ideal ⟨2, ![8192, 6]⟩ .f32) (f : Fin 4 → Fin 6 → Fin 2048 → EReal)
    (hX : ∀ c h n, X (ix2 (at4 c n) h) = f c h n) (hY : ∀ c h n, Y (ix2 (at4 c n) h) = f c h n) : X = Y := by
  funext i
  obtain ⟨c, n, e⟩ := at4_all (i 0)
  rw [eq_ix2 i, e]
  exact (hX _ _ _).trans (hY _ _ _).symm

/-- The kernel and the banded attention written plainly end with equal results, whatever the arguments. -/
theorem algebraic : Cert.algebraic_BandFwd4Ideal_BandFwd4RefIdeal (hBandFwd4Ideal := Cert.BandFwd4Ideal.Gen.facts)
    (hBandFwd4RefIdeal := Cert.BandFwd4RefIdeal.Gen.facts) := by
  intro m g m' g' _ hagree
  refine ⟨fun c => StableHlo.after (List.flatten [Cert.BandFwd4Ideal.Gen.hostOps1]) (Vend m c) _,
    fun c => StableHlo.after (List.flatten [Cert.BandFwd4Ideal.Gen.hostOps1]) (Vend m c) _, Cert.BandFwd4Ideal.Val.run_values m g,
    (θ_run Cert.BandFwd4RefIdeal.defs _ _).mono (fun r h c => ?_) (Cert.BandFwd4RefIdeal.Value.run m' g')⟩
  obtain ⟨e0, e1, e2⟩ := hagree c
  obtain ⟨r0, r1, h5⟩ := h c
  refine ⟨r0.trans ?_, r1.trans ?_, h5⟩
  · rw [val_main_v77_eq, e0, e1, e2]
    exact same3 _ _ (fun c' h n d => O (of (Q m c) c' h n) (of (K m c) c' h) (of (W m c) c' h) n.val d) (fun c' h n d => out_o (Q m c) (K m c) (W m c) c' n h d) (res_o m c)
  · rw [val_main_v79_eq, e0, e1]
    exact same2 _ _ (fun c' h n => L (of (Q m c) c' h n) (of (K m c) c' h) n.val) (fun c' h n => out_l (Q m c) (K m c) c' n h) (res_l m c)

end Cert.BandFwd4Claim

end
-- ==== Proof.lean ====
module

public import proofs.«01_k».proof.Defs
public import proofs.«01_k».proof.Proof.Gen.NormBwd.Frame
public import proofs.«01_k».proof.Proof.Gen.NormBwdIdeal.Value
public import proofs.«01_k».proof.Proof.Gen.NormBwdRefIdeal.Run
public import proofs.«01_k».proof.Proof.Gen.NormBwdRefIdeal.Read
public import proofs.«01_k».proof.Proof.Gen.Pre_norm_fin
public import proofs.«01_k».proof.Proof.NormBwdClaim
public import proofs.«01_k».proof.Proof.Gen.Dense.Frame
public import proofs.«01_k».proof.Proof.Gen.DenseIdeal.Frame
public import proofs.«01_k».proof.Proof.Gen.DenseRefIdeal.Run
public import proofs.«01_k».proof.Proof.Gen.DenseRefIdeal.Read
public import proofs.«01_k».proof.Proof.Gen.Pre_dense_fin
public import proofs.«01_k».proof.Proof.DenseClaim
public import proofs.«01_k».proof.Proof.Gen.LossHead.Frame
public import proofs.«01_k».proof.Proof.Gen.LossHeadIdeal.Frame
public import proofs.«01_k».proof.Proof.Gen.LossHeadRefIdeal.Run
public import proofs.«01_k».proof.Proof.Gen.LossHeadRefIdeal.Read
public import proofs.«01_k».proof.Proof.Gen.Pre_loss_fin
public import proofs.«01_k».proof.Proof.LossHeadClaim
public import proofs.«01_k».proof.Proof.Gen.Mlp.Frame
public import proofs.«01_k».proof.Proof.Gen.MlpIdeal.Frame
public import proofs.«01_k».proof.Proof.Gen.MlpRefIdeal.Run
public import proofs.«01_k».proof.Proof.Gen.MlpRefIdeal.Read
public import proofs.«01_k».proof.Proof.MlpClaim
public import proofs.«01_k».proof.Proof.Gen.Band.Launch
public import proofs.«01_k».proof.Proof.Gen.BandIdeal.Launch
public import proofs.«01_k».proof.Proof.Gen.BandRefIdeal.Run
public import proofs.«01_k».proof.Proof.Gen.BandRefIdeal.Read
public import proofs.«01_k».proof.Proof.Gen.Pre_band_fin
public import proofs.«01_k».proof.Proof.BandClaim
public import proofs.«01_k».proof.Proof.Gen.Band4
public import proofs.«01_k».proof.Proof.Gen.Band4.Launch
public import proofs.«01_k».proof.Proof.Gen.Band4Ideal.Launch
public import proofs.«01_k».proof.Proof.Gen.Band4Ideal.Regions
public import proofs.«01_k».proof.Proof.Gen.Band4RefIdeal.Run
public import proofs.«01_k».proof.Proof.Band4Claim
public import proofs.«01_k».proof.Proof.Gen.Natten
public import proofs.«01_k».proof.Proof.Gen.Natten.Launch
public import proofs.«01_k».proof.Proof.Gen.NattenIdeal.Launch
public import proofs.«01_k».proof.Proof.Gen.NattenIdeal.Regions
public import proofs.«01_k».proof.Proof.NattenClaim
public import proofs.«01_k».proof.Proof.Gen.NormFwd.Frame
public import proofs.«01_k».proof.Proof.Gen.NormFwdIdeal.Value
public import proofs.«01_k».proof.Proof.Gen.NormFwdRefIdeal.Run
public import proofs.«01_k».proof.Proof.Gen.NormFwdRefIdeal.Read
public import proofs.«01_k».proof.Proof.NormFwdClaim
public import proofs.«01_k».proof.Proof.Gen.Adam.Frame
public import proofs.«01_k».proof.Proof.Gen.AdamIdeal.Value
public import proofs.«01_k».proof.Proof.Gen.AdamRefIdeal.Run
public import proofs.«01_k».proof.Proof.Gen.AdamRefIdeal.Read
public import proofs.«01_k».proof.Proof.AdamClaim
public import proofs.«01_k».proof.Proof.Gen.Product.Frame
public import proofs.«01_k».proof.Proof.Gen.ProductIdeal.Value
public import proofs.«01_k».proof.Proof.Gen.ProductRefIdeal.Run
public import proofs.«01_k».proof.Proof.Gen.ProductRefIdeal.Read
public import proofs.«01_k».proof.Proof.ProductClaim
public import proofs.«01_k».proof.Proof.Gen.BandFwd4.Frame
public import proofs.«01_k».proof.Proof.Gen.BandFwd4Ideal.Frame
public import proofs.«01_k».proof.Proof.Gen.BandFwd4RefIdeal.Run
public import proofs.«01_k».proof.Proof.Gen.BandFwd4RefIdeal.Read
public import proofs.«01_k».proof.Proof.BandFwd4Claim
public import Idealize.ShloMosaic.Adequacy
public import Idealize.ShloMosaic.Init

@[expose] public section

noncomputable section

namespace Cert.Proof

open Idealize.ShloMosaic Idealize.SL.Sem

/-- Every claim of the statement. -/
theorem claim : Cert.Claim := ⟨Cert.NormBwd.Gen.facts, Cert.NormBwdIdeal.Gen.facts, Cert.NormBwdRefIdeal.Gen.facts,
  Cert.Dense.Gen.facts, Cert.DenseIdeal.Gen.facts, Cert.DenseRefIdeal.Gen.facts,
  Cert.LossHead.Gen.facts, Cert.LossHeadIdeal.Gen.facts, Cert.LossHeadRefIdeal.Gen.facts,
  Cert.Mlp.Gen.facts, Cert.MlpIdeal.Gen.facts, Cert.MlpRefIdeal.Gen.facts,
  Cert.Band.Gen.facts, Cert.BandIdeal.Gen.facts, Cert.BandRefIdeal.Gen.facts,
  Cert.Band4.Gen.facts, Cert.Band4Ideal.Gen.facts, Cert.Band4RefIdeal.Gen.facts,
  Cert.Natten.Gen.facts, Cert.NattenIdeal.Gen.facts,
  Cert.NormFwd.Gen.facts, Cert.NormFwdIdeal.Gen.facts, Cert.NormFwdRefIdeal.Gen.facts,
  Cert.Adam.Gen.facts, Cert.AdamIdeal.Gen.facts, Cert.AdamRefIdeal.Gen.facts,
  Cert.Product.Gen.facts, Cert.ProductIdeal.Gen.facts, Cert.ProductRefIdeal.Gen.facts,
  Cert.BandFwd4.Gen.facts, Cert.BandFwd4Ideal.Gen.facts, Cert.BandFwd4RefIdeal.Gen.facts,
  Cert.Pre_norm_fin.Gen.facts,
  Cert.Pre_dense_fin.Gen.facts,
  Cert.Pre_loss_fin.Gen.facts,
  Cert.Pre_band_fin.Gen.facts,
  fun m ρ _ => Cert.NormBwd.Gen.frame m ρ, fun m ρ _ => Cert.NormBwdIdeal.Gen.frame m ρ, fun m ρ _ => Cert.NormBwdIdeal.Gen.frame m ρ,
  Cert.NormBwdClaim.frame_ref, fun m ρ _ => Cert.NormBwdClaim.frame_ref m ρ trivial,
  fun m ρ _ => Cert.Dense.Gen.frame m ρ, fun m ρ _ => Cert.DenseIdeal.Gen.frame m ρ, fun m ρ _ => Cert.DenseIdeal.Gen.frame m ρ,
  Cert.DenseClaim.frame_ref, fun m ρ _ => Cert.DenseClaim.frame_ref m ρ trivial,
  fun m ρ _ => Cert.LossHead.Gen.frame m ρ, fun m ρ _ => Cert.LossHeadIdeal.Gen.frame m ρ, fun m ρ _ => Cert.LossHeadIdeal.Gen.frame m ρ,
  Cert.LossHeadClaim.frame_ref, fun m ρ _ => Cert.LossHeadClaim.frame_ref m ρ trivial,
  fun m ρ _ => Cert.Mlp.Gen.frame m ρ, fun m ρ _ => Cert.MlpIdeal.Gen.frame m ρ, Cert.MlpClaim.frame_ref,
  fun m ρ _ => Cert.BandClaim.frame_kernel m ρ trivial, fun m ρ _ => Cert.BandClaim.frame_ideal m ρ trivial, fun m ρ _ => Cert.BandClaim.frame_ideal m ρ trivial,
  Cert.BandClaim.frame_ref, fun m ρ _ => Cert.BandClaim.frame_ref m ρ trivial,
  fun m ρ _ => Cert.Band4Claim.frame_kernel m ρ trivial, fun m ρ _ => Cert.Band4Claim.frame_ideal m ρ trivial, Cert.Band4Claim.frame_ref,
  fun m ρ _ => Cert.NattenClaim.frame_kernel m ρ trivial, fun m ρ _ => Cert.NattenClaim.frame_ideal m ρ trivial,
  fun m ρ _ => Cert.NormFwd.Gen.frame m ρ, fun m ρ _ => Cert.NormFwdIdeal.Gen.frame m ρ, Cert.NormFwdClaim.frame_ref,
  fun m ρ _ => Cert.Adam.Gen.frame m ρ, fun m ρ _ => Cert.AdamIdeal.Gen.frame m ρ, Cert.AdamClaim.frame_ref,
  fun m ρ _ => Cert.Product.Gen.frame m ρ, fun m ρ _ => Cert.ProductIdeal.Gen.frame m ρ, Cert.ProductClaim.frame_ref,
  fun m ρ _ => Cert.BandFwd4.Gen.frame m ρ, fun m ρ _ => Cert.BandFwd4Ideal.Gen.frame m ρ, Cert.BandFwd4Claim.frame_ref,
  trivial, Cert.NormBwdClaim.algebraic,
  Cert.DenseClaim.preserves, Cert.DenseClaim.algebraic,
  trivial, Cert.LossHeadClaim.algebraic,
  trivial, Cert.MlpClaim.algebraic,
  Cert.BandClaim.preserves, Cert.BandClaim.algebraic,
  Cert.Band4Claim.preserves,
  Cert.NattenClaim.preserves,
  trivial, Cert.NormFwdClaim.algebraic,
  trivial, Cert.AdamClaim.algebraic,
  trivial, Cert.ProductClaim.algebraic,
  Cert.BandFwd4Claim.preserves, Cert.BandFwd4Claim.algebraic⟩

end Cert.Proof

end
